-- ==== Defs.lean ====
def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_AttnProjSample (m : (ℓ : Loc Cert.AttnProjSample.nD Cert.AttnProjSample.τ Cert.AttnProjSample.sig) → Buf (Elt Bits) ℓ) : Prop :=
  True

def Pre_AttnProjSampleIdeal (m : (ℓ : Loc Cert.AttnProjSampleIdeal.nD Cert.AttnProjSampleIdeal.τ Cert.AttnProjSampleIdeal.sig) → Buf (Elt Ideal) ℓ) : Prop :=
  True

def Pre_AttnProjSampleRefIdeal (m : (ℓ : Loc Cert.AttnProjSampleRefIdeal.nD Cert.AttnProjSampleRefIdeal.τ Cert.AttnProjSampleRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvNext (m : (ℓ : Loc Cert.MemKvNext.nD Cert.MemKvNext.τ Cert.MemKvNext.sig) → Buf (Elt Bits) ℓ) : Prop :=
  True

def Pre_MemKvNextIdeal (m : (ℓ : Loc Cert.MemKvNextIdeal.nD Cert.MemKvNextIdeal.τ Cert.MemKvNextIdeal.sig) → Buf (Elt Ideal) ℓ) : Prop :=
  True

def Pre_MemKvNextRefIdeal (m : (ℓ : Loc Cert.MemKvNextRefIdeal.nD Cert.MemKvNextRefIdeal.τ Cert.MemKvNextRefIdeal.sig) → Buf (Elt Ideal) ℓ) : Prop :=
  True

def Pre_MemAttnFirst (m : (ℓ : Loc Cert.MemAttnFirst.nD Cert.MemAttnFirst.τ Cert.MemAttnFirst.sig) → Buf (Elt Bits) ℓ) : Prop :=
  True

def Pre_MemAttnFirstIdeal (m : (ℓ : Loc Cert.MemAttnFirstIdeal.nD Cert.MemAttnFirstIdeal.τ Cert.MemAttnFirstIdeal.sig) → Buf (Elt Ideal) ℓ) : Prop :=
  True

def Pre_MemAttnFirstRefIdeal (m : (ℓ : Loc Cert.MemAttnFirstRefIdeal.nD Cert.MemAttnFirstRefIdeal.τ Cert.MemAttnFirstRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_MemAttnFirstSample (m : (ℓ : Loc Cert.MemAttnFirstSample.nD Cert.MemAttnFirstSample.τ Cert.MemAttnFirstSample.sig) → Buf (Elt Bits) ℓ) : Prop :=
  True

def Pre_MemAttnFirstSampleIdeal (m : (ℓ : Loc Cert.MemAttnFirstSampleIdeal.nD Cert.MemAttnFirstSampleIdeal.τ Cert.MemAttnFirstSampleIdeal.sig) → Buf (Elt Ideal) ℓ) : Prop :=
  True

def Pre_MemAttnFirstSampleRefIdeal (m : (ℓ : Loc Cert.MemAttnFirstSampleRefIdeal.nD Cert.MemAttnFirstSampleRefIdeal.τ Cert.MemAttnFirstSampleRefIdeal.sig) → Buf (Elt Ideal) ℓ) : Prop :=
  True

def Pre_MemAttnSample (m : (ℓ : Loc Cert.MemAttnSample.nD Cert.MemAttnSample.τ Cert.MemAttnSample.sig) → Buf (Elt Bits) ℓ) : Prop :=
  True

def Pre_MemAttnSampleIdeal (m : (ℓ : Loc Cert.MemAttnSampleIdeal.nD Cert.MemAttnSampleIdeal.τ Cert.MemAttnSampleIdeal.sig) → Buf (Elt Ideal) ℓ) : Prop :=
  True

def Pre_MemAttnSampleRefIdeal (m : (ℓ : Loc Cert.MemAttnSampleRefIdeal.nD Cert.MemAttnSampleRefIdeal.τ Cert.MemAttnSampleRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_MlpFirst (m : (ℓ : Loc Cert.MlpFirst.nD Cert.MlpFirst.τ Cert.MlpFirst.sig) → Buf (Elt Bits) ℓ) : Prop :=
  True

def Pre_MlpFirstIdeal (m : (ℓ : Loc Cert.MlpFirstIdeal.nD Cert.MlpFirstIdeal.τ Cert.MlpFirstIdeal.sig) → Buf (Elt Ideal) ℓ) : Prop :=
  True

def Pre_MlpFirstRefIdeal (m : (ℓ : Loc Cert.MlpFirstRefIdeal.nD Cert.MlpFirstRefIdeal.τ Cert.MlpFirstRefIdeal.sig) → Buf (Elt Ideal) ℓ) : Prop :=
  True

def Pre_MlpFirstSample (m : (ℓ : Loc Cert.MlpFirstSample.nD Cert.MlpFirstSample.τ Cert.MlpFirstSample.sig) → Buf (Elt Bits) ℓ) : Prop :=
  True

def Pre_MlpFirstSampleIdeal (m : (ℓ : Loc Cert.MlpFirstSampleIdeal.nD Cert.MlpFirstSampleIdeal.τ Cert.MlpFirstSampleIdeal.sig) → Buf (Elt Ideal) ℓ) : Prop :=
  True

def Pre_MlpFirstSampleRefIdeal (m : (ℓ : Loc Cert.MlpFirstSampleRefIdeal.nD Cert.MlpFirstSampleRefIdeal.τ Cert.MlpFirstSampleRefIdeal.sig) → Buf (Elt Ideal) ℓ) : Prop :=
  True

def Pre_ConvGlu (m : (ℓ : Loc Cert.ConvGlu.nD Cert.ConvGlu.τ Cert.ConvGlu.sig) → Buf (Elt Bits) ℓ) : Prop :=
  True

def Pre_ConvGluIdeal (m : (ℓ : Loc Cert.ConvGluIdeal.nD Cert.ConvGluIdeal.τ Cert.ConvGluIdeal.sig) → Buf (Elt Ideal) ℓ) : Prop :=
  True

def Pre_ConvGluRefIdeal (m : (ℓ : Loc Cert.ConvGluRefIdeal.nD Cert.ConvGluRefIdeal.τ Cert.ConvGluRefIdeal.sig) → Buf (Elt Ideal) ℓ) : Prop :=
  True

def Pre_ConvGluSample (m : (ℓ : Loc Cert.ConvGluSample.nD Cert.ConvGluSample.τ Cert.ConvGluSample.sig) → Buf (Elt Bits) ℓ) : Prop :=
  True

def Pre_ConvGluSampleIdeal (m : (ℓ : Loc Cert.ConvGluSampleIdeal.nD Cert.ConvGluSampleIdeal.τ Cert.ConvGluSampleIdeal.sig) → Buf (Elt Ideal) ℓ) : Prop :=
  True

def Pre_ConvGluSampleRefIdeal (m : (ℓ : Loc Cert.ConvGluSampleRefIdeal.nD Cert.ConvGluSampleRefIdeal.τ Cert.ConvGluSampleRefIdeal.sig) → Buf (Elt Ideal) ℓ) : Prop :=
  True

def Pre_ConvRest (m : (ℓ : Loc Cert.ConvRest.nD Cert.ConvRest.τ Cert.ConvRest.sig) → Buf (Elt Bits) ℓ) : Prop :=
  True

def Pre_ConvRestIdeal (m : (ℓ : Loc Cert.ConvRestIdeal.nD Cert.ConvRestIdeal.τ Cert.ConvRestIdeal.sig) → Buf (Elt Ideal) ℓ) : Prop :=
  True

def Pre_ConvRestRefIdeal (m : (ℓ : Loc Cert.ConvRestRefIdeal.nD Cert.ConvRestRefIdeal.τ Cert.ConvRestRefIdeal.sig) → Buf (Elt Ideal) ℓ) : Prop :=
  True

def Pre_ConvRestSample (m : (ℓ : Loc Cert.ConvRestSample.nD Cert.ConvRestSample.τ Cert.ConvRestSample.sig) → Buf (Elt Bits) ℓ) : Prop :=
  True

def Pre_ConvRestSampleIdeal (m : (ℓ : Loc Cert.ConvRestSampleIdeal.nD Cert.ConvRestSampleIdeal.τ Cert.ConvRestSampleIdeal.sig) → Buf (Elt Ideal) ℓ) : Prop :=
  True

def Pre_ConvRestSampleRefIdeal (m : (ℓ : Loc Cert.ConvRestSampleRefIdeal.nD Cert.ConvRestSampleRefIdeal.τ Cert.ConvRestSampleRefIdeal.sig) → Buf (Elt Ideal) ℓ) : Prop :=
  True

def Pre_SparseAttn (m : (ℓ : Loc Cert.SparseAttn.nD Cert.SparseAttn.τ Cert.SparseAttn.sig) → Buf (Elt Bits) ℓ) : Prop :=
  True

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1)
      ∧ r.2.mem ((c.tc : Thread Cert.AttnProjRefIdeal.nD Cert.AttnProjRefIdeal.τ).loc Cert.AttnProjRefIdeal.main_arg2) = m ((c.tc : Thread Cert.AttnProjRefIdeal.nD Cert.AttnProjRefIdeal.τ).loc Cert.AttnProjRefIdeal.main_arg2))
      ∧ r.2.sem = fun _ => 0)

def quiescent_AttnProjSample [hAttnProjSample : Cert.AttnProjSample.Facts] : Prop :=
  ∀ (m : (ℓ : Loc Cert.AttnProjSample.nD Cert.AttnProjSample.τ Cert.AttnProjSample.sig) → Buf (Elt Bits) ℓ) (g : Dev Cert.AttnProjSample.nD → PrngReg), Pre_AttnProjSample m →
    θ_run (Cert.AttnProjSample.defs (F := Bits)) (onTc (τ := Cert.AttnProjSample.τ) (Cert.AttnProjSample.main (F := Bits))) ⟨m, fun _ => 0, g⟩ (fun r => (∀ c : Dev Cert.AttnProjSample.nD,
      r.2.mem ((c.tc : Thread Cert.AttnProjSample.nD Cert.AttnProjSample.τ).loc Cert.AttnProjSample.main_arg0) = m ((c.tc : Thread Cert.AttnProjSample.nD Cert.AttnProjSample.τ).loc Cert.AttnProjSample.main_arg0)
      ∧ r.2.mem ((c.tc : Thread Cert.AttnProjSample.nD Cert.AttnProjSample.τ).loc Cert.AttnProjSample.main_arg1) = m ((c.tc : Thread Cert.AttnProjSample.nD Cert.AttnProjSample.τ).loc Cert.AttnProjSample.main_arg1)
      ∧ r.2.mem ((c.tc : Thread Cert.AttnProjSample.nD Cert.AttnProjSample.τ).loc Cert.AttnProjSample.main_arg2) = m ((c.tc : Thread Cert.AttnProjSample.nD Cert.AttnProjSample.τ).loc Cert.AttnProjSample.main_arg2))
      ∧ r.2.sem = fun _ => 0)

def quiescent_AttnProjSampleIdeal [hAttnProjSampleIdeal : Cert.AttnProjSampleIdeal.Facts] : Prop :=
  ∀ (m : (ℓ : Loc Cert.AttnProjSampleIdeal.nD Cert.AttnProjSampleIdeal.τ Cert.AttnProjSampleIdeal.sig) → Buf (Elt Ideal) ℓ) (g : Dev Cert.AttnProjSampleIdeal.nD → PrngReg), Pre_AttnProjSampleIdeal m →
    θ_run (Cert.AttnProjSampleIdeal.defs (F := Ideal)) (onTc (τ := Cert.AttnProjSampleIdeal.τ) (Cert.AttnProjSampleIdeal.main (F := Ideal))) ⟨m, fun _ => 0, g⟩ (fun r => (∀ c : Dev Cert.AttnProjSampleIdeal.nD,
      r.2.mem ((c.tc : Thread Cert.AttnProjSampleIdeal.nD Cert.AttnProjSampleIdeal.τ).loc Cert.AttnProjSampleIdeal.main_arg0) = m ((c.tc : Thread Cert.AttnProjSampleIdeal.nD Cert.AttnProjSampleIdeal.τ).loc Cert.AttnProjSampleIdeal.main_arg0)
      ∧ r.2.mem ((c.tc : Thread Cert.AttnProjSampleIdeal.nD Cert.AttnProjSampleIdeal.τ).loc Cert.AttnProjSampleIdeal.main_arg1) = m ((c.tc : Thread Cert.AttnProjSampleIdeal.nD Cert.AttnProjSampleIdeal.τ).loc Cert.AttnProjSampleIdeal.main_arg1)
      ∧ r.2.mem ((c.tc : Thread Cert.AttnProjSampleIdeal.nD Cert.AttnProjSampleIdeal.τ).loc Cert.AttnProjSampleIdeal.main_arg2) = m ((c.tc : Thread Cert.AttnProjSampleIdeal.nD Cert.AttnProjSampleIdeal.τ).loc Cert.AttnProjSampleIdeal.main_arg2))
      ∧ r.2.sem = fun _ => 0)

def quiescent_AttnProjSampleRefIdeal [hAttnProjSampleRefIdeal : Cert.AttnProjSampleRefIdeal.Facts] : Prop :=
  ∀ (m : (ℓ : Loc Cert.AttnProjSampleRefIdeal.nD Cert.AttnProjSampleRefIdeal.τ Cert.AttnProjSampleRefIdeal.sig) → Buf (Elt Ideal) ℓ) (g : Dev Cert.AttnProjSampleRefIdeal.nD → PrngReg), Pre_AttnProjSampleRefIdeal m →
    θ_run (Cert.AttnProjSampleRefIdeal.defs (F := Ideal)) (onTc (τ := Cert.AttnProjSampleRefIdeal.τ) (Cert.AttnProjSampleRefIdeal.main (F := Ideal))) ⟨m, fun _ => 0, g⟩ (fun r => (∀ c : Dev Cert.AttnProjSampleRefIdeal.nD,
      r.2.mem ((c.tc : Thread Cert.AttnProjSampleRefIdeal.nD Cert.AttnProjSampleRefIdeal.τ).loc Cert.AttnProjSampleRefIdeal.main_arg0) = m ((c.tc : Thread Cert.AttnProjSampleRefIdeal.nD Cert.AttnProjSampleRefIdeal.τ).loc Cert.AttnProjSampleRefIdeal.main_arg0)
      ∧ r.2.mem ((c.tc : Thread Cert.AttnProjSampleRefIdeal.nD Cert.AttnProjSampleRefIdeal.τ).loc Cert.AttnProjSampleRefIdeal.main_arg1) = m ((c.tc : Thread Cert.AttnProjSampleRefIdeal.nD Cert.AttnProjSampleRefIdeal.τ).loc Cert.AttnProjSampleRefIdeal.main_arg1)
      ∧ r.2.mem ((c.tc : Thread Cert.AttnProjSampleRefIdeal.nD Cert.AttnProjSampleRefIdeal.τ).loc Cert.AttnProjSampleRefIdeal.main_arg2) = m ((c.tc : Thread Cert.AttnProjSampleRefIdeal.nD Cert.AttnProjSampleRefIdeal.τ).loc Cert.AttnProjSampleRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_MemKvNext [hMemKvNext : Cert.MemKvNext.Facts] : Prop :=
  ∀ (m : (ℓ : Loc Cert.MemKvNext.nD Cert.MemKvNext.τ Cert.MemKvNext.sig) → Buf (Elt Bits) ℓ) (g : Dev Cert.MemKvNext.nD → PrngReg), Pre_MemKvNext m →
    θ_run (Cert.MemKvNext.defs (F := Bits)) (onTc (τ := Cert.MemKvNext.τ) (Cert.MemKvNext.main (F := Bits))) ⟨m, fun _ => 0, g⟩ (fun r => (∀ c : Dev Cert.MemKvNext.nD,
      r.2.mem ((c.tc : Thread Cert.MemKvNext.nD Cert.MemKvNext.τ).loc Cert.MemKvNext.main_arg0) = m ((c.tc : Thread Cert.MemKvNext.nD Cert.MemKvNext.τ).loc Cert.MemKvNext.main_arg0)
      ∧ r.2.mem ((c.tc : Thread Cert.MemKvNext.nD Cert.MemKvNext.τ).loc Cert.MemKvNext.main_arg1) = m ((c.tc : Thread Cert.MemKvNext.nD Cert.MemKvNext.τ).loc Cert.MemKvNext.main_arg1)
      ∧ r.2.mem ((c.tc : Thread Cert.MemKvNext.nD Cert.MemKvNext.τ).loc Cert.MemKvNext.main_arg2) = m ((c.tc : Thread Cert.MemKvNext.nD Cert.MemKvNext.τ).loc Cert.MemKvNext.main_arg2))
      ∧ r.2.sem = fun _ => 0)

def quiescent_MemKvNextIdeal [hMemKvNextIdeal : Cert.MemKvNextIdeal.Facts] : Prop :=
  ∀ (m : (ℓ : Loc Cert.MemKvNextIdeal.nD Cert.MemKvNextIdeal.τ Cert.MemKvNextIdeal.sig) → Buf (Elt Ideal) ℓ) (g : Dev Cert.MemKvNextIdeal.nD → PrngReg), Pre_MemKvNextIdeal m →
    θ_run (Cert.MemKvNextIdeal.defs (F := Ideal)) (onTc (τ := Cert.MemKvNextIdeal.τ) (Cert.MemKvNextIdeal.main (F := Ideal))) ⟨m, fun _ => 0, g⟩ (fun r => (∀ c : Dev Cert.MemKvNextIdeal.nD,
      r.2.mem ((c.tc : Thread Cert.MemKvNextIdeal.nD Cert.MemKvNextIdeal.τ).loc Cert.MemKvNextIdeal.main_arg0) = m ((c.tc : Thread Cert.MemKvNextIdeal.nD Cert.MemKvNextIdeal.τ).loc Cert.MemKvNextIdeal.main_arg0)
      ∧ r.2.mem ((c.tc : Thread Cert.MemKvNextIdeal.nD Cert.MemKvNextIdeal.τ).loc Cert.MemKvNextIdeal.main_arg1) = m ((c.tc : Thread Cert.MemKvNextIdeal.nD Cert.MemKvNextIdeal.τ).loc Cert.MemKvNextIdeal.main_arg1)
      ∧ r.2.mem ((c.tc : Thread Cert.MemKvNextIdeal.nD Cert.MemKvNextIdeal.τ).loc Cert.MemKvNextIdeal.main_arg2) = m ((c.tc : Thread Cert.MemKvNextIdeal.nD Cert.MemKvNextIdeal.τ).loc Cert.MemKvNextIdeal.main_arg2))
      ∧ r.2.sem = fun _ => 0)

def quiescent_MemKvNextRefIdeal [hMemKvNextRefIdeal : Cert.MemKvNextRefIdeal.Facts] : Prop :=
  ∀ (m : (ℓ : Loc Cert.MemKvNextRefIdeal.nD Cert.MemKvNextRefIdeal.τ Cert.MemKvNextRefIdeal.sig) → Buf (Elt Ideal) ℓ) (g : Dev Cert.MemKvNextRefIdeal.nD → PrngReg), Pre_MemKvNextRefIdeal m →
    θ_run (Cert.MemKvNextRefIdeal.defs (F := Ideal)) (onTc (τ := Cert.MemKvNextRefIdeal.τ) (Cert.MemKvNextRefIdeal.main (F := Ideal))) ⟨m, fun _ => 0, g⟩ (fun r => (∀ c : Dev Cert.MemKvNextRefIdeal.nD,
      r.2.mem ((c.tc : Thread Cert.MemKvNextRefIdeal.nD Cert.MemKvNextRefIdeal.τ).loc Cert.MemKvNextRefIdeal.main_arg0) = m ((c.tc : Thread Cert.MemKvNextRefIdeal.nD Cert.MemKvNextRefIdeal.τ).loc Cert.MemKvNextRefIdeal.main_arg0)
      ∧ r.2.mem ((c.tc : Thread Cert.MemKvNextRefIdeal.nD Cert.MemKvNextRefIdeal.τ).loc Cert.MemKvNextRefIdeal.main_arg1) = m ((c.tc : Thread Cert.MemKvNextRefIdeal.nD Cert.MemKvNextRefIdeal.τ).loc Cert.MemKvNextRefIdeal.main_arg1)
      ∧ r.2.mem ((c.tc : Thread Cert.MemKvNextRefIdeal.nD Cert.MemKvNextRefIdeal.τ).loc Cert.MemKvNextRefIdeal.main_arg2) = m ((c.tc : Thread Cert.MemKvNextRefIdeal.nD Cert.MemKvNextRefIdeal.τ).loc Cert.MemKvNextRefIdeal.main_arg2))
      ∧ r.2.sem = fun _ => 0)

def quiescent_MemAttnFirst [hMemAttnFirst : Cert.MemAttnFirst.Facts] : Prop :=
  ∀ (m : (ℓ : Loc Cert.MemAttnFirst.nD Cert.MemAttnFirst.τ Cert.MemAttnFirst.sig) → Buf (Elt Bits) ℓ) (g : Dev Cert.MemAttnFirst.nD → PrngReg), Pre_MemAttnFirst m →
    θ_run (Cert.MemAttnFirst.defs (F := Bits)) (onTc (τ := Cert.MemAttnFirst.τ) (Cert.MemAttnFirst.main (F := Bits))) ⟨m, fun _ => 0, g⟩ (fun r => (∀ c : Dev Cert.MemAttnFirst.nD,
      r.2.mem ((c.tc : Thread Cert.MemAttnFirst.nD Cert.MemAttnFirst.τ).loc Cert.MemAttnFirst.main_arg0) = m ((c.tc : Thread Cert.MemAttnFirst.nD Cert.MemAttnFirst.τ).loc Cert.MemAttnFirst.main_arg0)
      ∧ r.2.mem ((c.tc : Thread Cert.MemAttnFirst.nD Cert.MemAttnFirst.τ).loc Cert.MemAttnFirst.main_arg1) = m ((c.tc : Thread Cert.MemAttnFirst.nD Cert.MemAttnFirst.τ).loc Cert.MemAttnFirst.main_arg1)
      ∧ r.2.mem ((c.tc : Thread Cert.MemAttnFirst.nD Cert.MemAttnFirst.τ).loc Cert.MemAttnFirst.main_arg2) = m ((c.tc : Thread Cert.MemAttnFirst.nD Cert.MemAttnFirst.τ).loc Cert.MemAttnFirst.main_arg2)
      ∧ r.2.mem ((c.tc : Thread Cert.MemAttnFirst.nD Cert.MemAttnFirst.τ).loc Cert.MemAttnFirst.main_arg3) = m ((c.tc : Thread Cert.MemAttnFirst.nD Cert.MemAttnFirst.τ).loc Cert.MemAttnFirst.main_arg3)
      ∧ r.2.mem ((c.tc : Thread Cert.MemAttnFirst.nD Cert.MemAttnFirst.τ).loc Cert.MemAttnFirst.main_arg4) = m ((c.tc : Thread Cert.MemAttnFirst.nD Cert.MemAttnFirst.τ).loc Cert.MemAttnFirst.main_arg4)
      ∧ r.2.mem ((c.tc : Thread Cert.MemAttnFirst.nD Cert.MemAttnFirst.τ).loc Cert.MemAttnFirst.main_arg5) = m ((c.tc : Thread Cert.MemAttnFirst.nD Cert.MemAttnFirst.τ).loc Cert.MemAttnFirst.main_arg5)
      ∧ r.2.mem ((c.tc : Thread Cert.MemAttnFirst.nD Cert.MemAttnFirst.τ).loc Cert.MemAttnFirst.main_arg6) = m ((c.tc : Thread Cert.MemAttnFirst.nD Cert.MemAttnFirst.τ).loc Cert.MemAttnFirst.main_arg6)
      ∧ r.2.mem ((c.tc : Thread Cert.MemAttnFirst.nD Cert.MemAttnFirst.τ).loc Cert.MemAttnFirst.main_arg7) = m ((c.tc : Thread Cert.MemAttnFirst.nD Cert.MemAttnFirst.τ).loc Cert.MemAttnFirst.main_arg7))
      ∧ r.2.sem = fun _ => 0)

def quiescent_MemAttnFirstIdeal [hMemAttnFirstIdeal : Cert.MemAttnFirstIdeal.Facts] : Prop :=
  ∀ (m : (ℓ : Loc Cert.MemAttnFirstIdeal.nD Cert.MemAttnFirstIdeal.τ Cert.MemAttnFirstIdeal.sig) → Buf (Elt Ideal) ℓ) (g : Dev Cert.MemAttnFirstIdeal.nD → PrngReg), Pre_MemAttnFirstIdeal m →
    θ_run (Cert.MemAttnFirstIdeal.defs (F := Ideal)) (onTc (τ := Cert.MemAttnFirstIdeal.τ) (Cert.MemAttnFirstIdeal.main (F := Ideal))) ⟨m, fun _ => 0, g⟩ (fun r => (∀ c : Dev Cert.MemAttnFirstIdeal.nD,
      r.2.mem ((c.tc : Thread Cert.MemAttnFirstIdeal.nD Cert.MemAttnFirstIdeal.τ).loc Cert.MemAttnFirstIdeal.main_arg0) = m ((c.tc : Thread Cert.MemAttnFirstIdeal.nD Cert.MemAttnFirstIdeal.τ).loc Cert.MemAttnFirstIdeal.main_arg0)
      ∧ r.2.mem ((c.tc : Thread Cert.MemAttnFirstIdeal.nD Cert.MemAttnFirstIdeal.τ).loc Cert.MemAttnFirstIdeal.main_arg1) = m ((c.tc : Thread Cert.MemAttnFirstIdeal.nD Cert.MemAttnFirstIdeal.τ).loc Cert.MemAttnFirstIdeal.main_arg1)
      ∧ r.2.mem ((c.tc : Thread Cert.MemAttnFirstIdeal.nD Cert.MemAttnFirstIdeal.τ).loc Cert.MemAttnFirstIdeal.main_arg2) = m ((c.tc : Thread Cert.MemAttnFirstIdeal.nD Cert.MemAttnFirstIdeal.τ).loc Cert.MemAttnFirstIdeal.main_arg2)
      ∧ r.2.mem ((c.tc : Thread Cert.MemAttnFirstIdeal.nD Cert.MemAttnFirstIdeal.τ).loc Cert.MemAttnFirstIdeal.main_arg3) = m ((c.tc : Thread Cert.MemAttnFirstIdeal.nD Cert.MemAttnFirstIdeal.τ).loc Cert.MemAttnFirstIdeal.main_arg3)
      ∧ r.2.mem ((c.tc : Thread Cert.MemAttnFirstIdeal.nD Cert.MemAttnFirstIdeal.τ).loc Cert.MemAttnFirstIdeal.main_arg4) = m ((c.tc : Thread Cert.MemAttnFirstIdeal.nD Cert.MemAttnFirstIdeal.τ).loc Cert.MemAttnFirstIdeal.main_arg4)
      ∧ r.2.mem ((c.tc : Thread Cert.MemAttnFirstIdeal.nD Cert.MemAttnFirstIdeal.τ).loc Cert.MemAttnFirstIdeal.main_arg5) = m ((c.tc : Thread Cert.MemAttnFirstIdeal.nD Cert.MemAttnFirstIdeal.τ).loc Cert.MemAttnFirstIdeal.main_arg5)
      ∧ r.2.mem ((c.tc : Thread Cert.MemAttnFirstIdeal.nD Cert.MemAttnFirstIdeal.τ).loc Cert.MemAttnFirstIdeal.main_arg6) = m ((c.tc : Thread Cert.MemAttnFirstIdeal.nD Cert.MemAttnFirstIdeal.τ).loc Cert.MemAttnFirstIdeal.main_arg6)
      ∧ r.2.mem ((c.tc : Thread Cert.MemAttnFirstIdeal.nD Cert.MemAttnFirstIdeal.τ).loc Cert.MemAttnFirstIdeal.main_arg7) = m ((c.tc : Thread Cert.MemAttnFirstIdeal.nD Cert.MemAttnFirstIdeal.τ).loc Cert.MemAttnFirstIdeal.main_arg7))
      ∧ r.2.sem = fun _ => 0)

def quiescent_MemAttnFirstRefIdeal [hMemAttnFirstRefIdeal : Cert.MemAttnFirstRefIdeal.Facts] : Prop :=
  ∀ (m : (ℓ : Loc Cert.MemAttnFirstRefIdeal.nD Cert.MemAttnFirstRefIdeal.τ Cert.MemAttnFirstRefIdeal.sig) → Buf (Elt Ideal) ℓ) (g : Dev Cert.MemAttnFirstRefIdeal.nD → PrngReg), Pre_MemAttnFirstRefIdeal m →
    θ_run (Cert.MemAttnFirstRefIdeal.defs (F := Ideal)) (onTc (τ := Cert.MemAttnFirstRefIdeal.τ) (Cert.MemAttnFirstRefIdeal.main (F := Ideal))) ⟨m, fun _ => 0, g⟩ (fun r => (∀ c : Dev Cert.MemAttnFirstRefIdeal.nD,
      r.2.mem ((c.tc : Thread Cert.MemAttnFirstRefIdeal.nD Cert.MemAttnFirstRefIdeal.τ).loc Cert.MemAttnFirstRefIdeal.main_arg0) = m ((c.tc : Thread Cert.MemAttnFirstRefIdeal.nD Cert.MemAttnFirstRefIdeal.τ).loc Cert.MemAttnFirstRefIdeal.main_arg0)
      ∧ r.2.mem ((c.tc : Thread Cert.MemAttnFirstRefIdeal.nD Cert.MemAttnFirstRefIdeal.τ).loc Cert.MemAttnFirstRefIdeal.main_arg1) = m ((c.tc : Thread Cert.MemAttnFirstRefIdeal.nD Cert.MemAttnFirstRefIdeal.τ).loc Cert.MemAttnFirstRefIdeal.main_arg1)
      ∧ r.2.mem ((c.tc : Thread Cert.MemAttnFirstRefIdeal.nD Cert.MemAttnFirstRefIdeal.τ).loc Cert.MemAttnFirstRefIdeal.main_arg2) = m ((c.tc : Thread Cert.MemAttnFirstRefIdeal.nD Cert.MemAttnFirstRefIdeal.τ).loc Cert.MemAttnFirstRefIdeal.main_arg2)
      ∧ r.2.mem ((c.tc : Thread Cert.MemAttnFirstRefIdeal.nD Cert.MemAttnFirstRefIdeal.τ).loc Cert.MemAttnFirstRefIdeal.main_arg3) = m ((c.tc : Thread Cert.MemAttnFirstRefIdeal.nD Cert.MemAttnFirstRefIdeal.τ).loc Cert.MemAttnFirstRefIdeal.main_arg3)
      ∧ r.2.mem ((c.tc : Thread Cert.MemAttnFirstRefIdeal.nD Cert.MemAttnFirstRefIdeal.τ).loc Cert.MemAttnFirstRefIdeal.main_arg4) = m ((c.tc : Thread Cert.MemAttnFirstRefIdeal.nD Cert.MemAttnFirstRefIdeal.τ).loc Cert.MemAttnFirstRefIdeal.main_arg4)
      ∧ r.2.mem ((c.tc : Thread Cert.MemAttnFirstRefIdeal.nD Cert.MemAttnFirstRefIdeal.τ).loc Cert.MemAttnFirstRefIdeal.main_arg5) = m ((c.tc : Thread Cert.MemAttnFirstRefIdeal.nD Cert.MemAttnFirstRefIdeal.τ).loc Cert.MemAttnFirstRefIdeal.main_arg5)
      ∧ r.2.mem ((c.tc : Thread Cert.MemAttnFirstRefIdeal.nD Cert.MemAttnFirstRefIdeal.τ).loc Cert.MemAttnFirstRefIdeal.main_arg6) = m ((c.tc : Thread Cert.MemAttnFirstRefIdeal.nD Cert.MemAttnFirstRefIdeal.τ).loc Cert.MemAttnFirstRefIdeal.main_arg6)
      ∧ r.2.mem ((c.tc : Thread Cert.MemAttnFirstRefIdeal.nD Cert.MemAttnFirstRefIdeal.τ).loc Cert.MemAttnFirstRefIdeal.main_arg7) = m ((c.tc : Thread Cert.MemAttnFirstRefIdeal.nD Cert.MemAttnFirstRefIdeal.τ).loc Cert.MemAttnFirstRefIdeal.main_arg7))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5))
      ∧ r.2.sem = fun _ => 0)

def quiescent_MemAttnFirstSample [hMemAttnFirstSample : Cert.MemAttnFirstSample.Facts] : Prop :=
  ∀ (m : (ℓ : Loc Cert.MemAttnFirstSample.nD Cert.MemAttnFirstSample.τ Cert.MemAttnFirstSample.sig) → Buf (Elt Bits) ℓ) (g : Dev Cert.MemAttnFirstSample.nD → PrngReg), Pre_MemAttnFirstSample m →
    θ_run (Cert.MemAttnFirstSample.defs (F := Bits)) (onTc (τ := Cert.MemAttnFirstSample.τ) (Cert.MemAttnFirstSample.main (F := Bits))) ⟨m, fun _ => 0, g⟩ (fun r => (∀ c : Dev Cert.MemAttnFirstSample.nD,
      r.2.mem ((c.tc : Thread Cert.MemAttnFirstSample.nD Cert.MemAttnFirstSample.τ).loc Cert.MemAttnFirstSample.main_arg0) = m ((c.tc : Thread Cert.MemAttnFirstSample.nD Cert.MemAttnFirstSample.τ).loc Cert.MemAttnFirstSample.main_arg0)
      ∧ r.2.mem ((c.tc : Thread Cert.MemAttnFirstSample.nD Cert.MemAttnFirstSample.τ).loc Cert.MemAttnFirstSample.main_arg1) = m ((c.tc : Thread Cert.MemAttnFirstSample.nD Cert.MemAttnFirstSample.τ).loc Cert.MemAttnFirstSample.main_arg1)
      ∧ r.2.mem ((c.tc : Thread Cert.MemAttnFirstSample.nD Cert.MemAttnFirstSample.τ).loc Cert.MemAttnFirstSample.main_arg2) = m ((c.tc : Thread Cert.MemAttnFirstSample.nD Cert.MemAttnFirstSample.τ).loc Cert.MemAttnFirstSample.main_arg2)
      ∧ r.2.mem ((c.tc : Thread Cert.MemAttnFirstSample.nD Cert.MemAttnFirstSample.τ).loc Cert.MemAttnFirstSample.main_arg3) = m ((c.tc : Thread Cert.MemAttnFirstSample.nD Cert.MemAttnFirstSample.τ).loc Cert.MemAttnFirstSample.main_arg3)
      ∧ r.2.mem ((c.tc : Thread Cert.MemAttnFirstSample.nD Cert.MemAttnFirstSample.τ).loc Cert.MemAttnFirstSample.main_arg4) = m ((c.tc : Thread Cert.MemAttnFirstSample.nD Cert.MemAttnFirstSample.τ).loc Cert.MemAttnFirstSample.main_arg4)
      ∧ r.2.mem ((c.tc : Thread Cert.MemAttnFirstSample.nD Cert.MemAttnFirstSample.τ).loc Cert.MemAttnFirstSample.main_arg5) = m ((c.tc : Thread Cert.MemAttnFirstSample.nD Cert.MemAttnFirstSample.τ).loc Cert.MemAttnFirstSample.main_arg5)
      ∧ r.2.mem ((c.tc : Thread Cert.MemAttnFirstSample.nD Cert.MemAttnFirstSample.τ).loc Cert.MemAttnFirstSample.main_arg6) = m ((c.tc : Thread Cert.MemAttnFirstSample.nD Cert.MemAttnFirstSample.τ).loc Cert.MemAttnFirstSample.main_arg6)
      ∧ r.2.mem ((c.tc : Thread Cert.MemAttnFirstSample.nD Cert.MemAttnFirstSample.τ).loc Cert.MemAttnFirstSample.main_arg7) = m ((c.tc : Thread Cert.MemAttnFirstSample.nD Cert.MemAttnFirstSample.τ).loc Cert.MemAttnFirstSample.main_arg7))
      ∧ r.2.sem = fun _ => 0)

def quiescent_MemAttnFirstSampleIdeal [hMemAttnFirstSampleIdeal : Cert.MemAttnFirstSampleIdeal.Facts] : Prop :=
  ∀ (m : (ℓ : Loc Cert.MemAttnFirstSampleIdeal.nD Cert.MemAttnFirstSampleIdeal.τ Cert.MemAttnFirstSampleIdeal.sig) → Buf (Elt Ideal) ℓ) (g : Dev Cert.MemAttnFirstSampleIdeal.nD → PrngReg), Pre_MemAttnFirstSampleIdeal m →
    θ_run (Cert.MemAttnFirstSampleIdeal.defs (F := Ideal)) (onTc (τ := Cert.MemAttnFirstSampleIdeal.τ) (Cert.MemAttnFirstSampleIdeal.main (F := Ideal))) ⟨m, fun _ => 0, g⟩ (fun r => (∀ c : Dev Cert.MemAttnFirstSampleIdeal.nD,
      r.2.mem ((c.tc : Thread Cert.MemAttnFirstSampleIdeal.nD Cert.MemAttnFirstSampleIdeal.τ).loc Cert.MemAttnFirstSampleIdeal.main_arg0) = m ((c.tc : Thread Cert.MemAttnFirstSampleIdeal.nD Cert.MemAttnFirstSampleIdeal.τ).loc Cert.MemAttnFirstSampleIdeal.main_arg0)
      ∧ r.2.mem ((c.tc : Thread Cert.MemAttnFirstSampleIdeal.nD Cert.MemAttnFirstSampleIdeal.τ).loc Cert.MemAttnFirstSampleIdeal.main_arg1) = m ((c.tc : Thread Cert.MemAttnFirstSampleIdeal.nD Cert.MemAttnFirstSampleIdeal.τ).loc Cert.MemAttnFirstSampleIdeal.main_arg1)
      ∧ r.2.mem ((c.tc : Thread Cert.MemAttnFirstSampleIdeal.nD Cert.MemAttnFirstSampleIdeal.τ).loc Cert.MemAttnFirstSampleIdeal.main_arg2) = m ((c.tc : Thread Cert.MemAttnFirstSampleIdeal.nD Cert.MemAttnFirstSampleIdeal.τ).loc Cert.MemAttnFirstSampleIdeal.main_arg2)
      ∧ r.2.mem ((c.tc : Thread Cert.MemAttnFirstSampleIdeal.nD Cert.MemAttnFirstSampleIdeal.τ).loc Cert.MemAttnFirstSampleIdeal.main_arg3) = m ((c.tc : Thread Cert.MemAttnFirstSampleIdeal.nD Cert.MemAttnFirstSampleIdeal.τ).loc Cert.MemAttnFirstSampleIdeal.main_arg3)
      ∧ r.2.mem ((c.tc : Thread Cert.MemAttnFirstSampleIdeal.nD Cert.MemAttnFirstSampleIdeal.τ).loc Cert.MemAttnFirstSampleIdeal.main_arg4) = m ((c.tc : Thread Cert.MemAttnFirstSampleIdeal.nD Cert.MemAttnFirstSampleIdeal.τ).loc Cert.MemAttnFirstSampleIdeal.main_arg4)
      ∧ r.2.mem ((c.tc : Thread Cert.MemAttnFirstSampleIdeal.nD Cert.MemAttnFirstSampleIdeal.τ).loc Cert.MemAttnFirstSampleIdeal.main_arg5) = m ((c.tc : Thread Cert.MemAttnFirstSampleIdeal.nD Cert.MemAttnFirstSampleIdeal.τ).loc Cert.MemAttnFirstSampleIdeal.main_arg5)
      ∧ r.2.mem ((c.tc : Thread Cert.MemAttnFirstSampleIdeal.nD Cert.MemAttnFirstSampleIdeal.τ).loc Cert.MemAttnFirstSampleIdeal.main_arg6) = m ((c.tc : Thread Cert.MemAttnFirstSampleIdeal.nD Cert.MemAttnFirstSampleIdeal.τ).loc Cert.MemAttnFirstSampleIdeal.main_arg6)
      ∧ r.2.mem ((c.tc : Thread Cert.MemAttnFirstSampleIdeal.nD Cert.MemAttnFirstSampleIdeal.τ).loc Cert.MemAttnFirstSampleIdeal.main_arg7) = m ((c.tc : Thread Cert.MemAttnFirstSampleIdeal.nD Cert.MemAttnFirstSampleIdeal.τ).loc Cert.MemAttnFirstSampleIdeal.main_arg7))
      ∧ r.2.sem = fun _ => 0)

def quiescent_MemAttnFirstSampleRefIdeal [hMemAttnFirstSampleRefIdeal : Cert.MemAttnFirstSampleRefIdeal.Facts] : Prop :=
  ∀ (m : (ℓ : Loc Cert.MemAttnFirstSampleRefIdeal.nD Cert.MemAttnFirstSampleRefIdeal.τ Cert.MemAttnFirstSampleRefIdeal.sig) → Buf (Elt Ideal) ℓ) (g : Dev Cert.MemAttnFirstSampleRefIdeal.nD → PrngReg), Pre_MemAttnFirstSampleRefIdeal m →
    θ_run (Cert.MemAttnFirstSampleRefIdeal.defs (F := Ideal)) (onTc (τ := Cert.MemAttnFirstSampleRefIdeal.τ) (Cert.MemAttnFirstSampleRefIdeal.main (F := Ideal))) ⟨m, fun _ => 0, g⟩ (fun r => (∀ c : Dev Cert.MemAttnFirstSampleRefIdeal.nD,
      r.2.mem ((c.tc : Thread Cert.MemAttnFirstSampleRefIdeal.nD Cert.MemAttnFirstSampleRefIdeal.τ).loc Cert.MemAttnFirstSampleRefIdeal.main_arg0) = m ((c.tc : Thread Cert.MemAttnFirstSampleRefIdeal.nD Cert.MemAttnFirstSampleRefIdeal.τ).loc Cert.MemAttnFirstSampleRefIdeal.main_arg0)
      ∧ r.2.mem ((c.tc : Thread Cert.MemAttnFirstSampleRefIdeal.nD Cert.MemAttnFirstSampleRefIdeal.τ).loc Cert.MemAttnFirstSampleRefIdeal.main_arg1) = m ((c.tc : Thread Cert.MemAttnFirstSampleRefIdeal.nD Cert.MemAttnFirstSampleRefIdeal.τ).loc Cert.MemAttnFirstSampleRefIdeal.main_arg1)
      ∧ r.2.mem ((c.tc : Thread Cert.MemAttnFirstSampleRefIdeal.nD Cert.MemAttnFirstSampleRefIdeal.τ).loc Cert.MemAttnFirstSampleRefIdeal.main_arg2) = m ((c.tc : Thread Cert.MemAttnFirstSampleRefIdeal.nD Cert.MemAttnFirstSampleRefIdeal.τ).loc Cert.MemAttnFirstSampleRefIdeal.main_arg2)
      ∧ r.2.mem ((c.tc : Thread Cert.MemAttnFirstSampleRefIdeal.nD Cert.MemAttnFirstSampleRefIdeal.τ).loc Cert.MemAttnFirstSampleRefIdeal.main_arg3) = m ((c.tc : Thread Cert.MemAttnFirstSampleRefIdeal.nD Cert.MemAttnFirstSampleRefIdeal.τ).loc Cert.MemAttnFirstSampleRefIdeal.main_arg3)
      ∧ r.2.mem ((c.tc : Thread Cert.MemAttnFirstSampleRefIdeal.nD Cert.MemAttnFirstSampleRefIdeal.τ).loc Cert.MemAttnFirstSampleRefIdeal.main_arg4) = m ((c.tc : Thread Cert.MemAttnFirstSampleRefIdeal.nD Cert.MemAttnFirstSampleRefIdeal.τ).loc Cert.MemAttnFirstSampleRefIdeal.main_arg4)
      ∧ r.2.mem ((c.tc : Thread Cert.MemAttnFirstSampleRefIdeal.nD Cert.MemAttnFirstSampleRefIdeal.τ).loc Cert.MemAttnFirstSampleRefIdeal.main_arg5) = m ((c.tc : Thread Cert.MemAttnFirstSampleRefIdeal.nD Cert.MemAttnFirstSampleRefIdeal.τ).loc Cert.MemAttnFirstSampleRefIdeal.main_arg5)
      ∧ r.2.mem ((c.tc : Thread Cert.MemAttnFirstSampleRefIdeal.nD Cert.MemAttnFirstSampleRefIdeal.τ).loc Cert.MemAttnFirstSampleRefIdeal.main_arg6) = m ((c.tc : Thread Cert.MemAttnFirstSampleRefIdeal.nD Cert.MemAttnFirstSampleRefIdeal.τ).loc Cert.MemAttnFirstSampleRefIdeal.main_arg6)
      ∧ r.2.mem ((c.tc : Thread Cert.MemAttnFirstSampleRefIdeal.nD Cert.MemAttnFirstSampleRefIdeal.τ).loc Cert.MemAttnFirstSampleRefIdeal.main_arg7) = m ((c.tc : Thread Cert.MemAttnFirstSampleRefIdeal.nD Cert.MemAttnFirstSampleRefIdeal.τ).loc Cert.MemAttnFirstSampleRefIdeal.main_arg7))
      ∧ r.2.sem = fun _ => 0)

def quiescent_MemAttnSample [hMemAttnSample : Cert.MemAttnSample.Facts] : Prop :=
  ∀ (m : (ℓ : Loc Cert.MemAttnSample.nD Cert.MemAttnSample.τ Cert.MemAttnSample.sig) → Buf (Elt Bits) ℓ) (g : Dev Cert.MemAttnSample.nD → PrngReg), Pre_MemAttnSample m →
    θ_run (Cert.MemAttnSample.defs (F := Bits)) (onTc (τ := Cert.MemAttnSample.τ) (Cert.MemAttnSample.main (F := Bits))) ⟨m, fun _ => 0, g⟩ (fun r => (∀ c : Dev Cert.MemAttnSample.nD,
      r.2.mem ((c.tc : Thread Cert.MemAttnSample.nD Cert.MemAttnSample.τ).loc Cert.MemAttnSample.main_arg0) = m ((c.tc : Thread Cert.MemAttnSample.nD Cert.MemAttnSample.τ).loc Cert.MemAttnSample.main_arg0)
      ∧ r.2.mem ((c.tc : Thread Cert.MemAttnSample.nD Cert.MemAttnSample.τ).loc Cert.MemAttnSample.main_arg1) = m ((c.tc : Thread Cert.MemAttnSample.nD Cert.MemAttnSample.τ).loc Cert.MemAttnSample.main_arg1)
      ∧ r.2.mem ((c.tc : Thread Cert.MemAttnSample.nD Cert.MemAttnSample.τ).loc Cert.MemAttnSample.main_arg2) = m ((c.tc : Thread Cert.MemAttnSample.nD Cert.MemAttnSample.τ).loc Cert.MemAttnSample.main_arg2)
      ∧ r.2.mem ((c.tc : Thread Cert.MemAttnSample.nD Cert.MemAttnSample.τ).loc Cert.MemAttnSample.main_arg3) = m ((c.tc : Thread Cert.MemAttnSample.nD Cert.MemAttnSample.τ).loc Cert.MemAttnSample.main_arg3)
      ∧ r.2.mem ((c.tc : Thread Cert.MemAttnSample.nD Cert.MemAttnSample.τ).loc Cert.MemAttnSample.main_arg4) = m ((c.tc : Thread Cert.MemAttnSample.nD Cert.MemAttnSample.τ).loc Cert.MemAttnSample.main_arg4)
      ∧ r.2.mem ((c.tc : Thread Cert.MemAttnSample.nD Cert.MemAttnSample.τ).loc Cert.MemAttnSample.main_arg5) = m ((c.tc : Thread Cert.MemAttnSample.nD Cert.MemAttnSample.τ).loc Cert.MemAttnSample.main_arg5))
      ∧ r.2.sem = fun _ => 0)

def quiescent_MemAttnSampleIdeal [hMemAttnSampleIdeal : Cert.MemAttnSampleIdeal.Facts] : Prop :=
  ∀ (m : (ℓ : Loc Cert.MemAttnSampleIdeal.nD Cert.MemAttnSampleIdeal.τ Cert.MemAttnSampleIdeal.sig) → Buf (Elt Ideal) ℓ) (g : Dev Cert.MemAttnSampleIdeal.nD → PrngReg), Pre_MemAttnSampleIdeal m →
    θ_run (Cert.MemAttnSampleIdeal.defs (F := Ideal)) (onTc (τ := Cert.MemAttnSampleIdeal.τ) (Cert.MemAttnSampleIdeal.main (F := Ideal))) ⟨m, fun _ => 0, g⟩ (fun r => (∀ c : Dev Cert.MemAttnSampleIdeal.nD,
      r.2.mem ((c.tc : Thread Cert.MemAttnSampleIdeal.nD Cert.MemAttnSampleIdeal.τ).loc Cert.MemAttnSampleIdeal.main_arg0) = m ((c.tc : Thread Cert.MemAttnSampleIdeal.nD Cert.MemAttnSampleIdeal.τ).loc Cert.MemAttnSampleIdeal.main_arg0)
      ∧ r.2.mem ((c.tc : Thread Cert.MemAttnSampleIdeal.nD Cert.MemAttnSampleIdeal.τ).loc Cert.MemAttnSampleIdeal.main_arg1) = m ((c.tc : Thread Cert.MemAttnSampleIdeal.nD Cert.MemAttnSampleIdeal.τ).loc Cert.MemAttnSampleIdeal.main_arg1)
      ∧ r.2.mem ((c.tc : Thread Cert.MemAttnSampleIdeal.nD Cert.MemAttnSampleIdeal.τ).loc Cert.MemAttnSampleIdeal.main_arg2) = m ((c.tc : Thread Cert.MemAttnSampleIdeal.nD Cert.MemAttnSampleIdeal.τ).loc Cert.MemAttnSampleIdeal.main_arg2)
      ∧ r.2.mem ((c.tc : Thread Cert.MemAttnSampleIdeal.nD Cert.MemAttnSampleIdeal.τ).loc Cert.MemAttnSampleIdeal.main_arg3) = m ((c.tc : Thread Cert.MemAttnSampleIdeal.nD Cert.MemAttnSampleIdeal.τ).loc Cert.MemAttnSampleIdeal.main_arg3)
      ∧ r.2.mem ((c.tc : Thread Cert.MemAttnSampleIdeal.nD Cert.MemAttnSampleIdeal.τ).loc Cert.MemAttnSampleIdeal.main_arg4) = m ((c.tc : Thread Cert.MemAttnSampleIdeal.nD Cert.MemAttnSampleIdeal.τ).loc Cert.MemAttnSampleIdeal.main_arg4)
      ∧ r.2.mem ((c.tc : Thread Cert.MemAttnSampleIdeal.nD Cert.MemAttnSampleIdeal.τ).loc Cert.MemAttnSampleIdeal.main_arg5) = m ((c.tc : Thread Cert.MemAttnSampleIdeal.nD Cert.MemAttnSampleIdeal.τ).loc Cert.MemAttnSampleIdeal.main_arg5))
      ∧ r.2.sem = fun _ => 0)

def quiescent_MemAttnSampleRefIdeal [hMemAttnSampleRefIdeal : Cert.MemAttnSampleRefIdeal.Facts] : Prop :=
  ∀ (m : (ℓ : Loc Cert.MemAttnSampleRefIdeal.nD Cert.MemAttnSampleRefIdeal.τ Cert.MemAttnSampleRefIdeal.sig) → Buf (Elt Ideal) ℓ) (g : Dev Cert.MemAttnSampleRefIdeal.nD → PrngReg), Pre_MemAttnSampleRefIdeal m →
    θ_run (Cert.MemAttnSampleRefIdeal.defs (F := Ideal)) (onTc (τ := Cert.MemAttnSampleRefIdeal.τ) (Cert.MemAttnSampleRefIdeal.main (F := Ideal))) ⟨m, fun _ => 0, g⟩ (fun r => (∀ c : Dev Cert.MemAttnSampleRefIdeal.nD,
      r.2.mem ((c.tc : Thread Cert.MemAttnSampleRefIdeal.nD Cert.MemAttnSampleRefIdeal.τ).loc Cert.MemAttnSampleRefIdeal.main_arg0) = m ((c.tc : Thread Cert.MemAttnSampleRefIdeal.nD Cert.MemAttnSampleRefIdeal.τ).loc Cert.MemAttnSampleRefIdeal.main_arg0)
      ∧ r.2.mem ((c.tc : Thread Cert.MemAttnSampleRefIdeal.nD Cert.MemAttnSampleRefIdeal.τ).loc Cert.MemAttnSampleRefIdeal.main_arg1) = m ((c.tc : Thread Cert.MemAttnSampleRefIdeal.nD Cert.MemAttnSampleRefIdeal.τ).loc Cert.MemAttnSampleRefIdeal.main_arg1)
      ∧ r.2.mem ((c.tc : Thread Cert.MemAttnSampleRefIdeal.nD Cert.MemAttnSampleRefIdeal.τ).loc Cert.MemAttnSampleRefIdeal.main_arg2) = m ((c.tc : Thread Cert.MemAttnSampleRefIdeal.nD Cert.MemAttnSampleRefIdeal.τ).loc Cert.MemAttnSampleRefIdeal.main_arg2)
      ∧ r.2.mem ((c.tc : Thread Cert.MemAttnSampleRefIdeal.nD Cert.MemAttnSampleRefIdeal.τ).loc Cert.MemAttnSampleRefIdeal.main_arg3) = m ((c.tc : Thread Cert.MemAttnSampleRefIdeal.nD Cert.MemAttnSampleRefIdeal.τ).loc Cert.MemAttnSampleRefIdeal.main_arg3)
      ∧ r.2.mem ((c.tc : Thread Cert.MemAttnSampleRefIdeal.nD Cert.MemAttnSampleRefIdeal.τ).loc Cert.MemAttnSampleRefIdeal.main_arg4) = m ((c.tc : Thread Cert.MemAttnSampleRefIdeal.nD Cert.MemAttnSampleRefIdeal.τ).loc Cert.MemAttnSampleRefIdeal.main_arg4)
      ∧ r.2.mem ((c.tc : Thread Cert.MemAttnSampleRefIdeal.nD Cert.MemAttnSampleRefIdeal.τ).loc Cert.MemAttnSampleRefIdeal.main_arg5) = m ((c.tc : Thread Cert.MemAttnSampleRefIdeal.nD Cert.MemAttnSampleRefIdeal.τ).loc Cert.MemAttnSampleRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4))
      ∧ r.2.sem = fun _ => 0)

def quiescent_MlpFirst [hMlpFirst : Cert.MlpFirst.Facts] : Prop :=
  ∀ (m : (ℓ : Loc Cert.MlpFirst.nD Cert.MlpFirst.τ Cert.MlpFirst.sig) → Buf (Elt Bits) ℓ) (g : Dev Cert.MlpFirst.nD → PrngReg), Pre_MlpFirst m →
    θ_run (Cert.MlpFirst.defs (F := Bits)) (onTc (τ := Cert.MlpFirst.τ) (Cert.MlpFirst.main (F := Bits))) ⟨m, fun _ => 0, g⟩ (fun r => (∀ c : Dev Cert.MlpFirst.nD,
      r.2.mem ((c.tc : Thread Cert.MlpFirst.nD Cert.MlpFirst.τ).loc Cert.MlpFirst.main_arg0) = m ((c.tc : Thread Cert.MlpFirst.nD Cert.MlpFirst.τ).loc Cert.MlpFirst.main_arg0)
      ∧ r.2.mem ((c.tc : Thread Cert.MlpFirst.nD Cert.MlpFirst.τ).loc Cert.MlpFirst.main_arg1) = m ((c.tc : Thread Cert.MlpFirst.nD Cert.MlpFirst.τ).loc Cert.MlpFirst.main_arg1)
      ∧ r.2.mem ((c.tc : Thread Cert.MlpFirst.nD Cert.MlpFirst.τ).loc Cert.MlpFirst.main_arg2) = m ((c.tc : Thread Cert.MlpFirst.nD Cert.MlpFirst.τ).loc Cert.MlpFirst.main_arg2)
      ∧ r.2.mem ((c.tc : Thread Cert.MlpFirst.nD Cert.MlpFirst.τ).loc Cert.MlpFirst.main_arg3) = m ((c.tc : Thread Cert.MlpFirst.nD Cert.MlpFirst.τ).loc Cert.MlpFirst.main_arg3))
      ∧ r.2.sem = fun _ => 0)

def quiescent_MlpFirstIdeal [hMlpFirstIdeal : Cert.MlpFirstIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg), Pre_MlpFirstIdeal m →
    θ_run (Cert.MlpFirstIdeal.defs (F := Ideal)) (onTc (τ := Cert.MlpFirstIdeal.τ) (Cert.MlpFirstIdeal.main (F := Ideal))) ⟨m, fun _ => 0, g⟩ (fun r => (∀ c : Dev Cert.MlpFirstIdeal.nD,
      r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
      ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
      ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
      ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3))
      ∧ r.2.sem = fun _ => 0)

def quiescent_MlpFirstRefIdeal [hMlpFirstRefIdeal : Cert.MlpFirstRefIdeal.Facts] : Prop :=
  ∀ (m : (ℓ : Loc Cert.MlpFirstRefIdeal.nD Cert.MlpFirstRefIdeal.τ Cert.MlpFirstRefIdeal.sig) → Buf (Elt Ideal) ℓ) (g : Dev Cert.MlpFirstRefIdeal.nD → PrngReg), Pre_MlpFirstRefIdeal m →
    θ_run (Cert.MlpFirstRefIdeal.defs (F := Ideal)) (onTc (τ := Cert.MlpFirstRefIdeal.τ) (Cert.MlpFirstRefIdeal.main (F := Ideal))) ⟨m, fun _ => 0, g⟩ (fun r => (∀ c : Dev Cert.MlpFirstRefIdeal.nD,
      r.2.mem ((c.tc : Thread Cert.MlpFirstRefIdeal.nD Cert.MlpFirstRefIdeal.τ).loc Cert.MlpFirstRefIdeal.main_arg0) = m ((c.tc : Thread Cert.MlpFirstRefIdeal.nD Cert.MlpFirstRefIdeal.τ).loc Cert.MlpFirstRefIdeal.main_arg0)
      ∧ r.2.mem ((c.tc : Thread Cert.MlpFirstRefIdeal.nD Cert.MlpFirstRefIdeal.τ).loc Cert.MlpFirstRefIdeal.main_arg1) = m ((c.tc : Thread Cert.MlpFirstRefIdeal.nD Cert.MlpFirstRefIdeal.τ).loc Cert.MlpFirstRefIdeal.main_arg1)
      ∧ r.2.mem ((c.tc : Thread Cert.MlpFirstRefIdeal.nD Cert.MlpFirstRefIdeal.τ).loc Cert.MlpFirstRefIdeal.main_arg2) = m ((c.tc : Thread Cert.MlpFirstRefIdeal.nD Cert.MlpFirstRefIdeal.τ).loc Cert.MlpFirstRefIdeal.main_arg2)
      ∧ r.2.mem ((c.tc : Thread Cert.MlpFirstRefIdeal.nD Cert.MlpFirstRefIdeal.τ).loc Cert.MlpFirstRefIdeal.main_arg3) = m ((c.tc : Thread Cert.MlpFirstRefIdeal.nD Cert.MlpFirstRefIdeal.τ).loc Cert.MlpFirstRefIdeal.main_arg3))
      ∧ r.2.sem = fun _ => 0)

def quiescent_MlpFirstSample [hMlpFirstSample : Cert.MlpFirstSample.Facts] : Prop :=
  ∀ (m : (ℓ : Loc Cert.MlpFirstSample.nD Cert.MlpFirstSample.τ Cert.MlpFirstSample.sig) → Buf (Elt Bits) ℓ) (g : Dev Cert.MlpFirstSample.nD → PrngReg), Pre_MlpFirstSample m →
    θ_run (Cert.MlpFirstSample.defs (F := Bits)) (onTc (τ := Cert.MlpFirstSample.τ) (Cert.MlpFirstSample.main (F := Bits))) ⟨m, fun _ => 0, g⟩ (fun r => (∀ c : Dev Cert.MlpFirstSample.nD,
      r.2.mem ((c.tc : Thread Cert.MlpFirstSample.nD Cert.MlpFirstSample.τ).loc Cert.MlpFirstSample.main_arg0) = m ((c.tc : Thread Cert.MlpFirstSample.nD Cert.MlpFirstSample.τ).loc Cert.MlpFirstSample.main_arg0)
      ∧ r.2.mem ((c.tc : Thread Cert.MlpFirstSample.nD Cert.MlpFirstSample.τ).loc Cert.MlpFirstSample.main_arg1) = m ((c.tc : Thread Cert.MlpFirstSample.nD Cert.MlpFirstSample.τ).loc Cert.MlpFirstSample.main_arg1)
      ∧ r.2.mem ((c.tc : Thread Cert.MlpFirstSample.nD Cert.MlpFirstSample.τ).loc Cert.MlpFirstSample.main_arg2) = m ((c.tc : Thread Cert.MlpFirstSample.nD Cert.MlpFirstSample.τ).loc Cert.MlpFirstSample.main_arg2)
      ∧ r.2.mem ((c.tc : Thread Cert.MlpFirstSample.nD Cert.MlpFirstSample.τ).loc Cert.MlpFirstSample.main_arg3) = m ((c.tc : Thread Cert.MlpFirstSample.nD Cert.MlpFirstSample.τ).loc Cert.MlpFirstSample.main_arg3))
      ∧ r.2.sem = fun _ => 0)

def quiescent_MlpFirstSampleIdeal [hMlpFirstSampleIdeal : Cert.MlpFirstSampleIdeal.Facts] : Prop :=
  ∀ (m : (ℓ : Loc Cert.MlpFirstSampleIdeal.nD Cert.MlpFirstSampleIdeal.τ Cert.MlpFirstSampleIdeal.sig) → Buf (Elt Ideal) ℓ) (g : Dev Cert.MlpFirstSampleIdeal.nD → PrngReg), Pre_MlpFirstSampleIdeal m →
    θ_run (Cert.MlpFirstSampleIdeal.defs (F := Ideal)) (onTc (τ := Cert.MlpFirstSampleIdeal.τ) (Cert.MlpFirstSampleIdeal.main (F := Ideal))) ⟨m, fun _ => 0, g⟩ (fun r => (∀ c : Dev Cert.MlpFirstSampleIdeal.nD,
      r.2.mem ((c.tc : Thread Cert.MlpFirstSampleIdeal.nD Cert.MlpFirstSampleIdeal.τ).loc Cert.MlpFirstSampleIdeal.main_arg0) = m ((c.tc : Thread Cert.MlpFirstSampleIdeal.nD Cert.MlpFirstSampleIdeal.τ).loc Cert.MlpFirstSampleIdeal.main_arg0)
      ∧ r.2.mem ((c.tc : Thread Cert.MlpFirstSampleIdeal.nD Cert.MlpFirstSampleIdeal.τ).loc Cert.MlpFirstSampleIdeal.main_arg1) = m ((c.tc : Thread Cert.MlpFirstSampleIdeal.nD Cert.MlpFirstSampleIdeal.τ).loc Cert.MlpFirstSampleIdeal.main_arg1)
      ∧ r.2.mem ((c.tc : Thread Cert.MlpFirstSampleIdeal.nD Cert.MlpFirstSampleIdeal.τ).loc Cert.MlpFirstSampleIdeal.main_arg2) = m ((c.tc : Thread Cert.MlpFirstSampleIdeal.nD Cert.MlpFirstSampleIdeal.τ).loc Cert.MlpFirstSampleIdeal.main_arg2)
      ∧ r.2.mem ((c.tc : Thread Cert.MlpFirstSampleIdeal.nD Cert.MlpFirstSampleIdeal.τ).loc Cert.MlpFirstSampleIdeal.main_arg3) = m ((c.tc : Thread Cert.MlpFirstSampleIdeal.nD Cert.MlpFirstSampleIdeal.τ).loc Cert.MlpFirstSampleIdeal.main_arg3))
      ∧ r.2.sem = fun _ => 0)

def quiescent_MlpFirstSampleRefIdeal [hMlpFirstSampleRefIdeal : Cert.MlpFirstSampleRefIdeal.Facts] : Prop :=
  ∀ (m : (ℓ : Loc Cert.MlpFirstSampleRefIdeal.nD Cert.MlpFirstSampleRefIdeal.τ Cert.MlpFirstSampleRefIdeal.sig) → Buf (Elt Ideal) ℓ) (g : Dev Cert.MlpFirstSampleRefIdeal.nD → PrngReg), Pre_MlpFirstSampleRefIdeal m →
    θ_run (Cert.MlpFirstSampleRefIdeal.defs (F := Ideal)) (onTc (τ := Cert.MlpFirstSampleRefIdeal.τ) (Cert.MlpFirstSampleRefIdeal.main (F := Ideal))) ⟨m, fun _ => 0, g⟩ (fun r => (∀ c : Dev Cert.MlpFirstSampleRefIdeal.nD,
      r.2.mem ((c.tc : Thread Cert.MlpFirstSampleRefIdeal.nD Cert.MlpFirstSampleRefIdeal.τ).loc Cert.MlpFirstSampleRefIdeal.main_arg0) = m ((c.tc : Thread Cert.MlpFirstSampleRefIdeal.nD Cert.MlpFirstSampleRefIdeal.τ).loc Cert.MlpFirstSampleRefIdeal.main_arg0)
      ∧ r.2.mem ((c.tc : Thread Cert.MlpFirstSampleRefIdeal.nD Cert.MlpFirstSampleRefIdeal.τ).loc Cert.MlpFirstSampleRefIdeal.main_arg1) = m ((c.tc : Thread Cert.MlpFirstSampleRefIdeal.nD Cert.MlpFirstSampleRefIdeal.τ).loc Cert.MlpFirstSampleRefIdeal.main_arg1)
      ∧ r.2.mem ((c.tc : Thread Cert.MlpFirstSampleRefIdeal.nD Cert.MlpFirstSampleRefIdeal.τ).loc Cert.MlpFirstSampleRefIdeal.main_arg2) = m ((c.tc : Thread Cert.MlpFirstSampleRefIdeal.nD Cert.MlpFirstSampleRefIdeal.τ).loc Cert.MlpFirstSampleRefIdeal.main_arg2)
      ∧ r.2.mem ((c.tc : Thread Cert.MlpFirstSampleRefIdeal.nD Cert.MlpFirstSampleRefIdeal.τ).loc Cert.MlpFirstSampleRefIdeal.main_arg3) = m ((c.tc : Thread Cert.MlpFirstSampleRefIdeal.nD Cert.MlpFirstSampleRefIdeal.τ).loc Cert.MlpFirstSampleRefIdeal.main_arg3))
      ∧ r.2.sem = fun _ => 0)

def quiescent_ConvGlu [hConvGlu : Cert.ConvGlu.Facts] : Prop :=
  ∀ (m : (ℓ : Loc Cert.ConvGlu.nD Cert.ConvGlu.τ Cert.ConvGlu.sig) → Buf (Elt Bits) ℓ) (g : Dev Cert.ConvGlu.nD → PrngReg), Pre_ConvGlu m →
    θ_run (Cert.ConvGlu.defs (F := Bits)) (onTc (τ := Cert.ConvGlu.τ) (Cert.ConvGlu.main (F := Bits))) ⟨m, fun _ => 0, g⟩ (fun r => (∀ c : Dev Cert.ConvGlu.nD,
      r.2.mem ((c.tc : Thread Cert.ConvGlu.nD Cert.ConvGlu.τ).loc Cert.ConvGlu.main_arg0) = m ((c.tc : Thread Cert.ConvGlu.nD Cert.ConvGlu.τ).loc Cert.ConvGlu.main_arg0)
      ∧ r.2.mem ((c.tc : Thread Cert.ConvGlu.nD Cert.ConvGlu.τ).loc Cert.ConvGlu.main_arg1) = m ((c.tc : Thread Cert.ConvGlu.nD Cert.ConvGlu.τ).loc Cert.ConvGlu.main_arg1)
      ∧ r.2.mem ((c.tc : Thread Cert.ConvGlu.nD Cert.ConvGlu.τ).loc Cert.ConvGlu.main_arg2) = m ((c.tc : Thread Cert.ConvGlu.nD Cert.ConvGlu.τ).loc Cert.ConvGlu.main_arg2)
      ∧ r.2.mem ((c.tc : Thread Cert.ConvGlu.nD Cert.ConvGlu.τ).loc Cert.ConvGlu.main_arg3) = m ((c.tc : Thread Cert.ConvGlu.nD Cert.ConvGlu.τ).loc Cert.ConvGlu.main_arg3))
      ∧ r.2.sem = fun _ => 0)

def quiescent_ConvGluIdeal [hConvGluIdeal : Cert.ConvGluIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
      ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
      ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3))
      ∧ r.2.sem = fun _ => 0)

def quiescent_ConvGluRefIdeal [hConvGluRefIdeal : Cert.ConvGluRefIdeal.Facts] : Prop :=
  ∀ (m : (ℓ : Loc Cert.ConvGluRefIdeal.nD Cert.ConvGluRefIdeal.τ Cert.ConvGluRefIdeal.sig) → Buf (Elt Ideal) ℓ) (g : Dev Cert.ConvGluRefIdeal.nD → PrngReg), Pre_ConvGluRefIdeal m →
    θ_run (Cert.ConvGluRefIdeal.defs (F := Ideal)) (onTc (τ := Cert.ConvGluRefIdeal.τ) (Cert.ConvGluRefIdeal.main (F := Ideal))) ⟨m, fun _ => 0, g⟩ (fun r => (∀ c : Dev Cert.ConvGluRefIdeal.nD,
      r.2.mem ((c.tc : Thread Cert.ConvGluRefIdeal.nD Cert.ConvGluRefIdeal.τ).loc Cert.ConvGluRefIdeal.main_arg0) = m ((c.tc : Thread Cert.ConvGluRefIdeal.nD Cert.ConvGluRefIdeal.τ).loc Cert.ConvGluRefIdeal.main_arg0)
      ∧ r.2.mem ((c.tc : Thread Cert.ConvGluRefIdeal.nD Cert.ConvGluRefIdeal.τ).loc Cert.ConvGluRefIdeal.main_arg1) = m ((c.tc : Thread Cert.ConvGluRefIdeal.nD Cert.ConvGluRefIdeal.τ).loc Cert.ConvGluRefIdeal.main_arg1)
      ∧ r.2.mem ((c.tc : Thread Cert.ConvGluRefIdeal.nD Cert.ConvGluRefIdeal.τ).loc Cert.ConvGluRefIdeal.main_arg2) = m ((c.tc : Thread Cert.ConvGluRefIdeal.nD Cert.ConvGluRefIdeal.τ).loc Cert.ConvGluRefIdeal.main_arg2)
      ∧ r.2.mem ((c.tc : Thread Cert.ConvGluRefIdeal.nD Cert.ConvGluRefIdeal.τ).loc Cert.ConvGluRefIdeal.main_arg3) = m ((c.tc : Thread Cert.ConvGluRefIdeal.nD Cert.ConvGluRefIdeal.τ).loc Cert.ConvGluRefIdeal.main_arg3))
      ∧ r.2.sem = fun _ => 0)

def quiescent_ConvGluSample [hConvGluSample : Cert.ConvGluSample.Facts] : Prop :=
  ∀ (m : (ℓ : Loc Cert.ConvGluSample.nD Cert.ConvGluSample.τ Cert.ConvGluSample.sig) → Buf (Elt Bits) ℓ) (g : Dev Cert.ConvGluSample.nD → PrngReg), Pre_ConvGluSample m →
    θ_run (Cert.ConvGluSample.defs (F := Bits)) (onTc (τ := Cert.ConvGluSample.τ) (Cert.ConvGluSample.main (F := Bits))) ⟨m, fun _ => 0, g⟩ (fun r => (∀ c : Dev Cert.ConvGluSample.nD,
      r.2.mem ((c.tc : Thread Cert.ConvGluSample.nD Cert.ConvGluSample.τ).loc Cert.ConvGluSample.main_arg0) = m ((c.tc : Thread Cert.ConvGluSample.nD Cert.ConvGluSample.τ).loc Cert.ConvGluSample.main_arg0)
      ∧ r.2.mem ((c.tc : Thread Cert.ConvGluSample.nD Cert.ConvGluSample.τ).loc Cert.ConvGluSample.main_arg1) = m ((c.tc : Thread Cert.ConvGluSample.nD Cert.ConvGluSample.τ).loc Cert.ConvGluSample.main_arg1)
      ∧ r.2.mem ((c.tc : Thread Cert.ConvGluSample.nD Cert.ConvGluSample.τ).loc Cert.ConvGluSample.main_arg2) = m ((c.tc : Thread Cert.ConvGluSample.nD Cert.ConvGluSample.τ).loc Cert.ConvGluSample.main_arg2)
      ∧ r.2.mem ((c.tc : Thread Cert.ConvGluSample.nD Cert.ConvGluSample.τ).loc Cert.ConvGluSample.main_arg3) = m ((c.tc : Thread Cert.ConvGluSample.nD Cert.ConvGluSample.τ).loc Cert.ConvGluSample.main_arg3)
      ∧ r.2.mem ((c.tc : Thread Cert.ConvGluSample.nD Cert.ConvGluSample.τ).loc Cert.ConvGluSample.main_arg4) = m ((c.tc : Thread Cert.ConvGluSample.nD Cert.ConvGluSample.τ).loc Cert.ConvGluSample.main_arg4))
      ∧ r.2.sem = fun _ => 0)

def quiescent_ConvGluSampleIdeal [hConvGluSampleIdeal : Cert.ConvGluSampleIdeal.Facts] : Prop :=
  ∀ (m : (ℓ : Loc Cert.ConvGluSampleIdeal.nD Cert.ConvGluSampleIdeal.τ Cert.ConvGluSampleIdeal.sig) → Buf (Elt Ideal) ℓ) (g : Dev Cert.ConvGluSampleIdeal.nD → PrngReg), Pre_ConvGluSampleIdeal m →
    θ_run (Cert.ConvGluSampleIdeal.defs (F := Ideal)) (onTc (τ := Cert.ConvGluSampleIdeal.τ) (Cert.ConvGluSampleIdeal.main (F := Ideal))) ⟨m, fun _ => 0, g⟩ (fun r => (∀ c : Dev Cert.ConvGluSampleIdeal.nD,
      r.2.mem ((c.tc : Thread Cert.ConvGluSampleIdeal.nD Cert.ConvGluSampleIdeal.τ).loc Cert.ConvGluSampleIdeal.main_arg0) = m ((c.tc : Thread Cert.ConvGluSampleIdeal.nD Cert.ConvGluSampleIdeal.τ).loc Cert.ConvGluSampleIdeal.main_arg0)
      ∧ r.2.mem ((c.tc : Thread Cert.ConvGluSampleIdeal.nD Cert.ConvGluSampleIdeal.τ).loc Cert.ConvGluSampleIdeal.main_arg1) = m ((c.tc : Thread Cert.ConvGluSampleIdeal.nD Cert.ConvGluSampleIdeal.τ).loc Cert.ConvGluSampleIdeal.main_arg1)
      ∧ r.2.mem ((c.tc : Thread Cert.ConvGluSampleIdeal.nD Cert.ConvGluSampleIdeal.τ).loc Cert.ConvGluSampleIdeal.main_arg2) = m ((c.tc : Thread Cert.ConvGluSampleIdeal.nD Cert.ConvGluSampleIdeal.τ).loc Cert.ConvGluSampleIdeal.main_arg2)
      ∧ r.2.mem ((c.tc : Thread Cert.ConvGluSampleIdeal.nD Cert.ConvGluSampleIdeal.τ).loc Cert.ConvGluSampleIdeal.main_arg3) = m ((c.tc : Thread Cert.ConvGluSampleIdeal.nD Cert.ConvGluSampleIdeal.τ).loc Cert.ConvGluSampleIdeal.main_arg3)
      ∧ r.2.mem ((c.tc : Thread Cert.ConvGluSampleIdeal.nD Cert.ConvGluSampleIdeal.τ).loc Cert.ConvGluSampleIdeal.main_arg4) = m ((c.tc : Thread Cert.ConvGluSampleIdeal.nD Cert.ConvGluSampleIdeal.τ).loc Cert.ConvGluSampleIdeal.main_arg4))
      ∧ r.2.sem = fun _ => 0)

def quiescent_ConvGluSampleRefIdeal [hConvGluSampleRefIdeal : Cert.ConvGluSampleRefIdeal.Facts] : Prop :=
  ∀ (m : (ℓ : Loc Cert.ConvGluSampleRefIdeal.nD Cert.ConvGluSampleRefIdeal.τ Cert.ConvGluSampleRefIdeal.sig) → Buf (Elt Ideal) ℓ) (g : Dev Cert.ConvGluSampleRefIdeal.nD → PrngReg), Pre_ConvGluSampleRefIdeal m →
    θ_run (Cert.ConvGluSampleRefIdeal.defs (F := Ideal)) (onTc (τ := Cert.ConvGluSampleRefIdeal.τ) (Cert.ConvGluSampleRefIdeal.main (F := Ideal))) ⟨m, fun _ => 0, g⟩ (fun r => (∀ c : Dev Cert.ConvGluSampleRefIdeal.nD,
      r.2.mem ((c.tc : Thread Cert.ConvGluSampleRefIdeal.nD Cert.ConvGluSampleRefIdeal.τ).loc Cert.ConvGluSampleRefIdeal.main_arg0) = m ((c.tc : Thread Cert.ConvGluSampleRefIdeal.nD Cert.ConvGluSampleRefIdeal.τ).loc Cert.ConvGluSampleRefIdeal.main_arg0)
      ∧ r.2.mem ((c.tc : Thread Cert.ConvGluSampleRefIdeal.nD Cert.ConvGluSampleRefIdeal.τ).loc Cert.ConvGluSampleRefIdeal.main_arg1) = m ((c.tc : Thread Cert.ConvGluSampleRefIdeal.nD Cert.ConvGluSampleRefIdeal.τ).loc Cert.ConvGluSampleRefIdeal.main_arg1)
      ∧ r.2.mem ((c.tc : Thread Cert.ConvGluSampleRefIdeal.nD Cert.ConvGluSampleRefIdeal.τ).loc Cert.ConvGluSampleRefIdeal.main_arg2) = m ((c.tc : Thread Cert.ConvGluSampleRefIdeal.nD Cert.ConvGluSampleRefIdeal.τ).loc Cert.ConvGluSampleRefIdeal.main_arg2)
      ∧ r.2.mem ((c.tc : Thread Cert.ConvGluSampleRefIdeal.nD Cert.ConvGluSampleRefIdeal.τ).loc Cert.ConvGluSampleRefIdeal.main_arg3) = m ((c.tc : Thread Cert.ConvGluSampleRefIdeal.nD Cert.ConvGluSampleRefIdeal.τ).loc Cert.ConvGluSampleRefIdeal.main_arg3)
      ∧ r.2.mem ((c.tc : Thread Cert.ConvGluSampleRefIdeal.nD Cert.ConvGluSampleRefIdeal.τ).loc Cert.ConvGluSampleRefIdeal.main_arg4) = m ((c.tc : Thread Cert.ConvGluSampleRefIdeal.nD Cert.ConvGluSampleRefIdeal.τ).loc Cert.ConvGluSampleRefIdeal.main_arg4))
      ∧ r.2.sem = fun _ => 0)

def quiescent_ConvRest [hConvRest : Cert.ConvRest.Facts] : Prop :=
  ∀ (m : (ℓ : Loc Cert.ConvRest.nD Cert.ConvRest.τ Cert.ConvRest.sig) → Buf (Elt Bits) ℓ) (g : Dev Cert.ConvRest.nD → PrngReg), Pre_ConvRest m →
    θ_run (Cert.ConvRest.defs (F := Bits)) (onTc (τ := Cert.ConvRest.τ) (Cert.ConvRest.main (F := Bits))) ⟨m, fun _ => 0, g⟩ (fun r => (∀ c : Dev Cert.ConvRest.nD,
      r.2.mem ((c.tc : Thread Cert.ConvRest.nD Cert.ConvRest.τ).loc Cert.ConvRest.main_arg0) = m ((c.tc : Thread Cert.ConvRest.nD Cert.ConvRest.τ).loc Cert.ConvRest.main_arg0)
      ∧ r.2.mem ((c.tc : Thread Cert.ConvRest.nD Cert.ConvRest.τ).loc Cert.ConvRest.main_arg1) = m ((c.tc : Thread Cert.ConvRest.nD Cert.ConvRest.τ).loc Cert.ConvRest.main_arg1)
      ∧ r.2.mem ((c.tc : Thread Cert.ConvRest.nD Cert.ConvRest.τ).loc Cert.ConvRest.main_arg2) = m ((c.tc : Thread Cert.ConvRest.nD Cert.ConvRest.τ).loc Cert.ConvRest.main_arg2)
      ∧ r.2.mem ((c.tc : Thread Cert.ConvRest.nD Cert.ConvRest.τ).loc Cert.ConvRest.main_arg3) = m ((c.tc : Thread Cert.ConvRest.nD Cert.ConvRest.τ).loc Cert.ConvRest.main_arg3)
      ∧ r.2.mem ((c.tc : Thread Cert.ConvRest.nD Cert.ConvRest.τ).loc Cert.ConvRest.main_arg4) = m ((c.tc : Thread Cert.ConvRest.nD Cert.ConvRest.τ).loc Cert.ConvRest.main_arg4)
      ∧ r.2.mem ((c.tc : Thread Cert.ConvRest.nD Cert.ConvRest.τ).loc Cert.ConvRest.main_arg5) = m ((c.tc : Thread Cert.ConvRest.nD Cert.ConvRest.τ).loc Cert.ConvRest.main_arg5)
      ∧ r.2.mem ((c.tc : Thread Cert.ConvRest.nD Cert.ConvRest.τ).loc Cert.ConvRest.main_arg6) = m ((c.tc : Thread Cert.ConvRest.nD Cert.ConvRest.τ).loc Cert.ConvRest.main_arg6)
      ∧ r.2.mem ((c.tc : Thread Cert.ConvRest.nD Cert.ConvRest.τ).loc Cert.ConvRest.main_arg7) = m ((c.tc : Thread Cert.ConvRest.nD Cert.ConvRest.τ).loc Cert.ConvRest.main_arg7))
      ∧ r.2.sem = fun _ => 0)

def quiescent_ConvRestIdeal [hConvRestIdeal : Cert.ConvRestIdeal.Facts] : Prop :=
  ∀ (m : (ℓ : Loc Cert.ConvRestIdeal.nD Cert.ConvRestIdeal.τ Cert.ConvRestIdeal.sig) → Buf (Elt Ideal) ℓ) (g : Dev Cert.ConvRestIdeal.nD → PrngReg), Pre_ConvRestIdeal m →
    θ_run (Cert.ConvRestIdeal.defs (F := Ideal)) (onTc (τ := Cert.ConvRestIdeal.τ) (Cert.ConvRestIdeal.main (F := Ideal))) ⟨m, fun _ => 0, g⟩ (fun r => (∀ c : Dev Cert.ConvRestIdeal.nD,
      r.2.mem ((c.tc : Thread Cert.ConvRestIdeal.nD Cert.ConvRestIdeal.τ).loc Cert.ConvRestIdeal.main_arg0) = m ((c.tc : Thread Cert.ConvRestIdeal.nD Cert.ConvRestIdeal.τ).loc Cert.ConvRestIdeal.main_arg0)
      ∧ r.2.mem ((c.tc : Thread Cert.ConvRestIdeal.nD Cert.ConvRestIdeal.τ).loc Cert.ConvRestIdeal.main_arg1) = m ((c.tc : Thread Cert.ConvRestIdeal.nD Cert.ConvRestIdeal.τ).loc Cert.ConvRestIdeal.main_arg1)
      ∧ r.2.mem ((c.tc : Thread Cert.ConvRestIdeal.nD Cert.ConvRestIdeal.τ).loc Cert.ConvRestIdeal.main_arg2) = m ((c.tc : Thread Cert.ConvRestIdeal.nD Cert.ConvRestIdeal.τ).loc Cert.ConvRestIdeal.main_arg2)
      ∧ r.2.mem ((c.tc : Thread Cert.ConvRestIdeal.nD Cert.ConvRestIdeal.τ).loc Cert.ConvRestIdeal.main_arg3) = m ((c.tc : Thread Cert.ConvRestIdeal.nD Cert.ConvRestIdeal.τ).loc Cert.ConvRestIdeal.main_arg3)
      ∧ r.2.mem ((c.tc : Thread Cert.ConvRestIdeal.nD Cert.ConvRestIdeal.τ).loc Cert.ConvRestIdeal.main_arg4) = m ((c.tc : Thread Cert.ConvRestIdeal.nD Cert.ConvRestIdeal.τ).loc Cert.ConvRestIdeal.main_arg4)
      ∧ r.2.mem ((c.tc : Thread Cert.ConvRestIdeal.nD Cert.ConvRestIdeal.τ).loc Cert.ConvRestIdeal.main_arg5) = m ((c.tc : Thread Cert.ConvRestIdeal.nD Cert.ConvRestIdeal.τ).loc Cert.ConvRestIdeal.main_arg5)
      ∧ r.2.mem ((c.tc : Thread Cert.ConvRestIdeal.nD Cert.ConvRestIdeal.τ).loc Cert.ConvRestIdeal.main_arg6) = m ((c.tc : Thread Cert.ConvRestIdeal.nD Cert.ConvRestIdeal.τ).loc Cert.ConvRestIdeal.main_arg6)
      ∧ r.2.mem ((c.tc : Thread Cert.ConvRestIdeal.nD Cert.ConvRestIdeal.τ).loc Cert.ConvRestIdeal.main_arg7) = m ((c.tc : Thread Cert.ConvRestIdeal.nD Cert.ConvRestIdeal.τ).loc Cert.ConvRestIdeal.main_arg7))
      ∧ r.2.sem = fun _ => 0)

def quiescent_ConvRestRefIdeal [hConvRestRefIdeal : Cert.ConvRestRefIdeal.Facts] : Prop :=
  ∀ (m : (ℓ : Loc Cert.ConvRestRefIdeal.nD Cert.ConvRestRefIdeal.τ Cert.ConvRestRefIdeal.sig) → Buf (Elt Ideal) ℓ) (g : Dev Cert.ConvRestRefIdeal.nD → PrngReg), Pre_ConvRestRefIdeal m →
    θ_run (Cert.ConvRestRefIdeal.defs (F := Ideal)) (onTc (τ := Cert.ConvRestRefIdeal.τ) (Cert.ConvRestRefIdeal.main (F := Ideal))) ⟨m, fun _ => 0, g⟩ (fun r => (∀ c : Dev Cert.ConvRestRefIdeal.nD,
      r.2.mem ((c.tc : Thread Cert.ConvRestRefIdeal.nD Cert.ConvRestRefIdeal.τ).loc Cert.ConvRestRefIdeal.main_arg0) = m ((c.tc : Thread Cert.ConvRestRefIdeal.nD Cert.ConvRestRefIdeal.τ).loc Cert.ConvRestRefIdeal.main_arg0)
      ∧ r.2.mem ((c.tc : Thread Cert.ConvRestRefIdeal.nD Cert.ConvRestRefIdeal.τ).loc Cert.ConvRestRefIdeal.main_arg1) = m ((c.tc : Thread Cert.ConvRestRefIdeal.nD Cert.ConvRestRefIdeal.τ).loc Cert.ConvRestRefIdeal.main_arg1)
      ∧ r.2.mem ((c.tc : Thread Cert.ConvRestRefIdeal.nD Cert.ConvRestRefIdeal.τ).loc Cert.ConvRestRefIdeal.main_arg2) = m ((c.tc : Thread Cert.ConvRestRefIdeal.nD Cert.ConvRestRefIdeal.τ).loc Cert.ConvRestRefIdeal.main_arg2)
      ∧ r.2.mem ((c.tc : Thread Cert.ConvRestRefIdeal.nD Cert.ConvRestRefIdeal.τ).loc Cert.ConvRestRefIdeal.main_arg3) = m ((c.tc : Thread Cert.ConvRestRefIdeal.nD Cert.ConvRestRefIdeal.τ).loc Cert.ConvRestRefIdeal.main_arg3)
      ∧ r.2.mem ((c.tc : Thread Cert.ConvRestRefIdeal.nD Cert.ConvRestRefIdeal.τ).loc Cert.ConvRestRefIdeal.main_arg4) = m ((c.tc : Thread Cert.ConvRestRefIdeal.nD Cert.ConvRestRefIdeal.τ).loc Cert.ConvRestRefIdeal.main_arg4)
      ∧ r.2.mem ((c.tc : Thread Cert.ConvRestRefIdeal.nD Cert.ConvRestRefIdeal.τ).loc Cert.ConvRestRefIdeal.main_arg5) = m ((c.tc : Thread Cert.ConvRestRefIdeal.nD Cert.ConvRestRefIdeal.τ).loc Cert.ConvRestRefIdeal.main_arg5)
      ∧ r.2.mem ((c.tc : Thread Cert.ConvRestRefIdeal.nD Cert.ConvRestRefIdeal.τ).loc Cert.ConvRestRefIdeal.main_arg6) = m ((c.tc : Thread Cert.ConvRestRefIdeal.nD Cert.ConvRestRefIdeal.τ).loc Cert.ConvRestRefIdeal.main_arg6)
      ∧ r.2.mem ((c.tc : Thread Cert.ConvRestRefIdeal.nD Cert.ConvRestRefIdeal.τ).loc Cert.ConvRestRefIdeal.main_arg7) = m ((c.tc : Thread Cert.ConvRestRefIdeal.nD Cert.ConvRestRefIdeal.τ).loc Cert.ConvRestRefIdeal.main_arg7))
      ∧ r.2.sem = fun _ => 0)

def quiescent_ConvRestSample [hConvRestSample : Cert.ConvRestSample.Facts] : Prop :=
  ∀ (m : (ℓ : Loc Cert.ConvRestSample.nD Cert.ConvRestSample.τ Cert.ConvRestSample.sig) → Buf (Elt Bits) ℓ) (g : Dev Cert.ConvRestSample.nD → PrngReg), Pre_ConvRestSample m →
    θ_run (Cert.ConvRestSample.defs (F := Bits)) (onTc (τ := Cert.ConvRestSample.τ) (Cert.ConvRestSample.main (F := Bits))) ⟨m, fun _ => 0, g⟩ (fun r => (∀ c : Dev Cert.ConvRestSample.nD,
      r.2.mem ((c.tc : Thread Cert.ConvRestSample.nD Cert.ConvRestSample.τ).loc Cert.ConvRestSample.main_arg0) = m ((c.tc : Thread Cert.ConvRestSample.nD Cert.ConvRestSample.τ).loc Cert.ConvRestSample.main_arg0)
      ∧ r.2.mem ((c.tc : Thread Cert.ConvRestSample.nD Cert.ConvRestSample.τ).loc Cert.ConvRestSample.main_arg1) = m ((c.tc : Thread Cert.ConvRestSample.nD Cert.ConvRestSample.τ).loc Cert.ConvRestSample.main_arg1)
      ∧ r.2.mem ((c.tc : Thread Cert.ConvRestSample.nD Cert.ConvRestSample.τ).loc Cert.ConvRestSample.main_arg2) = m ((c.tc : Thread Cert.ConvRestSample.nD Cert.ConvRestSample.τ).loc Cert.ConvRestSample.main_arg2)
      ∧ r.2.mem ((c.tc : Thread Cert.ConvRestSample.nD Cert.ConvRestSample.τ).loc Cert.ConvRestSample.main_arg3) = m ((c.tc : Thread Cert.ConvRestSample.nD Cert.ConvRestSample.τ).loc Cert.ConvRestSample.main_arg3)
      ∧ r.2.mem ((c.tc : Thread Cert.ConvRestSample.nD Cert.ConvRestSample.τ).loc Cert.ConvRestSample.main_arg4) = m ((c.tc : Thread Cert.ConvRestSample.nD Cert.ConvRestSample.τ).loc Cert.ConvRestSample.main_arg4)
      ∧ r.2.mem ((c.tc : Thread Cert.ConvRestSample.nD Cert.ConvRestSample.τ).loc Cert.ConvRestSample.main_arg5) = m ((c.tc : Thread Cert.ConvRestSample.nD Cert.ConvRestSample.τ).loc Cert.ConvRestSample.main_arg5)
      ∧ r.2.mem ((c.tc : Thread Cert.ConvRestSample.nD Cert.ConvRestSample.τ).loc Cert.ConvRestSample.main_arg6) = m ((c.tc : Thread Cert.ConvRestSample.nD Cert.ConvRestSample.τ).loc Cert.ConvRestSample.main_arg6)
      ∧ r.2.mem ((c.tc : Thread Cert.ConvRestSample.nD Cert.ConvRestSample.τ).loc Cert.ConvRestSample.main_arg7) = m ((c.tc : Thread Cert.ConvRestSample.nD Cert.ConvRestSample.τ).loc Cert.ConvRestSample.main_arg7)
      ∧ r.2.mem ((c.tc : Thread Cert.ConvRestSample.nD Cert.ConvRestSample.τ).loc Cert.ConvRestSample.main_arg8) = m ((c.tc : Thread Cert.ConvRestSample.nD Cert.ConvRestSample.τ).loc Cert.ConvRestSample.main_arg8))
      ∧ r.2.sem = fun _ => 0)

def quiescent_ConvRestSampleIdeal [hConvRestSampleIdeal : Cert.ConvRestSampleIdeal.Facts] : Prop :=
  ∀ (m : (ℓ : Loc Cert.ConvRestSampleIdeal.nD Cert.ConvRestSampleIdeal.τ Cert.ConvRestSampleIdeal.sig) → Buf (Elt Ideal) ℓ) (g : Dev Cert.ConvRestSampleIdeal.nD → PrngReg), Pre_ConvRestSampleIdeal m →
    θ_run (Cert.ConvRestSampleIdeal.defs (F := Ideal)) (onTc (τ := Cert.ConvRestSampleIdeal.τ) (Cert.ConvRestSampleIdeal.main (F := Ideal))) ⟨m, fun _ => 0, g⟩ (fun r => (∀ c : Dev Cert.ConvRestSampleIdeal.nD,
      r.2.mem ((c.tc : Thread Cert.ConvRestSampleIdeal.nD Cert.ConvRestSampleIdeal.τ).loc Cert.ConvRestSampleIdeal.main_arg0) = m ((c.tc : Thread Cert.ConvRestSampleIdeal.nD Cert.ConvRestSampleIdeal.τ).loc Cert.ConvRestSampleIdeal.main_arg0)
      ∧ r.2.mem ((c.tc : Thread Cert.ConvRestSampleIdeal.nD Cert.ConvRestSampleIdeal.τ).loc Cert.ConvRestSampleIdeal.main_arg1) = m ((c.tc : Thread Cert.ConvRestSampleIdeal.nD Cert.ConvRestSampleIdeal.τ).loc Cert.ConvRestSampleIdeal.main_arg1)
      ∧ r.2.mem ((c.tc : Thread Cert.ConvRestSampleIdeal.nD Cert.ConvRestSampleIdeal.τ).loc Cert.ConvRestSampleIdeal.main_arg2) = m ((c.tc : Thread Cert.ConvRestSampleIdeal.nD Cert.ConvRestSampleIdeal.τ).loc Cert.ConvRestSampleIdeal.main_arg2)
      ∧ r.2.mem ((c.tc : Thread Cert.ConvRestSampleIdeal.nD Cert.ConvRestSampleIdeal.τ).loc Cert.ConvRestSampleIdeal.main_arg3) = m ((c.tc : Thread Cert.ConvRestSampleIdeal.nD Cert.ConvRestSampleIdeal.τ).loc Cert.ConvRestSampleIdeal.main_arg3)
      ∧ r.2.mem ((c.tc : Thread Cert.ConvRestSampleIdeal.nD Cert.ConvRestSampleIdeal.τ).loc Cert.ConvRestSampleIdeal.main_arg4) = m ((c.tc : Thread Cert.ConvRestSampleIdeal.nD Cert.ConvRestSampleIdeal.τ).loc Cert.ConvRestSampleIdeal.main_arg4)
      ∧ r.2.mem ((c.tc : Thread Cert.ConvRestSampleIdeal.nD Cert.ConvRestSampleIdeal.τ).loc Cert.ConvRestSampleIdeal.main_arg5) = m ((c.tc : Thread Cert.ConvRestSampleIdeal.nD Cert.ConvRestSampleIdeal.τ).loc Cert.ConvRestSampleIdeal.main_arg5)
      ∧ r.2.mem ((c.tc : Thread Cert.ConvRestSampleIdeal.nD Cert.ConvRestSampleIdeal.τ).loc Cert.ConvRestSampleIdeal.main_arg6) = m ((c.tc : Thread Cert.ConvRestSampleIdeal.nD Cert.ConvRestSampleIdeal.τ).loc Cert.ConvRestSampleIdeal.main_arg6)
      ∧ r.2.mem ((c.tc : Thread Cert.ConvRestSampleIdeal.nD Cert.ConvRestSampleIdeal.τ).loc Cert.ConvRestSampleIdeal.main_arg7) = m ((c.tc : Thread Cert.ConvRestSampleIdeal.nD Cert.ConvRestSampleIdeal.τ).loc Cert.ConvRestSampleIdeal.main_arg7)
      ∧ r.2.mem ((c.tc : Thread Cert.ConvRestSampleIdeal.nD Cert.ConvRestSampleIdeal.τ).loc Cert.ConvRestSampleIdeal.main_arg8) = m ((c.tc : Thread Cert.ConvRestSampleIdeal.nD Cert.ConvRestSampleIdeal.τ).loc Cert.ConvRestSampleIdeal.main_arg8))
      ∧ r.2.sem = fun _ => 0)

def quiescent_ConvRestSampleRefIdeal [hConvRestSampleRefIdeal : Cert.ConvRestSampleRefIdeal.Facts] : Prop :=
  ∀ (m : (ℓ : Loc Cert.ConvRestSampleRefIdeal.nD Cert.ConvRestSampleRefIdeal.τ Cert.ConvRestSampleRefIdeal.sig) → Buf (Elt Ideal) ℓ) (g : Dev Cert.ConvRestSampleRefIdeal.nD → PrngReg), Pre_ConvRestSampleRefIdeal m →
    θ_run (Cert.ConvRestSampleRefIdeal.defs (F := Ideal)) (onTc (τ := Cert.ConvRestSampleRefIdeal.τ) (Cert.ConvRestSampleRefIdeal.main (F := Ideal))) ⟨m, fun _ => 0, g⟩ (fun r => (∀ c : Dev Cert.ConvRestSampleRefIdeal.nD,
      r.2.mem ((c.tc : Thread Cert.ConvRestSampleRefIdeal.nD Cert.ConvRestSampleRefIdeal.τ).loc Cert.ConvRestSampleRefIdeal.main_arg0) = m ((c.tc : Thread Cert.ConvRestSampleRefIdeal.nD Cert.ConvRestSampleRefIdeal.τ).loc Cert.ConvRestSampleRefIdeal.main_arg0)
      ∧ r.2.mem ((c.tc : Thread Cert.ConvRestSampleRefIdeal.nD Cert.ConvRestSampleRefIdeal.τ).loc Cert.ConvRestSampleRefIdeal.main_arg1) = m ((c.tc : Thread Cert.ConvRestSampleRefIdeal.nD Cert.ConvRestSampleRefIdeal.τ).loc Cert.ConvRestSampleRefIdeal.main_arg1)
      ∧ r.2.mem ((c.tc : Thread Cert.ConvRestSampleRefIdeal.nD Cert.ConvRestSampleRefIdeal.τ).loc Cert.ConvRestSampleRefIdeal.main_arg2) = m ((c.tc : Thread Cert.ConvRestSampleRefIdeal.nD Cert.ConvRestSampleRefIdeal.τ).loc Cert.ConvRestSampleRefIdeal.main_arg2)
      ∧ r.2.mem ((c.tc : Thread Cert.ConvRestSampleRefIdeal.nD Cert.ConvRestSampleRefIdeal.τ).loc Cert.ConvRestSampleRefIdeal.main_arg3) = m ((c.tc : Thread Cert.ConvRestSampleRefIdeal.nD Cert.ConvRestSampleRefIdeal.τ).loc Cert.ConvRestSampleRefIdeal.main_arg3)
      ∧ r.2.mem ((c.tc : Thread Cert.ConvRestSampleRefIdeal.nD Cert.ConvRestSampleRefIdeal.τ).loc Cert.ConvRestSampleRefIdeal.main_arg4) = m ((c.tc : Thread Cert.ConvRestSampleRefIdeal.nD Cert.ConvRestSampleRefIdeal.τ).loc Cert.ConvRestSampleRefIdeal.main_arg4)
      ∧ r.2.mem ((c.tc : Thread Cert.ConvRestSampleRefIdeal.nD Cert.ConvRestSampleRefIdeal.τ).loc Cert.ConvRestSampleRefIdeal.main_arg5) = m ((c.tc : Thread Cert.ConvRestSampleRefIdeal.nD Cert.ConvRestSampleRefIdeal.τ).loc Cert.ConvRestSampleRefIdeal.main_arg5)
      ∧ r.2.mem ((c.tc : Thread Cert.ConvRestSampleRefIdeal.nD Cert.ConvRestSampleRefIdeal.τ).loc Cert.ConvRestSampleRefIdeal.main_arg6) = m ((c.tc : Thread Cert.ConvRestSampleRefIdeal.nD Cert.ConvRestSampleRefIdeal.τ).loc Cert.ConvRestSampleRefIdeal.main_arg6)
      ∧ r.2.mem ((c.tc : Thread Cert.ConvRestSampleRefIdeal.nD Cert.ConvRestSampleRefIdeal.τ).loc Cert.ConvRestSampleRefIdeal.main_arg7) = m ((c.tc : Thread Cert.ConvRestSampleRefIdeal.nD Cert.ConvRestSampleRefIdeal.τ).loc Cert.ConvRestSampleRefIdeal.main_arg7)
      ∧ r.2.mem ((c.tc : Thread Cert.ConvRestSampleRefIdeal.nD Cert.ConvRestSampleRefIdeal.τ).loc Cert.ConvRestSampleRefIdeal.main_arg8) = m ((c.tc : Thread Cert.ConvRestSampleRefIdeal.nD Cert.ConvRestSampleRefIdeal.τ).loc Cert.ConvRestSampleRefIdeal.main_arg8))
      ∧ r.2.sem = fun _ => 0)

def quiescent_SparseAttn [hSparseAttn : Cert.SparseAttn.Facts] : Prop :=
  ∀ (m : (ℓ : Loc Cert.SparseAttn.nD Cert.SparseAttn.τ Cert.SparseAttn.sig) → Buf (Elt Bits) ℓ) (g : Dev Cert.SparseAttn.nD → PrngReg), Pre_SparseAttn m →
    θ_run (Cert.SparseAttn.defs (F := Bits)) (onTc (τ := Cert.SparseAttn.τ) (Cert.SparseAttn.main (F := Bits))) ⟨m, fun _ => 0, g⟩ (fun r => (∀ c : Dev Cert.SparseAttn.nD,
      r.2.mem ((c.tc : Thread Cert.SparseAttn.nD Cert.SparseAttn.τ).loc Cert.SparseAttn.main_arg0) = m ((c.tc : Thread Cert.SparseAttn.nD Cert.SparseAttn.τ).loc Cert.SparseAttn.main_arg0)
      ∧ r.2.mem ((c.tc : Thread Cert.SparseAttn.nD Cert.SparseAttn.τ).loc Cert.SparseAttn.main_arg1) = m ((c.tc : Thread Cert.SparseAttn.nD Cert.SparseAttn.τ).loc Cert.SparseAttn.main_arg1)
      ∧ r.2.mem ((c.tc : Thread Cert.SparseAttn.nD Cert.SparseAttn.τ).loc Cert.SparseAttn.main_arg2) = m ((c.tc : Thread Cert.SparseAttn.nD Cert.SparseAttn.τ).loc Cert.SparseAttn.main_arg2)
      ∧ r.2.mem ((c.tc : Thread Cert.SparseAttn.nD Cert.SparseAttn.τ).loc Cert.SparseAttn.main_arg3) = m ((c.tc : Thread Cert.SparseAttn.nD Cert.SparseAttn.τ).loc Cert.SparseAttn.main_arg3)
      ∧ r.2.mem ((c.tc : Thread Cert.SparseAttn.nD Cert.SparseAttn.τ).loc Cert.SparseAttn.main_arg4) = m ((c.tc : Thread Cert.SparseAttn.nD Cert.SparseAttn.τ).loc Cert.SparseAttn.main_arg4)
      ∧ r.2.mem ((c.tc : Thread Cert.SparseAttn.nD Cert.SparseAttn.τ).loc Cert.SparseAttn.main_arg5) = m ((c.tc : Thread Cert.SparseAttn.nD Cert.SparseAttn.τ).loc Cert.SparseAttn.main_arg5)
      ∧ r.2.mem ((c.tc : Thread Cert.SparseAttn.nD Cert.SparseAttn.τ).loc Cert.SparseAttn.main_arg6) = m ((c.tc : Thread Cert.SparseAttn.nD Cert.SparseAttn.τ).loc Cert.SparseAttn.main_arg6))
      ∧ r.2.sem = fun _ => 0)

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)
      ∧ m' ((c.tc : Thread Cert.AttnProjRefIdeal.nD Cert.AttnProjRefIdeal.τ).loc Cert.AttnProjRefIdeal.main_arg2) = m ((c.tc : Thread Cert.AttnProjIdeal.nD Cert.AttnProjIdeal.τ).loc Cert.AttnProjIdeal.main_arg2)) →
    ∃ (v0 : (c : Dev Cert.AttnProjIdeal.nD) → Buf (Elt Ideal) ((c.tc : Thread Cert.AttnProjIdeal.nD Cert.AttnProjIdeal.τ).loc Cert.AttnProjIdeal.main_v16_0)) (v1 : (c : Dev Cert.AttnProjIdeal.nD) → Buf (Elt Ideal) ((c.tc : Thread Cert.AttnProjIdeal.nD Cert.AttnProjIdeal.τ).loc Cert.AttnProjIdeal.main_v16_1)) (v2 : (c : Dev Cert.AttnProjIdeal.nD) → Buf (Elt Ideal) ((c.tc : Thread Cert.AttnProjIdeal.nD Cert.AttnProjIdeal.τ).loc Cert.AttnProjIdeal.main_v16_2)) (v3 : (c : Dev Cert.AttnProjIdeal.nD) → Buf (Elt Ideal) ((c.tc : Thread Cert.AttnProjIdeal.nD Cert.AttnProjIdeal.τ).loc Cert.AttnProjIdeal.main_v16_7)) (v4 : (c : Dev Cert.AttnProjIdeal.nD) → Buf (Elt Ideal) ((c.tc : Thread Cert.AttnProjIdeal.nD Cert.AttnProjIdeal.τ).loc Cert.AttnProjIdeal.main_v16_3)) (v5 : (c : Dev Cert.AttnProjIdeal.nD) → Buf (Elt Ideal) ((c.tc : Thread Cert.AttnProjIdeal.nD Cert.AttnProjIdeal.τ).loc Cert.AttnProjIdeal.main_v17)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v16_0) = v0 c
          ∧ r.2.mem ((c.tc : Thread Cert.AttnProjIdeal.nD Cert.AttnProjIdeal.τ).loc Cert.AttnProjIdeal.main_v16_1) = v1 c
          ∧ r.2.mem ((c.tc : Thread Cert.AttnProjIdeal.nD Cert.AttnProjIdeal.τ).loc Cert.AttnProjIdeal.main_v16_2) = v2 c
          ∧ r.2.mem ((c.tc : Thread Cert.AttnProjIdeal.nD Cert.AttnProjIdeal.τ).loc Cert.AttnProjIdeal.main_v16_7) = v3 c
          ∧ r.2.mem ((c.tc : Thread Cert.AttnProjIdeal.nD Cert.AttnProjIdeal.τ).loc Cert.AttnProjIdeal.main_v16_3) = v4 c
          ∧ r.2.mem ((c.tc : Thread Cert.AttnProjIdeal.nD Cert.AttnProjIdeal.τ).loc Cert.AttnProjIdeal.main_v17) = v5 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v26) = v0 c
          ∧ r.2.mem ((c.tc : Thread Cert.AttnProjRefIdeal.nD Cert.AttnProjRefIdeal.τ).loc Cert.AttnProjRefIdeal.main_v27) = v1 c
          ∧ r.2.mem ((c.tc : Thread Cert.AttnProjRefIdeal.nD Cert.AttnProjRefIdeal.τ).loc Cert.AttnProjRefIdeal.main_v28) = v2 c
          ∧ r.2.mem ((c.tc : Thread Cert.AttnProjRefIdeal.nD Cert.AttnProjRefIdeal.τ).loc Cert.AttnProjRefIdeal.main_v31) = v3 c
          ∧ r.2.mem ((c.tc : Thread Cert.AttnProjRefIdeal.nD Cert.AttnProjRefIdeal.τ).loc Cert.AttnProjRefIdeal.main_v22) = v4 c
          ∧ r.2.mem ((c.tc : Thread Cert.AttnProjRefIdeal.nD Cert.AttnProjRefIdeal.τ).loc Cert.AttnProjRefIdeal.main_v33) = v5 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1)
          ∧ r.2.mem ((c.tc : Thread Cert.AttnProjRefIdeal.nD Cert.AttnProjRefIdeal.τ).loc Cert.AttnProjRefIdeal.main_arg2) = m' ((c.tc : Thread Cert.AttnProjRefIdeal.nD Cert.AttnProjRefIdeal.τ).loc Cert.AttnProjRefIdeal.main_arg2))

def preserves_AttnProjSample_AttnProjSampleIdeal : Prop :=
  True

def algebraic_AttnProjSampleIdeal_AttnProjSampleRefIdeal [hAttnProjSampleIdeal : Cert.AttnProjSampleIdeal.Facts] [hAttnProjSampleRefIdeal : Cert.AttnProjSampleRefIdeal.Facts] : Prop :=
  ∀ (m : (ℓ : Loc Cert.AttnProjSampleIdeal.nD Cert.AttnProjSampleIdeal.τ Cert.AttnProjSampleIdeal.sig) → Buf (Elt Ideal) ℓ) (g : Dev Cert.AttnProjSampleIdeal.nD → PrngReg)
    (m' : (ℓ : Loc Cert.AttnProjSampleRefIdeal.nD Cert.AttnProjSampleRefIdeal.τ Cert.AttnProjSampleRefIdeal.sig) → Buf (Elt Ideal) ℓ) (g' : Dev Cert.AttnProjSampleRefIdeal.nD → PrngReg), Pre_AttnProjSampleIdeal m →
    (∀ c : Dev Cert.AttnProjSampleIdeal.nD,
      m' ((c.tc : Thread Cert.AttnProjSampleRefIdeal.nD Cert.AttnProjSampleRefIdeal.τ).loc Cert.AttnProjSampleRefIdeal.main_arg0) = m ((c.tc : Thread Cert.AttnProjSampleIdeal.nD Cert.AttnProjSampleIdeal.τ).loc Cert.AttnProjSampleIdeal.main_arg0)
      ∧ m' ((c.tc : Thread Cert.AttnProjSampleRefIdeal.nD Cert.AttnProjSampleRefIdeal.τ).loc Cert.AttnProjSampleRefIdeal.main_arg1) = m ((c.tc : Thread Cert.AttnProjSampleIdeal.nD Cert.AttnProjSampleIdeal.τ).loc Cert.AttnProjSampleIdeal.main_arg1)
      ∧ m' ((c.tc : Thread Cert.AttnProjSampleRefIdeal.nD Cert.AttnProjSampleRefIdeal.τ).loc Cert.AttnProjSampleRefIdeal.main_arg2) = m ((c.tc : Thread Cert.AttnProjSampleIdeal.nD Cert.AttnProjSampleIdeal.τ).loc Cert.AttnProjSampleIdeal.main_arg2)) →
    ∃ (v0 : (c : Dev Cert.AttnProjSampleIdeal.nD) → Buf (Elt Ideal) ((c.tc : Thread Cert.AttnProjSampleIdeal.nD Cert.AttnProjSampleIdeal.τ).loc Cert.AttnProjSampleIdeal.main_v16_0)) (v1 : (c : Dev Cert.AttnProjSampleIdeal.nD) → Buf (Elt Ideal) ((c.tc : Thread Cert.AttnProjSampleIdeal.nD Cert.AttnProjSampleIdeal.τ).loc Cert.AttnProjSampleIdeal.main_v16_1)) (v2 : (c : Dev Cert.AttnProjSampleIdeal.nD) → Buf (Elt Ideal) ((c.tc : Thread Cert.AttnProjSampleIdeal.nD Cert.AttnProjSampleIdeal.τ).loc Cert.AttnProjSampleIdeal.main_v16_2)) (v3 : (c : Dev Cert.AttnProjSampleIdeal.nD) → Buf (Elt Ideal) ((c.tc : Thread Cert.AttnProjSampleIdeal.nD Cert.AttnProjSampleIdeal.τ).loc Cert.AttnProjSampleIdeal.main_v16_7)) (v4 : (c : Dev Cert.AttnProjSampleIdeal.nD) → Buf (Elt Ideal) ((c.tc : Thread Cert.AttnProjSampleIdeal.nD Cert.AttnProjSampleIdeal.τ).loc Cert.AttnProjSampleIdeal.main_v16_3)) (v5 : (c : Dev Cert.AttnProjSampleIdeal.nD) → Buf (Elt Ideal) ((c.tc : Thread Cert.AttnProjSampleIdeal.nD Cert.AttnProjSampleIdeal.τ).loc Cert.AttnProjSampleIdeal.main_v17)),
      θ_run (Cert.AttnProjSampleIdeal.defs (F := Ideal)) (onTc (τ := Cert.AttnProjSampleIdeal.τ) (Cert.AttnProjSampleIdeal.main (F := Ideal))) ⟨m, fun _ => 0, g⟩ (fun r => ∀ c : Dev Cert.AttnProjSampleIdeal.nD,
          r.2.mem ((c.tc : Thread Cert.AttnProjSampleIdeal.nD Cert.AttnProjSampleIdeal.τ).loc Cert.AttnProjSampleIdeal.main_v16_0) = v0 c
          ∧ r.2.mem ((c.tc : Thread Cert.AttnProjSampleIdeal.nD Cert.AttnProjSampleIdeal.τ).loc Cert.AttnProjSampleIdeal.main_v16_1) = v1 c
          ∧ r.2.mem ((c.tc : Thread Cert.AttnProjSampleIdeal.nD Cert.AttnProjSampleIdeal.τ).loc Cert.AttnProjSampleIdeal.main_v16_2) = v2 c
          ∧ r.2.mem ((c.tc : Thread Cert.AttnProjSampleIdeal.nD Cert.AttnProjSampleIdeal.τ).loc Cert.AttnProjSampleIdeal.main_v16_7) = v3 c
          ∧ r.2.mem ((c.tc : Thread Cert.AttnProjSampleIdeal.nD Cert.AttnProjSampleIdeal.τ).loc Cert.AttnProjSampleIdeal.main_v16_3) = v4 c
          ∧ r.2.mem ((c.tc : Thread Cert.AttnProjSampleIdeal.nD Cert.AttnProjSampleIdeal.τ).loc Cert.AttnProjSampleIdeal.main_v17) = v5 c
          ∧ r.2.mem ((c.tc : Thread Cert.AttnProjSampleIdeal.nD Cert.AttnProjSampleIdeal.τ).loc Cert.AttnProjSampleIdeal.main_arg0) = m ((c.tc : Thread Cert.AttnProjSampleIdeal.nD Cert.AttnProjSampleIdeal.τ).loc Cert.AttnProjSampleIdeal.main_arg0)
          ∧ r.2.mem ((c.tc : Thread Cert.AttnProjSampleIdeal.nD Cert.AttnProjSampleIdeal.τ).loc Cert.AttnProjSampleIdeal.main_arg1) = m ((c.tc : Thread Cert.AttnProjSampleIdeal.nD Cert.AttnProjSampleIdeal.τ).loc Cert.AttnProjSampleIdeal.main_arg1)
          ∧ r.2.mem ((c.tc : Thread Cert.AttnProjSampleIdeal.nD Cert.AttnProjSampleIdeal.τ).loc Cert.AttnProjSampleIdeal.main_arg2) = m ((c.tc : Thread Cert.AttnProjSampleIdeal.nD Cert.AttnProjSampleIdeal.τ).loc Cert.AttnProjSampleIdeal.main_arg2))
      ∧ θ_run (Cert.AttnProjSampleRefIdeal.defs (F := Ideal)) (onTc (τ := Cert.AttnProjSampleRefIdeal.τ) (Cert.AttnProjSampleRefIdeal.main (F := Ideal))) ⟨m', fun _ => 0, g'⟩ (fun r => ∀ c : Dev Cert.AttnProjSampleRefIdeal.nD,
          r.2.mem ((c.tc : Thread Cert.AttnProjSampleRefIdeal.nD Cert.AttnProjSampleRefIdeal.τ).loc Cert.AttnProjSampleRefIdeal.main_v26) = v0 c
          ∧ r.2.mem ((c.tc : Thread Cert.AttnProjSampleRefIdeal.nD Cert.AttnProjSampleRefIdeal.τ).loc Cert.AttnProjSampleRefIdeal.main_v27) = v1 c
          ∧ r.2.mem ((c.tc : Thread Cert.AttnProjSampleRefIdeal.nD Cert.AttnProjSampleRefIdeal.τ).loc Cert.AttnProjSampleRefIdeal.main_v28) = v2 c
          ∧ r.2.mem ((c.tc : Thread Cert.AttnProjSampleRefIdeal.nD Cert.AttnProjSampleRefIdeal.τ).loc Cert.AttnProjSampleRefIdeal.main_v31) = v3 c
          ∧ r.2.mem ((c.tc : Thread Cert.AttnProjSampleRefIdeal.nD Cert.AttnProjSampleRefIdeal.τ).loc Cert.AttnProjSampleRefIdeal.main_v22) = v4 c
          ∧ r.2.mem ((c.tc : Thread Cert.AttnProjSampleRefIdeal.nD Cert.AttnProjSampleRefIdeal.τ).loc Cert.AttnProjSampleRefIdeal.main_v33) = v5 c
          ∧ r.2.mem ((c.tc : Thread Cert.AttnProjSampleRefIdeal.nD Cert.AttnProjSampleRefIdeal.τ).loc Cert.AttnProjSampleRefIdeal.main_arg0) = m' ((c.tc : Thread Cert.AttnProjSampleRefIdeal.nD Cert.AttnProjSampleRefIdeal.τ).loc Cert.AttnProjSampleRefIdeal.main_arg0)
          ∧ r.2.mem ((c.tc : Thread Cert.AttnProjSampleRefIdeal.nD Cert.AttnProjSampleRefIdeal.τ).loc Cert.AttnProjSampleRefIdeal.main_arg1) = m' ((c.tc : Thread Cert.AttnProjSampleRefIdeal.nD Cert.AttnProjSampleRefIdeal.τ).loc Cert.AttnProjSampleRefIdeal.main_arg1)
          ∧ r.2.mem ((c.tc : Thread Cert.AttnProjSampleRefIdeal.nD Cert.AttnProjSampleRefIdeal.τ).loc Cert.AttnProjSampleRefIdeal.main_arg2) = m' ((c.tc : Thread Cert.AttnProjSampleRefIdeal.nD Cert.AttnProjSampleRefIdeal.τ).loc Cert.AttnProjSampleRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5_2)) (v1 : (c : Dev Cert.MemKvIdeal.nD) → Buf (Elt Ideal) ((c.tc : Thread Cert.MemKvIdeal.nD Cert.MemKvIdeal.τ).loc Cert.MemKvIdeal.main_v5_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5_2) = v0 c
          ∧ r.2.mem ((c.tc : Thread Cert.MemKvIdeal.nD Cert.MemKvIdeal.τ).loc Cert.MemKvIdeal.main_v5_3) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v20) = v0 c
          ∧ r.2.mem ((c.tc : Thread Cert.MemKvRefIdeal.nD Cert.MemKvRefIdeal.τ).loc Cert.MemKvRefIdeal.main_v21) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_MemKvNext_MemKvNextIdeal : Prop :=
  True

def algebraic_MemKvNextIdeal_MemKvNextRefIdeal [hMemKvNextIdeal : Cert.MemKvNextIdeal.Facts] [hMemKvNextRefIdeal : Cert.MemKvNextRefIdeal.Facts] : Prop :=
  ∀ (m : (ℓ : Loc Cert.MemKvNextIdeal.nD Cert.MemKvNextIdeal.τ Cert.MemKvNextIdeal.sig) → Buf (Elt Ideal) ℓ) (g : Dev Cert.MemKvNextIdeal.nD → PrngReg)
    (m' : (ℓ : Loc Cert.MemKvNextRefIdeal.nD Cert.MemKvNextRefIdeal.τ Cert.MemKvNextRefIdeal.sig) → Buf (Elt Ideal) ℓ) (g' : Dev Cert.MemKvNextRefIdeal.nD → PrngReg), Pre_MemKvNextIdeal m →
    (∀ c : Dev Cert.MemKvNextIdeal.nD,
      m' ((c.tc : Thread Cert.MemKvNextRefIdeal.nD Cert.MemKvNextRefIdeal.τ).loc Cert.MemKvNextRefIdeal.main_arg0) = m ((c.tc : Thread Cert.MemKvNextIdeal.nD Cert.MemKvNextIdeal.τ).loc Cert.MemKvNextIdeal.main_arg0)
      ∧ m' ((c.tc : Thread Cert.MemKvNextRefIdeal.nD Cert.MemKvNextRefIdeal.τ).loc Cert.MemKvNextRefIdeal.main_arg1) = m ((c.tc : Thread Cert.MemKvNextIdeal.nD Cert.MemKvNextIdeal.τ).loc Cert.MemKvNextIdeal.main_arg1)
      ∧ m' ((c.tc : Thread Cert.MemKvNextRefIdeal.nD Cert.MemKvNextRefIdeal.τ).loc Cert.MemKvNextRefIdeal.main_arg2) = m ((c.tc : Thread Cert.MemKvNextIdeal.nD Cert.MemKvNextIdeal.τ).loc Cert.MemKvNextIdeal.main_arg2)) →
    ∃ (v0 : (c : Dev Cert.MemKvNextIdeal.nD) → Buf (Elt Ideal) ((c.tc : Thread Cert.MemKvNextIdeal.nD Cert.MemKvNextIdeal.τ).loc Cert.MemKvNextIdeal.main_v5_2)) (v1 : (c : Dev Cert.MemKvNextIdeal.nD) → Buf (Elt Ideal) ((c.tc : Thread Cert.MemKvNextIdeal.nD Cert.MemKvNextIdeal.τ).loc Cert.MemKvNextIdeal.main_v5_3)),
      θ_run (Cert.MemKvNextIdeal.defs (F := Ideal)) (onTc (τ := Cert.MemKvNextIdeal.τ) (Cert.MemKvNextIdeal.main (F := Ideal))) ⟨m, fun _ => 0, g⟩ (fun r => ∀ c : Dev Cert.MemKvNextIdeal.nD,
          r.2.mem ((c.tc : Thread Cert.MemKvNextIdeal.nD Cert.MemKvNextIdeal.τ).loc Cert.MemKvNextIdeal.main_v5_2) = v0 c
          ∧ r.2.mem ((c.tc : Thread Cert.MemKvNextIdeal.nD Cert.MemKvNextIdeal.τ).loc Cert.MemKvNextIdeal.main_v5_3) = v1 c
          ∧ r.2.mem ((c.tc : Thread Cert.MemKvNextIdeal.nD Cert.MemKvNextIdeal.τ).loc Cert.MemKvNextIdeal.main_arg0) = m ((c.tc : Thread Cert.MemKvNextIdeal.nD Cert.MemKvNextIdeal.τ).loc Cert.MemKvNextIdeal.main_arg0)
          ∧ r.2.mem ((c.tc : Thread Cert.MemKvNextIdeal.nD Cert.MemKvNextIdeal.τ).loc Cert.MemKvNextIdeal.main_arg1) = m ((c.tc : Thread Cert.MemKvNextIdeal.nD Cert.MemKvNextIdeal.τ).loc Cert.MemKvNextIdeal.main_arg1)
          ∧ r.2.mem ((c.tc : Thread Cert.MemKvNextIdeal.nD Cert.MemKvNextIdeal.τ).loc Cert.MemKvNextIdeal.main_arg2) = m ((c.tc : Thread Cert.MemKvNextIdeal.nD Cert.MemKvNextIdeal.τ).loc Cert.MemKvNextIdeal.main_arg2))
      ∧ θ_run (Cert.MemKvNextRefIdeal.defs (F := Ideal)) (onTc (τ := Cert.MemKvNextRefIdeal.τ) (Cert.MemKvNextRefIdeal.main (F := Ideal))) ⟨m', fun _ => 0, g'⟩ (fun r => ∀ c : Dev Cert.MemKvNextRefIdeal.nD,
          r.2.mem ((c.tc : Thread Cert.MemKvNextRefIdeal.nD Cert.MemKvNextRefIdeal.τ).loc Cert.MemKvNextRefIdeal.main_v20) = v0 c
          ∧ r.2.mem ((c.tc : Thread Cert.MemKvNextRefIdeal.nD Cert.MemKvNextRefIdeal.τ).loc Cert.MemKvNextRefIdeal.main_v21) = v1 c
          ∧ r.2.mem ((c.tc : Thread Cert.MemKvNextRefIdeal.nD Cert.MemKvNextRefIdeal.τ).loc Cert.MemKvNextRefIdeal.main_arg0) = m' ((c.tc : Thread Cert.MemKvNextRefIdeal.nD Cert.MemKvNextRefIdeal.τ).loc Cert.MemKvNextRefIdeal.main_arg0)
          ∧ r.2.mem ((c.tc : Thread Cert.MemKvNextRefIdeal.nD Cert.MemKvNextRefIdeal.τ).loc Cert.MemKvNextRefIdeal.main_arg1) = m' ((c.tc : Thread Cert.MemKvNextRefIdeal.nD Cert.MemKvNextRefIdeal.τ).loc Cert.MemKvNextRefIdeal.main_arg1)
          ∧ r.2.mem ((c.tc : Thread Cert.MemKvNextRefIdeal.nD Cert.MemKvNextRefIdeal.τ).loc Cert.MemKvNextRefIdeal.main_arg2) = m' ((c.tc : Thread Cert.MemKvNextRefIdeal.nD Cert.MemKvNextRefIdeal.τ).loc Cert.MemKvNextRefIdeal.main_arg2))

def preserves_MemAttnFirst_MemAttnFirstIdeal : Prop :=
  True

def algebraic_MemAttnFirstIdeal_MemAttnFirstRefIdeal [hMemAttnFirstIdeal : Cert.MemAttnFirstIdeal.Facts] [hMemAttnFirstRefIdeal : Cert.MemAttnFirstRefIdeal.Facts] : Prop :=
  ∀ (m : (ℓ : Loc Cert.MemAttnFirstIdeal.nD Cert.MemAttnFirstIdeal.τ Cert.MemAttnFirstIdeal.sig) → Buf (Elt Ideal) ℓ) (g : Dev Cert.MemAttnFirstIdeal.nD → PrngReg)
    (m' : (ℓ : Loc Cert.MemAttnFirstRefIdeal.nD Cert.MemAttnFirstRefIdeal.τ Cert.MemAttnFirstRefIdeal.sig) → Buf (Elt Ideal) ℓ) (g' : Dev Cert.MemAttnFirstRefIdeal.nD → PrngReg), Pre_MemAttnFirstIdeal m →
    (∀ c : Dev Cert.MemAttnFirstIdeal.nD,
      m' ((c.tc : Thread Cert.MemAttnFirstRefIdeal.nD Cert.MemAttnFirstRefIdeal.τ).loc Cert.MemAttnFirstRefIdeal.main_arg0) = m ((c.tc : Thread Cert.MemAttnFirstIdeal.nD Cert.MemAttnFirstIdeal.τ).loc Cert.MemAttnFirstIdeal.main_arg0)
      ∧ m' ((c.tc : Thread Cert.MemAttnFirstRefIdeal.nD Cert.MemAttnFirstRefIdeal.τ).loc Cert.MemAttnFirstRefIdeal.main_arg1) = m ((c.tc : Thread Cert.MemAttnFirstIdeal.nD Cert.MemAttnFirstIdeal.τ).loc Cert.MemAttnFirstIdeal.main_arg1)
      ∧ m' ((c.tc : Thread Cert.MemAttnFirstRefIdeal.nD Cert.MemAttnFirstRefIdeal.τ).loc Cert.MemAttnFirstRefIdeal.main_arg2) = m ((c.tc : Thread Cert.MemAttnFirstIdeal.nD Cert.MemAttnFirstIdeal.τ).loc Cert.MemAttnFirstIdeal.main_arg2)
      ∧ m' ((c.tc : Thread Cert.MemAttnFirstRefIdeal.nD Cert.MemAttnFirstRefIdeal.τ).loc Cert.MemAttnFirstRefIdeal.main_arg3) = m ((c.tc : Thread Cert.MemAttnFirstIdeal.nD Cert.MemAttnFirstIdeal.τ).loc Cert.MemAttnFirstIdeal.main_arg3)
      ∧ m' ((c.tc : Thread Cert.MemAttnFirstRefIdeal.nD Cert.MemAttnFirstRefIdeal.τ).loc Cert.MemAttnFirstRefIdeal.main_arg4) = m ((c.tc : Thread Cert.MemAttnFirstIdeal.nD Cert.MemAttnFirstIdeal.τ).loc Cert.MemAttnFirstIdeal.main_arg4)
      ∧ m' ((c.tc : Thread Cert.MemAttnFirstRefIdeal.nD Cert.MemAttnFirstRefIdeal.τ).loc Cert.MemAttnFirstRefIdeal.main_arg5) = m ((c.tc : Thread Cert.MemAttnFirstIdeal.nD Cert.MemAttnFirstIdeal.τ).loc Cert.MemAttnFirstIdeal.main_arg5)
      ∧ m' ((c.tc : Thread Cert.MemAttnFirstRefIdeal.nD Cert.MemAttnFirstRefIdeal.τ).loc Cert.MemAttnFirstRefIdeal.main_arg6) = m ((c.tc : Thread Cert.MemAttnFirstIdeal.nD Cert.MemAttnFirstIdeal.τ).loc Cert.MemAttnFirstIdeal.main_arg6)
      ∧ m' ((c.tc : Thread Cert.MemAttnFirstRefIdeal.nD Cert.MemAttnFirstRefIdeal.τ).loc Cert.MemAttnFirstRefIdeal.main_arg7) = m ((c.tc : Thread Cert.MemAttnFirstIdeal.nD Cert.MemAttnFirstIdeal.τ).loc Cert.MemAttnFirstIdeal.main_arg7)) →
    ∃ (v0 : (c : Dev Cert.MemAttnFirstIdeal.nD) → Buf (Elt Ideal) ((c.tc : Thread Cert.MemAttnFirstIdeal.nD Cert.MemAttnFirstIdeal.τ).loc Cert.MemAttnFirstIdeal.main_v10)),
      θ_run (Cert.MemAttnFirstIdeal.defs (F := Ideal)) (onTc (τ := Cert.MemAttnFirstIdeal.τ) (Cert.MemAttnFirstIdeal.main (F := Ideal))) ⟨m, fun _ => 0, g⟩ (fun r => ∀ c : Dev Cert.MemAttnFirstIdeal.nD,
          r.2.mem ((c.tc : Thread Cert.MemAttnFirstIdeal.nD Cert.MemAttnFirstIdeal.τ).loc Cert.MemAttnFirstIdeal.main_v10) = v0 c
          ∧ r.2.mem ((c.tc : Thread Cert.MemAttnFirstIdeal.nD Cert.MemAttnFirstIdeal.τ).loc Cert.MemAttnFirstIdeal.main_arg0) = m ((c.tc : Thread Cert.MemAttnFirstIdeal.nD Cert.MemAttnFirstIdeal.τ).loc Cert.MemAttnFirstIdeal.main_arg0)
          ∧ r.2.mem ((c.tc : Thread Cert.MemAttnFirstIdeal.nD Cert.MemAttnFirstIdeal.τ).loc Cert.MemAttnFirstIdeal.main_arg1) = m ((c.tc : Thread Cert.MemAttnFirstIdeal.nD Cert.MemAttnFirstIdeal.τ).loc Cert.MemAttnFirstIdeal.main_arg1)
          ∧ r.2.mem ((c.tc : Thread Cert.MemAttnFirstIdeal.nD Cert.MemAttnFirstIdeal.τ).loc Cert.MemAttnFirstIdeal.main_arg2) = m ((c.tc : Thread Cert.MemAttnFirstIdeal.nD Cert.MemAttnFirstIdeal.τ).loc Cert.MemAttnFirstIdeal.main_arg2)
          ∧ r.2.mem ((c.tc : Thread Cert.MemAttnFirstIdeal.nD Cert.MemAttnFirstIdeal.τ).loc Cert.MemAttnFirstIdeal.main_arg3) = m ((c.tc : Thread Cert.MemAttnFirstIdeal.nD Cert.MemAttnFirstIdeal.τ).loc Cert.MemAttnFirstIdeal.main_arg3)
          ∧ r.2.mem ((c.tc : Thread Cert.MemAttnFirstIdeal.nD Cert.MemAttnFirstIdeal.τ).loc Cert.MemAttnFirstIdeal.main_arg4) = m ((c.tc : Thread Cert.MemAttnFirstIdeal.nD Cert.MemAttnFirstIdeal.τ).loc Cert.MemAttnFirstIdeal.main_arg4)
          ∧ r.2.mem ((c.tc : Thread Cert.MemAttnFirstIdeal.nD Cert.MemAttnFirstIdeal.τ).loc Cert.MemAttnFirstIdeal.main_arg5) = m ((c.tc : Thread Cert.MemAttnFirstIdeal.nD Cert.MemAttnFirstIdeal.τ).loc Cert.MemAttnFirstIdeal.main_arg5)
          ∧ r.2.mem ((c.tc : Thread Cert.MemAttnFirstIdeal.nD Cert.MemAttnFirstIdeal.τ).loc Cert.MemAttnFirstIdeal.main_arg6) = m ((c.tc : Thread Cert.MemAttnFirstIdeal.nD Cert.MemAttnFirstIdeal.τ).loc Cert.MemAttnFirstIdeal.main_arg6)
          ∧ r.2.mem ((c.tc : Thread Cert.MemAttnFirstIdeal.nD Cert.MemAttnFirstIdeal.τ).loc Cert.MemAttnFirstIdeal.main_arg7) = m ((c.tc : Thread Cert.MemAttnFirstIdeal.nD Cert.MemAttnFirstIdeal.τ).loc Cert.MemAttnFirstIdeal.main_arg7))
      ∧ θ_run (Cert.MemAttnFirstRefIdeal.defs (F := Ideal)) (onTc (τ := Cert.MemAttnFirstRefIdeal.τ) (Cert.MemAttnFirstRefIdeal.main (F := Ideal))) ⟨m', fun _ => 0, g'⟩ (fun r => ∀ c : Dev Cert.MemAttnFirstRefIdeal.nD,
          r.2.mem ((c.tc : Thread Cert.MemAttnFirstRefIdeal.nD Cert.MemAttnFirstRefIdeal.τ).loc Cert.MemAttnFirstRefIdeal.main_v44) = v0 c
          ∧ r.2.mem ((c.tc : Thread Cert.MemAttnFirstRefIdeal.nD Cert.MemAttnFirstRefIdeal.τ).loc Cert.MemAttnFirstRefIdeal.main_arg0) = m' ((c.tc : Thread Cert.MemAttnFirstRefIdeal.nD Cert.MemAttnFirstRefIdeal.τ).loc Cert.MemAttnFirstRefIdeal.main_arg0)
          ∧ r.2.mem ((c.tc : Thread Cert.MemAttnFirstRefIdeal.nD Cert.MemAttnFirstRefIdeal.τ).loc Cert.MemAttnFirstRefIdeal.main_arg1) = m' ((c.tc : Thread Cert.MemAttnFirstRefIdeal.nD Cert.MemAttnFirstRefIdeal.τ).loc Cert.MemAttnFirstRefIdeal.main_arg1)
          ∧ r.2.mem ((c.tc : Thread Cert.MemAttnFirstRefIdeal.nD Cert.MemAttnFirstRefIdeal.τ).loc Cert.MemAttnFirstRefIdeal.main_arg2) = m' ((c.tc : Thread Cert.MemAttnFirstRefIdeal.nD Cert.MemAttnFirstRefIdeal.τ).loc Cert.MemAttnFirstRefIdeal.main_arg2)
          ∧ r.2.mem ((c.tc : Thread Cert.MemAttnFirstRefIdeal.nD Cert.MemAttnFirstRefIdeal.τ).loc Cert.MemAttnFirstRefIdeal.main_arg3) = m' ((c.tc : Thread Cert.MemAttnFirstRefIdeal.nD Cert.MemAttnFirstRefIdeal.τ).loc Cert.MemAttnFirstRefIdeal.main_arg3)
          ∧ r.2.mem ((c.tc : Thread Cert.MemAttnFirstRefIdeal.nD Cert.MemAttnFirstRefIdeal.τ).loc Cert.MemAttnFirstRefIdeal.main_arg4) = m' ((c.tc : Thread Cert.MemAttnFirstRefIdeal.nD Cert.MemAttnFirstRefIdeal.τ).loc Cert.MemAttnFirstRefIdeal.main_arg4)
          ∧ r.2.mem ((c.tc : Thread Cert.MemAttnFirstRefIdeal.nD Cert.MemAttnFirstRefIdeal.τ).loc Cert.MemAttnFirstRefIdeal.main_arg5) = m' ((c.tc : Thread Cert.MemAttnFirstRefIdeal.nD Cert.MemAttnFirstRefIdeal.τ).loc Cert.MemAttnFirstRefIdeal.main_arg5)
          ∧ r.2.mem ((c.tc : Thread Cert.MemAttnFirstRefIdeal.nD Cert.MemAttnFirstRefIdeal.τ).loc Cert.MemAttnFirstRefIdeal.main_arg6) = m' ((c.tc : Thread Cert.MemAttnFirstRefIdeal.nD Cert.MemAttnFirstRefIdeal.τ).loc Cert.MemAttnFirstRefIdeal.main_arg6)
          ∧ r.2.mem ((c.tc : Thread Cert.MemAttnFirstRefIdeal.nD Cert.MemAttnFirstRefIdeal.τ).loc Cert.MemAttnFirstRefIdeal.main_arg7) = m' ((c.tc : Thread Cert.MemAttnFirstRefIdeal.nD Cert.MemAttnFirstRefIdeal.τ).loc Cert.MemAttnFirstRefIdeal.main_arg7))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)) →
    ∃ (v0 : (c : Dev Cert.MemAttnIdeal.nD) → Buf (Elt Ideal) ((c.tc : Thread Cert.MemAttnIdeal.nD Cert.MemAttnIdeal.τ).loc Cert.MemAttnIdeal.main_v8)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v8) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v40) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5))

def preserves_MemAttnFirstSample_MemAttnFirstSampleIdeal : Prop :=
  True

def algebraic_MemAttnFirstSampleIdeal_MemAttnFirstSampleRefIdeal [hMemAttnFirstSampleIdeal : Cert.MemAttnFirstSampleIdeal.Facts] [hMemAttnFirstSampleRefIdeal : Cert.MemAttnFirstSampleRefIdeal.Facts] : Prop :=
  ∀ (m : (ℓ : Loc Cert.MemAttnFirstSampleIdeal.nD Cert.MemAttnFirstSampleIdeal.τ Cert.MemAttnFirstSampleIdeal.sig) → Buf (Elt Ideal) ℓ) (g : Dev Cert.MemAttnFirstSampleIdeal.nD → PrngReg)
    (m' : (ℓ : Loc Cert.MemAttnFirstSampleRefIdeal.nD Cert.MemAttnFirstSampleRefIdeal.τ Cert.MemAttnFirstSampleRefIdeal.sig) → Buf (Elt Ideal) ℓ) (g' : Dev Cert.MemAttnFirstSampleRefIdeal.nD → PrngReg), Pre_MemAttnFirstSampleIdeal m →
    (∀ c : Dev Cert.MemAttnFirstSampleIdeal.nD,
      m' ((c.tc : Thread Cert.MemAttnFirstSampleRefIdeal.nD Cert.MemAttnFirstSampleRefIdeal.τ).loc Cert.MemAttnFirstSampleRefIdeal.main_arg0) = m ((c.tc : Thread Cert.MemAttnFirstSampleIdeal.nD Cert.MemAttnFirstSampleIdeal.τ).loc Cert.MemAttnFirstSampleIdeal.main_arg0)
      ∧ m' ((c.tc : Thread Cert.MemAttnFirstSampleRefIdeal.nD Cert.MemAttnFirstSampleRefIdeal.τ).loc Cert.MemAttnFirstSampleRefIdeal.main_arg1) = m ((c.tc : Thread Cert.MemAttnFirstSampleIdeal.nD Cert.MemAttnFirstSampleIdeal.τ).loc Cert.MemAttnFirstSampleIdeal.main_arg1)
      ∧ m' ((c.tc : Thread Cert.MemAttnFirstSampleRefIdeal.nD Cert.MemAttnFirstSampleRefIdeal.τ).loc Cert.MemAttnFirstSampleRefIdeal.main_arg2) = m ((c.tc : Thread Cert.MemAttnFirstSampleIdeal.nD Cert.MemAttnFirstSampleIdeal.τ).loc Cert.MemAttnFirstSampleIdeal.main_arg2)
      ∧ m' ((c.tc : Thread Cert.MemAttnFirstSampleRefIdeal.nD Cert.MemAttnFirstSampleRefIdeal.τ).loc Cert.MemAttnFirstSampleRefIdeal.main_arg3) = m ((c.tc : Thread Cert.MemAttnFirstSampleIdeal.nD Cert.MemAttnFirstSampleIdeal.τ).loc Cert.MemAttnFirstSampleIdeal.main_arg3)
      ∧ m' ((c.tc : Thread Cert.MemAttnFirstSampleRefIdeal.nD Cert.MemAttnFirstSampleRefIdeal.τ).loc Cert.MemAttnFirstSampleRefIdeal.main_arg4) = m ((c.tc : Thread Cert.MemAttnFirstSampleIdeal.nD Cert.MemAttnFirstSampleIdeal.τ).loc Cert.MemAttnFirstSampleIdeal.main_arg4)
      ∧ m' ((c.tc : Thread Cert.MemAttnFirstSampleRefIdeal.nD Cert.MemAttnFirstSampleRefIdeal.τ).loc Cert.MemAttnFirstSampleRefIdeal.main_arg5) = m ((c.tc : Thread Cert.MemAttnFirstSampleIdeal.nD Cert.MemAttnFirstSampleIdeal.τ).loc Cert.MemAttnFirstSampleIdeal.main_arg5)
      ∧ m' ((c.tc : Thread Cert.MemAttnFirstSampleRefIdeal.nD Cert.MemAttnFirstSampleRefIdeal.τ).loc Cert.MemAttnFirstSampleRefIdeal.main_arg6) = m ((c.tc : Thread Cert.MemAttnFirstSampleIdeal.nD Cert.MemAttnFirstSampleIdeal.τ).loc Cert.MemAttnFirstSampleIdeal.main_arg6)
      ∧ m' ((c.tc : Thread Cert.MemAttnFirstSampleRefIdeal.nD Cert.MemAttnFirstSampleRefIdeal.τ).loc Cert.MemAttnFirstSampleRefIdeal.main_arg7) = m ((c.tc : Thread Cert.MemAttnFirstSampleIdeal.nD Cert.MemAttnFirstSampleIdeal.τ).loc Cert.MemAttnFirstSampleIdeal.main_arg7)) →
    ∃ (v0 : (c : Dev Cert.MemAttnFirstSampleIdeal.nD) → Buf (Elt Ideal) ((c.tc : Thread Cert.MemAttnFirstSampleIdeal.nD Cert.MemAttnFirstSampleIdeal.τ).loc Cert.MemAttnFirstSampleIdeal.main_v12)),
      θ_run (Cert.MemAttnFirstSampleIdeal.defs (F := Ideal)) (onTc (τ := Cert.MemAttnFirstSampleIdeal.τ) (Cert.MemAttnFirstSampleIdeal.main (F := Ideal))) ⟨m, fun _ => 0, g⟩ (fun r => ∀ c : Dev Cert.MemAttnFirstSampleIdeal.nD,
          r.2.mem ((c.tc : Thread Cert.MemAttnFirstSampleIdeal.nD Cert.MemAttnFirstSampleIdeal.τ).loc Cert.MemAttnFirstSampleIdeal.main_v12) = v0 c
          ∧ r.2.mem ((c.tc : Thread Cert.MemAttnFirstSampleIdeal.nD Cert.MemAttnFirstSampleIdeal.τ).loc Cert.MemAttnFirstSampleIdeal.main_arg0) = m ((c.tc : Thread Cert.MemAttnFirstSampleIdeal.nD Cert.MemAttnFirstSampleIdeal.τ).loc Cert.MemAttnFirstSampleIdeal.main_arg0)
          ∧ r.2.mem ((c.tc : Thread Cert.MemAttnFirstSampleIdeal.nD Cert.MemAttnFirstSampleIdeal.τ).loc Cert.MemAttnFirstSampleIdeal.main_arg1) = m ((c.tc : Thread Cert.MemAttnFirstSampleIdeal.nD Cert.MemAttnFirstSampleIdeal.τ).loc Cert.MemAttnFirstSampleIdeal.main_arg1)
          ∧ r.2.mem ((c.tc : Thread Cert.MemAttnFirstSampleIdeal.nD Cert.MemAttnFirstSampleIdeal.τ).loc Cert.MemAttnFirstSampleIdeal.main_arg2) = m ((c.tc : Thread Cert.MemAttnFirstSampleIdeal.nD Cert.MemAttnFirstSampleIdeal.τ).loc Cert.MemAttnFirstSampleIdeal.main_arg2)
          ∧ r.2.mem ((c.tc : Thread Cert.MemAttnFirstSampleIdeal.nD Cert.MemAttnFirstSampleIdeal.τ).loc Cert.MemAttnFirstSampleIdeal.main_arg3) = m ((c.tc : Thread Cert.MemAttnFirstSampleIdeal.nD Cert.MemAttnFirstSampleIdeal.τ).loc Cert.MemAttnFirstSampleIdeal.main_arg3)
          ∧ r.2.mem ((c.tc : Thread Cert.MemAttnFirstSampleIdeal.nD Cert.MemAttnFirstSampleIdeal.τ).loc Cert.MemAttnFirstSampleIdeal.main_arg4) = m ((c.tc : Thread Cert.MemAttnFirstSampleIdeal.nD Cert.MemAttnFirstSampleIdeal.τ).loc Cert.MemAttnFirstSampleIdeal.main_arg4)
          ∧ r.2.mem ((c.tc : Thread Cert.MemAttnFirstSampleIdeal.nD Cert.MemAttnFirstSampleIdeal.τ).loc Cert.MemAttnFirstSampleIdeal.main_arg5) = m ((c.tc : Thread Cert.MemAttnFirstSampleIdeal.nD Cert.MemAttnFirstSampleIdeal.τ).loc Cert.MemAttnFirstSampleIdeal.main_arg5)
          ∧ r.2.mem ((c.tc : Thread Cert.MemAttnFirstSampleIdeal.nD Cert.MemAttnFirstSampleIdeal.τ).loc Cert.MemAttnFirstSampleIdeal.main_arg6) = m ((c.tc : Thread Cert.MemAttnFirstSampleIdeal.nD Cert.MemAttnFirstSampleIdeal.τ).loc Cert.MemAttnFirstSampleIdeal.main_arg6)
          ∧ r.2.mem ((c.tc : Thread Cert.MemAttnFirstSampleIdeal.nD Cert.MemAttnFirstSampleIdeal.τ).loc Cert.MemAttnFirstSampleIdeal.main_arg7) = m ((c.tc : Thread Cert.MemAttnFirstSampleIdeal.nD Cert.MemAttnFirstSampleIdeal.τ).loc Cert.MemAttnFirstSampleIdeal.main_arg7))
      ∧ θ_run (Cert.MemAttnFirstSampleRefIdeal.defs (F := Ideal)) (onTc (τ := Cert.MemAttnFirstSampleRefIdeal.τ) (Cert.MemAttnFirstSampleRefIdeal.main (F := Ideal))) ⟨m', fun _ => 0, g'⟩ (fun r => ∀ c : Dev Cert.MemAttnFirstSampleRefIdeal.nD,
          r.2.mem ((c.tc : Thread Cert.MemAttnFirstSampleRefIdeal.nD Cert.MemAttnFirstSampleRefIdeal.τ).loc Cert.MemAttnFirstSampleRefIdeal.main_v48) = v0 c
          ∧ r.2.mem ((c.tc : Thread Cert.MemAttnFirstSampleRefIdeal.nD Cert.MemAttnFirstSampleRefIdeal.τ).loc Cert.MemAttnFirstSampleRefIdeal.main_arg0) = m' ((c.tc : Thread Cert.MemAttnFirstSampleRefIdeal.nD Cert.MemAttnFirstSampleRefIdeal.τ).loc Cert.MemAttnFirstSampleRefIdeal.main_arg0)
          ∧ r.2.mem ((c.tc : Thread Cert.MemAttnFirstSampleRefIdeal.nD Cert.MemAttnFirstSampleRefIdeal.τ).loc Cert.MemAttnFirstSampleRefIdeal.main_arg1) = m' ((c.tc : Thread Cert.MemAttnFirstSampleRefIdeal.nD Cert.MemAttnFirstSampleRefIdeal.τ).loc Cert.MemAttnFirstSampleRefIdeal.main_arg1)
          ∧ r.2.mem ((c.tc : Thread Cert.MemAttnFirstSampleRefIdeal.nD Cert.MemAttnFirstSampleRefIdeal.τ).loc Cert.MemAttnFirstSampleRefIdeal.main_arg2) = m' ((c.tc : Thread Cert.MemAttnFirstSampleRefIdeal.nD Cert.MemAttnFirstSampleRefIdeal.τ).loc Cert.MemAttnFirstSampleRefIdeal.main_arg2)
          ∧ r.2.mem ((c.tc : Thread Cert.MemAttnFirstSampleRefIdeal.nD Cert.MemAttnFirstSampleRefIdeal.τ).loc Cert.MemAttnFirstSampleRefIdeal.main_arg3) = m' ((c.tc : Thread Cert.MemAttnFirstSampleRefIdeal.nD Cert.MemAttnFirstSampleRefIdeal.τ).loc Cert.MemAttnFirstSampleRefIdeal.main_arg3)
          ∧ r.2.mem ((c.tc : Thread Cert.MemAttnFirstSampleRefIdeal.nD Cert.MemAttnFirstSampleRefIdeal.τ).loc Cert.MemAttnFirstSampleRefIdeal.main_arg4) = m' ((c.tc : Thread Cert.MemAttnFirstSampleRefIdeal.nD Cert.MemAttnFirstSampleRefIdeal.τ).loc Cert.MemAttnFirstSampleRefIdeal.main_arg4)
          ∧ r.2.mem ((c.tc : Thread Cert.MemAttnFirstSampleRefIdeal.nD Cert.MemAttnFirstSampleRefIdeal.τ).loc Cert.MemAttnFirstSampleRefIdeal.main_arg5) = m' ((c.tc : Thread Cert.MemAttnFirstSampleRefIdeal.nD Cert.MemAttnFirstSampleRefIdeal.τ).loc Cert.MemAttnFirstSampleRefIdeal.main_arg5)
          ∧ r.2.mem ((c.tc : Thread Cert.MemAttnFirstSampleRefIdeal.nD Cert.MemAttnFirstSampleRefIdeal.τ).loc Cert.MemAttnFirstSampleRefIdeal.main_arg6) = m' ((c.tc : Thread Cert.MemAttnFirstSampleRefIdeal.nD Cert.MemAttnFirstSampleRefIdeal.τ).loc Cert.MemAttnFirstSampleRefIdeal.main_arg6)
          ∧ r.2.mem ((c.tc : Thread Cert.MemAttnFirstSampleRefIdeal.nD Cert.MemAttnFirstSampleRefIdeal.τ).loc Cert.MemAttnFirstSampleRefIdeal.main_arg7) = m' ((c.tc : Thread Cert.MemAttnFirstSampleRefIdeal.nD Cert.MemAttnFirstSampleRefIdeal.τ).loc Cert.MemAttnFirstSampleRefIdeal.main_arg7))

def preserves_MemAttnSample_MemAttnSampleIdeal : Prop :=
  True

def algebraic_MemAttnSampleIdeal_MemAttnSampleRefIdeal [hMemAttnSampleIdeal : Cert.MemAttnSampleIdeal.Facts] [hMemAttnSampleRefIdeal : Cert.MemAttnSampleRefIdeal.Facts] : Prop :=
  ∀ (m : (ℓ : Loc Cert.MemAttnSampleIdeal.nD Cert.MemAttnSampleIdeal.τ Cert.MemAttnSampleIdeal.sig) → Buf (Elt Ideal) ℓ) (g : Dev Cert.MemAttnSampleIdeal.nD → PrngReg)
    (m' : (ℓ : Loc Cert.MemAttnSampleRefIdeal.nD Cert.MemAttnSampleRefIdeal.τ Cert.MemAttnSampleRefIdeal.sig) → Buf (Elt Ideal) ℓ) (g' : Dev Cert.MemAttnSampleRefIdeal.nD → PrngReg), Pre_MemAttnSampleIdeal m →
    (∀ c : Dev Cert.MemAttnSampleIdeal.nD,
      m' ((c.tc : Thread Cert.MemAttnSampleRefIdeal.nD Cert.MemAttnSampleRefIdeal.τ).loc Cert.MemAttnSampleRefIdeal.main_arg0) = m ((c.tc : Thread Cert.MemAttnSampleIdeal.nD Cert.MemAttnSampleIdeal.τ).loc Cert.MemAttnSampleIdeal.main_arg0)
      ∧ m' ((c.tc : Thread Cert.MemAttnSampleRefIdeal.nD Cert.MemAttnSampleRefIdeal.τ).loc Cert.MemAttnSampleRefIdeal.main_arg1) = m ((c.tc : Thread Cert.MemAttnSampleIdeal.nD Cert.MemAttnSampleIdeal.τ).loc Cert.MemAttnSampleIdeal.main_arg1)
      ∧ m' ((c.tc : Thread Cert.MemAttnSampleRefIdeal.nD Cert.MemAttnSampleRefIdeal.τ).loc Cert.MemAttnSampleRefIdeal.main_arg2) = m ((c.tc : Thread Cert.MemAttnSampleIdeal.nD Cert.MemAttnSampleIdeal.τ).loc Cert.MemAttnSampleIdeal.main_arg2)
      ∧ m' ((c.tc : Thread Cert.MemAttnSampleRefIdeal.nD Cert.MemAttnSampleRefIdeal.τ).loc Cert.MemAttnSampleRefIdeal.main_arg3) = m ((c.tc : Thread Cert.MemAttnSampleIdeal.nD Cert.MemAttnSampleIdeal.τ).loc Cert.MemAttnSampleIdeal.main_arg3)
      ∧ m' ((c.tc : Thread Cert.MemAttnSampleRefIdeal.nD Cert.MemAttnSampleRefIdeal.τ).loc Cert.MemAttnSampleRefIdeal.main_arg4) = m ((c.tc : Thread Cert.MemAttnSampleIdeal.nD Cert.MemAttnSampleIdeal.τ).loc Cert.MemAttnSampleIdeal.main_arg4)
      ∧ m' ((c.tc : Thread Cert.MemAttnSampleRefIdeal.nD Cert.MemAttnSampleRefIdeal.τ).loc Cert.MemAttnSampleRefIdeal.main_arg5) = m ((c.tc : Thread Cert.MemAttnSampleIdeal.nD Cert.MemAttnSampleIdeal.τ).loc Cert.MemAttnSampleIdeal.main_arg5)) →
    ∃ (v0 : (c : Dev Cert.MemAttnSampleIdeal.nD) → Buf (Elt Ideal) ((c.tc : Thread Cert.MemAttnSampleIdeal.nD Cert.MemAttnSampleIdeal.τ).loc Cert.MemAttnSampleIdeal.main_v10)),
      θ_run (Cert.MemAttnSampleIdeal.defs (F := Ideal)) (onTc (τ := Cert.MemAttnSampleIdeal.τ) (Cert.MemAttnSampleIdeal.main (F := Ideal))) ⟨m, fun _ => 0, g⟩ (fun r => ∀ c : Dev Cert.MemAttnSampleIdeal.nD,
          r.2.mem ((c.tc : Thread Cert.MemAttnSampleIdeal.nD Cert.MemAttnSampleIdeal.τ).loc Cert.MemAttnSampleIdeal.main_v10) = v0 c
          ∧ r.2.mem ((c.tc : Thread Cert.MemAttnSampleIdeal.nD Cert.MemAttnSampleIdeal.τ).loc Cert.MemAttnSampleIdeal.main_arg0) = m ((c.tc : Thread Cert.MemAttnSampleIdeal.nD Cert.MemAttnSampleIdeal.τ).loc Cert.MemAttnSampleIdeal.main_arg0)
          ∧ r.2.mem ((c.tc : Thread Cert.MemAttnSampleIdeal.nD Cert.MemAttnSampleIdeal.τ).loc Cert.MemAttnSampleIdeal.main_arg1) = m ((c.tc : Thread Cert.MemAttnSampleIdeal.nD Cert.MemAttnSampleIdeal.τ).loc Cert.MemAttnSampleIdeal.main_arg1)
          ∧ r.2.mem ((c.tc : Thread Cert.MemAttnSampleIdeal.nD Cert.MemAttnSampleIdeal.τ).loc Cert.MemAttnSampleIdeal.main_arg2) = m ((c.tc : Thread Cert.MemAttnSampleIdeal.nD Cert.MemAttnSampleIdeal.τ).loc Cert.MemAttnSampleIdeal.main_arg2)
          ∧ r.2.mem ((c.tc : Thread Cert.MemAttnSampleIdeal.nD Cert.MemAttnSampleIdeal.τ).loc Cert.MemAttnSampleIdeal.main_arg3) = m ((c.tc : Thread Cert.MemAttnSampleIdeal.nD Cert.MemAttnSampleIdeal.τ).loc Cert.MemAttnSampleIdeal.main_arg3)
          ∧ r.2.mem ((c.tc : Thread Cert.MemAttnSampleIdeal.nD Cert.MemAttnSampleIdeal.τ).loc Cert.MemAttnSampleIdeal.main_arg4) = m ((c.tc : Thread Cert.MemAttnSampleIdeal.nD Cert.MemAttnSampleIdeal.τ).loc Cert.MemAttnSampleIdeal.main_arg4)
          ∧ r.2.mem ((c.tc : Thread Cert.MemAttnSampleIdeal.nD Cert.MemAttnSampleIdeal.τ).loc Cert.MemAttnSampleIdeal.main_arg5) = m ((c.tc : Thread Cert.MemAttnSampleIdeal.nD Cert.MemAttnSampleIdeal.τ).loc Cert.MemAttnSampleIdeal.main_arg5))
      ∧ θ_run (Cert.MemAttnSampleRefIdeal.defs (F := Ideal)) (onTc (τ := Cert.MemAttnSampleRefIdeal.τ) (Cert.MemAttnSampleRefIdeal.main (F := Ideal))) ⟨m', fun _ => 0, g'⟩ (fun r => ∀ c : Dev Cert.MemAttnSampleRefIdeal.nD,
          r.2.mem ((c.tc : Thread Cert.MemAttnSampleRefIdeal.nD Cert.MemAttnSampleRefIdeal.τ).loc Cert.MemAttnSampleRefIdeal.main_v44) = v0 c
          ∧ r.2.mem ((c.tc : Thread Cert.MemAttnSampleRefIdeal.nD Cert.MemAttnSampleRefIdeal.τ).loc Cert.MemAttnSampleRefIdeal.main_arg0) = m' ((c.tc : Thread Cert.MemAttnSampleRefIdeal.nD Cert.MemAttnSampleRefIdeal.τ).loc Cert.MemAttnSampleRefIdeal.main_arg0)
          ∧ r.2.mem ((c.tc : Thread Cert.MemAttnSampleRefIdeal.nD Cert.MemAttnSampleRefIdeal.τ).loc Cert.MemAttnSampleRefIdeal.main_arg1) = m' ((c.tc : Thread Cert.MemAttnSampleRefIdeal.nD Cert.MemAttnSampleRefIdeal.τ).loc Cert.MemAttnSampleRefIdeal.main_arg1)
          ∧ r.2.mem ((c.tc : Thread Cert.MemAttnSampleRefIdeal.nD Cert.MemAttnSampleRefIdeal.τ).loc Cert.MemAttnSampleRefIdeal.main_arg2) = m' ((c.tc : Thread Cert.MemAttnSampleRefIdeal.nD Cert.MemAttnSampleRefIdeal.τ).loc Cert.MemAttnSampleRefIdeal.main_arg2)
          ∧ r.2.mem ((c.tc : Thread Cert.MemAttnSampleRefIdeal.nD Cert.MemAttnSampleRefIdeal.τ).loc Cert.MemAttnSampleRefIdeal.main_arg3) = m' ((c.tc : Thread Cert.MemAttnSampleRefIdeal.nD Cert.MemAttnSampleRefIdeal.τ).loc Cert.MemAttnSampleRefIdeal.main_arg3)
          ∧ r.2.mem ((c.tc : Thread Cert.MemAttnSampleRefIdeal.nD Cert.MemAttnSampleRefIdeal.τ).loc Cert.MemAttnSampleRefIdeal.main_arg4) = m' ((c.tc : Thread Cert.MemAttnSampleRefIdeal.nD Cert.MemAttnSampleRefIdeal.τ).loc Cert.MemAttnSampleRefIdeal.main_arg4)
          ∧ r.2.mem ((c.tc : Thread Cert.MemAttnSampleRefIdeal.nD Cert.MemAttnSampleRefIdeal.τ).loc Cert.MemAttnSampleRefIdeal.main_arg5) = m' ((c.tc : Thread Cert.MemAttnSampleRefIdeal.nD Cert.MemAttnSampleRefIdeal.τ).loc Cert.MemAttnSampleRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v37) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)) →
    ∃ (v0 : (c : Dev Cert.MlpSampleIdeal.nD) → Buf (Elt Ideal) ((c.tc : Thread Cert.MlpSampleIdeal.nD Cert.MlpSampleIdeal.τ).loc Cert.MlpSampleIdeal.main_v7)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v7) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v37) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4))

def preserves_MlpFirst_MlpFirstIdeal : Prop :=
  True

def algebraic_MlpFirstIdeal_MlpFirstRefIdeal [hMlpFirstIdeal : Cert.MlpFirstIdeal.Facts] [hMlpFirstRefIdeal : Cert.MlpFirstRefIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg)
    (m' : (ℓ : Loc Cert.MlpFirstRefIdeal.nD Cert.MlpFirstRefIdeal.τ Cert.MlpFirstRefIdeal.sig) → Buf (Elt Ideal) ℓ) (g' : Dev Cert.MlpFirstRefIdeal.nD → PrngReg), Pre_MlpFirstIdeal m →
    (∀ c : Dev Cert.MlpFirstIdeal.nD,
      m' ((c.tc : Thread Cert.MlpFirstRefIdeal.nD Cert.MlpFirstRefIdeal.τ).loc Cert.MlpFirstRefIdeal.main_arg0) = m ((c.tc : Thread Cert.MlpFirstIdeal.nD Cert.MlpFirstIdeal.τ).loc Cert.MlpFirstIdeal.main_arg0)
      ∧ m' ((c.tc : Thread Cert.MlpFirstRefIdeal.nD Cert.MlpFirstRefIdeal.τ).loc Cert.MlpFirstRefIdeal.main_arg1) = m ((c.tc : Thread Cert.MlpFirstIdeal.nD Cert.MlpFirstIdeal.τ).loc Cert.MlpFirstIdeal.main_arg1)
      ∧ m' ((c.tc : Thread Cert.MlpFirstRefIdeal.nD Cert.MlpFirstRefIdeal.τ).loc Cert.MlpFirstRefIdeal.main_arg2) = m ((c.tc : Thread Cert.MlpFirstIdeal.nD Cert.MlpFirstIdeal.τ).loc Cert.MlpFirstIdeal.main_arg2)
      ∧ m' ((c.tc : Thread Cert.MlpFirstRefIdeal.nD Cert.MlpFirstRefIdeal.τ).loc Cert.MlpFirstRefIdeal.main_arg3) = m ((c.tc : Thread Cert.MlpFirstIdeal.nD Cert.MlpFirstIdeal.τ).loc Cert.MlpFirstIdeal.main_arg3)) →
    ∃ (v0 : (c : Dev Cert.MlpFirstIdeal.nD) → Buf (Elt Ideal) ((c.tc : Thread Cert.MlpFirstIdeal.nD Cert.MlpFirstIdeal.τ).loc Cert.MlpFirstIdeal.main_v6)),
      θ_run (Cert.MlpFirstIdeal.defs (F := Ideal)) (onTc (τ := Cert.MlpFirstIdeal.τ) (Cert.MlpFirstIdeal.main (F := Ideal))) ⟨m, fun _ => 0, g⟩ (fun r => ∀ c : Dev Cert.MlpFirstIdeal.nD,
          r.2.mem ((c.tc : Thread Cert.MlpFirstIdeal.nD Cert.MlpFirstIdeal.τ).loc Cert.MlpFirstIdeal.main_v6) = v0 c
          ∧ r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
          ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
          ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
          ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3))
      ∧ θ_run (Cert.MlpFirstRefIdeal.defs (F := Ideal)) (onTc (τ := Cert.MlpFirstRefIdeal.τ) (Cert.MlpFirstRefIdeal.main (F := Ideal))) ⟨m', fun _ => 0, g'⟩ (fun r => ∀ c : Dev Cert.MlpFirstRefIdeal.nD,
          r.2.mem ((c.tc : Thread Cert.MlpFirstRefIdeal.nD Cert.MlpFirstRefIdeal.τ).loc Cert.MlpFirstRefIdeal.main_v24) = v0 c
          ∧ r.2.mem ((c.tc : Thread Cert.MlpFirstRefIdeal.nD Cert.MlpFirstRefIdeal.τ).loc Cert.MlpFirstRefIdeal.main_arg0) = m' ((c.tc : Thread Cert.MlpFirstRefIdeal.nD Cert.MlpFirstRefIdeal.τ).loc Cert.MlpFirstRefIdeal.main_arg0)
          ∧ r.2.mem ((c.tc : Thread Cert.MlpFirstRefIdeal.nD Cert.MlpFirstRefIdeal.τ).loc Cert.MlpFirstRefIdeal.main_arg1) = m' ((c.tc : Thread Cert.MlpFirstRefIdeal.nD Cert.MlpFirstRefIdeal.τ).loc Cert.MlpFirstRefIdeal.main_arg1)
          ∧ r.2.mem ((c.tc : Thread Cert.MlpFirstRefIdeal.nD Cert.MlpFirstRefIdeal.τ).loc Cert.MlpFirstRefIdeal.main_arg2) = m' ((c.tc : Thread Cert.MlpFirstRefIdeal.nD Cert.MlpFirstRefIdeal.τ).loc Cert.MlpFirstRefIdeal.main_arg2)
          ∧ r.2.mem ((c.tc : Thread Cert.MlpFirstRefIdeal.nD Cert.MlpFirstRefIdeal.τ).loc Cert.MlpFirstRefIdeal.main_arg3) = m' ((c.tc : Thread Cert.MlpFirstRefIdeal.nD Cert.MlpFirstRefIdeal.τ).loc Cert.MlpFirstRefIdeal.main_arg3))

def preserves_MlpFirstSample_MlpFirstSampleIdeal : Prop :=
  True

def algebraic_MlpFirstSampleIdeal_MlpFirstSampleRefIdeal [hMlpFirstSampleIdeal : Cert.MlpFirstSampleIdeal.Facts] [hMlpFirstSampleRefIdeal : Cert.MlpFirstSampleRefIdeal.Facts] : Prop :=
  ∀ (m : (ℓ : Loc Cert.MlpFirstSampleIdeal.nD Cert.MlpFirstSampleIdeal.τ Cert.MlpFirstSampleIdeal.sig) → Buf (Elt Ideal) ℓ) (g : Dev Cert.MlpFirstSampleIdeal.nD → PrngReg)
    (m' : (ℓ : Loc Cert.MlpFirstSampleRefIdeal.nD Cert.MlpFirstSampleRefIdeal.τ Cert.MlpFirstSampleRefIdeal.sig) → Buf (Elt Ideal) ℓ) (g' : Dev Cert.MlpFirstSampleRefIdeal.nD → PrngReg), Pre_MlpFirstSampleIdeal m →
    (∀ c : Dev Cert.MlpFirstSampleIdeal.nD,
      m' ((c.tc : Thread Cert.MlpFirstSampleRefIdeal.nD Cert.MlpFirstSampleRefIdeal.τ).loc Cert.MlpFirstSampleRefIdeal.main_arg0) = m ((c.tc : Thread Cert.MlpFirstSampleIdeal.nD Cert.MlpFirstSampleIdeal.τ).loc Cert.MlpFirstSampleIdeal.main_arg0)
      ∧ m' ((c.tc : Thread Cert.MlpFirstSampleRefIdeal.nD Cert.MlpFirstSampleRefIdeal.τ).loc Cert.MlpFirstSampleRefIdeal.main_arg1) = m ((c.tc : Thread Cert.MlpFirstSampleIdeal.nD Cert.MlpFirstSampleIdeal.τ).loc Cert.MlpFirstSampleIdeal.main_arg1)
      ∧ m' ((c.tc : Thread Cert.MlpFirstSampleRefIdeal.nD Cert.MlpFirstSampleRefIdeal.τ).loc Cert.MlpFirstSampleRefIdeal.main_arg2) = m ((c.tc : Thread Cert.MlpFirstSampleIdeal.nD Cert.MlpFirstSampleIdeal.τ).loc Cert.MlpFirstSampleIdeal.main_arg2)
      ∧ m' ((c.tc : Thread Cert.MlpFirstSampleRefIdeal.nD Cert.MlpFirstSampleRefIdeal.τ).loc Cert.MlpFirstSampleRefIdeal.main_arg3) = m ((c.tc : Thread Cert.MlpFirstSampleIdeal.nD Cert.MlpFirstSampleIdeal.τ).loc Cert.MlpFirstSampleIdeal.main_arg3)) →
    ∃ (v0 : (c : Dev Cert.MlpFirstSampleIdeal.nD) → Buf (Elt Ideal) ((c.tc : Thread Cert.MlpFirstSampleIdeal.nD Cert.MlpFirstSampleIdeal.τ).loc Cert.MlpFirstSampleIdeal.main_v6)),
      θ_run (Cert.MlpFirstSampleIdeal.defs (F := Ideal)) (onTc (τ := Cert.MlpFirstSampleIdeal.τ) (Cert.MlpFirstSampleIdeal.main (F := Ideal))) ⟨m, fun _ => 0, g⟩ (fun r => ∀ c : Dev Cert.MlpFirstSampleIdeal.nD,
          r.2.mem ((c.tc : Thread Cert.MlpFirstSampleIdeal.nD Cert.MlpFirstSampleIdeal.τ).loc Cert.MlpFirstSampleIdeal.main_v6) = v0 c
          ∧ r.2.mem ((c.tc : Thread Cert.MlpFirstSampleIdeal.nD Cert.MlpFirstSampleIdeal.τ).loc Cert.MlpFirstSampleIdeal.main_arg0) = m ((c.tc : Thread Cert.MlpFirstSampleIdeal.nD Cert.MlpFirstSampleIdeal.τ).loc Cert.MlpFirstSampleIdeal.main_arg0)
          ∧ r.2.mem ((c.tc : Thread Cert.MlpFirstSampleIdeal.nD Cert.MlpFirstSampleIdeal.τ).loc Cert.MlpFirstSampleIdeal.main_arg1) = m ((c.tc : Thread Cert.MlpFirstSampleIdeal.nD Cert.MlpFirstSampleIdeal.τ).loc Cert.MlpFirstSampleIdeal.main_arg1)
          ∧ r.2.mem ((c.tc : Thread Cert.MlpFirstSampleIdeal.nD Cert.MlpFirstSampleIdeal.τ).loc Cert.MlpFirstSampleIdeal.main_arg2) = m ((c.tc : Thread Cert.MlpFirstSampleIdeal.nD Cert.MlpFirstSampleIdeal.τ).loc Cert.MlpFirstSampleIdeal.main_arg2)
          ∧ r.2.mem ((c.tc : Thread Cert.MlpFirstSampleIdeal.nD Cert.MlpFirstSampleIdeal.τ).loc Cert.MlpFirstSampleIdeal.main_arg3) = m ((c.tc : Thread Cert.MlpFirstSampleIdeal.nD Cert.MlpFirstSampleIdeal.τ).loc Cert.MlpFirstSampleIdeal.main_arg3))
      ∧ θ_run (Cert.MlpFirstSampleRefIdeal.defs (F := Ideal)) (onTc (τ := Cert.MlpFirstSampleRefIdeal.τ) (Cert.MlpFirstSampleRefIdeal.main (F := Ideal))) ⟨m', fun _ => 0, g'⟩ (fun r => ∀ c : Dev Cert.MlpFirstSampleRefIdeal.nD,
          r.2.mem ((c.tc : Thread Cert.MlpFirstSampleRefIdeal.nD Cert.MlpFirstSampleRefIdeal.τ).loc Cert.MlpFirstSampleRefIdeal.main_v24) = v0 c
          ∧ r.2.mem ((c.tc : Thread Cert.MlpFirstSampleRefIdeal.nD Cert.MlpFirstSampleRefIdeal.τ).loc Cert.MlpFirstSampleRefIdeal.main_arg0) = m' ((c.tc : Thread Cert.MlpFirstSampleRefIdeal.nD Cert.MlpFirstSampleRefIdeal.τ).loc Cert.MlpFirstSampleRefIdeal.main_arg0)
          ∧ r.2.mem ((c.tc : Thread Cert.MlpFirstSampleRefIdeal.nD Cert.MlpFirstSampleRefIdeal.τ).loc Cert.MlpFirstSampleRefIdeal.main_arg1) = m' ((c.tc : Thread Cert.MlpFirstSampleRefIdeal.nD Cert.MlpFirstSampleRefIdeal.τ).loc Cert.MlpFirstSampleRefIdeal.main_arg1)
          ∧ r.2.mem ((c.tc : Thread Cert.MlpFirstSampleRefIdeal.nD Cert.MlpFirstSampleRefIdeal.τ).loc Cert.MlpFirstSampleRefIdeal.main_arg2) = m' ((c.tc : Thread Cert.MlpFirstSampleRefIdeal.nD Cert.MlpFirstSampleRefIdeal.τ).loc Cert.MlpFirstSampleRefIdeal.main_arg2)
          ∧ r.2.mem ((c.tc : Thread Cert.MlpFirstSampleRefIdeal.nD Cert.MlpFirstSampleRefIdeal.τ).loc Cert.MlpFirstSampleRefIdeal.main_arg3) = m' ((c.tc : Thread Cert.MlpFirstSampleRefIdeal.nD Cert.MlpFirstSampleRefIdeal.τ).loc Cert.MlpFirstSampleRefIdeal.main_arg3))

def preserves_ConvGlu_ConvGluIdeal : Prop :=
  True

def algebraic_ConvGluIdeal_ConvGluRefIdeal [hConvGluIdeal : Cert.ConvGluIdeal.Facts] [hConvGluRefIdeal : Cert.ConvGluRefIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg)
    (m' : (ℓ : Loc Cert.ConvGluRefIdeal.nD Cert.ConvGluRefIdeal.τ Cert.ConvGluRefIdeal.sig) → Buf (Elt Ideal) ℓ) (g' : Dev Cert.ConvGluRefIdeal.nD → PrngReg), Pre_ConvGluIdeal m →
    (∀ c : Dev Cert.ConvGluIdeal.nD,
      m' ((c.tc : Thread Cert.ConvGluRefIdeal.nD Cert.ConvGluRefIdeal.τ).loc Cert.ConvGluRefIdeal.main_arg0) = m ((c.tc : Thread Cert.ConvGluIdeal.nD Cert.ConvGluIdeal.τ).loc Cert.ConvGluIdeal.main_arg0)
      ∧ m' ((c.tc : Thread Cert.ConvGluRefIdeal.nD Cert.ConvGluRefIdeal.τ).loc Cert.ConvGluRefIdeal.main_arg1) = m ((c.tc : Thread Cert.ConvGluIdeal.nD Cert.ConvGluIdeal.τ).loc Cert.ConvGluIdeal.main_arg1)
      ∧ m' ((c.tc : Thread Cert.ConvGluRefIdeal.nD Cert.ConvGluRefIdeal.τ).loc Cert.ConvGluRefIdeal.main_arg2) = m ((c.tc : Thread Cert.ConvGluIdeal.nD Cert.ConvGluIdeal.τ).loc Cert.ConvGluIdeal.main_arg2)
      ∧ m' ((c.tc : Thread Cert.ConvGluRefIdeal.nD Cert.ConvGluRefIdeal.τ).loc Cert.ConvGluRefIdeal.main_arg3) = m ((c.tc : Thread Cert.ConvGluIdeal.nD Cert.ConvGluIdeal.τ).loc Cert.ConvGluIdeal.main_arg3)) →
    ∃ (v0 : (c : Dev Cert.ConvGluIdeal.nD) → Buf (Elt Ideal) ((c.tc : Thread Cert.ConvGluIdeal.nD Cert.ConvGluIdeal.τ).loc Cert.ConvGluIdeal.main_v8)) (v1 : (c : Dev Cert.ConvGluIdeal.nD) → Buf (Elt Ideal) ((c.tc : Thread Cert.ConvGluIdeal.nD Cert.ConvGluIdeal.τ).loc Cert.ConvGluIdeal.main_v9)),
      θ_run (Cert.ConvGluIdeal.defs (F := Ideal)) (onTc (τ := Cert.ConvGluIdeal.τ) (Cert.ConvGluIdeal.main (F := Ideal))) ⟨m, fun _ => 0, g⟩ (fun r => ∀ c : Dev Cert.ConvGluIdeal.nD,
          r.2.mem ((c.tc : Thread Cert.ConvGluIdeal.nD Cert.ConvGluIdeal.τ).loc Cert.ConvGluIdeal.main_v8) = v0 c
          ∧ r.2.mem ((c.tc : Thread Cert.ConvGluIdeal.nD Cert.ConvGluIdeal.τ).loc Cert.ConvGluIdeal.main_v9) = v1 c
          ∧ r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
          ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
          ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
          ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3))
      ∧ θ_run (Cert.ConvGluRefIdeal.defs (F := Ideal)) (onTc (τ := Cert.ConvGluRefIdeal.τ) (Cert.ConvGluRefIdeal.main (F := Ideal))) ⟨m', fun _ => 0, g'⟩ (fun r => ∀ c : Dev Cert.ConvGluRefIdeal.nD,
          r.2.mem ((c.tc : Thread Cert.ConvGluRefIdeal.nD Cert.ConvGluRefIdeal.τ).loc Cert.ConvGluRefIdeal.main_v29) = v0 c
          ∧ r.2.mem ((c.tc : Thread Cert.ConvGluRefIdeal.nD Cert.ConvGluRefIdeal.τ).loc Cert.ConvGluRefIdeal.main_v30) = v1 c
          ∧ r.2.mem ((c.tc : Thread Cert.ConvGluRefIdeal.nD Cert.ConvGluRefIdeal.τ).loc Cert.ConvGluRefIdeal.main_arg0) = m' ((c.tc : Thread Cert.ConvGluRefIdeal.nD Cert.ConvGluRefIdeal.τ).loc Cert.ConvGluRefIdeal.main_arg0)
          ∧ r.2.mem ((c.tc : Thread Cert.ConvGluRefIdeal.nD Cert.ConvGluRefIdeal.τ).loc Cert.ConvGluRefIdeal.main_arg1) = m' ((c.tc : Thread Cert.ConvGluRefIdeal.nD Cert.ConvGluRefIdeal.τ).loc Cert.ConvGluRefIdeal.main_arg1)
          ∧ r.2.mem ((c.tc : Thread Cert.ConvGluRefIdeal.nD Cert.ConvGluRefIdeal.τ).loc Cert.ConvGluRefIdeal.main_arg2) = m' ((c.tc : Thread Cert.ConvGluRefIdeal.nD Cert.ConvGluRefIdeal.τ).loc Cert.ConvGluRefIdeal.main_arg2)
          ∧ r.2.mem ((c.tc : Thread Cert.ConvGluRefIdeal.nD Cert.ConvGluRefIdeal.τ).loc Cert.ConvGluRefIdeal.main_arg3) = m' ((c.tc : Thread Cert.ConvGluRefIdeal.nD Cert.ConvGluRefIdeal.τ).loc Cert.ConvGluRefIdeal.main_arg3))

def preserves_ConvGluSample_ConvGluSampleIdeal : Prop :=
  True

def algebraic_ConvGluSampleIdeal_ConvGluSampleRefIdeal [hConvGluSampleIdeal : Cert.ConvGluSampleIdeal.Facts] [hConvGluSampleRefIdeal : Cert.ConvGluSampleRefIdeal.Facts] : Prop :=
  ∀ (m : (ℓ : Loc Cert.ConvGluSampleIdeal.nD Cert.ConvGluSampleIdeal.τ Cert.ConvGluSampleIdeal.sig) → Buf (Elt Ideal) ℓ) (g : Dev Cert.ConvGluSampleIdeal.nD → PrngReg)
    (m' : (ℓ : Loc Cert.ConvGluSampleRefIdeal.nD Cert.ConvGluSampleRefIdeal.τ Cert.ConvGluSampleRefIdeal.sig) → Buf (Elt Ideal) ℓ) (g' : Dev Cert.ConvGluSampleRefIdeal.nD → PrngReg), Pre_ConvGluSampleIdeal m →
    (∀ c : Dev Cert.ConvGluSampleIdeal.nD,
      m' ((c.tc : Thread Cert.ConvGluSampleRefIdeal.nD Cert.ConvGluSampleRefIdeal.τ).loc Cert.ConvGluSampleRefIdeal.main_arg0) = m ((c.tc : Thread Cert.ConvGluSampleIdeal.nD Cert.ConvGluSampleIdeal.τ).loc Cert.ConvGluSampleIdeal.main_arg0)
      ∧ m' ((c.tc : Thread Cert.ConvGluSampleRefIdeal.nD Cert.ConvGluSampleRefIdeal.τ).loc Cert.ConvGluSampleRefIdeal.main_arg1) = m ((c.tc : Thread Cert.ConvGluSampleIdeal.nD Cert.ConvGluSampleIdeal.τ).loc Cert.ConvGluSampleIdeal.main_arg1)
      ∧ m' ((c.tc : Thread Cert.ConvGluSampleRefIdeal.nD Cert.ConvGluSampleRefIdeal.τ).loc Cert.ConvGluSampleRefIdeal.main_arg2) = m ((c.tc : Thread Cert.ConvGluSampleIdeal.nD Cert.ConvGluSampleIdeal.τ).loc Cert.ConvGluSampleIdeal.main_arg2)
      ∧ m' ((c.tc : Thread Cert.ConvGluSampleRefIdeal.nD Cert.ConvGluSampleRefIdeal.τ).loc Cert.ConvGluSampleRefIdeal.main_arg3) = m ((c.tc : Thread Cert.ConvGluSampleIdeal.nD Cert.ConvGluSampleIdeal.τ).loc Cert.ConvGluSampleIdeal.main_arg3)
      ∧ m' ((c.tc : Thread Cert.ConvGluSampleRefIdeal.nD Cert.ConvGluSampleRefIdeal.τ).loc Cert.ConvGluSampleRefIdeal.main_arg4) = m ((c.tc : Thread Cert.ConvGluSampleIdeal.nD Cert.ConvGluSampleIdeal.τ).loc Cert.ConvGluSampleIdeal.main_arg4)) →
    ∃ (v0 : (c : Dev Cert.ConvGluSampleIdeal.nD) → Buf (Elt Ideal) ((c.tc : Thread Cert.ConvGluSampleIdeal.nD Cert.ConvGluSampleIdeal.τ).loc Cert.ConvGluSampleIdeal.main_v8)) (v1 : (c : Dev Cert.ConvGluSampleIdeal.nD) → Buf (Elt Ideal) ((c.tc : Thread Cert.ConvGluSampleIdeal.nD Cert.ConvGluSampleIdeal.τ).loc Cert.ConvGluSampleIdeal.main_v11)),
      θ_run (Cert.ConvGluSampleIdeal.defs (F := Ideal)) (onTc (τ := Cert.ConvGluSampleIdeal.τ) (Cert.ConvGluSampleIdeal.main (F := Ideal))) ⟨m, fun _ => 0, g⟩ (fun r => ∀ c : Dev Cert.ConvGluSampleIdeal.nD,
          r.2.mem ((c.tc : Thread Cert.ConvGluSampleIdeal.nD Cert.ConvGluSampleIdeal.τ).loc Cert.ConvGluSampleIdeal.main_v8) = v0 c
          ∧ r.2.mem ((c.tc : Thread Cert.ConvGluSampleIdeal.nD Cert.ConvGluSampleIdeal.τ).loc Cert.ConvGluSampleIdeal.main_v11) = v1 c
          ∧ r.2.mem ((c.tc : Thread Cert.ConvGluSampleIdeal.nD Cert.ConvGluSampleIdeal.τ).loc Cert.ConvGluSampleIdeal.main_arg0) = m ((c.tc : Thread Cert.ConvGluSampleIdeal.nD Cert.ConvGluSampleIdeal.τ).loc Cert.ConvGluSampleIdeal.main_arg0)
          ∧ r.2.mem ((c.tc : Thread Cert.ConvGluSampleIdeal.nD Cert.ConvGluSampleIdeal.τ).loc Cert.ConvGluSampleIdeal.main_arg1) = m ((c.tc : Thread Cert.ConvGluSampleIdeal.nD Cert.ConvGluSampleIdeal.τ).loc Cert.ConvGluSampleIdeal.main_arg1)
          ∧ r.2.mem ((c.tc : Thread Cert.ConvGluSampleIdeal.nD Cert.ConvGluSampleIdeal.τ).loc Cert.ConvGluSampleIdeal.main_arg2) = m ((c.tc : Thread Cert.ConvGluSampleIdeal.nD Cert.ConvGluSampleIdeal.τ).loc Cert.ConvGluSampleIdeal.main_arg2)
          ∧ r.2.mem ((c.tc : Thread Cert.ConvGluSampleIdeal.nD Cert.ConvGluSampleIdeal.τ).loc Cert.ConvGluSampleIdeal.main_arg3) = m ((c.tc : Thread Cert.ConvGluSampleIdeal.nD Cert.ConvGluSampleIdeal.τ).loc Cert.ConvGluSampleIdeal.main_arg3)
          ∧ r.2.mem ((c.tc : Thread Cert.ConvGluSampleIdeal.nD Cert.ConvGluSampleIdeal.τ).loc Cert.ConvGluSampleIdeal.main_arg4) = m ((c.tc : Thread Cert.ConvGluSampleIdeal.nD Cert.ConvGluSampleIdeal.τ).loc Cert.ConvGluSampleIdeal.main_arg4))
      ∧ θ_run (Cert.ConvGluSampleRefIdeal.defs (F := Ideal)) (onTc (τ := Cert.ConvGluSampleRefIdeal.τ) (Cert.ConvGluSampleRefIdeal.main (F := Ideal))) ⟨m', fun _ => 0, g'⟩ (fun r => ∀ c : Dev Cert.ConvGluSampleRefIdeal.nD,
          r.2.mem ((c.tc : Thread Cert.ConvGluSampleRefIdeal.nD Cert.ConvGluSampleRefIdeal.τ).loc Cert.ConvGluSampleRefIdeal.main_v29) = v0 c
          ∧ r.2.mem ((c.tc : Thread Cert.ConvGluSampleRefIdeal.nD Cert.ConvGluSampleRefIdeal.τ).loc Cert.ConvGluSampleRefIdeal.main_v32) = v1 c
          ∧ r.2.mem ((c.tc : Thread Cert.ConvGluSampleRefIdeal.nD Cert.ConvGluSampleRefIdeal.τ).loc Cert.ConvGluSampleRefIdeal.main_arg0) = m' ((c.tc : Thread Cert.ConvGluSampleRefIdeal.nD Cert.ConvGluSampleRefIdeal.τ).loc Cert.ConvGluSampleRefIdeal.main_arg0)
          ∧ r.2.mem ((c.tc : Thread Cert.ConvGluSampleRefIdeal.nD Cert.ConvGluSampleRefIdeal.τ).loc Cert.ConvGluSampleRefIdeal.main_arg1) = m' ((c.tc : Thread Cert.ConvGluSampleRefIdeal.nD Cert.ConvGluSampleRefIdeal.τ).loc Cert.ConvGluSampleRefIdeal.main_arg1)
          ∧ r.2.mem ((c.tc : Thread Cert.ConvGluSampleRefIdeal.nD Cert.ConvGluSampleRefIdeal.τ).loc Cert.ConvGluSampleRefIdeal.main_arg2) = m' ((c.tc : Thread Cert.ConvGluSampleRefIdeal.nD Cert.ConvGluSampleRefIdeal.τ).loc Cert.ConvGluSampleRefIdeal.main_arg2)
          ∧ r.2.mem ((c.tc : Thread Cert.ConvGluSampleRefIdeal.nD Cert.ConvGluSampleRefIdeal.τ).loc Cert.ConvGluSampleRefIdeal.main_arg3) = m' ((c.tc : Thread Cert.ConvGluSampleRefIdeal.nD Cert.ConvGluSampleRefIdeal.τ).loc Cert.ConvGluSampleRefIdeal.main_arg3)
          ∧ r.2.mem ((c.tc : Thread Cert.ConvGluSampleRefIdeal.nD Cert.ConvGluSampleRefIdeal.τ).loc Cert.ConvGluSampleRefIdeal.main_arg4) = m' ((c.tc : Thread Cert.ConvGluSampleRefIdeal.nD Cert.ConvGluSampleRefIdeal.τ).loc Cert.ConvGluSampleRefIdeal.main_arg4))

def preserves_ConvRest_ConvRestIdeal : Prop :=
  True

def algebraic_ConvRestIdeal_ConvRestRefIdeal [hConvRestIdeal : Cert.ConvRestIdeal.Facts] [hConvRestRefIdeal : Cert.ConvRestRefIdeal.Facts] : Prop :=
  ∀ (m : (ℓ : Loc Cert.ConvRestIdeal.nD Cert.ConvRestIdeal.τ Cert.ConvRestIdeal.sig) → Buf (Elt Ideal) ℓ) (g : Dev Cert.ConvRestIdeal.nD → PrngReg)
    (m' : (ℓ : Loc Cert.ConvRestRefIdeal.nD Cert.ConvRestRefIdeal.τ Cert.ConvRestRefIdeal.sig) → Buf (Elt Ideal) ℓ) (g' : Dev Cert.ConvRestRefIdeal.nD → PrngReg), Pre_ConvRestIdeal m →
    (∀ c : Dev Cert.ConvRestIdeal.nD,
      m' ((c.tc : Thread Cert.ConvRestRefIdeal.nD Cert.ConvRestRefIdeal.τ).loc Cert.ConvRestRefIdeal.main_arg0) = m ((c.tc : Thread Cert.ConvRestIdeal.nD Cert.ConvRestIdeal.τ).loc Cert.ConvRestIdeal.main_arg0)
      ∧ m' ((c.tc : Thread Cert.ConvRestRefIdeal.nD Cert.ConvRestRefIdeal.τ).loc Cert.ConvRestRefIdeal.main_arg1) = m ((c.tc : Thread Cert.ConvRestIdeal.nD Cert.ConvRestIdeal.τ).loc Cert.ConvRestIdeal.main_arg1)
      ∧ m' ((c.tc : Thread Cert.ConvRestRefIdeal.nD Cert.ConvRestRefIdeal.τ).loc Cert.ConvRestRefIdeal.main_arg2) = m ((c.tc : Thread Cert.ConvRestIdeal.nD Cert.ConvRestIdeal.τ).loc Cert.ConvRestIdeal.main_arg2)
      ∧ m' ((c.tc : Thread Cert.ConvRestRefIdeal.nD Cert.ConvRestRefIdeal.τ).loc Cert.ConvRestRefIdeal.main_arg3) = m ((c.tc : Thread Cert.ConvRestIdeal.nD Cert.ConvRestIdeal.τ).loc Cert.ConvRestIdeal.main_arg3)
      ∧ m' ((c.tc : Thread Cert.ConvRestRefIdeal.nD Cert.ConvRestRefIdeal.τ).loc Cert.ConvRestRefIdeal.main_arg4) = m ((c.tc : Thread Cert.ConvRestIdeal.nD Cert.ConvRestIdeal.τ).loc Cert.ConvRestIdeal.main_arg4)
      ∧ m' ((c.tc : Thread Cert.ConvRestRefIdeal.nD Cert.ConvRestRefIdeal.τ).loc Cert.ConvRestRefIdeal.main_arg5) = m ((c.tc : Thread Cert.ConvRestIdeal.nD Cert.ConvRestIdeal.τ).loc Cert.ConvRestIdeal.main_arg5)
      ∧ m' ((c.tc : Thread Cert.ConvRestRefIdeal.nD Cert.ConvRestRefIdeal.τ).loc Cert.ConvRestRefIdeal.main_arg6) = m ((c.tc : Thread Cert.ConvRestIdeal.nD Cert.ConvRestIdeal.τ).loc Cert.ConvRestIdeal.main_arg6)
      ∧ m' ((c.tc : Thread Cert.ConvRestRefIdeal.nD Cert.ConvRestRefIdeal.τ).loc Cert.ConvRestRefIdeal.main_arg7) = m ((c.tc : Thread Cert.ConvRestIdeal.nD Cert.ConvRestIdeal.τ).loc Cert.ConvRestIdeal.main_arg7)) →
    ∃ (v0 : (c : Dev Cert.ConvRestIdeal.nD) → Buf (Elt Ideal) ((c.tc : Thread Cert.ConvRestIdeal.nD Cert.ConvRestIdeal.τ).loc Cert.ConvRestIdeal.main_v12)),
      θ_run (Cert.ConvRestIdeal.defs (F := Ideal)) (onTc (τ := Cert.ConvRestIdeal.τ) (Cert.ConvRestIdeal.main (F := Ideal))) ⟨m, fun _ => 0, g⟩ (fun r => ∀ c : Dev Cert.ConvRestIdeal.nD,
          r.2.mem ((c.tc : Thread Cert.ConvRestIdeal.nD Cert.ConvRestIdeal.τ).loc Cert.ConvRestIdeal.main_v12) = v0 c
          ∧ r.2.mem ((c.tc : Thread Cert.ConvRestIdeal.nD Cert.ConvRestIdeal.τ).loc Cert.ConvRestIdeal.main_arg0) = m ((c.tc : Thread Cert.ConvRestIdeal.nD Cert.ConvRestIdeal.τ).loc Cert.ConvRestIdeal.main_arg0)
          ∧ r.2.mem ((c.tc : Thread Cert.ConvRestIdeal.nD Cert.ConvRestIdeal.τ).loc Cert.ConvRestIdeal.main_arg1) = m ((c.tc : Thread Cert.ConvRestIdeal.nD Cert.ConvRestIdeal.τ).loc Cert.ConvRestIdeal.main_arg1)
          ∧ r.2.mem ((c.tc : Thread Cert.ConvRestIdeal.nD Cert.ConvRestIdeal.τ).loc Cert.ConvRestIdeal.main_arg2) = m ((c.tc : Thread Cert.ConvRestIdeal.nD Cert.ConvRestIdeal.τ).loc Cert.ConvRestIdeal.main_arg2)
          ∧ r.2.mem ((c.tc : Thread Cert.ConvRestIdeal.nD Cert.ConvRestIdeal.τ).loc Cert.ConvRestIdeal.main_arg3) = m ((c.tc : Thread Cert.ConvRestIdeal.nD Cert.ConvRestIdeal.τ).loc Cert.ConvRestIdeal.main_arg3)
          ∧ r.2.mem ((c.tc : Thread Cert.ConvRestIdeal.nD Cert.ConvRestIdeal.τ).loc Cert.ConvRestIdeal.main_arg4) = m ((c.tc : Thread Cert.ConvRestIdeal.nD Cert.ConvRestIdeal.τ).loc Cert.ConvRestIdeal.main_arg4)
          ∧ r.2.mem ((c.tc : Thread Cert.ConvRestIdeal.nD Cert.ConvRestIdeal.τ).loc Cert.ConvRestIdeal.main_arg5) = m ((c.tc : Thread Cert.ConvRestIdeal.nD Cert.ConvRestIdeal.τ).loc Cert.ConvRestIdeal.main_arg5)
          ∧ r.2.mem ((c.tc : Thread Cert.ConvRestIdeal.nD Cert.ConvRestIdeal.τ).loc Cert.ConvRestIdeal.main_arg6) = m ((c.tc : Thread Cert.ConvRestIdeal.nD Cert.ConvRestIdeal.τ).loc Cert.ConvRestIdeal.main_arg6)
          ∧ r.2.mem ((c.tc : Thread Cert.ConvRestIdeal.nD Cert.ConvRestIdeal.τ).loc Cert.ConvRestIdeal.main_arg7) = m ((c.tc : Thread Cert.ConvRestIdeal.nD Cert.ConvRestIdeal.τ).loc Cert.ConvRestIdeal.main_arg7))
      ∧ θ_run (Cert.ConvRestRefIdeal.defs (F := Ideal)) (onTc (τ := Cert.ConvRestRefIdeal.τ) (Cert.ConvRestRefIdeal.main (F := Ideal))) ⟨m', fun _ => 0, g'⟩ (fun r => ∀ c : Dev Cert.ConvRestRefIdeal.nD,
          r.2.mem ((c.tc : Thread Cert.ConvRestRefIdeal.nD Cert.ConvRestRefIdeal.τ).loc Cert.ConvRestRefIdeal.main_v256) = v0 c
          ∧ r.2.mem ((c.tc : Thread Cert.ConvRestRefIdeal.nD Cert.ConvRestRefIdeal.τ).loc Cert.ConvRestRefIdeal.main_arg0) = m' ((c.tc : Thread Cert.ConvRestRefIdeal.nD Cert.ConvRestRefIdeal.τ).loc Cert.ConvRestRefIdeal.main_arg0)
          ∧ r.2.mem ((c.tc : Thread Cert.ConvRestRefIdeal.nD Cert.ConvRestRefIdeal.τ).loc Cert.ConvRestRefIdeal.main_arg1) = m' ((c.tc : Thread Cert.ConvRestRefIdeal.nD Cert.ConvRestRefIdeal.τ).loc Cert.ConvRestRefIdeal.main_arg1)
          ∧ r.2.mem ((c.tc : Thread Cert.ConvRestRefIdeal.nD Cert.ConvRestRefIdeal.τ).loc Cert.ConvRestRefIdeal.main_arg2) = m' ((c.tc : Thread Cert.ConvRestRefIdeal.nD Cert.ConvRestRefIdeal.τ).loc Cert.ConvRestRefIdeal.main_arg2)
          ∧ r.2.mem ((c.tc : Thread Cert.ConvRestRefIdeal.nD Cert.ConvRestRefIdeal.τ).loc Cert.ConvRestRefIdeal.main_arg3) = m' ((c.tc : Thread Cert.ConvRestRefIdeal.nD Cert.ConvRestRefIdeal.τ).loc Cert.ConvRestRefIdeal.main_arg3)
          ∧ r.2.mem ((c.tc : Thread Cert.ConvRestRefIdeal.nD Cert.ConvRestRefIdeal.τ).loc Cert.ConvRestRefIdeal.main_arg4) = m' ((c.tc : Thread Cert.ConvRestRefIdeal.nD Cert.ConvRestRefIdeal.τ).loc Cert.ConvRestRefIdeal.main_arg4)
          ∧ r.2.mem ((c.tc : Thread Cert.ConvRestRefIdeal.nD Cert.ConvRestRefIdeal.τ).loc Cert.ConvRestRefIdeal.main_arg5) = m' ((c.tc : Thread Cert.ConvRestRefIdeal.nD Cert.ConvRestRefIdeal.τ).loc Cert.ConvRestRefIdeal.main_arg5)
          ∧ r.2.mem ((c.tc : Thread Cert.ConvRestRefIdeal.nD Cert.ConvRestRefIdeal.τ).loc Cert.ConvRestRefIdeal.main_arg6) = m' ((c.tc : Thread Cert.ConvRestRefIdeal.nD Cert.ConvRestRefIdeal.τ).loc Cert.ConvRestRefIdeal.main_arg6)
          ∧ r.2.mem ((c.tc : Thread Cert.ConvRestRefIdeal.nD Cert.ConvRestRefIdeal.τ).loc Cert.ConvRestRefIdeal.main_arg7) = m' ((c.tc : Thread Cert.ConvRestRefIdeal.nD Cert.ConvRestRefIdeal.τ).loc Cert.ConvRestRefIdeal.main_arg7))

def preserves_ConvRestSample_ConvRestSampleIdeal : Prop :=
  True

def algebraic_ConvRestSampleIdeal_ConvRestSampleRefIdeal [hConvRestSampleIdeal : Cert.ConvRestSampleIdeal.Facts] [hConvRestSampleRefIdeal : Cert.ConvRestSampleRefIdeal.Facts] : Prop :=
  ∀ (m : (ℓ : Loc Cert.ConvRestSampleIdeal.nD Cert.ConvRestSampleIdeal.τ Cert.ConvRestSampleIdeal.sig) → Buf (Elt Ideal) ℓ) (g : Dev Cert.ConvRestSampleIdeal.nD → PrngReg)
    (m' : (ℓ : Loc Cert.ConvRestSampleRefIdeal.nD Cert.ConvRestSampleRefIdeal.τ Cert.ConvRestSampleRefIdeal.sig) → Buf (Elt Ideal) ℓ) (g' : Dev Cert.ConvRestSampleRefIdeal.nD → PrngReg), Pre_ConvRestSampleIdeal m →
    (∀ c : Dev Cert.ConvRestSampleIdeal.nD,
      m' ((c.tc : Thread Cert.ConvRestSampleRefIdeal.nD Cert.ConvRestSampleRefIdeal.τ).loc Cert.ConvRestSampleRefIdeal.main_arg0) = m ((c.tc : Thread Cert.ConvRestSampleIdeal.nD Cert.ConvRestSampleIdeal.τ).loc Cert.ConvRestSampleIdeal.main_arg0)
      ∧ m' ((c.tc : Thread Cert.ConvRestSampleRefIdeal.nD Cert.ConvRestSampleRefIdeal.τ).loc Cert.ConvRestSampleRefIdeal.main_arg1) = m ((c.tc : Thread Cert.ConvRestSampleIdeal.nD Cert.ConvRestSampleIdeal.τ).loc Cert.ConvRestSampleIdeal.main_arg1)
      ∧ m' ((c.tc : Thread Cert.ConvRestSampleRefIdeal.nD Cert.ConvRestSampleRefIdeal.τ).loc Cert.ConvRestSampleRefIdeal.main_arg2) = m ((c.tc : Thread Cert.ConvRestSampleIdeal.nD Cert.ConvRestSampleIdeal.τ).loc Cert.ConvRestSampleIdeal.main_arg2)
      ∧ m' ((c.tc : Thread Cert.ConvRestSampleRefIdeal.nD Cert.ConvRestSampleRefIdeal.τ).loc Cert.ConvRestSampleRefIdeal.main_arg3) = m ((c.tc : Thread Cert.ConvRestSampleIdeal.nD Cert.ConvRestSampleIdeal.τ).loc Cert.ConvRestSampleIdeal.main_arg3)
      ∧ m' ((c.tc : Thread Cert.ConvRestSampleRefIdeal.nD Cert.ConvRestSampleRefIdeal.τ).loc Cert.ConvRestSampleRefIdeal.main_arg4) = m ((c.tc : Thread Cert.ConvRestSampleIdeal.nD Cert.ConvRestSampleIdeal.τ).loc Cert.ConvRestSampleIdeal.main_arg4)
      ∧ m' ((c.tc : Thread Cert.ConvRestSampleRefIdeal.nD Cert.ConvRestSampleRefIdeal.τ).loc Cert.ConvRestSampleRefIdeal.main_arg5) = m ((c.tc : Thread Cert.ConvRestSampleIdeal.nD Cert.ConvRestSampleIdeal.τ).loc Cert.ConvRestSampleIdeal.main_arg5)
      ∧ m' ((c.tc : Thread Cert.ConvRestSampleRefIdeal.nD Cert.ConvRestSampleRefIdeal.τ).loc Cert.ConvRestSampleRefIdeal.main_arg6) = m ((c.tc : Thread Cert.ConvRestSampleIdeal.nD Cert.ConvRestSampleIdeal.τ).loc Cert.ConvRestSampleIdeal.main_arg6)
      ∧ m' ((c.tc : Thread Cert.ConvRestSampleRefIdeal.nD Cert.ConvRestSampleRefIdeal.τ).loc Cert.ConvRestSampleRefIdeal.main_arg7) = m ((c.tc : Thread Cert.ConvRestSampleIdeal.nD Cert.ConvRestSampleIdeal.τ).loc Cert.ConvRestSampleIdeal.main_arg7)
      ∧ m' ((c.tc : Thread Cert.ConvRestSampleRefIdeal.nD Cert.ConvRestSampleRefIdeal.τ).loc Cert.ConvRestSampleRefIdeal.main_arg8) = m ((c.tc : Thread Cert.ConvRestSampleIdeal.nD Cert.ConvRestSampleIdeal.τ).loc Cert.ConvRestSampleIdeal.main_arg8)) →
    ∃ (v0 : (c : Dev Cert.ConvRestSampleIdeal.nD) → Buf (Elt Ideal) ((c.tc : Thread Cert.ConvRestSampleIdeal.nD Cert.ConvRestSampleIdeal.τ).loc Cert.ConvRestSampleIdeal.main_v13)),
      θ_run (Cert.ConvRestSampleIdeal.defs (F := Ideal)) (onTc (τ := Cert.ConvRestSampleIdeal.τ) (Cert.ConvRestSampleIdeal.main (F := Ideal))) ⟨m, fun _ => 0, g⟩ (fun r => ∀ c : Dev Cert.ConvRestSampleIdeal.nD,
          r.2.mem ((c.tc : Thread Cert.ConvRestSampleIdeal.nD Cert.ConvRestSampleIdeal.τ).loc Cert.ConvRestSampleIdeal.main_v13) = v0 c
          ∧ r.2.mem ((c.tc : Thread Cert.ConvRestSampleIdeal.nD Cert.ConvRestSampleIdeal.τ).loc Cert.ConvRestSampleIdeal.main_arg0) = m ((c.tc : Thread Cert.ConvRestSampleIdeal.nD Cert.ConvRestSampleIdeal.τ).loc Cert.ConvRestSampleIdeal.main_arg0)
          ∧ r.2.mem ((c.tc : Thread Cert.ConvRestSampleIdeal.nD Cert.ConvRestSampleIdeal.τ).loc Cert.ConvRestSampleIdeal.main_arg1) = m ((c.tc : Thread Cert.ConvRestSampleIdeal.nD Cert.ConvRestSampleIdeal.τ).loc Cert.ConvRestSampleIdeal.main_arg1)
          ∧ r.2.mem ((c.tc : Thread Cert.ConvRestSampleIdeal.nD Cert.ConvRestSampleIdeal.τ).loc Cert.ConvRestSampleIdeal.main_arg2) = m ((c.tc : Thread Cert.ConvRestSampleIdeal.nD Cert.ConvRestSampleIdeal.τ).loc Cert.ConvRestSampleIdeal.main_arg2)
          ∧ r.2.mem ((c.tc : Thread Cert.ConvRestSampleIdeal.nD Cert.ConvRestSampleIdeal.τ).loc Cert.ConvRestSampleIdeal.main_arg3) = m ((c.tc : Thread Cert.ConvRestSampleIdeal.nD Cert.ConvRestSampleIdeal.τ).loc Cert.ConvRestSampleIdeal.main_arg3)
          ∧ r.2.mem ((c.tc : Thread Cert.ConvRestSampleIdeal.nD Cert.ConvRestSampleIdeal.τ).loc Cert.ConvRestSampleIdeal.main_arg4) = m ((c.tc : Thread Cert.ConvRestSampleIdeal.nD Cert.ConvRestSampleIdeal.τ).loc Cert.ConvRestSampleIdeal.main_arg4)
          ∧ r.2.mem ((c.tc : Thread Cert.ConvRestSampleIdeal.nD Cert.ConvRestSampleIdeal.τ).loc Cert.ConvRestSampleIdeal.main_arg5) = m ((c.tc : Thread Cert.ConvRestSampleIdeal.nD Cert.ConvRestSampleIdeal.τ).loc Cert.ConvRestSampleIdeal.main_arg5)
          ∧ r.2.mem ((c.tc : Thread Cert.ConvRestSampleIdeal.nD Cert.ConvRestSampleIdeal.τ).loc Cert.ConvRestSampleIdeal.main_arg6) = m ((c.tc : Thread Cert.ConvRestSampleIdeal.nD Cert.ConvRestSampleIdeal.τ).loc Cert.ConvRestSampleIdeal.main_arg6)
          ∧ r.2.mem ((c.tc : Thread Cert.ConvRestSampleIdeal.nD Cert.ConvRestSampleIdeal.τ).loc Cert.ConvRestSampleIdeal.main_arg7) = m ((c.tc : Thread Cert.ConvRestSampleIdeal.nD Cert.ConvRestSampleIdeal.τ).loc Cert.ConvRestSampleIdeal.main_arg7)
          ∧ r.2.mem ((c.tc : Thread Cert.ConvRestSampleIdeal.nD Cert.ConvRestSampleIdeal.τ).loc Cert.ConvRestSampleIdeal.main_arg8) = m ((c.tc : Thread Cert.ConvRestSampleIdeal.nD Cert.ConvRestSampleIdeal.τ).loc Cert.ConvRestSampleIdeal.main_arg8))
      ∧ θ_run (Cert.ConvRestSampleRefIdeal.defs (F := Ideal)) (onTc (τ := Cert.ConvRestSampleRefIdeal.τ) (Cert.ConvRestSampleRefIdeal.main (F := Ideal))) ⟨m', fun _ => 0, g'⟩ (fun r => ∀ c : Dev Cert.ConvRestSampleRefIdeal.nD,
          r.2.mem ((c.tc : Thread Cert.ConvRestSampleRefIdeal.nD Cert.ConvRestSampleRefIdeal.τ).loc Cert.ConvRestSampleRefIdeal.main_v257) = v0 c
          ∧ r.2.mem ((c.tc : Thread Cert.ConvRestSampleRefIdeal.nD Cert.ConvRestSampleRefIdeal.τ).loc Cert.ConvRestSampleRefIdeal.main_arg0) = m' ((c.tc : Thread Cert.ConvRestSampleRefIdeal.nD Cert.ConvRestSampleRefIdeal.τ).loc Cert.ConvRestSampleRefIdeal.main_arg0)
          ∧ r.2.mem ((c.tc : Thread Cert.ConvRestSampleRefIdeal.nD Cert.ConvRestSampleRefIdeal.τ).loc Cert.ConvRestSampleRefIdeal.main_arg1) = m' ((c.tc : Thread Cert.ConvRestSampleRefIdeal.nD Cert.ConvRestSampleRefIdeal.τ).loc Cert.ConvRestSampleRefIdeal.main_arg1)
          ∧ r.2.mem ((c.tc : Thread Cert.ConvRestSampleRefIdeal.nD Cert.ConvRestSampleRefIdeal.τ).loc Cert.ConvRestSampleRefIdeal.main_arg2) = m' ((c.tc : Thread Cert.ConvRestSampleRefIdeal.nD Cert.ConvRestSampleRefIdeal.τ).loc Cert.ConvRestSampleRefIdeal.main_arg2)
          ∧ r.2.mem ((c.tc : Thread Cert.ConvRestSampleRefIdeal.nD Cert.ConvRestSampleRefIdeal.τ).loc Cert.ConvRestSampleRefIdeal.main_arg3) = m' ((c.tc : Thread Cert.ConvRestSampleRefIdeal.nD Cert.ConvRestSampleRefIdeal.τ).loc Cert.ConvRestSampleRefIdeal.main_arg3)
          ∧ r.2.mem ((c.tc : Thread Cert.ConvRestSampleRefIdeal.nD Cert.ConvRestSampleRefIdeal.τ).loc Cert.ConvRestSampleRefIdeal.main_arg4) = m' ((c.tc : Thread Cert.ConvRestSampleRefIdeal.nD Cert.ConvRestSampleRefIdeal.τ).loc Cert.ConvRestSampleRefIdeal.main_arg4)
          ∧ r.2.mem ((c.tc : Thread Cert.ConvRestSampleRefIdeal.nD Cert.ConvRestSampleRefIdeal.τ).loc Cert.ConvRestSampleRefIdeal.main_arg5) = m' ((c.tc : Thread Cert.ConvRestSampleRefIdeal.nD Cert.ConvRestSampleRefIdeal.τ).loc Cert.ConvRestSampleRefIdeal.main_arg5)
          ∧ r.2.mem ((c.tc : Thread Cert.ConvRestSampleRefIdeal.nD Cert.ConvRestSampleRefIdeal.τ).loc Cert.ConvRestSampleRefIdeal.main_arg6) = m' ((c.tc : Thread Cert.ConvRestSampleRefIdeal.nD Cert.ConvRestSampleRefIdeal.τ).loc Cert.ConvRestSampleRefIdeal.main_arg6)
          ∧ r.2.mem ((c.tc : Thread Cert.ConvRestSampleRefIdeal.nD Cert.ConvRestSampleRefIdeal.τ).loc Cert.ConvRestSampleRefIdeal.main_arg7) = m' ((c.tc : Thread Cert.ConvRestSampleRefIdeal.nD Cert.ConvRestSampleRefIdeal.τ).loc Cert.ConvRestSampleRefIdeal.main_arg7)
          ∧ r.2.mem ((c.tc : Thread Cert.ConvRestSampleRefIdeal.nD Cert.ConvRestSampleRefIdeal.τ).loc Cert.ConvRestSampleRefIdeal.main_arg8) = m' ((c.tc : Thread Cert.ConvRestSampleRefIdeal.nD Cert.ConvRestSampleRefIdeal.τ).loc Cert.ConvRestSampleRefIdeal.main_arg8))

def Claim : Prop :=
  ∃ (hAttnProj : Cert.AttnProj.Facts) (hAttnProjIdeal : Cert.AttnProjIdeal.Facts) (hAttnProjRefIdeal : Cert.AttnProjRefIdeal.Facts) (hAttnProjSample : Cert.AttnProjSample.Facts) (hAttnProjSampleIdeal : Cert.AttnProjSampleIdeal.Facts) (hAttnProjSampleRefIdeal : Cert.AttnProjSampleRefIdeal.Facts) (hMemKv : Cert.MemKv.Facts) (hMemKvIdeal : Cert.MemKvIdeal.Facts) (hMemKvRefIdeal : Cert.MemKvRefIdeal.Facts) (hMemKvNext : Cert.MemKvNext.Facts) (hMemKvNextIdeal : Cert.MemKvNextIdeal.Facts) (hMemKvNextRefIdeal : Cert.MemKvNextRefIdeal.Facts) (hMemAttnFirst : Cert.MemAttnFirst.Facts) (hMemAttnFirstIdeal : Cert.MemAttnFirstIdeal.Facts) (hMemAttnFirstRefIdeal : Cert.MemAttnFirstRefIdeal.Facts) (hMemAttn : Cert.MemAttn.Facts) (hMemAttnIdeal : Cert.MemAttnIdeal.Facts) (hMemAttnRefIdeal : Cert.MemAttnRefIdeal.Facts) (hMemAttnFirstSample : Cert.MemAttnFirstSample.Facts) (hMemAttnFirstSampleIdeal : Cert.MemAttnFirstSampleIdeal.Facts) (hMemAttnFirstSampleRefIdeal : Cert.MemAttnFirstSampleRefIdeal.Facts) (hMemAttnSample : Cert.MemAttnSample.Facts) (hMemAttnSampleIdeal : Cert.MemAttnSampleIdeal.Facts) (hMemAttnSampleRefIdeal : Cert.MemAttnSampleRefIdeal.Facts) (hMlp : Cert.Mlp.Facts) (hMlpIdeal : Cert.MlpIdeal.Facts) (hMlpRefIdeal : Cert.MlpRefIdeal.Facts) (hMlpSample : Cert.MlpSample.Facts) (hMlpSampleIdeal : Cert.MlpSampleIdeal.Facts) (hMlpSampleRefIdeal : Cert.MlpSampleRefIdeal.Facts) (hMlpFirst : Cert.MlpFirst.Facts) (hMlpFirstIdeal : Cert.MlpFirstIdeal.Facts) (hMlpFirstRefIdeal : Cert.MlpFirstRefIdeal.Facts) (hMlpFirstSample : Cert.MlpFirstSample.Facts) (hMlpFirstSampleIdeal : Cert.MlpFirstSampleIdeal.Facts) (hMlpFirstSampleRefIdeal : Cert.MlpFirstSampleRefIdeal.Facts) (hConvGlu : Cert.ConvGlu.Facts) (hConvGluIdeal : Cert.ConvGluIdeal.Facts) (hConvGluRefIdeal : Cert.ConvGluRefIdeal.Facts) (hConvGluSample : Cert.ConvGluSample.Facts) (hConvGluSampleIdeal : Cert.ConvGluSampleIdeal.Facts) (hConvGluSampleRefIdeal : Cert.ConvGluSampleRefIdeal.Facts) (hConvRest : Cert.ConvRest.Facts) (hConvRestIdeal : Cert.ConvRestIdeal.Facts) (hConvRestRefIdeal : Cert.ConvRestRefIdeal.Facts) (hConvRestSample : Cert.ConvRestSample.Facts) (hConvRestSampleIdeal : Cert.ConvRestSampleIdeal.Facts) (hConvRestSampleRefIdeal : Cert.ConvRestSampleRefIdeal.Facts) (hSparseAttn : Cert.SparseAttn.Facts),
    quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_AttnProjSample (hAttnProjSample := hAttnProjSample)
    ∧ quiescent_AttnProjSampleIdeal (hAttnProjSampleIdeal := hAttnProjSampleIdeal)
    ∧ quiescent_AttnProjSampleRefIdeal (hAttnProjSampleRefIdeal := hAttnProjSampleRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvNext (hMemKvNext := hMemKvNext)
    ∧ quiescent_MemKvNextIdeal (hMemKvNextIdeal := hMemKvNextIdeal)
    ∧ quiescent_MemKvNextRefIdeal (hMemKvNextRefIdeal := hMemKvNextRefIdeal)
    ∧ quiescent_MemAttnFirst (hMemAttnFirst := hMemAttnFirst)
    ∧ quiescent_MemAttnFirstIdeal (hMemAttnFirstIdeal := hMemAttnFirstIdeal)
    ∧ quiescent_MemAttnFirstRefIdeal (hMemAttnFirstRefIdeal := hMemAttnFirstRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_MemAttnFirstSample (hMemAttnFirstSample := hMemAttnFirstSample)
    ∧ quiescent_MemAttnFirstSampleIdeal (hMemAttnFirstSampleIdeal := hMemAttnFirstSampleIdeal)
    ∧ quiescent_MemAttnFirstSampleRefIdeal (hMemAttnFirstSampleRefIdeal := hMemAttnFirstSampleRefIdeal)
    ∧ quiescent_MemAttnSample (hMemAttnSample := hMemAttnSample)
    ∧ quiescent_MemAttnSampleIdeal (hMemAttnSampleIdeal := hMemAttnSampleIdeal)
    ∧ quiescent_MemAttnSampleRefIdeal (hMemAttnSampleRefIdeal := hMemAttnSampleRefIdeal)
    ∧ quiescent_Mlp (hMlp := hMlp)
    ∧ quiescent_MlpIdeal (hMlpIdeal := hMlpIdeal)
    ∧ quiescent_MlpRefIdeal (hMlpRefIdeal := hMlpRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_MlpFirst (hMlpFirst := hMlpFirst)
    ∧ quiescent_MlpFirstIdeal (hMlpFirstIdeal := hMlpFirstIdeal)
    ∧ quiescent_MlpFirstRefIdeal (hMlpFirstRefIdeal := hMlpFirstRefIdeal)
    ∧ quiescent_MlpFirstSample (hMlpFirstSample := hMlpFirstSample)
    ∧ quiescent_MlpFirstSampleIdeal (hMlpFirstSampleIdeal := hMlpFirstSampleIdeal)
    ∧ quiescent_MlpFirstSampleRefIdeal (hMlpFirstSampleRefIdeal := hMlpFirstSampleRefIdeal)
    ∧ quiescent_ConvGlu (hConvGlu := hConvGlu)
    ∧ quiescent_ConvGluIdeal (hConvGluIdeal := hConvGluIdeal)
    ∧ quiescent_ConvGluRefIdeal (hConvGluRefIdeal := hConvGluRefIdeal)
    ∧ quiescent_ConvGluSample (hConvGluSample := hConvGluSample)
    ∧ quiescent_ConvGluSampleIdeal (hConvGluSampleIdeal := hConvGluSampleIdeal)
    ∧ quiescent_ConvGluSampleRefIdeal (hConvGluSampleRefIdeal := hConvGluSampleRefIdeal)
    ∧ quiescent_ConvRest (hConvRest := hConvRest)
    ∧ quiescent_ConvRestIdeal (hConvRestIdeal := hConvRestIdeal)
    ∧ quiescent_ConvRestRefIdeal (hConvRestRefIdeal := hConvRestRefIdeal)
    ∧ quiescent_ConvRestSample (hConvRestSample := hConvRestSample)
    ∧ quiescent_ConvRestSampleIdeal (hConvRestSampleIdeal := hConvRestSampleIdeal)
    ∧ quiescent_ConvRestSampleRefIdeal (hConvRestSampleRefIdeal := hConvRestSampleRefIdeal)
    ∧ quiescent_SparseAttn (hSparseAttn := hSparseAttn)
    ∧ preserves_AttnProj_AttnProjIdeal
    ∧ algebraic_AttnProjIdeal_AttnProjRefIdeal (hAttnProjIdeal := hAttnProjIdeal) (hAttnProjRefIdeal := hAttnProjRefIdeal)
    ∧ preserves_AttnProjSample_AttnProjSampleIdeal
    ∧ algebraic_AttnProjSampleIdeal_AttnProjSampleRefIdeal (hAttnProjSampleIdeal := hAttnProjSampleIdeal) (hAttnProjSampleRefIdeal := hAttnProjSampleRefIdeal)
    ∧ preserves_MemKv_MemKvIdeal
    ∧ algebraic_MemKvIdeal_MemKvRefIdeal (hMemKvIdeal := hMemKvIdeal) (hMemKvRefIdeal := hMemKvRefIdeal)
    ∧ preserves_MemKvNext_MemKvNextIdeal
    ∧ algebraic_MemKvNextIdeal_MemKvNextRefIdeal (hMemKvNextIdeal := hMemKvNextIdeal) (hMemKvNextRefIdeal := hMemKvNextRefIdeal)
    ∧ preserves_MemAttnFirst_MemAttnFirstIdeal
    ∧ algebraic_MemAttnFirstIdeal_MemAttnFirstRefIdeal (hMemAttnFirstIdeal := hMemAttnFirstIdeal) (hMemAttnFirstRefIdeal := hMemAttnFirstRefIdeal)
    ∧ preserves_MemAttn_MemAttnIdeal
    ∧ algebraic_MemAttnIdeal_MemAttnRefIdeal (hMemAttnIdeal := hMemAttnIdeal) (hMemAttnRefIdeal := hMemAttnRefIdeal)
    ∧ preserves_MemAttnFirstSample_MemAttnFirstSampleIdeal
    ∧ algebraic_MemAttnFirstSampleIdeal_MemAttnFirstSampleRefIdeal (hMemAttnFirstSampleIdeal := hMemAttnFirstSampleIdeal) (hMemAttnFirstSampleRefIdeal := hMemAttnFirstSampleRefIdeal)
    ∧ preserves_MemAttnSample_MemAttnSampleIdeal
    ∧ algebraic_MemAttnSampleIdeal_MemAttnSampleRefIdeal (hMemAttnSampleIdeal := hMemAttnSampleIdeal) (hMemAttnSampleRefIdeal := hMemAttnSampleRefIdeal)
    ∧ preserves_Mlp_MlpIdeal
    ∧ algebraic_MlpIdeal_MlpRefIdeal (hMlpIdeal := hMlpIdeal) (hMlpRefIdeal := hMlpRefIdeal)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_MlpFirst_MlpFirstIdeal
    ∧ algebraic_MlpFirstIdeal_MlpFirstRefIdeal (hMlpFirstIdeal := hMlpFirstIdeal) (hMlpFirstRefIdeal := hMlpFirstRefIdeal)
    ∧ preserves_MlpFirstSample_MlpFirstSampleIdeal
    ∧ algebraic_MlpFirstSampleIdeal_MlpFirstSampleRefIdeal (hMlpFirstSampleIdeal := hMlpFirstSampleIdeal) (hMlpFirstSampleRefIdeal := hMlpFirstSampleRefIdeal)
    ∧ preserves_ConvGlu_ConvGluIdeal
    ∧ algebraic_ConvGluIdeal_ConvGluRefIdeal (hConvGluIdeal := hConvGluIdeal) (hConvGluRefIdeal := hConvGluRefIdeal)
    ∧ preserves_ConvGluSample_ConvGluSampleIdeal
    ∧ algebraic_ConvGluSampleIdeal_ConvGluSampleRefIdeal (hConvGluSampleIdeal := hConvGluSampleIdeal) (hConvGluSampleRefIdeal := hConvGluSampleRefIdeal)
    ∧ preserves_ConvRest_ConvRestIdeal
    ∧ algebraic_ConvRestIdeal_ConvRestRefIdeal (hConvRestIdeal := hConvRestIdeal) (hConvRestRefIdeal := hConvRestRefIdeal)
    ∧ preserves_ConvRestSample_ConvRestSampleIdeal
    ∧ algebraic_ConvRestSampleIdeal_ConvRestSampleRefIdeal (hConvRestSampleIdeal := hConvRestSampleIdeal) (hConvRestSampleRefIdeal := hConvRestSampleRefIdeal)
-- ==== AttnProj.lean ====
abbrev S8x4096x1024 : Shape := ⟨3, ![8, 4096, 1024]⟩
abbrev S2x1024 : Shape := ⟨2, ![2, 1024]⟩
abbrev S1x1024x2120 : Shape := ⟨3, ![1, 1024, 2120]⟩
abbrev S32768x1024 : Shape := ⟨2, ![32768, 1024]⟩
abbrev S1x1024 : Shape := ⟨2, ![1, 1024]⟩
abbrev S1024 : Shape := ⟨1, ![1024]⟩
abbrev S1x1024x64 : Shape := ⟨3, ![1, 1024, 64]⟩
abbrev S1x1024x1024 : Shape := ⟨3, ![1, 1024, 1024]⟩
abbrev S1x1024x768 : Shape := ⟨3, ![1, 1024, 768]⟩
abbrev S_ : Shape := ⟨0, ![]⟩
abbrev S1x1024x128 : Shape := ⟨3, ![1, 1024, 128]⟩
abbrev S1x1024x8 : Shape := ⟨3, ![1, 1024, 8]⟩
abbrev S1x1024x2560 : Shape := ⟨3, ![1, 1024, 2560]⟩
abbrev S32768x4x64 : Shape := ⟨3, ![32768, 4, 64]⟩
abbrev S32768x64 : Shape := ⟨2, ![32768, 64]⟩
abbrev S32768x512 : Shape := ⟨2, ![32768, 512]⟩
abbrev S32768x256 : Shape := ⟨2, ![32768, 256]⟩
abbrev S32768x128 : Shape := ⟨2, ![32768, 128]⟩
abbrev S256x256x128 : Shape := ⟨3, ![256, 256, 128]⟩
abbrev S1024x1024 : Shape := ⟨2, ![1024, 1024]⟩
abbrev S1024x4x64 : Shape := ⟨3, ![1024, 4, 64]⟩
abbrev S1024x64 : Shape := ⟨2, ![1024, 64]⟩
abbrev S1024x512 : Shape := ⟨2, ![1024, 512]⟩
abbrev S1024x256 : Shape := ⟨2, ![1024, 256]⟩
abbrev S1024x128 : Shape := ⟨2, ![1024, 128]⟩
abbrev S8x256x128 : Shape := ⟨3, ![8, 256, 128]⟩
abbrev S1024x1 : Shape := ⟨2, ![1024, 1]⟩
abbrev S1x1024x256 : Shape := ⟨3, ![1, 1024, 256]⟩
abbrev S128x256 : Shape := ⟨2, ![128, 256]⟩
abbrev S256x128 : Shape := ⟨2, ![256, 128]⟩
abbrev S1x256x128 : Shape := ⟨3, ![1, 256, 128]⟩
abbrev S1x1024x512 : Shape := ⟨3, ![1, 1024, 512]⟩
abbrev S1024x4x128 : Shape := ⟨3, ![1024, 4, 128]⟩
abbrev S32768x8 : Shape := ⟨2, ![32768, 8]⟩

abbrev nBuf : Space → Nat
  | .hbm => 34
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x2120, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S1x1024x64, .f32⟩
  | .hbm, ⟨7, _⟩ => ⟨S1x1024x64, .f32⟩
  | .hbm, ⟨8, _⟩ => ⟨S1x1024x64, .f32⟩
  | .hbm, ⟨9, _⟩ => ⟨S1x1024x64, .f32⟩
  | .hbm, ⟨10, _⟩ => ⟨S1x1024x1024, .f32⟩
  | .hbm, ⟨11, _⟩ => ⟨S1x1024x768, .f32⟩
  | .hbm, ⟨12, _⟩ => ⟨S1x1024x64, .f32⟩
  | .hbm, ⟨13, _⟩ => ⟨S_, .i32⟩
  | .hbm, ⟨14, _⟩ => ⟨S_, .f32⟩
  | .hbm, ⟨15, _⟩ => ⟨S1x1024x128, .f32⟩
  | .hbm, ⟨16, _⟩ => ⟨S1x1024x8, .f32⟩
  | .hbm, ⟨17, _⟩ => ⟨S_, .i32⟩
  | .hbm, ⟨18, _⟩ => ⟨S_, .f32⟩
  | .hbm, ⟨19, _⟩ => ⟨S1x1024x128, .f32⟩
  | .hbm, ⟨20, _⟩ => ⟨S1x1024x2560, .f32⟩
  | .hbm, ⟨21, _⟩ => ⟨S1x1024x2560, .bf16⟩
  | .hbm, ⟨22, _⟩ => ⟨S1x1024, .f32⟩
  | .hbm, ⟨23, _⟩ => ⟨S32768x1024, .bf16⟩
  | .hbm, ⟨24, _⟩ => ⟨S32768x4x64, .f32⟩
  | .hbm, ⟨25, _⟩ => ⟨S32768x4x64, .f32⟩
  | .hbm, ⟨26, _⟩ => ⟨S32768x64, .f32⟩
  | .hbm, ⟨27, _⟩ => ⟨S32768x512, .bf16⟩
  | .hbm, ⟨28, _⟩ => ⟨S32768x256, .bf16⟩
  | .hbm, ⟨29, _⟩ => ⟨S32768x64, .bf16⟩
  | .hbm, ⟨30, _⟩ => ⟨S32768x512, .bf16⟩
  | .hbm, ⟨31, _⟩ => ⟨S32768x128, .f32⟩
  | .hbm, ⟨32, _⟩ => ⟨S256x256x128, .bf16⟩
  | .hbm, ⟨33, _⟩ => ⟨S32768x8, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4x64, .f32⟩
  | .local _ .vmem, ⟨7, _⟩ => ⟨S1024x4x64, .f32⟩
  | .local _ .vmem, ⟨8, _⟩ => ⟨S1024x4x64, .f32⟩
  | .local _ .vmem, ⟨9, _⟩ => ⟨S1024x4x64, .f32⟩
  | .local _ .vmem, ⟨10, _⟩ => ⟨S1024x64, .f32⟩
  | .local _ .vmem, ⟨11, _⟩ => ⟨S1024x64, .f32⟩
  | .local _ .vmem, ⟨12, _⟩ => ⟨S1024x512, .bf16⟩
  | .local _ .vmem, ⟨13, _⟩ => ⟨S1024x512, .bf16⟩
  | .local _ .vmem, ⟨14, _⟩ => ⟨S1024x256, .bf16⟩
  | .local _ .vmem, ⟨15, _⟩ => ⟨S1024x256, .bf16⟩
  | .local _ .vmem, ⟨16, _⟩ => ⟨S1024x64, .bf16⟩
  | .local _ .vmem, ⟨17, _⟩ => ⟨S1024x64, .bf16⟩
  | .local _ .vmem, ⟨18, _⟩ => ⟨S1024x512, .bf16⟩
  | .local _ .vmem, ⟨19, _⟩ => ⟨S1024x512, .bf16⟩
  | .local _ .vmem, ⟨20, _⟩ => ⟨S1024x128, .f32⟩
  | .local _ .vmem, ⟨21, _⟩ => ⟨S1024x128, .f32⟩
  | .local _ .vmem, ⟨22, _⟩ => ⟨S8x256x128, .bf16⟩
  | .local _ .vmem, ⟨23, _⟩ => ⟨S8x256x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev main_v16_8 : Ref sig .tc := ⟨.hbm, 31, rfl⟩
abbrev main_v16_9 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnProjIdeal.lean ====
abbrev S8x4096x1024 : Shape := ⟨3, ![8, 4096, 1024]⟩
abbrev S2x1024 : Shape := ⟨2, ![2, 1024]⟩
abbrev S1x1024x2120 : Shape := ⟨3, ![1, 1024, 2120]⟩
abbrev S32768x1024 : Shape := ⟨2, ![32768, 1024]⟩
abbrev S1x1024 : Shape := ⟨2, ![1, 1024]⟩
abbrev S1024 : Shape := ⟨1, ![1024]⟩
abbrev S1x1024x64 : Shape := ⟨3, ![1, 1024, 64]⟩
abbrev S1x1024x1024 : Shape := ⟨3, ![1, 1024, 1024]⟩
abbrev S1x1024x768 : Shape := ⟨3, ![1, 1024, 768]⟩
abbrev S_ : Shape := ⟨0, ![]⟩
abbrev S1x1024x128 : Shape := ⟨3, ![1, 1024, 128]⟩
abbrev S1x1024x8 : Shape := ⟨3, ![1, 1024, 8]⟩
abbrev S1x1024x2560 : Shape := ⟨3, ![1, 1024, 2560]⟩
abbrev S32768x4x64 : Shape := ⟨3, ![32768, 4, 64]⟩
abbrev S32768x64 : Shape := ⟨2, ![32768, 64]⟩
abbrev S32768x512 : Shape := ⟨2, ![32768, 512]⟩
abbrev S32768x256 : Shape := ⟨2, ![32768, 256]⟩
abbrev S32768x128 : Shape := ⟨2, ![32768, 128]⟩
abbrev S256x256x128 : Shape := ⟨3, ![256, 256, 128]⟩
abbrev S1024x1024 : Shape := ⟨2, ![1024, 1024]⟩
abbrev S1024x4x64 : Shape := ⟨3, ![1024, 4, 64]⟩
abbrev S1024x64 : Shape := ⟨2, ![1024, 64]⟩
abbrev S1024x512 : Shape := ⟨2, ![1024, 512]⟩
abbrev S1024x256 : Shape := ⟨2, ![1024, 256]⟩
abbrev S1024x128 : Shape := ⟨2, ![1024, 128]⟩
abbrev S8x256x128 : Shape := ⟨3, ![8, 256, 128]⟩
abbrev S1024x1 : Shape := ⟨2, ![1024, 1]⟩
abbrev S1x1024x256 : Shape := ⟨3, ![1, 1024, 256]⟩
abbrev S128x256 : Shape := ⟨2, ![128, 256]⟩
abbrev S256x128 : Shape := ⟨2, ![256, 128]⟩
abbrev S1x256x128 : Shape := ⟨3, ![1, 256, 128]⟩
abbrev S1x1024x512 : Shape := ⟨3, ![1, 1024, 512]⟩
abbrev S1024x4x128 : Shape := ⟨3, ![1024, 4, 128]⟩
abbrev S32768x8 : Shape := ⟨2, ![32768, 8]⟩

abbrev nBuf : Space → Nat
  | .hbm => 34
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x2120, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S1x1024x64, .f32⟩
  | .hbm, ⟨7, _⟩ => ⟨S1x1024x64, .f32⟩
  | .hbm, ⟨8, _⟩ => ⟨S1x1024x64, .f32⟩
  | .hbm, ⟨9, _⟩ => ⟨S1x1024x64, .f32⟩
  | .hbm, ⟨10, _⟩ => ⟨S1x1024x1024, .f32⟩
  | .hbm, ⟨11, _⟩ => ⟨S1x1024x768, .f32⟩
  | .hbm, ⟨12, _⟩ => ⟨S1x1024x64, .f32⟩
  | .hbm, ⟨13, _⟩ => ⟨S_, .i32⟩
  | .hbm, ⟨14, _⟩ => ⟨S_, .f32⟩
  | .hbm, ⟨15, _⟩ => ⟨S1x1024x128, .f32⟩
  | .hbm, ⟨16, _⟩ => ⟨S1x1024x8, .f32⟩
  | .hbm, ⟨17, _⟩ => ⟨S_, .i32⟩
  | .hbm, ⟨18, _⟩ => ⟨S_, .f32⟩
  | .hbm, ⟨19, _⟩ => ⟨S1x1024x128, .f32⟩
  | .hbm, ⟨20, _⟩ => ⟨S1x1024x2560, .f32⟩
  | .hbm, ⟨21, _⟩ => ⟨S1x1024x2560, .bf16⟩
  | .hbm, ⟨22, _⟩ => ⟨S1x1024, .f32⟩
  | .hbm, ⟨23, _⟩ => ⟨S32768x1024, .bf16⟩
  | .hbm, ⟨24, _⟩ => ⟨S32768x4x64, .f32⟩
  | .hbm, ⟨25, _⟩ => ⟨S32768x4x64, .f32⟩
  | .hbm, ⟨26, _⟩ => ⟨S32768x64, .f32⟩
  | .hbm, ⟨27, _⟩ => ⟨S32768x512, .bf16⟩
  | .hbm, ⟨28, _⟩ => ⟨S32768x256, .bf16⟩
  | .hbm, ⟨29, _⟩ => ⟨S32768x64, .bf16⟩
  | .hbm, ⟨30, _⟩ => ⟨S32768x512, .bf16⟩
  | .hbm, ⟨31, _⟩ => ⟨S32768x128, .f32⟩
  | .hbm, ⟨32, _⟩ => ⟨S256x256x128, .bf16⟩
  | .hbm, ⟨33, _⟩ => ⟨S32768x8, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4x64, .f32⟩
  | .local _ .vmem, ⟨7, _⟩ => ⟨S1024x4x64, .f32⟩
  | .local _ .vmem, ⟨8, _⟩ => ⟨S1024x4x64, .f32⟩
  | .local _ .vmem, ⟨9, _⟩ => ⟨S1024x4x64, .f32⟩
  | .local _ .vmem, ⟨10, _⟩ => ⟨S1024x64, .f32⟩
  | .local _ .vmem, ⟨11, _⟩ => ⟨S1024x64, .f32⟩
  | .local _ .vmem, ⟨12, _⟩ => ⟨S1024x512, .bf16⟩
  | .local _ .vmem, ⟨13, _⟩ => ⟨S1024x512, .bf16⟩
  | .local _ .vmem, ⟨14, _⟩ => ⟨S1024x256, .bf16⟩
  | .local _ .vmem, ⟨15, _⟩ => ⟨S1024x256, .bf16⟩
  | .local _ .vmem, ⟨16, _⟩ => ⟨S1024x64, .bf16⟩
  | .local _ .vmem, ⟨17, _⟩ => ⟨S1024x64, .bf16⟩
  | .local _ .vmem, ⟨18, _⟩ => ⟨S1024x512, .bf16⟩
  | .local _ .vmem, ⟨19, _⟩ => ⟨S1024x512, .bf16⟩
  | .local _ .vmem, ⟨20, _⟩ => ⟨S1024x128, .f32⟩
  | .local _ .vmem, ⟨21, _⟩ => ⟨S1024x128, .f32⟩
  | .local _ .vmem, ⟨22, _⟩ => ⟨S8x256x128, .bf16⟩
  | .local _ .vmem, ⟨23, _⟩ => ⟨S8x256x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev main_v16_8 : Ref sig .tc := ⟨.hbm, 31, rfl⟩
abbrev main_v16_9 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnProjRefIdeal.lean ====
abbrev S8x4096x1024 : Shape := ⟨3, ![8, 4096, 1024]⟩
abbrev S2x1024 : Shape := ⟨2, ![2, 1024]⟩
abbrev S1x1024x2120 : Shape := ⟨3, ![1, 1024, 2120]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S1024x2120 : Shape := ⟨2, ![1024, 2120]⟩
abbrev S32768x2120 : Shape := ⟨2, ![32768, 2120]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩
abbrev S32768x4x64 : Shape := ⟨3, ![32768, 4, 64]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x2120, .f32⟩
  | .hbm, ⟨3, _⟩ => ⟨S1x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S32768x1024, .f32⟩
  | .hbm, ⟨22, _⟩ => ⟨S1024x2120, .f32⟩
  | .hbm, ⟨23, _⟩ => ⟨S32768x2120, .f32⟩
  | .hbm, ⟨24, _⟩ => ⟨S32768x1024, .f32⟩
  | .hbm, ⟨25, _⟩ => ⟨S32768x256, .f32⟩
  | .hbm, ⟨26, _⟩ => ⟨S32768x256, .f32⟩
  | .hbm, ⟨27, _⟩ => ⟨S32768x512, .f32⟩
  | .hbm, ⟨28, _⟩ => ⟨S32768x64, .f32⟩
  | .hbm, ⟨29, _⟩ => ⟨S32768x8, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .bf16⟩
  | .hbm, ⟨34, _⟩ => ⟨S32768x4x64, .f32⟩
  | .hbm, ⟨35, _⟩ => ⟨S32768x4x64, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S32768x512, .bf16⟩
  | .hbm, ⟨40, _⟩ => ⟨S_, .f32⟩
  | .hbm, ⟨41, _⟩ => ⟨S32768x8, .f32⟩
  | .hbm, ⟨42, _⟩ => ⟨S32768x8, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== AttnProjSample.lean ====
abbrev S8x32x1024 : Shape := ⟨3, ![8, 32, 1024]⟩
abbrev S2x1024 : Shape := ⟨2, ![2, 1024]⟩
abbrev S1x1024x2120 : Shape := ⟨3, ![1, 1024, 2120]⟩
abbrev S256x1024 : Shape := ⟨2, ![256, 1024]⟩
abbrev S1x1024 : Shape := ⟨2, ![1, 1024]⟩
abbrev S1024 : Shape := ⟨1, ![1024]⟩
abbrev S1x1024x64 : Shape := ⟨3, ![1, 1024, 64]⟩
abbrev S1x1024x1024 : Shape := ⟨3, ![1, 1024, 1024]⟩
abbrev S1x1024x768 : Shape := ⟨3, ![1, 1024, 768]⟩
abbrev S_ : Shape := ⟨0, ![]⟩
abbrev S1x1024x128 : Shape := ⟨3, ![1, 1024, 128]⟩
abbrev S1x1024x8 : Shape := ⟨3, ![1, 1024, 8]⟩
abbrev S1x1024x2560 : Shape := ⟨3, ![1, 1024, 2560]⟩
abbrev S256x4x64 : Shape := ⟨3, ![256, 4, 64]⟩
abbrev S256x64 : Shape := ⟨2, ![256, 64]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S1024x128 : Shape := ⟨2, ![1024, 128]⟩
abbrev S256x4x128 : Shape := ⟨3, ![256, 4, 128]⟩
abbrev S256x8 : Shape := ⟨2, ![256, 8]⟩

abbrev nBuf : Space → Nat
  | .hbm => 33
  | .vmem => 12
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S1x1024x2120, .f32⟩
  | .hbm, ⟨3, _⟩ => ⟨S256x1024, .f32⟩
  | .hbm, ⟨4, _⟩ => ⟨S1x1024, .f32⟩
  | .hbm, ⟨5, _⟩ => ⟨S1024, .f32⟩
  | .hbm, ⟨6, _⟩ => ⟨S1x1024x64, .f32⟩
  | .hbm, ⟨7, _⟩ => ⟨S1x1024x64, .f32⟩
  | .hbm, ⟨8, _⟩ => ⟨S1x1024x64, .f32⟩
  | .hbm, ⟨9, _⟩ => ⟨S1x1024x64, .f32⟩
  | .hbm, ⟨10, _⟩ => ⟨S1x1024x1024, .f32⟩
  | .hbm, ⟨11, _⟩ => ⟨S1x1024x768, .f32⟩
  | .hbm, ⟨12, _⟩ => ⟨S1x1024x64, .f32⟩
  | .hbm, ⟨13, _⟩ => ⟨S_, .i32⟩
  | .hbm, ⟨14, _⟩ => ⟨S_, .f32⟩
  | .hbm, ⟨15, _⟩ => ⟨S1x1024x128, .f32⟩
  | .hbm, ⟨16, _⟩ => ⟨S1x1024x8, .f32⟩
  | .hbm, ⟨17, _⟩ => ⟨S_, .i32⟩
  | .hbm, ⟨18, _⟩ => ⟨S_, .f32⟩
  | .hbm, ⟨19, _⟩ => ⟨S1x1024x128, .f32⟩
  | .hbm, ⟨20, _⟩ => ⟨S1x1024x2560, .f32⟩
  | .hbm, ⟨21, _⟩ => ⟨S1x1024x2560, .bf16⟩
  | .hbm, ⟨22, _⟩ => ⟨S1x1024, .f32⟩
  | .hbm, ⟨23, _⟩ => ⟨S256x1024, .bf16⟩
  | .hbm, ⟨24, _⟩ => ⟨S256x4x64, .f32⟩
  | .hbm, ⟨25, _⟩ => ⟨S256x4x64, .f32⟩
  | .hbm, ⟨26, _⟩ => ⟨S256x64, .f32⟩
  | .hbm, ⟨27, _⟩ => ⟨S256x512, .bf16⟩
  | .hbm, ⟨28, _⟩ => ⟨S256x256, .bf16⟩
  | .hbm, ⟨29, _⟩ => ⟨S256x64, .bf16⟩
  | .hbm, ⟨30, _⟩ => ⟨S256x512, .bf16⟩
  | .hbm, ⟨31, _⟩ => ⟨S256x128, .f32⟩
  | .hbm, ⟨32, _⟩ => ⟨S256x8, .f32⟩
  | .local _ .vmem, ⟨0, _⟩ => ⟨S256x1024, .f32⟩
  | .local _ .vmem, ⟨1, _⟩ => ⟨S1x1024, .f32⟩
  | .local _ .vmem, ⟨2, _⟩ => ⟨S1x1024x2560, .bf16⟩
  | .local _ .vmem, ⟨3, _⟩ => ⟨S256x1024, .bf16⟩
  | .local _ .vmem, ⟨4, _⟩ => ⟨S256x4x64, .f32⟩
  | .local _ .vmem, ⟨5, _⟩ => ⟨S256x4x64, .f32⟩
  | .local _ .vmem, ⟨6, _⟩ => ⟨S256x64, .f32⟩
  | .local _ .vmem, ⟨7, _⟩ => ⟨S256x512, .bf16⟩
  | .local _ .vmem, ⟨8, _⟩ => ⟨S256x256, .bf16⟩
  | .local _ .vmem, ⟨9, _⟩ => ⟨S256x64, .bf16⟩
  | .local _ .vmem, ⟨10, _⟩ => ⟨S256x512, .bf16⟩
  | .local _ .vmem, ⟨11, _⟩ => ⟨S256x128, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev main_v16_8 : Ref sig .tc := ⟨.hbm, 31, rfl⟩
abbrev main_v17 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== AttnProjSampleRefIdeal.lean ====
abbrev S8x32x1024 : Shape := ⟨3, ![8, 32, 1024]⟩
abbrev S2x1024 : Shape := ⟨2, ![2, 1024]⟩
abbrev S1x1024x2120 : Shape := ⟨3, ![1, 1024, 2120]⟩
abbrev S1x1024 : Shape := ⟨2, ![1, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S256x1024 : Shape := ⟨2, ![256, 1024]⟩
abbrev S1024x2120 : Shape := ⟨2, ![1024, 2120]⟩
abbrev S256x2120 : Shape := ⟨2, ![256, 2120]⟩
abbrev S256x256 : Shape := ⟨2, ![256, 256]⟩
abbrev S256x512 : Shape := ⟨2, ![256, 512]⟩
abbrev S256x64 : Shape := ⟨2, ![256, 64]⟩
abbrev S256x8 : Shape := ⟨2, ![256, 8]⟩
abbrev S256x4x64 : Shape := ⟨3, ![256, 4, 64]⟩

abbrev nBuf : Space → Nat
  | .hbm => 43
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S1x1024x2120, .f32⟩
  | .hbm, ⟨3, _⟩ => ⟨S1x1024, .f32⟩
  | .hbm, ⟨4, _⟩ => ⟨S1024, .f32⟩
  | .hbm, ⟨5, _⟩ => ⟨S8x32x1024, .f32⟩
  | .hbm, ⟨6, _⟩ => ⟨S_, .f32⟩
  | .hbm, ⟨7, _⟩ => ⟨S8x32, .f32⟩
  | .hbm, ⟨8, _⟩ => ⟨S8x32x1, .f32⟩
  | .hbm, ⟨9, _⟩ => ⟨S_, .f32⟩
  | .hbm, ⟨10, _⟩ => ⟨S8x32x1, .f32⟩
  | .hbm, ⟨11, _⟩ => ⟨S8x32x1, .f32⟩
  | .hbm, ⟨12, _⟩ => ⟨S_, .f32⟩
  | .hbm, ⟨13, _⟩ => ⟨S8x32x1, .f32⟩
  | .hbm, ⟨14, _⟩ => ⟨S8x32x1, .f32⟩
  | .hbm, ⟨15, _⟩ => ⟨S8x32x1, .f32⟩
  | .hbm, ⟨16, _⟩ => ⟨S8x32x1024, .f32⟩
  | .hbm, ⟨17, _⟩ => ⟨S8x32x1024, .f32⟩
  | .hbm, ⟨18, _⟩ => ⟨S1x1x1024, .f32⟩
  | .hbm, ⟨19, _⟩ => ⟨S8x32x1024, .f32⟩
  | .hbm, ⟨20, _⟩ => ⟨S8x32x1024, .f32⟩
  | .hbm, ⟨21, _⟩ => ⟨S256x1024, .f32⟩
  | .hbm, ⟨22, _⟩ => ⟨S1024x2120, .f32⟩
  | .hbm, ⟨23, _⟩ => ⟨S256x2120, .f32⟩
  | .hbm, ⟨24, _⟩ => ⟨S256x1024, .f32⟩
  | .hbm, ⟨25, _⟩ => ⟨S256x256, .f32⟩
  | .hbm, ⟨26, _⟩ => ⟨S256x256, .f32⟩
  | .hbm, ⟨27, _⟩ => ⟨S256x512, .f32⟩
  | .hbm, ⟨28, _⟩ => ⟨S256x64, .f32⟩
  | .hbm, ⟨29, _⟩ => ⟨S256x8, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .bf16⟩
  | .hbm, ⟨34, _⟩ => ⟨S256x4x64, .f32⟩
  | .hbm, ⟨35, _⟩ => ⟨S256x4x64, .f32⟩
  | .hbm, ⟨36, _⟩ => ⟨S_, .f32⟩
  | .hbm, ⟨37, _⟩ => ⟨S256x512, .f32⟩
  | .hbm, ⟨38, _⟩ => ⟨S256x512, .f32⟩
  | .hbm, ⟨39, _⟩ => ⟨S256x512, .bf16⟩
  | .hbm, ⟨40, _⟩ => ⟨S_, .f32⟩
  | .hbm, ⟨41, _⟩ => ⟨S256x8, .f32⟩
  | .hbm, ⟨42, _⟩ => ⟨S256x8, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== MemKv.lean ====
abbrev S8x256x1024 : Shape := ⟨3, ![8, 256, 1024]⟩
abbrev S2x1024 : Shape := ⟨2, ![2, 1024]⟩
abbrev S2x1024x2048 : Shape := ⟨3, ![2, 1024, 2048]⟩
abbrev S2048x1024 : Shape := ⟨2, ![2048, 1024]⟩
abbrev S1x1024 : Shape := ⟨2, ![1, 1024]⟩
abbrev S1024 : Shape := ⟨1, ![1024]⟩
abbrev S2048x4x256 : Shape := ⟨3, ![2048, 4, 256]⟩
abbrev S1024x1024 : Shape := ⟨2, ![1024, 1024]⟩
abbrev S1x1024x2048 : Shape := ⟨3, ![1, 1024, 2048]⟩
abbrev S1024x4x256 : Shape := ⟨3, ![1024, 4, 256]⟩
abbrev S1024x1 : Shape := ⟨2, ![1024, 1]⟩
abbrev S1x1024x1024 : Shape := ⟨3, ![1, 1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S2048x1024, .f32⟩
  | .hbm, ⟨4, _⟩ => ⟨S1x1024, .f32⟩
  | .hbm, ⟨5, _⟩ => ⟨S1024, .f32⟩
  | .hbm, ⟨6, _⟩ => ⟨S2x1024x2048, .bf16⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x4x256, .f32⟩
  | .hbm, ⟨11, _⟩ => ⟨S2048x4x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x4x256, .f32⟩
  | .local _ .vmem, ⟨9, _⟩ => ⟨S1024x4x256, .f32⟩
  | .local _ .vmem, ⟨10, _⟩ => ⟨S1024x4x256, .f32⟩
  | .local _ .vmem, ⟨11, _⟩ => ⟨S1024x4x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvRefIdeal.lean ====
abbrev S8x256x1024 : Shape := ⟨3, ![8, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S8x256x2048 : Shape := ⟨3, ![8, 256, 2048]⟩
abbrev S2048x4x256 : Shape := ⟨3, ![2048, 4, 256]⟩

abbrev nBuf : Space → Nat
  | .hbm => 28
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x2048, .f32⟩
  | .hbm, ⟨22, _⟩ => ⟨S1024x2048, .f32⟩
  | .hbm, ⟨23, _⟩ => ⟨S8x256x2048, .f32⟩
  | .hbm, ⟨24, _⟩ => ⟨S8x256x1024, .f32⟩
  | .hbm, ⟨25, _⟩ => ⟨S8x256x1024, .f32⟩
  | .hbm, ⟨26, _⟩ => ⟨S2048x4x256, .f32⟩
  | .hbm, ⟨27, _⟩ => ⟨S2048x4x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== MemKvNext.lean ====
abbrev S8x256x1024 : Shape := ⟨3, ![8, 256, 1024]⟩
abbrev S2x1024 : Shape := ⟨2, ![2, 1024]⟩
abbrev S2x1024x2048 : Shape := ⟨3, ![2, 1024, 2048]⟩
abbrev S2048x1024 : Shape := ⟨2, ![2048, 1024]⟩
abbrev S1x1024 : Shape := ⟨2, ![1, 1024]⟩
abbrev S1024 : Shape := ⟨1, ![1024]⟩
abbrev S2048x4x256 : Shape := ⟨3, ![2048, 4, 256]⟩
abbrev S1024x1024 : Shape := ⟨2, ![1024, 1024]⟩
abbrev S1x1024x2048 : Shape := ⟨3, ![1, 1024, 2048]⟩
abbrev S1024x4x256 : Shape := ⟨3, ![1024, 4, 256]⟩
abbrev S1024x1 : Shape := ⟨2, ![1024, 1]⟩
abbrev S1x1024x1024 : Shape := ⟨3, ![1, 1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S2048x1024, .f32⟩
  | .hbm, ⟨4, _⟩ => ⟨S1x1024, .f32⟩
  | .hbm, ⟨5, _⟩ => ⟨S1024, .f32⟩
  | .hbm, ⟨6, _⟩ => ⟨S2x1024x2048, .bf16⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x4x256, .f32⟩
  | .hbm, ⟨11, _⟩ => ⟨S2048x4x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x4x256, .f32⟩
  | .local _ .vmem, ⟨9, _⟩ => ⟨S1024x4x256, .f32⟩
  | .local _ .vmem, ⟨10, _⟩ => ⟨S1024x4x256, .f32⟩
  | .local _ .vmem, ⟨11, _⟩ => ⟨S1024x4x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvNextRefIdeal.lean ====
abbrev S8x256x1024 : Shape := ⟨3, ![8, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S8x256x2048 : Shape := ⟨3, ![8, 256, 2048]⟩
abbrev S2048x4x256 : Shape := ⟨3, ![2048, 4, 256]⟩

abbrev nBuf : Space → Nat
  | .hbm => 28
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x2048, .f32⟩
  | .hbm, ⟨22, _⟩ => ⟨S1024x2048, .f32⟩
  | .hbm, ⟨23, _⟩ => ⟨S8x256x2048, .f32⟩
  | .hbm, ⟨24, _⟩ => ⟨S8x256x1024, .f32⟩
  | .hbm, ⟨25, _⟩ => ⟨S8x256x1024, .f32⟩
  | .hbm, ⟨26, _⟩ => ⟨S2048x4x256, .f32⟩
  | .hbm, ⟨27, _⟩ => ⟨S2048x4x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== MemAttnFirst.lean ====
abbrev S8x4096x1024 : Shape := ⟨3, ![8, 4096, 1024]⟩
abbrev S1x1024x1024 : Shape := ⟨3, ![1, 1024, 1024]⟩
abbrev S2x1024 : Shape := ⟨2, ![2, 1024]⟩
abbrev S2x1024x1024 : Shape := ⟨3, ![2, 1024, 1024]⟩
abbrev S8x256x4x256 : Shape := ⟨4, ![8, 256, 4, 256]⟩
abbrev S32768x1024 : Shape := ⟨2, ![32768, 1024]⟩
abbrev S1x1024 : Shape := ⟨2, ![1, 1024]⟩
abbrev S1024 : Shape := ⟨1, ![1024]⟩
abbrev S8x256x1024 : Shape := ⟨3, ![8, 256, 1024]⟩
abbrev S1024x1024 : Shape := ⟨2, ![1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 19
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1x1024x1024, .f32⟩
  | .hbm, ⟨3, _⟩ => ⟨S2x1024, .f32⟩
  | .hbm, ⟨4, _⟩ => ⟨S2x1024x1024, .f32⟩
  | .hbm, ⟨5, _⟩ => ⟨S8x256x4x256, .f32⟩
  | .hbm, ⟨6, _⟩ => ⟨S8x256x4x256, .f32⟩
  | .hbm, ⟨7, _⟩ => ⟨S2x1024x1024, .f32⟩
  | .hbm, ⟨8, _⟩ => ⟨S32768x1024, .f32⟩
  | .hbm, ⟨9, _⟩ => ⟨S1x1024, .f32⟩
  | .hbm, ⟨10, _⟩ => ⟨S1024, .f32⟩
  | .hbm, ⟨11, _⟩ => ⟨S2x1024x1024, .bf16⟩
  | .hbm, ⟨12, _⟩ => ⟨S8x256x1024, .f32⟩
  | .hbm, ⟨13, _⟩ => ⟨S8x256x1024, .f32⟩
  | .hbm, ⟨14, _⟩ => ⟨S2x1024x1024, .bf16⟩
  | .hbm, ⟨15, _⟩ => ⟨S32768x1024, .bf16⟩
  | .hbm, ⟨16, _⟩ => ⟨S1x1024x1024, .bf16⟩
  | .hbm, ⟨17, _⟩ => ⟨S1x1024, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MemAttnFirstRefIdeal.lean ====
abbrev S8x4096x1024 : Shape := ⟨3, ![8, 4096, 1024]⟩
abbrev S1x1024x1024 : Shape := ⟨3, ![1, 1024, 1024]⟩
abbrev S2x1024 : Shape := ⟨2, ![2, 1024]⟩
abbrev S2x1024x1024 : Shape := ⟨3, ![2, 1024, 1024]⟩
abbrev S8x256x4x256 : Shape := ⟨4, ![8, 256, 4, 256]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1x1024x1024, .f32⟩
  | .hbm, ⟨3, _⟩ => ⟨S2x1024, .f32⟩
  | .hbm, ⟨4, _⟩ => ⟨S2x1024x1024, .f32⟩
  | .hbm, ⟨5, _⟩ => ⟨S8x256x4x256, .f32⟩
  | .hbm, ⟨6, _⟩ => ⟨S8x256x4x256, .f32⟩
  | .hbm, ⟨7, _⟩ => ⟨S2x1024x1024, .f32⟩
  | .hbm, ⟨8, _⟩ => ⟨S8x4096x1024, .f32⟩
  | .hbm, ⟨9, _⟩ => ⟨S1024x1024, .f32⟩
  | .hbm, ⟨10, _⟩ => ⟨S8x4096x1024, .f32⟩
  | .hbm, ⟨11, _⟩ => ⟨S8x4096x1024, .f32⟩
  | .hbm, ⟨12, _⟩ => ⟨S1x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S1x1024x1024, .f32⟩
  | .hbm, ⟨31, _⟩ => ⟨S1024x1024, .f32⟩
  | .hbm, ⟨32, _⟩ => ⟨S1x1024x1024, .f32⟩
  | .hbm, ⟨33, _⟩ => ⟨S1024x1024, .f32⟩
  | .hbm, ⟨34, _⟩ => ⟨S8x4096x1024, .f32⟩
  | .hbm, ⟨35, _⟩ => ⟨S8x4096x4x256, .f32⟩
  | .hbm, ⟨36, _⟩ => ⟨S8x4x4096x256, .f32⟩
  | .hbm, ⟨37, _⟩ => ⟨S_, .f32⟩
  | .hbm, ⟨38, _⟩ => ⟨S8x4x4096x256, .f32⟩
  | .hbm, ⟨39, _⟩ => ⟨S8x4x4096x256, .f32⟩
  | .hbm, ⟨40, _⟩ => ⟨S_, .f32⟩
  | .hbm, ⟨41, _⟩ => ⟨S8x4x4096, .f32⟩
  | .hbm, ⟨42, _⟩ => ⟨S_, .f32⟩
  | .hbm, ⟨43, _⟩ => ⟨S8x4x4096, .f32⟩
  | .hbm, ⟨44, _⟩ => ⟨S8x4x4096, .f32⟩
  | .hbm, ⟨45, _⟩ => ⟨S8x4x4096x1, .f32⟩
  | .hbm, ⟨46, _⟩ => ⟨S8x4x4096x256, .f32⟩
  | .hbm, ⟨47, _⟩ => ⟨S8x4x4096x256, .f32⟩
  | .hbm, ⟨48, _⟩ => ⟨S8x4x4096x256, .f32⟩
  | .hbm, ⟨49, _⟩ => ⟨S_, .f32⟩
  | .hbm, ⟨50, _⟩ => ⟨S8x4x4096, .f32⟩
  | .hbm, ⟨51, _⟩ => ⟨S8x4x4096x1, .f32⟩
  | .hbm, ⟨52, _⟩ => ⟨S8x4x4096x256, .f32⟩
  | .hbm, ⟨53, _⟩ => ⟨S8x4x4096x256, .f32⟩
  | .hbm, ⟨54, _⟩ => ⟨S8x4x256x4096, .f32⟩
  | .hbm, ⟨55, _⟩ => ⟨S8x4096x4x256, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== MemAttn.lean ====
abbrev S8x4096x1024 : Shape := ⟨3, ![8, 4096, 1024]⟩
abbrev S2x1024 : Shape := ⟨2, ![2, 1024]⟩
abbrev S2x1024x1024 : Shape := ⟨3, ![2, 1024, 1024]⟩
abbrev S8x256x4x256 : Shape := ⟨4, ![8, 256, 4, 256]⟩
abbrev S32768x1024 : Shape := ⟨2, ![32768, 1024]⟩
abbrev S1x1024 : Shape := ⟨2, ![1, 1024]⟩
abbrev S1024 : Shape := ⟨1, ![1024]⟩
abbrev S8x256x1024 : Shape := ⟨3, ![8, 256, 1024]⟩
abbrev S1024x1024 : Shape := ⟨2, ![1024, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 15
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x1024, .f32⟩
  | .hbm, ⟨3, _⟩ => ⟨S8x256x4x256, .f32⟩
  | .hbm, ⟨4, _⟩ => ⟨S8x256x4x256, .f32⟩
  | .hbm, ⟨5, _⟩ => ⟨S2x1024x1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S2x1024x1024, .bf16⟩
  | .hbm, ⟨10, _⟩ => ⟨S8x256x1024, .f32⟩
  | .hbm, ⟨11, _⟩ => ⟨S8x256x1024, .f32⟩
  | .hbm, ⟨12, _⟩ => ⟨S2x1024x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1024x1024, .bf16⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemAttnRefIdeal.lean ====
abbrev S8x4096x1024 : Shape := ⟨3, ![8, 4096, 1024]⟩
abbrev S2x1024 : Shape := ⟨2, ![2, 1024]⟩
abbrev S2x1024x1024 : Shape := ⟨3, ![2, 1024, 1024]⟩
abbrev S8x256x4x256 : Shape := ⟨4, ![8, 256, 4, 256]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x4096x4x256 : Shape := ⟨4, ![8, 4096, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S32768x1024 : Shape := ⟨2, ![32768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x1024, .f32⟩
  | .hbm, ⟨3, _⟩ => ⟨S8x256x4x256, .f32⟩
  | .hbm, ⟨4, _⟩ => ⟨S8x256x4x256, .f32⟩
  | .hbm, ⟨5, _⟩ => ⟨S2x1024x1024, .f32⟩
  | .hbm, ⟨6, _⟩ => ⟨S1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1x1024x1024, .f32⟩
  | .hbm, ⟨25, _⟩ => ⟨S1024x1024, .f32⟩
  | .hbm, ⟨26, _⟩ => ⟨S1x1024x1024, .f32⟩
  | .hbm, ⟨27, _⟩ => ⟨S1024x1024, .f32⟩
  | .hbm, ⟨28, _⟩ => ⟨S8x4096x1024, .f32⟩
  | .hbm, ⟨29, _⟩ => ⟨S8x4096x4x256, .f32⟩
  | .hbm, ⟨30, _⟩ => ⟨S8x4x4096x256, .f32⟩
  | .hbm, ⟨31, _⟩ => ⟨S_, .f32⟩
  | .hbm, ⟨32, _⟩ => ⟨S8x4x4096x256, .f32⟩
  | .hbm, ⟨33, _⟩ => ⟨S8x4x4096x256, .f32⟩
  | .hbm, ⟨34, _⟩ => ⟨S_, .f32⟩
  | .hbm, ⟨35, _⟩ => ⟨S8x4x4096, .f32⟩
  | .hbm, ⟨36, _⟩ => ⟨S_, .f32⟩
  | .hbm, ⟨37, _⟩ => ⟨S8x4x4096, .f32⟩
  | .hbm, ⟨38, _⟩ => ⟨S8x4x4096, .f32⟩
  | .hbm, ⟨39, _⟩ => ⟨S8x4x4096x1, .f32⟩
  | .hbm, ⟨40, _⟩ => ⟨S8x4x4096x256, .f32⟩
  | .hbm, ⟨41, _⟩ => ⟨S8x4x4096x256, .f32⟩
  | .hbm, ⟨42, _⟩ => ⟨S8x4x4096x256, .f32⟩
  | .hbm, ⟨43, _⟩ => ⟨S_, .f32⟩
  | .hbm, ⟨44, _⟩ => ⟨S8x4x4096, .f32⟩
  | .hbm, ⟨45, _⟩ => ⟨S8x4x4096x1, .f32⟩
  | .hbm, ⟨46, _⟩ => ⟨S8x4x4096x256, .f32⟩
  | .hbm, ⟨47, _⟩ => ⟨S8x4x4096x256, .f32⟩
  | .hbm, ⟨48, _⟩ => ⟨S8x4x256x4096, .f32⟩
  | .hbm, ⟨49, _⟩ => ⟨S8x4096x4x256, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== MemAttnFirstSample.lean ====
abbrev S8x32x1024 : Shape := ⟨3, ![8, 32, 1024]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x8x256x4x256 : Shape := ⟨5, ![2, 8, 256, 4, 256]⟩
abbrev S256x1024 : Shape := ⟨2, ![256, 1024]⟩
abbrev S1x1024 : Shape := ⟨2, ![1, 1024]⟩
abbrev S1024 : Shape := ⟨1, ![1024]⟩
abbrev S1x8x256x4x256 : Shape := ⟨5, ![1, 8, 256, 4, 256]⟩
abbrev S8x256x4x256 : Shape := ⟨4, ![8, 256, 4, 256]⟩
abbrev S32x1024 : Shape := ⟨2, ![32, 1024]⟩
abbrev S1x256x4x256 : Shape := ⟨4, ![1, 256, 4, 256]⟩
abbrev S1024x1024 : Shape := ⟨2, ![1024, 1024]⟩
abbrev S32 : Shape := ⟨1, ![32]⟩
abbrev S32x1 : Shape := ⟨2, ![32, 1]⟩
abbrev S32x256 : Shape := ⟨2, ![32, 256]⟩
abbrev S1x256x1x256 : Shape := ⟨4, ![1, 256, 1, 256]⟩
abbrev S256x256 : Shape := ⟨2, ![256, 256]⟩

abbrev nBuf : Space → Nat
  | .hbm => 21
  | .vmem => 14
  | .smem => 0
  | _ => 0

abbrev bufTy : (tb : Table) → Fin (tcTables nBuf tb) → BufTy
  | .hbm, ⟨0, _⟩ => ⟨S8x32x1024, .f32⟩
  | .hbm, ⟨1, _⟩ => ⟨S8x32x1024, .bf16⟩
  | .hbm, ⟨2, _⟩ => ⟨S1x1024x1024, .f32⟩
  | .hbm, ⟨3, _⟩ => ⟨S2x1024, .f32⟩
  | .hbm, ⟨4, _⟩ => ⟨S2x1024x1024, .f32⟩
  | .hbm, ⟨5, _⟩ => ⟨S2x8x256x4x256, .f32⟩
  | .hbm, ⟨6, _⟩ => ⟨S2x8x256x4x256, .f32⟩
  | .hbm, ⟨7, _⟩ => ⟨S2x1024x1024, .f32⟩
  | .hbm, ⟨8, _⟩ => ⟨S256x1024, .f32⟩
  | .hbm, ⟨9, _⟩ => ⟨S1x1024, .f32⟩
  | .hbm, ⟨10, _⟩ => ⟨S1024, .f32⟩
  | .hbm, ⟨11, _⟩ => ⟨S2x1024x1024, .bf16⟩
  | .hbm, ⟨12, _⟩ => ⟨S1x8x256x4x256, .f32⟩
  | .hbm, ⟨13, _⟩ => ⟨S8x256x4x256, .f32⟩
  | .hbm, ⟨14, _⟩ => ⟨S1x8x256x4x256, .f32⟩
  | .hbm, ⟨15, _⟩ => ⟨S8x256x4x256, .f32⟩
  | .hbm, ⟨16, _⟩ => ⟨S2x1024x1024, .bf16⟩
  | .hbm, ⟨17, _⟩ => ⟨S256x1024, .bf16⟩
  | .hbm, ⟨18, _⟩ => ⟨S1x1024x1024, .bf16⟩
  | .hbm, ⟨19, _⟩ => ⟨S1x1024, .f32⟩
  | .hbm, ⟨20, _⟩ => ⟨S256x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .bf16⟩
  | .local _ .vmem, ⟨3, _⟩ => ⟨S32x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x1024, .bf16⟩
  | .local _ .vmem, ⟨7, _⟩ => ⟨S1x256x4x256, .f32⟩
  | .local _ .vmem, ⟨8, _⟩ => ⟨S1x256x4x256, .f32⟩
  | .local _ .vmem, ⟨9, _⟩ => ⟨S1x256x4x256, .f32⟩
  | .local _ .vmem, ⟨10, _⟩ => ⟨S1x256x4x256, .f32⟩
  | .local _ .vmem, ⟨11, _⟩ => ⟨S1x1024x1024, .bf16⟩
  | .local _ .vmem, ⟨12, _⟩ => ⟨S32x1024, .f32⟩
  | .local _ .vmem, ⟨13, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_6 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MemAttnFirstSampleRefIdeal.lean ====
abbrev S8x32x1024 : Shape := ⟨3, ![8, 32, 1024]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x8x256x4x256 : Shape := ⟨5, ![2, 8, 256, 4, 256]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1x8x256x4x256 : Shape := ⟨5, ![1, 8, 256, 4, 256]⟩
abbrev S8x256x4x256 : Shape := ⟨4, ![8, 256, 4, 256]⟩
abbrev S8x32x4x256 : Shape := ⟨4, ![8, 32, 4, 256]⟩
abbrev S8x4x32x256 : Shape := ⟨4, ![8, 4, 32, 256]⟩
abbrev S8x4x32 : Shape := ⟨3, ![8, 4, 32]⟩
abbrev S8x4x32x1 : Shape := ⟨4, ![8, 4, 32, 1]⟩
abbrev S8x4x256x32 : Shape := ⟨4, ![8, 4, 256, 32]⟩
abbrev S256x1024 : Shape := ⟨2, ![256, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x32x1024, .bf16⟩
  | .hbm, ⟨2, _⟩ => ⟨S1x1024x1024, .f32⟩
  | .hbm, ⟨3, _⟩ => ⟨S2x1024, .f32⟩
  | .hbm, ⟨4, _⟩ => ⟨S2x1024x1024, .f32⟩
  | .hbm, ⟨5, _⟩ => ⟨S2x8x256x4x256, .f32⟩
  | .hbm, ⟨6, _⟩ => ⟨S2x8x256x4x256, .f32⟩
  | .hbm, ⟨7, _⟩ => ⟨S2x1024x1024, .f32⟩
  | .hbm, ⟨8, _⟩ => ⟨S8x32x1024, .f32⟩
  | .hbm, ⟨9, _⟩ => ⟨S1024x1024, .f32⟩
  | .hbm, ⟨10, _⟩ => ⟨S8x32x1024, .f32⟩
  | .hbm, ⟨11, _⟩ => ⟨S8x32x1024, .f32⟩
  | .hbm, ⟨12, _⟩ => ⟨S1x1024, .f32⟩
  | .hbm, ⟨13, _⟩ => ⟨S1024, .f32⟩
  | .hbm, ⟨14, _⟩ => ⟨S8x32x1024, .f32⟩
  | .hbm, ⟨15, _⟩ => ⟨S_, .f32⟩
  | .hbm, ⟨16, _⟩ => ⟨S8x32, .f32⟩
  | .hbm, ⟨17, _⟩ => ⟨S8x32x1, .f32⟩
  | .hbm, ⟨18, _⟩ => ⟨S_, .f32⟩
  | .hbm, ⟨19, _⟩ => ⟨S8x32x1, .f32⟩
  | .hbm, ⟨20, _⟩ => ⟨S8x32x1, .f32⟩
  | .hbm, ⟨21, _⟩ => ⟨S_, .f32⟩
  | .hbm, ⟨22, _⟩ => ⟨S8x32x1, .f32⟩
  | .hbm, ⟨23, _⟩ => ⟨S8x32x1, .f32⟩
  | .hbm, ⟨24, _⟩ => ⟨S8x32x1, .f32⟩
  | .hbm, ⟨25, _⟩ => ⟨S8x32x1024, .f32⟩
  | .hbm, ⟨26, _⟩ => ⟨S8x32x1024, .f32⟩
  | .hbm, ⟨27, _⟩ => ⟨S1x1x1024, .f32⟩
  | .hbm, ⟨28, _⟩ => ⟨S8x32x1024, .f32⟩
  | .hbm, ⟨29, _⟩ => ⟨S8x32x1024, .f32⟩
  | .hbm, ⟨30, _⟩ => ⟨S1x8x256x4x256, .f32⟩
  | .hbm, ⟨31, _⟩ => ⟨S8x256x4x256, .f32⟩
  | .hbm, ⟨32, _⟩ => ⟨S1x8x256x4x256, .f32⟩
  | .hbm, ⟨33, _⟩ => ⟨S8x256x4x256, .f32⟩
  | .hbm, ⟨34, _⟩ => ⟨S1x1024x1024, .f32⟩
  | .hbm, ⟨35, _⟩ => ⟨S1024x1024, .f32⟩
  | .hbm, ⟨36, _⟩ => ⟨S1x1024x1024, .f32⟩
  | .hbm, ⟨37, _⟩ => ⟨S1024x1024, .f32⟩
  | .hbm, ⟨38, _⟩ => ⟨S8x32x1024, .f32⟩
  | .hbm, ⟨39, _⟩ => ⟨S8x32x4x256, .f32⟩
  | .hbm, ⟨40, _⟩ => ⟨S8x4x32x256, .f32⟩
  | .hbm, ⟨41, _⟩ => ⟨S_, .f32⟩
  | .hbm, ⟨42, _⟩ => ⟨S8x4x32x256, .f32⟩
  | .hbm, ⟨43, _⟩ => ⟨S8x4x32x256, .f32⟩
  | .hbm, ⟨44, _⟩ => ⟨S_, .f32⟩
  | .hbm, ⟨45, _⟩ => ⟨S8x4x32, .f32⟩
  | .hbm, ⟨46, _⟩ => ⟨S_, .f32⟩
  | .hbm, ⟨47, _⟩ => ⟨S8x4x32, .f32⟩
  | .hbm, ⟨48, _⟩ => ⟨S8x4x32, .f32⟩
  | .hbm, ⟨49, _⟩ => ⟨S8x4x32x1, .f32⟩
  | .hbm, ⟨50, _⟩ => ⟨S8x4x32x256, .f32⟩
  | .hbm, ⟨51, _⟩ => ⟨S8x4x32x256, .f32⟩
  | .hbm, ⟨52, _⟩ => ⟨S8x4x32x256, .f32⟩
  | .hbm, ⟨53, _⟩ => ⟨S_, .f32⟩
  | .hbm, ⟨54, _⟩ => ⟨S8x4x32, .f32⟩
  | .hbm, ⟨55, _⟩ => ⟨S8x4x32x1, .f32⟩
  | .hbm, ⟨56, _⟩ => ⟨S8x4x32x256, .f32⟩
  | .hbm, ⟨57, _⟩ => ⟨S8x4x32x256, .f32⟩
  | .hbm, ⟨58, _⟩ => ⟨S8x4x256x32, .f32⟩
  | .hbm, ⟨59, _⟩ => ⟨S8x32x4x256, .f32⟩
  | .hbm, ⟨60, _⟩ => ⟨S8x32x1024, .f32⟩
  | .hbm, ⟨61, _⟩ => ⟨S8x32x1024, .f32⟩
  | .hbm, ⟨62, _⟩ => ⟨S8x32x1024, .f32⟩
  | .hbm, ⟨63, _⟩ => ⟨S256x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== MemAttnSample.lean ====
abbrev S8x32x1024 : Shape := ⟨3, ![8, 32, 1024]⟩
abbrev S2x1024 : Shape := ⟨2, ![2, 1024]⟩
abbrev S2x1024x1024 : Shape := ⟨3, ![2, 1024, 1024]⟩
abbrev S2x8x256x4x256 : Shape := ⟨5, ![2, 8, 256, 4, 256]⟩
abbrev S256x1024 : Shape := ⟨2, ![256, 1024]⟩
abbrev S1x1024 : Shape := ⟨2, ![1, 1024]⟩
abbrev S1024 : Shape := ⟨1, ![1024]⟩
abbrev S1x8x256x4x256 : Shape := ⟨5, ![1, 8, 256, 4, 256]⟩
abbrev S8x256x4x256 : Shape := ⟨4, ![8, 256, 4, 256]⟩
abbrev S32x1024 : Shape := ⟨2, ![32, 1024]⟩
abbrev S1x1024x1024 : Shape := ⟨3, ![1, 1024, 1024]⟩
abbrev S1x256x4x256 : Shape := ⟨4, ![1, 256, 4, 256]⟩
abbrev S32 : Shape := ⟨1, ![32]⟩
abbrev S32x1 : Shape := ⟨2, ![32, 1]⟩
abbrev S1024x1024 : Shape := ⟨2, ![1024, 1024]⟩
abbrev S32x256 : Shape := ⟨2, ![32, 256]⟩
abbrev S1x256x1x256 : Shape := ⟨4, ![1, 256, 1, 256]⟩
abbrev S256x256 : Shape := ⟨2, ![256, 256]⟩

abbrev nBuf : Space → Nat
  | .hbm => 17
  | .vmem => 11
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S2x1024x1024, .f32⟩
  | .hbm, ⟨3, _⟩ => ⟨S2x8x256x4x256, .f32⟩
  | .hbm, ⟨4, _⟩ => ⟨S2x8x256x4x256, .f32⟩
  | .hbm, ⟨5, _⟩ => ⟨S2x1024x1024, .f32⟩
  | .hbm, ⟨6, _⟩ => ⟨S256x1024, .f32⟩
  | .hbm, ⟨7, _⟩ => ⟨S1x1024, .f32⟩
  | .hbm, ⟨8, _⟩ => ⟨S1024, .f32⟩
  | .hbm, ⟨9, _⟩ => ⟨S2x1024x1024, .bf16⟩
  | .hbm, ⟨10, _⟩ => ⟨S1x8x256x4x256, .f32⟩
  | .hbm, ⟨11, _⟩ => ⟨S8x256x4x256, .f32⟩
  | .hbm, ⟨12, _⟩ => ⟨S1x8x256x4x256, .f32⟩
  | .hbm, ⟨13, _⟩ => ⟨S8x256x4x256, .f32⟩
  | .hbm, ⟨14, _⟩ => ⟨S2x1024x1024, .bf16⟩
  | .hbm, ⟨15, _⟩ => ⟨S1x1024, .f32⟩
  | .hbm, ⟨16, _⟩ => ⟨S256x1024, .f32⟩
  | .local _ .vmem, ⟨0, _⟩ => ⟨S32x1024, .f32⟩
  | .local _ .vmem, ⟨1, _⟩ => ⟨S32x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x256x4x256, .f32⟩
  | .local _ .vmem, ⟨5, _⟩ => ⟨S1x256x4x256, .f32⟩
  | .local _ .vmem, ⟨6, _⟩ => ⟨S1x256x4x256, .f32⟩
  | .local _ .vmem, ⟨7, _⟩ => ⟨S1x256x4x256, .f32⟩
  | .local _ .vmem, ⟨8, _⟩ => ⟨S1x1024x1024, .bf16⟩
  | .local _ .vmem, ⟨9, _⟩ => ⟨S32x1024, .f32⟩
  | .local _ .vmem, ⟨10, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_4 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemAttnSampleRefIdeal.lean ====
abbrev S8x32x1024 : Shape := ⟨3, ![8, 32, 1024]⟩
abbrev S2x1024 : Shape := ⟨2, ![2, 1024]⟩
abbrev S2x1024x1024 : Shape := ⟨3, ![2, 1024, 1024]⟩
abbrev S2x8x256x4x256 : Shape := ⟨5, ![2, 8, 256, 4, 256]⟩
abbrev S1x1024 : Shape := ⟨2, ![1, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1x8x256x4x256 : Shape := ⟨5, ![1, 8, 256, 4, 256]⟩
abbrev S8x256x4x256 : Shape := ⟨4, ![8, 256, 4, 256]⟩
abbrev S1x1024x1024 : Shape := ⟨3, ![1, 1024, 1024]⟩
abbrev S1024x1024 : Shape := ⟨2, ![1024, 1024]⟩
abbrev S8x32x4x256 : Shape := ⟨4, ![8, 32, 4, 256]⟩
abbrev S8x4x32x256 : Shape := ⟨4, ![8, 4, 32, 256]⟩
abbrev S8x4x32 : Shape := ⟨3, ![8, 4, 32]⟩
abbrev S8x4x32x1 : Shape := ⟨4, ![8, 4, 32, 1]⟩
abbrev S8x4x256x32 : Shape := ⟨4, ![8, 4, 256, 32]⟩
abbrev S256x1024 : Shape := ⟨2, ![256, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S2x1024x1024, .f32⟩
  | .hbm, ⟨3, _⟩ => ⟨S2x8x256x4x256, .f32⟩
  | .hbm, ⟨4, _⟩ => ⟨S2x8x256x4x256, .f32⟩
  | .hbm, ⟨5, _⟩ => ⟨S2x1024x1024, .f32⟩
  | .hbm, ⟨6, _⟩ => ⟨S1x1024, .f32⟩
  | .hbm, ⟨7, _⟩ => ⟨S1024, .f32⟩
  | .hbm, ⟨8, _⟩ => ⟨S8x32x1024, .f32⟩
  | .hbm, ⟨9, _⟩ => ⟨S_, .f32⟩
  | .hbm, ⟨10, _⟩ => ⟨S8x32, .f32⟩
  | .hbm, ⟨11, _⟩ => ⟨S8x32x1, .f32⟩
  | .hbm, ⟨12, _⟩ => ⟨S_, .f32⟩
  | .hbm, ⟨13, _⟩ => ⟨S8x32x1, .f32⟩
  | .hbm, ⟨14, _⟩ => ⟨S8x32x1, .f32⟩
  | .hbm, ⟨15, _⟩ => ⟨S_, .f32⟩
  | .hbm, ⟨16, _⟩ => ⟨S8x32x1, .f32⟩
  | .hbm, ⟨17, _⟩ => ⟨S8x32x1, .f32⟩
  | .hbm, ⟨18, _⟩ => ⟨S8x32x1, .f32⟩
  | .hbm, ⟨19, _⟩ => ⟨S8x32x1024, .f32⟩
  | .hbm, ⟨20, _⟩ => ⟨S8x32x1024, .f32⟩
  | .hbm, ⟨21, _⟩ => ⟨S1x1x1024, .f32⟩
  | .hbm, ⟨22, _⟩ => ⟨S8x32x1024, .f32⟩
  | .hbm, ⟨23, _⟩ => ⟨S8x32x1024, .f32⟩
  | .hbm, ⟨24, _⟩ => ⟨S1x8x256x4x256, .f32⟩
  | .hbm, ⟨25, _⟩ => ⟨S8x256x4x256, .f32⟩
  | .hbm, ⟨26, _⟩ => ⟨S1x8x256x4x256, .f32⟩
  | .hbm, ⟨27, _⟩ => ⟨S8x256x4x256, .f32⟩
  | .hbm, ⟨28, _⟩ => ⟨S1x1024x1024, .f32⟩
  | .hbm, ⟨29, _⟩ => ⟨S1024x1024, .f32⟩
  | .hbm, ⟨30, _⟩ => ⟨S1x1024x1024, .f32⟩
  | .hbm, ⟨31, _⟩ => ⟨S1024x1024, .f32⟩
  | .hbm, ⟨32, _⟩ => ⟨S8x32x1024, .f32⟩
  | .hbm, ⟨33, _⟩ => ⟨S8x32x4x256, .f32⟩
  | .hbm, ⟨34, _⟩ => ⟨S8x4x32x256, .f32⟩
  | .hbm, ⟨35, _⟩ => ⟨S_, .f32⟩
  | .hbm, ⟨36, _⟩ => ⟨S8x4x32x256, .f32⟩
  | .hbm, ⟨37, _⟩ => ⟨S8x4x32x256, .f32⟩
  | .hbm, ⟨38, _⟩ => ⟨S_, .f32⟩
  | .hbm, ⟨39, _⟩ => ⟨S8x4x32, .f32⟩
  | .hbm, ⟨40, _⟩ => ⟨S_, .f32⟩
  | .hbm, ⟨41, _⟩ => ⟨S8x4x32, .f32⟩
  | .hbm, ⟨42, _⟩ => ⟨S8x4x32, .f32⟩
  | .hbm, ⟨43, _⟩ => ⟨S8x4x32x1, .f32⟩
  | .hbm, ⟨44, _⟩ => ⟨S8x4x32x256, .f32⟩
  | .hbm, ⟨45, _⟩ => ⟨S8x4x32x256, .f32⟩
  | .hbm, ⟨46, _⟩ => ⟨S8x4x32x256, .f32⟩
  | .hbm, ⟨47, _⟩ => ⟨S_, .f32⟩
  | .hbm, ⟨48, _⟩ => ⟨S8x4x32, .f32⟩
  | .hbm, ⟨49, _⟩ => ⟨S8x4x32x1, .f32⟩
  | .hbm, ⟨50, _⟩ => ⟨S8x4x32x256, .f32⟩
  | .hbm, ⟨51, _⟩ => ⟨S8x4x32x256, .f32⟩
  | .hbm, ⟨52, _⟩ => ⟨S8x4x256x32, .f32⟩
  | .hbm, ⟨53, _⟩ => ⟨S8x32x4x256, .f32⟩
  | .hbm, ⟨54, _⟩ => ⟨S8x32x1024, .f32⟩
  | .hbm, ⟨55, _⟩ => ⟨S8x32x1024, .f32⟩
  | .hbm, ⟨56, _⟩ => ⟨S8x32x1024, .f32⟩
  | .hbm, ⟨57, _⟩ => ⟨S256x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Mlp.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S2x1024x4096, .bf16⟩
  | .hbm, ⟨9, _⟩ => ⟨S2x4096x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpIdeal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S2x1024x4096, .bf16⟩
  | .hbm, ⟨9, _⟩ => ⟨S2x4096x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x4096, .f32⟩
  | .hbm, ⟨24, _⟩ => ⟨S1024x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S1x4096x1024, .f32⟩
  | .hbm, ⟨31, _⟩ => ⟨S4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MlpSample.lean ====
abbrev S8x32x1024 : Shape := ⟨3, ![8, 32, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S256x1024 : Shape := ⟨2, ![256, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S256x1024, .f32⟩
  | .hbm, ⟨6, _⟩ => ⟨S1x1024, .f32⟩
  | .hbm, ⟨7, _⟩ => ⟨S1024, .f32⟩
  | .hbm, ⟨8, _⟩ => ⟨S2x1024x4096, .bf16⟩
  | .hbm, ⟨9, _⟩ => ⟨S2x4096x1024, .bf16⟩
  | .hbm, ⟨10, _⟩ => ⟨S1x1024, .f32⟩
  | .hbm, ⟨11, _⟩ => ⟨S1x1024, .f32⟩
  | .hbm, ⟨12, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024x4096, .bf16⟩
  | .local _ .vmem, ⟨3, _⟩ => ⟨S1x4096x1024, .bf16⟩
  | .local _ .vmem, ⟨4, _⟩ => ⟨S1x1024, .f32⟩
  | .local _ .vmem, ⟨5, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MlpSampleRefIdeal.lean ====
abbrev S8x32x1024 : Shape := ⟨3, ![8, 32, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x32x4096 : Shape := ⟨3, ![8, 32, 4096]⟩
abbrev S1x4096x1024 : Shape := ⟨3, ![1, 4096, 1024]⟩
abbrev S4096x1024 : Shape := ⟨2, ![4096, 1024]⟩
abbrev S256x1024 : Shape := ⟨2, ![256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8x32x1024, .f32⟩
  | .hbm, ⟨8, _⟩ => ⟨S_, .f32⟩
  | .hbm, ⟨9, _⟩ => ⟨S8x32, .f32⟩
  | .hbm, ⟨10, _⟩ => ⟨S8x32x1, .f32⟩
  | .hbm, ⟨11, _⟩ => ⟨S_, .f32⟩
  | .hbm, ⟨12, _⟩ => ⟨S8x32x1, .f32⟩
  | .hbm, ⟨13, _⟩ => ⟨S8x32x1, .f32⟩
  | .hbm, ⟨14, _⟩ => ⟨S_, .f32⟩
  | .hbm, ⟨15, _⟩ => ⟨S8x32x1, .f32⟩
  | .hbm, ⟨16, _⟩ => ⟨S8x32x1, .f32⟩
  | .hbm, ⟨17, _⟩ => ⟨S8x32x1, .f32⟩
  | .hbm, ⟨18, _⟩ => ⟨S8x32x1024, .f32⟩
  | .hbm, ⟨19, _⟩ => ⟨S8x32x1024, .f32⟩
  | .hbm, ⟨20, _⟩ => ⟨S1x1x1024, .f32⟩
  | .hbm, ⟨21, _⟩ => ⟨S8x32x1024, .f32⟩
  | .hbm, ⟨22, _⟩ => ⟨S8x32x1024, .f32⟩
  | .hbm, ⟨23, _⟩ => ⟨S1x1024x4096, .f32⟩
  | .hbm, ⟨24, _⟩ => ⟨S1024x4096, .f32⟩
  | .hbm, ⟨25, _⟩ => ⟨S8x32x4096, .f32⟩
  | .hbm, ⟨26, _⟩ => ⟨S_, .f32⟩
  | .hbm, ⟨27, _⟩ => ⟨S8x32x4096, .f32⟩
  | .hbm, ⟨28, _⟩ => ⟨S8x32x4096, .f32⟩
  | .hbm, ⟨29, _⟩ => ⟨S8x32x4096, .f32⟩
  | .hbm, ⟨30, _⟩ => ⟨S1x4096x1024, .f32⟩
  | .hbm, ⟨31, _⟩ => ⟨S4096x1024, .f32⟩
  | .hbm, ⟨32, _⟩ => ⟨S8x32x1024, .f32⟩
  | .hbm, ⟨33, _⟩ => ⟨S8x32x1024, .f32⟩
  | .hbm, ⟨34, _⟩ => ⟨S8x32x1024, .f32⟩
  | .hbm, ⟨35, _⟩ => ⟨S_, .f32⟩
  | .hbm, ⟨36, _⟩ => ⟨S8x32, .f32⟩
  | .hbm, ⟨37, _⟩ => ⟨S8x32x1, .f32⟩
  | .hbm, ⟨38, _⟩ => ⟨S_, .f32⟩
  | .hbm, ⟨39, _⟩ => ⟨S8x32x1, .f32⟩
  | .hbm, ⟨40, _⟩ => ⟨S8x32x1, .f32⟩
  | .hbm, ⟨41, _⟩ => ⟨S_, .f32⟩
  | .hbm, ⟨42, _⟩ => ⟨S8x32x1, .f32⟩
  | .hbm, ⟨43, _⟩ => ⟨S8x32x1, .f32⟩
  | .hbm, ⟨44, _⟩ => ⟨S8x32x1, .f32⟩
  | .hbm, ⟨45, _⟩ => ⟨S8x32x1024, .f32⟩
  | .hbm, ⟨46, _⟩ => ⟨S8x32x1024, .f32⟩
  | .hbm, ⟨47, _⟩ => ⟨S1x1x1024, .f32⟩
  | .hbm, ⟨48, _⟩ => ⟨S8x32x1024, .f32⟩
  | .hbm, ⟨49, _⟩ => ⟨S8x32x1024, .f32⟩
  | .hbm, ⟨50, _⟩ => ⟨S256x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MlpFirst.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S32768x1024, .f32⟩
  | .hbm, ⟨5, _⟩ => ⟨S1x1024, .f32⟩
  | .hbm, ⟨6, _⟩ => ⟨S1024, .f32⟩
  | .hbm, ⟨7, _⟩ => ⟨S2x1024x4096, .bf16⟩
  | .hbm, ⟨8, _⟩ => ⟨S2x4096x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1024x1024, .f32⟩
  | .local _ .vmem, ⟨6, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpFirstIdeal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S32768x1024, .f32⟩
  | .hbm, ⟨5, _⟩ => ⟨S1x1024, .f32⟩
  | .hbm, ⟨6, _⟩ => ⟨S1024, .f32⟩
  | .hbm, ⟨7, _⟩ => ⟨S2x1024x4096, .bf16⟩
  | .hbm, ⟨8, _⟩ => ⟨S2x4096x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1024x1024, .f32⟩
  | .local _ .vmem, ⟨6, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpFirstRefIdeal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1x1024x4096, .f32⟩
  | .hbm, ⟨23, _⟩ => ⟨S1024x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S1x4096x1024, .f32⟩
  | .hbm, ⟨30, _⟩ => ⟨S4096x1024, .f32⟩
  | .hbm, ⟨31, _⟩ => ⟨S8x4096x1024, .f32⟩
  | .hbm, ⟨32, _⟩ => ⟨S8x4096x1024, .f32⟩
  | .hbm, ⟨33, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== MlpFirstSample.lean ====
abbrev S8x32x1024 : Shape := ⟨3, ![8, 32, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S256x1024 : Shape := ⟨2, ![256, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 11
  | .vmem => 5
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S256x1024, .f32⟩
  | .hbm, ⟨5, _⟩ => ⟨S1x1024, .f32⟩
  | .hbm, ⟨6, _⟩ => ⟨S1024, .f32⟩
  | .hbm, ⟨7, _⟩ => ⟨S2x1024x4096, .bf16⟩
  | .hbm, ⟨8, _⟩ => ⟨S2x4096x1024, .bf16⟩
  | .hbm, ⟨9, _⟩ => ⟨S1x1024, .f32⟩
  | .hbm, ⟨10, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024x4096, .bf16⟩
  | .local _ .vmem, ⟨3, _⟩ => ⟨S1x4096x1024, .bf16⟩
  | .local _ .vmem, ⟨4, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== MlpFirstSampleRefIdeal.lean ====
abbrev S8x32x1024 : Shape := ⟨3, ![8, 32, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x32x4096 : Shape := ⟨3, ![8, 32, 4096]⟩
abbrev S1x4096x1024 : Shape := ⟨3, ![1, 4096, 1024]⟩
abbrev S4096x1024 : Shape := ⟨2, ![4096, 1024]⟩
abbrev S256x1024 : Shape := ⟨2, ![256, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1x1024, .f32⟩
  | .hbm, ⟨5, _⟩ => ⟨S1024, .f32⟩
  | .hbm, ⟨6, _⟩ => ⟨S8x32x1024, .f32⟩
  | .hbm, ⟨7, _⟩ => ⟨S_, .f32⟩
  | .hbm, ⟨8, _⟩ => ⟨S8x32, .f32⟩
  | .hbm, ⟨9, _⟩ => ⟨S8x32x1, .f32⟩
  | .hbm, ⟨10, _⟩ => ⟨S_, .f32⟩
  | .hbm, ⟨11, _⟩ => ⟨S8x32x1, .f32⟩
  | .hbm, ⟨12, _⟩ => ⟨S8x32x1, .f32⟩
  | .hbm, ⟨13, _⟩ => ⟨S_, .f32⟩
  | .hbm, ⟨14, _⟩ => ⟨S8x32x1, .f32⟩
  | .hbm, ⟨15, _⟩ => ⟨S8x32x1, .f32⟩
  | .hbm, ⟨16, _⟩ => ⟨S8x32x1, .f32⟩
  | .hbm, ⟨17, _⟩ => ⟨S8x32x1024, .f32⟩
  | .hbm, ⟨18, _⟩ => ⟨S8x32x1024, .f32⟩
  | .hbm, ⟨19, _⟩ => ⟨S1x1x1024, .f32⟩
  | .hbm, ⟨20, _⟩ => ⟨S8x32x1024, .f32⟩
  | .hbm, ⟨21, _⟩ => ⟨S8x32x1024, .f32⟩
  | .hbm, ⟨22, _⟩ => ⟨S1x1024x4096, .f32⟩
  | .hbm, ⟨23, _⟩ => ⟨S1024x4096, .f32⟩
  | .hbm, ⟨24, _⟩ => ⟨S8x32x4096, .f32⟩
  | .hbm, ⟨25, _⟩ => ⟨S_, .f32⟩
  | .hbm, ⟨26, _⟩ => ⟨S8x32x4096, .f32⟩
  | .hbm, ⟨27, _⟩ => ⟨S8x32x4096, .f32⟩
  | .hbm, ⟨28, _⟩ => ⟨S8x32x4096, .f32⟩
  | .hbm, ⟨29, _⟩ => ⟨S1x4096x1024, .f32⟩
  | .hbm, ⟨30, _⟩ => ⟨S4096x1024, .f32⟩
  | .hbm, ⟨31, _⟩ => ⟨S8x32x1024, .f32⟩
  | .hbm, ⟨32, _⟩ => ⟨S8x32x1024, .f32⟩
  | .hbm, ⟨33, _⟩ => ⟨S256x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ConvGlu.lean ====
abbrev S8x4096x1024 : Shape := ⟨3, ![8, 4096, 1024]⟩
abbrev S2x1024 : Shape := ⟨2, ![2, 1024]⟩
abbrev S1x1024x2048 : Shape := ⟨3, ![1, 1024, 2048]⟩
abbrev S1x2048 : Shape := ⟨2, ![1, 2048]⟩
abbrev S32768x1024 : Shape := ⟨2, ![32768, 1024]⟩
abbrev S1x1024 : Shape := ⟨2, ![1, 1024]⟩
abbrev S1024 : Shape := ⟨1, ![1024]⟩
abbrev S2048 : Shape := ⟨1, ![2048]⟩
abbrev S1024x1024 : Shape := ⟨2, ![1024, 1024]⟩
abbrev S1024x1 : Shape := ⟨2, ![1024, 1]⟩
abbrev S1x1024x1024 : Shape := ⟨3, ![1, 1024, 1024]⟩
abbrev S8x30x1024 : Shape := ⟨3, ![8, 30, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S32768x1024, .f32⟩
  | .hbm, ⟨5, _⟩ => ⟨S1x1024, .f32⟩
  | .hbm, ⟨6, _⟩ => ⟨S1024, .f32⟩
  | .hbm, ⟨7, _⟩ => ⟨S1x1024x2048, .bf16⟩
  | .hbm, ⟨8, _⟩ => ⟨S2048, .f32⟩
  | .hbm, ⟨9, _⟩ => ⟨S1x1024, .f32⟩
  | .hbm, ⟨10, _⟩ => ⟨S1x2048, .f32⟩
  | .hbm, ⟨11, _⟩ => ⟨S32768x1024, .f32⟩
  | .hbm, ⟨12, _⟩ => ⟨S8x4096x1024, .f32⟩
  | .hbm, ⟨13, _⟩ => ⟨S8x30x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2048, .bf16⟩
  | .local _ .vmem, ⟨4, _⟩ => ⟨S1x2048, .f32⟩
  | .local _ .vmem, ⟨5, _⟩ => ⟨S1024x1024, .f32⟩
  | .local _ .vmem, ⟨6, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvGluRefIdeal.lean ====
abbrev S8x4096x1024 : Shape := ⟨3, ![8, 4096, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S2048 : Shape := ⟨1, ![2048]⟩
abbrev S1x1x2048 : Shape := ⟨3, ![1, 1, 2048]⟩
abbrev S8x30x1024 : Shape := ⟨3, ![8, 30, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x2048, .f32⟩
  | .hbm, ⟨23, _⟩ => ⟨S8x4096x2048, .f32⟩
  | .hbm, ⟨24, _⟩ => ⟨S2048, .f32⟩
  | .hbm, ⟨25, _⟩ => ⟨S1x1x2048, .f32⟩
  | .hbm, ⟨26, _⟩ => ⟨S8x4096x2048, .f32⟩
  | .hbm, ⟨27, _⟩ => ⟨S8x4096x2048, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x30x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== ConvGluSample.lean ====
abbrev S8x32x1024 : Shape := ⟨3, ![8, 32, 1024]⟩
abbrev S1x8x30x1024 : Shape := ⟨4, ![1, 8, 30, 1024]⟩
abbrev S2x1024 : Shape := ⟨2, ![2, 1024]⟩
abbrev S1x1024x2048 : Shape := ⟨3, ![1, 1024, 2048]⟩
abbrev S1x2048 : Shape := ⟨2, ![1, 2048]⟩
abbrev S256x1024 : Shape := ⟨2, ![256, 1024]⟩
abbrev S1x1024 : Shape := ⟨2, ![1, 1024]⟩
abbrev S1024 : Shape := ⟨1, ![1024]⟩
abbrev S2048 : Shape := ⟨1, ![2048]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S8x30x1024 : Shape := ⟨3, ![8, 30, 1024]⟩
abbrev S8x62x1024 : Shape := ⟨3, ![8, 62, 1024]⟩

abbrev nBuf : Space → Nat
  | .hbm => 17
  | .vmem => 5
  | .smem => 0
  | _ => 0

abbrev bufTy : (tb : Table) → Fin (tcTables nBuf tb) → BufTy
  | .hbm, ⟨0, _⟩ => ⟨S8x32x1024, .f32⟩
  | .hbm, ⟨1, _⟩ => ⟨S1x8x30x1024, .f32⟩
  | .hbm, ⟨2, _⟩ => ⟨S2x1024, .f32⟩
  | .hbm, ⟨3, _⟩ => ⟨S1x1024x2048, .f32⟩
  | .hbm, ⟨4, _⟩ => ⟨S1x2048, .f32⟩
  | .hbm, ⟨5, _⟩ => ⟨S256x1024, .f32⟩
  | .hbm, ⟨6, _⟩ => ⟨S1x1024, .f32⟩
  | .hbm, ⟨7, _⟩ => ⟨S1024, .f32⟩
  | .hbm, ⟨8, _⟩ => ⟨S1x1024x2048, .bf16⟩
  | .hbm, ⟨9, _⟩ => ⟨S2048, .f32⟩
  | .hbm, ⟨10, _⟩ => ⟨S1x1024, .f32⟩
  | .hbm, ⟨11, _⟩ => ⟨S1x2048, .f32⟩
  | .hbm, ⟨12, _⟩ => ⟨S256x1024, .f32⟩
  | .hbm, ⟨13, _⟩ => ⟨S8x32x1024, .f32⟩
  | .hbm, ⟨14, _⟩ => ⟨S8x30x1024, .f32⟩
  | .hbm, ⟨15, _⟩ => ⟨S8x62x1024, .f32⟩
  | .hbm, ⟨16, _⟩ => ⟨S8x30x1024, .f32⟩
  | .local _ .vmem, ⟨0, _⟩ => ⟨S256x1024, .f32⟩
  | .local _ .vmem, ⟨1, _⟩ => ⟨S1x1024, .f32⟩
  | .local _ .vmem, ⟨2, _⟩ => ⟨S1x1024x2048, .bf16⟩
  | .local _ .vmem, ⟨3, _⟩ => ⟨S1x2048, .f32⟩
  | .local _ .vmem, ⟨4, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ConvGluSampleRefIdeal.lean ====
abbrev S8x32x1024 : Shape := ⟨3, ![8, 32, 1024]⟩
abbrev S1x8x30x1024 : Shape := ⟨4, ![1, 8, 30, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1024x2048 : Shape := ⟨2, ![1024, 2048]⟩
abbrev S8x32x2048 : Shape := ⟨3, ![8, 32, 2048]⟩
abbrev S2048 : Shape := ⟨1, ![2048]⟩
abbrev S1x1x2048 : Shape := ⟨3, ![1, 1, 2048]⟩
abbrev S8x30x1024 : Shape := ⟨3, ![8, 30, 1024]⟩
abbrev S8x62x1024 : Shape := ⟨3, ![8, 62, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1x8x30x1024, .f32⟩
  | .hbm, ⟨2, _⟩ => ⟨S2x1024, .f32⟩
  | .hbm, ⟨3, _⟩ => ⟨S1x1024x2048, .f32⟩
  | .hbm, ⟨4, _⟩ => ⟨S1x2048, .f32⟩
  | .hbm, ⟨5, _⟩ => ⟨S1x1024, .f32⟩
  | .hbm, ⟨6, _⟩ => ⟨S1024, .f32⟩
  | .hbm, ⟨7, _⟩ => ⟨S8x32x1024, .f32⟩
  | .hbm, ⟨8, _⟩ => ⟨S_, .f32⟩
  | .hbm, ⟨9, _⟩ => ⟨S8x32, .f32⟩
  | .hbm, ⟨10, _⟩ => ⟨S8x32x1, .f32⟩
  | .hbm, ⟨11, _⟩ => ⟨S_, .f32⟩
  | .hbm, ⟨12, _⟩ => ⟨S8x32x1, .f32⟩
  | .hbm, ⟨13, _⟩ => ⟨S8x32x1, .f32⟩
  | .hbm, ⟨14, _⟩ => ⟨S_, .f32⟩
  | .hbm, ⟨15, _⟩ => ⟨S8x32x1, .f32⟩
  | .hbm, ⟨16, _⟩ => ⟨S8x32x1, .f32⟩
  | .hbm, ⟨17, _⟩ => ⟨S8x32x1, .f32⟩
  | .hbm, ⟨18, _⟩ => ⟨S8x32x1024, .f32⟩
  | .hbm, ⟨19, _⟩ => ⟨S8x32x1024, .f32⟩
  | .hbm, ⟨20, _⟩ => ⟨S1x1x1024, .f32⟩
  | .hbm, ⟨21, _⟩ => ⟨S8x32x1024, .f32⟩
  | .hbm, ⟨22, _⟩ => ⟨S8x32x1024, .f32⟩
  | .hbm, ⟨23, _⟩ => ⟨S1024x2048, .f32⟩
  | .hbm, ⟨24, _⟩ => ⟨S8x32x2048, .f32⟩
  | .hbm, ⟨25, _⟩ => ⟨S2048, .f32⟩
  | .hbm, ⟨26, _⟩ => ⟨S1x1x2048, .f32⟩
  | .hbm, ⟨27, _⟩ => ⟨S8x32x2048, .f32⟩
  | .hbm, ⟨28, _⟩ => ⟨S8x32x2048, .f32⟩
  | .hbm, ⟨29, _⟩ => ⟨S8x32x1024, .f32⟩
  | .hbm, ⟨30, _⟩ => ⟨S8x32x1024, .f32⟩
  | .hbm, ⟨31, _⟩ => ⟨S8x32x1024, .f32⟩
  | .hbm, ⟨32, _⟩ => ⟨S8x32x1024, .f32⟩
  | .hbm, ⟨33, _⟩ => ⟨S_, .f32⟩
  | .hbm, ⟨34, _⟩ => ⟨S8x32x1024, .f32⟩
  | .hbm, ⟨35, _⟩ => ⟨S8x32x1024, .f32⟩
  | .hbm, ⟨36, _⟩ => ⟨S_, .f32⟩
  | .hbm, ⟨37, _⟩ => ⟨S8x32x1024, .f32⟩
  | .hbm, ⟨38, _⟩ => ⟨S8x32x1024, .f32⟩
  | .hbm, ⟨39, _⟩ => ⟨S8x32x1024, .f32⟩
  | .hbm, ⟨40, _⟩ => ⟨S8x30x1024, .f32⟩
  | .hbm, ⟨41, _⟩ => ⟨S8x62x1024, .f32⟩
  | .hbm, ⟨42, _⟩ => ⟨S8x30x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== ConvRest.lean ====
abbrev S8x4096x1024 : Shape := ⟨3, ![8, 4096, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S_ : Shape := ⟨0, ![]⟩
abbrev S8x32x1024 : Shape := ⟨3, ![8, 32, 1024]⟩
abbrev S31x1024 : Shape := ⟨2, ![31, 1024]⟩
abbrev S1024 : Shape := ⟨1, ![1024]⟩
abbrev S32x1024 : Shape := ⟨2, ![32, 1024]⟩
abbrev S1x512x1024 : Shape := ⟨3, ![1, 512, 1024]⟩
abbrev S1x32x1024 : Shape := ⟨3, ![1, 32, 1024]⟩
abbrev S544x1024 : Shape := ⟨2, ![544, 1024]⟩
abbrev S8x536x1024 : Shape := ⟨3, ![8, 536, 1024]⟩
abbrev S512x1024 : Shape := ⟨2, ![512, 1024]⟩
abbrev S536x1024 : Shape := ⟨2, ![536, 1024]⟩
abbrev S1x536x1024 : Shape := ⟨3, ![1, 536, 1024]⟩
abbrev S528x1024 : Shape := ⟨2, ![528, 1024]⟩
abbrev S1x528x1024 : Shape := ⟨3, ![1, 528, 1024]⟩
abbrev S1x256 : Shape := ⟨2, ![1, 256]⟩
abbrev S64x256 : Shape := ⟨2, ![64, 256]⟩
abbrev S1x64x256 : Shape := ⟨3, ![1, 64, 256]⟩
abbrev S512 : Shape := ⟨1, ![512]⟩
abbrev S512x1 : Shape := ⟨2, ![512, 1]⟩
abbrev S1024x1024 : Shape := ⟨2, ![1024, 1024]⟩

abbrev nBuf : Space → Nat
  | .hbm => 24
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S_, .f32⟩
  | .hbm, ⟨9, _⟩ => ⟨S8x32x1024, .f32⟩
  | .hbm, ⟨10, _⟩ => ⟨S31x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024x1024, .bf16⟩
  | .hbm, ⟨15, _⟩ => ⟨S1024, .f32⟩
  | .hbm, ⟨16, _⟩ => ⟨S_, .i32⟩
  | .hbm, ⟨17, _⟩ => ⟨S_, .f32⟩
  | .hbm, ⟨18, _⟩ => ⟨S32x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S544x1024, .f32⟩
  | .local _ .vmem, ⟨17, _⟩ => ⟨S8x536x1024, .f32⟩
  | .local _ .vmem, ⟨18, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvRestRefIdeal.lean ====
abbrev S8x4096x1024 : Shape := ⟨3, ![8, 4096, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S_ : Shape := ⟨0, ![]⟩
abbrev S8x4126x1024 : Shape := ⟨3, ![8, 4126, 1024]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S1024x1024 : Shape := ⟨2, ![1024, 1024]⟩

abbrev nBuf : Space → Nat
  | .hbm => 281
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S1x31x1024, .f32⟩
  | 3 => ⟨S1x1024, .f32⟩
  | 4 => ⟨S1x1024, .f32⟩
  | 5 => ⟨S1x1024, .f32⟩
  | 6 => ⟨S1x1024x1024, .f32⟩
  | 7 => ⟨S1x1024, .f32⟩
  | 8 => ⟨S_, .i32⟩
  | 9 => ⟨S_, .f32⟩
  | 10 => ⟨S8x4126x1024, .f32⟩
  | 11 => ⟨S8x4096x1024, .f32⟩
  | 12 => ⟨S1x1x1024, .f32⟩
  | 13 => ⟨S1024, .f32⟩
  | 14 => ⟨S1x1x1024, .f32⟩
  | 15 => ⟨S8x4096x1024, .f32⟩
  | 16 => ⟨S8x4096x1024, .f32⟩
  | 17 => ⟨S_, .f32⟩
  | 18 => ⟨S8x4096x1024, .f32⟩
  | 19 => ⟨S8x4096x1024, .f32⟩
  | 20 => ⟨S8x4096x1024, .f32⟩
  | 21 => ⟨S1x1x1024, .f32⟩
  | 22 => ⟨S1024, .f32⟩
  | 23 => ⟨S1x1x1024, .f32⟩
  | 24 => ⟨S8x4096x1024, .f32⟩
  | 25 => ⟨S8x4096x1024, .f32⟩
  | 26 => ⟨S8x4096x1024, .f32⟩
  | 27 => ⟨S8x4096x1024, .f32⟩
  | 28 => ⟨S1x1x1024, .f32⟩
  | 29 => ⟨S1024, .f32⟩
  | 30 => ⟨S1x1x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S1x1x1024, .f32⟩
  | 36 => ⟨S1024, .f32⟩
  | 37 => ⟨S1x1x1024, .f32⟩
  | 38 => ⟨S8x4096x1024, .f32⟩
  | 39 => ⟨S8x4096x1024, .f32⟩
  | 40 => ⟨S8x4096x1024, .f32⟩
  | 41 => ⟨S8x4096x1024, .f32⟩
  | 42 => ⟨S1x1x1024, .f32⟩
  | 43 => ⟨S1024, .f32⟩
  | 44 => ⟨S1x1x1024, .f32⟩
  | 45 => ⟨S8x4096x1024, .f32⟩
  | 46 => ⟨S8x4096x1024, .f32⟩
  | 47 => ⟨S8x4096x1024, .f32⟩
  | 48 => ⟨S8x4096x1024, .f32⟩
  | 49 => ⟨S1x1x1024, .f32⟩
  | 50 => ⟨S1024, .f32⟩
  | 51 => ⟨S1x1x1024, .f32⟩
  | 52 => ⟨S8x4096x1024, .f32⟩
  | 53 => ⟨S8x4096x1024, .f32⟩
  | 54 => ⟨S8x4096x1024, .f32⟩
  | 55 => ⟨S8x4096x1024, .f32⟩
  | 56 => ⟨S1x1x1024, .f32⟩
  | 57 => ⟨S1024, .f32⟩
  | 58 => ⟨S1x1x1024, .f32⟩
  | 59 => ⟨S8x4096x1024, .f32⟩
  | 60 => ⟨S8x4096x1024, .f32⟩
  | 61 => ⟨S8x4096x1024, .f32⟩
  | 62 => ⟨S8x4096x1024, .f32⟩
  | 63 => ⟨S1x1x1024, .f32⟩
  | 64 => ⟨S1024, .f32⟩
  | 65 => ⟨S1x1x1024, .f32⟩
  | 66 => ⟨S8x4096x1024, .f32⟩
  | 67 => ⟨S8x4096x1024, .f32⟩
  | 68 => ⟨S8x4096x1024, .f32⟩
  | 69 => ⟨S8x4096x1024, .f32⟩
  | 70 => ⟨S1x1x1024, .f32⟩
  | 71 => ⟨S1024, .f32⟩
  | 72 => ⟨S1x1x1024, .f32⟩
  | 73 => ⟨S8x4096x1024, .f32⟩
  | 74 => ⟨S8x4096x1024, .f32⟩
  | 75 => ⟨S8x4096x1024, .f32⟩
  | 76 => ⟨S8x4096x1024, .f32⟩
  | 77 => ⟨S1x1x1024, .f32⟩
  | 78 => ⟨S1024, .f32⟩
  | 79 => ⟨S1x1x1024, .f32⟩
  | 80 => ⟨S8x4096x1024, .f32⟩
  | 81 => ⟨S8x4096x1024, .f32⟩
  | 82 => ⟨S8x4096x1024, .f32⟩
  | 83 => ⟨S8x4096x1024, .f32⟩
  | 84 => ⟨S1x1x1024, .f32⟩
  | 85 => ⟨S1024, .f32⟩
  | 86 => ⟨S1x1x1024, .f32⟩
  | 87 => ⟨S8x4096x1024, .f32⟩
  | 88 => ⟨S8x4096x1024, .f32⟩
  | 89 => ⟨S8x4096x1024, .f32⟩
  | 90 => ⟨S8x4096x1024, .f32⟩
  | 91 => ⟨S1x1x1024, .f32⟩
  | 92 => ⟨S1024, .f32⟩
  | 93 => ⟨S1x1x1024, .f32⟩
  | 94 => ⟨S8x4096x1024, .f32⟩
  | 95 => ⟨S8x4096x1024, .f32⟩
  | 96 => ⟨S8x4096x1024, .f32⟩
  | 97 => ⟨S8x4096x1024, .f32⟩
  | 98 => ⟨S1x1x1024, .f32⟩
  | 99 => ⟨S1024, .f32⟩
  | 100 => ⟨S1x1x1024, .f32⟩
  | 101 => ⟨S8x4096x1024, .f32⟩
  | 102 => ⟨S8x4096x1024, .f32⟩
  | 103 => ⟨S8x4096x1024, .f32⟩
  | 104 => ⟨S8x4096x1024, .f32⟩
  | 105 => ⟨S1x1x1024, .f32⟩
  | 106 => ⟨S1024, .f32⟩
  | 107 => ⟨S1x1x1024, .f32⟩
  | 108 => ⟨S8x4096x1024, .f32⟩
  | 109 => ⟨S8x4096x1024, .f32⟩
  | 110 => ⟨S8x4096x1024, .f32⟩
  | 111 => ⟨S8x4096x1024, .f32⟩
  | 112 => ⟨S1x1x1024, .f32⟩
  | 113 => ⟨S1024, .f32⟩
  | 114 => ⟨S1x1x1024, .f32⟩
  | 115 => ⟨S8x4096x1024, .f32⟩
  | 116 => ⟨S8x4096x1024, .f32⟩
  | 117 => ⟨S8x4096x1024, .f32⟩
  | 118 => ⟨S8x4096x1024, .f32⟩
  | 119 => ⟨S1x1x1024, .f32⟩
  | 120 => ⟨S1024, .f32⟩
  | 121 => ⟨S1x1x1024, .f32⟩
  | 122 => ⟨S8x4096x1024, .f32⟩
  | 123 => ⟨S8x4096x1024, .f32⟩
  | 124 => ⟨S8x4096x1024, .f32⟩
  | 125 => ⟨S8x4096x1024, .f32⟩
  | 126 => ⟨S1x1x1024, .f32⟩
  | 127 => ⟨S1024, .f32⟩
  | _ => ⟨S8x4096x1024, .f32⟩

abbrev hbmTy0_1 (i : Nat) : BufTy := match i % 128 with
  | 0 => ⟨S1x1x1024, .f32⟩
  | 1 => ⟨S8x4096x1024, .f32⟩
  | 2 => ⟨S8x4096x1024, .f32⟩
  | 3 => ⟨S8x4096x1024, .f32⟩
  | 4 => ⟨S8x4096x1024, .f32⟩
  | 5 => ⟨S1x1x1024, .f32⟩
  | 6 => ⟨S1024, .f32⟩
  | 7 => ⟨S1x1x1024, .f32⟩
  | 8 => ⟨S8x4096x1024, .f32⟩
  | 9 => ⟨S8x4096x1024, .f32⟩
  | 10 => ⟨S8x4096x1024, .f32⟩
  | 11 => ⟨S8x4096x1024, .f32⟩
  | 12 => ⟨S1x1x1024, .f32⟩
  | 13 => ⟨S1024, .f32⟩
  | 14 => ⟨S1x1x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S1x1x1024, .f32⟩
  | 20 => ⟨S1024, .f32⟩
  | 21 => ⟨S1x1x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S1x1x1024, .f32⟩
  | 27 => ⟨S1024, .f32⟩
  | 28 => ⟨S1x1x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S1x1x1024, .f32⟩
  | 34 => ⟨S1024, .f32⟩
  | 35 => ⟨S1x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S1x1x1024, .f32⟩
  | 41 => ⟨S1024, .f32⟩
  | 42 => ⟨S1x1x1024, .f32⟩
  | 43 => ⟨S8x4096x1024, .f32⟩
  | 44 => ⟨S8x4096x1024, .f32⟩
  | 45 => ⟨S8x4096x1024, .f32⟩
  | 46 => ⟨S8x4096x1024, .f32⟩
  | 47 => ⟨S1x1x1024, .f32⟩
  | 48 => ⟨S1024, .f32⟩
  | 49 => ⟨S1x1x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S1x1x1024, .f32⟩
  | 55 => ⟨S1024, .f32⟩
  | 56 => ⟨S1x1x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S1x1x1024, .f32⟩
  | 62 => ⟨S1024, .f32⟩
  | 63 => ⟨S1x1x1024, .f32⟩
  | 64 => ⟨S8x4096x1024, .f32⟩
  | 65 => ⟨S8x4096x1024, .f32⟩
  | 66 => ⟨S8x4096x1024, .f32⟩
  | 67 => ⟨S8x4096x1024, .f32⟩
  | 68 => ⟨S1x1x1024, .f32⟩
  | 69 => ⟨S1024, .f32⟩
  | 70 => ⟨S1x1x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S1x1x1024, .f32⟩
  | 76 => ⟨S1024, .f32⟩
  | 77 => ⟨S1x1x1024, .f32⟩
  | 78 => ⟨S8x4096x1024, .f32⟩
  | 79 => ⟨S8x4096x1024, .f32⟩
  | 80 => ⟨S8x4096x1024, .f32⟩
  | 81 => ⟨S8x4096x1024, .f32⟩
  | 82 => ⟨S1x1x1024, .f32⟩
  | 83 => ⟨S1024, .f32⟩
  | 84 => ⟨S1x1x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S1x1x1024, .f32⟩
  | 90 => ⟨S1024, .f32⟩
  | 91 => ⟨S1x1x1024, .f32⟩
  | 92 => ⟨S8x4096x1024, .f32⟩
  | 93 => ⟨S8x4096x1024, .f32⟩
  | 94 => ⟨S8x4096x1024, .f32⟩
  | 95 => ⟨S8x4096x1024, .f32⟩
  | 96 => ⟨S1x1x1024, .f32⟩
  | 97 => ⟨S1024, .f32⟩
  | 98 => ⟨S1x1x1024, .f32⟩
  | 99 => ⟨S8x4096x1024, .f32⟩
  | 100 => ⟨S8x4096x1024, .f32⟩
  | 101 => ⟨S8x4096x1024, .f32⟩
  | 102 => ⟨S1024, .f32⟩
  | 103 => ⟨S1x1x1024, .f32⟩
  | 104 => ⟨S8x4096x1024, .f32⟩
  | 105 => ⟨S8x4096x1024, .f32⟩
  | 106 => ⟨S1024, .f32⟩
  | 107 => ⟨S1024, .f32⟩
  | 108 => ⟨S_, .f32⟩
  | 109 => ⟨S8x4096, .f32⟩
  | 110 => ⟨S8x4096x1, .f32⟩
  | 111 => ⟨S_, .f32⟩
  | 112 => ⟨S8x4096x1, .f32⟩
  | 113 => ⟨S8x4096x1, .f32⟩
  | 114 => ⟨S8x4096x1024, .f32⟩
  | 115 => ⟨S8x4096x1024, .f32⟩
  | 116 => ⟨S8x4096x1024, .f32⟩
  | 117 => ⟨S_, .f32⟩
  | 118 => ⟨S8x4096, .f32⟩
  | 119 => ⟨S8x4096x1, .f32⟩
  | 120 => ⟨S_, .f32⟩
  | 121 => ⟨S8x4096x1, .f32⟩
  | 122 => ⟨S8x4096x1, .f32⟩
  | 123 => ⟨S8x4096x1024, .f32⟩
  | 124 => ⟨S8x4096x1024, .f32⟩
  | 125 => ⟨S_, .f32⟩
  | 126 => ⟨S8x4096x1, .f32⟩
  | 127 => ⟨S8x4096x1, .f32⟩
  | _ => ⟨S8x4096x1024, .f32⟩

abbrev hbmTy0_2 (i : Nat) : BufTy := match i % 128 with
  | 0 => ⟨S8x4096x1, .f32⟩
  | 1 => ⟨S8x4096x1024, .f32⟩
  | 2 => ⟨S8x4096x1024, .f32⟩
  | 3 => ⟨S1x1x1024, .f32⟩
  | 4 => ⟨S8x4096x1024, .f32⟩
  | 5 => ⟨S8x4096x1024, .f32⟩
  | 6 => ⟨S1x1x1024, .f32⟩
  | 7 => ⟨S8x4096x1024, .f32⟩
  | 8 => ⟨S8x4096x1024, .f32⟩
  | 9 => ⟨S8x4096x1024, .f32⟩
  | 10 => ⟨S8x4096x1024, .f32⟩
  | 11 => ⟨S_, .f32⟩
  | 12 => ⟨S8x4096x1024, .f32⟩
  | 13 => ⟨S8x4096x1024, .f32⟩
  | 14 => ⟨S_, .f32⟩
  | 15 => ⟨S8x4096x1024, .f32⟩
  | 16 => ⟨S8x4096x1024, .f32⟩
  | 17 => ⟨S8x4096x1024, .f32⟩
  | 18 => ⟨S1024x1024, .f32⟩
  | 19 => ⟨S8x4096x1024, .f32⟩
  | 20 => ⟨S1024, .f32⟩
  | 21 => ⟨S1x1x1024, .f32⟩
  | 22 => ⟨S8x4096x1024, .f32⟩
  | 23 => ⟨S8x4096x1024, .f32⟩
  | 24 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_cst_0 : Ref sig .tc := ⟨.hbm, 236, rfl⟩
abbrev main_v225 : Ref sig .tc := ⟨.hbm, 237, rfl⟩
abbrev main_v226 : Ref sig .tc := ⟨.hbm, 238, rfl⟩
abbrev main_cst_1 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_cst_2 : Ref sig .tc := ⟨.hbm, 245, rfl⟩
abbrev main_v232 : Ref sig .tc := ⟨.hbm, 246, rfl⟩
abbrev main_v233 : Ref sig .tc := ⟨.hbm, 247, rfl⟩
abbrev main_cst_3 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_cst_4 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_call1_v0 : Ref sig .tc := ⟨.hbm, 265, rfl⟩
abbrev main_call1_v1 : Ref sig .tc := ⟨.hbm, 266, rfl⟩
abbrev main_call1_cst : Ref sig .tc := ⟨.hbm, 267, rfl⟩
abbrev main_call1_v2 : Ref sig .tc := ⟨.hbm, 268, rfl⟩
abbrev main_call1_v3 : Ref sig .tc := ⟨.hbm, 269, rfl⟩
abbrev main_call1_cst_0 : Ref sig .tc := ⟨.hbm, 270, rfl⟩
abbrev main_call1_v4 : Ref sig .tc := ⟨.hbm, 271, rfl⟩
abbrev main_call1_v5 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩

abbrev nD : Nat := 1
abbrev τ : Topo := Topo.v7x

variable {F : FTy → Type} [FloatOps F]
-- ==== ConvRestSample.lean ====
abbrev S8x32x1024 : Shape := ⟨3, ![8, 32, 1024]⟩
abbrev S1x8x30x1024 : Shape := ⟨4, ![1, 8, 30, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S8x30x1024 : Shape := ⟨3, ![8, 30, 1024]⟩
abbrev S_ : Shape := ⟨0, ![]⟩
abbrev S31x1024 : Shape := ⟨2, ![31, 1024]⟩
abbrev S1024 : Shape := ⟨1, ![1024]⟩
abbrev S32x1024 : Shape := ⟨2, ![32, 1024]⟩
abbrev S1x32x1024 : Shape := ⟨3, ![1, 32, 1024]⟩
abbrev S64x1024 : Shape := ⟨2, ![64, 1024]⟩
abbrev S8x56x1024 : Shape := ⟨3, ![8, 56, 1024]⟩
abbrev S56x1024 : Shape := ⟨2, ![56, 1024]⟩
abbrev S1x56x1024 : Shape := ⟨3, ![1, 56, 1024]⟩
abbrev S48x1024 : Shape := ⟨2, ![48, 1024]⟩
abbrev S1x48x1024 : Shape := ⟨3, ![1, 48, 1024]⟩
abbrev S1x256 : Shape := ⟨2, ![1, 256]⟩
abbrev S32x256 : Shape := ⟨2, ![32, 256]⟩
abbrev S1x32x256 : Shape := ⟨3, ![1, 32, 256]⟩
abbrev S32 : Shape := ⟨1, ![32]⟩
abbrev S32x1 : Shape := ⟨2, ![32, 1]⟩
abbrev S1024x1024 : Shape := ⟨2, ![1024, 1024]⟩

abbrev nBuf : Space → Nat
  | .hbm => 27
  | .vmem => 19
  | .smem => 0
  | _ => 0

abbrev bufTy : (tb : Table) → Fin (tcTables nBuf tb) → BufTy
  | .hbm, ⟨0, _⟩ => ⟨S8x32x1024, .f32⟩
  | .hbm, ⟨1, _⟩ => ⟨S8x32x1024, .f32⟩
  | .hbm, ⟨2, _⟩ => ⟨S1x8x30x1024, .f32⟩
  | .hbm, ⟨3, _⟩ => ⟨S1x31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S8x30x1024, .f32⟩
  | .hbm, ⟨10, _⟩ => ⟨S_, .i32⟩
  | .hbm, ⟨11, _⟩ => ⟨S_, .f32⟩
  | .hbm, ⟨12, _⟩ => ⟨S8x32x1024, .f32⟩
  | .hbm, ⟨13, _⟩ => ⟨S31x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1024x1024, .bf16⟩
  | .hbm, ⟨18, _⟩ => ⟨S1024, .f32⟩
  | .hbm, ⟨19, _⟩ => ⟨S_, .i32⟩
  | .hbm, ⟨20, _⟩ => ⟨S_, .f32⟩
  | .hbm, ⟨21, _⟩ => ⟨S32x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S8x32x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024x1024, .bf16⟩
  | .local _ .vmem, ⟨13, _⟩ => ⟨S1x1024, .f32⟩
  | .local _ .vmem, ⟨14, _⟩ => ⟨S1x32x1024, .f32⟩
  | .local _ .vmem, ⟨15, _⟩ => ⟨S1x32x1024, .f32⟩
  | .local _ .vmem, ⟨16, _⟩ => ⟨S64x1024, .f32⟩
  | .local _ .vmem, ⟨17, _⟩ => ⟨S8x56x1024, .f32⟩
  | .local _ .vmem, ⟨18, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvRestSampleRefIdeal.lean ====
abbrev S8x32x1024 : Shape := ⟨3, ![8, 32, 1024]⟩
abbrev S1x8x30x1024 : Shape := ⟨4, ![1, 8, 30, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S8x30x1024 : Shape := ⟨3, ![8, 30, 1024]⟩
abbrev S8x62x1024 : Shape := ⟨3, ![8, 62, 1024]⟩
abbrev S1x1x1024 : Shape := ⟨3, ![1, 1, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1024x1024 : Shape := ⟨2, ![1024, 1024]⟩

abbrev nBuf : Space → Nat
  | .hbm => 281
  | .vmem => 0
  | .smem => 0
  | _ => 0

abbrev hbmTy0_0 (i : Nat) : BufTy := match i % 128 with
  | 0 => ⟨S8x32x1024, .f32⟩
  | 1 => ⟨S8x32x1024, .f32⟩
  | 2 => ⟨S1x8x30x1024, .f32⟩
  | 3 => ⟨S1x31x1024, .f32⟩
  | 4 => ⟨S1x1024, .f32⟩
  | 5 => ⟨S1x1024, .f32⟩
  | 6 => ⟨S1x1024, .f32⟩
  | 7 => ⟨S1x1024x1024, .f32⟩
  | 8 => ⟨S1x1024, .f32⟩
  | 9 => ⟨S8x30x1024, .f32⟩
  | 10 => ⟨S8x62x1024, .f32⟩
  | 11 => ⟨S8x32x1024, .f32⟩
  | 12 => ⟨S1x1x1024, .f32⟩
  | 13 => ⟨S1024, .f32⟩
  | 14 => ⟨S1x1x1024, .f32⟩
  | 15 => ⟨S8x32x1024, .f32⟩
  | 16 => ⟨S8x32x1024, .f32⟩
  | 17 => ⟨S_, .f32⟩
  | 18 => ⟨S8x32x1024, .f32⟩
  | 19 => ⟨S8x32x1024, .f32⟩
  | 20 => ⟨S8x32x1024, .f32⟩
  | 21 => ⟨S1x1x1024, .f32⟩
  | 22 => ⟨S1024, .f32⟩
  | 23 => ⟨S1x1x1024, .f32⟩
  | 24 => ⟨S8x32x1024, .f32⟩
  | 25 => ⟨S8x32x1024, .f32⟩
  | 26 => ⟨S8x32x1024, .f32⟩
  | 27 => ⟨S8x32x1024, .f32⟩
  | 28 => ⟨S1x1x1024, .f32⟩
  | 29 => ⟨S1024, .f32⟩
  | 30 => ⟨S1x1x1024, .f32⟩
  | 31 => ⟨S8x32x1024, .f32⟩
  | 32 => ⟨S8x32x1024, .f32⟩
  | 33 => ⟨S8x32x1024, .f32⟩
  | 34 => ⟨S8x32x1024, .f32⟩
  | 35 => ⟨S1x1x1024, .f32⟩
  | 36 => ⟨S1024, .f32⟩
  | 37 => ⟨S1x1x1024, .f32⟩
  | 38 => ⟨S8x32x1024, .f32⟩
  | 39 => ⟨S8x32x1024, .f32⟩
  | 40 => ⟨S8x32x1024, .f32⟩
  | 41 => ⟨S8x32x1024, .f32⟩
  | 42 => ⟨S1x1x1024, .f32⟩
  | 43 => ⟨S1024, .f32⟩
  | 44 => ⟨S1x1x1024, .f32⟩
  | 45 => ⟨S8x32x1024, .f32⟩
  | 46 => ⟨S8x32x1024, .f32⟩
  | 47 => ⟨S8x32x1024, .f32⟩
  | 48 => ⟨S8x32x1024, .f32⟩
  | 49 => ⟨S1x1x1024, .f32⟩
  | 50 => ⟨S1024, .f32⟩
  | 51 => ⟨S1x1x1024, .f32⟩
  | 52 => ⟨S8x32x1024, .f32⟩
  | 53 => ⟨S8x32x1024, .f32⟩
  | 54 => ⟨S8x32x1024, .f32⟩
  | 55 => ⟨S8x32x1024, .f32⟩
  | 56 => ⟨S1x1x1024, .f32⟩
  | 57 => ⟨S1024, .f32⟩
  | 58 => ⟨S1x1x1024, .f32⟩
  | 59 => ⟨S8x32x1024, .f32⟩
  | 60 => ⟨S8x32x1024, .f32⟩
  | 61 => ⟨S8x32x1024, .f32⟩
  | 62 => ⟨S8x32x1024, .f32⟩
  | 63 => ⟨S1x1x1024, .f32⟩
  | 64 => ⟨S1024, .f32⟩
  | 65 => ⟨S1x1x1024, .f32⟩
  | 66 => ⟨S8x32x1024, .f32⟩
  | 67 => ⟨S8x32x1024, .f32⟩
  | 68 => ⟨S8x32x1024, .f32⟩
  | 69 => ⟨S8x32x1024, .f32⟩
  | 70 => ⟨S1x1x1024, .f32⟩
  | 71 => ⟨S1024, .f32⟩
  | 72 => ⟨S1x1x1024, .f32⟩
  | 73 => ⟨S8x32x1024, .f32⟩
  | 74 => ⟨S8x32x1024, .f32⟩
  | 75 => ⟨S8x32x1024, .f32⟩
  | 76 => ⟨S8x32x1024, .f32⟩
  | 77 => ⟨S1x1x1024, .f32⟩
  | 78 => ⟨S1024, .f32⟩
  | 79 => ⟨S1x1x1024, .f32⟩
  | 80 => ⟨S8x32x1024, .f32⟩
  | 81 => ⟨S8x32x1024, .f32⟩
  | 82 => ⟨S8x32x1024, .f32⟩
  | 83 => ⟨S8x32x1024, .f32⟩
  | 84 => ⟨S1x1x1024, .f32⟩
  | 85 => ⟨S1024, .f32⟩
  | 86 => ⟨S1x1x1024, .f32⟩
  | 87 => ⟨S8x32x1024, .f32⟩
  | 88 => ⟨S8x32x1024, .f32⟩
  | 89 => ⟨S8x32x1024, .f32⟩
  | 90 => ⟨S8x32x1024, .f32⟩
  | 91 => ⟨S1x1x1024, .f32⟩
  | 92 => ⟨S1024, .f32⟩
  | 93 => ⟨S1x1x1024, .f32⟩
  | 94 => ⟨S8x32x1024, .f32⟩
  | 95 => ⟨S8x32x1024, .f32⟩
  | 96 => ⟨S8x32x1024, .f32⟩
  | 97 => ⟨S8x32x1024, .f32⟩
  | 98 => ⟨S1x1x1024, .f32⟩
  | 99 => ⟨S1024, .f32⟩
  | 100 => ⟨S1x1x1024, .f32⟩
  | 101 => ⟨S8x32x1024, .f32⟩
  | 102 => ⟨S8x32x1024, .f32⟩
  | 103 => ⟨S8x32x1024, .f32⟩
  | 104 => ⟨S8x32x1024, .f32⟩
  | 105 => ⟨S1x1x1024, .f32⟩
  | 106 => ⟨S1024, .f32⟩
  | 107 => ⟨S1x1x1024, .f32⟩
  | 108 => ⟨S8x32x1024, .f32⟩
  | 109 => ⟨S8x32x1024, .f32⟩
  | 110 => ⟨S8x32x1024, .f32⟩
  | 111 => ⟨S8x32x1024, .f32⟩
  | 112 => ⟨S1x1x1024, .f32⟩
  | 113 => ⟨S1024, .f32⟩
  | 114 => ⟨S1x1x1024, .f32⟩
  | 115 => ⟨S8x32x1024, .f32⟩
  | 116 => ⟨S8x32x1024, .f32⟩
  | 117 => ⟨S8x32x1024, .f32⟩
  | 118 => ⟨S8x32x1024, .f32⟩
  | 119 => ⟨S1x1x1024, .f32⟩
  | 120 => ⟨S1024, .f32⟩
  | 121 => ⟨S1x1x1024, .f32⟩
  | 122 => ⟨S8x32x1024, .f32⟩
  | 123 => ⟨S8x32x1024, .f32⟩
  | 124 => ⟨S8x32x1024, .f32⟩
  | 125 => ⟨S8x32x1024, .f32⟩
  | 126 => ⟨S1x1x1024, .f32⟩
  | 127 => ⟨S1024, .f32⟩
  | _ => ⟨S8x32x1024, .f32⟩

abbrev hbmTy0_1 (i : Nat) : BufTy := match i % 128 with
  | 0 => ⟨S1x1x1024, .f32⟩
  | 1 => ⟨S8x32x1024, .f32⟩
  | 2 => ⟨S8x32x1024, .f32⟩
  | 3 => ⟨S8x32x1024, .f32⟩
  | 4 => ⟨S8x32x1024, .f32⟩
  | 5 => ⟨S1x1x1024, .f32⟩
  | 6 => ⟨S1024, .f32⟩
  | 7 => ⟨S1x1x1024, .f32⟩
  | 8 => ⟨S8x32x1024, .f32⟩
  | 9 => ⟨S8x32x1024, .f32⟩
  | 10 => ⟨S8x32x1024, .f32⟩
  | 11 => ⟨S8x32x1024, .f32⟩
  | 12 => ⟨S1x1x1024, .f32⟩
  | 13 => ⟨S1024, .f32⟩
  | 14 => ⟨S1x1x1024, .f32⟩
  | 15 => ⟨S8x32x1024, .f32⟩
  | 16 => ⟨S8x32x1024, .f32⟩
  | 17 => ⟨S8x32x1024, .f32⟩
  | 18 => ⟨S8x32x1024, .f32⟩
  | 19 => ⟨S1x1x1024, .f32⟩
  | 20 => ⟨S1024, .f32⟩
  | 21 => ⟨S1x1x1024, .f32⟩
  | 22 => ⟨S8x32x1024, .f32⟩
  | 23 => ⟨S8x32x1024, .f32⟩
  | 24 => ⟨S8x32x1024, .f32⟩
  | 25 => ⟨S8x32x1024, .f32⟩
  | 26 => ⟨S1x1x1024, .f32⟩
  | 27 => ⟨S1024, .f32⟩
  | 28 => ⟨S1x1x1024, .f32⟩
  | 29 => ⟨S8x32x1024, .f32⟩
  | 30 => ⟨S8x32x1024, .f32⟩
  | 31 => ⟨S8x32x1024, .f32⟩
  | 32 => ⟨S8x32x1024, .f32⟩
  | 33 => ⟨S1x1x1024, .f32⟩
  | 34 => ⟨S1024, .f32⟩
  | 35 => ⟨S1x1x1024, .f32⟩
  | 36 => ⟨S8x32x1024, .f32⟩
  | 37 => ⟨S8x32x1024, .f32⟩
  | 38 => ⟨S8x32x1024, .f32⟩
  | 39 => ⟨S8x32x1024, .f32⟩
  | 40 => ⟨S1x1x1024, .f32⟩
  | 41 => ⟨S1024, .f32⟩
  | 42 => ⟨S1x1x1024, .f32⟩
  | 43 => ⟨S8x32x1024, .f32⟩
  | 44 => ⟨S8x32x1024, .f32⟩
  | 45 => ⟨S8x32x1024, .f32⟩
  | 46 => ⟨S8x32x1024, .f32⟩
  | 47 => ⟨S1x1x1024, .f32⟩
  | 48 => ⟨S1024, .f32⟩
  | 49 => ⟨S1x1x1024, .f32⟩
  | 50 => ⟨S8x32x1024, .f32⟩
  | 51 => ⟨S8x32x1024, .f32⟩
  | 52 => ⟨S8x32x1024, .f32⟩
  | 53 => ⟨S8x32x1024, .f32⟩
  | 54 => ⟨S1x1x1024, .f32⟩
  | 55 => ⟨S1024, .f32⟩
  | 56 => ⟨S1x1x1024, .f32⟩
  | 57 => ⟨S8x32x1024, .f32⟩
  | 58 => ⟨S8x32x1024, .f32⟩
  | 59 => ⟨S8x32x1024, .f32⟩
  | 60 => ⟨S8x32x1024, .f32⟩
  | 61 => ⟨S1x1x1024, .f32⟩
  | 62 => ⟨S1024, .f32⟩
  | 63 => ⟨S1x1x1024, .f32⟩
  | 64 => ⟨S8x32x1024, .f32⟩
  | 65 => ⟨S8x32x1024, .f32⟩
  | 66 => ⟨S8x32x1024, .f32⟩
  | 67 => ⟨S8x32x1024, .f32⟩
  | 68 => ⟨S1x1x1024, .f32⟩
  | 69 => ⟨S1024, .f32⟩
  | 70 => ⟨S1x1x1024, .f32⟩
  | 71 => ⟨S8x32x1024, .f32⟩
  | 72 => ⟨S8x32x1024, .f32⟩
  | 73 => ⟨S8x32x1024, .f32⟩
  | 74 => ⟨S8x32x1024, .f32⟩
  | 75 => ⟨S1x1x1024, .f32⟩
  | 76 => ⟨S1024, .f32⟩
  | 77 => ⟨S1x1x1024, .f32⟩
  | 78 => ⟨S8x32x1024, .f32⟩
  | 79 => ⟨S8x32x1024, .f32⟩
  | 80 => ⟨S8x32x1024, .f32⟩
  | 81 => ⟨S8x32x1024, .f32⟩
  | 82 => ⟨S1x1x1024, .f32⟩
  | 83 => ⟨S1024, .f32⟩
  | 84 => ⟨S1x1x1024, .f32⟩
  | 85 => ⟨S8x32x1024, .f32⟩
  | 86 => ⟨S8x32x1024, .f32⟩
  | 87 => ⟨S8x32x1024, .f32⟩
  | 88 => ⟨S8x32x1024, .f32⟩
  | 89 => ⟨S1x1x1024, .f32⟩
  | 90 => ⟨S1024, .f32⟩
  | 91 => ⟨S1x1x1024, .f32⟩
  | 92 => ⟨S8x32x1024, .f32⟩
  | 93 => ⟨S8x32x1024, .f32⟩
  | 94 => ⟨S8x32x1024, .f32⟩
  | 95 => ⟨S8x32x1024, .f32⟩
  | 96 => ⟨S1x1x1024, .f32⟩
  | 97 => ⟨S1024, .f32⟩
  | 98 => ⟨S1x1x1024, .f32⟩
  | 99 => ⟨S8x32x1024, .f32⟩
  | 100 => ⟨S8x32x1024, .f32⟩
  | 101 => ⟨S8x32x1024, .f32⟩
  | 102 => ⟨S1024, .f32⟩
  | 103 => ⟨S1x1x1024, .f32⟩
  | 104 => ⟨S8x32x1024, .f32⟩
  | 105 => ⟨S8x32x1024, .f32⟩
  | 106 => ⟨S1024, .f32⟩
  | 107 => ⟨S1024, .f32⟩
  | 108 => ⟨S_, .f32⟩
  | 109 => ⟨S8x32, .f32⟩
  | 110 => ⟨S8x32x1, .f32⟩
  | 111 => ⟨S_, .f32⟩
  | 112 => ⟨S8x32x1, .f32⟩
  | 113 => ⟨S8x32x1, .f32⟩
  | 114 => ⟨S8x32x1024, .f32⟩
  | 115 => ⟨S8x32x1024, .f32⟩
  | 116 => ⟨S8x32x1024, .f32⟩
  | 117 => ⟨S_, .f32⟩
  | 118 => ⟨S8x32, .f32⟩
  | 119 => ⟨S8x32x1, .f32⟩
  | 120 => ⟨S_, .f32⟩
  | 121 => ⟨S8x32x1, .f32⟩
  | 122 => ⟨S8x32x1, .f32⟩
  | 123 => ⟨S8x32x1024, .f32⟩
  | 124 => ⟨S8x32x1024, .f32⟩
  | 125 => ⟨S_, .f32⟩
  | 126 => ⟨S8x32x1, .f32⟩
  | 127 => ⟨S8x32x1, .f32⟩
  | _ => ⟨S8x32x1024, .f32⟩

abbrev hbmTy0_2 (i : Nat) : BufTy := match i % 128 with
  | 0 => ⟨S8x32x1, .f32⟩
  | 1 => ⟨S8x32x1024, .f32⟩
  | 2 => ⟨S8x32x1024, .f32⟩
  | 3 => ⟨S1x1x1024, .f32⟩
  | 4 => ⟨S8x32x1024, .f32⟩
  | 5 => ⟨S8x32x1024, .f32⟩
  | 6 => ⟨S1x1x1024, .f32⟩
  | 7 => ⟨S8x32x1024, .f32⟩
  | 8 => ⟨S8x32x1024, .f32⟩
  | 9 => ⟨S8x32x1024, .f32⟩
  | 10 => ⟨S8x32x1024, .f32⟩
  | 11 => ⟨S_, .f32⟩
  | 12 => ⟨S8x32x1024, .f32⟩
  | 13 => ⟨S8x32x1024, .f32⟩
  | 14 => ⟨S_, .f32⟩
  | 15 => ⟨S8x32x1024, .f32⟩
  | 16 => ⟨S8x32x1024, .f32⟩
  | 17 => ⟨S8x32x1024, .f32⟩
  | 18 => ⟨S1024x1024, .f32⟩
  | 19 => ⟨S8x32x1024, .f32⟩
  | 20 => ⟨S1024, .f32⟩
  | 21 => ⟨S1x1x1024, .f32⟩
  | 22 => ⟨S8x32x1024, .f32⟩
  | 23 => ⟨S8x32x1024, .f32⟩
  | 24 => ⟨S8x32x1024, .f32⟩
  | _ => ⟨S8x32x1024, .f32⟩

abbrev hbmTy (i : Nat) : BufTy := match i / 128 with
  | 0 => hbmTy0_0 i
  | 1 => hbmTy0_1 i
  | 2 => hbmTy0_2 i
  | _ => ⟨S8x32x1024, .f32⟩

abbrev bufTy : (tb : Table) → Fin (tcTables nBuf tb) → BufTy
  | .hbm, ⟨i, _⟩ => hbmTy i
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_cst_0 : Ref sig .tc := ⟨.hbm, 236, rfl⟩
abbrev main_v226 : Ref sig .tc := ⟨.hbm, 237, rfl⟩
abbrev main_v227 : Ref sig .tc := ⟨.hbm, 238, rfl⟩
abbrev main_cst_1 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_cst_2 : Ref sig .tc := ⟨.hbm, 245, rfl⟩
abbrev main_v233 : Ref sig .tc := ⟨.hbm, 246, rfl⟩
abbrev main_v234 : Ref sig .tc := ⟨.hbm, 247, rfl⟩
abbrev main_cst_3 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_cst_4 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_call0_v0 : Ref sig .tc := ⟨.hbm, 265, rfl⟩
abbrev main_call0_v1 : Ref sig .tc := ⟨.hbm, 266, rfl⟩
abbrev main_call0_cst : Ref sig .tc := ⟨.hbm, 267, rfl⟩
abbrev main_call0_v2 : Ref sig .tc := ⟨.hbm, 268, rfl⟩
abbrev main_call0_v3 : Ref sig .tc := ⟨.hbm, 269, rfl⟩
abbrev main_call0_cst_0 : Ref sig .tc := ⟨.hbm, 270, rfl⟩
abbrev main_call0_v4 : Ref sig .tc := ⟨.hbm, 271, rfl⟩
abbrev main_call0_v5 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩

abbrev nD : Nat := 1
abbrev τ : Topo := Topo.v7x

variable {F : FTy → Type} [FloatOps F]
-- ==== SparseAttn.lean ====
abbrev S8x4096x1024 : Shape := ⟨3, ![8, 4096, 1024]⟩
abbrev S8x4096x512 : Shape := ⟨3, ![8, 4096, 512]⟩
abbrev S8x4096x128 : Shape := ⟨3, ![8, 4096, 128]⟩
abbrev S8x32x4x64x128 : Shape := ⟨5, ![8, 32, 4, 64, 128]⟩
abbrev S8x4096x64 : Shape := ⟨3, ![8, 4096, 64]⟩
abbrev S8x256x256 : Shape := ⟨3, ![8, 256, 256]⟩
abbrev S1x128x1024 : Shape := ⟨3, ![1, 128, 1024]⟩
abbrev S1x128x512 : Shape := ⟨3, ![1, 128, 512]⟩
abbrev S1x128x128 : Shape := ⟨3, ![1, 128, 128]⟩
abbrev S1x4096x512 : Shape := ⟨3, ![1, 4096, 512]⟩
abbrev S1x32x4x64x128 : Shape := ⟨5, ![1, 32, 4, 64, 128]⟩
abbrev S1x4096x64 : Shape := ⟨3, ![1, 4096, 64]⟩
abbrev S37x128x128 : Shape := ⟨3, ![37, 128, 128]⟩
abbrev S20x128x128 : Shape := ⟨3, ![20, 128, 128]⟩
abbrev S4x128x1024 : Shape := ⟨3, ![4, 128, 1024]⟩
abbrev S8x128x256 : Shape := ⟨3, ![8, 128, 256]⟩
abbrev S64x1024 : Shape := ⟨2, ![64, 1024]⟩
abbrev S1024x128 : Shape := ⟨2, ![1024, 128]⟩
abbrev S2x8x256x256 : Shape := ⟨4, ![2, 8, 256, 256]⟩
abbrev S2x8x1x256 : Shape := ⟨4, ![2, 8, 1, 256]⟩
abbrev S1x256 : Shape := ⟨2, ![1, 256]⟩
abbrev S80x256 : Shape := ⟨2, ![80, 256]⟩
abbrev S128x1024 : Shape := ⟨2, ![128, 1024]⟩
abbrev S64x128 : Shape := ⟨2, ![64, 128]⟩
abbrev S64x256 : Shape := ⟨2, ![64, 256]⟩
abbrev S128x256 : Shape := ⟨2, ![128, 256]⟩
abbrev S1x128x256 : Shape := ⟨3, ![1, 128, 256]⟩
abbrev S128x512 : Shape := ⟨2, ![128, 512]⟩
abbrev S512x128 : Shape := ⟨2, ![512, 128]⟩
abbrev S128x128 : Shape := ⟨2, ![128, 128]⟩
abbrev S1x128 : Shape := ⟨2, ![1, 128]⟩
abbrev S1x128x64 : Shape := ⟨3, ![1, 128, 64]⟩
abbrev S128x64 : Shape := ⟨2, ![128, 64]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S16x256 : Shape := ⟨2, ![16, 256]⟩
abbrev S256x128 : Shape := ⟨2, ![256, 128]⟩
abbrev S256x256 : Shape := ⟨2, ![256, 256]⟩
abbrev S1x256x256 : Shape := ⟨3, ![1, 256, 256]⟩
abbrev S1x1x256x256 : Shape := ⟨4, ![1, 1, 256, 256]⟩
abbrev S256 : Shape := ⟨1, ![256]⟩
abbrev S1x1x1x256 : Shape := ⟨4, ![1, 1, 1, 256]⟩
abbrev S1x1x1x64x128 : Shape := ⟨5, ![1, 1, 1, 64, 128]⟩

abbrev nBuf : Space → Nat
  | .hbm => 8
  | .vmem => 39
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x512, .bf16⟩
  | .hbm, ⟨2, _⟩ => ⟨S8x4096x128, .f32⟩
  | .hbm, ⟨3, _⟩ => ⟨S8x4096x512, .bf16⟩
  | .hbm, ⟨4, _⟩ => ⟨S8x32x4x64x128, .bf16⟩
  | .hbm, ⟨5, _⟩ => ⟨S8x4096x64, .bf16⟩
  | .hbm, ⟨6, _⟩ => ⟨S8x256x256, .f32⟩
  | .hbm, ⟨7, _⟩ => ⟨S8x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x128, .f32⟩
  | .local _ .vmem, ⟨5, _⟩ => ⟨S1x128x128, .f32⟩
  | .local _ .vmem, ⟨6, _⟩ => ⟨S1x4096x512, .bf16⟩
  | .local _ .vmem, ⟨7, _⟩ => ⟨S1x4096x512, .bf16⟩
  | .local _ .vmem, ⟨8, _⟩ => ⟨S1x32x4x64x128, .bf16⟩
  | .local _ .vmem, ⟨9, _⟩ => ⟨S1x32x4x64x128, .bf16⟩
  | .local _ .vmem, ⟨10, _⟩ => ⟨S1x4096x64, .bf16⟩
  | .local _ .vmem, ⟨11, _⟩ => ⟨S1x4096x64, .bf16⟩
  | .local _ .vmem, ⟨12, _⟩ => ⟨S8x256x256, .f32⟩
  | .local _ .vmem, ⟨13, _⟩ => ⟨S1x128x1024, .bf16⟩
  | .local _ .vmem, ⟨14, _⟩ => ⟨S1x128x1024, .bf16⟩
  | .local _ .vmem, ⟨15, _⟩ => ⟨S37x128x128, .f32⟩
  | .local _ .vmem, ⟨16, _⟩ => ⟨S20x128x128, .i32⟩
  | .local _ .vmem, ⟨17, _⟩ => ⟨S4x128x1024, .f32⟩
  | .local _ .vmem, ⟨18, _⟩ => ⟨S8x128x256, .bf16⟩
  | .local _ .vmem, ⟨19, _⟩ => ⟨S64x1024, .bf16⟩
  | .local _ .vmem, ⟨20, _⟩ => ⟨S1024x128, .f32⟩
  | .local _ .vmem, ⟨21, _⟩ => ⟨S2x8x256x256, .f32⟩
  | .local _ .vmem, ⟨22, _⟩ => ⟨S2x8x1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S80x256, .f32⟩
  | .local _ .vmem, ⟨32, _⟩ => ⟨S80x256, .f32⟩
  | .local _ .vmem, ⟨33, _⟩ => ⟨S80x256, .f32⟩
  | .local _ .vmem, ⟨34, _⟩ => ⟨S80x256, .f32⟩
  | .local _ .vmem, ⟨35, _⟩ => ⟨S80x256, .f32⟩
  | .local _ .vmem, ⟨36, _⟩ => ⟨S80x256, .f32⟩
  | .local _ .vmem, ⟨37, _⟩ => ⟨S80x256, .f32⟩
  | .local _ .vmem, ⟨38, _⟩ => ⟨S80x256, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_scratch13 : Ref sig .tc := ⟨.vmem, 28, rfl⟩
abbrev cc0_scratch14 : Ref sig .tc := ⟨.vmem, 29, rfl⟩
abbrev cc0_scratch15 : Ref sig .tc := ⟨.vmem, 30, rfl⟩
abbrev cc0_scratch16 : Ref sig .tc := ⟨.vmem, 31, rfl⟩
abbrev cc0_scratch17 : Ref sig .tc := ⟨.vmem, 32, rfl⟩
abbrev cc0_scratch18 : Ref sig .tc := ⟨.vmem, 33, rfl⟩
abbrev cc0_scratch19 : Ref sig .tc := ⟨.vmem, 34, rfl⟩
abbrev cc0_scratch20 : Ref sig .tc := ⟨.vmem, 35, rfl⟩
abbrev cc0_scratch21 : Ref sig .tc := ⟨.vmem, 36, rfl⟩
abbrev cc0_scratch22 : Ref sig .tc := ⟨.vmem, 37, rfl⟩
abbrev cc0_scratch23 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 32], ![false, false]⟩

def k0_mult1 : BitVec 32 :=
  let c0_i32_50 : BitVec 32 := 0#32
  let c31_i32 : BitVec 32 := 31#32
  let v190 : BitVec 32 := Scalar.minsi c0_i32_50 c31_i32
  let c128_i32_51 : BitVec 32 := 128#32
  let v191 : BitVec 32 := Scalar.muli v190 c128_i32_51
  v191
def k0_off1 (c0_i32_50 : BitVec 32) : Fin 3 → Nat :=
  let c0_52 : Index := 0#32
  let c31_i32 : BitVec 32 := 31#32
  let v190 : BitVec 32 := Scalar.minsi c0_i32_50 c31_i32
  let c128_i32_51 : BitVec 32 := 128#32
  let v191 : BitVec 32 := Scalar.muli v190 c128_i32_51
  let v192 : BitVec 32 := v191
  let v193 : Index := Scalar.indexCast v192
  let c0_53 : Index := 0#32
  ![0, v193.toNat, 0]
def k0_mult2 : BitVec 32 :=
  let c1_i32_60 : BitVec 32 := 1#32
  let c31_i32_61 : BitVec 32 := 31#32
  let v201 : BitVec 32 := Scalar.minsi c1_i32_60 c31_i32_61
  let c128_i32_62 : BitVec 32 := 128#32
  let v202 : BitVec 32 := Scalar.muli v201 c128_i32_62
  v202
@[reducible] def k0_t1_loop (i : grid0.Coords) : Scf.Loop 32 :=
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_74 : BitVec 32 := 1#32
  ⟨c0_i32_72, v216, c1_i32_74⟩
def k0_mult3 (i : grid0.Coords) (k0_t1 : Fin (k0_t1_loop i).trips) : BitVec 32 :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let c2_i32_444 : BitVec 32 := 2#32
  let v759 : BitVec 32 := Scalar.addi v758 c2_i32_444
  let c31_i32_445 : BitVec 32 := 31#32
  let v760 : BitVec 32 := Scalar.minsi v759 c31_i32_445
  let c128_i32_446 : BitVec 32 := 128#32
  let v761 : BitVec 32 := Scalar.muli v760 c128_i32_446
  v761
def k0_off2 (i : grid0.Coords) (k0_t1 : Fin (k0_t1_loop i).trips) (c2_i32_444 : BitVec 32) : Fin 3 → Nat :=
  let c0_447 : Index := 0#32
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let v759 : BitVec 32 := Scalar.addi v758 c2_i32_444
  let c31_i32_445 : BitVec 32 := 31#32
  let v760 : BitVec 32 := Scalar.minsi v759 c31_i32_445
  let c128_i32_446 : BitVec 32 := 128#32
  let v761 : BitVec 32 := Scalar.muli v760 c128_i32_446
  let v762 : BitVec 32 := v761
  let v763 : Index := Scalar.indexCast v762
  let c0_448 : Index := 0#32
  ![0, v763.toNat, 0]
def k0_mult4 (i : grid0.Coords) (k0_t1 : Fin (k0_t1_loop i).trips) : BitVec 32 :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let c3_i32_455 : BitVec 32 := 3#32
  let v771 : BitVec 32 := Scalar.addi v758 c3_i32_455
  let c31_i32_456 : BitVec 32 := 31#32
  let v772 : BitVec 32 := Scalar.minsi v771 c31_i32_456
  let c128_i32_457 : BitVec 32 := 128#32
  let v773 : BitVec 32 := Scalar.muli v772 c128_i32_457
  v773
def k0_off3 (i : grid0.Coords) (k0_t1 : Fin (k0_t1_loop i).trips) : Fin 3 → Nat :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let v855 : Index := Scalar.indexCast v758
  let c0_501 : Index := 0#32
  let c0_502 : Index := 0#32
  ![v855.toNat, 0, 0]
def k0_off4 (i : grid0.Coords) (k0_t1 : Fin (k0_t1_loop i).trips) (c1_i32_509 : BitVec 32) : Fin 3 → Nat :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let v875 : BitVec 32 := Scalar.addi v758 c1_i32_509
  let v948 : Index := Scalar.indexCast v875
  let c0_545 : Index := 0#32
  let c0_546 : Index := 0#32
  ![v948.toNat, 0, 0]
def k0_off5 (i : grid0.Coords) (k0_t1 : Fin (k0_t1_loop i).trips) : Fin 3 → Nat :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let c0_i32_554 : BitVec 32 := 0#32
  let v968 : BitVec 1 := Scalar.cmpi .sgt v758 c0_i32_554
  let v969 : BitVec 32 := Scalar.extui v968
  let c0_i32_555 : BitVec 32 := 0#32
  let v970 : BitVec 1 := Scalar.cmpi .slt v758 c0_i32_555
  let v971 : BitVec 32 := Scalar.extui v970
  let v972 : BitVec 32 := Scalar.subi v969 v971
  let c2_i32_553 : BitVec 32 := 2#32
  let c0_i32_556 : BitVec 32 := 0#32
  let v973 : BitVec 1 := Scalar.cmpi .sgt c2_i32_553 c0_i32_556
  let v974 : BitVec 32 := Scalar.extui v973
  let c0_i32_557 : BitVec 32 := 0#32
  let v975 : BitVec 1 := Scalar.cmpi .slt c2_i32_553 c0_i32_557
  let v976 : BitVec 32 := Scalar.extui v975
  let v977 : BitVec 32 := Scalar.subi v974 v976
  let v978 : BitVec 1 := Scalar.cmpi .ne v972 v977
  let v979 : BitVec 32 := Scalar.remsi v758 c2_i32_553
  let c0_i32_558 : BitVec 32 := 0#32
  let v980 : BitVec 1 := Scalar.cmpi .ne v979 c0_i32_558
  let v981 : BitVec 1 := Scalar.andi v978 v980
  let v967 : BitVec 32 := Scalar.divsi v758 c2_i32_553
  let c1_i32_559 : BitVec 32 := 1#32
  let v982 : BitVec 32 := Scalar.subi v967 c1_i32_559
  let v983 : BitVec 32 := Scalar.select v981 v982 v967
  let v984 : Index := Scalar.indexCast v983
  let c0_560 : Index := 0#32
  let c0_561 : Index := 0#32
  ![v984.toNat, 0, 0]
def k0_mult5 (i : grid0.Coords) (k0_t1 : Fin (k0_t1_loop i).trips) : BitVec 32 :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let c4_i32_562 : BitVec 32 := 4#32
  let v988 : BitVec 32 := Scalar.addi v758 c4_i32_562
  let c31_i32_563 : BitVec 32 := 31#32
  let v989 : BitVec 32 := Scalar.minsi v988 c31_i32_563
  let c128_i32_564 : BitVec 32 := 128#32
  let v990 : BitVec 32 := Scalar.muli v989 c128_i32_564
  v990
def k0_mult6 (i : grid0.Coords) (k0_t1 : Fin (k0_t1_loop i).trips) : BitVec 32 :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let c5_i32 : BitVec 32 := 5#32
  let v1000 : BitVec 32 := Scalar.addi v758 c5_i32
  let c31_i32_573 : BitVec 32 := 31#32
  let v1001 : BitVec 32 := Scalar.minsi v1000 c31_i32_573
  let c128_i32_574 : BitVec 32 := 128#32
  let v1002 : BitVec 32 := Scalar.muli v1001 c128_i32_574
  v1002
def k0_off6 (i : grid0.Coords) (k0_t1 : Fin (k0_t1_loop i).trips) : Fin 3 → Nat :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let c2_i32_583 : BitVec 32 := 2#32
  let v1012 : BitVec 32 := Scalar.addi v758 c2_i32_583
  let c1_i32_628 : BitVec 32 := 1#32
  let v1105 : BitVec 32 := Scalar.addi v1012 c1_i32_628
  let v1178 : Index := Scalar.indexCast v1105
  let c0_664 : Index := 0#32
  let c0_665 : Index := 0#32
  ![v1178.toNat, 0, 0]
def k0_off7 (i : grid0.Coords) (k0_t1 : Fin (k0_t1_loop i).trips) : Fin 3 → Nat :=
  let c4_i32_443 : BitVec 32 := 4#32
  let c0_i32_72 : BitVec 32 := 0#32
  let c1_i32_74 : BitVec 32 := 1#32
  let arg34 : BitVec 32 := Scf.iv c0_i32_72 c1_i32_74 k0_t1
  let v758 : BitVec 32 := Scalar.muli c4_i32_443 arg34
  let c2_i32_583 : BitVec 32 := 2#32
  let v1012 : BitVec 32 := Scalar.addi v758 c2_i32_583
  let c0_i32_673 : BitVec 32 := 0#32
  let v1198 : BitVec 1 := Scalar.cmpi .sgt v1012 c0_i32_673
  let v1199 : BitVec 32 := Scalar.extui v1198
  let c0_i32_674 : BitVec 32 := 0#32
  let v1200 : BitVec 1 := Scalar.cmpi .slt v1012 c0_i32_674
  let v1201 : BitVec 32 := Scalar.extui v1200
  let v1202 : BitVec 32 := Scalar.subi v1199 v1201
  let c2_i32_672 : BitVec 32 := 2#32
  let c0_i32_675 : BitVec 32 := 0#32
  let v1203 : BitVec 1 := Scalar.cmpi .sgt c2_i32_672 c0_i32_675
  let v1204 : BitVec 32 := Scalar.extui v1203
  let c0_i32_676 : BitVec 32 := 0#32
  let v1205 : BitVec 1 := Scalar.cmpi .slt c2_i32_672 c0_i32_676
  let v1206 : BitVec 32 := Scalar.extui v1205
  let v1207 : BitVec 32 := Scalar.subi v1204 v1206
  let v1208 : BitVec 1 := Scalar.cmpi .ne v1202 v1207
  let v1209 : BitVec 32 := Scalar.remsi v1012 c2_i32_672
  let c0_i32_677 : BitVec 32 := 0#32
  let v1210 : BitVec 1 := Scalar.cmpi .ne v1209 c0_i32_677
  let v1211 : BitVec 1 := Scalar.andi v1208 v1210
  let v1197 : BitVec 32 := Scalar.divsi v1012 c2_i32_672
  let c1_i32_678 : BitVec 32 := 1#32
  let v1212 : BitVec 32 := Scalar.subi v1197 c1_i32_678
  let v1213 : BitVec 32 := Scalar.select v1211 v1212 v1197
  let v1214 : Index := Scalar.indexCast v1213
  let c0_679 : Index := 0#32
  let c0_680 : Index := 0#32
  ![v1214.toNat, 0, 0]
@[reducible] def k0_t2_loop (i : grid0.Coords) : Scf.Loop 32 :=
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let v213 : BitVec 32 := Scalar.addi c0_i32_72 v212
  let c1_i32_75 : BitVec 32 := 1#32
  ⟨v216, v213, c1_i32_75⟩
def k0_mult7 (i : grid0.Coords) (k0_t2 : Fin (k0_t2_loop i).trips) : BitVec 32 :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let c2_i32_444 : BitVec 32 := 2#32
  let v759 : BitVec 32 := Scalar.addi v758 c2_i32_444
  let c31_i32_445 : BitVec 32 := 31#32
  let v760 : BitVec 32 := Scalar.minsi v759 c31_i32_445
  let c128_i32_446 : BitVec 32 := 128#32
  let v761 : BitVec 32 := Scalar.muli v760 c128_i32_446
  v761
def k0_off8 (i : grid0.Coords) (k0_t2 : Fin (k0_t2_loop i).trips) (c2_i32_444 : BitVec 32) : Fin 3 → Nat :=
  let c0_447 : Index := 0#32
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let v759 : BitVec 32 := Scalar.addi v758 c2_i32_444
  let c31_i32_445 : BitVec 32 := 31#32
  let v760 : BitVec 32 := Scalar.minsi v759 c31_i32_445
  let c128_i32_446 : BitVec 32 := 128#32
  let v761 : BitVec 32 := Scalar.muli v760 c128_i32_446
  let v762 : BitVec 32 := v761
  let v763 : Index := Scalar.indexCast v762
  let c0_448 : Index := 0#32
  ![0, v763.toNat, 0]
def k0_mult8 (i : grid0.Coords) (k0_t2 : Fin (k0_t2_loop i).trips) : BitVec 32 :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let c3_i32_455 : BitVec 32 := 3#32
  let v771 : BitVec 32 := Scalar.addi v758 c3_i32_455
  let c31_i32_456 : BitVec 32 := 31#32
  let v772 : BitVec 32 := Scalar.minsi v771 c31_i32_456
  let c128_i32_457 : BitVec 32 := 128#32
  let v773 : BitVec 32 := Scalar.muli v772 c128_i32_457
  v773
def k0_off9 (i : grid0.Coords) (k0_t2 : Fin (k0_t2_loop i).trips) : Fin 3 → Nat :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let v855 : Index := Scalar.indexCast v758
  let c0_501 : Index := 0#32
  let c0_502 : Index := 0#32
  ![v855.toNat, 0, 0]
def k0_off10 (i : grid0.Coords) (k0_t2 : Fin (k0_t2_loop i).trips) (c1_i32_509 : BitVec 32) : Fin 3 → Nat :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let v875 : BitVec 32 := Scalar.addi v758 c1_i32_509
  let v948 : Index := Scalar.indexCast v875
  let c0_545 : Index := 0#32
  let c0_546 : Index := 0#32
  ![v948.toNat, 0, 0]
def k0_off11 (i : grid0.Coords) (k0_t2 : Fin (k0_t2_loop i).trips) : Fin 3 → Nat :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let c0_i32_554 : BitVec 32 := 0#32
  let v968 : BitVec 1 := Scalar.cmpi .sgt v758 c0_i32_554
  let v969 : BitVec 32 := Scalar.extui v968
  let c0_i32_555 : BitVec 32 := 0#32
  let v970 : BitVec 1 := Scalar.cmpi .slt v758 c0_i32_555
  let v971 : BitVec 32 := Scalar.extui v970
  let v972 : BitVec 32 := Scalar.subi v969 v971
  let c2_i32_553 : BitVec 32 := 2#32
  let c0_i32_556 : BitVec 32 := 0#32
  let v973 : BitVec 1 := Scalar.cmpi .sgt c2_i32_553 c0_i32_556
  let v974 : BitVec 32 := Scalar.extui v973
  let c0_i32_557 : BitVec 32 := 0#32
  let v975 : BitVec 1 := Scalar.cmpi .slt c2_i32_553 c0_i32_557
  let v976 : BitVec 32 := Scalar.extui v975
  let v977 : BitVec 32 := Scalar.subi v974 v976
  let v978 : BitVec 1 := Scalar.cmpi .ne v972 v977
  let v979 : BitVec 32 := Scalar.remsi v758 c2_i32_553
  let c0_i32_558 : BitVec 32 := 0#32
  let v980 : BitVec 1 := Scalar.cmpi .ne v979 c0_i32_558
  let v981 : BitVec 1 := Scalar.andi v978 v980
  let v967 : BitVec 32 := Scalar.divsi v758 c2_i32_553
  let c1_i32_559 : BitVec 32 := 1#32
  let v982 : BitVec 32 := Scalar.subi v967 c1_i32_559
  let v983 : BitVec 32 := Scalar.select v981 v982 v967
  let v984 : Index := Scalar.indexCast v983
  let c0_560 : Index := 0#32
  let c0_561 : Index := 0#32
  ![v984.toNat, 0, 0]
def k0_mult9 (i : grid0.Coords) (k0_t2 : Fin (k0_t2_loop i).trips) : BitVec 32 :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let c4_i32_562 : BitVec 32 := 4#32
  let v988 : BitVec 32 := Scalar.addi v758 c4_i32_562
  let c31_i32_563 : BitVec 32 := 31#32
  let v989 : BitVec 32 := Scalar.minsi v988 c31_i32_563
  let c128_i32_564 : BitVec 32 := 128#32
  let v990 : BitVec 32 := Scalar.muli v989 c128_i32_564
  v990
def k0_mult10 (i : grid0.Coords) (k0_t2 : Fin (k0_t2_loop i).trips) : BitVec 32 :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let c5_i32 : BitVec 32 := 5#32
  let v1000 : BitVec 32 := Scalar.addi v758 c5_i32
  let c31_i32_573 : BitVec 32 := 31#32
  let v1001 : BitVec 32 := Scalar.minsi v1000 c31_i32_573
  let c128_i32_574 : BitVec 32 := 128#32
  let v1002 : BitVec 32 := Scalar.muli v1001 c128_i32_574
  v1002
def k0_off12 (i : grid0.Coords) (k0_t2 : Fin (k0_t2_loop i).trips) : Fin 3 → Nat :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let c2_i32_583 : BitVec 32 := 2#32
  let v1012 : BitVec 32 := Scalar.addi v758 c2_i32_583
  let c1_i32_628 : BitVec 32 := 1#32
  let v1105 : BitVec 32 := Scalar.addi v1012 c1_i32_628
  let v1178 : Index := Scalar.indexCast v1105
  let c0_664 : Index := 0#32
  let c0_665 : Index := 0#32
  ![v1178.toNat, 0, 0]
def k0_off13 (i : grid0.Coords) (k0_t2 : Fin (k0_t2_loop i).trips) : Fin 3 → Nat :=
  let c4_i32_443 : BitVec 32 := 4#32
  let c0_i32_72 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v212 : BitVec 32 := Scalar.subi v189 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg34 : BitVec 32 := Scf.iv v216 c1_i32_75 k0_t2
  let v758 : BitVec 32 := Scalar.muli c4_i32_443 arg34
  let c2_i32_583 : BitVec 32 := 2#32
  let v1012 : BitVec 32 := Scalar.addi v758 c2_i32_583
  let c0_i32_673 : BitVec 32 := 0#32
  let v1198 : BitVec 1 := Scalar.cmpi .sgt v1012 c0_i32_673
  let v1199 : BitVec 32 := Scalar.extui v1198
  let c0_i32_674 : BitVec 32 := 0#32
  let v1200 : BitVec 1 := Scalar.cmpi .slt v1012 c0_i32_674
  let v1201 : BitVec 32 := Scalar.extui v1200
  let v1202 : BitVec 32 := Scalar.subi v1199 v1201
  let c2_i32_672 : BitVec 32 := 2#32
  let c0_i32_675 : BitVec 32 := 0#32
  let v1203 : BitVec 1 := Scalar.cmpi .sgt c2_i32_672 c0_i32_675
  let v1204 : BitVec 32 := Scalar.extui v1203
  let c0_i32_676 : BitVec 32 := 0#32
  let v1205 : BitVec 1 := Scalar.cmpi .slt c2_i32_672 c0_i32_676
  let v1206 : BitVec 32 := Scalar.extui v1205
  let v1207 : BitVec 32 := Scalar.subi v1204 v1206
  let v1208 : BitVec 1 := Scalar.cmpi .ne v1202 v1207
  let v1209 : BitVec 32 := Scalar.remsi v1012 c2_i32_672
  let c0_i32_677 : BitVec 32 := 0#32
  let v1210 : BitVec 1 := Scalar.cmpi .ne v1209 c0_i32_677
  let v1211 : BitVec 1 := Scalar.andi v1208 v1210
  let v1197 : BitVec 32 := Scalar.divsi v1012 c2_i32_672
  let c1_i32_678 : BitVec 32 := 1#32
  let v1212 : BitVec 32 := Scalar.subi v1197 c1_i32_678
  let v1213 : BitVec 32 := Scalar.select v1211 v1212 v1197
  let v1214 : Index := Scalar.indexCast v1213
  let c0_679 : Index := 0#32
  let c0_680 : Index := 0#32
  ![v1214.toNat, 0, 0]
def k0_off14 (i : grid0.Coords) (c0_i32_78 : BitVec 32) : Fin 3 → Nat :=
  let c2_i32_77 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v218 : BitVec 32 := Scalar.muli c2_i32_77 v171
  let v219 : BitVec 32 := Scalar.addi v218 c0_i32_78
  let v220 : Index := Scalar.indexCast v219
  let c0_79 : Index := 0#32
  let c0_80 : Index := 0#32
  ![v220.toNat, 0, 0]
def k0_off15 (i : grid0.Coords) (c0_i32_98 : BitVec 32) : Fin 3 → Nat :=
  let c2_i32_97 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c3_i32 : BitVec 32 := 3#32
  let v172 : BitVec 32 := Scalar.addi v1 c3_i32
  let c0_i32_44 : BitVec 32 := 0#32
  let v174 : BitVec 1 := Scalar.cmpi .sgt v172 c0_i32_44
  let v175 : BitVec 32 := Scalar.extui v174
  let c0_i32_45 : BitVec 32 := 0#32
  let v176 : BitVec 1 := Scalar.cmpi .slt v172 c0_i32_45
  let v177 : BitVec 32 := Scalar.extui v176
  let v178 : BitVec 32 := Scalar.subi v175 v177
  let c4_i32 : BitVec 32 := 4#32
  let c0_i32_46 : BitVec 32 := 0#32
  let v179 : BitVec 1 := Scalar.cmpi .sgt c4_i32 c0_i32_46
  let v180 : BitVec 32 := Scalar.extui v179
  let c0_i32_47 : BitVec 32 := 0#32
  let v181 : BitVec 1 := Scalar.cmpi .slt c4_i32 c0_i32_47
  let v182 : BitVec 32 := Scalar.extui v181
  let v183 : BitVec 32 := Scalar.subi v180 v182
  let v184 : BitVec 1 := Scalar.cmpi .ne v178 v183
  let v185 : BitVec 32 := Scalar.remsi v172 c4_i32
  let c0_i32_48 : BitVec 32 := 0#32
  let v186 : BitVec 1 := Scalar.cmpi .ne v185 c0_i32_48
  let v187 : BitVec 1 := Scalar.andi v184 v186
  let v173 : BitVec 32 := Scalar.divsi v172 c4_i32
  let c1_i32_49 : BitVec 32 := 1#32
  let v188 : BitVec 32 := Scalar.subi v173 c1_i32_49
  let v189 : BitVec 32 := Scalar.select v187 v188 v173
  let v246 : BitVec 32 := Scalar.muli c2_i32_97 v189
  let v247 : BitVec 32 := Scalar.addi v246 c0_i32_98
  let v248 : Index := Scalar.indexCast v247
  let c0_99 : Index := 0#32
  let c0_100 : Index := 0#32
  ![v248.toNat, 0, 0]
@[reducible] def k0_t3_loop : Scf.Loop 32 :=
  let c0_i32_118 : BitVec 32 := 0#32
  let c15_i32 : BitVec 32 := 15#32
  let v282 : BitVec 32 := Scalar.addi c0_i32_118 c15_i32
  let c1_i32_119 : BitVec 32 := 1#32
  ⟨c0_i32_118, v282, c1_i32_119⟩
@[reducible] def k0_t4_loop (i : grid0.Coords) : Scf.Loop 32 :=
  let c0_i32_445 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v769 : BitVec 32 := Scalar.subi v278 c0_i32_445
  let c1_i32_446 : BitVec 32 := 1#32
  let v771 : BitVec 32 := Scalar.divsi v769 c1_i32_446
  let v772 : BitVec 32 := Scalar.muli v771 c1_i32_446
  let v773 : BitVec 32 := Scalar.addi c0_i32_445 v772
  let c1_i32_447 : BitVec 32 := 1#32
  ⟨c0_i32_445, v773, c1_i32_447⟩
def k0_off16 (i : grid0.Coords) (k0_t4 : Fin (k0_t4_loop i).trips) (c0_i32_453 : BitVec 32) : Fin 3 → Nat :=
  let c2_i32_452 : BitVec 32 := 2#32
  let c0_i32_445 : BitVec 32 := 0#32
  let c1_i32_447 : BitVec 32 := 1#32
  let arg38 : BitVec 32 := Scf.iv c0_i32_445 c1_i32_447 k0_t4
  let v789 : BitVec 32 := Scalar.muli c2_i32_452 arg38
  let v790 : BitVec 32 := Scalar.addi v789 c0_i32_453
  let v791 : Index := Scalar.indexCast v790
  let c0_454 : Index := 0#32
  let c0_455 : Index := 0#32
  ![v791.toNat, 0, 0]
@[reducible] def k0_t5_loop (i : grid0.Coords) : Scf.Loop 32 :=
  let c0_i32_445 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v769 : BitVec 32 := Scalar.subi v278 c0_i32_445
  let c1_i32_446 : BitVec 32 := 1#32
  let v771 : BitVec 32 := Scalar.divsi v769 c1_i32_446
  let v772 : BitVec 32 := Scalar.muli v771 c1_i32_446
  let v773 : BitVec 32 := Scalar.addi c0_i32_445 v772
  let v770 : BitVec 32 := Scalar.addi c0_i32_445 v769
  let c1_i32_448 : BitVec 32 := 1#32
  ⟨v773, v770, c1_i32_448⟩
def k0_off17 (i : grid0.Coords) (k0_t5 : Fin (k0_t5_loop i).trips) (c0_i32_453 : BitVec 32) : Fin 3 → Nat :=
  let c2_i32_452 : BitVec 32 := 2#32
  let c0_i32_445 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v769 : BitVec 32 := Scalar.subi v278 c0_i32_445
  let c1_i32_446 : BitVec 32 := 1#32
  let v771 : BitVec 32 := Scalar.divsi v769 c1_i32_446
  let v772 : BitVec 32 := Scalar.muli v771 c1_i32_446
  let v773 : BitVec 32 := Scalar.addi c0_i32_445 v772
  let c1_i32_448 : BitVec 32 := 1#32
  let arg38 : BitVec 32 := Scf.iv v773 c1_i32_448 k0_t5
  let v789 : BitVec 32 := Scalar.muli c2_i32_452 arg38
  let v790 : BitVec 32 := Scalar.addi v789 c0_i32_453
  let v791 : Index := Scalar.indexCast v790
  let c0_454 : Index := 0#32
  let c0_455 : Index := 0#32
  ![v791.toNat, 0, 0]
@[reducible] def k0_t6_loop (i : grid0.Coords) : Scf.Loop 32 :=
  let c0_i32_447 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v771 : BitVec 32 := Scalar.subi v278 c0_i32_447
  let c1_i32_448 : BitVec 32 := 1#32
  let v773 : BitVec 32 := Scalar.divsi v771 c1_i32_448
  let v774 : BitVec 32 := Scalar.muli v773 c1_i32_448
  let v775 : BitVec 32 := Scalar.addi c0_i32_447 v774
  let c1_i32_449 : BitVec 32 := 1#32
  ⟨c0_i32_447, v775, c1_i32_449⟩
def k0_off18 (i : grid0.Coords) (k0_t6 : Fin (k0_t6_loop i).trips) (c0_i32_485 : BitVec 32) : Fin 3 → Nat :=
  let c4_i32_484 : BitVec 32 := 4#32
  let c0_i32_447 : BitVec 32 := 0#32
  let c1_i32_449 : BitVec 32 := 1#32
  let arg38 : BitVec 32 := Scf.iv c0_i32_447 c1_i32_449 k0_t6
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t7_loop (i : grid0.Coords) : Scf.Loop 32 :=
  let c0_i32_447 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v771 : BitVec 32 := Scalar.subi v278 c0_i32_447
  let c1_i32_448 : BitVec 32 := 1#32
  let v773 : BitVec 32 := Scalar.divsi v771 c1_i32_448
  let v774 : BitVec 32 := Scalar.muli v773 c1_i32_448
  let v775 : BitVec 32 := Scalar.addi c0_i32_447 v774
  let v772 : BitVec 32 := Scalar.addi c0_i32_447 v771
  let c1_i32_450 : BitVec 32 := 1#32
  ⟨v775, v772, c1_i32_450⟩
def k0_off19 (i : grid0.Coords) (k0_t7 : Fin (k0_t7_loop i).trips) (c0_i32_485 : BitVec 32) : Fin 3 → Nat :=
  let c4_i32_484 : BitVec 32 := 4#32
  let c0_i32_447 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v771 : BitVec 32 := Scalar.subi v278 c0_i32_447
  let c1_i32_448 : BitVec 32 := 1#32
  let v773 : BitVec 32 := Scalar.divsi v771 c1_i32_448
  let v774 : BitVec 32 := Scalar.muli v773 c1_i32_448
  let v775 : BitVec 32 := Scalar.addi c0_i32_447 v774
  let c1_i32_450 : BitVec 32 := 1#32
  let arg38 : BitVec 32 := Scf.iv v775 c1_i32_450 k0_t7
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t8_loop (i : grid0.Coords) : Scf.Loop 32 :=
  let c0_i32_457 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v798 : BitVec 32 := Scalar.subi v278 c0_i32_457
  let c1_i32_458 : BitVec 32 := 1#32
  let v800 : BitVec 32 := Scalar.divsi v798 c1_i32_458
  let v801 : BitVec 32 := Scalar.muli v800 c1_i32_458
  let v802 : BitVec 32 := Scalar.addi c0_i32_457 v801
  let c1_i32_459 : BitVec 32 := 1#32
  ⟨c0_i32_457, v802, c1_i32_459⟩
def k0_off20 (i : grid0.Coords) (k0_t8 : Fin (k0_t8_loop i).trips) (c0_i32_485 : BitVec 32) : Fin 3 → Nat :=
  let c4_i32_484 : BitVec 32 := 4#32
  let c0_i32_457 : BitVec 32 := 0#32
  let c1_i32_459 : BitVec 32 := 1#32
  let arg38 : BitVec 32 := Scf.iv c0_i32_457 c1_i32_459 k0_t8
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t9_loop (i : grid0.Coords) : Scf.Loop 32 :=
  let c0_i32_457 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v798 : BitVec 32 := Scalar.subi v278 c0_i32_457
  let c1_i32_458 : BitVec 32 := 1#32
  let v800 : BitVec 32 := Scalar.divsi v798 c1_i32_458
  let v801 : BitVec 32 := Scalar.muli v800 c1_i32_458
  let v802 : BitVec 32 := Scalar.addi c0_i32_457 v801
  let v799 : BitVec 32 := Scalar.addi c0_i32_457 v798
  let c1_i32_460 : BitVec 32 := 1#32
  ⟨v802, v799, c1_i32_460⟩
def k0_off21 (i : grid0.Coords) (k0_t9 : Fin (k0_t9_loop i).trips) (c0_i32_485 : BitVec 32) : Fin 3 → Nat :=
  let c4_i32_484 : BitVec 32 := 4#32
  let c0_i32_457 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v798 : BitVec 32 := Scalar.subi v278 c0_i32_457
  let c1_i32_458 : BitVec 32 := 1#32
  let v800 : BitVec 32 := Scalar.divsi v798 c1_i32_458
  let v801 : BitVec 32 := Scalar.muli v800 c1_i32_458
  let v802 : BitVec 32 := Scalar.addi c0_i32_457 v801
  let c1_i32_460 : BitVec 32 := 1#32
  let arg38 : BitVec 32 := Scf.iv v802 c1_i32_460 k0_t9
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t10_loop (i : grid0.Coords) : Scf.Loop 32 :=
  let c0_i32_467 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v825 : BitVec 32 := Scalar.subi v278 c0_i32_467
  let c1_i32_468 : BitVec 32 := 1#32
  let v827 : BitVec 32 := Scalar.divsi v825 c1_i32_468
  let v828 : BitVec 32 := Scalar.muli v827 c1_i32_468
  let v829 : BitVec 32 := Scalar.addi c0_i32_467 v828
  let c1_i32_469 : BitVec 32 := 1#32
  ⟨c0_i32_467, v829, c1_i32_469⟩
def k0_off22 (i : grid0.Coords) (k0_t10 : Fin (k0_t10_loop i).trips) (c0_i32_485 : BitVec 32) : Fin 3 → Nat :=
  let c4_i32_484 : BitVec 32 := 4#32
  let c0_i32_467 : BitVec 32 := 0#32
  let c1_i32_469 : BitVec 32 := 1#32
  let arg38 : BitVec 32 := Scf.iv c0_i32_467 c1_i32_469 k0_t10
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t11_loop (i : grid0.Coords) : Scf.Loop 32 :=
  let c0_i32_467 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v825 : BitVec 32 := Scalar.subi v278 c0_i32_467
  let c1_i32_468 : BitVec 32 := 1#32
  let v827 : BitVec 32 := Scalar.divsi v825 c1_i32_468
  let v828 : BitVec 32 := Scalar.muli v827 c1_i32_468
  let v829 : BitVec 32 := Scalar.addi c0_i32_467 v828
  let v826 : BitVec 32 := Scalar.addi c0_i32_467 v825
  let c1_i32_470 : BitVec 32 := 1#32
  ⟨v829, v826, c1_i32_470⟩
def k0_off23 (i : grid0.Coords) (k0_t11 : Fin (k0_t11_loop i).trips) (c0_i32_485 : BitVec 32) : Fin 3 → Nat :=
  let c4_i32_484 : BitVec 32 := 4#32
  let c0_i32_467 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v825 : BitVec 32 := Scalar.subi v278 c0_i32_467
  let c1_i32_468 : BitVec 32 := 1#32
  let v827 : BitVec 32 := Scalar.divsi v825 c1_i32_468
  let v828 : BitVec 32 := Scalar.muli v827 c1_i32_468
  let v829 : BitVec 32 := Scalar.addi c0_i32_467 v828
  let c1_i32_470 : BitVec 32 := 1#32
  let arg38 : BitVec 32 := Scf.iv v829 c1_i32_470 k0_t11
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t12_loop (i : grid0.Coords) : Scf.Loop 32 :=
  let c0_i32_477 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v852 : BitVec 32 := Scalar.subi v278 c0_i32_477
  let c1_i32_478 : BitVec 32 := 1#32
  let v854 : BitVec 32 := Scalar.divsi v852 c1_i32_478
  let v855 : BitVec 32 := Scalar.muli v854 c1_i32_478
  let v856 : BitVec 32 := Scalar.addi c0_i32_477 v855
  let c1_i32_479 : BitVec 32 := 1#32
  ⟨c0_i32_477, v856, c1_i32_479⟩
def k0_off24 (i : grid0.Coords) (k0_t12 : Fin (k0_t12_loop i).trips) (c0_i32_485 : BitVec 32) : Fin 3 → Nat :=
  let c4_i32_484 : BitVec 32 := 4#32
  let c0_i32_477 : BitVec 32 := 0#32
  let c1_i32_479 : BitVec 32 := 1#32
  let arg38 : BitVec 32 := Scf.iv c0_i32_477 c1_i32_479 k0_t12
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t13_loop (i : grid0.Coords) : Scf.Loop 32 :=
  let c0_i32_477 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v852 : BitVec 32 := Scalar.subi v278 c0_i32_477
  let c1_i32_478 : BitVec 32 := 1#32
  let v854 : BitVec 32 := Scalar.divsi v852 c1_i32_478
  let v855 : BitVec 32 := Scalar.muli v854 c1_i32_478
  let v856 : BitVec 32 := Scalar.addi c0_i32_477 v855
  let v853 : BitVec 32 := Scalar.addi c0_i32_477 v852
  let c1_i32_480 : BitVec 32 := 1#32
  ⟨v856, v853, c1_i32_480⟩
def k0_off25 (i : grid0.Coords) (k0_t13 : Fin (k0_t13_loop i).trips) (c0_i32_485 : BitVec 32) : Fin 3 → Nat :=
  let c4_i32_484 : BitVec 32 := 4#32
  let c0_i32_477 : BitVec 32 := 0#32
  let c2_i32_106 : BitVec 32 := 2#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v259 : BitVec 32 := Scalar.muli c2_i32_106 v171
  let c4_i32_107 : BitVec 32 := 4#32
  let v260 : BitVec 32 := Scalar.addi v259 c4_i32_107
  let c1_i32_108 : BitVec 32 := 1#32
  let v261 : BitVec 32 := Scalar.subi v260 c1_i32_108
  let c0_i32_110 : BitVec 32 := 0#32
  let v263 : BitVec 1 := Scalar.cmpi .sgt v261 c0_i32_110
  let v264 : BitVec 32 := Scalar.extui v263
  let c0_i32_111 : BitVec 32 := 0#32
  let v265 : BitVec 1 := Scalar.cmpi .slt v261 c0_i32_111
  let v266 : BitVec 32 := Scalar.extui v265
  let v267 : BitVec 32 := Scalar.subi v264 v266
  let c4_i32_109 : BitVec 32 := 4#32
  let c0_i32_112 : BitVec 32 := 0#32
  let v268 : BitVec 1 := Scalar.cmpi .sgt c4_i32_109 c0_i32_112
  let v269 : BitVec 32 := Scalar.extui v268
  let c0_i32_113 : BitVec 32 := 0#32
  let v270 : BitVec 1 := Scalar.cmpi .slt c4_i32_109 c0_i32_113
  let v271 : BitVec 32 := Scalar.extui v270
  let v272 : BitVec 32 := Scalar.subi v269 v271
  let v273 : BitVec 1 := Scalar.cmpi .ne v267 v272
  let v274 : BitVec 32 := Scalar.remsi v261 c4_i32_109
  let c0_i32_114 : BitVec 32 := 0#32
  let v275 : BitVec 1 := Scalar.cmpi .ne v274 c0_i32_114
  let v276 : BitVec 1 := Scalar.andi v273 v275
  let v262 : BitVec 32 := Scalar.divsi v261 c4_i32_109
  let c1_i32_115 : BitVec 32 := 1#32
  let v277 : BitVec 32 := Scalar.subi v262 c1_i32_115
  let v278 : BitVec 32 := Scalar.select v276 v277 v262
  let v852 : BitVec 32 := Scalar.subi v278 c0_i32_477
  let c1_i32_478 : BitVec 32 := 1#32
  let v854 : BitVec 32 := Scalar.divsi v852 c1_i32_478
  let v855 : BitVec 32 := Scalar.muli v854 c1_i32_478
  let v856 : BitVec 32 := Scalar.addi c0_i32_477 v855
  let c1_i32_480 : BitVec 32 := 1#32
  let arg38 : BitVec 32 := Scf.iv v856 c1_i32_480 k0_t13
  let v867 : BitVec 32 := Scalar.muli c4_i32_484 arg38
  let v868 : BitVec 32 := Scalar.addi v867 c0_i32_485
  let v869 : Index := Scalar.indexCast v868
  let c0_486 : Index := 0#32
  let c0_487 : Index := 0#32
  ![v869.toNat, 0, 0]
@[reducible] def k0_t14_loop (i : grid0.Coords) : Scf.Loop 32 :=
  let c0_i32_444 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v761 : BitVec 32 := Scalar.subi v171 c0_i32_444
  let c1_i32_445 : BitVec 32 := 1#32
  let v763 : BitVec 32 := Scalar.divsi v761 c1_i32_445
  let v764 : BitVec 32 := Scalar.muli v763 c1_i32_445
  let v765 : BitVec 32 := Scalar.addi c0_i32_444 v764
  let c1_i32_446 : BitVec 32 := 1#32
  ⟨c0_i32_444, v765, c1_i32_446⟩
def k0_off26 (i : grid0.Coords) (k0_t14 : Fin (k0_t14_loop i).trips) : Fin 3 → Nat :=
  let c2_i32_458 : BitVec 32 := 2#32
  let c0_i32_444 : BitVec 32 := 0#32
  let c1_i32_446 : BitVec 32 := 1#32
  let arg34 : BitVec 32 := Scf.iv c0_i32_444 c1_i32_446 k0_t14
  let v788 : BitVec 32 := Scalar.muli c2_i32_458 arg34
  let v789 : Index := Scalar.indexCast v788
  let c0_459 : Index := 0#32
  let c0_460 : Index := 0#32
  ![v789.toNat, 0, 0]
def k0_off27 (i : grid0.Coords) (k0_t14 : Fin (k0_t14_loop i).trips) : Fin 3 → Nat :=
  let c2_i32_463 : BitVec 32 := 2#32
  let c0_i32_444 : BitVec 32 := 0#32
  let c1_i32_446 : BitVec 32 := 1#32
  let arg34 : BitVec 32 := Scf.iv c0_i32_444 c1_i32_446 k0_t14
  let v797 : BitVec 32 := Scalar.muli c2_i32_463 arg34
  let c1_i32_464 : BitVec 32 := 1#32
  let v798 : BitVec 32 := Scalar.addi v797 c1_i32_464
  let v799 : Index := Scalar.indexCast v798
  let c0_465 : Index := 0#32
  let c0_466 : Index := 0#32
  ![v799.toNat, 0, 0]
@[reducible] def k0_t15_loop (i : grid0.Coords) : Scf.Loop 32 :=
  let c0_i32_444 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v761 : BitVec 32 := Scalar.subi v171 c0_i32_444
  let c1_i32_445 : BitVec 32 := 1#32
  let v763 : BitVec 32 := Scalar.divsi v761 c1_i32_445
  let v764 : BitVec 32 := Scalar.muli v763 c1_i32_445
  let v765 : BitVec 32 := Scalar.addi c0_i32_444 v764
  let v762 : BitVec 32 := Scalar.addi c0_i32_444 v761
  let c1_i32_447 : BitVec 32 := 1#32
  ⟨v765, v762, c1_i32_447⟩
def k0_off28 (i : grid0.Coords) (k0_t15 : Fin (k0_t15_loop i).trips) : Fin 3 → Nat :=
  let c2_i32_458 : BitVec 32 := 2#32
  let c0_i32_444 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v761 : BitVec 32 := Scalar.subi v171 c0_i32_444
  let c1_i32_445 : BitVec 32 := 1#32
  let v763 : BitVec 32 := Scalar.divsi v761 c1_i32_445
  let v764 : BitVec 32 := Scalar.muli v763 c1_i32_445
  let v765 : BitVec 32 := Scalar.addi c0_i32_444 v764
  let c1_i32_447 : BitVec 32 := 1#32
  let arg34 : BitVec 32 := Scf.iv v765 c1_i32_447 k0_t15
  let v788 : BitVec 32 := Scalar.muli c2_i32_458 arg34
  let v789 : Index := Scalar.indexCast v788
  let c0_459 : Index := 0#32
  let c0_460 : Index := 0#32
  ![v789.toNat, 0, 0]
def k0_off29 (i : grid0.Coords) (k0_t15 : Fin (k0_t15_loop i).trips) : Fin 3 → Nat :=
  let c2_i32_463 : BitVec 32 := 2#32
  let c0_i32_444 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let c1_i32_37 : BitVec 32 := 1#32
  let v154 : BitVec 32 := Scalar.addi v1 c1_i32_37
  let c0_i32_38 : BitVec 32 := 0#32
  let v156 : BitVec 1 := Scalar.cmpi .sgt v154 c0_i32_38
  let v157 : BitVec 32 := Scalar.extui v156
  let c0_i32_39 : BitVec 32 := 0#32
  let v158 : BitVec 1 := Scalar.cmpi .slt v154 c0_i32_39
  let v159 : BitVec 32 := Scalar.extui v158
  let v160 : BitVec 32 := Scalar.subi v157 v159
  let c2_i32 : BitVec 32 := 2#32
  let c0_i32_40 : BitVec 32 := 0#32
  let v161 : BitVec 1 := Scalar.cmpi .sgt c2_i32 c0_i32_40
  let v162 : BitVec 32 := Scalar.extui v161
  let c0_i32_41 : BitVec 32 := 0#32
  let v163 : BitVec 1 := Scalar.cmpi .slt c2_i32 c0_i32_41
  let v164 : BitVec 32 := Scalar.extui v163
  let v165 : BitVec 32 := Scalar.subi v162 v164
  let v166 : BitVec 1 := Scalar.cmpi .ne v160 v165
  let v167 : BitVec 32 := Scalar.remsi v154 c2_i32
  let c0_i32_42 : BitVec 32 := 0#32
  let v168 : BitVec 1 := Scalar.cmpi .ne v167 c0_i32_42
  let v169 : BitVec 1 := Scalar.andi v166 v168
  let v155 : BitVec 32 := Scalar.divsi v154 c2_i32
  let c1_i32_43 : BitVec 32 := 1#32
  let v170 : BitVec 32 := Scalar.subi v155 c1_i32_43
  let v171 : BitVec 32 := Scalar.select v169 v170 v155
  let v761 : BitVec 32 := Scalar.subi v171 c0_i32_444
  let c1_i32_445 : BitVec 32 := 1#32
  let v763 : BitVec 32 := Scalar.divsi v761 c1_i32_445
  let v764 : BitVec 32 := Scalar.muli v763 c1_i32_445
  let v765 : BitVec 32 := Scalar.addi c0_i32_444 v764
  let c1_i32_447 : BitVec 32 := 1#32
  let arg34 : BitVec 32 := Scf.iv v765 c1_i32_447 k0_t15
  let v797 : BitVec 32 := Scalar.muli c2_i32_463 arg34
  let c1_i32_464 : BitVec 32 := 1#32
  let v798 : BitVec 32 := Scalar.addi v797 c1_i32_464
  let v799 : Index := Scalar.indexCast v798
  let c0_465 : Index := 0#32
  let c0_466 : Index := 0#32
  ![v799.toNat, 0, 0]
@[reducible] def k0_t16_loop (i : grid0.Coords) : Scf.Loop 32 :=
  let c0_i32_454 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let v781 : BitVec 32 := Scalar.subi v1 c0_i32_454
  let c1_i32_455 : BitVec 32 := 1#32
  let v783 : BitVec 32 := Scalar.divsi v781 c1_i32_455
  let v784 : BitVec 32 := Scalar.muli v783 c1_i32_455
  let v785 : BitVec 32 := Scalar.addi c0_i32_454 v784
  let c1_i32_456 : BitVec 32 := 1#32
  ⟨c0_i32_454, v785, c1_i32_456⟩
def k0_off30 (i : grid0.Coords) (k0_t16 : Fin (k0_t16_loop i).trips) : Fin 3 → Nat :=
  let c0_i32_454 : BitVec 32 := 0#32
  let c1_i32_456 : BitVec 32 := 1#32
  let arg34 : BitVec 32 := Scf.iv c0_i32_454 c1_i32_456 k0_t16
  let v788 : Index := Scalar.indexCast arg34
  let c0_458 : Index := 0#32
  let c0_459 : Index := 0#32
  ![v788.toNat, 0, 0]
@[reducible] def k0_t17_loop (i : grid0.Coords) : Scf.Loop 32 :=
  let c0_i32_454 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let v781 : BitVec 32 := Scalar.subi v1 c0_i32_454
  let c1_i32_455 : BitVec 32 := 1#32
  let v783 : BitVec 32 := Scalar.divsi v781 c1_i32_455
  let v784 : BitVec 32 := Scalar.muli v783 c1_i32_455
  let v785 : BitVec 32 := Scalar.addi c0_i32_454 v784
  let v782 : BitVec 32 := Scalar.addi c0_i32_454 v781
  let c1_i32_457 : BitVec 32 := 1#32
  ⟨v785, v782, c1_i32_457⟩
def k0_off31 (i : grid0.Coords) (k0_t17 : Fin (k0_t17_loop i).trips) : Fin 3 → Nat :=
  let c0_i32_454 : BitVec 32 := 0#32
  let c0_i32 : BitVec 32 := 0#32
  let arg1 : BitVec 32 := BitVec.ofNat 32 (i 1).val
  let v0 : BitVec 32 := Scalar.addi c0_i32 arg1
  let c1_i32 : BitVec 32 := 1#32
  let v1 : BitVec 32 := Scalar.addi v0 c1_i32
  let v781 : BitVec 32 := Scalar.subi v1 c0_i32_454
  let c1_i32_455 : BitVec 32 := 1#32
  let v783 : BitVec 32 := Scalar.divsi v781 c1_i32_455
  let v784 : BitVec 32 := Scalar.muli v783 c1_i32_455
  let v785 : BitVec 32 := Scalar.addi c0_i32_454 v784
  let c1_i32_457 : BitVec 32 := 1#32
  let arg34 : BitVec 32 := Scf.iv v785 c1_i32_457 k0_t17
  let v788 : Index := Scalar.indexCast arg34
  let c0_458 : Index := 0#32
  let c0_459 : Index := 0#32
  ![v788.toNat, 0, 0]
def k0_off32 (i : grid0.Coords) : Fin 3 → Nat :=
  let c0_i32 : BitVec 32 := 0#32
  let arg1 : BitVec 32 := BitVec.ofNat 32 (i 1).val
  let v0 : BitVec 32 := Scalar.addi c0_i32 arg1
  let c1_i32_178 : BitVec 32 := 1#32
  let v380 : BitVec 1 := Scalar.cmpi .sge v0 c1_i32_178
  let c1_i32_179 : BitVec 32 := 1#32
  let v381 : BitVec 32 := Scalar.subi v0 c1_i32_179
  let c1_i32 : BitVec 32 := 1#32
  let v1 : BitVec 32 := Scalar.addi v0 c1_i32
  let v382 : BitVec 32 := Scalar.select v380 v381 v1
  let v409 : Index := Scalar.indexCast v382
  let c0_192 : Index := 0#32
  let c0_193 : Index := 0#32
  ![v409.toNat, 0, 0]
def k0_off33 (i : grid0.Coords) : Fin 3 → Nat :=
  let c0_i32 : BitVec 32 := 0#32
  let arg1 : BitVec 32 := BitVec.ofNat 32 (i 1).val
  let v0 : BitVec 32 := Scalar.addi c0_i32 arg1
  let v416 : Index := Scalar.indexCast v0
  let c0_196 : Index := 0#32
  let c0_197 : Index := 0#32
  ![v416.toNat, 0, 0]
def k0_mult11 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_200 : BitVec 32 := 128#32
  let v425 : BitVec 32 := Scalar.muli v384 c128_i32_200
  v425
def k0_off34 (i : grid0.Coords) : Fin 3 → Nat :=
  let c0_201 : Index := 0#32
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_200 : BitVec 32 := 128#32
  let v425 : BitVec 32 := Scalar.muli v384 c128_i32_200
  let v426 : BitVec 32 := v425
  let v427 : Index := Scalar.indexCast v426
  let c0_202 : Index := 0#32
  ![0, v427.toNat, 0]
def k0_mult12 (i : grid0.Coords) : BitVec 32 :=
  let c0_i32 : BitVec 32 := 0#32
  let arg1 : BitVec 32 := BitVec.ofNat 32 (i 1).val
  let v0 : BitVec 32 := Scalar.addi c0_i32 arg1
  let c128_i32_203 : BitVec 32 := 128#32
  let v430 : BitVec 32 := Scalar.muli v0 c128_i32_203
  v430
def k0_off35 (i : grid0.Coords) : Fin 3 → Nat :=
  let c0_204 : Index := 0#32
  let c0_i32 : BitVec 32 := 0#32
  let arg1 : BitVec 32 := BitVec.ofNat 32 (i 1).val
  let v0 : BitVec 32 := Scalar.addi c0_i32 arg1
  let c128_i32_203 : BitVec 32 := 128#32
  let v430 : BitVec 32 := Scalar.muli v0 c128_i32_203
  let v431 : BitVec 32 := v430
  let v432 : Index := Scalar.indexCast v431
  let c0_205 : Index := 0#32
  ![0, v432.toNat, 0]
def k0_mult13 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_222 : BitVec 32 := 128#32
  let v451 : BitVec 32 := Scalar.muli v384 c128_i32_222
  v451
def k0_mult14 (i : grid0.Coords) : BitVec 32 :=
  let c0_i32 : BitVec 32 := 0#32
  let arg1 : BitVec 32 := BitVec.ofNat 32 (i 1).val
  let v0 : BitVec 32 := Scalar.addi c0_i32 arg1
  let c128_i32_225 : BitVec 32 := 128#32
  let v456 : BitVec 32 := Scalar.muli v0 c128_i32_225
  v456
def k0_mult15 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_244 : BitVec 32 := 128#32
  let v477 : BitVec 32 := Scalar.muli v384 c128_i32_244
  v477
def k0_off36 (i : grid0.Coords) : Fin 3 → Nat :=
  let c0_245 : Index := 0#32
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_244 : BitVec 32 := 128#32
  let v477 : BitVec 32 := Scalar.muli v384 c128_i32_244
  let v478 : BitVec 32 := v477
  let v479 : Index := Scalar.indexCast v478
  let c128 : Index := 128#32
  ![0, v479.toNat, 128]
def k0_mult16 (i : grid0.Coords) : BitVec 32 :=
  let c0_i32 : BitVec 32 := 0#32
  let arg1 : BitVec 32 := BitVec.ofNat 32 (i 1).val
  let v0 : BitVec 32 := Scalar.addi c0_i32 arg1
  let c128_i32_246 : BitVec 32 := 128#32
  let v482 : BitVec 32 := Scalar.muli v0 c128_i32_246
  v482
def k0_off37 (i : grid0.Coords) : Fin 3 → Nat :=
  let c0_247 : Index := 0#32
  let c0_i32 : BitVec 32 := 0#32
  let arg1 : BitVec 32 := BitVec.ofNat 32 (i 1).val
  let v0 : BitVec 32 := Scalar.addi c0_i32 arg1
  let c128_i32_246 : BitVec 32 := 128#32
  let v482 : BitVec 32 := Scalar.muli v0 c128_i32_246
  let v483 : BitVec 32 := v482
  let v484 : Index := Scalar.indexCast v483
  let c128_248 : Index := 128#32
  ![0, v484.toNat, 128]
def k0_mult17 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_265 : BitVec 32 := 128#32
  let v503 : BitVec 32 := Scalar.muli v384 c128_i32_265
  v503
def k0_mult18 (i : grid0.Coords) : BitVec 32 :=
  let c0_i32 : BitVec 32 := 0#32
  let arg1 : BitVec 32 := BitVec.ofNat 32 (i 1).val
  let v0 : BitVec 32 := Scalar.addi c0_i32 arg1
  let c128_i32_268 : BitVec 32 := 128#32
  let v508 : BitVec 32 := Scalar.muli v0 c128_i32_268
  v508
def k0_mult19 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_287 : BitVec 32 := 128#32
  let v529 : BitVec 32 := Scalar.muli v384 c128_i32_287
  v529
def k0_off38 (i : grid0.Coords) : Fin 3 → Nat :=
  let c0_288 : Index := 0#32
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_287 : BitVec 32 := 128#32
  let v529 : BitVec 32 := Scalar.muli v384 c128_i32_287
  let v530 : BitVec 32 := v529
  let v531 : Index := Scalar.indexCast v530
  let c256 : Index := 256#32
  ![0, v531.toNat, 256]
def k0_mult20 (i : grid0.Coords) : BitVec 32 :=
  let c0_i32 : BitVec 32 := 0#32
  let arg1 : BitVec 32 := BitVec.ofNat 32 (i 1).val
  let v0 : BitVec 32 := Scalar.addi c0_i32 arg1
  let c128_i32_289 : BitVec 32 := 128#32
  let v534 : BitVec 32 := Scalar.muli v0 c128_i32_289
  v534
def k0_off39 (i : grid0.Coords) : Fin 3 → Nat :=
  let c0_290 : Index := 0#32
  let c0_i32 : BitVec 32 := 0#32
  let arg1 : BitVec 32 := BitVec.ofNat 32 (i 1).val
  let v0 : BitVec 32 := Scalar.addi c0_i32 arg1
  let c128_i32_289 : BitVec 32 := 128#32
  let v534 : BitVec 32 := Scalar.muli v0 c128_i32_289
  let v535 : BitVec 32 := v534
  let v536 : Index := Scalar.indexCast v535
  let c256_291 : Index := 256#32
  ![0, v536.toNat, 256]
def k0_mult21 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_308 : BitVec 32 := 128#32
  let v555 : BitVec 32 := Scalar.muli v384 c128_i32_308
  v555
def k0_mult22 (i : grid0.Coords) : BitVec 32 :=
  let c0_i32 : BitVec 32 := 0#32
  let arg1 : BitVec 32 := BitVec.ofNat 32 (i 1).val
  let v0 : BitVec 32 := Scalar.addi c0_i32 arg1
  let c128_i32_311 : BitVec 32 := 128#32
  let v560 : BitVec 32 := Scalar.muli v0 c128_i32_311
  v560
def k0_mult23 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_330 : BitVec 32 := 128#32
  let v581 : BitVec 32 := Scalar.muli v384 c128_i32_330
  v581
def k0_off40 (i : grid0.Coords) : Fin 3 → Nat :=
  let c0_331 : Index := 0#32
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_330 : BitVec 32 := 128#32
  let v581 : BitVec 32 := Scalar.muli v384 c128_i32_330
  let v582 : BitVec 32 := v581
  let v583 : Index := Scalar.indexCast v582
  let c384 : Index := 384#32
  ![0, v583.toNat, 384]
def k0_mult24 (i : grid0.Coords) : BitVec 32 :=
  let c0_i32 : BitVec 32 := 0#32
  let arg1 : BitVec 32 := BitVec.ofNat 32 (i 1).val
  let v0 : BitVec 32 := Scalar.addi c0_i32 arg1
  let c128_i32_332 : BitVec 32 := 128#32
  let v586 : BitVec 32 := Scalar.muli v0 c128_i32_332
  v586
def k0_off41 (i : grid0.Coords) : Fin 3 → Nat :=
  let c0_333 : Index := 0#32
  let c0_i32 : BitVec 32 := 0#32
  let arg1 : BitVec 32 := BitVec.ofNat 32 (i 1).val
  let v0 : BitVec 32 := Scalar.addi c0_i32 arg1
  let c128_i32_332 : BitVec 32 := 128#32
  let v586 : BitVec 32 := Scalar.muli v0 c128_i32_332
  let v587 : BitVec 32 := v586
  let v588 : Index := Scalar.indexCast v587
  let c384_334 : Index := 384#32
  ![0, v588.toNat, 384]
def k0_mult25 (i : grid0.Coords) : BitVec 32 :=
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c128_i32_351 : BitVec 32 := 128#32
  let v607 : BitVec 32 := Scalar.muli v384 c128_i32_351
  v607
def k0_mult26 (i : grid0.Coords) : BitVec 32 :=
  let c0_i32 : BitVec 32 := 0#32
  let arg1 : BitVec 32 := BitVec.ofNat 32 (i 1).val
  let v0 : BitVec 32 := Scalar.addi c0_i32 arg1
  let c128_i32_354 : BitVec 32 := 128#32
  let v612 : BitVec 32 := Scalar.muli v0 c128_i32_354
  v612
@[reducible] def k0_t18_loop (i : grid0.Coords) : Scf.Loop 32 :=
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_384 : BitVec 32 := 1#32
  ⟨c0_i32_382, v655, c1_i32_384⟩
def k0_off42 (i : grid0.Coords) (k0_t18 : Fin (k0_t18_loop i).trips) : Fin 3 → Nat :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let v782 : Index := Scalar.indexCast v764
  let c0_459 : Index := 0#32
  let c0_460 : Index := 0#32
  ![v782.toNat, 0, 0]
def k0_off43 (i : grid0.Coords) (k0_t18 : Fin (k0_t18_loop i).trips) : Fin 3 → Nat :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let v789 : Index := Scalar.indexCast v768
  let c0_463 : Index := 0#32
  let c0_464 : Index := 0#32
  ![v789.toNat, 0, 0]
def k0_off44 (i : grid0.Coords) (k0_t18 : Fin (k0_t18_loop i).trips) : Fin 3 → Nat :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let v798 : Index := Scalar.indexCast v776
  let c0_467 : Index := 0#32
  let c0_468 : Index := 0#32
  ![v798.toNat, 0, 0]
def k0_off45 (i : grid0.Coords) (k0_t18 : Fin (k0_t18_loop i).trips) : Fin 3 → Nat :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let v805 : Index := Scalar.indexCast v780
  let c0_471 : Index := 0#32
  let c0_472 : Index := 0#32
  ![v805.toNat, 0, 0]
def k0_mult27 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_487 : BitVec 32 := 128#32
  let v834 : BitVec 32 := Scalar.muli v765 c128_i32_487
  v834
def k0_off46 (i : grid0.Coords) (k0_t18 : Fin (k0_t18_loop i).trips) : Fin 3 → Nat :=
  let c0_488 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_487 : BitVec 32 := 128#32
  let v834 : BitVec 32 := Scalar.muli v765 c128_i32_487
  let v835 : BitVec 32 := v834
  let v836 : Index := Scalar.indexCast v835
  let c0_489 : Index := 0#32
  ![0, v836.toNat, 0]
def k0_mult28 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_490 : BitVec 32 := 128#32
  let v839 : BitVec 32 := Scalar.muli v769 c128_i32_490
  v839
def k0_off47 (i : grid0.Coords) (k0_t18 : Fin (k0_t18_loop i).trips) : Fin 3 → Nat :=
  let c0_491 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_490 : BitVec 32 := 128#32
  let v839 : BitVec 32 := Scalar.muli v769 c128_i32_490
  let v840 : BitVec 32 := v839
  let v841 : Index := Scalar.indexCast v840
  let c0_492 : Index := 0#32
  ![0, v841.toNat, 0]
def k0_off48 (i : grid0.Coords) (k0_t18 : Fin (k0_t18_loop i).trips) : Fin 5 → Nat :=
  let c0_518 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_484 : BitVec 32 := 0#32
  let v828 : BitVec 1 := Scalar.cmpi .eq v758 c0_i32_484
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v872 : Index := Scalar.indexCast v829
  let c0_519 : Index := 0#32
  let c0_520 : Index := 0#32
  let c0_521 : Index := 0#32
  ![0, v872.toNat, 0, 0, 0]
def k0_off49 (i : grid0.Coords) (k0_t18 : Fin (k0_t18_loop i).trips) : Fin 5 → Nat :=
  let c0_522 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_486 : BitVec 32 := 0#32
  let v832 : BitVec 1 := Scalar.cmpi .eq v758 c0_i32_486
  let c0_i32 : BitVec 32 := 0#32
  let arg1 : BitVec 32 := BitVec.ofNat 32 (i 1).val
  let v0 : BitVec 32 := Scalar.addi c0_i32 arg1
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v875 : Index := Scalar.indexCast v833
  let c0_523 : Index := 0#32
  let c0_524 : Index := 0#32
  let c0_525 : Index := 0#32
  ![0, v875.toNat, 0, 0, 0]
def k0_mult29 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_531 : BitVec 32 := 128#32
  let v888 : BitVec 32 := Scalar.muli v765 c128_i32_531
  v888
def k0_mult30 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_534 : BitVec 32 := 128#32
  let v893 : BitVec 32 := Scalar.muli v769 c128_i32_534
  v893
def k0_mult31 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_575 : BitVec 32 := 128#32
  let v942 : BitVec 32 := Scalar.muli v765 c128_i32_575
  v942
def k0_off50 (i : grid0.Coords) (k0_t18 : Fin (k0_t18_loop i).trips) : Fin 3 → Nat :=
  let c0_576 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_575 : BitVec 32 := 128#32
  let v942 : BitVec 32 := Scalar.muli v765 c128_i32_575
  let v943 : BitVec 32 := v942
  let v944 : Index := Scalar.indexCast v943
  let c128_577 : Index := 128#32
  ![0, v944.toNat, 128]
def k0_mult32 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_578 : BitVec 32 := 128#32
  let v947 : BitVec 32 := Scalar.muli v769 c128_i32_578
  v947
def k0_off51 (i : grid0.Coords) (k0_t18 : Fin (k0_t18_loop i).trips) : Fin 3 → Nat :=
  let c0_579 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_578 : BitVec 32 := 128#32
  let v947 : BitVec 32 := Scalar.muli v769 c128_i32_578
  let v948 : BitVec 32 := v947
  let v949 : Index := Scalar.indexCast v948
  let c128_580 : Index := 128#32
  ![0, v949.toNat, 128]
def k0_off52 (i : grid0.Coords) (k0_t18 : Fin (k0_t18_loop i).trips) : Fin 5 → Nat :=
  let c0_606 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_484 : BitVec 32 := 0#32
  let v828 : BitVec 1 := Scalar.cmpi .eq v758 c0_i32_484
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v980 : Index := Scalar.indexCast v829
  let c1_607 : Index := 1#32
  let c0_608 : Index := 0#32
  let c0_609 : Index := 0#32
  ![0, v980.toNat, 1, 0, 0]
def k0_off53 (i : grid0.Coords) (k0_t18 : Fin (k0_t18_loop i).trips) : Fin 5 → Nat :=
  let c0_610 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_486 : BitVec 32 := 0#32
  let v832 : BitVec 1 := Scalar.cmpi .eq v758 c0_i32_486
  let c0_i32 : BitVec 32 := 0#32
  let arg1 : BitVec 32 := BitVec.ofNat 32 (i 1).val
  let v0 : BitVec 32 := Scalar.addi c0_i32 arg1
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v983 : Index := Scalar.indexCast v833
  let c1_611 : Index := 1#32
  let c0_612 : Index := 0#32
  let c0_613 : Index := 0#32
  ![0, v983.toNat, 1, 0, 0]
def k0_mult33 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_619 : BitVec 32 := 128#32
  let v996 : BitVec 32 := Scalar.muli v765 c128_i32_619
  v996
def k0_mult34 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_622 : BitVec 32 := 128#32
  let v1001 : BitVec 32 := Scalar.muli v769 c128_i32_622
  v1001
def k0_mult35 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_663 : BitVec 32 := 128#32
  let v1050 : BitVec 32 := Scalar.muli v765 c128_i32_663
  v1050
def k0_off54 (i : grid0.Coords) (k0_t18 : Fin (k0_t18_loop i).trips) : Fin 3 → Nat :=
  let c0_664 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_663 : BitVec 32 := 128#32
  let v1050 : BitVec 32 := Scalar.muli v765 c128_i32_663
  let v1051 : BitVec 32 := v1050
  let v1052 : Index := Scalar.indexCast v1051
  let c256_665 : Index := 256#32
  ![0, v1052.toNat, 256]
def k0_mult36 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_666 : BitVec 32 := 128#32
  let v1055 : BitVec 32 := Scalar.muli v769 c128_i32_666
  v1055
def k0_off55 (i : grid0.Coords) (k0_t18 : Fin (k0_t18_loop i).trips) : Fin 3 → Nat :=
  let c0_667 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_666 : BitVec 32 := 128#32
  let v1055 : BitVec 32 := Scalar.muli v769 c128_i32_666
  let v1056 : BitVec 32 := v1055
  let v1057 : Index := Scalar.indexCast v1056
  let c256_668 : Index := 256#32
  ![0, v1057.toNat, 256]
def k0_off56 (i : grid0.Coords) (k0_t18 : Fin (k0_t18_loop i).trips) : Fin 5 → Nat :=
  let c0_694 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_484 : BitVec 32 := 0#32
  let v828 : BitVec 1 := Scalar.cmpi .eq v758 c0_i32_484
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v1088 : Index := Scalar.indexCast v829
  let c2_695 : Index := 2#32
  let c0_696 : Index := 0#32
  let c0_697 : Index := 0#32
  ![0, v1088.toNat, 2, 0, 0]
def k0_off57 (i : grid0.Coords) (k0_t18 : Fin (k0_t18_loop i).trips) : Fin 5 → Nat :=
  let c0_698 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_486 : BitVec 32 := 0#32
  let v832 : BitVec 1 := Scalar.cmpi .eq v758 c0_i32_486
  let c0_i32 : BitVec 32 := 0#32
  let arg1 : BitVec 32 := BitVec.ofNat 32 (i 1).val
  let v0 : BitVec 32 := Scalar.addi c0_i32 arg1
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v1091 : Index := Scalar.indexCast v833
  let c2_699 : Index := 2#32
  let c0_700 : Index := 0#32
  let c0_701 : Index := 0#32
  ![0, v1091.toNat, 2, 0, 0]
def k0_mult37 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_707 : BitVec 32 := 128#32
  let v1104 : BitVec 32 := Scalar.muli v765 c128_i32_707
  v1104
def k0_mult38 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_710 : BitVec 32 := 128#32
  let v1109 : BitVec 32 := Scalar.muli v769 c128_i32_710
  v1109
def k0_mult39 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_751 : BitVec 32 := 128#32
  let v1158 : BitVec 32 := Scalar.muli v765 c128_i32_751
  v1158
def k0_off58 (i : grid0.Coords) (k0_t18 : Fin (k0_t18_loop i).trips) : Fin 3 → Nat :=
  let c0_752 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_751 : BitVec 32 := 128#32
  let v1158 : BitVec 32 := Scalar.muli v765 c128_i32_751
  let v1159 : BitVec 32 := v1158
  let v1160 : Index := Scalar.indexCast v1159
  let c384_753 : Index := 384#32
  ![0, v1160.toNat, 384]
def k0_mult40 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_754 : BitVec 32 := 128#32
  let v1163 : BitVec 32 := Scalar.muli v769 c128_i32_754
  v1163
def k0_off59 (i : grid0.Coords) (k0_t18 : Fin (k0_t18_loop i).trips) : Fin 3 → Nat :=
  let c0_755 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_754 : BitVec 32 := 128#32
  let v1163 : BitVec 32 := Scalar.muli v769 c128_i32_754
  let v1164 : BitVec 32 := v1163
  let v1165 : Index := Scalar.indexCast v1164
  let c384_756 : Index := 384#32
  ![0, v1165.toNat, 384]
def k0_off60 (i : grid0.Coords) (k0_t18 : Fin (k0_t18_loop i).trips) : Fin 5 → Nat :=
  let c0_782 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_484 : BitVec 32 := 0#32
  let v828 : BitVec 1 := Scalar.cmpi .eq v758 c0_i32_484
  let c0_i32 : BitVec 32 := 0#32
  let arg1 : BitVec 32 := BitVec.ofNat 32 (i 1).val
  let v0 : BitVec 32 := Scalar.addi c0_i32 arg1
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v1196 : Index := Scalar.indexCast v829
  let c3_783 : Index := 3#32
  let c0_784 : Index := 0#32
  let c0_785 : Index := 0#32
  ![0, v1196.toNat, 3, 0, 0]
def k0_off61 (i : grid0.Coords) (k0_t18 : Fin (k0_t18_loop i).trips) : Fin 5 → Nat :=
  let c0_786 : Index := 0#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c0_i32_486 : BitVec 32 := 0#32
  let v832 : BitVec 1 := Scalar.cmpi .eq v758 c0_i32_486
  let c0_i32 : BitVec 32 := 0#32
  let arg1 : BitVec 32 := BitVec.ofNat 32 (i 1).val
  let v0 : BitVec 32 := Scalar.addi c0_i32 arg1
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v1199 : Index := Scalar.indexCast v833
  let c3_787 : Index := 3#32
  let c0_788 : Index := 0#32
  let c0_789 : Index := 0#32
  ![0, v1199.toNat, 3, 0, 0]
def k0_mult41 (i : grid0.Coords) (k0_t18 : Fin (k0_t18_loop i).trips) : BitVec 32 :=
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_795 : BitVec 32 := 128#32
  let v1212 : BitVec 32 := Scalar.muli v765 c128_i32_795
  v1212
def k0_mult42 (i : grid0.Coords) (k0_t18 : Fin (k0_t18_loop i).trips) : BitVec 32 :=
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_798 : BitVec 32 := 128#32
  let v1217 : BitVec 32 := Scalar.muli v769 c128_i32_798
  v1217
def k0_mult43 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_839 : BitVec 32 := 128#32
  let v1266 : BitVec 32 := Scalar.muli v777 c128_i32_839
  v1266
def k0_off62 (i : grid0.Coords) (k0_t18 : Fin (k0_t18_loop i).trips) : Fin 3 → Nat :=
  let c0_840 : Index := 0#32
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_839 : BitVec 32 := 128#32
  let v1266 : BitVec 32 := Scalar.muli v777 c128_i32_839
  let v1267 : BitVec 32 := v1266
  let v1268 : Index := Scalar.indexCast v1267
  let c0_841 : Index := 0#32
  ![0, v1268.toNat, 0]
def k0_mult44 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_842 : BitVec 32 := 128#32
  let v1271 : BitVec 32 := Scalar.muli v781 c128_i32_842
  v1271
def k0_off63 (i : grid0.Coords) (k0_t18 : Fin (k0_t18_loop i).trips) : Fin 3 → Nat :=
  let c0_843 : Index := 0#32
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_842 : BitVec 32 := 128#32
  let v1271 : BitVec 32 := Scalar.muli v781 c128_i32_842
  let v1272 : BitVec 32 := v1271
  let v1273 : Index := Scalar.indexCast v1272
  let c0_844 : Index := 0#32
  ![0, v1273.toNat, 0]
def k0_off64 (i : grid0.Coords) (k0_t18 : Fin (k0_t18_loop i).trips) : Fin 5 → Nat :=
  let c0_870 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1304 : Index := Scalar.indexCast v765
  let c0_871 : Index := 0#32
  let c0_872 : Index := 0#32
  let c0_873 : Index := 0#32
  ![0, v1304.toNat, 0, 0, 0]
def k0_off65 (i : grid0.Coords) (k0_t18 : Fin (k0_t18_loop i).trips) : Fin 5 → Nat :=
  let c0_874 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1307 : Index := Scalar.indexCast v769
  let c0_875 : Index := 0#32
  let c0_876 : Index := 0#32
  let c0_877 : Index := 0#32
  ![0, v1307.toNat, 0, 0, 0]
def k0_mult45 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_883 : BitVec 32 := 128#32
  let v1320 : BitVec 32 := Scalar.muli v777 c128_i32_883
  v1320
def k0_mult46 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_886 : BitVec 32 := 128#32
  let v1325 : BitVec 32 := Scalar.muli v781 c128_i32_886
  v1325
def k0_mult47 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_927 : BitVec 32 := 128#32
  let v1374 : BitVec 32 := Scalar.muli v777 c128_i32_927
  v1374
def k0_off66 (i : grid0.Coords) (k0_t18 : Fin (k0_t18_loop i).trips) : Fin 3 → Nat :=
  let c0_928 : Index := 0#32
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_927 : BitVec 32 := 128#32
  let v1374 : BitVec 32 := Scalar.muli v777 c128_i32_927
  let v1375 : BitVec 32 := v1374
  let v1376 : Index := Scalar.indexCast v1375
  let c128_929 : Index := 128#32
  ![0, v1376.toNat, 128]
def k0_mult48 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_930 : BitVec 32 := 128#32
  let v1379 : BitVec 32 := Scalar.muli v781 c128_i32_930
  v1379
def k0_off67 (i : grid0.Coords) (k0_t18 : Fin (k0_t18_loop i).trips) : Fin 3 → Nat :=
  let c0_931 : Index := 0#32
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_930 : BitVec 32 := 128#32
  let v1379 : BitVec 32 := Scalar.muli v781 c128_i32_930
  let v1380 : BitVec 32 := v1379
  let v1381 : Index := Scalar.indexCast v1380
  let c128_932 : Index := 128#32
  ![0, v1381.toNat, 128]
def k0_off68 (i : grid0.Coords) (k0_t18 : Fin (k0_t18_loop i).trips) : Fin 5 → Nat :=
  let c0_958 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1412 : Index := Scalar.indexCast v765
  let c1_959 : Index := 1#32
  let c0_960 : Index := 0#32
  let c0_961 : Index := 0#32
  ![0, v1412.toNat, 1, 0, 0]
def k0_off69 (i : grid0.Coords) (k0_t18 : Fin (k0_t18_loop i).trips) : Fin 5 → Nat :=
  let c0_962 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1415 : Index := Scalar.indexCast v769
  let c1_963 : Index := 1#32
  let c0_964 : Index := 0#32
  let c0_965 : Index := 0#32
  ![0, v1415.toNat, 1, 0, 0]
def k0_mult49 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_971 : BitVec 32 := 128#32
  let v1428 : BitVec 32 := Scalar.muli v777 c128_i32_971
  v1428
def k0_mult50 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_974 : BitVec 32 := 128#32
  let v1433 : BitVec 32 := Scalar.muli v781 c128_i32_974
  v1433
def k0_mult51 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1015 : BitVec 32 := 128#32
  let v1482 : BitVec 32 := Scalar.muli v777 c128_i32_1015
  v1482
def k0_off70 (i : grid0.Coords) (k0_t18 : Fin (k0_t18_loop i).trips) : Fin 3 → Nat :=
  let c0_1016 : Index := 0#32
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1015 : BitVec 32 := 128#32
  let v1482 : BitVec 32 := Scalar.muli v777 c128_i32_1015
  let v1483 : BitVec 32 := v1482
  let v1484 : Index := Scalar.indexCast v1483
  let c256_1017 : Index := 256#32
  ![0, v1484.toNat, 256]
def k0_mult52 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1018 : BitVec 32 := 128#32
  let v1487 : BitVec 32 := Scalar.muli v781 c128_i32_1018
  v1487
def k0_off71 (i : grid0.Coords) (k0_t18 : Fin (k0_t18_loop i).trips) : Fin 3 → Nat :=
  let c0_1019 : Index := 0#32
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1018 : BitVec 32 := 128#32
  let v1487 : BitVec 32 := Scalar.muli v781 c128_i32_1018
  let v1488 : BitVec 32 := v1487
  let v1489 : Index := Scalar.indexCast v1488
  let c256_1020 : Index := 256#32
  ![0, v1489.toNat, 256]
def k0_off72 (i : grid0.Coords) (k0_t18 : Fin (k0_t18_loop i).trips) : Fin 5 → Nat :=
  let c0_1046 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1520 : Index := Scalar.indexCast v765
  let c2_1047 : Index := 2#32
  let c0_1048 : Index := 0#32
  let c0_1049 : Index := 0#32
  ![0, v1520.toNat, 2, 0, 0]
def k0_off73 (i : grid0.Coords) (k0_t18 : Fin (k0_t18_loop i).trips) : Fin 5 → Nat :=
  let c0_1050 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1523 : Index := Scalar.indexCast v769
  let c2_1051 : Index := 2#32
  let c0_1052 : Index := 0#32
  let c0_1053 : Index := 0#32
  ![0, v1523.toNat, 2, 0, 0]
def k0_mult53 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1059 : BitVec 32 := 128#32
  let v1536 : BitVec 32 := Scalar.muli v777 c128_i32_1059
  v1536
def k0_mult54 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1062 : BitVec 32 := 128#32
  let v1541 : BitVec 32 := Scalar.muli v781 c128_i32_1062
  v1541
def k0_mult55 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1103 : BitVec 32 := 128#32
  let v1590 : BitVec 32 := Scalar.muli v777 c128_i32_1103
  v1590
def k0_off74 (i : grid0.Coords) (k0_t18 : Fin (k0_t18_loop i).trips) : Fin 3 → Nat :=
  let c0_1104 : Index := 0#32
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1103 : BitVec 32 := 128#32
  let v1590 : BitVec 32 := Scalar.muli v777 c128_i32_1103
  let v1591 : BitVec 32 := v1590
  let v1592 : Index := Scalar.indexCast v1591
  let c384_1105 : Index := 384#32
  ![0, v1592.toNat, 384]
def k0_mult56 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1106 : BitVec 32 := 128#32
  let v1595 : BitVec 32 := Scalar.muli v781 c128_i32_1106
  v1595
def k0_off75 (i : grid0.Coords) (k0_t18 : Fin (k0_t18_loop i).trips) : Fin 3 → Nat :=
  let c0_1107 : Index := 0#32
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1106 : BitVec 32 := 128#32
  let v1595 : BitVec 32 := Scalar.muli v781 c128_i32_1106
  let v1596 : BitVec 32 := v1595
  let v1597 : Index := Scalar.indexCast v1596
  let c384_1108 : Index := 384#32
  ![0, v1597.toNat, 384]
def k0_off76 (i : grid0.Coords) (k0_t18 : Fin (k0_t18_loop i).trips) : Fin 5 → Nat :=
  let c0_1134 : Index := 0#32
  let c2_i32_444 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v759 : BitVec 32 := Scalar.muli c2_i32_444 v758
  let c0_i32 : BitVec 32 := 0#32
  let arg1 : BitVec 32 := BitVec.ofNat 32 (i 1).val
  let v0 : BitVec 32 := Scalar.addi c0_i32 arg1
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1628 : Index := Scalar.indexCast v765
  let c3_1135 : Index := 3#32
  let c0_1136 : Index := 0#32
  let c0_1137 : Index := 0#32
  ![0, v1628.toNat, 3, 0, 0]
def k0_off77 (i : grid0.Coords) (k0_t18 : Fin (k0_t18_loop i).trips) : Fin 5 → Nat :=
  let c0_1138 : Index := 0#32
  let c2_i32_445 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c0_i32 : BitVec 32 := 0#32
  let arg1 : BitVec 32 := BitVec.ofNat 32 (i 1).val
  let v0 : BitVec 32 := Scalar.addi c0_i32 arg1
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1631 : Index := Scalar.indexCast v769
  let c3_1139 : Index := 3#32
  let c0_1140 : Index := 0#32
  let c0_1141 : Index := 0#32
  ![0, v1631.toNat, 3, 0, 0]
def k0_mult57 (i : grid0.Coords) (k0_t18 : Fin (k0_t18_loop i).trips) : BitVec 32 :=
  let c2_i32_452 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c0_i32 : BitVec 32 := 0#32
  let arg1 : BitVec 32 := BitVec.ofNat 32 (i 1).val
  let v0 : BitVec 32 := Scalar.addi c0_i32 arg1
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1147 : BitVec 32 := 128#32
  let v1644 : BitVec 32 := Scalar.muli v777 c128_i32_1147
  v1644
def k0_mult58 (i : grid0.Coords) (k0_t18 : Fin (k0_t18_loop i).trips) : BitVec 32 :=
  let c2_i32_453 : BitVec 32 := 2#32
  let c2_i32_443 : BitVec 32 := 2#32
  let c0_i32_382 : BitVec 32 := 0#32
  let c1_i32_384 : BitVec 32 := 1#32
  let arg34 : BitVec 32 := Scf.iv c0_i32_382 c1_i32_384 k0_t18
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c0_i32 : BitVec 32 := 0#32
  let arg1 : BitVec 32 := BitVec.ofNat 32 (i 1).val
  let v0 : BitVec 32 := Scalar.addi c0_i32 arg1
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1150 : BitVec 32 := 128#32
  let v1649 : BitVec 32 := Scalar.muli v781 c128_i32_1150
  v1649
@[reducible] def k0_t19_loop (i : grid0.Coords) : Scf.Loop 32 :=
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let v652 : BitVec 32 := Scalar.addi c0_i32_382 v651
  let c1_i32_385 : BitVec 32 := 1#32
  ⟨v655, v652, c1_i32_385⟩
def k0_off78 (i : grid0.Coords) (k0_t19 : Fin (k0_t19_loop i).trips) : Fin 3 → Nat :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let v782 : Index := Scalar.indexCast v764
  let c0_459 : Index := 0#32
  let c0_460 : Index := 0#32
  ![v782.toNat, 0, 0]
def k0_off79 (i : grid0.Coords) (k0_t19 : Fin (k0_t19_loop i).trips) : Fin 3 → Nat :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let v789 : Index := Scalar.indexCast v768
  let c0_463 : Index := 0#32
  let c0_464 : Index := 0#32
  ![v789.toNat, 0, 0]
def k0_off80 (i : grid0.Coords) (k0_t19 : Fin (k0_t19_loop i).trips) : Fin 3 → Nat :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let v798 : Index := Scalar.indexCast v776
  let c0_467 : Index := 0#32
  let c0_468 : Index := 0#32
  ![v798.toNat, 0, 0]
def k0_off81 (i : grid0.Coords) (k0_t19 : Fin (k0_t19_loop i).trips) : Fin 3 → Nat :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let v805 : Index := Scalar.indexCast v780
  let c0_471 : Index := 0#32
  let c0_472 : Index := 0#32
  ![v805.toNat, 0, 0]
def k0_mult59 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_487 : BitVec 32 := 128#32
  let v834 : BitVec 32 := Scalar.muli v765 c128_i32_487
  v834
def k0_off82 (i : grid0.Coords) (k0_t19 : Fin (k0_t19_loop i).trips) : Fin 3 → Nat :=
  let c0_488 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_487 : BitVec 32 := 128#32
  let v834 : BitVec 32 := Scalar.muli v765 c128_i32_487
  let v835 : BitVec 32 := v834
  let v836 : Index := Scalar.indexCast v835
  let c0_489 : Index := 0#32
  ![0, v836.toNat, 0]
def k0_mult60 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_490 : BitVec 32 := 128#32
  let v839 : BitVec 32 := Scalar.muli v769 c128_i32_490
  v839
def k0_off83 (i : grid0.Coords) (k0_t19 : Fin (k0_t19_loop i).trips) : Fin 3 → Nat :=
  let c0_491 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_490 : BitVec 32 := 128#32
  let v839 : BitVec 32 := Scalar.muli v769 c128_i32_490
  let v840 : BitVec 32 := v839
  let v841 : Index := Scalar.indexCast v840
  let c0_492 : Index := 0#32
  ![0, v841.toNat, 0]
def k0_off84 (i : grid0.Coords) (k0_t19 : Fin (k0_t19_loop i).trips) : Fin 5 → Nat :=
  let c0_518 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_484 : BitVec 32 := 0#32
  let v828 : BitVec 1 := Scalar.cmpi .eq v758 c0_i32_484
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v872 : Index := Scalar.indexCast v829
  let c0_519 : Index := 0#32
  let c0_520 : Index := 0#32
  let c0_521 : Index := 0#32
  ![0, v872.toNat, 0, 0, 0]
def k0_off85 (i : grid0.Coords) (k0_t19 : Fin (k0_t19_loop i).trips) : Fin 5 → Nat :=
  let c0_522 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_486 : BitVec 32 := 0#32
  let v832 : BitVec 1 := Scalar.cmpi .eq v758 c0_i32_486
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v875 : Index := Scalar.indexCast v833
  let c0_523 : Index := 0#32
  let c0_524 : Index := 0#32
  let c0_525 : Index := 0#32
  ![0, v875.toNat, 0, 0, 0]
def k0_mult61 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_531 : BitVec 32 := 128#32
  let v888 : BitVec 32 := Scalar.muli v765 c128_i32_531
  v888
def k0_mult62 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_534 : BitVec 32 := 128#32
  let v893 : BitVec 32 := Scalar.muli v769 c128_i32_534
  v893
def k0_mult63 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_575 : BitVec 32 := 128#32
  let v942 : BitVec 32 := Scalar.muli v765 c128_i32_575
  v942
def k0_off86 (i : grid0.Coords) (k0_t19 : Fin (k0_t19_loop i).trips) : Fin 3 → Nat :=
  let c0_576 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_575 : BitVec 32 := 128#32
  let v942 : BitVec 32 := Scalar.muli v765 c128_i32_575
  let v943 : BitVec 32 := v942
  let v944 : Index := Scalar.indexCast v943
  let c128_577 : Index := 128#32
  ![0, v944.toNat, 128]
def k0_mult64 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_578 : BitVec 32 := 128#32
  let v947 : BitVec 32 := Scalar.muli v769 c128_i32_578
  v947
def k0_off87 (i : grid0.Coords) (k0_t19 : Fin (k0_t19_loop i).trips) : Fin 3 → Nat :=
  let c0_579 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_578 : BitVec 32 := 128#32
  let v947 : BitVec 32 := Scalar.muli v769 c128_i32_578
  let v948 : BitVec 32 := v947
  let v949 : Index := Scalar.indexCast v948
  let c128_580 : Index := 128#32
  ![0, v949.toNat, 128]
def k0_off88 (i : grid0.Coords) (k0_t19 : Fin (k0_t19_loop i).trips) : Fin 5 → Nat :=
  let c0_606 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_484 : BitVec 32 := 0#32
  let v828 : BitVec 1 := Scalar.cmpi .eq v758 c0_i32_484
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v980 : Index := Scalar.indexCast v829
  let c1_607 : Index := 1#32
  let c0_608 : Index := 0#32
  let c0_609 : Index := 0#32
  ![0, v980.toNat, 1, 0, 0]
def k0_off89 (i : grid0.Coords) (k0_t19 : Fin (k0_t19_loop i).trips) : Fin 5 → Nat :=
  let c0_610 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_486 : BitVec 32 := 0#32
  let v832 : BitVec 1 := Scalar.cmpi .eq v758 c0_i32_486
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v983 : Index := Scalar.indexCast v833
  let c1_611 : Index := 1#32
  let c0_612 : Index := 0#32
  let c0_613 : Index := 0#32
  ![0, v983.toNat, 1, 0, 0]
def k0_mult65 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_619 : BitVec 32 := 128#32
  let v996 : BitVec 32 := Scalar.muli v765 c128_i32_619
  v996
def k0_mult66 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_622 : BitVec 32 := 128#32
  let v1001 : BitVec 32 := Scalar.muli v769 c128_i32_622
  v1001
def k0_mult67 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_663 : BitVec 32 := 128#32
  let v1050 : BitVec 32 := Scalar.muli v765 c128_i32_663
  v1050
def k0_off90 (i : grid0.Coords) (k0_t19 : Fin (k0_t19_loop i).trips) : Fin 3 → Nat :=
  let c0_664 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_663 : BitVec 32 := 128#32
  let v1050 : BitVec 32 := Scalar.muli v765 c128_i32_663
  let v1051 : BitVec 32 := v1050
  let v1052 : Index := Scalar.indexCast v1051
  let c256_665 : Index := 256#32
  ![0, v1052.toNat, 256]
def k0_mult68 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_666 : BitVec 32 := 128#32
  let v1055 : BitVec 32 := Scalar.muli v769 c128_i32_666
  v1055
def k0_off91 (i : grid0.Coords) (k0_t19 : Fin (k0_t19_loop i).trips) : Fin 3 → Nat :=
  let c0_667 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_666 : BitVec 32 := 128#32
  let v1055 : BitVec 32 := Scalar.muli v769 c128_i32_666
  let v1056 : BitVec 32 := v1055
  let v1057 : Index := Scalar.indexCast v1056
  let c256_668 : Index := 256#32
  ![0, v1057.toNat, 256]
def k0_off92 (i : grid0.Coords) (k0_t19 : Fin (k0_t19_loop i).trips) : Fin 5 → Nat :=
  let c0_694 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_484 : BitVec 32 := 0#32
  let v828 : BitVec 1 := Scalar.cmpi .eq v758 c0_i32_484
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v1088 : Index := Scalar.indexCast v829
  let c2_695 : Index := 2#32
  let c0_696 : Index := 0#32
  let c0_697 : Index := 0#32
  ![0, v1088.toNat, 2, 0, 0]
def k0_off93 (i : grid0.Coords) (k0_t19 : Fin (k0_t19_loop i).trips) : Fin 5 → Nat :=
  let c0_698 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_486 : BitVec 32 := 0#32
  let v832 : BitVec 1 := Scalar.cmpi .eq v758 c0_i32_486
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v1091 : Index := Scalar.indexCast v833
  let c2_699 : Index := 2#32
  let c0_700 : Index := 0#32
  let c0_701 : Index := 0#32
  ![0, v1091.toNat, 2, 0, 0]
def k0_mult69 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_707 : BitVec 32 := 128#32
  let v1104 : BitVec 32 := Scalar.muli v765 c128_i32_707
  v1104
def k0_mult70 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_710 : BitVec 32 := 128#32
  let v1109 : BitVec 32 := Scalar.muli v769 c128_i32_710
  v1109
def k0_mult71 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_751 : BitVec 32 := 128#32
  let v1158 : BitVec 32 := Scalar.muli v765 c128_i32_751
  v1158
def k0_off94 (i : grid0.Coords) (k0_t19 : Fin (k0_t19_loop i).trips) : Fin 3 → Nat :=
  let c0_752 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_751 : BitVec 32 := 128#32
  let v1158 : BitVec 32 := Scalar.muli v765 c128_i32_751
  let v1159 : BitVec 32 := v1158
  let v1160 : Index := Scalar.indexCast v1159
  let c384_753 : Index := 384#32
  ![0, v1160.toNat, 384]
def k0_mult72 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_754 : BitVec 32 := 128#32
  let v1163 : BitVec 32 := Scalar.muli v769 c128_i32_754
  v1163
def k0_off95 (i : grid0.Coords) (k0_t19 : Fin (k0_t19_loop i).trips) : Fin 3 → Nat :=
  let c0_755 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_754 : BitVec 32 := 128#32
  let v1163 : BitVec 32 := Scalar.muli v769 c128_i32_754
  let v1164 : BitVec 32 := v1163
  let v1165 : Index := Scalar.indexCast v1164
  let c384_756 : Index := 384#32
  ![0, v1165.toNat, 384]
def k0_off96 (i : grid0.Coords) (k0_t19 : Fin (k0_t19_loop i).trips) : Fin 5 → Nat :=
  let c0_782 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_484 : BitVec 32 := 0#32
  let v828 : BitVec 1 := Scalar.cmpi .eq v758 c0_i32_484
  let c1_i32_180 : BitVec 32 := 1#32
  let v383 : BitVec 32 := Scalar.subi v0 c1_i32_180
  let c0_i32_181 : BitVec 32 := 0#32
  let v384 : BitVec 32 := Scalar.maxsi v383 c0_i32_181
  let c2_i32_476 : BitVec 32 := 2#32
  let c1_i32_475 : BitVec 32 := 1#32
  let v814 : BitVec 32 := Scalar.subi v758 c1_i32_475
  let v815 : BitVec 32 := Scalar.muli c2_i32_476 v814
  let c1_i32_479 : BitVec 32 := 1#32
  let v818 : BitVec 32 := Scalar.subi v0 c1_i32_479
  let v819 : BitVec 1 := Scalar.cmpi .slt v815 v818
  let c1_i32 : BitVec 32 := 1#32
  let v1 : BitVec 32 := Scalar.addi v0 c1_i32
  let v820 : BitVec 32 := Scalar.select v819 v815 v1
  let c31_i32_480 : BitVec 32 := 31#32
  let v821 : BitVec 32 := Scalar.minsi v820 c31_i32_480
  let v829 : BitVec 32 := Scalar.select v828 v384 v821
  let v1196 : Index := Scalar.indexCast v829
  let c3_783 : Index := 3#32
  let c0_784 : Index := 0#32
  let c0_785 : Index := 0#32
  ![0, v1196.toNat, 3, 0, 0]
def k0_off97 (i : grid0.Coords) (k0_t19 : Fin (k0_t19_loop i).trips) : Fin 5 → Nat :=
  let c0_786 : Index := 0#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c0_i32_486 : BitVec 32 := 0#32
  let v832 : BitVec 1 := Scalar.cmpi .eq v758 c0_i32_486
  let c2_i32_477 : BitVec 32 := 2#32
  let c1_i32_475 : BitVec 32 := 1#32
  let v814 : BitVec 32 := Scalar.subi v758 c1_i32_475
  let v816 : BitVec 32 := Scalar.muli c2_i32_477 v814
  let c1_i32_478 : BitVec 32 := 1#32
  let v817 : BitVec 32 := Scalar.addi v816 c1_i32_478
  let c1_i32_481 : BitVec 32 := 1#32
  let v822 : BitVec 32 := Scalar.subi v0 c1_i32_481
  let v823 : BitVec 1 := Scalar.cmpi .slt v817 v822
  let c1_i32 : BitVec 32 := 1#32
  let v1 : BitVec 32 := Scalar.addi v0 c1_i32
  let v824 : BitVec 32 := Scalar.select v823 v817 v1
  let c31_i32_482 : BitVec 32 := 31#32
  let v825 : BitVec 32 := Scalar.minsi v824 c31_i32_482
  let v833 : BitVec 32 := Scalar.select v832 v0 v825
  let v1199 : Index := Scalar.indexCast v833
  let c3_787 : Index := 3#32
  let c0_788 : Index := 0#32
  let c0_789 : Index := 0#32
  ![0, v1199.toNat, 3, 0, 0]
def k0_mult73 (i : grid0.Coords) (k0_t19 : Fin (k0_t19_loop i).trips) : BitVec 32 :=
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let c128_i32_795 : BitVec 32 := 128#32
  let v1212 : BitVec 32 := Scalar.muli v765 c128_i32_795
  v1212
def k0_mult74 (i : grid0.Coords) (k0_t19 : Fin (k0_t19_loop i).trips) : BitVec 32 :=
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let c128_i32_798 : BitVec 32 := 128#32
  let v1217 : BitVec 32 := Scalar.muli v769 c128_i32_798
  v1217
def k0_mult75 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_839 : BitVec 32 := 128#32
  let v1266 : BitVec 32 := Scalar.muli v777 c128_i32_839
  v1266
def k0_off98 (i : grid0.Coords) (k0_t19 : Fin (k0_t19_loop i).trips) : Fin 3 → Nat :=
  let c0_840 : Index := 0#32
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_839 : BitVec 32 := 128#32
  let v1266 : BitVec 32 := Scalar.muli v777 c128_i32_839
  let v1267 : BitVec 32 := v1266
  let v1268 : Index := Scalar.indexCast v1267
  let c0_841 : Index := 0#32
  ![0, v1268.toNat, 0]
def k0_mult76 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_842 : BitVec 32 := 128#32
  let v1271 : BitVec 32 := Scalar.muli v781 c128_i32_842
  v1271
def k0_off99 (i : grid0.Coords) (k0_t19 : Fin (k0_t19_loop i).trips) : Fin 3 → Nat :=
  let c0_843 : Index := 0#32
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_842 : BitVec 32 := 128#32
  let v1271 : BitVec 32 := Scalar.muli v781 c128_i32_842
  let v1272 : BitVec 32 := v1271
  let v1273 : Index := Scalar.indexCast v1272
  let c0_844 : Index := 0#32
  ![0, v1273.toNat, 0]
def k0_off100 (i : grid0.Coords) (k0_t19 : Fin (k0_t19_loop i).trips) : Fin 5 → Nat :=
  let c0_870 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1304 : Index := Scalar.indexCast v765
  let c0_871 : Index := 0#32
  let c0_872 : Index := 0#32
  let c0_873 : Index := 0#32
  ![0, v1304.toNat, 0, 0, 0]
def k0_off101 (i : grid0.Coords) (k0_t19 : Fin (k0_t19_loop i).trips) : Fin 5 → Nat :=
  let c0_874 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1307 : Index := Scalar.indexCast v769
  let c0_875 : Index := 0#32
  let c0_876 : Index := 0#32
  let c0_877 : Index := 0#32
  ![0, v1307.toNat, 0, 0, 0]
def k0_mult77 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_883 : BitVec 32 := 128#32
  let v1320 : BitVec 32 := Scalar.muli v777 c128_i32_883
  v1320
def k0_mult78 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_886 : BitVec 32 := 128#32
  let v1325 : BitVec 32 := Scalar.muli v781 c128_i32_886
  v1325
def k0_mult79 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_927 : BitVec 32 := 128#32
  let v1374 : BitVec 32 := Scalar.muli v777 c128_i32_927
  v1374
def k0_off102 (i : grid0.Coords) (k0_t19 : Fin (k0_t19_loop i).trips) : Fin 3 → Nat :=
  let c0_928 : Index := 0#32
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_927 : BitVec 32 := 128#32
  let v1374 : BitVec 32 := Scalar.muli v777 c128_i32_927
  let v1375 : BitVec 32 := v1374
  let v1376 : Index := Scalar.indexCast v1375
  let c128_929 : Index := 128#32
  ![0, v1376.toNat, 128]
def k0_mult80 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_930 : BitVec 32 := 128#32
  let v1379 : BitVec 32 := Scalar.muli v781 c128_i32_930
  v1379
def k0_off103 (i : grid0.Coords) (k0_t19 : Fin (k0_t19_loop i).trips) : Fin 3 → Nat :=
  let c0_931 : Index := 0#32
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_930 : BitVec 32 := 128#32
  let v1379 : BitVec 32 := Scalar.muli v781 c128_i32_930
  let v1380 : BitVec 32 := v1379
  let v1381 : Index := Scalar.indexCast v1380
  let c128_932 : Index := 128#32
  ![0, v1381.toNat, 128]
def k0_off104 (i : grid0.Coords) (k0_t19 : Fin (k0_t19_loop i).trips) : Fin 5 → Nat :=
  let c0_958 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1412 : Index := Scalar.indexCast v765
  let c1_959 : Index := 1#32
  let c0_960 : Index := 0#32
  let c0_961 : Index := 0#32
  ![0, v1412.toNat, 1, 0, 0]
def k0_off105 (i : grid0.Coords) (k0_t19 : Fin (k0_t19_loop i).trips) : Fin 5 → Nat :=
  let c0_962 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1415 : Index := Scalar.indexCast v769
  let c1_963 : Index := 1#32
  let c0_964 : Index := 0#32
  let c0_965 : Index := 0#32
  ![0, v1415.toNat, 1, 0, 0]
def k0_mult81 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_971 : BitVec 32 := 128#32
  let v1428 : BitVec 32 := Scalar.muli v777 c128_i32_971
  v1428
def k0_mult82 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_974 : BitVec 32 := 128#32
  let v1433 : BitVec 32 := Scalar.muli v781 c128_i32_974
  v1433
def k0_mult83 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1015 : BitVec 32 := 128#32
  let v1482 : BitVec 32 := Scalar.muli v777 c128_i32_1015
  v1482
def k0_off106 (i : grid0.Coords) (k0_t19 : Fin (k0_t19_loop i).trips) : Fin 3 → Nat :=
  let c0_1016 : Index := 0#32
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1015 : BitVec 32 := 128#32
  let v1482 : BitVec 32 := Scalar.muli v777 c128_i32_1015
  let v1483 : BitVec 32 := v1482
  let v1484 : Index := Scalar.indexCast v1483
  let c256_1017 : Index := 256#32
  ![0, v1484.toNat, 256]
def k0_mult84 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1018 : BitVec 32 := 128#32
  let v1487 : BitVec 32 := Scalar.muli v781 c128_i32_1018
  v1487
def k0_off107 (i : grid0.Coords) (k0_t19 : Fin (k0_t19_loop i).trips) : Fin 3 → Nat :=
  let c0_1019 : Index := 0#32
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1018 : BitVec 32 := 128#32
  let v1487 : BitVec 32 := Scalar.muli v781 c128_i32_1018
  let v1488 : BitVec 32 := v1487
  let v1489 : Index := Scalar.indexCast v1488
  let c256_1020 : Index := 256#32
  ![0, v1489.toNat, 256]
def k0_off108 (i : grid0.Coords) (k0_t19 : Fin (k0_t19_loop i).trips) : Fin 5 → Nat :=
  let c0_1046 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1520 : Index := Scalar.indexCast v765
  let c2_1047 : Index := 2#32
  let c0_1048 : Index := 0#32
  let c0_1049 : Index := 0#32
  ![0, v1520.toNat, 2, 0, 0]
def k0_off109 (i : grid0.Coords) (k0_t19 : Fin (k0_t19_loop i).trips) : Fin 5 → Nat :=
  let c0_1050 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1523 : Index := Scalar.indexCast v769
  let c2_1051 : Index := 2#32
  let c0_1052 : Index := 0#32
  let c0_1053 : Index := 0#32
  ![0, v1523.toNat, 2, 0, 0]
def k0_mult85 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1059 : BitVec 32 := 128#32
  let v1536 : BitVec 32 := Scalar.muli v777 c128_i32_1059
  v1536
def k0_mult86 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1062 : BitVec 32 := 128#32
  let v1541 : BitVec 32 := Scalar.muli v781 c128_i32_1062
  v1541
def k0_mult87 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1103 : BitVec 32 := 128#32
  let v1590 : BitVec 32 := Scalar.muli v777 c128_i32_1103
  v1590
def k0_off110 (i : grid0.Coords) (k0_t19 : Fin (k0_t19_loop i).trips) : Fin 3 → Nat :=
  let c0_1104 : Index := 0#32
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1103 : BitVec 32 := 128#32
  let v1590 : BitVec 32 := Scalar.muli v777 c128_i32_1103
  let v1591 : BitVec 32 := v1590
  let v1592 : Index := Scalar.indexCast v1591
  let c384_1105 : Index := 384#32
  ![0, v1592.toNat, 384]
def k0_mult88 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1106 : BitVec 32 := 128#32
  let v1595 : BitVec 32 := Scalar.muli v781 c128_i32_1106
  v1595
def k0_off111 (i : grid0.Coords) (k0_t19 : Fin (k0_t19_loop i).trips) : Fin 3 → Nat :=
  let c0_1107 : Index := 0#32
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1106 : BitVec 32 := 128#32
  let v1595 : BitVec 32 := Scalar.muli v781 c128_i32_1106
  let v1596 : BitVec 32 := v1595
  let v1597 : Index := Scalar.indexCast v1596
  let c384_1108 : Index := 384#32
  ![0, v1597.toNat, 384]
def k0_off112 (i : grid0.Coords) (k0_t19 : Fin (k0_t19_loop i).trips) : Fin 5 → Nat :=
  let c0_1134 : Index := 0#32
  let c2_i32_444 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v759 : BitVec 32 := Scalar.muli c2_i32_444 v758
  let c1_i32_447 : BitVec 32 := 1#32
  let v762 : BitVec 32 := Scalar.subi v0 c1_i32_447
  let v763 : BitVec 1 := Scalar.cmpi .slt v759 v762
  let c1_i32 : BitVec 32 := 1#32
  let v1 : BitVec 32 := Scalar.addi v0 c1_i32
  let v764 : BitVec 32 := Scalar.select v763 v759 v1
  let c31_i32_448 : BitVec 32 := 31#32
  let v765 : BitVec 32 := Scalar.minsi v764 c31_i32_448
  let v1628 : Index := Scalar.indexCast v765
  let c3_1135 : Index := 3#32
  let c0_1136 : Index := 0#32
  let c0_1137 : Index := 0#32
  ![0, v1628.toNat, 3, 0, 0]
def k0_off113 (i : grid0.Coords) (k0_t19 : Fin (k0_t19_loop i).trips) : Fin 5 → Nat :=
  let c0_1138 : Index := 0#32
  let c2_i32_445 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let v760 : BitVec 32 := Scalar.muli c2_i32_445 v758
  let c1_i32_446 : BitVec 32 := 1#32
  let v761 : BitVec 32 := Scalar.addi v760 c1_i32_446
  let c1_i32_449 : BitVec 32 := 1#32
  let v766 : BitVec 32 := Scalar.subi v0 c1_i32_449
  let v767 : BitVec 1 := Scalar.cmpi .slt v761 v766
  let c1_i32 : BitVec 32 := 1#32
  let v1 : BitVec 32 := Scalar.addi v0 c1_i32
  let v768 : BitVec 32 := Scalar.select v767 v761 v1
  let c31_i32_450 : BitVec 32 := 31#32
  let v769 : BitVec 32 := Scalar.minsi v768 c31_i32_450
  let v1631 : Index := Scalar.indexCast v769
  let c3_1139 : Index := 3#32
  let c0_1140 : Index := 0#32
  let c0_1141 : Index := 0#32
  ![0, v1631.toNat, 3, 0, 0]
def k0_mult89 (i : grid0.Coords) (k0_t19 : Fin (k0_t19_loop i).trips) : BitVec 32 :=
  let c2_i32_452 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v771 : BitVec 32 := Scalar.muli c2_i32_452 v770
  let c1_i32_455 : BitVec 32 := 1#32
  let v774 : BitVec 32 := Scalar.subi v0 c1_i32_455
  let v775 : BitVec 1 := Scalar.cmpi .slt v771 v774
  let c1_i32 : BitVec 32 := 1#32
  let v1 : BitVec 32 := Scalar.addi v0 c1_i32
  let v776 : BitVec 32 := Scalar.select v775 v771 v1
  let c31_i32_456 : BitVec 32 := 31#32
  let v777 : BitVec 32 := Scalar.minsi v776 c31_i32_456
  let c128_i32_1147 : BitVec 32 := 128#32
  let v1644 : BitVec 32 := Scalar.muli v777 c128_i32_1147
  v1644
def k0_mult90 (i : grid0.Coords) (k0_t19 : Fin (k0_t19_loop i).trips) : BitVec 32 :=
  let c2_i32_453 : BitVec 32 := 2#32
  let c2_i32_443 : BitVec 32 := 2#32
  let c0_i32_382 : BitVec 32 := 0#32
  let c0_i32 : BitVec 32 := 0#32
  let arg1 : BitVec 32 := BitVec.ofNat 32 (i 1).val
  let v0 : BitVec 32 := Scalar.addi c0_i32 arg1
  let c0_i32_186 : BitVec 32 := 0#32
  let v393 : BitVec 1 := Scalar.cmpi .sgt v0 c0_i32_186
  let v394 : BitVec 32 := Scalar.extui v393
  let c0_i32_187 : BitVec 32 := 0#32
  let v395 : BitVec 1 := Scalar.cmpi .slt v0 c0_i32_187
  let v396 : BitVec 32 := Scalar.extui v395
  let v397 : BitVec 32 := Scalar.subi v394 v396
  let c2_i32_185 : BitVec 32 := 2#32
  let c0_i32_188 : BitVec 32 := 0#32
  let v398 : BitVec 1 := Scalar.cmpi .sgt c2_i32_185 c0_i32_188
  let v399 : BitVec 32 := Scalar.extui v398
  let c0_i32_189 : BitVec 32 := 0#32
  let v400 : BitVec 1 := Scalar.cmpi .slt c2_i32_185 c0_i32_189
  let v401 : BitVec 32 := Scalar.extui v400
  let v402 : BitVec 32 := Scalar.subi v399 v401
  let v403 : BitVec 1 := Scalar.cmpi .ne v397 v402
  let v404 : BitVec 32 := Scalar.remsi v0 c2_i32_185
  let c0_i32_190 : BitVec 32 := 0#32
  let v405 : BitVec 1 := Scalar.cmpi .ne v404 c0_i32_190
  let v406 : BitVec 1 := Scalar.andi v403 v405
  let v392 : BitVec 32 := Scalar.divsi v0 c2_i32_185
  let c1_i32_191 : BitVec 32 := 1#32
  let v407 : BitVec 32 := Scalar.subi v392 c1_i32_191
  let v408 : BitVec 32 := Scalar.select v406 v407 v392
  let c2_i32_373 : BitVec 32 := 2#32
  let v633 : BitVec 32 := Scalar.addi v408 c2_i32_373
  let c0_i32_375 : BitVec 32 := 0#32
  let v635 : BitVec 1 := Scalar.cmpi .sgt v633 c0_i32_375
  let v636 : BitVec 32 := Scalar.extui v635
  let c0_i32_376 : BitVec 32 := 0#32
  let v637 : BitVec 1 := Scalar.cmpi .slt v633 c0_i32_376
  let v638 : BitVec 32 := Scalar.extui v637
  let v639 : BitVec 32 := Scalar.subi v636 v638
  let c2_i32_374 : BitVec 32 := 2#32
  let c0_i32_377 : BitVec 32 := 0#32
  let v640 : BitVec 1 := Scalar.cmpi .sgt c2_i32_374 c0_i32_377
  let v641 : BitVec 32 := Scalar.extui v640
  let c0_i32_378 : BitVec 32 := 0#32
  let v642 : BitVec 1 := Scalar.cmpi .slt c2_i32_374 c0_i32_378
  let v643 : BitVec 32 := Scalar.extui v642
  let v644 : BitVec 32 := Scalar.subi v641 v643
  let v645 : BitVec 1 := Scalar.cmpi .ne v639 v644
  let v646 : BitVec 32 := Scalar.remsi v633 c2_i32_374
  let c0_i32_379 : BitVec 32 := 0#32
  let v647 : BitVec 1 := Scalar.cmpi .ne v646 c0_i32_379
  let v648 : BitVec 1 := Scalar.andi v645 v647
  let v634 : BitVec 32 := Scalar.divsi v633 c2_i32_374
  let c1_i32_380 : BitVec 32 := 1#32
  let v649 : BitVec 32 := Scalar.subi v634 c1_i32_380
  let v650 : BitVec 32 := Scalar.select v648 v649 v634
  let v651 : BitVec 32 := Scalar.subi v650 c0_i32_382
  let c1_i32_383 : BitVec 32 := 1#32
  let v653 : BitVec 32 := Scalar.divsi v651 c1_i32_383
  let v654 : BitVec 32 := Scalar.muli v653 c1_i32_383
  let v655 : BitVec 32 := Scalar.addi c0_i32_382 v654
  let c1_i32_385 : BitVec 32 := 1#32
  let arg34 : BitVec 32 := Scf.iv v655 c1_i32_385 k0_t19
  let v758 : BitVec 32 := Scalar.muli c2_i32_443 arg34
  let c1_i32_451 : BitVec 32 := 1#32
  let v770 : BitVec 32 := Scalar.addi v758 c1_i32_451
  let v772 : BitVec 32 := Scalar.muli c2_i32_453 v770
  let c1_i32_454 : BitVec 32 := 1#32
  let v773 : BitVec 32 := Scalar.addi v772 c1_i32_454
  let c1_i32_457 : BitVec 32 := 1#32
  let v778 : BitVec 32 := Scalar.subi v0 c1_i32_457
  let v779 : BitVec 1 := Scalar.cmpi .slt v773 v778
  let c1_i32 : BitVec 32 := 1#32
  let v1 : BitVec 32 := Scalar.addi v0 c1_i32
  let v780 : BitVec 32 := Scalar.select v779 v773 v1
  let c31_i32_458 : BitVec 32 := 31#32
  let v781 : BitVec 32 := Scalar.minsi v780 c31_i32_458
  let c128_i32_1150 : BitVec 32 := 128#32
  let v1649 : BitVec 32 := Scalar.muli v781 c128_i32_1150
  v1649
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x4x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Spec.lean ====
module

public import Idealize.ShloMosaic.Lib.Pointwise

@[expose] public section

noncomputable section

namespace Cert.Layer

open Idealize.ShloMosaic

/-- The reciprocal root of a row's mean square, the mean over 1024 features, with the norm's small constant added. -/
def invRms (x : Fin 1024 → EReal) : EReal :=
  Ideal.rsqrt (Ideal.div (∑ k, x k * x k) (Ideal.ofBits FTy.f32 0x44800000#32) + Ideal.ofBits FTy.f32 0x358637BD#32)

/-- A row of 1024 features, root-mean-square normalised and scaled feature by feature by `g`. -/
def rms (x g : Fin 1024 → EReal) (c : Fin 1024) : EReal := x c * invRms x * g c

/-- One column `w` of weights against the normalised row. -/
def proj (x g w : Fin 1024 → EReal) : EReal := ∑ k, rms x g k * w k

/-- The squared rectified value. -/
def sqRelu (a : EReal) : EReal := max a 0 * max a 0

/-- The feed-forward residual of one row: the row plus the second product of the squared rectified first product of
    the normalised row. -/
def mlpMid (x g : Fin 1024 → EReal) (w1 : Fin 1024 → Fin 4096 → EReal) (w2 : Fin 4096 → Fin 1024 → EReal) (c : Fin 1024) : EReal :=
  x c + ∑ j, sqRelu (∑ k, rms x g k * w1 k j) * w2 j c

/-- A sum over 4096 places is the sum of the four sums over its quarters, added from the left. -/
theorem sum_quarters (f : Fin 4096 → EReal) :
    ∑ j, f j = (∑ j : Fin 1024, f ⟨j.val, by omega⟩) + (∑ j : Fin 1024, f ⟨1024 + j.val, by omega⟩)
      + (∑ j : Fin 1024, f ⟨2048 + j.val, by omega⟩) + ∑ j : Fin 1024, f ⟨3072 + j.val, by omega⟩ := by
  rw [Fin.sum_univ_add (a := 3072) (b := 1024) f, Fin.sum_univ_add (a := 2048) (b := 1024), Fin.sum_univ_add (a := 1024) (b := 1024)]
  rfl

/-- The feed-forward residual with the second product taken in four quarters, each added onto what stands so far. -/
theorem mlpMid_quarters (x g : Fin 1024 → EReal) (w1 : Fin 1024 → Fin 4096 → EReal) (w2 : Fin 4096 → Fin 1024 → EReal) (c : Fin 1024) :
    mlpMid x g w1 w2 c
      = x c + (∑ j : Fin 1024, sqRelu (∑ k, rms x g k * w1 k ⟨j.val, by omega⟩) * w2 ⟨j.val, by omega⟩ c)
        + (∑ j : Fin 1024, sqRelu (∑ k, rms x g k * w1 k ⟨1024 + j.val, by omega⟩) * w2 ⟨1024 + j.val, by omega⟩ c)
        + (∑ j : Fin 1024, sqRelu (∑ k, rms x g k * w1 k ⟨2048 + j.val, by omega⟩) * w2 ⟨2048 + j.val, by omega⟩ c)
        + ∑ j : Fin 1024, sqRelu (∑ k, rms x g k * w1 k ⟨3072 + j.val, by omega⟩) * w2 ⟨3072 + j.val, by omega⟩ c := by
  unfold mlpMid
  rw [sum_quarters]
  simp only [add_assoc]

end Cert.Layer

end
-- ==== Proof.AttnProjBlock.lean ====
module

public import proofs.«01_k».proof.Proof.Gen.AttnProjIdeal.Frame
public import proofs.«01_k».proof.Proof.Spec
public import Idealize.ShloMosaic.Lib.Pipeline.ValueKit

/-! What one block of the sparse attention's projection computes. -/

@[expose] public section

set_option maxRecDepth 16384

noncomputable section

namespace Cert.AttnProjIdeal.Hand

open Cert.AttnProjIdeal Cert.AttnProjIdeal.Gen Cert.Layer Idealize.ShloMosaic Idealize.ShloMosaic.TcCoe

/-- The normalised row. -/
theorem norm_apply (v0 : Vec Ideal S1024x1024 .f32) (v2 : Vec Ideal S1x1024 .f32) (r : Fin 1024) (c : Fin 1024) :
    k0_pay4 v0 v2 (ix2 r c) = rms (fun k => v0 (ix2 r k)) (fun k => v2 (ix2 0 k)) c := by
  pointwise [k0_pay4]
  rfl

/-- A block's queries, scaled. -/
theorem q_apply (x : Vec Ideal S1024x1024 .f32) (g : Vec Ideal S1x1024 .f32) (w : Vec Ideal S1x1024x2560 .bf16) (r : Fin 1024) (j : Fin 1024) :
    out0_3 x g w (ix2 r j) = proj (fun k => x (ix2 r k)) (fun k => g (ix2 0 k)) (fun k => w (ix3 0 k ⟨j.val, by omega⟩)) * Ideal.ofBits FTy.f32 0x3E000000#32 := by
  frame_out
  pointwise [k0_pay23, k0_pay24, k0_pay5, norm_apply]
  rfl

/-- A block's keys. -/
theorem k_apply (x : Vec Ideal S1024x1024 .f32) (g : Vec Ideal S1x1024 .f32) (w : Vec Ideal S1x1024x2560 .bf16) (r : Fin 1024) (h : Fin 4) (d : Fin 64) :
    out0_4 x g w (ix3 r h d) = proj (fun k => x (ix2 r k)) (fun k => g (ix2 0 k)) (fun k => w (ix3 0 k ⟨2048 + (h.val * 128 + d.val), by omega⟩)) := by
  frame_out
  pointwise [k0_pay23, k0_pay24, k0_pay3, k0_pay1, norm_apply]
  rfl

/-- A block's values. -/
theorem v_apply (x : Vec Ideal S1024x1024 .f32) (g : Vec Ideal S1x1024 .f32) (w : Vec Ideal S1x1024x2560 .bf16) (r : Fin 1024) (h : Fin 4) (d : Fin 64) :
    out0_5 x g w (ix3 r h d) = proj (fun k => x (ix2 r k)) (fun k => g (ix2 0 k)) (fun k => w (ix3 0 k ⟨1024 + (h.val * 64 + d.val), by omega⟩)) := by
  frame_out
  pointwise [k0_pay23, k0_pay24, k0_pay18, k0_pay6, norm_apply]
  rfl

/-- A block's indexer's keys. -/
theorem ki_apply (x : Vec Ideal S1024x1024 .f32) (g : Vec Ideal S1x1024 .f32) (w : Vec Ideal S1x1024x2560 .bf16) (r : Fin 1024) (j : Fin 64) :
    out0_6 x g w (ix2 r j) = proj (fun k => x (ix2 r k)) (fun k => g (ix2 0 k)) (fun k => w (ix3 0 k ⟨1792 + j.val, by omega⟩)) := by
  frame_out
  pointwise [k0_pay23, k0_pay24, k0_pay20, norm_apply]
  rfl

/-- A block's indexer's queries, scaled. -/
theorem qi_apply (x : Vec Ideal S1024x1024 .f32) (g : Vec Ideal S1x1024 .f32) (w : Vec Ideal S1x1024x2560 .bf16) (r : Fin 1024) (j : Fin 512) :
    out0_10 x g w (ix2 r j) = proj (fun k => x (ix2 r k)) (fun k => g (ix2 0 k)) (fun k => w (ix3 0 k ⟨1280 + j.val, by omega⟩)) * Ideal.ofBits FTy.f32 0x3E000000#32 := by
  frame_out
  pointwise [k0_pay23, k0_pay24, k0_pay19, norm_apply]
  rfl

/-- A block's indexer's head weights, scaled. -/
theorem wi_apply (x : Vec Ideal S1024x1024 .f32) (g : Vec Ideal S1x1024 .f32) (w : Vec Ideal S1x1024x2560 .bf16) (r : Fin 1024) (j : Fin 128) :
    out0_11 x g w (ix2 r j) = proj (fun k => x (ix2 r k)) (fun k => g (ix2 0 k)) (fun k => w (ix3 0 k ⟨1920 + j.val, by omega⟩)) * Ideal.ofBits FTy.f32 0x3EB504F3#32 := by
  frame_out
  pointwise [k0_pay23, k0_pay24, k0_pay22, norm_apply]
  rfl

end Cert.AttnProjIdeal.Hand

end
-- ==== Proof.AttnProjWeights.lean ====
module

public import proofs.«01_k».proof.Proof.Gen.AttnProjIdeal.Frame
public import Idealize.ShloMosaic.Lib.Pipeline.ValueKit
public import Idealize.ShloMosaic.Lib.StableHlo.ReadAt

/-! The weights that the sparse attention's projection is given: what each group of their columns holds of the argument. -/

@[expose] public section

set_option maxRecDepth 16384

noncomputable section

namespace Cert.AttnProjIdeal.Hand

open Cert.AttnProjIdeal Cert.AttnProjIdeal.Gen Idealize.ShloMosaic Idealize.ShloMosaic.TcCoe

/-- The twelve pieces of the weights side by side. -/
def joinAll (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) : S1x1024x2560.Idx → EReal :=
  concatenate S1x1024x2560 2 [⟨S1x1024x1024, f0⟩, ⟨S1x1024x768, f1⟩, ⟨S1x1024x128, f2⟩, ⟨S1x1024x128, f3⟩, ⟨S1x1024x64, f4⟩, ⟨S1x1024x64, f5⟩, ⟨S1x1024x64, f6⟩, ⟨S1x1024x64, f7⟩, ⟨S1x1024x64, f8⟩, ⟨S1x1024x64, f9⟩, ⟨S1x1024x64, f10⟩, ⟨S1x1024x64, f11⟩]
      concatenates_S1x1024x1024_S1x1024x768_S1x1024x128_S1x1024x128_S1x1024x64_S1x1024x64_S1x1024x64_S1x1024x64_S1x1024x64_S1x1024x64_S1x1024x64_S1x1024x64_S1x1024x2560_d2

set_option maxHeartbeats 2000000 in
/-- Columns of the first piece. -/
theorem pick_q (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 1024) :
    joinAll f0 f1 f2 f3 f4 f5 f6 f7 f8 f9 f10 f11 (ix3 0 k ⟨j.val, by omega⟩) = f0 (ix3 0 k j) := by
  unfold joinAll
  pointwise
  try simp (disch := omega) only [dif_pos, dif_neg]
  try exact congrArg (fun e => f0 (ix3 0 k e)) (Fin.ext (by dsimp only; omega))

set_option maxHeartbeats 2000000 in
/-- Columns of the second piece. -/
theorem pick_vqi (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 768) :
    joinAll f0 f1 f2 f3 f4 f5 f6 f7 f8 f9 f10 f11 (ix3 0 k ⟨1024 + j.val, by omega⟩) = f1 (ix3 0 k j) := by
  unfold joinAll
  pointwise
  try simp (disch := omega) only [dif_pos, dif_neg]
  try exact congrArg (fun e => f1 (ix3 0 k e)) (Fin.ext (by dsimp only; omega))

set_option maxHeartbeats 2000000 in
/-- Columns of the third piece. -/
theorem pick_ki (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 128) :
    joinAll f0 f1 f2 f3 f4 f5 f6 f7 f8 f9 f10 f11 (ix3 0 k ⟨1792 + j.val, by omega⟩) = f2 (ix3 0 k j) := by
  unfold joinAll
  pointwise
  try simp (disch := omega) only [dif_pos, dif_neg]
  try exact congrArg (fun e => f2 (ix3 0 k e)) (Fin.ext (by dsimp only; omega))

set_option maxHeartbeats 2000000 in
/-- Columns of the fourth piece. -/
theorem pick_wi (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 128) :
    joinAll f0 f1 f2 f3 f4 f5 f6 f7 f8 f9 f10 f11 (ix3 0 k ⟨1920 + j.val, by omega⟩) = f3 (ix3 0 k j) := by
  unfold joinAll
  pointwise
  try simp (disch := omega) only [dif_pos, dif_neg]
  try exact congrArg (fun e => f3 (ix3 0 k e)) (Fin.ext (by dsimp only; omega))

set_option maxHeartbeats 2000000 in
/-- The first half of a key head's columns: the piece of that head. -/
theorem pick_k (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (h : Fin 4) (d : Fin 64) :
    joinAll f0 f1 f2 f3 f4 f5 f6 f7 f8 f9 f10 f11 (ix3 0 k ⟨2048 + (h.val * 128 + d.val), by omega⟩) = (![f4, f6, f8, f10] h) (ix3 0 k d) := by
  unfold joinAll
  match h with
  | 0 =>
    pointwise
    simp (disch := omega) only [dif_pos, dif_neg]
    exact congrArg (fun e => f4 (ix3 0 k e)) (Fin.ext (by dsimp only; omega))
  | 1 =>
    pointwise
    simp (disch := omega) only [dif_pos, dif_neg]
    exact congrArg (fun e => f6 (ix3 0 k e)) (Fin.ext (by dsimp only; omega))
  | 2 =>
    pointwise
    simp (disch := omega) only [dif_pos, dif_neg]
    exact congrArg (fun e => f8 (ix3 0 k e)) (Fin.ext (by dsimp only; omega))
  | 3 =>
    pointwise
    simp (disch := omega) only [dif_pos, dif_neg]
    exact congrArg (fun e => f10 (ix3 0 k e)) (Fin.ext (by dsimp only; omega))

variable (m : (ℓ : Loc nD τ sig) → Buf (Elt Ideal) ℓ)

/-- What the host has built before it joins the weights' pieces. -/
def pre (c : Dev nD) : Valuation τ sig (Elt Ideal) :=
  StableHlo.after (hostOps0 ++ (hostOps0_1 ++ (hostOps0_2 ++ hostOps0_3))) (fun b => m (c, b))

/-- The weights that the kernel is given are the pieces side by side. -/
theorem joined (c : Dev nD) (i : S1x1024x2560.Idx) :
    (V m c main_v14 : S1x1024x2560.Idx → EReal) i = joinAll (pre m c ↑main_v7) (pre m c ↑main_v8) (pre m c ↑main_v10) (pre m c ↑main_v12) (pre m c ↑main_v3) (pre m c ↑main_v3) (pre m c ↑main_v4) (pre m c ↑main_v4) (pre m c ↑main_v5) (pre m c ↑main_v5) (pre m c ↑main_v6) (pre m c ↑main_v6) i := by
  have e : V0 m c = StableHlo.after hostOps0_4 (pre m c) := rfl
  show (V0 m c ↑main_v14 : S1x1024x2560.Idx → EReal) i = _
  rw [e]
  generalize pre m c = s
  after_reads_simp
  rfl

/-- Piece v7 of the weights is the argument's columns from 0 on. -/
theorem pre_v7 (c : Dev nD) (k : Fin 1024) (j : Fin 1024) :
    (pre m c ↑main_v7 : S1x1024x1024.Idx → EReal) (ix3 0 k j) = (m ((c : Thread nD τ).loc main_arg2) : S1x1024x2120.Idx → EReal) (ix3 0 k ⟨j.val, by omega⟩) := by
  unfold pre
  after_reads_at
  try rfl

/-- Piece v8 of the weights is the argument's columns from 1280 on. -/
theorem pre_v8 (c : Dev nD) (k : Fin 1024) (j : Fin 768) :
    (pre m c ↑main_v8 : S1x1024x768.Idx → EReal) (ix3 0 k j) = (m ((c : Thread nD τ).loc main_arg2) : S1x1024x2120.Idx → EReal) (ix3 0 k ⟨1280 + j.val, by omega⟩) := by
  unfold pre
  after_reads_at
  try rfl

/-- Piece v10 of the weights is the argument's columns from 2048 on. -/
theorem pre_v10 (c : Dev nD) (k : Fin 1024) (j : Fin 128) (h : j.val < 64) :
    (pre m c ↑main_v10 : S1x1024x128.Idx → EReal) (ix3 0 k j) = (m ((c : Thread nD τ).loc main_arg2) : S1x1024x2120.Idx → EReal) (ix3 0 k ⟨2048 + j.val, by omega⟩) := by
  unfold pre
  after_reads_at
  rw [dif_pos h]
  try rfl

/-- Piece v12 of the weights is the argument's columns from 2112 on. -/
theorem pre_v12 (c : Dev nD) (k : Fin 1024) (j : Fin 128) (h : j.val < 8) :
    (pre m c ↑main_v12 : S1x1024x128.Idx → EReal) (ix3 0 k j) = (m ((c : Thread nD τ).loc main_arg2) : S1x1024x2120.Idx → EReal) (ix3 0 k ⟨2112 + j.val, by omega⟩) := by
  unfold pre
  after_reads_at
  rw [dif_pos h]
  try rfl

/-- Piece v3 of the weights is the argument's columns from 1024 on. -/
theorem pre_v3 (c : Dev nD) (k : Fin 1024) (j : Fin 64) :
    (pre m c ↑main_v3 : S1x1024x64.Idx → EReal) (ix3 0 k j) = (m ((c : Thread nD τ).loc main_arg2) : S1x1024x2120.Idx → EReal) (ix3 0 k ⟨1024 + j.val, by omega⟩) := by
  unfold pre
  after_reads_at
  try rfl

/-- Piece v4 of the weights is the argument's columns from 1088 on. -/
theorem pre_v4 (c : Dev nD) (k : Fin 1024) (j : Fin 64) :
    (pre m c ↑main_v4 : S1x1024x64.Idx → EReal) (ix3 0 k j) = (m ((c : Thread nD τ).loc main_arg2) : S1x1024x2120.Idx → EReal) (ix3 0 k ⟨1088 + j.val, by omega⟩) := by
  unfold pre
  after_reads_at
  try rfl

/-- Piece v5 of the weights is the argument's columns from 1152 on. -/
theorem pre_v5 (c : Dev nD) (k : Fin 1024) (j : Fin 64) :
    (pre m c ↑main_v5 : S1x1024x64.Idx → EReal) (ix3 0 k j) = (m ((c : Thread nD τ).loc main_arg2) : S1x1024x2120.Idx → EReal) (ix3 0 k ⟨1152 + j.val, by omega⟩) := by
  unfold pre
  after_reads_at
  try rfl

/-- Piece v6 of the weights is the argument's columns from 1216 on. -/
theorem pre_v6 (c : Dev nD) (k : Fin 1024) (j : Fin 64) :
    (pre m c ↑main_v6 : S1x1024x64.Idx → EReal) (ix3 0 k j) = (m ((c : Thread nD τ).loc main_arg2) : S1x1024x2120.Idx → EReal) (ix3 0 k ⟨1216 + j.val, by omega⟩) := by
  unfold pre
  after_reads_at
  try rfl

/-- The columns of the queries. -/
theorem w_q (c : Dev nD) (k : Fin 1024) (j : Fin 1024) :
    (V m c main_v14 : S1x1024x2560.Idx → EReal) (ix3 0 k ⟨j.val, by omega⟩) = (m ((c : Thread nD τ).loc main_arg2) : S1x1024x2120.Idx → EReal) (ix3 0 k ⟨j.val, by omega⟩) := by
  rw [joined]
  exact (pick_q _ _ _ _ _ _ _ _ _ _ _ _ k j).trans (pre_v7 m c k j)

/-- The columns of the values and of the indexer's queries. -/
theorem w_vqi (c : Dev nD) (k : Fin 1024) (j : Fin 768) :
    (V m c main_v14 : S1x1024x2560.Idx → EReal) (ix3 0 k ⟨1024 + j.val, by omega⟩) = (m ((c : Thread nD τ).loc main_arg2) : S1x1024x2120.Idx → EReal) (ix3 0 k ⟨1280 + j.val, by omega⟩) := by
  rw [joined]
  exact (pick_vqi _ _ _ _ _ _ _ _ _ _ _ _ k j).trans (pre_v8 m c k j)

/-- The columns of the indexer's keys. -/
theorem w_ki (c : Dev nD) (k : Fin 1024) (j : Fin 64) :
    (V m c main_v14 : S1x1024x2560.Idx → EReal) (ix3 0 k ⟨1792 + j.val, by omega⟩) = (m ((c : Thread nD τ).loc main_arg2) : S1x1024x2120.Idx → EReal) (ix3 0 k ⟨2048 + j.val, by omega⟩) := by
  rw [joined]
  exact (pick_ki _ _ _ _ _ _ _ _ _ _ _ _ k ⟨j.val, by omega⟩).trans (pre_v10 m c k ⟨j.val, by omega⟩ j.isLt)

/-- The columns of the indexer's head weights. -/
theorem w_wi (c : Dev nD) (k : Fin 1024) (j : Fin 8) :
    (V m c main_v14 : S1x1024x2560.Idx → EReal) (ix3 0 k ⟨1920 + j.val, by omega⟩) = (m ((c : Thread nD τ).loc main_arg2) : S1x1024x2120.Idx → EReal) (ix3 0 k ⟨2112 + j.val, by omega⟩) := by
  rw [joined]
  exact (pick_wi _ _ _ _ _ _ _ _ _ _ _ _ k ⟨j.val, by omega⟩).trans (pre_v12 m c k ⟨j.val, by omega⟩ j.isLt)

/-- The columns of the keys: each head has 128, of which the first 64 are its own. -/
theorem w_k (c : Dev nD) (k : Fin 1024) (h : Fin 4) (d : Fin 64) :
    (V m c main_v14 : S1x1024x2560.Idx → EReal) (ix3 0 k ⟨2048 + (h.val * 128 + d.val), by omega⟩) = (m ((c : Thread nD τ).loc main_arg2) : S1x1024x2120.Idx → EReal) (ix3 0 k ⟨1024 + (h.val * 64 + d.val), by omega⟩) := by
  rw [joined]
  refine (pick_k _ _ _ _ _ _ _ _ _ _ _ _ k h d).trans ?_
  match h with
  | 0 => exact (pre_v3 m c k d).trans (congrArg (fun e => (m ((c : Thread nD τ).loc main_arg2) : S1x1024x2120.Idx → EReal) (ix3 0 k e)) (Fin.ext (by dsimp only; simp)))
  | 1 => exact (pre_v4 m c k d).trans (congrArg (fun e => (m ((c : Thread nD τ).loc main_arg2) : S1x1024x2120.Idx → EReal) (ix3 0 k e)) (Fin.ext (by dsimp only; simp; omega)))
  | 2 => exact (pre_v5 m c k d).trans (congrArg (fun e => (m ((c : Thread nD τ).loc main_arg2) : S1x1024x2120.Idx → EReal) (ix3 0 k e)) (Fin.ext (by dsimp only; simp; omega)))
  | 3 => exact (pre_v6 m c k d).trans (congrArg (fun e => (m ((c : Thread nD τ).loc main_arg2) : S1x1024x2120.Idx → EReal) (ix3 0 k e)) (Fin.ext (by dsimp only; simp; omega)))

end Cert.AttnProjIdeal.Hand

end
-- ==== Proof.AttnProjArray.lean ====
module

public import proofs.«01_k».proof.Proof.AttnProjBlock
public import proofs.«01_k».proof.Proof.AttnProjWeights

/-! What the arrays of the sparse attention's projection hold after the run. -/

@[expose] public section

set_option maxRecDepth 16384

noncomputable section

namespace Cert.AttnProjIdeal.Hand

open Cert.AttnProjIdeal Cert.AttnProjIdeal.Gen Cert.Layer Idealize.ShloMosaic Idealize.ShloMosaic.TcCoe

variable (m : (ℓ : Loc nD τ sig) → Buf (Elt Ideal) ℓ)

/-- Where each window's block stands at a grid point. -/
theorem idx : ∀ t : Fin cfg0.N, win0_0.index t = ![t.val, 0] ∧ win0_1.index t = ![0, 0] ∧ win0_2.index t = ![0, 0, 0] ∧ win0_3.index t = ![t.val, 0] ∧ win0_4.index t = ![t.val, 0, 0] ∧ win0_5.index t = ![t.val, 0, 0] ∧ win0_6.index t = ![t.val, 0] ∧ win0_10.index t = ![t.val, 0] ∧ win0_11.index t = ![t.val, 0] := by
  have h : ∀ t : Fin grid0.N, win0_0.index t = ![t.val, 0] ∧ win0_1.index t = ![0, 0] ∧ win0_2.index t = ![0, 0, 0] ∧ win0_3.index t = ![t.val, 0] ∧ win0_4.index t = ![t.val, 0, 0] ∧ win0_5.index t = ![t.val, 0, 0] ∧ win0_6.index t = ![t.val, 0] ∧ win0_10.index t = ![t.val, 0] ∧ win0_11.index t = ![t.val, 0] := by decide +kernel
  exact h

/-- The rows as the kernel is given them: stream after stream. -/
theorem rows (c : Dev nD) (r : Fin 32768) (k : Fin 1024) (h0 : r.val / 4096 < 8) (h1 : r.val % 4096 < 4096) :
    (V m c main_v0 : S32768x1024.Idx → EReal) (ix2 r k) = (m ((c : Thread nD τ).loc main_arg0) : S8x4096x1024.Idx → EReal) (ix3 ⟨r.val / 4096, h0⟩ ⟨r.val % 4096, h1⟩ k) := by
  unfold V V0
  simp only [hostOps0, hostOps0_1, hostOps0_2, hostOps0_3, hostOps0_4, List.flatten_cons, List.flatten_nil, List.append_nil, List.cons_append, List.nil_append]
  after_reads_at
  try rfl

/-- The norm's scale as the kernel is given it: the first layer's. -/
theorem scale (c : Dev nD) (k : Fin 1024) :
    (V m c main_v15 : S1x1024.Idx → EReal) (ix2 0 k) = (m ((c : Thread nD τ).loc main_arg1) : S2x1024.Idx → EReal) (ix2 0 k) := by
  unfold V V0
  simp only [hostOps0, hostOps0_1, hostOps0_2, hostOps0_3, hostOps0_4, List.flatten_cons, List.flatten_nil, List.append_nil, List.cons_append, List.nil_append]
  after_reads_at
  try rfl

/-- The block's rows. -/
theorem blk0 (c : Dev nD) (t : Fin cfg0.N) (r : Fin 1024) (k : Fin 1024) (h : t.val * 1024 + r.val < 32768) (h0 : (t.val * 1024 + r.val) / 4096 < 8) (h1 : (t.val * 1024 + r.val) % 4096 < 4096) :
    iblk m c 0 t (ix2 r k) = (m ((c : Thread nD τ).loc main_arg0) : S8x4096x1024.Idx → EReal) (ix3 ⟨(t.val * 1024 + r.val) / 4096, h0⟩ ⟨(t.val * 1024 + r.val) % 4096, h1⟩ k) := by
  refine Eq.trans ?_ (rows m c ⟨t.val * 1024 + r.val, h⟩ k h0 h1)
  blk_ext [iblk, idx t]

/-- The block's scale. -/
theorem blk1 (c : Dev nD) (t : Fin cfg0.N) (k : Fin 1024) :
    iblk m c 1 t (ix2 0 k) = (m ((c : Thread nD τ).loc main_arg1) : S2x1024.Idx → EReal) (ix2 0 k) := by
  refine Eq.trans ?_ (scale m c k)
  blk_ext [iblk, idx t]

/-- The block's weights are all of them. -/
theorem blk2 (c : Dev nD) (t : Fin cfg0.N) (k : Fin 1024) (j : Fin 2560) :
    iblk m c 2 t (ix3 0 k j) = (V m c main_v14 : S1x1024x2560.Idx → EReal) (ix3 0 k j) := by
  blk_ext [iblk, idx t]

/-- Row `r` of the normalised rows against one column of weights. -/
def G (x : (⟨S8x4096x1024, .f32⟩ : BufTy).Contents (Elt Ideal)) (g : (⟨S2x1024, .f32⟩ : BufTy).Contents (Elt Ideal)) (w : Fin 1024 → EReal) (r : Fin 32768) : EReal :=
  proj (fun k => x (ix3 ⟨r.val / 4096, Nat.div_lt_of_lt_mul r.isLt⟩ ⟨r.val % 4096, Nat.mod_lt _ (by decide)⟩ k)) (fun k => g (ix2 0 k)) w

/-- The queries, scaled, as one function of the arguments. -/
def qOf (x : (⟨S8x4096x1024, .f32⟩ : BufTy).Contents (Elt Ideal)) (g : (⟨S2x1024, .f32⟩ : BufTy).Contents (Elt Ideal)) (w : (⟨S1x1024x2120, .f32⟩ : BufTy).Contents (Elt Ideal)) :
    (⟨S32768x1024, .bf16⟩ : BufTy).Contents (Elt Ideal) := fun i => G x g (fun k => w (ix3 0 k ⟨(i 1).val, by have h1 : (i 1).val < 1024 := (i 1).isLt; omega⟩)) (i 0) * Ideal.ofBits FTy.f32 0x3E000000#32

/-- The array of the queries, scaled after the run. -/
theorem final_q (c : Dev nD) : (dats m 0 c).arrAt 3 cfg0.N = qOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [q_apply]
  have e0 : (((View.whole main_v16_0).slice (win0_3.rect t)).emb (ix2 y0 y1) 0).val = t.val * 1024 + y0.val := by blk_simp [idx t]
  have e1 : (((View.whole main_v16_0).slice (win0_3.rect t)).emb (ix2 y0 y1) 1).val = y1.val := by blk_simp [idx t]
  have ht : t.val < 32 := by have := t.isLt; have : cfg0.grid.N = 32 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨y1.val, by omega⟩) = _ := fun k => w_q m c k y1
  simp only [qOf, G, e0, e1, b0, blk1, blk2, bw]

/-- The keys, as one function of the arguments. -/
def kOf (x : (⟨S8x4096x1024, .f32⟩ : BufTy).Contents (Elt Ideal)) (g : (⟨S2x1024, .f32⟩ : BufTy).Contents (Elt Ideal)) (w : (⟨S1x1024x2120, .f32⟩ : BufTy).Contents (Elt Ideal)) :
    (⟨S32768x4x64, .f32⟩ : BufTy).Contents (Elt Ideal) := fun i => G x g (fun k => w (ix3 0 k ⟨1024 + ((i 1).val * 64 + (i 2).val), by have h1 : (i 1).val < 4 := (i 1).isLt; have h2 : (i 2).val < 64 := (i 2).isLt; omega⟩)) (i 0)

/-- The array of the keys after the run. -/
theorem final_k (c : Dev nD) : (dats m 0 c).arrAt 4 cfg0.N = kOf (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  rw [k_apply]
  have e0 : (((View.whole main_v16_1).slice (win0_4.rect t)).emb (ix3 y0 y1 y2) 0).val = t.val * 1024 + y0.val := by blk_simp [idx t]
  have e1 : (((View.whole main_v16_1).slice (win0_4.rect t)).emb (ix3 y0 y1 y2) 1).val = y1.val := by blk_simp [idx t]
  have e2 : (((View.whole main_v16_1).slice (win0_4.rect t)).emb (ix3 y0 y1 y2) 2).val = y2.val := by blk_simp [idx t]
  have ht : t.val < 32 := by have := t.isLt; have : cfg0.grid.N = 32 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨2048 + (y1.val * 128 + y2.val), by omega⟩) = _ := fun k => w_k m c k y1 y2
  simp only [kOf, G, e0, e1, e2, b0, blk1, blk2, bw]

/-- The values, as one function of the arguments. -/
def vOf (x : (⟨S8x4096x1024, .f32⟩ : BufTy).Contents (Elt Ideal)) (g : (⟨S2x1024, .f32⟩ : BufTy).Contents (Elt Ideal)) (w : (⟨S1x1024x2120, .f32⟩ : BufTy).Contents (Elt Ideal)) :
    (⟨S32768x4x64, .f32⟩ : BufTy).Contents (Elt Ideal) := fun i => G x g (fun k => w (ix3 0 k ⟨1280 + ((i 1).val * 64 + (i 2).val), by have h1 : (i 1).val < 4 := (i 1).isLt; have h2 : (i 2).val < 64 := (i 2).isLt; omega⟩)) (i 0)

/-- The array of the values after the run. -/
theorem final_v (c : Dev nD) : (dats m 0 c).arrAt 5 cfg0.N = vOf (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  rw [v_apply]
  have e0 : (((View.whole main_v16_2).slice (win0_5.rect t)).emb (ix3 y0 y1 y2) 0).val = t.val * 1024 + y0.val := by blk_simp [idx t]
  have e1 : (((View.whole main_v16_2).slice (win0_5.rect t)).emb (ix3 y0 y1 y2) 1).val = y1.val := by blk_simp [idx t]
  have e2 : (((View.whole main_v16_2).slice (win0_5.rect t)).emb (ix3 y0 y1 y2) 2).val = y2.val := by blk_simp [idx t]
  have ht : t.val < 32 := by have := t.isLt; have : cfg0.grid.N = 32 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨1024 + (y1.val * 64 + y2.val), by omega⟩) = _ := fun k => w_vqi m c k ⟨y1.val * 64 + y2.val, by omega⟩
  simp only [vOf, G, e0, e1, e2, b0, blk1, blk2, bw]

/-- The indexer's keys, as one function of the arguments. -/
def kiOf (x : (⟨S8x4096x1024, .f32⟩ : BufTy).Contents (Elt Ideal)) (g : (⟨S2x1024, .f32⟩ : BufTy).Contents (Elt Ideal)) (w : (⟨S1x1024x2120, .f32⟩ : BufTy).Contents (Elt Ideal)) :
    (⟨S32768x64, .f32⟩ : BufTy).Contents (Elt Ideal) := fun i => G x g (fun k => w (ix3 0 k ⟨2048 + (i 1).val, by have h1 : (i 1).val < 64 := (i 1).isLt; omega⟩)) (i 0)

/-- The array of the indexer's keys after the run. -/
theorem final_ki (c : Dev nD) : (dats m 0 c).arrAt 6 cfg0.N = kiOf (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  rw [ki_apply]
  have e0 : (((View.whole main_v16_3).slice (win0_6.rect t)).emb (ix2 y0 y1) 0).val = t.val * 1024 + y0.val := by blk_simp [idx t]
  have e1 : (((View.whole main_v16_3).slice (win0_6.rect t)).emb (ix2 y0 y1) 1).val = y1.val := by blk_simp [idx t]
  have ht : t.val < 32 := by have := t.isLt; have : cfg0.grid.N = 32 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨1792 + y1.val, by omega⟩) = _ := fun k => w_ki m c k y1
  simp only [kiOf, G, e0, e1, b0, blk1, blk2, bw]

/-- The indexer's queries, scaled, as one function of the arguments. -/
def qiOf (x : (⟨S8x4096x1024, .f32⟩ : BufTy).Contents (Elt Ideal)) (g : (⟨S2x1024, .f32⟩ : BufTy).Contents (Elt Ideal)) (w : (⟨S1x1024x2120, .f32⟩ : BufTy).Contents (Elt Ideal)) :
    (⟨S32768x512, .bf16⟩ : BufTy).Contents (Elt Ideal) := fun i => G x g (fun k => w (ix3 0 k ⟨1536 + (i 1).val, by have h1 : (i 1).val < 512 := (i 1).isLt; omega⟩)) (i 0) * Ideal.ofBits FTy.f32 0x3E000000#32

/-- The array of the indexer's queries, scaled after the run. -/
theorem final_qi (c : Dev nD) : (dats m 0 c).arrAt 10 cfg0.N = qiOf (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  idx_vars y
  rw [qi_apply]
  have e0 : (((View.whole main_v16_7).slice (win0_10.rect t)).emb (ix2 y0 y1) 0).val = t.val * 1024 + y0.val := by blk_simp [idx t]
  have e1 : (((View.whole main_v16_7).slice (win0_10.rect t)).emb (ix2 y0 y1) 1).val = y1.val := by blk_simp [idx t]
  have ht : t.val < 32 := by have := t.isLt; have : cfg0.grid.N = 32 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨1280 + y1.val, by omega⟩) = (m ((c : Thread nD τ).loc main_arg2) : S1x1024x2120.Idx → EReal) (ix3 0 k ⟨1536 + y1.val, by omega⟩) := fun k => by
    have e := w_vqi m c k ⟨256 + y1.val, by omega⟩
    simp only [← Nat.add_assoc, Nat.reduceAdd] at e
    exact e
  simp only [qiOf, G, e0, e1, b0, blk1, blk2, bw]

/-- All lanes of the head weights, from the weights that the kernel is given. -/
def wiAll (c : Dev nD) : (⟨S32768x128, .f32⟩ : BufTy).Contents (Elt Ideal) := fun i =>
  G (m ((c : Thread nD τ).loc main_arg0)) (m ((c : Thread nD τ).loc main_arg1)) (fun k => (V m c main_v14 : S1x1024x2560.Idx → EReal) (ix3 0 k ⟨1920 + (i 1).val, by have h1 : (i 1).val < 128 := (i 1).isLt; omega⟩)) (i 0) * Ideal.ofBits FTy.f32 0x3EB504F3#32

/-- The array of the indexer's head weights, scaled after the run. -/
theorem final_wi (c : Dev nD) : (dats m 0 c).arrAt 11 cfg0.N = wiAll m c := by
  refine (dats m 0 c).arrAt_eq_of_covers 11 _ (by decide +kernel) fun t hf y => ?_
  blk_simp
  rw [after0_11]
  idx_vars y
  rw [wi_apply]
  have e0 : (((View.whole main_v16_8).slice (win0_11.rect t)).emb (ix2 y0 y1) 0).val = t.val * 1024 + y0.val := by blk_simp [idx t]
  have e1 : (((View.whole main_v16_8).slice (win0_11.rect t)).emb (ix2 y0 y1) 1).val = y1.val := by blk_simp [idx t]
  have ht : t.val < 32 := by have := t.isLt; have : cfg0.grid.N = 32 := rfl; omega
  have b0 : ∀ k, iblk m c 0 t (ix2 y0 k) = _ := fun k => blk0 m c t y0 k (by omega) (by omega) (by omega)
  simp only [wiAll, G, e0, e1, b0, blk1, blk2]

/-- The indexer's head weights, scaled, as one function of the arguments. -/
def wiOf (x : (⟨S8x4096x1024, .f32⟩ : BufTy).Contents (Elt Ideal)) (g : (⟨S2x1024, .f32⟩ : BufTy).Contents (Elt Ideal)) (w : (⟨S1x1024x2120, .f32⟩ : BufTy).Contents (Elt Ideal)) :
    (⟨S32768x8, .f32⟩ : BufTy).Contents (Elt Ideal) := fun i => G x g (fun k => w (ix3 0 k ⟨2112 + (i 1).val, by have h1 : (i 1).val < 8 := (i 1).isLt; omega⟩)) (i 0) * Ideal.ofBits FTy.f32 0x3EB504F3#32

/-- The lanes that the host keeps of the head weights. -/
theorem tail_wi (c : Dev nD) : Pipeline.afterTail₀ cfgs (dats m) 0 (V0 m) [hostOps1] c main_v17
    = wiOf (m ((c : Thread nD τ).loc main_arg0)) (m ((c : Thread nD τ).loc main_arg1)) (m ((c : Thread nD τ).loc main_arg2)) := by
  unfold Pipeline.afterTail₀
  have e : Pipeline.withArrays (cfgs 0).spec c (V0 m c) (fun w => (dats m 0 c).arrAt w (cfgs 0).N) (Proc.devRef .tc main_v16_8) = wiAll m c :=
    (Pipeline.withArrays_arr spec0 (by decide) c (V0 m c) (fun w => (dats m 0 c).arrAt w cfg0.N) 11).trans (final_wi m c)
  generalize Pipeline.withArrays (cfgs 0).spec c (V0 m c) (fun w => (dats m 0 c).arrAt w (cfgs 0).N) = s at e ⊢
  simp only [hostOps1, List.flatten_cons, List.flatten_nil, List.append_nil]
  after_reads_simp
  rw [e]
  funext i
  idx_vars i
  pointwise [wiAll]
  have bw : ∀ k, (V m c main_v14 : S1x1024x2560.Idx → EReal) (ix3 0 k ⟨1920 + i1.val, by omega⟩) = _ := fun k => w_wi m c k i1
  simp only [wiOf, bw]
  rfl

end Cert.AttnProjIdeal.Hand

end
-- ==== Proof.AttnProjRef.lean ====
module

public import proofs.«01_k».proof.Proof.Gen.AttnProjRefIdeal.Read
public import proofs.«01_k».proof.Proof.AttnProjArray

/-! What the reference's projection computes. -/

@[expose] public section

set_option maxRecDepth 16384

noncomputable section

namespace Cert.AttnProjRefIdeal.Hand

open Cert.AttnProjRefIdeal Cert.AttnProjRefIdeal.Read Cert.Layer Idealize.ShloMosaic

variable (x : (⟨S8x4096x1024, .f32⟩ : BufTy).Contents (Elt Ideal)) (g : (⟨S2x1024, .f32⟩ : BufTy).Contents (Elt Ideal))
  (w : (⟨S1x1024x2120, .f32⟩ : BufTy).Contents (Elt Ideal))

/-- The normalised row. -/
theorem norm_apply (b : Fin 8) (t : Fin 4096) (c : Fin 1024) :
    val_main_v14 x g (ix3 b t c) = rms (fun k => x (ix3 b t k)) (fun k => g (ix2 0 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- A row of the combined projection. -/
theorem all_apply (r : Fin 32768) (j : Fin 2120) : val_main_v17 x g w (ix2 r j) = Cert.AttnProjIdeal.Hand.G x g (fun k => w (ix3 0 k j)) r := by
  pointwise [val_main_v17, val_main_v16, val_main_v15, norm_apply]
  rfl

/-- The reference's queries, scaled. -/
theorem q_eq : Cert.AttnProjIdeal.Hand.qOf x g w = val_main_v26 x g w := by
  funext i
  idx_vars i
  pointwise [val_main_v26, val_main_v25, val_main_v24, val_main_cst_2, val_main_v18, all_apply]
  simp only [Cert.AttnProjIdeal.Hand.qOf, Nat.zero_add]
  rfl

/-- The reference's keys. -/
theorem k_eq : Cert.AttnProjIdeal.Hand.kOf x g w = val_main_v27 x g w := by
  funext i
  idx_vars i
  pointwise [val_main_v27, val_main_v19, all_apply]
  simp only [Cert.AttnProjIdeal.Hand.kOf, Nat.zero_add]
  rfl

/-- The reference's values. -/
theorem v_eq : Cert.AttnProjIdeal.Hand.vOf x g w = val_main_v28 x g w := by
  funext i
  idx_vars i
  pointwise [val_main_v28, val_main_v20, all_apply]
  simp only [Cert.AttnProjIdeal.Hand.vOf, Nat.zero_add]
  rfl

/-- The reference's indexer's queries, scaled. -/
theorem qi_eq : Cert.AttnProjIdeal.Hand.qiOf x g w = val_main_v31 x g w := by
  funext i
  idx_vars i
  pointwise [val_main_v31, val_main_v30, val_main_v29, val_main_cst_3, val_main_v21, all_apply]
  simp only [Cert.AttnProjIdeal.Hand.qiOf, Nat.zero_add]
  rfl

/-- The reference's indexer's keys. -/
theorem ki_eq : Cert.AttnProjIdeal.Hand.kiOf x g w = val_main_v22 x g w := by
  funext i
  idx_vars i
  pointwise [val_main_v22, all_apply]
  simp only [Cert.AttnProjIdeal.Hand.kiOf, Nat.zero_add]
  rfl

/-- The reference's indexer's head weights, scaled. -/
theorem wi_eq : Cert.AttnProjIdeal.Hand.wiOf x g w = val_main_v33 x g w := by
  funext i
  idx_vars i
  pointwise [val_main_v33, val_main_v32, val_main_cst_4, val_main_v23, all_apply]
  simp only [Cert.AttnProjIdeal.Hand.wiOf, Nat.zero_add]
  rfl

end Cert.AttnProjRefIdeal.Hand

end
-- ==== Proof.AttnProjClaim.lean ====
module

public import proofs.«01_k».proof.Proof.AttnProjRef
public import proofs.«01_k».proof.Defs

/-! The projection and its reference end with equal results. -/

@[expose] public section

noncomputable section

namespace Cert.AttnProjIdeal.Hand

open Idealize.ShloMosaic Idealize.SL.Sem

set_option maxHeartbeats 4000000 in
/-- The sparse attention's projection and its reference, at exact arithmetic, end with equal results. -/
theorem algebraic : letI := Cert.AttnProjIdeal.Gen.facts; letI := Cert.AttnProjRefIdeal.Gen.facts; Cert.algebraic_AttnProjIdeal_AttnProjRefIdeal := by
  pair_intro
  · run_from Cert.AttnProjIdeal.Gen.run_main m g
    · exact Cert.AttnProjIdeal.Gen.W_main_arg0 m (Cert.AttnProjIdeal.Gen.dats m) c
    · exact Cert.AttnProjIdeal.Gen.W_main_arg1 m (Cert.AttnProjIdeal.Gen.dats m) c
    · exact Cert.AttnProjIdeal.Gen.W_main_arg2 m (Cert.AttnProjIdeal.Gen.dats m) c
  · run_from Cert.AttnProjRefIdeal.Value.run m' g'
    · rw [Cert.AttnProjRefIdeal.Read.val_main_v26_eq]
      erw [final_q m c]
      rw [Cert.AttnProjRefIdeal.Hand.q_eq]
    · rw [Cert.AttnProjRefIdeal.Read.val_main_v27_eq]
      erw [final_k m c]
      rw [Cert.AttnProjRefIdeal.Hand.k_eq]
    · rw [Cert.AttnProjRefIdeal.Read.val_main_v28_eq]
      erw [final_v m c]
      rw [Cert.AttnProjRefIdeal.Hand.v_eq]
    · rw [Cert.AttnProjRefIdeal.Read.val_main_v31_eq]
      erw [final_qi m c]
      rw [Cert.AttnProjRefIdeal.Hand.qi_eq]
    · rw [Cert.AttnProjRefIdeal.Read.val_main_v22_eq]
      erw [final_ki m c]
      rw [Cert.AttnProjRefIdeal.Hand.ki_eq]
    · rw [Cert.AttnProjRefIdeal.Read.val_main_v33_eq]
      erw [tail_wi m c]
      rw [Cert.AttnProjRefIdeal.Hand.wi_eq]

end Cert.AttnProjIdeal.Hand

end
-- ==== Proof.AttnProjSampleBlock.lean ====
module

public import proofs.«01_k».proof.Proof.Gen.AttnProjSampleIdeal.Frame
public import proofs.«01_k».proof.Proof.Spec
public import Idealize.ShloMosaic.Lib.Pipeline.ValueKit

/-! What one block of the sparse attention's projection computes. -/

@[expose] public section

set_option maxRecDepth 16384

noncomputable section

namespace Cert.AttnProjSampleIdeal.Hand

open Cert.AttnProjSampleIdeal Cert.AttnProjSampleIdeal.Gen Cert.Layer Idealize.ShloMosaic Idealize.ShloMosaic.TcCoe

/-- The normalised row. -/
theorem norm_apply (v0 : Vec Ideal S256x1024 .f32) (v2 : Vec Ideal S1x1024 .f32) (r : Fin 256) (c : Fin 1024) :
    k0_pay1 v0 v2 (ix2 r c) = rms (fun k => v0 (ix2 r k)) (fun k => v2 (ix2 0 k)) c := by
  pointwise [k0_pay1]
  rfl

/-- A block's queries, scaled. -/
theorem q_apply (x : Vec Ideal S256x1024 .f32) (g : Vec Ideal S1x1024 .f32) (w : Vec Ideal S1x1024x2560 .bf16) (r : Fin 256) (j : Fin 1024) :
    out0_3 x g w (ix2 r j) = proj (fun k => x (ix2 r k)) (fun k => g (ix2 0 k)) (fun k => w (ix3 0 k ⟨j.val, by omega⟩)) * Ideal.ofBits FTy.f32 0x3E000000#32 := by
  frame_out
  pointwise [k0_pay13, k0_pay2, norm_apply]
  rfl

/-- A block's keys. -/
theorem k_apply (x : Vec Ideal S256x1024 .f32) (g : Vec Ideal S1x1024 .f32) (w : Vec Ideal S1x1024x2560 .bf16) (r : Fin 256) (h : Fin 4) (d : Fin 64) :
    out0_4 x g w (ix3 r h d) = proj (fun k => x (ix2 r k)) (fun k => g (ix2 0 k)) (fun k => w (ix3 0 k ⟨2048 + (h.val * 128 + d.val), by omega⟩)) := by
  frame_out
  pointwise [k0_pay13, k0_pay12, k0_pay10, norm_apply]
  rfl

/-- A block's values. -/
theorem v_apply (x : Vec Ideal S256x1024 .f32) (g : Vec Ideal S1x1024 .f32) (w : Vec Ideal S1x1024x2560 .bf16) (r : Fin 256) (h : Fin 4) (d : Fin 64) :
    out0_5 x g w (ix3 r h d) = proj (fun k => x (ix2 r k)) (fun k => g (ix2 0 k)) (fun k => w (ix3 0 k ⟨1024 + (h.val * 64 + d.val), by omega⟩)) := by
  frame_out
  pointwise [k0_pay13, k0_pay5, k0_pay3, norm_apply]
  rfl

/-- A block's indexer's keys. -/
theorem ki_apply (x : Vec Ideal S256x1024 .f32) (g : Vec Ideal S1x1024 .f32) (w : Vec Ideal S1x1024x2560 .bf16) (r : Fin 256) (j : Fin 64) :
    out0_6 x g w (ix2 r j) = proj (fun k => x (ix2 r k)) (fun k => g (ix2 0 k)) (fun k => w (ix3 0 k ⟨1792 + j.val, by omega⟩)) := by
  frame_out
  pointwise [k0_pay13, k0_pay7, norm_apply]
  rfl

/-- A block's indexer's queries, scaled. -/
theorem qi_apply (x : Vec Ideal S256x1024 .f32) (g : Vec Ideal S1x1024 .f32) (w : Vec Ideal S1x1024x2560 .bf16) (r : Fin 256) (j : Fin 512) :
    out0_10 x g w (ix2 r j) = proj (fun k => x (ix2 r k)) (fun k => g (ix2 0 k)) (fun k => w (ix3 0 k ⟨1280 + j.val, by omega⟩)) * Ideal.ofBits FTy.f32 0x3E000000#32 := by
  frame_out
  pointwise [k0_pay13, k0_pay6, norm_apply]
  rfl

/-- A block's indexer's head weights, scaled. -/
theorem wi_apply (x : Vec Ideal S256x1024 .f32) (g : Vec Ideal S1x1024 .f32) (w : Vec Ideal S1x1024x2560 .bf16) (r : Fin 256) (j : Fin 128) :
    out0_11 x g w (ix2 r j) = proj (fun k => x (ix2 r k)) (fun k => g (ix2 0 k)) (fun k => w (ix3 0 k ⟨1920 + j.val, by omega⟩)) * Ideal.ofBits FTy.f32 0x3EB504F3#32 := by
  frame_out
  pointwise [k0_pay13, k0_pay9, norm_apply]
  rfl

end Cert.AttnProjSampleIdeal.Hand

end
-- ==== Proof.AttnProjSampleWeights.lean ====
module

public import proofs.«01_k».proof.Proof.Gen.AttnProjSampleIdeal.Frame
public import Idealize.ShloMosaic.Lib.Pipeline.ValueKit
public import Idealize.ShloMosaic.Lib.StableHlo.ReadAt

/-! The weights that the sparse attention's projection is given: what each group of their columns holds of the argument. -/

@[expose] public section

set_option maxRecDepth 16384

noncomputable section

namespace Cert.AttnProjSampleIdeal.Hand

open Cert.AttnProjSampleIdeal Cert.AttnProjSampleIdeal.Gen Idealize.ShloMosaic Idealize.ShloMosaic.TcCoe

/-- The twelve pieces of the weights side by side. -/
def joinAll (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) : S1x1024x2560.Idx → EReal :=
  concatenate S1x1024x2560 2 [⟨S1x1024x1024, f0⟩, ⟨S1x1024x768, f1⟩, ⟨S1x1024x128, f2⟩, ⟨S1x1024x128, f3⟩, ⟨S1x1024x64, f4⟩, ⟨S1x1024x64, f5⟩, ⟨S1x1024x64, f6⟩, ⟨S1x1024x64, f7⟩, ⟨S1x1024x64, f8⟩, ⟨S1x1024x64, f9⟩, ⟨S1x1024x64, f10⟩, ⟨S1x1024x64, f11⟩]
      concatenates_S1x1024x1024_S1x1024x768_S1x1024x128_S1x1024x128_S1x1024x64_S1x1024x64_S1x1024x64_S1x1024x64_S1x1024x64_S1x1024x64_S1x1024x64_S1x1024x64_S1x1024x2560_d2

set_option maxHeartbeats 2000000 in
/-- Columns of the first piece. -/
theorem pick_q (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 1024) :
    joinAll f0 f1 f2 f3 f4 f5 f6 f7 f8 f9 f10 f11 (ix3 0 k ⟨j.val, by omega⟩) = f0 (ix3 0 k j) := by
  unfold joinAll
  pointwise
  try simp (disch := omega) only [dif_pos, dif_neg]
  try exact congrArg (fun e => f0 (ix3 0 k e)) (Fin.ext (by dsimp only; omega))

set_option maxHeartbeats 2000000 in
/-- Columns of the second piece. -/
theorem pick_vqi (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 768) :
    joinAll f0 f1 f2 f3 f4 f5 f6 f7 f8 f9 f10 f11 (ix3 0 k ⟨1024 + j.val, by omega⟩) = f1 (ix3 0 k j) := by
  unfold joinAll
  pointwise
  try simp (disch := omega) only [dif_pos, dif_neg]
  try exact congrArg (fun e => f1 (ix3 0 k e)) (Fin.ext (by dsimp only; omega))

set_option maxHeartbeats 2000000 in
/-- Columns of the third piece. -/
theorem pick_ki (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 128) :
    joinAll f0 f1 f2 f3 f4 f5 f6 f7 f8 f9 f10 f11 (ix3 0 k ⟨1792 + j.val, by omega⟩) = f2 (ix3 0 k j) := by
  unfold joinAll
  pointwise
  try simp (disch := omega) only [dif_pos, dif_neg]
  try exact congrArg (fun e => f2 (ix3 0 k e)) (Fin.ext (by dsimp only; omega))

set_option maxHeartbeats 2000000 in
/-- Columns of the fourth piece. -/
theorem pick_wi (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (j : Fin 128) :
    joinAll f0 f1 f2 f3 f4 f5 f6 f7 f8 f9 f10 f11 (ix3 0 k ⟨1920 + j.val, by omega⟩) = f3 (ix3 0 k j) := by
  unfold joinAll
  pointwise
  try simp (disch := omega) only [dif_pos, dif_neg]
  try exact congrArg (fun e => f3 (ix3 0 k e)) (Fin.ext (by dsimp only; omega))

set_option maxHeartbeats 2000000 in
/-- The first half of a key head's columns: the piece of that head. -/
theorem pick_k (f0 : S1x1024x1024.Idx → EReal) (f1 : S1x1024x768.Idx → EReal) (f2 : S1x1024x128.Idx → EReal) (f3 : S1x1024x128.Idx → EReal) (f4 : S1x1024x64.Idx → EReal) (f5 : S1x1024x64.Idx → EReal) (f6 : S1x1024x64.Idx → EReal) (f7 : S1x1024x64.Idx → EReal) (f8 : S1x1024x64.Idx → EReal) (f9 : S1x1024x64.Idx → EReal) (f10 : S1x1024x64.Idx → EReal) (f11 : S1x1024x64.Idx → EReal) (k : Fin 1024) (h : Fin 4) (d : Fin 64) :
    joinAll f0 f1 f2 f3 f4 f5 f6 f7 f8 f9 f10 f11 (ix3 0 k ⟨2048 + (h.val * 128 + d.val), by omega⟩) = (![f4, f6, f8, f10] h) (ix3 0 k d) := by
  unfold joinAll
  match h with
  | 0 =>
    pointwise
    simp (disch := omega) only [dif_pos, dif_neg]
    exact congrArg (fun e => f4 (ix3 0 k e)) (Fin.ext (by dsimp only; omega))
  | 1 =>
    pointwise
    simp (disch := omega) only [dif_pos, dif_neg]
    exact congrArg (fun e => f6 (ix3 0 k e)) (Fin.ext (by dsimp only; omega))
  | 2 =>
    pointwise
    simp (disch := omega) only [dif_pos, dif_neg]
    exact congrArg (fun e => f8 (ix3 0 k e)) (Fin.ext (by dsimp only; omega))
  | 3 =>
    pointwise
    simp (disch := omega) only [dif_pos, dif_neg]
    exact congrArg (fun e => f10 (ix3 0 k e)) (Fin.ext (by dsimp only; omega))

variable (m : (ℓ : Loc nD τ sig) → Buf (Elt Ideal) ℓ)

/-- What the host has built before it joins the weights' pieces. -/
def pre (c : Dev nD) : Valuation τ sig (Elt Ideal) :=
  StableHlo.after (hostOps0 ++ (hostOps0_1 ++ (hostOps0_2 ++ hostOps0_3))) (fun b => m (c, b))

/-- The weights that the kernel is given are the pieces side by side. -/
theorem joined (c : Dev nD) (i : S1x1024x2560.Idx) :
    (V m c main_v14 : S1x1024x2560.Idx → EReal) i = joinAll (pre m c ↑main_v7) (pre m c ↑main_v8) (pre m c ↑main_v10) (pre m c ↑main_v12) (pre m c ↑main_v3) (pre m c ↑main_v3) (pre m c ↑main_v4) (pre m c ↑main_v4) (pre m c ↑main_v5) (pre m c ↑main_v5) (pre m c ↑main_v6) (pre m c ↑main_v6) i := by
  have e : V0 m c = StableHlo.after hostOps0_4 (pre m c) := rfl
  show (V0 m c ↑main_v14 : S1x1024x2560.Idx → EReal) i = _
  rw [e]
  generalize pre m c = s
  after_reads_simp
  rfl

/-- Piece v7 of the weights is the argument's columns from 0 on. -/
theorem pre_v7 (c : Dev nD) (k : Fin 1024) (j : Fin 1024) :
    (pre m c ↑main_v7 : S1x1024x1024.Idx → EReal) (ix3 0 k j) = (m ((c : Thread nD τ).loc main_arg2) : S1x1024x2120.Idx → EReal) (ix3 0 k ⟨j.val, by omega⟩) := by
  unfold pre
  after_reads_at
  try rfl

/-- Piece v8 of the weights is the argument's columns from 1280 on. -/
theorem pre_v8 (c : Dev nD) (k : Fin 1024) (j : Fin 768) :
    (pre m c ↑main_v8 : S1x1024x768.Idx → EReal) (ix3 0 k j) = (m ((c : Thread nD τ).loc main_arg2) : S1x1024x2120.Idx → EReal) (ix3 0 k ⟨1280 + j.val, by omega⟩) := by
  unfold pre
  after_reads_at
  try rfl

/-- Piece v10 of the weights is the argument's columns from 2048 on. -/
theorem pre_v10 (c : Dev nD) (k : Fin 1024) (j : Fin 128) (h : j.val < 64) :
    (pre m c ↑main_v10 : S1x1024x128.Idx → EReal) (ix3 0 k j) = (m ((c : Thread nD τ).loc main_arg2) : S1x1024x2120.Idx → EReal) (ix3 0 k ⟨2048 + j.val, by omega⟩) := by
  unfold pre
  after_reads_at
  rw [dif_pos h]
  try rfl

/-- Piece v12 of the weights is the argument's columns from 2112 on. -/
theorem pre_v12 (c : Dev nD) (k : Fin 1024) (j : Fin 128) (h : j.val < 8) :
    (pre m c ↑main_v12 : S1x1024x128.Idx → EReal) (ix3 0 k j) = (m ((c : Thread nD τ).loc main_arg2) : S1x1024x2120.Idx → EReal) (ix3 0 k ⟨2112 + j.val, by omega⟩) := by
  unfold pre
  after_reads_at
  rw [dif_pos h]
  try rfl

/-- Piece v3 of the weights is the argument's columns from 1024 on. -/
theorem pre_v3 (c : Dev nD) (k : Fin 1024) (j : Fin 64) :
    (pre m c ↑main_v3 : S1x1024x64.Idx → EReal) (ix3 0 k j) = (m ((c : Thread nD τ).loc main_arg2) : S1x1024x2120.Idx → EReal) (ix3 0 k ⟨1024 + j.val, by omega⟩) := by
  unfold pre
  after_reads_at
  try rfl

/-- Piece v4 of the weights is the argument's columns from 1088 on. -/
theorem pre_v4 (c : Dev nD) (k : Fin 1024) (j : Fin 64) :
    (pre m c ↑main_v4 : S1x1024x64.Idx → EReal) (ix3 0 k j) = (m ((c : Thread nD τ).loc main_arg2) : S1x1024x2120.Idx → EReal) (ix3 0 k ⟨1088 + j.val, by omega⟩) := by
  unfold pre
  after_reads_at
  try rfl

/-- Piece v5 of the weights is the argument's columns from 1152 on. -/
theorem pre_v5 (c : Dev nD) (k : Fin 1024) (j : Fin 64) :
    (pre m c ↑main_v5 : S1x1024x64.Idx → EReal) (ix3 0 k j) = (m ((c : Thread nD τ).loc main_arg2) : S1x1024x2120.Idx → EReal) (ix3 0 k ⟨1152 + j.val, by omega⟩) := by
  unfold pre
  after_reads_at
  try rfl

/-- Piece v6 of the weights is the argument's columns from 1216 on. -/
theorem pre_v6 (c : Dev nD) (k : Fin 1024) (j : Fin 64) :
    (pre m c ↑main_v6 : S1x1024x64.Idx → EReal) (ix3 0 k j) = (m ((c : Thread nD τ).loc main_arg2) : S1x1024x2120.Idx → EReal) (ix3 0 k ⟨1216 + j.val, by omega⟩) := by
  unfold pre
  after_reads_at
  try rfl

/-- The columns of the queries. -/
theorem w_q (c : Dev nD) (k : Fin 1024) (j : Fin 1024) :
    (V m c main_v14 : S1x1024x2560.Idx → EReal) (ix3 0 k ⟨j.val, by omega⟩) = (m ((c : Thread nD τ).loc main_arg2) : S1x1024x2120.Idx → EReal) (ix3 0 k ⟨j.val, by omega⟩) := by
  rw [joined]
  exact (pick_q _ _ _ _ _ _ _ _ _ _ _ _ k j).trans (pre_v7 m c k j)

/-- The columns of the values and of the indexer's queries. -/
theorem w_vqi (c : Dev nD) (k : Fin 1024) (j : Fin 768) :
    (V m c main_v14 : S1x1024x2560.Idx → EReal) (ix3 0 k ⟨1024 + j.val, by omega⟩) = (m ((c : Thread nD τ).loc main_arg2) : S1x1024x2120.Idx → EReal) (ix3 0 k ⟨1280 + j.val, by omega⟩) := by
  rw [joined]
  exact (pick_vqi _ _ _ _ _ _ _ _ _ _ _ _ k j).trans (pre_v8 m c k j)

/-- The columns of the indexer's keys. -/
theorem w_ki (c : Dev nD) (k : Fin 1024) (j : Fin 64) :
    (V m c main_v14 : S1x1024x2560.Idx → EReal) (ix3 0 k ⟨1792 + j.val, by omega⟩) = (m ((c : Thread nD τ).loc main_arg2) : S1x1024x2120.Idx → EReal) (ix3 0 k ⟨2048 + j.val, by omega⟩) := by
  rw [joined]
  exact (pick_ki _ _ _ _ _ _ _ _ _ _ _ _ k ⟨j.val, by omega⟩).trans (pre_v10 m c k ⟨j.val, by omega⟩ j.isLt)

/-- The columns of the indexer's head weights. -/
theorem w_wi (c : Dev nD) (k : Fin 1024) (j : Fin 8) :
    (V m c main_v14 : S1x1024x2560.Idx → EReal) (ix3 0 k ⟨1920 + j.val, by omega⟩) = (m ((c : Thread nD τ).loc main_arg2) : S1x1024x2120.Idx → EReal) (ix3 0 k ⟨2112 + j.val, by omega⟩) := by
  rw [joined]
  exact (pick_wi _ _ _ _ _ _ _ _ _ _ _ _ k ⟨j.val, by omega⟩).trans (pre_v12 m c k ⟨j.val, by omega⟩ j.isLt)

/-- The columns of the keys: each head has 128, of which the first 64 are its own. -/
theorem w_k (c : Dev nD) (k : Fin 1024) (h : Fin 4) (d : Fin 64) :
    (V m c main_v14 : S1x1024x2560.Idx → EReal) (ix3 0 k ⟨2048 + (h.val * 128 + d.val), by omega⟩) = (m ((c : Thread nD τ).loc main_arg2) : S1x1024x2120.Idx → EReal) (ix3 0 k ⟨1024 + (h.val * 64 + d.val), by omega⟩) := by
  rw [joined]
  refine (pick_k _ _ _ _ _ _ _ _ _ _ _ _ k h d).trans ?_
  match h with
  | 0 => exact (pre_v3 m c k d).trans (congrArg (fun e => (m ((c : Thread nD τ).loc main_arg2) : S1x1024x2120.Idx → EReal) (ix3 0 k e)) (Fin.ext (by dsimp only; simp)))
  | 1 => exact (pre_v4 m c k d).trans (congrArg (fun e => (m ((c : Thread nD τ).loc main_arg2) : S1x1024x2120.Idx → EReal) (ix3 0 k e)) (Fin.ext (by dsimp only; simp; omega)))
  | 2 => exact (pre_v5 m c k d).trans (congrArg (fun e => (m ((c : Thread nD τ).loc main_arg2) : S1x1024x2120.Idx → EReal) (ix3 0 k e)) (Fin.ext (by dsimp only; simp; omega)))
  | 3 => exact (pre_v6 m c k d).trans (congrArg (fun e => (m ((c : Thread nD τ).loc main_arg2) : S1x1024x2120.Idx → EReal) (ix3 0 k e)) (Fin.ext (by dsimp only; simp; omega)))

end Cert.AttnProjSampleIdeal.Hand

end
-- ==== Proof.AttnProjSampleArray.lean ====
module

public import proofs.«01_k».proof.Proof.AttnProjSampleBlock
public import proofs.«01_k».proof.Proof.AttnProjSampleWeights

/-! What the arrays of the sparse attention's projection hold after the run. -/

@[expose] public section

set_option maxRecDepth 16384

noncomputable section

namespace Cert.AttnProjSampleIdeal.Hand

open Cert.AttnProjSampleIdeal Cert.AttnProjSampleIdeal.Gen Cert.Layer Idealize.ShloMosaic Idealize.ShloMosaic.TcCoe

variable (m : (ℓ : Loc nD τ sig) → Buf (Elt Ideal) ℓ)

/-- Where each window's block stands at a grid point. -/
theorem idx : ∀ t : Fin cfg0.N, win0_0.index t = ![t.val, 0] ∧ win0_1.index t = ![0, 0] ∧ win0_2.index t = ![0, 0, 0] ∧ win0_3.index t = ![t.val, 0] ∧ win0_4.index t = ![t.val, 0, 0] ∧ win0_5.index t = ![t.val, 0, 0] ∧ win0_6.index t = ![t.val, 0] ∧ win0_10.index t = ![t.val, 0] ∧ win0_11.index t = ![t.val, 0] := by
  have h : ∀ t : Fin grid0.N, win0_0.index t = ![t.val, 0] ∧ win0_1.index t = ![0, 0] ∧ win0_2.index t = ![0, 0, 0] ∧ win0_3.index t = ![t.val, 0] ∧ win0_4.index t = ![t.val, 0, 0] ∧ win0_5.index t = ![t.val, 0, 0] ∧ win0_6.index t = ![t.val, 0] ∧ win0_10.index t = ![t.val, 0] ∧ win0_11.index t = ![t.val, 0] := by decide +kernel
  exact h

/-- The rows as the kernel is given them: stream after stream. -/
theorem rows (c : Dev nD) (r : Fin 256) (k : Fin 1024) (h0 : r.val / 32 < 8) (h1 : r.val % 32 < 32) :
    (V m c main_v0 : S256x1024.Idx → EReal) (ix2 r k) = (m ((c : Thread nD τ).loc main_arg0) : S8x32x1024.Idx → EReal) (ix3 ⟨r.val / 32, h0⟩ ⟨r.val % 32, h1⟩ k) := by
  unfold V V0
  simp only [hostOps0, hostOps0_1, hostOps0_2, hostOps0_3, hostOps0_4, List.flatten_cons, List.flatten_nil, List.append_nil, List.cons_append, List.nil_append]
  after_reads_at
  try rfl

/-- The norm's scale as the kernel is given it: the first layer's. -/
theorem scale (c : Dev nD) (k : Fin 1024) :
    (V m c main_v15 : S1x1024.Idx → EReal) (ix2 0 k) = (m ((c : Thread nD τ).loc main_arg1) : S2x1024.Idx → EReal) (ix2 0 k) := by
  unfold V V0
  simp only [hostOps0, hostOps0_1, hostOps0_2, hostOps0_3, hostOps0_4, List.flatten_cons, List.flatten_nil, List.append_nil, List.cons_append, List.nil_append]
  after_reads_at
  try rfl

/-- The block's rows. -/
theorem blk0 (c : Dev nD) (t : Fin cfg0.N) (r : Fin 256) (k : Fin 1024) (h : t.val * 256 + r.val < 256) (h0 : (t.val * 256 + r.val) / 32 < 8) (h1 : (t.val * 256 + r.val) % 32 < 32) :
    iblk m c 0 t (ix2 r k) = (m ((c : Thread nD τ).loc main_arg0) : S8x32x1024.Idx → EReal) (ix3 ⟨(t.val * 256 + r.val) / 32, h0⟩ ⟨(t.val * 256 + r.val) % 32, h1⟩ k) := by
  refine Eq.trans ?_ (rows m c ⟨t.val * 256 + r.val, h⟩ k h0 h1)
  blk_ext [iblk, idx t]

/-- The block's scale. -/
theorem blk1 (c : Dev nD) (t : Fin cfg0.N) (k : Fin 1024) :
    iblk m c 1 t (ix2 0 k) = (m ((c : Thread nD τ).loc main_arg1) : S2x1024.Idx → EReal) (ix2 0 k) := by
  refine Eq.trans ?_ (scale m c k)
  blk_ext [iblk, idx t]

/-- The block's weights are all of them. -/
theorem blk2 (c : Dev nD) (t : Fin cfg0.N) (k : Fin 1024) (j : Fin 2560) :
    iblk m c 2 t (ix3 0 k j) = (V m c main_v14 : S1x1024x2560.Idx → EReal) (ix3 0 k j) := by
  blk_ext [iblk, idx t]

/-- Row `r` of the normalised rows against one column of weights. -/
def G (x : (⟨S8x32x1024, .f32⟩ : BufTy).Contents (Elt Ideal)) (g : (⟨S2x1024, .f32⟩ : BufTy).Contents (Elt Ideal)) (w : Fin 1024 → EReal) (r : Fin 256) : EReal :=
  proj (fun k => x (ix3 ⟨r.val / 32, Nat.div_lt_of_lt_mul r.isLt⟩ ⟨r.val % 32, Nat.mod_lt _ (by decide)⟩ k)) (fun k => g (ix2 0 k)) w

/-- The queries, scaled, as one function of the arguments. -/
def qOf (x : (⟨S8x32x1024, .f32⟩ : BufTy).Contents (Elt Ideal)) (g : (⟨S2x1024, .f32⟩ : BufTy).Contents (Elt Ideal)) (w : (⟨S1x1024x2120, .f32⟩ : BufTy).Contents (Elt Ideal)) :
    (⟨S256x1024, .bf16⟩ : BufTy).Contents (Elt Ideal) := fun i => G x g (fun k => w (ix3 0 k ⟨(i 1).val, by have h1 : (i 1).val < 1024 := (i 1).isLt; omega⟩)) (i 0) * Ideal.ofBits FTy.f32 0x3E000000#32

/-- The array of the queries, scaled after the run. -/
theorem final_q (c : Dev nD) : (dats m 0 c).arrAt 3 cfg0.N = qOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [q_apply]
  have e0 : (((View.whole main_v16_0).slice (win0_3.rect t)).emb (ix2 y0 y1) 0).val = t.val * 256 + y0.val := by blk_simp [idx t]
  have e1 : (((View.whole main_v16_0).slice (win0_3.rect t)).emb (ix2 y0 y1) 1).val = y1.val := by blk_simp [idx t]
  have ht : t.val < 1 := by have := t.isLt; have : cfg0.grid.N = 1 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨y1.val, by omega⟩) = _ := fun k => w_q m c k y1
  simp only [qOf, G, e0, e1, b0, blk1, blk2, bw]

/-- The keys, as one function of the arguments. -/
def kOf (x : (⟨S8x32x1024, .f32⟩ : BufTy).Contents (Elt Ideal)) (g : (⟨S2x1024, .f32⟩ : BufTy).Contents (Elt Ideal)) (w : (⟨S1x1024x2120, .f32⟩ : BufTy).Contents (Elt Ideal)) :
    (⟨S256x4x64, .f32⟩ : BufTy).Contents (Elt Ideal) := fun i => G x g (fun k => w (ix3 0 k ⟨1024 + ((i 1).val * 64 + (i 2).val), by have h1 : (i 1).val < 4 := (i 1).isLt; have h2 : (i 2).val < 64 := (i 2).isLt; omega⟩)) (i 0)

/-- The array of the keys after the run. -/
theorem final_k (c : Dev nD) : (dats m 0 c).arrAt 4 cfg0.N = kOf (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  rw [k_apply]
  have e0 : (((View.whole main_v16_1).slice (win0_4.rect t)).emb (ix3 y0 y1 y2) 0).val = t.val * 256 + y0.val := by blk_simp [idx t]
  have e1 : (((View.whole main_v16_1).slice (win0_4.rect t)).emb (ix3 y0 y1 y2) 1).val = y1.val := by blk_simp [idx t]
  have e2 : (((View.whole main_v16_1).slice (win0_4.rect t)).emb (ix3 y0 y1 y2) 2).val = y2.val := by blk_simp [idx t]
  have ht : t.val < 1 := by have := t.isLt; have : cfg0.grid.N = 1 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨2048 + (y1.val * 128 + y2.val), by omega⟩) = _ := fun k => w_k m c k y1 y2
  simp only [kOf, G, e0, e1, e2, b0, blk1, blk2, bw]

/-- The values, as one function of the arguments. -/
def vOf (x : (⟨S8x32x1024, .f32⟩ : BufTy).Contents (Elt Ideal)) (g : (⟨S2x1024, .f32⟩ : BufTy).Contents (Elt Ideal)) (w : (⟨S1x1024x2120, .f32⟩ : BufTy).Contents (Elt Ideal)) :
    (⟨S256x4x64, .f32⟩ : BufTy).Contents (Elt Ideal) := fun i => G x g (fun k => w (ix3 0 k ⟨1280 + ((i 1).val * 64 + (i 2).val), by have h1 : (i 1).val < 4 := (i 1).isLt; have h2 : (i 2).val < 64 := (i 2).isLt; omega⟩)) (i 0)

/-- The array of the values after the run. -/
theorem final_v (c : Dev nD) : (dats m 0 c).arrAt 5 cfg0.N = vOf (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  rw [v_apply]
  have e0 : (((View.whole main_v16_2).slice (win0_5.rect t)).emb (ix3 y0 y1 y2) 0).val = t.val * 256 + y0.val := by blk_simp [idx t]
  have e1 : (((View.whole main_v16_2).slice (win0_5.rect t)).emb (ix3 y0 y1 y2) 1).val = y1.val := by blk_simp [idx t]
  have e2 : (((View.whole main_v16_2).slice (win0_5.rect t)).emb (ix3 y0 y1 y2) 2).val = y2.val := by blk_simp [idx t]
  have ht : t.val < 1 := by have := t.isLt; have : cfg0.grid.N = 1 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨1024 + (y1.val * 64 + y2.val), by omega⟩) = _ := fun k => w_vqi m c k ⟨y1.val * 64 + y2.val, by omega⟩
  simp only [vOf, G, e0, e1, e2, b0, blk1, blk2, bw]

/-- The indexer's keys, as one function of the arguments. -/
def kiOf (x : (⟨S8x32x1024, .f32⟩ : BufTy).Contents (Elt Ideal)) (g : (⟨S2x1024, .f32⟩ : BufTy).Contents (Elt Ideal)) (w : (⟨S1x1024x2120, .f32⟩ : BufTy).Contents (Elt Ideal)) :
    (⟨S256x64, .f32⟩ : BufTy).Contents (Elt Ideal) := fun i => G x g (fun k => w (ix3 0 k ⟨2048 + (i 1).val, by have h1 : (i 1).val < 64 := (i 1).isLt; omega⟩)) (i 0)

/-- The array of the indexer's keys after the run. -/
theorem final_ki (c : Dev nD) : (dats m 0 c).arrAt 6 cfg0.N = kiOf (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  rw [ki_apply]
  have e0 : (((View.whole main_v16_3).slice (win0_6.rect t)).emb (ix2 y0 y1) 0).val = t.val * 256 + y0.val := by blk_simp [idx t]
  have e1 : (((View.whole main_v16_3).slice (win0_6.rect t)).emb (ix2 y0 y1) 1).val = y1.val := by blk_simp [idx t]
  have ht : t.val < 1 := by have := t.isLt; have : cfg0.grid.N = 1 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨1792 + y1.val, by omega⟩) = _ := fun k => w_ki m c k y1
  simp only [kiOf, G, e0, e1, b0, blk1, blk2, bw]

/-- The indexer's queries, scaled, as one function of the arguments. -/
def qiOf (x : (⟨S8x32x1024, .f32⟩ : BufTy).Contents (Elt Ideal)) (g : (⟨S2x1024, .f32⟩ : BufTy).Contents (Elt Ideal)) (w : (⟨S1x1024x2120, .f32⟩ : BufTy).Contents (Elt Ideal)) :
    (⟨S256x512, .bf16⟩ : BufTy).Contents (Elt Ideal) := fun i => G x g (fun k => w (ix3 0 k ⟨1536 + (i 1).val, by have h1 : (i 1).val < 512 := (i 1).isLt; omega⟩)) (i 0) * Ideal.ofBits FTy.f32 0x3E000000#32

/-- The array of the indexer's queries, scaled after the run. -/
theorem final_qi (c : Dev nD) : (dats m 0 c).arrAt 10 cfg0.N = qiOf (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  idx_vars y
  rw [qi_apply]
  have e0 : (((View.whole main_v16_7).slice (win0_10.rect t)).emb (ix2 y0 y1) 0).val = t.val * 256 + y0.val := by blk_simp [idx t]
  have e1 : (((View.whole main_v16_7).slice (win0_10.rect t)).emb (ix2 y0 y1) 1).val = y1.val := by blk_simp [idx t]
  have ht : t.val < 1 := by have := t.isLt; have : cfg0.grid.N = 1 := rfl; omega
  have b0 : ∀ k, iblk m c 0 t (ix2 y0 k) = _ := fun k => blk0 m c t y0 k (by omega) (by omega) (by omega)
  have bw : ∀ k, (V m c main_v14 : S1x1024x2560.Idx → EReal) (ix3 0 k ⟨1280 + y1.val, by omega⟩) = (m ((c : Thread nD τ).loc main_arg2) : S1x1024x2120.Idx → EReal) (ix3 0 k ⟨1536 + y1.val, by omega⟩) := fun k => by
    have e := w_vqi m c k ⟨256 + y1.val, by omega⟩
    simp only [← Nat.add_assoc, Nat.reduceAdd] at e
    exact e
  simp only [qiOf, G, e0, e1, b0, blk1, blk2, bw]

/-- All lanes of the head weights, from the weights that the kernel is given. -/
def wiAll (c : Dev nD) : (⟨S256x128, .f32⟩ : BufTy).Contents (Elt Ideal) := fun i =>
  G (m ((c : Thread nD τ).loc main_arg0)) (m ((c : Thread nD τ).loc main_arg1)) (fun k => (V m c main_v14 : S1x1024x2560.Idx → EReal) (ix3 0 k ⟨1920 + (i 1).val, by have h1 : (i 1).val < 128 := (i 1).isLt; omega⟩)) (i 0) * Ideal.ofBits FTy.f32 0x3EB504F3#32

/-- The array of the indexer's head weights, scaled after the run. -/
theorem final_wi (c : Dev nD) : (dats m 0 c).arrAt 11 cfg0.N = wiAll m c := by
  refine (dats m 0 c).arrAt_eq_of_covers 11 _ (by decide +kernel) fun t hf y => ?_
  blk_simp
  rw [after0_11]
  idx_vars y
  rw [wi_apply]
  have e0 : (((View.whole main_v16_8).slice (win0_11.rect t)).emb (ix2 y0 y1) 0).val = t.val * 256 + y0.val := by blk_simp [idx t]
  have e1 : (((View.whole main_v16_8).slice (win0_11.rect t)).emb (ix2 y0 y1) 1).val = y1.val := by blk_simp [idx t]
  have ht : t.val < 1 := by have := t.isLt; have : cfg0.grid.N = 1 := rfl; omega
  have b0 : ∀ k, iblk m c 0 t (ix2 y0 k) = _ := fun k => blk0 m c t y0 k (by omega) (by omega) (by omega)
  simp only [wiAll, G, e0, e1, b0, blk1, blk2]

/-- The indexer's head weights, scaled, as one function of the arguments. -/
def wiOf (x : (⟨S8x32x1024, .f32⟩ : BufTy).Contents (Elt Ideal)) (g : (⟨S2x1024, .f32⟩ : BufTy).Contents (Elt Ideal)) (w : (⟨S1x1024x2120, .f32⟩ : BufTy).Contents (Elt Ideal)) :
    (⟨S256x8, .f32⟩ : BufTy).Contents (Elt Ideal) := fun i => G x g (fun k => w (ix3 0 k ⟨2112 + (i 1).val, by have h1 : (i 1).val < 8 := (i 1).isLt; omega⟩)) (i 0) * Ideal.ofBits FTy.f32 0x3EB504F3#32

/-- The lanes that the host keeps of the head weights. -/
theorem tail_wi (c : Dev nD) : Pipeline.afterTail₀ cfgs (dats m) 0 (V0 m) [hostOps1] c main_v17
    = wiOf (m ((c : Thread nD τ).loc main_arg0)) (m ((c : Thread nD τ).loc main_arg1)) (m ((c : Thread nD τ).loc main_arg2)) := by
  unfold Pipeline.afterTail₀
  have e : Pipeline.withArrays (cfgs 0).spec c (V0 m c) (fun w => (dats m 0 c).arrAt w (cfgs 0).N) (Proc.devRef .tc main_v16_8) = wiAll m c :=
    (Pipeline.withArrays_arr spec0 (by decide) c (V0 m c) (fun w => (dats m 0 c).arrAt w cfg0.N) 11).trans (final_wi m c)
  generalize Pipeline.withArrays (cfgs 0).spec c (V0 m c) (fun w => (dats m 0 c).arrAt w (cfgs 0).N) = s at e ⊢
  simp only [hostOps1, List.flatten_cons, List.flatten_nil, List.append_nil]
  after_reads_simp
  rw [e]
  funext i
  idx_vars i
  pointwise [wiAll]
  have bw : ∀ k, (V m c main_v14 : S1x1024x2560.Idx → EReal) (ix3 0 k ⟨1920 + i1.val, by omega⟩) = _ := fun k => w_wi m c k i1
  simp only [wiOf, bw]
  rfl

end Cert.AttnProjSampleIdeal.Hand

end
-- ==== Proof.AttnProjSampleRef.lean ====
module

public import proofs.«01_k».proof.Proof.Gen.AttnProjSampleRefIdeal.Read
public import proofs.«01_k».proof.Proof.AttnProjSampleArray

/-! What the reference's projection computes. -/

@[expose] public section

set_option maxRecDepth 16384

noncomputable section

namespace Cert.AttnProjSampleRefIdeal.Hand

open Cert.AttnProjSampleRefIdeal Cert.AttnProjSampleRefIdeal.Read Cert.Layer Idealize.ShloMosaic

variable (x : (⟨S8x32x1024, .f32⟩ : BufTy).Contents (Elt Ideal)) (g : (⟨S2x1024, .f32⟩ : BufTy).Contents (Elt Ideal))
  (w : (⟨S1x1024x2120, .f32⟩ : BufTy).Contents (Elt Ideal))

/-- The normalised row. -/
theorem norm_apply (b : Fin 8) (t : Fin 32) (c : Fin 1024) :
    val_main_v14 x g (ix3 b t c) = rms (fun k => x (ix3 b t k)) (fun k => g (ix2 0 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- A row of the combined projection. -/
theorem all_apply (r : Fin 256) (j : Fin 2120) : val_main_v17 x g w (ix2 r j) = Cert.AttnProjSampleIdeal.Hand.G x g (fun k => w (ix3 0 k j)) r := by
  pointwise [val_main_v17, val_main_v16, val_main_v15, norm_apply]
  rfl

/-- The reference's queries, scaled. -/
theorem q_eq : Cert.AttnProjSampleIdeal.Hand.qOf x g w = val_main_v26 x g w := by
  funext i
  idx_vars i
  pointwise [val_main_v26, val_main_v25, val_main_v24, val_main_cst_2, val_main_v18, all_apply]
  simp only [Cert.AttnProjSampleIdeal.Hand.qOf, Nat.zero_add]
  rfl

/-- The reference's keys. -/
theorem k_eq : Cert.AttnProjSampleIdeal.Hand.kOf x g w = val_main_v27 x g w := by
  funext i
  idx_vars i
  pointwise [val_main_v27, val_main_v19, all_apply]
  simp only [Cert.AttnProjSampleIdeal.Hand.kOf, Nat.zero_add]
  rfl

/-- The reference's values. -/
theorem v_eq : Cert.AttnProjSampleIdeal.Hand.vOf x g w = val_main_v28 x g w := by
  funext i
  idx_vars i
  pointwise [val_main_v28, val_main_v20, all_apply]
  simp only [Cert.AttnProjSampleIdeal.Hand.vOf, Nat.zero_add]
  rfl

/-- The reference's indexer's queries, scaled. -/
theorem qi_eq : Cert.AttnProjSampleIdeal.Hand.qiOf x g w = val_main_v31 x g w := by
  funext i
  idx_vars i
  pointwise [val_main_v31, val_main_v30, val_main_v29, val_main_cst_3, val_main_v21, all_apply]
  simp only [Cert.AttnProjSampleIdeal.Hand.qiOf, Nat.zero_add]
  rfl

/-- The reference's indexer's keys. -/
theorem ki_eq : Cert.AttnProjSampleIdeal.Hand.kiOf x g w = val_main_v22 x g w := by
  funext i
  idx_vars i
  pointwise [val_main_v22, all_apply]
  simp only [Cert.AttnProjSampleIdeal.Hand.kiOf, Nat.zero_add]
  rfl

/-- The reference's indexer's head weights, scaled. -/
theorem wi_eq : Cert.AttnProjSampleIdeal.Hand.wiOf x g w = val_main_v33 x g w := by
  funext i
  idx_vars i
  pointwise [val_main_v33, val_main_v32, val_main_cst_4, val_main_v23, all_apply]
  simp only [Cert.AttnProjSampleIdeal.Hand.wiOf, Nat.zero_add]
  rfl

end Cert.AttnProjSampleRefIdeal.Hand

end
-- ==== Proof.AttnProjSampleClaim.lean ====
module

public import proofs.«01_k».proof.Proof.AttnProjSampleRef
public import proofs.«01_k».proof.Defs

/-! The projection and its reference end with equal results. -/

@[expose] public section

noncomputable section

namespace Cert.AttnProjSampleIdeal.Hand

open Idealize.ShloMosaic Idealize.SL.Sem

set_option maxHeartbeats 4000000 in
/-- The sparse attention's projection and its reference, at exact arithmetic, end with equal results. -/
theorem algebraic : letI := Cert.AttnProjSampleIdeal.Gen.facts; letI := Cert.AttnProjSampleRefIdeal.Gen.facts; Cert.algebraic_AttnProjSampleIdeal_AttnProjSampleRefIdeal := by
  pair_intro
  · run_from Cert.AttnProjSampleIdeal.Gen.run_main m g
    · exact Cert.AttnProjSampleIdeal.Gen.W_main_arg0 m (Cert.AttnProjSampleIdeal.Gen.dats m) c
    · exact Cert.AttnProjSampleIdeal.Gen.W_main_arg1 m (Cert.AttnProjSampleIdeal.Gen.dats m) c
    · exact Cert.AttnProjSampleIdeal.Gen.W_main_arg2 m (Cert.AttnProjSampleIdeal.Gen.dats m) c
  · run_from Cert.AttnProjSampleRefIdeal.Value.run m' g'
    · rw [Cert.AttnProjSampleRefIdeal.Read.val_main_v26_eq]
      erw [final_q m c]
      rw [Cert.AttnProjSampleRefIdeal.Hand.q_eq]
    · rw [Cert.AttnProjSampleRefIdeal.Read.val_main_v27_eq]
      erw [final_k m c]
      rw [Cert.AttnProjSampleRefIdeal.Hand.k_eq]
    · rw [Cert.AttnProjSampleRefIdeal.Read.val_main_v28_eq]
      erw [final_v m c]
      rw [Cert.AttnProjSampleRefIdeal.Hand.v_eq]
    · rw [Cert.AttnProjSampleRefIdeal.Read.val_main_v31_eq]
      erw [final_qi m c]
      rw [Cert.AttnProjSampleRefIdeal.Hand.qi_eq]
    · rw [Cert.AttnProjSampleRefIdeal.Read.val_main_v22_eq]
      erw [final_ki m c]
      rw [Cert.AttnProjSampleRefIdeal.Hand.ki_eq]
    · rw [Cert.AttnProjSampleRefIdeal.Read.val_main_v33_eq]
      erw [tail_wi m c]
      rw [Cert.AttnProjSampleRefIdeal.Hand.wi_eq]

end Cert.AttnProjSampleIdeal.Hand

end
-- ==== Proof.MemKvValue.lean ====
module

public import proofs.«01_k».proof.Proof.Gen.MemKvIdeal.Frame
public import proofs.«01_k».proof.Proof.Spec
public import Idealize.ShloMosaic.Lib.Pipeline.ValueKit

@[expose] public section

set_option maxRecDepth 16384

noncomputable section

namespace Cert.MemKvIdeal.Hand

open Cert.MemKvIdeal Cert.MemKvIdeal.Gen Cert.Layer Idealize.ShloMosaic Idealize.ShloMosaic.TcCoe

/-- The normalised row. -/
theorem norm_apply (v0 : Vec Ideal S1024x1024 .f32) (v2 : Vec Ideal S1x1024 .f32) (r c : Fin 1024) :
    k0_pay1 v0 v2 (ix2 r c) = rms (fun k => v0 (ix2 r k)) (fun k => v2 (ix2 0 k)) c := by
  pointwise [k0_pay1]
  rfl

/-- A block's keys: head `h`, place `d` reads the weights' column `256 h + d`. -/
theorem key_apply (x : Vec Ideal S1024x1024 .f32) (g : Vec Ideal S1x1024 .f32) (w : Vec Ideal S1x1024x2048 .bf16) (r : Fin 1024) (h : Fin 4) (d : Fin 256) :
    out0_5 x g w (ix3 r h d) = proj (fun k => x (ix2 r k)) (fun k => g (ix2 0 k)) fun k => w (ix3 0 k ⟨h.val * 256 + d.val, by omega⟩) := by
  frame_out
  pointwise [k0_pay4, k0_pay2, norm_apply]
  rfl

/-- A block's values: head `h`, place `d` reads the weights' column `1024 + 256 h + d`. -/
theorem value_apply (x : Vec Ideal S1024x1024 .f32) (g : Vec Ideal S1x1024 .f32) (w : Vec Ideal S1x1024x2048 .bf16) (r : Fin 1024) (h : Fin 4) (d : Fin 256) :
    out0_6 x g w (ix3 r h d) = proj (fun k => x (ix2 r k)) (fun k => g (ix2 0 k)) fun k => w (ix3 0 k ⟨1024 + (h.val * 256 + d.val), by omega⟩) := by
  frame_out
  pointwise [k0_pay5, k0_pay3, norm_apply]
  rfl

variable (m : (ℓ : Loc nD τ sig) → Buf (Elt Ideal) ℓ)

/-- Where each window's block stands at a grid point. -/
theorem idx : ∀ t : Fin cfg0.N, win0_0.index t = ![t.val, 0] ∧ win0_1.index t = ![0, 0] ∧ win0_2.index t = ![0, 0, 0]
    ∧ win0_5.index t = ![t.val, 0, 0] ∧ win0_6.index t = ![t.val, 0, 0] := by
  have h : ∀ t : Fin grid0.N, win0_0.index t = ![t.val, 0] ∧ win0_1.index t = ![0, 0] ∧ win0_2.index t = ![0, 0, 0]
    ∧ win0_5.index t = ![t.val, 0, 0] ∧ win0_6.index t = ![t.val, 0, 0] := by decide +kernel
  exact h

/-- The block's rows are the memory's rows, stream after stream. -/
theorem blk0 (c : Dev nD) (t : Fin cfg0.N) (r k : Fin 1024) (h0 : (t.val * 1024 + r.val) / 256 < 8) (h1 : (t.val * 1024 + r.val) % 256 < 256) :
    iblk m c 0 t (ix2 r k) = m ((c : Thread nD τ).loc main_arg0) (ix3 ⟨(t.val * 1024 + r.val) / 256, h0⟩ ⟨(t.val * 1024 + r.val) % 256, h1⟩ k) := by
  blk_ext! [iblk, V, idx t]

/-- The norm's scale is the first layer's. -/
theorem blk1 (c : Dev nD) (t : Fin cfg0.N) (k : Fin 1024) :
    iblk m c 1 t (ix2 0 k) = m ((c : Thread nD τ).loc main_arg1) (ix2 0 k) := by
  blk_ext! [iblk, V, idx t]

/-- The weights are the first layer's. -/
theorem blk2 (c : Dev nD) (t : Fin cfg0.N) (k : Fin 1024) (j : Fin 2048) :
    iblk m c 2 t (ix3 0 k j) = m ((c : Thread nD τ).loc main_arg2) (ix3 0 k j) := by
  blk_ext [iblk, V, idx t]

/-- One half of the projection of the memory's rows, as one function of the arguments: the half begins at the weights' column `o`. -/
def G (o : Nat) (ho : o ≤ 1024) (x : (⟨S8x256x1024, .f32⟩ : BufTy).Contents (Elt Ideal)) (g : (⟨S2x1024, .f32⟩ : BufTy).Contents (Elt Ideal))
    (w : (⟨S2x1024x2048, .f32⟩ : BufTy).Contents (Elt Ideal)) : (⟨S2048x4x256, .f32⟩ : BufTy).Contents (Elt Ideal) := fun i =>
  proj (fun k => x (ix3 ⟨(i 0).val / 256, Nat.div_lt_of_lt_mul (i 0).isLt⟩ ⟨(i 0).val % 256, Nat.mod_lt _ (by decide)⟩ k))
    (fun k => g (ix2 0 k))
    fun k => w (ix3 0 k ⟨o + ((i 1).val * 256 + (i 2).val), by have h1 : (i 1).val < 4 := (i 1).isLt; have h2 : (i 2).val < 256 := (i 2).isLt; omega⟩)

/-- The array of keys after the run. -/
theorem final_key (c : Dev nD) : (dats m 0 c).arrAt 5 cfg0.N = G 0 (by decide) (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5]
  idx_vars y
  rw [key_apply]
  have e0 : (((View.whole main_v5_2).slice (win0_5.rect t)).emb (ix3 y0 y1 y2) 0).val = t.val * 1024 + y0.val := by
    blk_simp [idx t]
  have e1 : (((View.whole main_v5_2).slice (win0_5.rect t)).emb (ix3 y0 y1 y2) 1).val = y1.val := by blk_simp [idx t]
  have e2 : (((View.whole main_v5_2).slice (win0_5.rect t)).emb (ix3 y0 y1 y2) 2).val = y2.val := by blk_simp [idx t]
  have b0 : ∀ k, iblk m c 0 t (ix2 y0 k) = _ := fun k => blk0 m c t y0 k (by have := t.isLt; have : cfg0.grid.N = 2 := rfl; omega) (by omega)
  simp only [G, e0, e1, e2, b0, blk1, blk2, zero_add]

/-- The array of values after the run. -/
theorem final_value (c : Dev nD) : (dats m 0 c).arrAt 6 cfg0.N = G 1024 (by decide) (m ((c : Thread nD τ).loc main_arg0)) (m ((c : Thread nD τ).loc main_arg1))
    (m ((c : Thread nD τ).loc main_arg2)) := by
  refine (dats m 0 c).arrAt_eq_of_covers 6 _ (by decide +kernel) fun t hf y => ?_
  blk_simp
  rw [after0_6]
  idx_vars y
  rw [value_apply]
  have e0 : (((View.whole main_v5_3).slice (win0_6.rect t)).emb (ix3 y0 y1 y2) 0).val = t.val * 1024 + y0.val := by
    blk_simp [idx t]
  have e1 : (((View.whole main_v5_3).slice (win0_6.rect t)).emb (ix3 y0 y1 y2) 1).val = y1.val := by blk_simp [idx t]
  have e2 : (((View.whole main_v5_3).slice (win0_6.rect t)).emb (ix3 y0 y1 y2) 2).val = y2.val := by blk_simp [idx t]
  have b0 : ∀ k, iblk m c 0 t (ix2 y0 k) = _ := fun k => blk0 m c t y0 k (by have := t.isLt; have : cfg0.grid.N = 2 := rfl; omega) (by omega)
  simp only [G, e0, e1, e2, b0, blk1, blk2, zero_add]

end Cert.MemKvIdeal.Hand

end
-- ==== Proof.MemKvRef.lean ====
module

public import proofs.«01_k».proof.Proof.Gen.MemKvRefIdeal.Read
public import proofs.«01_k».proof.Proof.MemKvValue

@[expose] public section

set_option maxRecDepth 16384

noncomputable section

namespace Cert.MemKvRefIdeal.Hand

open Cert.MemKvRefIdeal Cert.MemKvRefIdeal.Read Cert.Layer Idealize.ShloMosaic

variable (x : (⟨S8x256x1024, .f32⟩ : BufTy).Contents (Elt Ideal)) (g : (⟨S2x1024, .f32⟩ : BufTy).Contents (Elt Ideal))
  (w : (⟨S2x1024x2048, .f32⟩ : BufTy).Contents (Elt Ideal))

/-- The normalised memory row. -/
theorem norm_apply (b : Fin 8) (t : Fin 256) (c : Fin 1024) :
    val_main_v14 x g (ix3 b t c) = rms (fun k => x (ix3 b t k)) (fun k => g (ix2 0 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's keys. -/
theorem key_eq : Cert.MemKvIdeal.Hand.G 0 (by decide) x g w = val_main_v20 x g w := by
  funext i
  idx_vars i
  pointwise [val_main_v20, val_main_v18, val_main_v17, val_main_v16, val_main_v15, norm_apply]
  simp only [Cert.MemKvIdeal.Hand.G, proj, Nat.zero_add]
  rfl

/-- The reference's values. -/
theorem value_eq : Cert.MemKvIdeal.Hand.G 1024 (by decide) x g w = val_main_v21 x g w := by
  funext i
  idx_vars i
  pointwise [val_main_v21, val_main_v19, val_main_v17, val_main_v16, val_main_v15, norm_apply]
  simp only [Cert.MemKvIdeal.Hand.G, proj, Nat.zero_add]
  rfl

end Cert.MemKvRefIdeal.Hand

end
-- ==== Proof.MemKvClaim.lean ====
module

public import proofs.«01_k».proof.Proof.MemKvRef
public import proofs.«01_k».proof.Defs

@[expose] public section

noncomputable section

namespace Cert.MemKvIdeal.Hand

open Idealize.ShloMosaic Idealize.SL.Sem

/-- The first layer's memory keys and values and their reference, at exact arithmetic, end with equal results. -/
theorem algebraic : letI := Cert.MemKvIdeal.Gen.facts; letI := Cert.MemKvRefIdeal.Gen.facts; Cert.algebraic_MemKvIdeal_MemKvRefIdeal := by
  pair_intro
  · run_from Cert.MemKvIdeal.Gen.run_main m g
  · run_from Cert.MemKvRefIdeal.Value.run m' g'
    · rw [Cert.MemKvRefIdeal.Read.val_main_v20_eq]
      erw [final_key m c]
      rw [Cert.MemKvRefIdeal.Hand.key_eq]
    · rw [Cert.MemKvRefIdeal.Read.val_main_v21_eq]
      erw [final_value m c]
      rw [Cert.MemKvRefIdeal.Hand.value_eq]

end Cert.MemKvIdeal.Hand

end
-- ==== Proof.MemKvNextValue.lean ====
module

public import proofs.«01_k».proof.Proof.Gen.MemKvNextIdeal.Frame
public import proofs.«01_k».proof.Proof.Spec
public import Idealize.ShloMosaic.Lib.Pipeline.ValueKit

@[expose] public section

set_option maxRecDepth 16384

noncomputable section

namespace Cert.MemKvNextIdeal.Hand

open Cert.MemKvNextIdeal Cert.MemKvNextIdeal.Gen Cert.Layer Idealize.ShloMosaic Idealize.ShloMosaic.TcCoe

/-- The normalised row. -/
theorem norm_apply (v0 : Vec Ideal S1024x1024 .f32) (v2 : Vec Ideal S1x1024 .f32) (r c : Fin 1024) :
    k0_pay1 v0 v2 (ix2 r c) = rms (fun k => v0 (ix2 r k)) (fun k => v2 (ix2 0 k)) c := by
  pointwise [k0_pay1]
  rfl

/-- A block's keys: head `h`, place `d` reads the weights' column `256 h + d`. -/
theorem key_apply (x : Vec Ideal S1024x1024 .f32) (g : Vec Ideal S1x1024 .f32) (w : Vec Ideal S1x1024x2048 .bf16) (r : Fin 1024) (h : Fin 4) (d : Fin 256) :
    out0_5 x g w (ix3 r h d) = proj (fun k => x (ix2 r k)) (fun k => g (ix2 0 k)) fun k => w (ix3 0 k ⟨h.val * 256 + d.val, by omega⟩) := by
  frame_out
  pointwise [k0_pay4, k0_pay2, norm_apply]
  rfl

/-- A block's values: head `h`, place `d` reads the weights' column `1024 + 256 h + d`. -/
theorem value_apply (x : Vec Ideal S1024x1024 .f32) (g : Vec Ideal S1x1024 .f32) (w : Vec Ideal S1x1024x2048 .bf16) (r : Fin 1024) (h : Fin 4) (d : Fin 256) :
    out0_6 x g w (ix3 r h d) = proj (fun k => x (ix2 r k)) (fun k => g (ix2 0 k)) fun k => w (ix3 0 k ⟨1024 + (h.val * 256 + d.val), by omega⟩) := by
  frame_out
  pointwise [k0_pay5, k0_pay3, norm_apply]
  rfl

variable (m : (ℓ : Loc nD τ sig) → Buf (Elt Ideal) ℓ)

/-- Where each window's block stands at a grid point. -/
theorem idx : ∀ t : Fin cfg0.N, win0_0.index t = ![t.val, 0] ∧ win0_1.index t = ![0, 0] ∧ win0_2.index t = ![1, 0, 0]
    ∧ win0_5.index t = ![t.val, 0, 0] ∧ win0_6.index t = ![t.val, 0, 0] := by
  have h : ∀ t : Fin grid0.N, win0_0.index t = ![t.val, 0] ∧ win0_1.index t = ![0, 0] ∧ win0_2.index t = ![1, 0, 0]
    ∧ win0_5.index t = ![t.val, 0, 0] ∧ win0_6.index t = ![t.val, 0, 0] := by decide +kernel
  exact h

/-- The block's rows are the memory's rows, stream after stream. -/
theorem blk0 (c : Dev nD) (t : Fin cfg0.N) (r k : Fin 1024) (h0 : (t.val * 1024 + r.val) / 256 < 8) (h1 : (t.val * 1024 + r.val) % 256 < 256) :
    iblk m c 0 t (ix2 r k) = m ((c : Thread nD τ).loc main_arg0) (ix3 ⟨(t.val * 1024 + r.val) / 256, h0⟩ ⟨(t.val * 1024 + r.val) % 256, h1⟩ k) := by
  blk_ext! [iblk, V, idx t]

/-- The norm's scale is the second layer's. -/
theorem blk1 (c : Dev nD) (t : Fin cfg0.N) (k : Fin 1024) :
    iblk m c 1 t (ix2 0 k) = m ((c : Thread nD τ).loc main_arg1) (ix2 1 k) := by
  blk_ext! [iblk, V, idx t]

/-- The weights are the second layer's. -/
theorem blk2 (c : Dev nD) (t : Fin cfg0.N) (k : Fin 1024) (j : Fin 2048) :
    iblk m c 2 t (ix3 0 k j) = m ((c : Thread nD τ).loc main_arg2) (ix3 1 k j) := by
  blk_ext [iblk, V, idx t]

/-- One half of the projection of the memory's rows, as one function of the arguments: the half begins at the weights' column `o`. -/
def G (o : Nat) (ho : o ≤ 1024) (x : (⟨S8x256x1024, .f32⟩ : BufTy).Contents (Elt Ideal)) (g : (⟨S2x1024, .f32⟩ : BufTy).Contents (Elt Ideal))
    (w : (⟨S2x1024x2048, .f32⟩ : BufTy).Contents (Elt Ideal)) : (⟨S2048x4x256, .f32⟩ : BufTy).Contents (Elt Ideal) := fun i =>
  proj (fun k => x (ix3 ⟨(i 0).val / 256, Nat.div_lt_of_lt_mul (i 0).isLt⟩ ⟨(i 0).val % 256, Nat.mod_lt _ (by decide)⟩ k))
    (fun k => g (ix2 1 k))
    fun k => w (ix3 1 k ⟨o + ((i 1).val * 256 + (i 2).val), by have h1 : (i 1).val < 4 := (i 1).isLt; have h2 : (i 2).val < 256 := (i 2).isLt; omega⟩)

/-- The array of keys after the run. -/
theorem final_key (c : Dev nD) : (dats m 0 c).arrAt 5 cfg0.N = G 0 (by decide) (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5]
  idx_vars y
  rw [key_apply]
  have e0 : (((View.whole main_v5_2).slice (win0_5.rect t)).emb (ix3 y0 y1 y2) 0).val = t.val * 1024 + y0.val := by
    blk_simp [idx t]
  have e1 : (((View.whole main_v5_2).slice (win0_5.rect t)).emb (ix3 y0 y1 y2) 1).val = y1.val := by blk_simp [idx t]
  have e2 : (((View.whole main_v5_2).slice (win0_5.rect t)).emb (ix3 y0 y1 y2) 2).val = y2.val := by blk_simp [idx t]
  have b0 : ∀ k, iblk m c 0 t (ix2 y0 k) = _ := fun k => blk0 m c t y0 k (by have := t.isLt; have : cfg0.grid.N = 2 := rfl; omega) (by omega)
  simp only [G, e0, e1, e2, b0, blk1, blk2, zero_add]

/-- The array of values after the run. -/
theorem final_value (c : Dev nD) : (dats m 0 c).arrAt 6 cfg0.N = G 1024 (by decide) (m ((c : Thread nD τ).loc main_arg0)) (m ((c : Thread nD τ).loc main_arg1))
    (m ((c : Thread nD τ).loc main_arg2)) := by
  refine (dats m 0 c).arrAt_eq_of_covers 6 _ (by decide +kernel) fun t hf y => ?_
  blk_simp
  rw [after0_6]
  idx_vars y
  rw [value_apply]
  have e0 : (((View.whole main_v5_3).slice (win0_6.rect t)).emb (ix3 y0 y1 y2) 0).val = t.val * 1024 + y0.val := by
    blk_simp [idx t]
  have e1 : (((View.whole main_v5_3).slice (win0_6.rect t)).emb (ix3 y0 y1 y2) 1).val = y1.val := by blk_simp [idx t]
  have e2 : (((View.whole main_v5_3).slice (win0_6.rect t)).emb (ix3 y0 y1 y2) 2).val = y2.val := by blk_simp [idx t]
  have b0 : ∀ k, iblk m c 0 t (ix2 y0 k) = _ := fun k => blk0 m c t y0 k (by have := t.isLt; have : cfg0.grid.N = 2 := rfl; omega) (by omega)
  simp only [G, e0, e1, e2, b0, blk1, blk2, zero_add]

end Cert.MemKvNextIdeal.Hand

end
-- ==== Proof.MemKvNextRef.lean ====
module

public import proofs.«01_k».proof.Proof.Gen.MemKvNextRefIdeal.Read
public import proofs.«01_k».proof.Proof.MemKvNextValue

@[expose] public section

set_option maxRecDepth 16384

noncomputable section

namespace Cert.MemKvNextRefIdeal.Hand

open Cert.MemKvNextRefIdeal Cert.MemKvNextRefIdeal.Read Cert.Layer Idealize.ShloMosaic

variable (x : (⟨S8x256x1024, .f32⟩ : BufTy).Contents (Elt Ideal)) (g : (⟨S2x1024, .f32⟩ : BufTy).Contents (Elt Ideal))
  (w : (⟨S2x1024x2048, .f32⟩ : BufTy).Contents (Elt Ideal))

/-- The normalised memory row. -/
theorem norm_apply (b : Fin 8) (t : Fin 256) (c : Fin 1024) :
    val_main_v14 x g (ix3 b t c) = rms (fun k => x (ix3 b t k)) (fun k => g (ix2 1 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's keys. -/
theorem key_eq : Cert.MemKvNextIdeal.Hand.G 0 (by decide) x g w = val_main_v20 x g w := by
  funext i
  idx_vars i
  pointwise [val_main_v20, val_main_v18, val_main_v17, val_main_v16, val_main_v15, norm_apply]
  simp only [Cert.MemKvNextIdeal.Hand.G, proj, Nat.zero_add]
  rfl

/-- The reference's values. -/
theorem value_eq : Cert.MemKvNextIdeal.Hand.G 1024 (by decide) x g w = val_main_v21 x g w := by
  funext i
  idx_vars i
  pointwise [val_main_v21, val_main_v19, val_main_v17, val_main_v16, val_main_v15, norm_apply]
  simp only [Cert.MemKvNextIdeal.Hand.G, proj, Nat.zero_add]
  rfl

end Cert.MemKvNextRefIdeal.Hand

end
-- ==== Proof.MemKvNextClaim.lean ====
module

public import proofs.«01_k».proof.Proof.MemKvNextRef
public import proofs.«01_k».proof.Defs

@[expose] public section

noncomputable section

namespace Cert.MemKvNextIdeal.Hand

open Idealize.ShloMosaic Idealize.SL.Sem

/-- The second layer's memory keys and values and their reference, at exact arithmetic, end with equal results. -/
theorem algebraic : letI := Cert.MemKvNextIdeal.Gen.facts; letI := Cert.MemKvNextRefIdeal.Gen.facts; Cert.algebraic_MemKvNextIdeal_MemKvNextRefIdeal := by
  pair_intro
  · run_from Cert.MemKvNextIdeal.Gen.run_main m g
  · run_from Cert.MemKvNextRefIdeal.Value.run m' g'
    · rw [Cert.MemKvNextRefIdeal.Read.val_main_v20_eq]
      erw [final_key m c]
      rw [Cert.MemKvNextRefIdeal.Hand.key_eq]
    · rw [Cert.MemKvNextRefIdeal.Read.val_main_v21_eq]
      erw [final_value m c]
      rw [Cert.MemKvNextRefIdeal.Hand.value_eq]

end Cert.MemKvNextIdeal.Hand

end
-- ==== Proof.Memory.lean ====
module

public import proofs.«01_k».proof.Proof.Spec
public import Idealize.ShloMosaic.Lib.IdealHost

@[expose] public section

noncomputable section

namespace Cert.Layer

open Idealize.ShloMosaic

/-- The heads' width to the power minus one half, as the layer's programs spell it. -/
abbrev headScale : EReal := Ideal.ofBits FTy.f32 0x3D800000#32

/-- It is one sixteenth. -/
theorem headScale_eq : headScale = (((1 : ℝ) / 16 : ℝ) : EReal) := by
  simp [headScale, Ideal.ofBits, Ideal.ieee, -EReal.coe_mul]; norm_num

/-- A sum times the heads' scale is the sum of the terms times it, infinite terms included. -/
theorem sum_mul_headScale {ι : Type} (s : Finset ι) (f : ι → EReal) : (∑ e ∈ s, f e) * headScale = ∑ e ∈ s, f e * headScale := by
  classical
  induction s using Finset.induction_on with
  | empty => simp
  | insert a s ha ih =>
    rw [Finset.sum_insert ha, Finset.sum_insert ha, ← ih]
    refine EReal.right_distrib_of_nonneg_of_ne_top ?_ ?_ _ _
    · rw [headScale_eq]; exact_mod_cast (by norm_num : (0 : ℝ) ≤ 1 / 16)
    · rw [headScale_eq]; exact EReal.coe_ne_top _

/-- The greatest of 256 scores. -/
def top (s : Fin 256 → EReal) : EReal := Finset.univ.fold max (Ideal.ofBits FTy.f32 0xFF800000#32) s

/-- Taking the greatest with the start value once more changes nothing. -/
theorem max_top (s : Fin 256 → EReal) : max (Ideal.ofBits FTy.f32 0xFF800000#32) (top s) = top s := by
  refine max_eq_right ?_
  unfold top
  rw [Finset.le_fold_max]
  exact Or.inl le_rfl

/-- The softmax of 256 scores. -/
def soft (s : Fin 256 → EReal) (j : Fin 256) : EReal :=
  Ideal.div (Ideal.exp (s j - top s)) (∑ i, Ideal.exp (s i - top s))

/-- One head's attention of one query over 256 memory places. -/
def attend (s : Fin 256 → EReal) (v : Fin 256 → Fin 256 → EReal) (d : Fin 256) : EReal := ∑ j, soft s j * v j d

/-- The score of a query's head against a memory place: the product over the head's 256 features, scaled; head `h` has the
    features from `256 h` on. -/
def score (q : Fin 1024 → EReal) (mk : Fin 256 → Fin 1024 → EReal) (h : Fin 4) (j : Fin 256) : EReal :=
  (∑ e : Fin 256, q ⟨h.val * 256 + e.val, by omega⟩ * mk j ⟨h.val * 256 + e.val, by omega⟩) * headScale

/-- All four heads' attention, side by side. -/
def heads (q : Fin 1024 → EReal) (mk mv : Fin 256 → Fin 1024 → EReal) (c : Fin 1024) : EReal :=
  attend (score q mk ⟨c.val / 256, by omega⟩) (fun j e => mv j ⟨c.val / 256 * 256 + e.val, by omega⟩) ⟨c.val % 256, by omega⟩

/-- The memory attention's residual of one row: the row plus the product of the heads' attention, the queries being products of
    the normalised row. -/
def memMid (x g : Fin 1024 → EReal) (wq : Fin 1024 → Fin 1024 → EReal) (mk mv : Fin 256 → Fin 1024 → EReal)
    (wo : Fin 1024 → Fin 1024 → EReal) (c : Fin 1024) : EReal :=
  x c + ∑ j, heads (fun i => ∑ k, rms x g k * wq k i) mk mv j * wo j c

/-- A row plus one product of another row. -/
def plusProduct (x o : Fin 1024 → EReal) (w : Fin 1024 → Fin 1024 → EReal) (c : Fin 1024) : EReal := x c + ∑ j, o j * w j c

/-- A head's scores do not change when the scale is put on the query. -/
theorem score_eq (q : Fin 1024 → EReal) (mk : Fin 256 → Fin 1024 → EReal) (h : Fin 4) (j : Fin 256) :
    score q mk h j = ∑ e : Fin 256, q ⟨h.val * 256 + e.val, by omega⟩ * headScale * mk j ⟨h.val * 256 + e.val, by omega⟩ := by
  unfold score
  rw [sum_mul_headScale]
  exact Finset.sum_congr rfl fun e _ => mul_right_comm _ _ _

/-- A column of the heads' attention read off the head that starts at feature `o`, the scale being on the query. -/
theorem heads_at (q : Fin 1024 → EReal) (mk mv : Fin 256 → Fin 1024 → EReal) (c : Fin 1024) (o : ℕ) (d : Fin 256) (h0 : o + 256 ≤ 1024)
    (h1 : o + d.val = c.val) (h2 : c.val / 256 * 256 = o) :
    attend (fun j => ∑ e : Fin 256, q ⟨o + e.val, by omega⟩ * headScale * mk j ⟨o + e.val, by omega⟩) (fun j e => mv j ⟨o + e.val, by omega⟩) d
      = heads q mk mv c := by
  subst h2
  unfold heads
  congr 1
  · funext j
    rw [score_eq]
  · exact Fin.ext (by dsimp only; omega)

/-- The same for the head at the first features. -/
theorem heads_at_zero (q : Fin 1024 → EReal) (mk mv : Fin 256 → Fin 1024 → EReal) (c : Fin 1024) (h : c.val < 256) :
    attend (fun j => ∑ e : Fin 256, q ⟨e.val, by omega⟩ * headScale * mk j ⟨e.val, by omega⟩) (fun j e => mv j ⟨e.val, by omega⟩)
      ⟨c.val, h⟩ = heads q mk mv c := by
  rw [← heads_at q mk mv c 0 ⟨c.val, h⟩ (by omega) (by dsimp only; omega) (by omega)]
  simp only [Nat.zero_add]

end Cert.Layer

end
-- ==== Proof.MemAttnFirstBlock.lean ====
module

public import proofs.«01_k».proof.Proof.Gen.MemAttnFirstIdeal.Frame
public import proofs.«01_k».proof.Proof.Memory
public import Idealize.ShloMosaic.Lib.Pipeline.ValueKit

@[expose] public section

set_option maxRecDepth 16384

noncomputable section

namespace Cert.MemAttnFirstIdeal.Hand

open Cert.MemAttnFirstIdeal Cert.MemAttnFirstIdeal.Gen Cert.Layer Idealize.ShloMosaic

/-- The row plus the product of the sparse attention's output. -/
theorem pay1_apply (v0 : Vec Ideal S1024x1024 .f32) (o : Vec Ideal S1024x1024 .bf16) (w : Vec Ideal S1x1024x1024 .bf16) (r c : Fin 1024) :
    k0_pay1 v0 o w (ix2 r c) = plusProduct (fun k => v0 (ix2 r k)) (fun j => o (ix2 r j)) (fun j k => w (ix3 0 j k)) c := by
  pointwise [k0_pay1]
  rfl

/-- The scaled queries. -/
theorem pay2_apply (v0 : Vec Ideal S1024x1024 .f32) (o : Vec Ideal S1024x1024 .bf16) (w : Vec Ideal S1x1024x1024 .bf16) (g : Vec Ideal S1x1024 .f32)
    (wq : Vec Ideal S1x1024x1024 .bf16) (r c : Fin 1024) :
    k0_pay2 v0 o w g wq (ix2 r c) = (∑ k, rms (plusProduct (fun k => v0 (ix2 r k)) (fun j => o (ix2 r j)) fun j k => w (ix3 0 j k))
        (fun k => g (ix2 0 k)) k * wq (ix3 0 k c)) * headScale := by
  pointwise [k0_pay2, pay1_apply]
  rfl

/-- The first head's scores. -/
theorem pay3_apply (v0 : Vec Ideal S1024x1024 .f32) (o : Vec Ideal S1024x1024 .bf16) (w : Vec Ideal S1x1024x1024 .bf16) (g : Vec Ideal S1x1024 .f32)
    (wq : Vec Ideal S1x1024x1024 .bf16) (a : Vec Ideal S1x256x256 .f32) (r : Fin 1024) (j : Fin 256) :
    k0_pay3 v0 o w g wq a (ix2 r j) = ∑ e : Fin 256, k0_pay2 v0 o w g wq (ix2 r ⟨e.val, by omega⟩) * a (ix3 0 j e) := by
  pointwise [k0_pay3]

/-- The first head's greatest score. -/
theorem pay4_apply (v0 : Vec Ideal S1024x1024 .f32) (o : Vec Ideal S1024x1024 .bf16) (w : Vec Ideal S1x1024x1024 .bf16) (g : Vec Ideal S1x1024 .f32)
    (wq : Vec Ideal S1x1024x1024 .bf16) (a : Vec Ideal S1x256x256 .f32) (r : Fin 1024) :
    k0_pay4 v0 o w g wq a (ix2 r 0) = top (fun j => k0_pay3 v0 o w g wq a (ix2 r j)) := by
  pointwise [k0_pay4]
  rfl

/-- A head's output from its scores and their greatest. -/
theorem pay5_apply (s : FVec Ideal S1024x256 .f32) (m : FVec Ideal S1024x1 .f32) (b : Vec Ideal S1x256x256 .f32) (r : Fin 1024) (d : Fin 256) :
    k0_pay5 s m b (ix2 r d)
      = ∑ j, Ideal.div (Ideal.exp (s (ix2 r j) - m (ix2 r 0))) (∑ i, Ideal.exp (s (ix2 r i) - m (ix2 r 0))) * b (ix3 0 j d) := by
  pointwise [k0_pay5]

/-- The second head's output. -/
theorem pay6_apply (q : FVec Ideal S1024x1024 .bf16) (a b : Vec Ideal S1x256x256 .f32) (r : Fin 1024) (d : Fin 256) :
    k0_pay6 q a b (ix2 r d)
      = attend (fun j => ∑ e : Fin 256, q (ix2 r ⟨256 + e.val, by omega⟩) * a (ix3 0 j e)) (fun j e => b (ix3 0 j e)) d := by
  pointwise [k0_pay6]
  rfl

/-- The third head's scores. -/
theorem pay7_apply (q : FVec Ideal S1024x1024 .bf16) (a : Vec Ideal S1x256x256 .f32) (r : Fin 1024) (j : Fin 256) :
    k0_pay7 q a (ix2 r j) = ∑ e : Fin 256, q (ix2 r ⟨512 + e.val, by omega⟩) * a (ix3 0 j e) := by
  pointwise [k0_pay7]

/-- The third head's greatest score. -/
theorem pay8_apply (q : FVec Ideal S1024x1024 .bf16) (a : Vec Ideal S1x256x256 .f32) (r : Fin 1024) :
    k0_pay8 q a (ix2 r 0) = top (fun j => k0_pay7 q a (ix2 r j)) := by
  pointwise [k0_pay8]
  rfl

/-- The four heads laid side by side, times the output weights, added to the row. -/
theorem pay9_apply (y : FVec Ideal S1024x1024 .f32) (q : FVec Ideal S1024x1024 .bf16) (o0 o1 : FVec Ideal S1024x256 .bf16)
    (s2 : FVec Ideal S1024x256 .f32) (m2 : FVec Ideal S1024x1 .f32) (b2 a3 b3 : Vec Ideal S1x256x256 .f32)
    (w : Vec Ideal S1x1024x1024 .bf16) (r c : Fin 1024) :
    k0_pay9 y q o0 o1 s2 m2 b2 a3 b3 w (ix2 r c) = y (ix2 r c) + ∑ j : Fin 1024,
      (if h0 : j.val < 256 then o0 (ix2 r ⟨j.val, h0⟩)
        else if h1 : j.val - 256 < 256 then o1 (ix2 r ⟨j.val - 256, h1⟩)
        else if h2 : j.val - 256 - 256 < 256 then
          ∑ i, Ideal.div (Ideal.exp (s2 (ix2 r i) - m2 (ix2 r 0))) (∑ i, Ideal.exp (s2 (ix2 r i) - m2 (ix2 r 0)))
            * b2 (ix3 0 i ⟨j.val - 256 - 256, h2⟩)
        else attend (fun i => ∑ e : Fin 256, q (ix2 r ⟨768 + e.val, by omega⟩) * a3 (ix3 0 i e)) (fun i e => b3 (ix3 0 i e))
          ⟨j.val - 256 - 256 - 256, by omega⟩) * w (ix3 0 j c) := by
  pointwise [k0_pay9]
  rfl

/-- The memory attention's residual of a block's row, read off the staged blocks. -/
theorem out_apply (x : Vec Ideal S1024x1024 .f32) (o : Vec Ideal S1024x1024 .bf16) (w : Vec Ideal S1x1024x1024 .bf16)
    (g : Vec Ideal S1x1024 .f32) (wq : Vec Ideal S1x1024x1024 .bf16)
    (mk mv : Vec Ideal S1x256x1024 .f32) (wo : Vec Ideal S1x1024x1024 .bf16) (r c : Fin 1024) :
    out0_8 x o w g wq mk mv wo (ix2 r c)
      = memMid (plusProduct (fun k => x (ix2 r k)) (fun j => o (ix2 r j)) fun j k => w (ix3 0 j k)) (fun k => g (ix2 0 k))
          (fun k j => wq (ix3 0 k j)) (fun i k => mk (ix3 0 i k)) (fun i k => mv (ix3 0 i k)) (fun j k => wo (ix3 0 j k)) c := by
  frame_out
  pointwise [k0_pay10, pay9_apply, pay1_apply, pay2_apply, pay3_apply, pay4_apply, pay5_apply, pay6_apply, pay7_apply, pay8_apply]
  refine congrArg (plusProduct (fun k => x (ix2 r k)) (fun j => o (ix2 r j)) (fun j k => w (ix3 0 j k)) c + ·)
    (Finset.sum_congr rfl fun j _ => congrArg (· * wo (ix3 0 j c)) ?_)
  split_ifs with h0 h1 h2
  · exact heads_at_zero (fun i => ∑ k, rms (plusProduct (fun k => x (ix2 r k)) (fun j => o (ix2 r j)) fun j k => w (ix3 0 j k)) (fun k => g (ix2 0 k)) k
        * wq (ix3 0 k i)) (fun i k => mk (ix3 0 i k)) (fun i k => mv (ix3 0 i k)) j h0
  · exact heads_at (fun i => ∑ k, rms (plusProduct (fun k => x (ix2 r k)) (fun j => o (ix2 r j)) fun j k => w (ix3 0 j k)) (fun k => g (ix2 0 k)) k
        * wq (ix3 0 k i)) (fun i k => mk (ix3 0 i k)) (fun i k => mv (ix3 0 i k)) j 256 ⟨j.val - 256, by omega⟩
      (by omega) (by dsimp only; omega) (by omega)
  · exact heads_at (fun i => ∑ k, rms (plusProduct (fun k => x (ix2 r k)) (fun j => o (ix2 r j)) fun j k => w (ix3 0 j k)) (fun k => g (ix2 0 k)) k
        * wq (ix3 0 k i)) (fun i k => mk (ix3 0 i k)) (fun i k => mv (ix3 0 i k)) j 512 ⟨j.val - 256 - 256, by omega⟩
      (by omega) (by dsimp only; omega) (by omega)
  · exact heads_at (fun i => ∑ k, rms (plusProduct (fun k => x (ix2 r k)) (fun j => o (ix2 r j)) fun j k => w (ix3 0 j k)) (fun k => g (ix2 0 k)) k
        * wq (ix3 0 k i)) (fun i k => mk (ix3 0 i k)) (fun i k => mv (ix3 0 i k)) j 768 ⟨j.val - 256 - 256 - 256, by omega⟩
      (by omega) (by dsimp only; omega) (by omega)

end Cert.MemAttnFirstIdeal.Hand

end
-- ==== Proof.MemAttnFirstArray.lean ====
module

public import proofs.«01_k».proof.Proof.MemAttnFirstBlock

@[expose] public section

set_option maxRecDepth 16384

noncomputable section

namespace Cert.MemAttnFirstIdeal.Hand

open Cert.MemAttnFirstIdeal Cert.MemAttnFirstIdeal.Gen Cert.Layer Idealize.ShloMosaic Idealize.ShloMosaic.TcCoe

/-- The result as one function of the arguments: row `r` of the result is the memory attention's residual of the sparse attention's
    residual of token `r` of the prompts, laid out one after another, with the first layer's weights and the memory of the token's own prompt, whose four
    heads' features are laid side by side. -/
def G (x : (⟨S8x4096x1024, .f32⟩ : BufTy).Contents (Elt Ideal)) (o : (⟨S8x4096x1024, .bf16⟩ : BufTy).Contents (Elt Ideal))
    (w : (⟨S1x1024x1024, .f32⟩ : BufTy).Contents (Elt Ideal)) (g : (⟨S2x1024, .f32⟩ : BufTy).Contents (Elt Ideal))
    (wq : (⟨S2x1024x1024, .f32⟩ : BufTy).Contents (Elt Ideal)) (mk mv : (⟨S8x256x4x256, .f32⟩ : BufTy).Contents (Elt Ideal))
    (wo : (⟨S2x1024x1024, .f32⟩ : BufTy).Contents (Elt Ideal)) : (⟨S32768x1024, .f32⟩ : BufTy).Contents (Elt Ideal) := fun i =>
  memMid (plusProduct (fun k => x (ix3 ⟨(i 0).val / 4096, Nat.div_lt_of_lt_mul (i 0).isLt⟩ ⟨(i 0).val % 4096, Nat.mod_lt _ (by decide)⟩ k))
      (fun k => o (ix3 ⟨(i 0).val / 4096, Nat.div_lt_of_lt_mul (i 0).isLt⟩ ⟨(i 0).val % 4096, Nat.mod_lt _ (by decide)⟩ k)) fun j k => w (ix3 0 j k))
    (fun k => g (ix2 0 k)) (fun k j => wq (ix3 0 k j))
    (fun j k => mk (ix4 ⟨(i 0).val / 4096, Nat.div_lt_of_lt_mul (i 0).isLt⟩ j ⟨k.val / 256, by omega⟩ ⟨k.val % 256, by omega⟩))
    (fun j k => mv (ix4 ⟨(i 0).val / 4096, Nat.div_lt_of_lt_mul (i 0).isLt⟩ j ⟨k.val / 256, by omega⟩ ⟨k.val % 256, by omega⟩))
    (fun j k => wo (ix3 0 j k)) (i 1)

variable (m : (ℓ : Loc nD τ sig) → Buf (Elt Ideal) ℓ)

/-- Where each window's block stands at a grid point: the token blocks move with it, the memory moves every fourth point, and the
    weights stay at the first layer. -/
theorem idx : ∀ t : Fin cfg0.N, win0_0.index t = ![t.val, 0] ∧ win0_1.index t = ![t.val, 0] ∧ win0_2.index t = ![0, 0, 0]
    ∧ win0_3.index t = ![0, 0] ∧ win0_4.index t = ![0, 0, 0] ∧ win0_5.index t = ![t.val / 4, 0, 0]
    ∧ win0_6.index t = ![t.val / 4, 0, 0] ∧ win0_7.index t = ![0, 0, 0]
    ∧ win0_8.index t = ![t.val, 0] := by
  have h : ∀ t : Fin grid0.N, win0_0.index t = ![t.val, 0] ∧ win0_1.index t = ![t.val, 0] ∧ win0_2.index t = ![0, 0, 0]
    ∧ win0_3.index t = ![0, 0] ∧ win0_4.index t = ![0, 0, 0] ∧ win0_5.index t = ![t.val / 4, 0, 0]
    ∧ win0_6.index t = ![t.val / 4, 0, 0] ∧ win0_7.index t = ![0, 0, 0]
    ∧ win0_8.index t = ![t.val, 0] := by decide +kernel
  exact h

/-- The token block's rows are the tokens' rows. -/
theorem blk0 (c : Dev nD) (t : Fin cfg0.N) (r k : Fin 1024) (h0 : (t.val * 1024 + r.val) / 4096 < 8) (h1 : (t.val * 1024 + r.val) % 4096 < 4096) :
    iblk m c 0 t (ix2 r k) = m ((c : Thread nD τ).loc main_arg0) (ix3 ⟨(t.val * 1024 + r.val) / 4096, h0⟩ ⟨(t.val * 1024 + r.val) % 4096, h1⟩ k) := by
  blk_ext! [iblk, V, idx t]

/-- The sparse attention's block has the same rows. -/
theorem blk1 (c : Dev nD) (t : Fin cfg0.N) (r k : Fin 1024) (h0 : (t.val * 1024 + r.val) / 4096 < 8) (h1 : (t.val * 1024 + r.val) % 4096 < 4096) :
    iblk m c 1 t (ix2 r k) = m ((c : Thread nD τ).loc main_arg1) (ix3 ⟨(t.val * 1024 + r.val) / 4096, h0⟩ ⟨(t.val * 1024 + r.val) % 4096, h1⟩ k) := by
  blk_ext! [iblk, V, idx t]

/-- The sparse attention's output weights are the whole array. -/
theorem blk2 (c : Dev nD) (t : Fin cfg0.N) (k j : Fin 1024) :
    iblk m c 2 t (ix3 0 k j) = m ((c : Thread nD τ).loc main_arg2) (ix3 0 k j) := by
  blk_ext [iblk, V, idx t]

/-- The norm's scale is the first layer's. -/
theorem blk3 (c : Dev nD) (t : Fin cfg0.N) (k : Fin 1024) :
    iblk m c 3 t (ix2 0 k) = m ((c : Thread nD τ).loc main_arg3) (ix2 0 k) := by
  blk_ext! [iblk, V, idx t]

/-- The query weights are the first layer's. -/
theorem blk4 (c : Dev nD) (t : Fin cfg0.N) (k j : Fin 1024) :
    iblk m c 4 t (ix3 0 k j) = m ((c : Thread nD τ).loc main_arg4) (ix3 0 k j) := by
  blk_ext [iblk, V, idx t]

/-- The memory's keys are those of the block's prompt. -/
theorem blk5 (c : Dev nD) (t : Fin cfg0.N) (j : Fin 256) (k : Fin 1024) (b : ℕ) (hb : b < 8) (h : b = t.val / 4) :
    iblk m c 5 t (ix3 0 j k) = m ((c : Thread nD τ).loc main_arg5) (ix4 ⟨b, hb⟩ j ⟨k.val / 256, by omega⟩ ⟨k.val % 256, by omega⟩) := by
  subst h
  blk_ext! [iblk, V, idx t]

/-- The memory's values are those of the block's prompt. -/
theorem blk6 (c : Dev nD) (t : Fin cfg0.N) (j : Fin 256) (k : Fin 1024) (b : ℕ) (hb : b < 8) (h : b = t.val / 4) :
    iblk m c 6 t (ix3 0 j k) = m ((c : Thread nD τ).loc main_arg6) (ix4 ⟨b, hb⟩ j ⟨k.val / 256, by omega⟩ ⟨k.val % 256, by omega⟩) := by
  subst h
  blk_ext! [iblk, V, idx t]

/-- The output weights are the first layer's. -/
theorem blk7 (c : Dev nD) (t : Fin cfg0.N) (j k : Fin 1024) :
    iblk m c 7 t (ix3 0 j k) = m ((c : Thread nD τ).loc main_arg7) (ix3 0 j k) := by
  blk_ext [iblk, V, idx t]

/-- The result array after the run. -/
theorem final (c : Dev nD) : (dats m 0 c).arrAt 8 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  idx_vars y
  rw [out_apply]
  have e0 : (((View.whole main_v10).slice (win0_8.rect t)).emb (ix2 y0 y1) 0).val = t.val * 1024 + y0.val := by
    blk_simp [idx t]
  have e1 : ((View.whole main_v10).slice (win0_8.rect t)).emb (ix2 y0 y1) 1 = y1 := Fin.ext (by blk_simp [idx t])
  have ht : t.val < 32 := t.isLt
  have b0 : ∀ k, iblk m c 0 t (ix2 y0 k) = _ := fun k => blk0 m c t y0 k (by omega) (by omega)
  have b1 : ∀ k, iblk m c 1 t (ix2 y0 k) = _ := fun k => blk1 m c t y0 k (by omega) (by omega)
  have b5 : ∀ j k, iblk m c 5 t (ix3 0 j k) = _ := fun j k => blk5 m c t j k ((t.val * 1024 + y0.val) / 4096) (by omega) (by omega)
  have b6 : ∀ j k, iblk m c 6 t (ix3 0 j k) = _ := fun j k => blk6 m c t j k ((t.val * 1024 + y0.val) / 4096) (by omega) (by omega)
  simp only [G, e0, e1, b0, b1, blk2, blk3, blk4, b5, b6, blk7]

end Cert.MemAttnFirstIdeal.Hand

end
-- ==== Proof.MemAttnFirstRef.lean ====
module

public import proofs.«01_k».proof.Proof.Gen.MemAttnFirstRefIdeal.Read
public import proofs.«01_k».proof.Proof.MemAttnFirstArray

@[expose] public section

set_option maxRecDepth 16384

noncomputable section

namespace Cert.MemAttnFirstRefIdeal.Hand

open Cert.MemAttnFirstRefIdeal Cert.MemAttnFirstRefIdeal.Read Cert.Layer Idealize.ShloMosaic

variable (x : (⟨S8x4096x1024, .f32⟩ : BufTy).Contents (Elt Ideal)) (o : (⟨S8x4096x1024, .bf16⟩ : BufTy).Contents (Elt Ideal))
  (w : (⟨S1x1024x1024, .f32⟩ : BufTy).Contents (Elt Ideal)) (g : (⟨S2x1024, .f32⟩ : BufTy).Contents (Elt Ideal))
  (wq : (⟨S2x1024x1024, .f32⟩ : BufTy).Contents (Elt Ideal)) (mk mv : (⟨S8x256x4x256, .f32⟩ : BufTy).Contents (Elt Ideal))
  (wo : (⟨S2x1024x1024, .f32⟩ : BufTy).Contents (Elt Ideal))

/-- The sparse attention's residual of a token. -/
theorem first_apply (b : Fin 8) (t : Fin 4096) (c : Fin 1024) :
    val_main_v3 x o w (ix3 b t c) = plusProduct (fun k => x (ix3 b t k)) (fun k => o (ix3 b t k)) (fun j k => w (ix3 0 j k)) c := by
  pointwise [val_main_v3, val_main_v2, val_main_v1, val_main_v0]
  rfl

/-- The normalised residual. -/
theorem norm_apply (b : Fin 8) (t : Fin 4096) (c : Fin 1024) :
    val_main_v18 x o w g (ix3 b t c) = rms (fun k => val_main_v3 x o w (ix3 b t k)) (fun k => g (ix2 0 k)) c := by
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  rfl

/-- A token's query. -/
theorem query_apply (b : Fin 8) (t : Fin 4096) (c : Fin 1024) :
    val_main_v23 x o w g wq (ix3 b t c) = ∑ k, rms (fun k => val_main_v3 x o w (ix3 b t k)) (fun k => g (ix2 0 k)) k * wq (ix3 0 k c) := by
  pointwise [val_main_v23, val_main_v20, val_main_v19, norm_apply]

/-- The scores of a token's head. -/
theorem score_apply (b : Fin 8) (h : Fin 4) (t : Fin 4096) (j : Fin 256) :
    val_main_v27 x o w g wq mk (ix4 b h t j) = score (fun i => val_main_v23 x o w g wq (ix3 b t i))
      (fun j k => mk (ix4 b j ⟨k.val / 256, by omega⟩ ⟨k.val % 256, by omega⟩)) h j := by
  pointwise [val_main_v27, val_main_v26, val_main_v25, val_main_v24, val_main_cst_2]
  refine congrArg (· * headScale) (Finset.sum_congr rfl fun e _ => congrArg _ (congrArg mk (congrArg₂ (ix4 b j) (Fin.ext ?_) (Fin.ext ?_))))
  all_goals dsimp only; omega

/-- The greatest of a row of scores, as the reference takes it. -/
theorem reduce_apply (v : FVec Ideal S8x4x4096x256 .f32) (c : FVec Ideal S_ .f32) (hr : S8x4x4096x256.ReducesTo [3] S8x4x4096)
    (h1 : 0 < S_.numel) (b : Fin 8) (h : Fin 4) (t : Fin 4096) :
    Host.reduce FloatOps.maximumf v c hr h1 (ix3 b h t)
      = Finset.univ.fold max (c (Shape.Idx.first h1)) (fun j => v (ix4 b h t j)) := by
  simp only [pointwise]

/-- The greatest score of a token's head. -/
theorem top_apply (b : Fin 8) (h : Fin 4) (t : Fin 4096) :
    val_main_v30 x o w g wq mk (ix3 b h t) = top (fun j => val_main_v27 x o w g wq mk (ix4 b h t j)) := by
  rw [val_main_v30_apply, val_main_v29_apply, val_main_cst_4_apply]
  unfold val_main_v28
  rw [reduce_apply, val_main_cst_3_apply]
  exact max_top _

/-- The weights of a token's head over the memory. -/
theorem soft_apply (b : Fin 8) (h : Fin 4) (t : Fin 4096) (j : Fin 256) :
    val_main_v38 x o w g wq mk (ix4 b h t j) = soft (fun j => val_main_v27 x o w g wq mk (ix4 b h t j)) j := by
  pointwise [val_main_v38, val_main_v37, val_main_v36, val_main_v35, val_main_v34, val_main_v33, val_main_v32, val_main_v31, val_main_cst_5,
    top_apply]
  rfl

/-- The four heads' attention laid side by side. -/
theorem heads_apply (b : Fin 8) (t : Fin 4096) (c : Fin 1024) :
    val_main_v41 x o w g wq mk mv (ix3 b t c) = heads (fun i => val_main_v23 x o w g wq (ix3 b t i))
      (fun j k => mk (ix4 b j ⟨k.val / 256, by omega⟩ ⟨k.val % 256, by omega⟩))
      (fun j k => mv (ix4 b j ⟨k.val / 256, by omega⟩ ⟨k.val % 256, by omega⟩)) c := by
  pointwise [val_main_v41, val_main_v40, val_main_v39, soft_apply]
  unfold heads attend
  refine Finset.sum_congr rfl fun j _ => (mul_comm _ _).trans
    (congrArg₂ (· * ·) (by simp only [score_apply]) (congrArg mv (congrArg₂ (ix4 b j) (Fin.ext ?_) (Fin.ext ?_))))
  all_goals dsimp only; omega

/-- The reference's result at a row and a feature. -/
theorem out_apply (r : Fin 32768) (c : Fin 1024) (h0 : r.val / 4096 < 8) (h1 : r.val % 4096 < 4096) :
    val_main_v44 x o w g wq mk mv wo (ix2 r c) = memMid (plusProduct (fun k => x (ix3 ⟨r.val / 4096, h0⟩ ⟨r.val % 4096, h1⟩ k))
        (fun k => o (ix3 ⟨r.val / 4096, h0⟩ ⟨r.val % 4096, h1⟩ k)) fun j k => w (ix3 0 j k)) (fun k => g (ix2 0 k))
      (fun k j => wq (ix3 0 k j)) (fun j k => mk (ix4 ⟨r.val / 4096, h0⟩ j ⟨k.val / 256, by omega⟩ ⟨k.val % 256, by omega⟩))
      (fun j k => mv (ix4 ⟨r.val / 4096, h0⟩ j ⟨k.val / 256, by omega⟩ ⟨k.val % 256, by omega⟩)) (fun j k => wo (ix3 0 j k)) c := by
  pointwise [val_main_v44, val_main_v43, val_main_v42, val_main_v22, val_main_v21, heads_apply, query_apply, first_apply]
  rfl

/-- The kernel's function of the arguments is the reference's result. -/
theorem eq_G : Cert.MemAttnFirstIdeal.Hand.G x o w g wq mk mv wo = val_main_v44 x o w g wq mk mv wo := by
  funext i
  idx_vars i
  rw [out_apply]
  rfl

end Cert.MemAttnFirstRefIdeal.Hand

end
-- ==== Proof.MemAttnFirstClaim.lean ====
module

public import proofs.«01_k».proof.Proof.MemAttnFirstRef
public import proofs.«01_k».proof.Defs

@[expose] public section

noncomputable section

namespace Cert.MemAttnFirstIdeal.Hand

open Idealize.ShloMosaic Idealize.SL.Sem

/-- The memory attention of the first layer and its reference, at exact arithmetic, end with equal results. -/
theorem algebraic : letI := Cert.MemAttnFirstIdeal.Gen.facts; letI := Cert.MemAttnFirstRefIdeal.Gen.facts; Cert.algebraic_MemAttnFirstIdeal_MemAttnFirstRefIdeal := by
  pair_intro
  · run_from Cert.MemAttnFirstIdeal.Gen.run_main m g
  · run_from Cert.MemAttnFirstRefIdeal.Value.run m' g'
    obtain ⟨h0, h1, h2, h3, h4, h5, h6, h7⟩ := hagree c
    rw [Cert.MemAttnFirstRefIdeal.Read.val_main_v44_eq]
    erw [final m c]
    rw [Cert.MemAttnFirstRefIdeal.Hand.eq_G, h0, h1, h2, h3, h4, h5, h6, h7]

end Cert.MemAttnFirstIdeal.Hand

end
-- ==== Proof.MemAttnBlock.lean ====
module

public import proofs.«01_k».proof.Proof.Gen.MemAttnIdeal.Frame
public import proofs.«01_k».proof.Proof.Memory
public import Idealize.ShloMosaic.Lib.Pipeline.ValueKit

@[expose] public section

set_option maxRecDepth 16384

noncomputable section

namespace Cert.MemAttnIdeal.Hand

open Cert.MemAttnIdeal Cert.MemAttnIdeal.Gen Cert.Layer Idealize.ShloMosaic

/-- The scaled queries. -/
theorem pay3_apply (v0 : Vec Ideal S1024x1024 .f32) (v2 : Vec Ideal S1x1024 .f32) (w : Vec Ideal S1x1024x1024 .bf16) (r c : Fin 1024) :
    k0_pay3 v0 v2 w (ix2 r c) = (∑ k, rms (fun k => v0 (ix2 r k)) (fun k => v2 (ix2 0 k)) k * w (ix3 0 k c)) * headScale := by
  pointwise [k0_pay3, k0_pay2]
  rfl

/-- The first head's weights over the memory. -/
theorem pay4_apply (v0 : Vec Ideal S1024x1024 .f32) (v2 : Vec Ideal S1x1024 .f32) (w : Vec Ideal S1x1024x1024 .bf16)
    (a : Vec Ideal S1x256x256 .f32) (r : Fin 1024) (j : Fin 256) :
    k0_pay4 v0 v2 w a (ix2 r j)
      = soft (fun j => ∑ e : Fin 256, k0_pay3 v0 v2 w (ix2 r ⟨e.val, by omega⟩) * a (ix3 0 j e)) j := by
  pointwise [k0_pay4]
  rfl

/-- A head's output is the product of its weights with the memory's values. -/
theorem pay5_apply (p : FVec Ideal S1024x256 .bf16) (b : Vec Ideal S1x256x256 .f32) (r : Fin 1024) (d : Fin 256) :
    k0_pay5 p b (ix2 r d) = ∑ j, p (ix2 r j) * b (ix3 0 j d) := by
  pointwise [k0_pay5]

/-- The second head's output. -/
theorem pay6_apply (q : FVec Ideal S1024x1024 .bf16) (a b : Vec Ideal S1x256x256 .f32) (r : Fin 1024) (d : Fin 256) :
    k0_pay6 q a b (ix2 r d)
      = attend (fun j => ∑ e : Fin 256, q (ix2 r ⟨256 + e.val, by omega⟩) * a (ix3 0 j e)) (fun j e => b (ix3 0 j e)) d := by
  pointwise [k0_pay6]
  rfl

/-- The third head's weights over the memory. -/
theorem pay7_apply (q : FVec Ideal S1024x1024 .bf16) (a : Vec Ideal S1x256x256 .f32) (r : Fin 1024) (j : Fin 256) :
    k0_pay7 q a (ix2 r j) = soft (fun j => ∑ e : Fin 256, q (ix2 r ⟨512 + e.val, by omega⟩) * a (ix3 0 j e)) j := by
  pointwise [k0_pay7]
  rfl

/-- The four heads laid side by side, times the output weights, added to the row. -/
theorem pay1_apply (y : FVec Ideal S1024x1024 .f32) (q : FVec Ideal S1024x1024 .bf16) (o0 o1 p2 : FVec Ideal S1024x256 .bf16)
    (b2 a3 b3 : Vec Ideal S1x256x256 .f32) (w : Vec Ideal S1x1024x1024 .bf16) (r c : Fin 1024) :
    k0_pay1 y q o0 o1 p2 b2 a3 b3 w (ix2 r c) = y (ix2 r c) + ∑ j : Fin 1024,
      (if h0 : j.val < 256 then o0 (ix2 r ⟨j.val, h0⟩)
        else if h1 : j.val - 256 < 256 then o1 (ix2 r ⟨j.val - 256, h1⟩)
        else if h2 : j.val - 256 - 256 < 256 then ∑ i, p2 (ix2 r i) * b2 (ix3 0 i ⟨j.val - 256 - 256, h2⟩)
        else attend (fun i => ∑ e : Fin 256, q (ix2 r ⟨768 + e.val, by omega⟩) * a3 (ix3 0 i e)) (fun i e => b3 (ix3 0 i e))
          ⟨j.val - 256 - 256 - 256, by omega⟩) * w (ix3 0 j c) := by
  pointwise [k0_pay1]
  rfl

/-- The memory attention's residual of a block's row, read off the staged blocks. -/
theorem out_apply (x : Vec Ideal S1024x1024 .f32) (g : Vec Ideal S1x1024 .f32) (wq : Vec Ideal S1x1024x1024 .bf16)
    (mk mv : Vec Ideal S1x256x1024 .f32) (wo : Vec Ideal S1x1024x1024 .bf16) (r c : Fin 1024) :
    out0_6 x g wq mk mv wo (ix2 r c)
      = memMid (fun k => x (ix2 r k)) (fun k => g (ix2 0 k)) (fun k j => wq (ix3 0 k j)) (fun i k => mk (ix3 0 i k))
          (fun i k => mv (ix3 0 i k)) (fun j k => wo (ix3 0 j k)) c := by
  frame_out
  pointwise [k0_pay2, k0_pay8, pay1_apply, pay3_apply, pay4_apply, pay5_apply, pay6_apply, pay7_apply]
  refine congrArg (x (ix2 r c) + ·) (Finset.sum_congr rfl fun j _ => congrArg (· * wo (ix3 0 j c)) ?_)
  split_ifs with h0 h1 h2
  · exact heads_at_zero (fun i => ∑ k, rms (fun k => x (ix2 r k)) (fun k => g (ix2 0 k)) k * wq (ix3 0 k i)) (fun i k => mk (ix3 0 i k))
      (fun i k => mv (ix3 0 i k)) j h0
  · exact heads_at (fun i => ∑ k, rms (fun k => x (ix2 r k)) (fun k => g (ix2 0 k)) k * wq (ix3 0 k i)) (fun i k => mk (ix3 0 i k))
      (fun i k => mv (ix3 0 i k)) j 256 ⟨j.val - 256, by omega⟩ (by omega) (by dsimp only; omega) (by omega)
  · exact heads_at (fun i => ∑ k, rms (fun k => x (ix2 r k)) (fun k => g (ix2 0 k)) k * wq (ix3 0 k i)) (fun i k => mk (ix3 0 i k))
      (fun i k => mv (ix3 0 i k)) j 512 ⟨j.val - 256 - 256, by omega⟩ (by omega) (by dsimp only; omega) (by omega)
  · exact heads_at (fun i => ∑ k, rms (fun k => x (ix2 r k)) (fun k => g (ix2 0 k)) k * wq (ix3 0 k i)) (fun i k => mk (ix3 0 i k))
      (fun i k => mv (ix3 0 i k)) j 768 ⟨j.val - 256 - 256 - 256, by omega⟩ (by omega) (by dsimp only; omega) (by omega)

end Cert.MemAttnIdeal.Hand

end
-- ==== Proof.MemAttnArray.lean ====
module

public import proofs.«01_k».proof.Proof.MemAttnBlock

@[expose] public section

set_option maxRecDepth 16384

noncomputable section

namespace Cert.MemAttnIdeal.Hand

open Cert.MemAttnIdeal Cert.MemAttnIdeal.Gen Cert.Layer Idealize.ShloMosaic Idealize.ShloMosaic.TcCoe

/-- The result as one function of the arguments: row `r` of the result is the memory attention's residual of token `r` of the
    prompts, laid out one after another, with the second layer's weights and the memory of the token's own prompt, whose four
    heads' features are laid side by side. -/
def G (x : (⟨S8x4096x1024, .f32⟩ : BufTy).Contents (Elt Ideal)) (g : (⟨S2x1024, .f32⟩ : BufTy).Contents (Elt Ideal))
    (wq : (⟨S2x1024x1024, .f32⟩ : BufTy).Contents (Elt Ideal)) (mk mv : (⟨S8x256x4x256, .f32⟩ : BufTy).Contents (Elt Ideal))
    (wo : (⟨S2x1024x1024, .f32⟩ : BufTy).Contents (Elt Ideal)) : (⟨S32768x1024, .f32⟩ : BufTy).Contents (Elt Ideal) := fun i =>
  memMid (fun k => x (ix3 ⟨(i 0).val / 4096, Nat.div_lt_of_lt_mul (i 0).isLt⟩ ⟨(i 0).val % 4096, Nat.mod_lt _ (by decide)⟩ k))
    (fun k => g (ix2 1 k)) (fun k j => wq (ix3 1 k j))
    (fun j k => mk (ix4 ⟨(i 0).val / 4096, Nat.div_lt_of_lt_mul (i 0).isLt⟩ j ⟨k.val / 256, by omega⟩ ⟨k.val % 256, by omega⟩))
    (fun j k => mv (ix4 ⟨(i 0).val / 4096, Nat.div_lt_of_lt_mul (i 0).isLt⟩ j ⟨k.val / 256, by omega⟩ ⟨k.val % 256, by omega⟩))
    (fun j k => wo (ix3 1 j k)) (i 1)

variable (m : (ℓ : Loc nD τ sig) → Buf (Elt Ideal) ℓ)

/-- Where each window's block stands at a grid point: the token blocks move with it, the memory moves every fourth point, and the
    weights stay at the second layer. -/
theorem idx : ∀ t : Fin cfg0.N, win0_0.index t = ![t.val, 0] ∧ win0_1.index t = ![0, 0] ∧ win0_2.index t = ![1, 0, 0]
    ∧ win0_3.index t = ![t.val / 4, 0, 0] ∧ win0_4.index t = ![t.val / 4, 0, 0] ∧ win0_5.index t = ![1, 0, 0]
    ∧ win0_6.index t = ![t.val, 0] := by
  have h : ∀ t : Fin grid0.N, win0_0.index t = ![t.val, 0] ∧ win0_1.index t = ![0, 0] ∧ win0_2.index t = ![1, 0, 0]
    ∧ win0_3.index t = ![t.val / 4, 0, 0] ∧ win0_4.index t = ![t.val / 4, 0, 0] ∧ win0_5.index t = ![1, 0, 0]
    ∧ win0_6.index t = ![t.val, 0] := by decide +kernel
  exact h

/-- The token block's rows are the tokens' rows. -/
theorem blk0 (c : Dev nD) (t : Fin cfg0.N) (r k : Fin 1024) (h0 : (t.val * 1024 + r.val) / 4096 < 8) (h1 : (t.val * 1024 + r.val) % 4096 < 4096) :
    iblk m c 0 t (ix2 r k) = m ((c : Thread nD τ).loc main_arg0) (ix3 ⟨(t.val * 1024 + r.val) / 4096, h0⟩ ⟨(t.val * 1024 + r.val) % 4096, h1⟩ k) := by
  blk_ext! [iblk, V, idx t]

/-- The norm's scale is the second layer's. -/
theorem blk1 (c : Dev nD) (t : Fin cfg0.N) (k : Fin 1024) :
    iblk m c 1 t (ix2 0 k) = m ((c : Thread nD τ).loc main_arg1) (ix2 1 k) := by
  blk_ext! [iblk, V, idx t]

/-- The query weights are the second layer's. -/
theorem blk2 (c : Dev nD) (t : Fin cfg0.N) (k j : Fin 1024) :
    iblk m c 2 t (ix3 0 k j) = m ((c : Thread nD τ).loc main_arg2) (ix3 1 k j) := by
  blk_ext [iblk, V, idx t]

/-- The memory's keys are those of the block's prompt. -/
theorem blk3 (c : Dev nD) (t : Fin cfg0.N) (j : Fin 256) (k : Fin 1024) (b : ℕ) (hb : b < 8) (h : b = t.val / 4) :
    iblk m c 3 t (ix3 0 j k) = m ((c : Thread nD τ).loc main_arg3) (ix4 ⟨b, hb⟩ j ⟨k.val / 256, by omega⟩ ⟨k.val % 256, by omega⟩) := by
  subst h
  blk_ext! [iblk, V, idx t]

/-- The memory's values are those of the block's prompt. -/
theorem blk4 (c : Dev nD) (t : Fin cfg0.N) (j : Fin 256) (k : Fin 1024) (b : ℕ) (hb : b < 8) (h : b = t.val / 4) :
    iblk m c 4 t (ix3 0 j k) = m ((c : Thread nD τ).loc main_arg4) (ix4 ⟨b, hb⟩ j ⟨k.val / 256, by omega⟩ ⟨k.val % 256, by omega⟩) := by
  subst h
  blk_ext! [iblk, V, idx t]

/-- The output weights are the second layer's. -/
theorem blk5 (c : Dev nD) (t : Fin cfg0.N) (j k : Fin 1024) :
    iblk m c 5 t (ix3 0 j k) = m ((c : Thread nD τ).loc main_arg5) (ix3 1 j k) := by
  blk_ext [iblk, V, idx t]

/-- The result array after the run. -/
theorem final (c : Dev nD) : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 6 _ (by decide +kernel) fun t hf y => ?_
  blk_simp
  rw [after0_6]
  idx_vars y
  rw [out_apply]
  have e0 : (((View.whole main_v8).slice (win0_6.rect t)).emb (ix2 y0 y1) 0).val = t.val * 1024 + y0.val := by
    blk_simp [idx t]
  have e1 : ((View.whole main_v8).slice (win0_6.rect t)).emb (ix2 y0 y1) 1 = y1 := Fin.ext (by blk_simp [idx t])
  have ht : t.val < 32 := t.isLt
  have b0 : ∀ k, iblk m c 0 t (ix2 y0 k) = _ := fun k => blk0 m c t y0 k (by omega) (by omega)
  have b3 : ∀ j k, iblk m c 3 t (ix3 0 j k) = _ := fun j k => blk3 m c t j k ((t.val * 1024 + y0.val) / 4096) (by omega) (by omega)
  have b4 : ∀ j k, iblk m c 4 t (ix3 0 j k) = _ := fun j k => blk4 m c t j k ((t.val * 1024 + y0.val) / 4096) (by omega) (by omega)
  simp only [G, e0, e1, b0, blk1, blk2, b3, b4, blk5]

end Cert.MemAttnIdeal.Hand

end
-- ==== Proof.MemAttnRef.lean ====
module

public import proofs.«01_k».proof.Proof.Gen.MemAttnRefIdeal.Read
public import proofs.«01_k».proof.Proof.MemAttnArray

@[expose] public section

set_option maxRecDepth 16384

noncomputable section

namespace Cert.MemAttnRefIdeal.Hand

open Cert.MemAttnRefIdeal Cert.MemAttnRefIdeal.Read Cert.Layer Idealize.ShloMosaic

variable (x : (⟨S8x4096x1024, .f32⟩ : BufTy).Contents (Elt Ideal)) (g : (⟨S2x1024, .f32⟩ : BufTy).Contents (Elt Ideal))
  (wq : (⟨S2x1024x1024, .f32⟩ : BufTy).Contents (Elt Ideal)) (mk mv : (⟨S8x256x4x256, .f32⟩ : BufTy).Contents (Elt Ideal))
  (wo : (⟨S2x1024x1024, .f32⟩ : BufTy).Contents (Elt Ideal))

/-- The normalised token. -/
theorem norm_apply (b : Fin 8) (t : Fin 4096) (c : Fin 1024) :
    val_main_v14 x g (ix3 b t c) = rms (fun k => x (ix3 b t k)) (fun k => g (ix2 1 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- A token's query. -/
theorem query_apply (b : Fin 8) (t : Fin 4096) (c : Fin 1024) :
    val_main_v19 x g wq (ix3 b t c) = ∑ k, rms (fun k => x (ix3 b t k)) (fun k => g (ix2 1 k)) k * wq (ix3 1 k c) := by
  pointwise [val_main_v19, val_main_v16, val_main_v15, norm_apply]

/-- The scores of a token's head. -/
theorem score_apply (b : Fin 8) (h : Fin 4) (t : Fin 4096) (j : Fin 256) :
    val_main_v23 x g wq mk (ix4 b h t j) = score (fun i => val_main_v19 x g wq (ix3 b t i))
      (fun j k => mk (ix4 b j ⟨k.val / 256, by omega⟩ ⟨k.val % 256, by omega⟩)) h j := by
  pointwise [val_main_v23, val_main_v22, val_main_v21, val_main_v20, val_main_cst_2]
  refine congrArg (· * headScale) (Finset.sum_congr rfl fun e _ => congrArg _ (congrArg mk (congrArg₂ (ix4 b j) (Fin.ext ?_) (Fin.ext ?_))))
  all_goals dsimp only; omega

/-- The greatest of a row of scores, as the reference takes it. -/
theorem reduce_apply (v : FVec Ideal S8x4x4096x256 .f32) (c : FVec Ideal S_ .f32) (hr : S8x4x4096x256.ReducesTo [3] S8x4x4096)
    (h1 : 0 < S_.numel) (b : Fin 8) (h : Fin 4) (t : Fin 4096) :
    Host.reduce FloatOps.maximumf v c hr h1 (ix3 b h t)
      = Finset.univ.fold max (c (Shape.Idx.first h1)) (fun j => v (ix4 b h t j)) := by
  simp only [pointwise]

/-- The greatest score of a token's head. -/
theorem top_apply (b : Fin 8) (h : Fin 4) (t : Fin 4096) :
    val_main_v26 x g wq mk (ix3 b h t) = top (fun j => val_main_v23 x g wq mk (ix4 b h t j)) := by
  rw [val_main_v26_apply, val_main_v25_apply, val_main_cst_4_apply]
  unfold val_main_v24
  rw [reduce_apply, val_main_cst_3_apply]
  exact max_top _

/-- The weights of a token's head over the memory. -/
theorem soft_apply (b : Fin 8) (h : Fin 4) (t : Fin 4096) (j : Fin 256) :
    val_main_v34 x g wq mk (ix4 b h t j) = soft (fun j => val_main_v23 x g wq mk (ix4 b h t j)) j := by
  pointwise [val_main_v34, val_main_v33, val_main_v32, val_main_v31, val_main_v30, val_main_v29, val_main_v28, val_main_v27, val_main_cst_5,
    top_apply]
  rfl

/-- The four heads' attention laid side by side. -/
theorem heads_apply (b : Fin 8) (t : Fin 4096) (c : Fin 1024) :
    val_main_v37 x g wq mk mv (ix3 b t c) = heads (fun i => val_main_v19 x g wq (ix3 b t i))
      (fun j k => mk (ix4 b j ⟨k.val / 256, by omega⟩ ⟨k.val % 256, by omega⟩))
      (fun j k => mv (ix4 b j ⟨k.val / 256, by omega⟩ ⟨k.val % 256, by omega⟩)) c := by
  pointwise [val_main_v37, val_main_v36, val_main_v35, soft_apply]
  unfold heads attend
  refine Finset.sum_congr rfl fun j _ => (mul_comm _ _).trans
    (congrArg₂ (· * ·) (by simp only [score_apply]) (congrArg mv (congrArg₂ (ix4 b j) (Fin.ext ?_) (Fin.ext ?_))))
  all_goals dsimp only; omega

/-- The reference's result at a row and a feature. -/
theorem out_apply (r : Fin 32768) (c : Fin 1024) (h0 : r.val / 4096 < 8) (h1 : r.val % 4096 < 4096) :
    val_main_v40 x g wq mk mv wo (ix2 r c) = memMid (fun k => x (ix3 ⟨r.val / 4096, h0⟩ ⟨r.val % 4096, h1⟩ k)) (fun k => g (ix2 1 k))
      (fun k j => wq (ix3 1 k j)) (fun j k => mk (ix4 ⟨r.val / 4096, h0⟩ j ⟨k.val / 256, by omega⟩ ⟨k.val % 256, by omega⟩))
      (fun j k => mv (ix4 ⟨r.val / 4096, h0⟩ j ⟨k.val / 256, by omega⟩ ⟨k.val % 256, by omega⟩)) (fun j k => wo (ix3 1 j k)) c := by
  pointwise [val_main_v40, val_main_v39, val_main_v38, val_main_v18, val_main_v17, heads_apply, query_apply]
  rfl

/-- The kernel's function of the arguments is the reference's result. -/
theorem eq_G : Cert.MemAttnIdeal.Hand.G x g wq mk mv wo = val_main_v40 x g wq mk mv wo := by
  funext i
  idx_vars i
  rw [out_apply]
  rfl

end Cert.MemAttnRefIdeal.Hand

end
-- ==== Proof.MemAttnClaim.lean ====
module

public import proofs.«01_k».proof.Proof.MemAttnRef
public import proofs.«01_k».proof.Defs

@[expose] public section

noncomputable section

namespace Cert.MemAttnIdeal.Hand

open Idealize.ShloMosaic Idealize.SL.Sem

/-- The memory attention of the last layer and its reference, at exact arithmetic, end with equal results. -/
theorem algebraic : letI := Cert.MemAttnIdeal.Gen.facts; letI := Cert.MemAttnRefIdeal.Gen.facts; Cert.algebraic_MemAttnIdeal_MemAttnRefIdeal := by
  pair_intro
  · run_from Cert.MemAttnIdeal.Gen.run_main m g
  · run_from Cert.MemAttnRefIdeal.Value.run m' g'
    obtain ⟨h0, h1, h2, h3, h4, h5⟩ := hagree c
    rw [Cert.MemAttnRefIdeal.Read.val_main_v40_eq]
    erw [final m c]
    rw [Cert.MemAttnRefIdeal.Hand.eq_G, h0, h1, h2, h3, h4, h5]

end Cert.MemAttnIdeal.Hand

end
-- ==== Proof.MemAttnFirstSampleBlock.lean ====
module

public import proofs.«01_k».proof.Proof.Gen.MemAttnFirstSampleIdeal.Frame
public import proofs.«01_k».proof.Proof.Memory
public import Idealize.ShloMosaic.Lib.Pipeline.ValueKit

@[expose] public section

set_option maxRecDepth 16384

noncomputable section

namespace Cert.MemAttnFirstSampleIdeal.Hand

open Cert.MemAttnFirstSampleIdeal Cert.MemAttnFirstSampleIdeal.Gen Cert.Layer Idealize.ShloMosaic

/-- The row plus the product of the sparse attention's output. -/
theorem pay2_apply (v0 : Vec Ideal S32x1024 .f32) (o : Vec Ideal S32x1024 .bf16) (w : Vec Ideal S1x1024x1024 .bf16) (r : Fin 32) (c : Fin 1024) :
    k0_pay2 v0 o w (ix2 r c) = plusProduct (fun k => v0 (ix2 r k)) (fun j => o (ix2 r j)) (fun j k => w (ix3 0 j k)) c := by
  pointwise [k0_pay2]
  rfl

/-- The scaled queries. -/
theorem pay3_apply (v0 : Vec Ideal S32x1024 .f32) (o : Vec Ideal S32x1024 .bf16) (w : Vec Ideal S1x1024x1024 .bf16) (g : Vec Ideal S1x1024 .f32)
    (wq : Vec Ideal S1x1024x1024 .bf16) (r : Fin 32) (c : Fin 1024) :
    k0_pay3 v0 o w g wq (ix2 r c) = (∑ k, rms (plusProduct (fun k => v0 (ix2 r k)) (fun j => o (ix2 r j)) fun j k => w (ix3 0 j k))
        (fun k => g (ix2 0 k)) k * wq (ix3 0 k c)) * headScale := by
  pointwise [k0_pay3, pay2_apply]
  rfl

/-- The first head's scores. -/
theorem pay4_apply (v0 : Vec Ideal S32x1024 .f32) (o : Vec Ideal S32x1024 .bf16) (w : Vec Ideal S1x1024x1024 .bf16) (g : Vec Ideal S1x1024 .f32)
    (wq : Vec Ideal S1x1024x1024 .bf16) (a : Vec Ideal S1x256x1x256 .f32) (r : Fin 32) (j : Fin 256) :
    k0_pay4 v0 o w g wq a (ix2 r j) = ∑ e : Fin 256, k0_pay3 v0 o w g wq (ix2 r ⟨e.val, by omega⟩) * a (ix4 0 j 0 e) := by
  pointwise [k0_pay4]

/-- The first head's greatest score. -/
theorem pay5_apply (v0 : Vec Ideal S32x1024 .f32) (o : Vec Ideal S32x1024 .bf16) (w : Vec Ideal S1x1024x1024 .bf16) (g : Vec Ideal S1x1024 .f32)
    (wq : Vec Ideal S1x1024x1024 .bf16) (a : Vec Ideal S1x256x1x256 .f32) (r : Fin 32) :
    k0_pay5 v0 o w g wq a (ix1 r) = top (fun j => k0_pay4 v0 o w g wq a (ix2 r j)) := by
  pointwise [k0_pay5]
  rfl

/-- A head's output from its scores and their greatest. -/
theorem pay6_apply (s : FVec Ideal S32x256 .f32) (m : FVec Ideal S32 .f32) (b : Vec Ideal S1x256x1x256 .f32) (r : Fin 32) (d : Fin 256) :
    k0_pay6 s m b (ix2 r d)
      = ∑ j, Ideal.div (Ideal.exp (s (ix2 r j) - m (ix1 r))) (∑ i, Ideal.exp (s (ix2 r i) - m (ix1 r))) * b (ix4 0 j 0 d) := by
  pointwise [k0_pay6]

/-- The second head's output. -/
theorem pay7_apply (q : FVec Ideal S32x1024 .bf16) (a b : Vec Ideal S1x256x1x256 .f32) (r : Fin 32) (d : Fin 256) :
    k0_pay7 q a b (ix2 r d)
      = attend (fun j => ∑ e : Fin 256, q (ix2 r ⟨256 + e.val, by omega⟩) * a (ix4 0 j 0 e)) (fun j e => b (ix4 0 j 0 e)) d := by
  pointwise [k0_pay7]
  rfl

/-- The third head's queries. -/
theorem pay8_apply (q : FVec Ideal S32x1024 .bf16) (r : Fin 32) (e : Fin 256) :
    k0_pay8 q (ix2 r e) = q (ix2 r ⟨512 + e.val, by omega⟩) := by
  pointwise [k0_pay8]

/-- The third head's keys. -/
theorem pay9_apply (a : Vec Ideal S1x256x1x256 .f32) (j e : Fin 256) : k0_pay9 a (ix2 j e) = a (ix4 0 j 0 e) := by
  pointwise [k0_pay9]

/-- A head's features of the memory's rows. -/
theorem at_head (v : Vec Ideal S1x256x4x256 .f32) (h : Fin 4) (o : ℕ) (ho : o = h.val * 256) (i e : Fin 256) :
    v (ix4 0 i h e) = v (ix4 0 i ⟨(o + e.val) / 256, by omega⟩ ⟨(o + e.val) % 256, by omega⟩) :=
  congrArg v (congrArg₂ (ix4 0 i) (Fin.ext (by dsimp only; omega)) (Fin.ext (by dsimp only; omega)))

/-- The four heads laid side by side. -/
theorem pay10_apply (q : FVec Ideal S32x1024 .bf16) (o0 o1 q2 : FVec Ideal S32x256 .bf16) (k2 : FVec Ideal S256x256 .bf16)
    (b2 a3 b3 : Vec Ideal S1x256x1x256 .f32) (r : Fin 32) (j : Fin 1024) :
    k0_pay10 q o0 o1 q2 k2 b2 a3 b3 (ix2 r j) =
      if h0 : j.val < 256 then o0 (ix2 r ⟨j.val, h0⟩)
        else if h1 : j.val - 256 < 256 then o1 (ix2 r ⟨j.val - 256, h1⟩)
        else if h2 : j.val - 256 - 256 < 256 then
          attend (fun i => ∑ e : Fin 256, q2 (ix2 r e) * k2 (ix2 i e)) (fun i e => b2 (ix4 0 i 0 e)) ⟨j.val - 256 - 256, h2⟩
        else attend (fun i => ∑ e : Fin 256, q (ix2 r ⟨768 + e.val, by omega⟩) * a3 (ix4 0 i 0 e)) (fun i e => b3 (ix4 0 i 0 e))
          ⟨j.val - 256 - 256 - 256, by omega⟩ := by
  pointwise [k0_pay10]
  rfl

/-- Their product with the output weights, added to the row. -/
theorem pay1_apply (y : FVec Ideal S32x1024 .f32) (a : FVec Ideal S32x1024 .bf16) (w : Vec Ideal S1x1024x1024 .bf16) (r : Fin 32) (c : Fin 1024) :
    k0_pay1 y a w (ix2 r c) = y (ix2 r c) + ∑ j, a (ix2 r j) * w (ix3 0 j c) := by
  pointwise [k0_pay1]

/-- The memory attention's residual of a block's row, read off the staged blocks. -/
theorem out_apply (x : Vec Ideal S32x1024 .f32) (o : Vec Ideal S32x1024 .bf16) (w : Vec Ideal S1x1024x1024 .bf16)
    (g : Vec Ideal S1x1024 .f32) (wq : Vec Ideal S1x1024x1024 .bf16)
    (mk mv : Vec Ideal S1x256x4x256 .f32) (wo : Vec Ideal S1x1024x1024 .bf16) (r : Fin 32) (c : Fin 1024) :
    out0_8 x o w g wq mk mv wo (ix2 r c)
      = memMid (plusProduct (fun k => x (ix2 r k)) (fun j => o (ix2 r j)) fun j k => w (ix3 0 j k)) (fun k => g (ix2 0 k))
          (fun k j => wq (ix3 0 k j)) (fun i k => mk (ix4 0 i ⟨k.val / 256, by omega⟩ ⟨k.val % 256, by omega⟩))
          (fun i k => mv (ix4 0 i ⟨k.val / 256, by omega⟩ ⟨k.val % 256, by omega⟩)) (fun j k => wo (ix3 0 j k)) c := by
  frame_out
  pointwise [k0_pay11, pay1_apply, pay2_apply, pay3_apply, pay4_apply, pay5_apply, pay6_apply, pay7_apply, pay8_apply, pay9_apply, pay10_apply]
  refine congrArg (plusProduct (fun k => x (ix2 r k)) (fun j => o (ix2 r j)) (fun j k => w (ix3 0 j k)) c + ·)
    (Finset.sum_congr rfl fun j _ => congrArg (· * wo (ix3 0 j c)) ?_)
  split_ifs with h0 h1 h2
  · simp only [at_head mk 0 0 rfl, at_head mv 0 0 rfl, Nat.zero_add]
    exact heads_at_zero (fun i => ∑ k, rms (plusProduct (fun k => x (ix2 r k)) (fun j => o (ix2 r j)) fun j k => w (ix3 0 j k)) (fun k => g (ix2 0 k)) k
        * wq (ix3 0 k i))
      (fun i k => mk (ix4 0 i ⟨k.val / 256, by omega⟩ ⟨k.val % 256, by omega⟩))
      (fun i k => mv (ix4 0 i ⟨k.val / 256, by omega⟩ ⟨k.val % 256, by omega⟩)) j h0
  · simp only [at_head mk 1 256 rfl, at_head mv 1 256 rfl]
    exact heads_at (fun i => ∑ k, rms (plusProduct (fun k => x (ix2 r k)) (fun j => o (ix2 r j)) fun j k => w (ix3 0 j k)) (fun k => g (ix2 0 k)) k
        * wq (ix3 0 k i))
      (fun i k => mk (ix4 0 i ⟨k.val / 256, by omega⟩ ⟨k.val % 256, by omega⟩))
      (fun i k => mv (ix4 0 i ⟨k.val / 256, by omega⟩ ⟨k.val % 256, by omega⟩)) j 256 ⟨j.val - 256, by omega⟩ (by omega) (by dsimp only; omega) (by omega)
  · simp only [at_head mk 2 512 rfl, at_head mv 2 512 rfl]
    exact heads_at (fun i => ∑ k, rms (plusProduct (fun k => x (ix2 r k)) (fun j => o (ix2 r j)) fun j k => w (ix3 0 j k)) (fun k => g (ix2 0 k)) k
        * wq (ix3 0 k i))
      (fun i k => mk (ix4 0 i ⟨k.val / 256, by omega⟩ ⟨k.val % 256, by omega⟩))
      (fun i k => mv (ix4 0 i ⟨k.val / 256, by omega⟩ ⟨k.val % 256, by omega⟩)) j 512 ⟨j.val - 256 - 256, by omega⟩ (by omega) (by dsimp only; omega) (by omega)
  · simp only [at_head mk 3 768 rfl, at_head mv 3 768 rfl]
    exact heads_at (fun i => ∑ k, rms (plusProduct (fun k => x (ix2 r k)) (fun j => o (ix2 r j)) fun j k => w (ix3 0 j k)) (fun k => g (ix2 0 k)) k
        * wq (ix3 0 k i))
      (fun i k => mk (ix4 0 i ⟨k.val / 256, by omega⟩ ⟨k.val % 256, by omega⟩))
      (fun i k => mv (ix4 0 i ⟨k.val / 256, by omega⟩ ⟨k.val % 256, by omega⟩)) j 768 ⟨j.val - 256 - 256 - 256, by omega⟩ (by omega) (by dsimp only; omega) (by omega)

end Cert.MemAttnFirstSampleIdeal.Hand

end
-- ==== Proof.MemAttnFirstSampleArray.lean ====
module

public import proofs.«01_k».proof.Proof.MemAttnFirstSampleBlock

@[expose] public section

set_option maxRecDepth 16384

noncomputable section

namespace Cert.MemAttnFirstSampleIdeal.Hand

open Cert.MemAttnFirstSampleIdeal Cert.MemAttnFirstSampleIdeal.Gen Cert.Layer Idealize.ShloMosaic Idealize.ShloMosaic.TcCoe

/-- The result as one function of the arguments: row `r` of the result is the memory attention's residual of the sparse attention's
    residual of token `r` of the samples, laid out one after another, with the first layer's weights and the memory of the token's own sample, whose four
    heads' features are laid side by side. -/
def G (x : (⟨S8x32x1024, .f32⟩ : BufTy).Contents (Elt Ideal)) (o : (⟨S8x32x1024, .bf16⟩ : BufTy).Contents (Elt Ideal))
    (w : (⟨S1x1024x1024, .f32⟩ : BufTy).Contents (Elt Ideal)) (g : (⟨S2x1024, .f32⟩ : BufTy).Contents (Elt Ideal))
    (wq : (⟨S2x1024x1024, .f32⟩ : BufTy).Contents (Elt Ideal)) (mk mv : (⟨S2x8x256x4x256, .f32⟩ : BufTy).Contents (Elt Ideal))
    (wo : (⟨S2x1024x1024, .f32⟩ : BufTy).Contents (Elt Ideal)) : (⟨S256x1024, .f32⟩ : BufTy).Contents (Elt Ideal) := fun i =>
  memMid (plusProduct (fun k => x (ix3 ⟨(i 0).val / 32, Nat.div_lt_of_lt_mul (i 0).isLt⟩ ⟨(i 0).val % 32, Nat.mod_lt _ (by decide)⟩ k))
      (fun k => o (ix3 ⟨(i 0).val / 32, Nat.div_lt_of_lt_mul (i 0).isLt⟩ ⟨(i 0).val % 32, Nat.mod_lt _ (by decide)⟩ k)) fun j k => w (ix3 0 j k))
    (fun k => g (ix2 0 k)) (fun k j => wq (ix3 0 k j))
    (fun j k => mk (ix5 0 ⟨(i 0).val / 32, Nat.div_lt_of_lt_mul (i 0).isLt⟩ j ⟨k.val / 256, by omega⟩ ⟨k.val % 256, by omega⟩))
    (fun j k => mv (ix5 0 ⟨(i 0).val / 32, Nat.div_lt_of_lt_mul (i 0).isLt⟩ j ⟨k.val / 256, by omega⟩ ⟨k.val % 256, by omega⟩))
    (fun j k => wo (ix3 0 j k)) (i 1)

variable (m : (ℓ : Loc nD τ sig) → Buf (Elt Ideal) ℓ)

/-- Where each window's block stands at a grid point: the token blocks and the memory move with it, and the
    weights stay at the first layer. -/
theorem idx : ∀ t : Fin cfg0.N, win0_0.index t = ![t.val, 0] ∧ win0_1.index t = ![t.val, 0] ∧ win0_2.index t = ![0, 0, 0]
    ∧ win0_3.index t = ![0, 0] ∧ win0_4.index t = ![0, 0, 0] ∧ win0_5.index t = ![t.val, 0, 0, 0]
    ∧ win0_6.index t = ![t.val, 0, 0, 0] ∧ win0_7.index t = ![0, 0, 0]
    ∧ win0_8.index t = ![t.val, 0] := by
  have h : ∀ t : Fin grid0.N, win0_0.index t = ![t.val, 0] ∧ win0_1.index t = ![t.val, 0] ∧ win0_2.index t = ![0, 0, 0]
    ∧ win0_3.index t = ![0, 0] ∧ win0_4.index t = ![0, 0, 0] ∧ win0_5.index t = ![t.val, 0, 0, 0]
    ∧ win0_6.index t = ![t.val, 0, 0, 0] ∧ win0_7.index t = ![0, 0, 0]
    ∧ win0_8.index t = ![t.val, 0] := by decide +kernel
  exact h

/-- The token block's rows are the tokens' rows. -/
theorem blk0 (c : Dev nD) (t : Fin cfg0.N) (r : Fin 32) (k : Fin 1024) (h0 : (t.val * 32 + r.val) / 32 < 8) (h1 : (t.val * 32 + r.val) % 32 < 32) :
    iblk m c 0 t (ix2 r k) = m ((c : Thread nD τ).loc main_arg0) (ix3 ⟨(t.val * 32 + r.val) / 32, h0⟩ ⟨(t.val * 32 + r.val) % 32, h1⟩ k) := by
  blk_ext! [iblk, V, idx t]

/-- The sparse attention's block has the same rows. -/
theorem blk1 (c : Dev nD) (t : Fin cfg0.N) (r : Fin 32) (k : Fin 1024) (h0 : (t.val * 32 + r.val) / 32 < 8) (h1 : (t.val * 32 + r.val) % 32 < 32) :
    iblk m c 1 t (ix2 r k) = m ((c : Thread nD τ).loc main_arg1) (ix3 ⟨(t.val * 32 + r.val) / 32, h0⟩ ⟨(t.val * 32 + r.val) % 32, h1⟩ k) := by
  blk_ext! [iblk, V, idx t]

/-- The sparse attention's output weights are the whole array. -/
theorem blk2 (c : Dev nD) (t : Fin cfg0.N) (k j : Fin 1024) :
    iblk m c 2 t (ix3 0 k j) = m ((c : Thread nD τ).loc main_arg2) (ix3 0 k j) := by
  blk_ext [iblk, V, idx t]

/-- The norm's scale is the first layer's. -/
theorem blk3 (c : Dev nD) (t : Fin cfg0.N) (k : Fin 1024) :
    iblk m c 3 t (ix2 0 k) = m ((c : Thread nD τ).loc main_arg3) (ix2 0 k) := by
  blk_ext! [iblk, V, idx t]

/-- The query weights are the first layer's. -/
theorem blk4 (c : Dev nD) (t : Fin cfg0.N) (k j : Fin 1024) :
    iblk m c 4 t (ix3 0 k j) = m ((c : Thread nD τ).loc main_arg4) (ix3 0 k j) := by
  blk_ext [iblk, V, idx t]

/-- The memory's keys are those of the block's sample. -/
theorem blk5 (c : Dev nD) (t : Fin cfg0.N) (j : Fin 256) (h : Fin 4) (e : Fin 256) (b : ℕ) (hb : b < 8) (hv : b = t.val) :
    iblk m c 5 t (ix4 0 j h e) = m ((c : Thread nD τ).loc main_arg5) (ix5 0 ⟨b, hb⟩ j h e) := by
  subst hv
  blk_ext! [iblk, V, idx t]

/-- The memory's values are those of the block's sample. -/
theorem blk6 (c : Dev nD) (t : Fin cfg0.N) (j : Fin 256) (h : Fin 4) (e : Fin 256) (b : ℕ) (hb : b < 8) (hv : b = t.val) :
    iblk m c 6 t (ix4 0 j h e) = m ((c : Thread nD τ).loc main_arg6) (ix5 0 ⟨b, hb⟩ j h e) := by
  subst hv
  blk_ext! [iblk, V, idx t]

/-- The output weights are the first layer's. -/
theorem blk7 (c : Dev nD) (t : Fin cfg0.N) (j k : Fin 1024) :
    iblk m c 7 t (ix3 0 j k) = m ((c : Thread nD τ).loc main_arg7) (ix3 0 j k) := by
  blk_ext [iblk, V, idx t]

/-- The result array after the run. -/
theorem final (c : Dev nD) : (dats m 0 c).arrAt 8 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  idx_vars y
  rw [out_apply]
  have e0 : (((View.whole main_v12).slice (win0_8.rect t)).emb (ix2 y0 y1) 0).val = t.val * 32 + y0.val := by
    blk_simp [idx t]
  have e1 : ((View.whole main_v12).slice (win0_8.rect t)).emb (ix2 y0 y1) 1 = y1 := Fin.ext (by blk_simp [idx t])
  have ht : t.val < 8 := t.isLt
  have b0 : ∀ k, iblk m c 0 t (ix2 y0 k) = _ := fun k => blk0 m c t y0 k (by omega) (by omega)
  have b1 : ∀ k, iblk m c 1 t (ix2 y0 k) = _ := fun k => blk1 m c t y0 k (by omega) (by omega)
  have b5 : ∀ j h e, iblk m c 5 t (ix4 0 j h e) = _ := fun j h e => blk5 m c t j h e ((t.val * 32 + y0.val) / 32) (by omega) (by omega)
  have b6 : ∀ j h e, iblk m c 6 t (ix4 0 j h e) = _ := fun j h e => blk6 m c t j h e ((t.val * 32 + y0.val) / 32) (by omega) (by omega)
  simp only [G, e0, e1, b0, b1, blk2, blk3, blk4, b5, b6, blk7]

end Cert.MemAttnFirstSampleIdeal.Hand

end
-- ==== Proof.MemAttnFirstSampleRef.lean ====
module

public import proofs.«01_k».proof.Proof.Gen.MemAttnFirstSampleRefIdeal.Read
public import proofs.«01_k».proof.Proof.MemAttnFirstSampleArray

@[expose] public section

set_option maxRecDepth 16384

noncomputable section

namespace Cert.MemAttnFirstSampleRefIdeal.Hand

open Cert.MemAttnFirstSampleRefIdeal Cert.MemAttnFirstSampleRefIdeal.Read Cert.Layer Idealize.ShloMosaic

variable (x : (⟨S8x32x1024, .f32⟩ : BufTy).Contents (Elt Ideal)) (o : (⟨S8x32x1024, .bf16⟩ : BufTy).Contents (Elt Ideal))
  (w : (⟨S1x1024x1024, .f32⟩ : BufTy).Contents (Elt Ideal)) (g : (⟨S2x1024, .f32⟩ : BufTy).Contents (Elt Ideal))
  (wq : (⟨S2x1024x1024, .f32⟩ : BufTy).Contents (Elt Ideal)) (mk mv : (⟨S2x8x256x4x256, .f32⟩ : BufTy).Contents (Elt Ideal))
  (wo : (⟨S2x1024x1024, .f32⟩ : BufTy).Contents (Elt Ideal))

/-- The sparse attention's residual of a token. -/
theorem first_apply (b : Fin 8) (t : Fin 32) (c : Fin 1024) :
    val_main_v3 x o w (ix3 b t c) = plusProduct (fun k => x (ix3 b t k)) (fun k => o (ix3 b t k)) (fun j k => w (ix3 0 j k)) c := by
  pointwise [val_main_v3, val_main_v2, val_main_v1, val_main_v0]
  rfl

/-- The normalised residual. -/
theorem norm_apply (b : Fin 8) (t : Fin 32) (c : Fin 1024) :
    val_main_v18 x o w g (ix3 b t c) = rms (fun k => val_main_v3 x o w (ix3 b t k)) (fun k => g (ix2 0 k)) c := by
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  rfl

/-- A token's query. -/
theorem query_apply (b : Fin 8) (t : Fin 32) (c : Fin 1024) :
    val_main_v27 x o w g wq (ix3 b t c) = ∑ k, rms (fun k => val_main_v3 x o w (ix3 b t k)) (fun k => g (ix2 0 k)) k * wq (ix3 0 k c) := by
  pointwise [val_main_v27, val_main_v24, val_main_v23, norm_apply]

/-- The first layer's memory keys. -/
theorem keys_apply (b : Fin 8) (j : Fin 256) (h : Fin 4) (e : Fin 256) : val_main_v20 mk (ix4 b j h e) = mk (ix5 0 b j h e) := by
  rw [val_main_v20_apply, val_main_v19_apply]
  refine congrArg mk (funext fun a => Fin.ext ?_)
  fin_cases a <;> simp [idx_main_v19, idx_main_v20] <;> omega

/-- The first layer's memory values. -/
theorem values_apply (b : Fin 8) (j : Fin 256) (h : Fin 4) (e : Fin 256) : val_main_v22 mv (ix4 b j h e) = mv (ix5 0 b j h e) := by
  rw [val_main_v22_apply, val_main_v21_apply]
  refine congrArg mv (funext fun a => Fin.ext ?_)
  fin_cases a <;> simp [idx_main_v21, idx_main_v22] <;> omega

/-- The scores of a token's head. -/
theorem score_apply (b : Fin 8) (h : Fin 4) (t : Fin 32) (j : Fin 256) :
    val_main_v31 x o w g wq mk (ix4 b h t j) = score (fun i => val_main_v27 x o w g wq (ix3 b t i))
      (fun j k => mk (ix5 0 b j ⟨k.val / 256, by omega⟩ ⟨k.val % 256, by omega⟩)) h j := by
  pointwise [val_main_v31, val_main_v30, val_main_v29, val_main_v28, val_main_cst_2, keys_apply]
  refine congrArg (· * headScale) (Finset.sum_congr rfl fun e _ => congrArg _ (congrArg mk (congrArg₂ (ix5 0 b j) (Fin.ext ?_) (Fin.ext ?_))))
  all_goals dsimp only; omega

/-- The greatest of a row of scores, as the reference takes it. -/
theorem reduce_apply (v : FVec Ideal S8x4x32x256 .f32) (c : FVec Ideal S_ .f32) (hr : S8x4x32x256.ReducesTo [3] S8x4x32)
    (h1 : 0 < S_.numel) (b : Fin 8) (h : Fin 4) (t : Fin 32) :
    Host.reduce FloatOps.maximumf v c hr h1 (ix3 b h t)
      = Finset.univ.fold max (c (Shape.Idx.first h1)) (fun j => v (ix4 b h t j)) := by
  simp only [pointwise]

/-- The greatest score of a token's head. -/
theorem top_apply (b : Fin 8) (h : Fin 4) (t : Fin 32) :
    val_main_v34 x o w g wq mk (ix3 b h t) = top (fun j => val_main_v31 x o w g wq mk (ix4 b h t j)) := by
  rw [val_main_v34_apply, val_main_v33_apply, val_main_cst_4_apply]
  unfold val_main_v32
  rw [reduce_apply, val_main_cst_3_apply]
  exact max_top _

/-- The weights of a token's head over the memory. -/
theorem soft_apply (b : Fin 8) (h : Fin 4) (t : Fin 32) (j : Fin 256) :
    val_main_v42 x o w g wq mk (ix4 b h t j) = soft (fun j => val_main_v31 x o w g wq mk (ix4 b h t j)) j := by
  pointwise [val_main_v42, val_main_v41, val_main_v40, val_main_v39, val_main_v38, val_main_v37, val_main_v36, val_main_v35, val_main_cst_5,
    top_apply]
  rfl

/-- The four heads' attention laid side by side. -/
theorem heads_apply (b : Fin 8) (t : Fin 32) (c : Fin 1024) :
    val_main_v45 x o w g wq mk mv (ix3 b t c) = heads (fun i => val_main_v27 x o w g wq (ix3 b t i))
      (fun j k => mk (ix5 0 b j ⟨k.val / 256, by omega⟩ ⟨k.val % 256, by omega⟩))
      (fun j k => mv (ix5 0 b j ⟨k.val / 256, by omega⟩ ⟨k.val % 256, by omega⟩)) c := by
  pointwise [val_main_v45, val_main_v44, val_main_v43, soft_apply, values_apply]
  unfold heads attend
  refine Finset.sum_congr rfl fun j _ => (mul_comm _ _).trans
    (congrArg₂ (· * ·) (by simp only [score_apply]) (congrArg mv (congrArg₂ (ix5 0 b j) (Fin.ext ?_) (Fin.ext ?_))))
  all_goals dsimp only; omega

/-- The reference's result at a row and a feature. -/
theorem out_apply (r : Fin 256) (c : Fin 1024) (h0 : r.val / 32 < 8) (h1 : r.val % 32 < 32) :
    val_main_v48 x o w g wq mk mv wo (ix2 r c) = memMid (plusProduct (fun k => x (ix3 ⟨r.val / 32, h0⟩ ⟨r.val % 32, h1⟩ k))
        (fun k => o (ix3 ⟨r.val / 32, h0⟩ ⟨r.val % 32, h1⟩ k)) fun j k => w (ix3 0 j k)) (fun k => g (ix2 0 k))
      (fun k j => wq (ix3 0 k j)) (fun j k => mk (ix5 0 ⟨r.val / 32, h0⟩ j ⟨k.val / 256, by omega⟩ ⟨k.val % 256, by omega⟩))
      (fun j k => mv (ix5 0 ⟨r.val / 32, h0⟩ j ⟨k.val / 256, by omega⟩ ⟨k.val % 256, by omega⟩)) (fun j k => wo (ix3 0 j k)) c := by
  pointwise [val_main_v48, val_main_v47, val_main_v46, val_main_v26, val_main_v25, heads_apply, query_apply, first_apply]
  rfl

/-- The kernel's function of the arguments is the reference's result. -/
theorem eq_G : Cert.MemAttnFirstSampleIdeal.Hand.G x o w g wq mk mv wo = val_main_v48 x o w g wq mk mv wo := by
  funext i
  idx_vars i
  rw [out_apply]
  rfl

end Cert.MemAttnFirstSampleRefIdeal.Hand

end
-- ==== Proof.MemAttnFirstSampleClaim.lean ====
module

public import proofs.«01_k».proof.Proof.MemAttnFirstSampleRef
public import proofs.«01_k».proof.Defs

@[expose] public section

noncomputable section

namespace Cert.MemAttnFirstSampleIdeal.Hand

open Idealize.ShloMosaic Idealize.SL.Sem

/-- The memory attention of the first layer and its reference, at exact arithmetic, end with equal results. -/
theorem algebraic : letI := Cert.MemAttnFirstSampleIdeal.Gen.facts; letI := Cert.MemAttnFirstSampleRefIdeal.Gen.facts; Cert.algebraic_MemAttnFirstSampleIdeal_MemAttnFirstSampleRefIdeal := by
  pair_intro
  · run_from Cert.MemAttnFirstSampleIdeal.Gen.run_main m g
  · run_from Cert.MemAttnFirstSampleRefIdeal.Value.run m' g'
    obtain ⟨h0, h1, h2, h3, h4, h5, h6, h7⟩ := hagree c
    rw [Cert.MemAttnFirstSampleRefIdeal.Read.val_main_v48_eq]
    erw [final m c]
    rw [Cert.MemAttnFirstSampleRefIdeal.Hand.eq_G, h0, h1, h2, h3, h4, h5, h6, h7]

end Cert.MemAttnFirstSampleIdeal.Hand

end
-- ==== Proof.MemAttnSampleBlock.lean ====
module

public import proofs.«01_k».proof.Proof.Gen.MemAttnSampleIdeal.Frame
public import proofs.«01_k».proof.Proof.Memory
public import Idealize.ShloMosaic.Lib.Pipeline.ValueKit

@[expose] public section

set_option maxRecDepth 16384

noncomputable section

namespace Cert.MemAttnSampleIdeal.Hand

open Cert.MemAttnSampleIdeal Cert.MemAttnSampleIdeal.Gen Cert.Layer Idealize.ShloMosaic

/-- The scaled queries. -/
theorem pay3_apply (v0 : Vec Ideal S32x1024 .f32) (v2 : Vec Ideal S1x1024 .f32) (w : Vec Ideal S1x1024x1024 .bf16) (r : Fin 32) (c : Fin 1024) :
    k0_pay3 v0 v2 w (ix2 r c) = (∑ k, rms (fun k => v0 (ix2 r k)) (fun k => v2 (ix2 0 k)) k * w (ix3 0 k c)) * headScale := by
  pointwise [k0_pay3, k0_pay2]
  rfl

/-- The first head's weights over the memory. -/
theorem pay4_apply (v0 : Vec Ideal S32x1024 .f32) (v2 : Vec Ideal S1x1024 .f32) (w : Vec Ideal S1x1024x1024 .bf16)
    (a : Vec Ideal S1x256x1x256 .f32) (r : Fin 32) (j : Fin 256) :
    k0_pay4 v0 v2 w a (ix2 r j)
      = soft (fun j => ∑ e : Fin 256, k0_pay3 v0 v2 w (ix2 r ⟨e.val, by omega⟩) * a (ix4 0 j 0 e)) j := by
  pointwise [k0_pay4]
  rfl

/-- A head's output is the product of its weights with the memory's values. -/
theorem pay5_apply (p : FVec Ideal S32x256 .bf16) (b : Vec Ideal S1x256x1x256 .f32) (r : Fin 32) (d : Fin 256) :
    k0_pay5 p b (ix2 r d) = ∑ j, p (ix2 r j) * b (ix4 0 j 0 d) := by
  pointwise [k0_pay5]

/-- The second head's output. -/
theorem pay6_apply (q : FVec Ideal S32x1024 .bf16) (a b : Vec Ideal S1x256x1x256 .f32) (r : Fin 32) (d : Fin 256) :
    k0_pay6 q a b (ix2 r d)
      = attend (fun j => ∑ e : Fin 256, q (ix2 r ⟨256 + e.val, by omega⟩) * a (ix4 0 j 0 e)) (fun j e => b (ix4 0 j 0 e)) d := by
  pointwise [k0_pay6]
  rfl

/-- The third head's unnormalised weights over the memory. -/
theorem pay7_apply (q : FVec Ideal S32x1024 .bf16) (a : Vec Ideal S1x256x1x256 .f32) (r : Fin 32) (j : Fin 256) :
    k0_pay7 q a (ix2 r j) = Ideal.exp ((∑ e : Fin 256, q (ix2 r ⟨512 + e.val, by omega⟩) * a (ix4 0 j 0 e))
      - top (fun j => ∑ e : Fin 256, q (ix2 r ⟨512 + e.val, by omega⟩) * a (ix4 0 j 0 e))) := by
  pointwise [k0_pay7]
  rfl

/-- Their sum, at each of the memory's rows. -/
theorem pay8_apply (q : FVec Ideal S32x1024 .bf16) (a : Vec Ideal S1x256x1x256 .f32) (r : Fin 32) (j : Fin 256) :
    k0_pay8 q a (ix2 r j) = ∑ i, k0_pay7 q a (ix2 r i) := by
  pointwise [k0_pay8]

/-- A head's features of the memory's rows. -/
theorem at_head (v : Vec Ideal S1x256x4x256 .f32) (h : Fin 4) (o : ℕ) (ho : o = h.val * 256) (i e : Fin 256) :
    v (ix4 0 i h e) = v (ix4 0 i ⟨(o + e.val) / 256, by omega⟩ ⟨(o + e.val) % 256, by omega⟩) :=
  congrArg v (congrArg₂ (ix4 0 i) (Fin.ext (by dsimp only; omega)) (Fin.ext (by dsimp only; omega)))

/-- The four heads laid side by side, times the output weights, added to the row. -/
theorem pay1_apply (y : FVec Ideal S32x1024 .f32) (q : FVec Ideal S32x1024 .bf16) (o0 o1 : FVec Ideal S32x256 .bf16) (p2 s2 : FVec Ideal S32x256 .f32)
    (b2 a3 b3 : Vec Ideal S1x256x1x256 .f32) (w : Vec Ideal S1x1024x1024 .bf16) (r : Fin 32) (c : Fin 1024) :
    k0_pay1 y q o0 o1 p2 s2 b2 a3 b3 w (ix2 r c) = y (ix2 r c) + ∑ j : Fin 1024,
      (if h0 : j.val < 256 then o0 (ix2 r ⟨j.val, h0⟩)
        else if h1 : j.val - 256 < 256 then o1 (ix2 r ⟨j.val - 256, h1⟩)
        else if h2 : j.val - 256 - 256 < 256 then ∑ i, Ideal.div (p2 (ix2 r i)) (s2 (ix2 r i)) * b2 (ix4 0 i 0 ⟨j.val - 256 - 256, h2⟩)
        else attend (fun i => ∑ e : Fin 256, q (ix2 r ⟨768 + e.val, by omega⟩) * a3 (ix4 0 i 0 e)) (fun i e => b3 (ix4 0 i 0 e))
          ⟨j.val - 256 - 256 - 256, by omega⟩) * w (ix3 0 j c) := by
  pointwise [k0_pay1]
  rfl

/-- The memory attention's residual of a block's row, read off the staged blocks. -/
theorem out_apply (x : Vec Ideal S32x1024 .f32) (g : Vec Ideal S1x1024 .f32) (wq : Vec Ideal S1x1024x1024 .bf16)
    (mk mv : Vec Ideal S1x256x4x256 .f32) (wo : Vec Ideal S1x1024x1024 .bf16) (r : Fin 32) (c : Fin 1024) :
    out0_6 x g wq mk mv wo (ix2 r c)
      = memMid (fun k => x (ix2 r k)) (fun k => g (ix2 0 k)) (fun k j => wq (ix3 0 k j)) (fun i k => mk (ix4 0 i ⟨k.val / 256, by omega⟩ ⟨k.val % 256, by omega⟩))
          (fun i k => mv (ix4 0 i ⟨k.val / 256, by omega⟩ ⟨k.val % 256, by omega⟩)) (fun j k => wo (ix3 0 j k)) c := by
  frame_out
  pointwise [k0_pay2, k0_pay9, pay1_apply, pay3_apply, pay4_apply, pay5_apply, pay6_apply, pay7_apply, pay8_apply]
  refine congrArg (x (ix2 r c) + ·) (Finset.sum_congr rfl fun j _ => congrArg (· * wo (ix3 0 j c)) ?_)
  split_ifs with h0 h1 h2
  · simp only [at_head mk 0 0 rfl, at_head mv 0 0 rfl, Nat.zero_add]
    exact heads_at_zero (fun i => ∑ k, rms (fun k => x (ix2 r k)) (fun k => g (ix2 0 k)) k * wq (ix3 0 k i))
      (fun i k => mk (ix4 0 i ⟨k.val / 256, by omega⟩ ⟨k.val % 256, by omega⟩))
      (fun i k => mv (ix4 0 i ⟨k.val / 256, by omega⟩ ⟨k.val % 256, by omega⟩)) j h0
  · simp only [at_head mk 1 256 rfl, at_head mv 1 256 rfl]
    exact heads_at (fun i => ∑ k, rms (fun k => x (ix2 r k)) (fun k => g (ix2 0 k)) k * wq (ix3 0 k i))
      (fun i k => mk (ix4 0 i ⟨k.val / 256, by omega⟩ ⟨k.val % 256, by omega⟩))
      (fun i k => mv (ix4 0 i ⟨k.val / 256, by omega⟩ ⟨k.val % 256, by omega⟩)) j 256 ⟨j.val - 256, by omega⟩ (by omega) (by dsimp only; omega) (by omega)
  · simp only [at_head mk 2 512 rfl, at_head mv 2 512 rfl]
    exact heads_at (fun i => ∑ k, rms (fun k => x (ix2 r k)) (fun k => g (ix2 0 k)) k * wq (ix3 0 k i))
      (fun i k => mk (ix4 0 i ⟨k.val / 256, by omega⟩ ⟨k.val % 256, by omega⟩))
      (fun i k => mv (ix4 0 i ⟨k.val / 256, by omega⟩ ⟨k.val % 256, by omega⟩)) j 512 ⟨j.val - 256 - 256, by omega⟩ (by omega) (by dsimp only; omega) (by omega)
  · simp only [at_head mk 3 768 rfl, at_head mv 3 768 rfl]
    exact heads_at (fun i => ∑ k, rms (fun k => x (ix2 r k)) (fun k => g (ix2 0 k)) k * wq (ix3 0 k i))
      (fun i k => mk (ix4 0 i ⟨k.val / 256, by omega⟩ ⟨k.val % 256, by omega⟩))
      (fun i k => mv (ix4 0 i ⟨k.val / 256, by omega⟩ ⟨k.val % 256, by omega⟩)) j 768 ⟨j.val - 256 - 256 - 256, by omega⟩ (by omega) (by dsimp only; omega) (by omega)

end Cert.MemAttnSampleIdeal.Hand

end
-- ==== Proof.MemAttnSampleArray.lean ====
module

public import proofs.«01_k».proof.Proof.MemAttnSampleBlock

@[expose] public section

set_option maxRecDepth 16384

noncomputable section

namespace Cert.MemAttnSampleIdeal.Hand

open Cert.MemAttnSampleIdeal Cert.MemAttnSampleIdeal.Gen Cert.Layer Idealize.ShloMosaic Idealize.ShloMosaic.TcCoe

/-- The result as one function of the arguments: row `r` of the result is the memory attention's residual of token `r` of the
    samples, laid out one after another, with the second layer's weights and the memory of the token's own sample, whose four
    heads' features are laid side by side. -/
def G (x : (⟨S8x32x1024, .f32⟩ : BufTy).Contents (Elt Ideal)) (g : (⟨S2x1024, .f32⟩ : BufTy).Contents (Elt Ideal))
    (wq : (⟨S2x1024x1024, .f32⟩ : BufTy).Contents (Elt Ideal)) (mk mv : (⟨S2x8x256x4x256, .f32⟩ : BufTy).Contents (Elt Ideal))
    (wo : (⟨S2x1024x1024, .f32⟩ : BufTy).Contents (Elt Ideal)) : (⟨S256x1024, .f32⟩ : BufTy).Contents (Elt Ideal) := fun i =>
  memMid (fun k => x (ix3 ⟨(i 0).val / 32, Nat.div_lt_of_lt_mul (i 0).isLt⟩ ⟨(i 0).val % 32, Nat.mod_lt _ (by decide)⟩ k))
    (fun k => g (ix2 1 k)) (fun k j => wq (ix3 1 k j))
    (fun j k => mk (ix5 1 ⟨(i 0).val / 32, Nat.div_lt_of_lt_mul (i 0).isLt⟩ j ⟨k.val / 256, by omega⟩ ⟨k.val % 256, by omega⟩))
    (fun j k => mv (ix5 1 ⟨(i 0).val / 32, Nat.div_lt_of_lt_mul (i 0).isLt⟩ j ⟨k.val / 256, by omega⟩ ⟨k.val % 256, by omega⟩))
    (fun j k => wo (ix3 1 j k)) (i 1)

variable (m : (ℓ : Loc nD τ sig) → Buf (Elt Ideal) ℓ)

/-- Where each window's block stands at a grid point: the token blocks and the memory move with it, and the
    weights stay at the second layer. -/
theorem idx : ∀ t : Fin cfg0.N, win0_0.index t = ![t.val, 0] ∧ win0_1.index t = ![0, 0] ∧ win0_2.index t = ![1, 0, 0]
    ∧ win0_3.index t = ![t.val, 0, 0, 0] ∧ win0_4.index t = ![t.val, 0, 0, 0] ∧ win0_5.index t = ![1, 0, 0]
    ∧ win0_6.index t = ![t.val, 0] := by
  have h : ∀ t : Fin grid0.N, win0_0.index t = ![t.val, 0] ∧ win0_1.index t = ![0, 0] ∧ win0_2.index t = ![1, 0, 0]
    ∧ win0_3.index t = ![t.val, 0, 0, 0] ∧ win0_4.index t = ![t.val, 0, 0, 0] ∧ win0_5.index t = ![1, 0, 0]
    ∧ win0_6.index t = ![t.val, 0] := by decide +kernel
  exact h

/-- The token block's rows are the tokens' rows. -/
theorem blk0 (c : Dev nD) (t : Fin cfg0.N) (r : Fin 32) (k : Fin 1024) (h0 : (t.val * 32 + r.val) / 32 < 8) (h1 : (t.val * 32 + r.val) % 32 < 32) :
    iblk m c 0 t (ix2 r k) = m ((c : Thread nD τ).loc main_arg0) (ix3 ⟨(t.val * 32 + r.val) / 32, h0⟩ ⟨(t.val * 32 + r.val) % 32, h1⟩ k) := by
  blk_ext! [iblk, V, idx t]

/-- The norm's scale is the second layer's. -/
theorem blk1 (c : Dev nD) (t : Fin cfg0.N) (k : Fin 1024) :
    iblk m c 1 t (ix2 0 k) = m ((c : Thread nD τ).loc main_arg1) (ix2 1 k) := by
  blk_ext! [iblk, V, idx t]

/-- The query weights are the second layer's. -/
theorem blk2 (c : Dev nD) (t : Fin cfg0.N) (k j : Fin 1024) :
    iblk m c 2 t (ix3 0 k j) = m ((c : Thread nD τ).loc main_arg2) (ix3 1 k j) := by
  blk_ext [iblk, V, idx t]

/-- The memory's keys are those of the block's sample. -/
theorem blk3 (c : Dev nD) (t : Fin cfg0.N) (j : Fin 256) (h : Fin 4) (e : Fin 256) (b : ℕ) (hb : b < 8) (hv : b = t.val) :
    iblk m c 3 t (ix4 0 j h e) = m ((c : Thread nD τ).loc main_arg3) (ix5 1 ⟨b, hb⟩ j h e) := by
  subst hv
  blk_ext! [iblk, V, idx t]

/-- The memory's values are those of the block's sample. -/
theorem blk4 (c : Dev nD) (t : Fin cfg0.N) (j : Fin 256) (h : Fin 4) (e : Fin 256) (b : ℕ) (hb : b < 8) (hv : b = t.val) :
    iblk m c 4 t (ix4 0 j h e) = m ((c : Thread nD τ).loc main_arg4) (ix5 1 ⟨b, hb⟩ j h e) := by
  subst hv
  blk_ext! [iblk, V, idx t]

/-- The output weights are the second layer's. -/
theorem blk5 (c : Dev nD) (t : Fin cfg0.N) (j k : Fin 1024) :
    iblk m c 5 t (ix3 0 j k) = m ((c : Thread nD τ).loc main_arg5) (ix3 1 j k) := by
  blk_ext [iblk, V, idx t]

/-- The result array after the run. -/
theorem final (c : Dev nD) : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 6 _ (by decide +kernel) fun t hf y => ?_
  blk_simp
  rw [after0_6]
  idx_vars y
  rw [out_apply]
  have e0 : (((View.whole main_v10).slice (win0_6.rect t)).emb (ix2 y0 y1) 0).val = t.val * 32 + y0.val := by
    blk_simp [idx t]
  have e1 : ((View.whole main_v10).slice (win0_6.rect t)).emb (ix2 y0 y1) 1 = y1 := Fin.ext (by blk_simp [idx t])
  have ht : t.val < 8 := t.isLt
  have b0 : ∀ k, iblk m c 0 t (ix2 y0 k) = _ := fun k => blk0 m c t y0 k (by omega) (by omega)
  have b3 : ∀ j h e, iblk m c 3 t (ix4 0 j h e) = _ := fun j h e => blk3 m c t j h e ((t.val * 32 + y0.val) / 32) (by omega) (by omega)
  have b4 : ∀ j h e, iblk m c 4 t (ix4 0 j h e) = _ := fun j h e => blk4 m c t j h e ((t.val * 32 + y0.val) / 32) (by omega) (by omega)
  simp only [G, e0, e1, b0, blk1, blk2, b3, b4, blk5]

end Cert.MemAttnSampleIdeal.Hand

end
-- ==== Proof.MemAttnSampleRef.lean ====
module

public import proofs.«01_k».proof.Proof.Gen.MemAttnSampleRefIdeal.Read
public import proofs.«01_k».proof.Proof.MemAttnSampleArray

@[expose] public section

set_option maxRecDepth 16384

noncomputable section

namespace Cert.MemAttnSampleRefIdeal.Hand

open Cert.MemAttnSampleRefIdeal Cert.MemAttnSampleRefIdeal.Read Cert.Layer Idealize.ShloMosaic

variable (x : (⟨S8x32x1024, .f32⟩ : BufTy).Contents (Elt Ideal)) (g : (⟨S2x1024, .f32⟩ : BufTy).Contents (Elt Ideal))
  (wq : (⟨S2x1024x1024, .f32⟩ : BufTy).Contents (Elt Ideal)) (mk mv : (⟨S2x8x256x4x256, .f32⟩ : BufTy).Contents (Elt Ideal))
  (wo : (⟨S2x1024x1024, .f32⟩ : BufTy).Contents (Elt Ideal))

/-- The normalised token. -/
theorem norm_apply (b : Fin 8) (t : Fin 32) (c : Fin 1024) :
    val_main_v14 x g (ix3 b t c) = rms (fun k => x (ix3 b t k)) (fun k => g (ix2 1 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- A token's query. -/
theorem query_apply (b : Fin 8) (t : Fin 32) (c : Fin 1024) :
    val_main_v23 x g wq (ix3 b t c) = ∑ k, rms (fun k => x (ix3 b t k)) (fun k => g (ix2 1 k)) k * wq (ix3 1 k c) := by
  pointwise [val_main_v23, val_main_v20, val_main_v19, norm_apply]

/-- The second layer's memory keys. -/
theorem keys_apply (b : Fin 8) (j : Fin 256) (h : Fin 4) (e : Fin 256) : val_main_v16 mk (ix4 b j h e) = mk (ix5 1 b j h e) := by
  rw [val_main_v16_apply, val_main_v15_apply]
  refine congrArg mk (funext fun a => Fin.ext ?_)
  fin_cases a <;> simp [idx_main_v15, idx_main_v16] <;> omega

/-- The second layer's memory values. -/
theorem values_apply (b : Fin 8) (j : Fin 256) (h : Fin 4) (e : Fin 256) : val_main_v18 mv (ix4 b j h e) = mv (ix5 1 b j h e) := by
  rw [val_main_v18_apply, val_main_v17_apply]
  refine congrArg mv (funext fun a => Fin.ext ?_)
  fin_cases a <;> simp [idx_main_v17, idx_main_v18] <;> omega

/-- The scores of a token's head. -/
theorem score_apply (b : Fin 8) (h : Fin 4) (t : Fin 32) (j : Fin 256) :
    val_main_v27 x g wq mk (ix4 b h t j) = score (fun i => val_main_v23 x g wq (ix3 b t i))
      (fun j k => mk (ix5 1 b j ⟨k.val / 256, by omega⟩ ⟨k.val % 256, by omega⟩)) h j := by
  pointwise [val_main_v27, val_main_v26, val_main_v25, val_main_v24, val_main_cst_2, keys_apply]
  refine congrArg (· * headScale) (Finset.sum_congr rfl fun e _ => congrArg _ (congrArg mk (congrArg₂ (ix5 1 b j) (Fin.ext ?_) (Fin.ext ?_))))
  all_goals dsimp only; omega

/-- The greatest of a row of scores, as the reference takes it. -/
theorem reduce_apply (v : FVec Ideal S8x4x32x256 .f32) (c : FVec Ideal S_ .f32) (hr : S8x4x32x256.ReducesTo [3] S8x4x32)
    (h1 : 0 < S_.numel) (b : Fin 8) (h : Fin 4) (t : Fin 32) :
    Host.reduce FloatOps.maximumf v c hr h1 (ix3 b h t)
      = Finset.univ.fold max (c (Shape.Idx.first h1)) (fun j => v (ix4 b h t j)) := by
  simp only [pointwise]

/-- The greatest score of a token's head. -/
theorem top_apply (b : Fin 8) (h : Fin 4) (t : Fin 32) :
    val_main_v30 x g wq mk (ix3 b h t) = top (fun j => val_main_v27 x g wq mk (ix4 b h t j)) := by
  rw [val_main_v30_apply, val_main_v29_apply, val_main_cst_4_apply]
  unfold val_main_v28
  rw [reduce_apply, val_main_cst_3_apply]
  exact max_top _

/-- The weights of a token's head over the memory. -/
theorem soft_apply (b : Fin 8) (h : Fin 4) (t : Fin 32) (j : Fin 256) :
    val_main_v38 x g wq mk (ix4 b h t j) = soft (fun j => val_main_v27 x g wq mk (ix4 b h t j)) j := by
  pointwise [val_main_v38, val_main_v37, val_main_v36, val_main_v35, val_main_v34, val_main_v33, val_main_v32, val_main_v31, val_main_cst_5,
    top_apply]
  rfl

/-- The four heads' attention laid side by side. -/
theorem heads_apply (b : Fin 8) (t : Fin 32) (c : Fin 1024) :
    val_main_v41 x g wq mk mv (ix3 b t c) = heads (fun i => val_main_v23 x g wq (ix3 b t i))
      (fun j k => mk (ix5 1 b j ⟨k.val / 256, by omega⟩ ⟨k.val % 256, by omega⟩))
      (fun j k => mv (ix5 1 b j ⟨k.val / 256, by omega⟩ ⟨k.val % 256, by omega⟩)) c := by
  pointwise [val_main_v41, val_main_v40, val_main_v39, soft_apply, values_apply]
  unfold heads attend
  refine Finset.sum_congr rfl fun j _ => (mul_comm _ _).trans
    (congrArg₂ (· * ·) (by simp only [score_apply]) (congrArg mv (congrArg₂ (ix5 1 b j) (Fin.ext ?_) (Fin.ext ?_))))
  all_goals dsimp only; omega

/-- The reference's result at a row and a feature. -/
theorem out_apply (r : Fin 256) (c : Fin 1024) (h0 : r.val / 32 < 8) (h1 : r.val % 32 < 32) :
    val_main_v44 x g wq mk mv wo (ix2 r c) = memMid (fun k => x (ix3 ⟨r.val / 32, h0⟩ ⟨r.val % 32, h1⟩ k)) (fun k => g (ix2 1 k))
      (fun k j => wq (ix3 1 k j)) (fun j k => mk (ix5 1 ⟨r.val / 32, h0⟩ j ⟨k.val / 256, by omega⟩ ⟨k.val % 256, by omega⟩))
      (fun j k => mv (ix5 1 ⟨r.val / 32, h0⟩ j ⟨k.val / 256, by omega⟩ ⟨k.val % 256, by omega⟩)) (fun j k => wo (ix3 1 j k)) c := by
  pointwise [val_main_v44, val_main_v43, val_main_v42, val_main_v22, val_main_v21, heads_apply, query_apply]
  rfl

/-- The kernel's function of the arguments is the reference's result. -/
theorem eq_G : Cert.MemAttnSampleIdeal.Hand.G x g wq mk mv wo = val_main_v44 x g wq mk mv wo := by
  funext i
  idx_vars i
  rw [out_apply]
  rfl

end Cert.MemAttnSampleRefIdeal.Hand

end
-- ==== Proof.MemAttnSampleClaim.lean ====
module

public import proofs.«01_k».proof.Proof.MemAttnSampleRef
public import proofs.«01_k».proof.Defs

@[expose] public section

noncomputable section

namespace Cert.MemAttnSampleIdeal.Hand

open Idealize.ShloMosaic Idealize.SL.Sem

/-- The memory attention of the last layer and its reference, at exact arithmetic, end with equal results. -/
theorem algebraic : letI := Cert.MemAttnSampleIdeal.Gen.facts; letI := Cert.MemAttnSampleRefIdeal.Gen.facts; Cert.algebraic_MemAttnSampleIdeal_MemAttnSampleRefIdeal := by
  pair_intro
  · run_from Cert.MemAttnSampleIdeal.Gen.run_main m g
  · run_from Cert.MemAttnSampleRefIdeal.Value.run m' g'
    obtain ⟨h0, h1, h2, h3, h4, h5⟩ := hagree c
    rw [Cert.MemAttnSampleRefIdeal.Read.val_main_v44_eq]
    erw [final m c]
    rw [Cert.MemAttnSampleRefIdeal.Hand.eq_G, h0, h1, h2, h3, h4, h5]

end Cert.MemAttnSampleIdeal.Hand

end
-- ==== Proof.MlpBlock.lean ====
module

public import proofs.«01_k».proof.Proof.Gen.MlpIdeal.Frame
public import proofs.«01_k».proof.Proof.Spec
public import Idealize.ShloMosaic.Lib.Pipeline.ValueKit

@[expose] public section

set_option maxRecDepth 16384

noncomputable section

namespace Cert.MlpIdeal.Hand

open Cert.MlpIdeal Cert.MlpIdeal.Gen Cert.Layer Idealize.ShloMosaic

/-- The normalised row that the first products read. -/
theorem pay3_apply (v0 : Vec Ideal S1024x1024 .f32) (v2 : Vec Ideal S1x1024 .f32) (r c : Fin 1024) :
    k0_pay3 v0 v2 (ix2 r c) = rms (fun k => v0 (ix2 r k)) (fun k => v2 (ix2 0 k)) c := by
  pointwise [k0_pay3, k0_pay2]
  rfl

/-- The first quarter of the feed-forward part, added to the row. -/
theorem pay4_apply (v0 : Vec Ideal S1024x1024 .f32) (v2 : Vec Ideal S1x1024 .f32) (a b : Vec Ideal S1x1024x1024 .bf16) (r c : Fin 1024) :
    k0_pay4 v0 v2 a b (ix2 r c) = v0 (ix2 r c)
      + ∑ j, sqRelu (∑ k, rms (fun k => v0 (ix2 r k)) (fun k => v2 (ix2 0 k)) k * a (ix3 0 k j)) * b (ix3 0 j c) := by
  pointwise [k0_pay4, k0_pay2, pay3_apply]
  rfl

/-- The second quarter's squared rectified first product. -/
theorem pay5_apply (v0 : Vec Ideal S1024x1024 .f32) (v2 : Vec Ideal S1x1024 .f32) (a : Vec Ideal S1x1024x1024 .bf16) (r j : Fin 1024) :
    k0_pay5 v0 v2 a (ix2 r j) = sqRelu (∑ k, rms (fun k => v0 (ix2 r k)) (fun k => v2 (ix2 0 k)) k * a (ix3 0 k j)) := by
  pointwise [k0_pay5, pay3_apply]
  rfl

/-- The three later quarters added, each onto what stands so far. -/
theorem pay6_apply (h : FVec Ideal S1024x1024 .bf16) (y : FVec Ideal S1024x1024 .f32) (u : FVec Ideal S1024x1024 .bf16)
    (b1 a2 b2 a3 b3 : Vec Ideal S1x1024x1024 .bf16) (r c : Fin 1024) :
    k0_pay6 h y u b1 a2 b2 a3 b3 (ix2 r c) = y (ix2 r c) + (∑ j, u (ix2 r j) * b1 (ix3 0 j c))
      + (∑ j, sqRelu (∑ k, h (ix2 r k) * a2 (ix3 0 k j)) * b2 (ix3 0 j c))
      + ∑ j, sqRelu (∑ k, h (ix2 r k) * a3 (ix3 0 k j)) * b3 (ix3 0 j c) := by
  pointwise [k0_pay6]
  rfl

/-- The reciprocal root mean square of the residual's row. -/
theorem pay8_apply (h : FVec Ideal S1024x1024 .bf16) (y : FVec Ideal S1024x1024 .f32) (u : FVec Ideal S1024x1024 .bf16)
    (b1 a2 b2 a3 b3 : Vec Ideal S1x1024x1024 .bf16) (r : Fin 1024) :
    k0_pay8 h y u b1 a2 b2 a3 b3 (ix2 r 0) = invRms (fun k => k0_pay6 h y u b1 a2 b2 a3 b3 (ix2 r k)) := by
  pointwise [k0_pay8]
  rfl

/-- The final norm of the feed-forward residual of a block's row, read off the staged blocks. -/
theorem out_apply (x : Vec Ideal S1024x1024 .f32) (g : Vec Ideal S1x1024 .f32) (w1 : Vec Ideal S1x1024x4096 .bf16)
    (w2 : Vec Ideal S1x4096x1024 .bf16) (gf : Vec Ideal S1x1024 .f32) (r c : Fin 1024) :
    out0_5 x g w1 w2 gf (ix2 r c)
      = rms (mlpMid (fun k => x (ix2 r k)) (fun k => g (ix2 0 k)) (fun k j => w1 (ix3 0 k j)) (fun j k => w2 (ix3 0 j k)))
          (fun k => gf (ix2 0 k)) c := by
  frame_out
  pointwise [k0_pay1, k0_pay7, k0_pay9, k0_pay10, k0_pay11, pay8_apply, pay6_apply, pay3_apply, pay4_apply, pay5_apply]
  simp only [rms, funext (mlpMid_quarters _ _ _ _)]

end Cert.MlpIdeal.Hand

end
-- ==== Proof.MlpArray.lean ====
module

public import proofs.«01_k».proof.Proof.MlpBlock

@[expose] public section

set_option maxRecDepth 16384

noncomputable section

namespace Cert.MlpIdeal.Hand

open Cert.MlpIdeal Cert.MlpIdeal.Gen Cert.Layer Idealize.ShloMosaic Idealize.ShloMosaic.TcCoe

/-- The result as one function of the arguments: row `r` of the result is the final norm of the feed-forward residual of
    token `r` of the prompts, laid out one after another, with the second layer's weights. -/
def G (x : (⟨S8x4096x1024, .f32⟩ : BufTy).Contents (Elt Ideal)) (g : (⟨S2x1024, .f32⟩ : BufTy).Contents (Elt Ideal))
    (w1 : (⟨S2x1024x4096, .f32⟩ : BufTy).Contents (Elt Ideal)) (w2 : (⟨S2x4096x1024, .f32⟩ : BufTy).Contents (Elt Ideal))
    (gf : (⟨S1024, .f32⟩ : BufTy).Contents (Elt Ideal)) : (⟨S32768x1024, .f32⟩ : BufTy).Contents (Elt Ideal) := fun i =>
  rms (mlpMid (fun k => x (ix3 ⟨(i 0).val / 4096, Nat.div_lt_of_lt_mul (i 0).isLt⟩ ⟨(i 0).val % 4096, Nat.mod_lt _ (by decide)⟩ k))
      (fun k => g (ix2 1 k)) (fun k j => w1 (ix3 1 k j)) (fun j k => w2 (ix3 1 j k)))
    (fun k => gf (ix1 k)) (i 1)

variable (m : (ℓ : Loc nD τ sig) → Buf (Elt Ideal) ℓ)

/-- Where each window's block stands at a grid point: the token blocks move with it, the weights stay at the second layer. -/
theorem idx : ∀ t : Fin cfg0.N, win0_0.index t = ![t.val, 0] ∧ win0_1.index t = ![0, 0] ∧ win0_2.index t = ![1, 0, 0]
    ∧ win0_3.index t = ![1, 0, 0] ∧ win0_4.index t = ![0, 0] ∧ win0_5.index t = ![t.val, 0] := by
  have h : ∀ t : Fin grid0.N, win0_0.index t = ![t.val, 0] ∧ win0_1.index t = ![0, 0] ∧ win0_2.index t = ![1, 0, 0]
    ∧ win0_3.index t = ![1, 0, 0] ∧ win0_4.index t = ![0, 0] ∧ win0_5.index t = ![t.val, 0] := by decide +kernel
  exact h

/-- The token block's rows are the tokens' rows. -/
theorem blk0 (c : Dev nD) (t : Fin cfg0.N) (r k : Fin 1024) (h0 : (t.val * 1024 + r.val) / 4096 < 8) (h1 : (t.val * 1024 + r.val) % 4096 < 4096) :
    iblk m c 0 t (ix2 r k) = m ((c : Thread nD τ).loc main_arg0) (ix3 ⟨(t.val * 1024 + r.val) / 4096, h0⟩ ⟨(t.val * 1024 + r.val) % 4096, h1⟩ k) := by
  blk_ext! [iblk, V, idx t]

/-- The norm's scale is the second layer's. -/
theorem blk1 (c : Dev nD) (t : Fin cfg0.N) (k : Fin 1024) :
    iblk m c 1 t (ix2 0 k) = m ((c : Thread nD τ).loc main_arg1) (ix2 1 k) := by
  blk_ext! [iblk, V, idx t]

/-- The first weights are the second layer's. -/
theorem blk2 (c : Dev nD) (t : Fin cfg0.N) (k : Fin 1024) (j : Fin 4096) :
    iblk m c 2 t (ix3 0 k j) = m ((c : Thread nD τ).loc main_arg2) (ix3 1 k j) := by
  blk_ext [iblk, V, idx t]

/-- The second weights are the second layer's. -/
theorem blk3 (c : Dev nD) (t : Fin cfg0.N) (j : Fin 4096) (k : Fin 1024) :
    iblk m c 3 t (ix3 0 j k) = m ((c : Thread nD τ).loc main_arg3) (ix3 1 j k) := by
  blk_ext [iblk, V, idx t]

/-- The final norm's scale is the whole vector. -/
theorem blk4 (c : Dev nD) (t : Fin cfg0.N) (k : Fin 1024) :
    iblk m c 4 t (ix2 0 k) = m ((c : Thread nD τ).loc main_arg4) (ix1 k) := by
  blk_ext! [iblk, V, idx t]

/-- The result array after the run. -/
theorem final (c : Dev nD) : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out_apply]
  have e0 : (((View.whole main_v7).slice (win0_5.rect t)).emb (ix2 y0 y1) 0).val = t.val * 1024 + y0.val := by
    blk_simp [idx t]
  have e1 : ((View.whole main_v7).slice (win0_5.rect t)).emb (ix2 y0 y1) 1 = y1 := Fin.ext (by blk_simp [idx t])
  have b0 : ∀ k, iblk m c 0 t (ix2 y0 k) = _ := fun k => blk0 m c t y0 k (by have := t.isLt; have : cfg0.grid.N = 32 := rfl; omega) (by omega)
  simp only [G, e0, e1, b0, blk1, blk2, blk3, blk4]

end Cert.MlpIdeal.Hand

end
-- ==== Proof.MlpRef.lean ====
module

public import proofs.«01_k».proof.Proof.Gen.MlpRefIdeal.Read
public import proofs.«01_k».proof.Proof.MlpArray

@[expose] public section

set_option maxRecDepth 16384

noncomputable section

namespace Cert.MlpRefIdeal.Hand

open Cert.MlpRefIdeal Cert.MlpRefIdeal.Read Cert.Layer Idealize.ShloMosaic

variable (x : (⟨S8x4096x1024, .f32⟩ : BufTy).Contents (Elt Ideal)) (g : (⟨S2x1024, .f32⟩ : BufTy).Contents (Elt Ideal))
  (w1 : (⟨S2x1024x4096, .f32⟩ : BufTy).Contents (Elt Ideal)) (w2 : (⟨S2x4096x1024, .f32⟩ : BufTy).Contents (Elt Ideal))
  (gf : (⟨S1024, .f32⟩ : BufTy).Contents (Elt Ideal))

/-- The normalised token. -/
theorem norm_apply (b : Fin 8) (t : Fin 4096) (c : Fin 1024) :
    val_main_v14 x g (ix3 b t c) = rms (fun k => x (ix3 b t k)) (fun k => g (ix2 1 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The feed-forward residual of a token. -/
theorem mid_apply (b : Fin 8) (t : Fin 4096) (c : Fin 1024) :
    val_main_v23 x g w1 w2 (ix3 b t c) = mlpMid (fun k => x (ix3 b t k)) (fun k => g (ix2 1 k)) (fun k j => w1 (ix3 1 k j))
      (fun j k => w2 (ix3 1 j k)) c := by
  pointwise [val_main_v23, val_main_v22, val_main_v21, val_main_v20, val_main_v19, val_main_v18, val_main_call0_v0, val_main_call0_cst,
    val_main_v17, val_main_v16, val_main_v15, norm_apply]
  rfl

/-- The reference's result at a row and a feature. -/
theorem out_apply (r : Fin 32768) (c : Fin 1024) (h0 : r.val / 4096 < 8) (h1 : r.val % 4096 < 4096) :
    val_main_v37 x g w1 w2 gf (ix2 r c) = rms (mlpMid (fun k => x (ix3 ⟨r.val / 4096, h0⟩ ⟨r.val % 4096, h1⟩ k)) (fun k => g (ix2 1 k))
      (fun k j => w1 (ix3 1 k j)) (fun j k => w2 (ix3 1 j k))) (fun k => gf (ix1 k)) c := by
  pointwise [val_main_v37, val_main_v36, val_main_v35, val_main_v34, val_main_v33, val_main_v32, val_main_v31, val_main_v30, val_main_v29,
    val_main_v28, val_main_v27, val_main_v26, val_main_v25, val_main_v24, val_main_cst_2, val_main_cst_3, val_main_cst_4, mid_apply]
  rfl

/-- The kernel's function of the arguments is the reference's result. -/
theorem eq_G : Cert.MlpIdeal.Hand.G x g w1 w2 gf = val_main_v37 x g w1 w2 gf := by
  funext i
  idx_vars i
  rw [out_apply]
  rfl

end Cert.MlpRefIdeal.Hand

end
-- ==== Proof.MlpClaim.lean ====
module

public import proofs.«01_k».proof.Proof.MlpRef
public import proofs.«01_k».proof.Defs

@[expose] public section

noncomputable section

namespace Cert.MlpIdeal.Hand

open Idealize.ShloMosaic Idealize.SL.Sem

/-- The final feed-forward kernel and its reference, at exact arithmetic, end with equal results. -/
theorem algebraic : letI := Cert.MlpIdeal.Gen.facts; letI := Cert.MlpRefIdeal.Gen.facts; Cert.algebraic_MlpIdeal_MlpRefIdeal := by
  pair_intro
  · run_from Cert.MlpIdeal.Gen.run_main m g
  · run_from Cert.MlpRefIdeal.Value.run m' g'
    obtain ⟨h0, h1, h2, h3, h4⟩ := hagree c
    rw [Cert.MlpRefIdeal.Read.val_main_v37_eq]
    erw [final m c]
    rw [Cert.MlpRefIdeal.Hand.eq_G, h0, h1, h2, h3, h4]

end Cert.MlpIdeal.Hand

end
-- ==== Proof.MlpSampleBlock.lean ====
module

public import proofs.«01_k».proof.Proof.Gen.MlpSampleIdeal.Frame
public import proofs.«01_k».proof.Proof.Spec
public import Idealize.ShloMosaic.Lib.Pipeline.ValueKit

@[expose] public section

set_option maxRecDepth 16384

noncomputable section

namespace Cert.MlpSampleIdeal.Hand

open Cert.MlpSampleIdeal Cert.MlpSampleIdeal.Gen Cert.Layer Idealize.ShloMosaic

/-- The normalised row that the first products read. -/
theorem pay3_apply (v0 : Vec Ideal S256x1024 .f32) (v2 : Vec Ideal S1x1024 .f32) (r : Fin 256) (c : Fin 1024) :
    k0_pay3 v0 v2 (ix2 r c) = rms (fun k => v0 (ix2 r k)) (fun k => v2 (ix2 0 k)) c := by
  pointwise [k0_pay3, k0_pay2]
  rfl

/-- The first quarter of the feed-forward part, added to the row. -/
theorem pay4_apply (v0 : Vec Ideal S256x1024 .f32) (v2 : Vec Ideal S1x1024 .f32) (a b : Vec Ideal S1x1024x1024 .bf16) (r : Fin 256) (c : Fin 1024) :
    k0_pay4 v0 v2 a b (ix2 r c) = v0 (ix2 r c)
      + ∑ j, sqRelu (∑ k, rms (fun k => v0 (ix2 r k)) (fun k => v2 (ix2 0 k)) k * a (ix3 0 k j)) * b (ix3 0 j c) := by
  pointwise [k0_pay4, k0_pay2, pay3_apply]
  rfl

/-- The second quarter's squared rectified first product. -/
theorem pay5_apply (v0 : Vec Ideal S256x1024 .f32) (v2 : Vec Ideal S1x1024 .f32) (a : Vec Ideal S1x1024x1024 .bf16) (r : Fin 256) (j : Fin 1024) :
    k0_pay5 v0 v2 a (ix2 r j) = sqRelu (∑ k, rms (fun k => v0 (ix2 r k)) (fun k => v2 (ix2 0 k)) k * a (ix3 0 k j)) := by
  pointwise [k0_pay5, pay3_apply]
  rfl

/-- The three later quarters added, each onto what stands so far. -/
theorem pay6_apply (h : FVec Ideal S256x1024 .bf16) (y : FVec Ideal S256x1024 .f32) (u : FVec Ideal S256x1024 .bf16)
    (b1 a2 b2 a3 b3 : Vec Ideal S1x1024x1024 .bf16) (r : Fin 256) (c : Fin 1024) :
    k0_pay6 h y u b1 a2 b2 a3 b3 (ix2 r c) = y (ix2 r c) + (∑ j, u (ix2 r j) * b1 (ix3 0 j c))
      + (∑ j, sqRelu (∑ k, h (ix2 r k) * a2 (ix3 0 k j)) * b2 (ix3 0 j c))
      + ∑ j, sqRelu (∑ k, h (ix2 r k) * a3 (ix3 0 k j)) * b3 (ix3 0 j c) := by
  pointwise [k0_pay6]
  rfl

/-- The reciprocal root mean square of the residual's row. -/
theorem pay8_apply (h : FVec Ideal S256x1024 .bf16) (y : FVec Ideal S256x1024 .f32) (u : FVec Ideal S256x1024 .bf16)
    (b1 a2 b2 a3 b3 : Vec Ideal S1x1024x1024 .bf16) (r : Fin 256) :
    k0_pay8 h y u b1 a2 b2 a3 b3 (ix2 r 0) = invRms (fun k => k0_pay6 h y u b1 a2 b2 a3 b3 (ix2 r k)) := by
  pointwise [k0_pay8]
  rfl

/-- The final norm of the feed-forward residual of a block's row, read off the staged blocks. -/
theorem out_apply (x : Vec Ideal S256x1024 .f32) (g : Vec Ideal S1x1024 .f32) (w1 : Vec Ideal S1x1024x4096 .bf16)
    (w2 : Vec Ideal S1x4096x1024 .bf16) (gf : Vec Ideal S1x1024 .f32) (r : Fin 256) (c : Fin 1024) :
    out0_5 x g w1 w2 gf (ix2 r c)
      = rms (mlpMid (fun k => x (ix2 r k)) (fun k => g (ix2 0 k)) (fun k j => w1 (ix3 0 k j)) (fun j k => w2 (ix3 0 j k)))
          (fun k => gf (ix2 0 k)) c := by
  frame_out
  pointwise [k0_pay1, k0_pay7, k0_pay9, k0_pay10, k0_pay11, pay8_apply, pay6_apply, pay3_apply, pay4_apply, pay5_apply]
  simp only [rms, funext (mlpMid_quarters _ _ _ _)]

end Cert.MlpSampleIdeal.Hand

end
-- ==== Proof.MlpSampleArray.lean ====
module

public import proofs.«01_k».proof.Proof.MlpSampleBlock

@[expose] public section

set_option maxRecDepth 16384

noncomputable section

namespace Cert.MlpSampleIdeal.Hand

open Cert.MlpSampleIdeal Cert.MlpSampleIdeal.Gen Cert.Layer Idealize.ShloMosaic Idealize.ShloMosaic.TcCoe

/-- The result as one function of the arguments: row `r` of the result is the final norm of the feed-forward residual of
    token `r` of the samples, laid out one after another, with the second layer's weights. -/
def G (x : (⟨S8x32x1024, .f32⟩ : BufTy).Contents (Elt Ideal)) (g : (⟨S2x1024, .f32⟩ : BufTy).Contents (Elt Ideal))
    (w1 : (⟨S2x1024x4096, .f32⟩ : BufTy).Contents (Elt Ideal)) (w2 : (⟨S2x4096x1024, .f32⟩ : BufTy).Contents (Elt Ideal))
    (gf : (⟨S1024, .f32⟩ : BufTy).Contents (Elt Ideal)) : (⟨S256x1024, .f32⟩ : BufTy).Contents (Elt Ideal) := fun i =>
  rms (mlpMid (fun k => x (ix3 ⟨(i 0).val / 32, Nat.div_lt_of_lt_mul (i 0).isLt⟩ ⟨(i 0).val % 32, Nat.mod_lt _ (by decide)⟩ k))
      (fun k => g (ix2 1 k)) (fun k j => w1 (ix3 1 k j)) (fun j k => w2 (ix3 1 j k)))
    (fun k => gf (ix1 k)) (i 1)

variable (m : (ℓ : Loc nD τ sig) → Buf (Elt Ideal) ℓ)

/-- Where each window's block stands at a grid point: the token blocks move with it, the weights stay at the second layer. -/
theorem idx : ∀ t : Fin cfg0.N, win0_0.index t = ![t.val, 0] ∧ win0_1.index t = ![0, 0] ∧ win0_2.index t = ![1, 0, 0]
    ∧ win0_3.index t = ![1, 0, 0] ∧ win0_4.index t = ![0, 0] ∧ win0_5.index t = ![t.val, 0] := by
  have h : ∀ t : Fin grid0.N, win0_0.index t = ![t.val, 0] ∧ win0_1.index t = ![0, 0] ∧ win0_2.index t = ![1, 0, 0]
    ∧ win0_3.index t = ![1, 0, 0] ∧ win0_4.index t = ![0, 0] ∧ win0_5.index t = ![t.val, 0] := by decide +kernel
  exact h

/-- The token block's rows are the tokens' rows. -/
theorem blk0 (c : Dev nD) (t : Fin cfg0.N) (r : Fin 256) (k : Fin 1024) (h0 : (t.val * 256 + r.val) / 32 < 8) (h1 : (t.val * 256 + r.val) % 32 < 32) :
    iblk m c 0 t (ix2 r k) = m ((c : Thread nD τ).loc main_arg0) (ix3 ⟨(t.val * 256 + r.val) / 32, h0⟩ ⟨(t.val * 256 + r.val) % 32, h1⟩ k) := by
  blk_ext! [iblk, V, idx t]

/-- The norm's scale is the second layer's. -/
theorem blk1 (c : Dev nD) (t : Fin cfg0.N) (k : Fin 1024) :
    iblk m c 1 t (ix2 0 k) = m ((c : Thread nD τ).loc main_arg1) (ix2 1 k) := by
  blk_ext! [iblk, V, idx t]

/-- The first weights are the second layer's. -/
theorem blk2 (c : Dev nD) (t : Fin cfg0.N) (k : Fin 1024) (j : Fin 4096) :
    iblk m c 2 t (ix3 0 k j) = m ((c : Thread nD τ).loc main_arg2) (ix3 1 k j) := by
  blk_ext [iblk, V, idx t]

/-- The second weights are the second layer's. -/
theorem blk3 (c : Dev nD) (t : Fin cfg0.N) (j : Fin 4096) (k : Fin 1024) :
    iblk m c 3 t (ix3 0 j k) = m ((c : Thread nD τ).loc main_arg3) (ix3 1 j k) := by
  blk_ext [iblk, V, idx t]

/-- The final norm's scale is the whole vector. -/
theorem blk4 (c : Dev nD) (t : Fin cfg0.N) (k : Fin 1024) :
    iblk m c 4 t (ix2 0 k) = m ((c : Thread nD τ).loc main_arg4) (ix1 k) := by
  blk_ext! [iblk, V, idx t]

/-- The result array after the run. -/
theorem final (c : Dev nD) : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out_apply]
  have e0 : (((View.whole main_v7).slice (win0_5.rect t)).emb (ix2 y0 y1) 0).val = t.val * 256 + y0.val := by
    blk_simp [idx t]
  have e1 : ((View.whole main_v7).slice (win0_5.rect t)).emb (ix2 y0 y1) 1 = y1 := Fin.ext (by blk_simp [idx t])
  have b0 : ∀ k, iblk m c 0 t (ix2 y0 k) = _ := fun k => blk0 m c t y0 k (by have := t.isLt; have : cfg0.grid.N = 1 := rfl; omega) (by omega)
  simp only [G, e0, e1, b0, blk1, blk2, blk3, blk4]

end Cert.MlpSampleIdeal.Hand

end
-- ==== Proof.MlpSampleRef.lean ====
module

public import proofs.«01_k».proof.Proof.Gen.MlpSampleRefIdeal.Read
public import proofs.«01_k».proof.Proof.MlpSampleArray

@[expose] public section

set_option maxRecDepth 16384

noncomputable section

namespace Cert.MlpSampleRefIdeal.Hand

open Cert.MlpSampleRefIdeal Cert.MlpSampleRefIdeal.Read Cert.Layer Idealize.ShloMosaic

variable (x : (⟨S8x32x1024, .f32⟩ : BufTy).Contents (Elt Ideal)) (g : (⟨S2x1024, .f32⟩ : BufTy).Contents (Elt Ideal))
  (w1 : (⟨S2x1024x4096, .f32⟩ : BufTy).Contents (Elt Ideal)) (w2 : (⟨S2x4096x1024, .f32⟩ : BufTy).Contents (Elt Ideal))
  (gf : (⟨S1024, .f32⟩ : BufTy).Contents (Elt Ideal))

/-- The normalised token. -/
theorem norm_apply (b : Fin 8) (t : Fin 32) (c : Fin 1024) :
    val_main_v14 x g (ix3 b t c) = rms (fun k => x (ix3 b t k)) (fun k => g (ix2 1 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The feed-forward residual of a token. -/
theorem mid_apply (b : Fin 8) (t : Fin 32) (c : Fin 1024) :
    val_main_v23 x g w1 w2 (ix3 b t c) = mlpMid (fun k => x (ix3 b t k)) (fun k => g (ix2 1 k)) (fun k j => w1 (ix3 1 k j))
      (fun j k => w2 (ix3 1 j k)) c := by
  pointwise [val_main_v23, val_main_v22, val_main_v21, val_main_v20, val_main_v19, val_main_v18, val_main_call0_v0, val_main_call0_cst,
    val_main_v17, val_main_v16, val_main_v15, norm_apply]
  rfl

/-- The reference's result at a row and a feature. -/
theorem out_apply (r : Fin 256) (c : Fin 1024) (h0 : r.val / 32 < 8) (h1 : r.val % 32 < 32) :
    val_main_v37 x g w1 w2 gf (ix2 r c) = rms (mlpMid (fun k => x (ix3 ⟨r.val / 32, h0⟩ ⟨r.val % 32, h1⟩ k)) (fun k => g (ix2 1 k))
      (fun k j => w1 (ix3 1 k j)) (fun j k => w2 (ix3 1 j k))) (fun k => gf (ix1 k)) c := by
  pointwise [val_main_v37, val_main_v36, val_main_v35, val_main_v34, val_main_v33, val_main_v32, val_main_v31, val_main_v30, val_main_v29,
    val_main_v28, val_main_v27, val_main_v26, val_main_v25, val_main_v24, val_main_cst_2, val_main_cst_3, val_main_cst_4, mid_apply]
  rfl

/-- The kernel's function of the arguments is the reference's result. -/
theorem eq_G : Cert.MlpSampleIdeal.Hand.G x g w1 w2 gf = val_main_v37 x g w1 w2 gf := by
  funext i
  idx_vars i
  rw [out_apply]
  rfl

end Cert.MlpSampleRefIdeal.Hand

end
-- ==== Proof.MlpSampleClaim.lean ====
module

public import proofs.«01_k».proof.Proof.MlpSampleRef
public import proofs.«01_k».proof.Defs

@[expose] public section

noncomputable section

namespace Cert.MlpSampleIdeal.Hand

open Idealize.ShloMosaic Idealize.SL.Sem

/-- The final feed-forward kernel and its reference, at exact arithmetic, end with equal results. -/
theorem algebraic : letI := Cert.MlpSampleIdeal.Gen.facts; letI := Cert.MlpSampleRefIdeal.Gen.facts; Cert.algebraic_MlpSampleIdeal_MlpSampleRefIdeal := by
  pair_intro
  · run_from Cert.MlpSampleIdeal.Gen.run_main m g
  · run_from Cert.MlpSampleRefIdeal.Value.run m' g'
    obtain ⟨h0, h1, h2, h3, h4⟩ := hagree c
    rw [Cert.MlpSampleRefIdeal.Read.val_main_v37_eq]
    erw [final m c]
    rw [Cert.MlpSampleRefIdeal.Hand.eq_G, h0, h1, h2, h3, h4]

end Cert.MlpSampleIdeal.Hand

end
-- ==== Proof.MlpFirstBlock.lean ====
module

public import proofs.«01_k».proof.Proof.Gen.MlpFirstIdeal.Frame
public import proofs.«01_k».proof.Proof.Spec
public import Idealize.ShloMosaic.Lib.Pipeline.ValueKit

@[expose] public section

set_option maxRecDepth 16384

noncomputable section

namespace Cert.MlpFirstIdeal.Hand

open Cert.MlpFirstIdeal Cert.MlpFirstIdeal.Gen Cert.Layer Idealize.ShloMosaic

/-- The normalised row that the first products read. -/
theorem pay3_apply (v0 : Vec Ideal S1024x1024 .f32) (v2 : Vec Ideal S1x1024 .f32) (r c : Fin 1024) :
    k0_pay3 v0 v2 (ix2 r c) = rms (fun k => v0 (ix2 r k)) (fun k => v2 (ix2 0 k)) c := by
  pointwise [k0_pay3, k0_pay2]
  rfl

/-- The first quarter of the feed-forward part, added to the row. -/
theorem pay4_apply (v0 : Vec Ideal S1024x1024 .f32) (v2 : Vec Ideal S1x1024 .f32) (a b : Vec Ideal S1x1024x1024 .bf16) (r c : Fin 1024) :
    k0_pay4 v0 v2 a b (ix2 r c) = v0 (ix2 r c)
      + ∑ j, sqRelu (∑ k, rms (fun k => v0 (ix2 r k)) (fun k => v2 (ix2 0 k)) k * a (ix3 0 k j)) * b (ix3 0 j c) := by
  pointwise [k0_pay4, k0_pay2, pay3_apply]
  rfl

/-- The second quarter's squared rectified first product. -/
theorem pay5_apply (v0 : Vec Ideal S1024x1024 .f32) (v2 : Vec Ideal S1x1024 .f32) (a : Vec Ideal S1x1024x1024 .bf16) (r j : Fin 1024) :
    k0_pay5 v0 v2 a (ix2 r j) = sqRelu (∑ k, rms (fun k => v0 (ix2 r k)) (fun k => v2 (ix2 0 k)) k * a (ix3 0 k j)) := by
  pointwise [k0_pay5, pay3_apply]
  rfl

/-- The three later quarters added, each onto what stands so far. -/
theorem pay1_apply (h : FVec Ideal S1024x1024 .bf16) (y : FVec Ideal S1024x1024 .f32) (u : FVec Ideal S1024x1024 .bf16)
    (b1 a2 b2 a3 b3 : Vec Ideal S1x1024x1024 .bf16) (r c : Fin 1024) :
    k0_pay1 h y u b1 a2 b2 a3 b3 (ix2 r c) = y (ix2 r c) + (∑ j, u (ix2 r j) * b1 (ix3 0 j c))
      + (∑ j, sqRelu (∑ k, h (ix2 r k) * a2 (ix3 0 k j)) * b2 (ix3 0 j c))
      + ∑ j, sqRelu (∑ k, h (ix2 r k) * a3 (ix3 0 k j)) * b3 (ix3 0 j c) := by
  pointwise [k0_pay1]
  rfl

/-- The feed-forward residual of a block's row, read off the staged blocks. -/
theorem out_apply (x : Vec Ideal S1024x1024 .f32) (g : Vec Ideal S1x1024 .f32) (w1 : Vec Ideal S1x1024x4096 .bf16)
    (w2 : Vec Ideal S1x4096x1024 .bf16) (r c : Fin 1024) :
    out0_4 x g w1 w2 (ix2 r c)
      = mlpMid (fun k => x (ix2 r k)) (fun k => g (ix2 0 k)) (fun k j => w1 (ix3 0 k j)) (fun j k => w2 (ix3 0 j k)) c := by
  frame_out
  pointwise [pay1_apply, pay3_apply, pay4_apply, pay5_apply]
  rw [mlpMid_quarters]

end Cert.MlpFirstIdeal.Hand

end
-- ==== Proof.MlpFirstArray.lean ====
module

public import proofs.«01_k».proof.Proof.MlpFirstBlock

@[expose] public section

set_option maxRecDepth 16384

noncomputable section

namespace Cert.MlpFirstIdeal.Hand

open Cert.MlpFirstIdeal Cert.MlpFirstIdeal.Gen Cert.Layer Idealize.ShloMosaic Idealize.ShloMosaic.TcCoe

/-- The result as one function of the arguments: row `r` of the result is the feed-forward residual of token `r` of the prompts, laid out one after another, with the first layer's weights. -/
def G (x : (⟨S8x4096x1024, .f32⟩ : BufTy).Contents (Elt Ideal)) (g : (⟨S2x1024, .f32⟩ : BufTy).Contents (Elt Ideal))
    (w1 : (⟨S2x1024x4096, .f32⟩ : BufTy).Contents (Elt Ideal)) (w2 : (⟨S2x4096x1024, .f32⟩ : BufTy).Contents (Elt Ideal)) : (⟨S32768x1024, .f32⟩ : BufTy).Contents (Elt Ideal) := fun i =>
  mlpMid (fun k => x (ix3 ⟨(i 0).val / 4096, Nat.div_lt_of_lt_mul (i 0).isLt⟩ ⟨(i 0).val % 4096, Nat.mod_lt _ (by decide)⟩ k))
      (fun k => g (ix2 0 k)) (fun k j => w1 (ix3 0 k j)) (fun j k => w2 (ix3 0 j k)) (i 1)

variable (m : (ℓ : Loc nD τ sig) → Buf (Elt Ideal) ℓ)

/-- Where each window's block stands at a grid point: the token blocks move with it, the weights stay at the first layer. -/
theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] := by
  have h : ∀ t : Fin grid0.N, win0_0.index t = ![t.val, 0] ∧ win0_1.index t = ![0, 0] ∧ win0_2.index t = ![0, 0, 0]
    ∧ win0_3.index t = ![0, 0, 0] ∧ win0_4.index t = ![t.val, 0] := by decide +kernel
  exact h

/-- The token block's rows are the tokens' rows. -/
theorem blk0 (c : Dev nD) (t : Fin cfg0.N) (r k : Fin 1024) (h0 : (t.val * 1024 + r.val) / 4096 < 8) (h1 : (t.val * 1024 + r.val) % 4096 < 4096) :
    iblk m c 0 t (ix2 r k) = m ((c : Thread nD τ).loc main_arg0) (ix3 ⟨(t.val * 1024 + r.val) / 4096, h0⟩ ⟨(t.val * 1024 + r.val) % 4096, h1⟩ k) := by
  blk_ext! [iblk, V, idx t]

/-- The norm's scale is the first layer's. -/
theorem blk1 (c : Dev nD) (t : Fin cfg0.N) (k : Fin 1024) :
    iblk m c 1 t (ix2 0 k) = m ((c : Thread nD τ).loc main_arg1) (ix2 0 k) := by
  blk_ext! [iblk, V, idx t]

/-- The first weights are the first layer's. -/
theorem blk2 (c : Dev nD) (t : Fin cfg0.N) (k : Fin 1024) (j : Fin 4096) :
    iblk m c 2 t (ix3 0 k j) = m ((c : Thread nD τ).loc main_arg2) (ix3 0 k j) := by
  blk_ext [iblk, V, idx t]

/-- The second weights are the first layer's. -/
theorem blk3 (c : Dev nD) (t : Fin cfg0.N) (j : Fin 4096) (k : Fin 1024) :
    iblk m c 3 t (ix3 0 j k) = m ((c : Thread nD τ).loc main_arg3) (ix3 0 j k) := by
  blk_ext [iblk, V, idx t]

/-- The result array after the run. -/
theorem final (c : Dev nD) : (dats m 0 c).arrAt 4 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  idx_vars y
  rw [out_apply]
  have e0 : (((View.whole main_v6).slice (win0_4.rect t)).emb (ix2 y0 y1) 0).val = t.val * 1024 + y0.val := by
    blk_simp [idx t]
  have e1 : ((View.whole main_v6).slice (win0_4.rect t)).emb (ix2 y0 y1) 1 = y1 := Fin.ext (by blk_simp [idx t])
  have b0 : ∀ k, iblk m c 0 t (ix2 y0 k) = _ := fun k => blk0 m c t y0 k (by have := t.isLt; have : cfg0.grid.N = 32 := rfl; omega) (by omega)
  simp only [G, e0, e1, b0, blk1, blk2, blk3]

end Cert.MlpFirstIdeal.Hand

end
-- ==== Proof.MlpFirstRef.lean ====
module

public import proofs.«01_k».proof.Proof.Gen.MlpFirstRefIdeal.Read
public import proofs.«01_k».proof.Proof.MlpFirstArray

@[expose] public section

set_option maxRecDepth 16384

noncomputable section

namespace Cert.MlpFirstRefIdeal.Hand

open Cert.MlpFirstRefIdeal Cert.MlpFirstRefIdeal.Read Cert.Layer Idealize.ShloMosaic

variable (x : (⟨S8x4096x1024, .f32⟩ : BufTy).Contents (Elt Ideal)) (g : (⟨S2x1024, .f32⟩ : BufTy).Contents (Elt Ideal))
  (w1 : (⟨S2x1024x4096, .f32⟩ : BufTy).Contents (Elt Ideal)) (w2 : (⟨S2x4096x1024, .f32⟩ : BufTy).Contents (Elt Ideal))

/-- The normalised token. -/
theorem norm_apply (b : Fin 8) (t : Fin 4096) (c : Fin 1024) :
    val_main_v14 x g (ix3 b t c) = rms (fun k => x (ix3 b t k)) (fun k => g (ix2 0 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The feed-forward residual of a token. -/
theorem mid_apply (b : Fin 8) (t : Fin 4096) (c : Fin 1024) :
    val_main_v23 x g w1 w2 (ix3 b t c) = mlpMid (fun k => x (ix3 b t k)) (fun k => g (ix2 0 k)) (fun k j => w1 (ix3 0 k j))
      (fun j k => w2 (ix3 0 j k)) c := by
  pointwise [val_main_v23, val_main_v22, val_main_v21, val_main_v20, val_main_v19, val_main_v18, val_main_call0_v0, val_main_call0_cst,
    val_main_v17, val_main_v16, val_main_v15, norm_apply]
  rfl

/-- The reference's result at a row and a feature. -/
theorem out_apply (r : Fin 32768) (c : Fin 1024) (h0 : r.val / 4096 < 8) (h1 : r.val % 4096 < 4096) :
    val_main_v24 x g w1 w2 (ix2 r c) = mlpMid (fun k => x (ix3 ⟨r.val / 4096, h0⟩ ⟨r.val % 4096, h1⟩ k)) (fun k => g (ix2 0 k))
      (fun k j => w1 (ix3 0 k j)) (fun j k => w2 (ix3 0 j k)) c := by
  pointwise [val_main_v24, mid_apply]

/-- The kernel's function of the arguments is the reference's result. -/
theorem eq_G : Cert.MlpFirstIdeal.Hand.G x g w1 w2 = val_main_v24 x g w1 w2 := by
  funext i
  idx_vars i
  rw [out_apply]
  rfl

end Cert.MlpFirstRefIdeal.Hand

end
-- ==== Proof.MlpFirstClaim.lean ====
module

public import proofs.«01_k».proof.Proof.MlpFirstRef
public import proofs.«01_k».proof.Defs

@[expose] public section

noncomputable section

namespace Cert.MlpFirstIdeal.Hand

open Idealize.ShloMosaic Idealize.SL.Sem

/-- The first layer's feed-forward kernel and its reference, at exact arithmetic, end with equal results. -/
theorem algebraic : letI := Cert.MlpFirstIdeal.Gen.facts; letI := Cert.MlpFirstRefIdeal.Gen.facts; Cert.algebraic_MlpFirstIdeal_MlpFirstRefIdeal := by
  pair_intro
  · run_from Cert.MlpFirstIdeal.Gen.run_main m g
  · run_from Cert.MlpFirstRefIdeal.Value.run m' g'
    obtain ⟨h0, h1, h2, h3⟩ := hagree c
    rw [Cert.MlpFirstRefIdeal.Read.val_main_v24_eq]
    erw [final m c]
    rw [Cert.MlpFirstRefIdeal.Hand.eq_G]

end Cert.MlpFirstIdeal.Hand

end
-- ==== Proof.MlpFirstSampleBlock.lean ====
module

public import proofs.«01_k».proof.Proof.Gen.MlpFirstSampleIdeal.Frame
public import proofs.«01_k».proof.Proof.Spec
public import Idealize.ShloMosaic.Lib.Pipeline.ValueKit

@[expose] public section

set_option maxRecDepth 16384

noncomputable section

namespace Cert.MlpFirstSampleIdeal.Hand

open Cert.MlpFirstSampleIdeal Cert.MlpFirstSampleIdeal.Gen Cert.Layer Idealize.ShloMosaic

/-- The normalised row that the first products read. -/
theorem pay3_apply (v0 : Vec Ideal S256x1024 .f32) (v2 : Vec Ideal S1x1024 .f32) (r : Fin 256) (c : Fin 1024) :
    k0_pay3 v0 v2 (ix2 r c) = rms (fun k => v0 (ix2 r k)) (fun k => v2 (ix2 0 k)) c := by
  pointwise [k0_pay3, k0_pay2]
  rfl

/-- The first quarter of the feed-forward part, added to the row. -/
theorem pay4_apply (v0 : Vec Ideal S256x1024 .f32) (v2 : Vec Ideal S1x1024 .f32) (a b : Vec Ideal S1x1024x1024 .bf16) (r : Fin 256) (c : Fin 1024) :
    k0_pay4 v0 v2 a b (ix2 r c) = v0 (ix2 r c)
      + ∑ j, sqRelu (∑ k, rms (fun k => v0 (ix2 r k)) (fun k => v2 (ix2 0 k)) k * a (ix3 0 k j)) * b (ix3 0 j c) := by
  pointwise [k0_pay4, k0_pay2, pay3_apply]
  rfl

/-- The second quarter's squared rectified first product. -/
theorem pay5_apply (v0 : Vec Ideal S256x1024 .f32) (v2 : Vec Ideal S1x1024 .f32) (a : Vec Ideal S1x1024x1024 .bf16) (r : Fin 256) (j : Fin 1024) :
    k0_pay5 v0 v2 a (ix2 r j) = sqRelu (∑ k, rms (fun k => v0 (ix2 r k)) (fun k => v2 (ix2 0 k)) k * a (ix3 0 k j)) := by
  pointwise [k0_pay5, pay3_apply]
  rfl

/-- The three later quarters added, each onto what stands so far. -/
theorem pay1_apply (h : FVec Ideal S256x1024 .bf16) (y : FVec Ideal S256x1024 .f32) (u : FVec Ideal S256x1024 .bf16)
    (b1 a2 b2 a3 b3 : Vec Ideal S1x1024x1024 .bf16) (r : Fin 256) (c : Fin 1024) :
    k0_pay1 h y u b1 a2 b2 a3 b3 (ix2 r c) = y (ix2 r c) + (∑ j, u (ix2 r j) * b1 (ix3 0 j c))
      + (∑ j, sqRelu (∑ k, h (ix2 r k) * a2 (ix3 0 k j)) * b2 (ix3 0 j c))
      + ∑ j, sqRelu (∑ k, h (ix2 r k) * a3 (ix3 0 k j)) * b3 (ix3 0 j c) := by
  pointwise [k0_pay1]
  rfl

/-- The feed-forward residual of a block's row, read off the staged blocks. -/
theorem out_apply (x : Vec Ideal S256x1024 .f32) (g : Vec Ideal S1x1024 .f32) (w1 : Vec Ideal S1x1024x4096 .bf16)
    (w2 : Vec Ideal S1x4096x1024 .bf16) (r : Fin 256) (c : Fin 1024) :
    out0_4 x g w1 w2 (ix2 r c)
      = mlpMid (fun k => x (ix2 r k)) (fun k => g (ix2 0 k)) (fun k j => w1 (ix3 0 k j)) (fun j k => w2 (ix3 0 j k)) c := by
  frame_out
  pointwise [pay1_apply, pay3_apply, pay4_apply, pay5_apply]
  rw [mlpMid_quarters]

end Cert.MlpFirstSampleIdeal.Hand

end
-- ==== Proof.MlpFirstSampleArray.lean ====
module

public import proofs.«01_k».proof.Proof.MlpFirstSampleBlock

@[expose] public section

set_option maxRecDepth 16384

noncomputable section

namespace Cert.MlpFirstSampleIdeal.Hand

open Cert.MlpFirstSampleIdeal Cert.MlpFirstSampleIdeal.Gen Cert.Layer Idealize.ShloMosaic Idealize.ShloMosaic.TcCoe

/-- The result as one function of the arguments: row `r` of the result is the feed-forward residual of token `r` of the samples, laid out one after another, with the first layer's weights. -/
def G (x : (⟨S8x32x1024, .f32⟩ : BufTy).Contents (Elt Ideal)) (g : (⟨S2x1024, .f32⟩ : BufTy).Contents (Elt Ideal))
    (w1 : (⟨S2x1024x4096, .f32⟩ : BufTy).Contents (Elt Ideal)) (w2 : (⟨S2x4096x1024, .f32⟩ : BufTy).Contents (Elt Ideal)) : (⟨S256x1024, .f32⟩ : BufTy).Contents (Elt Ideal) := fun i =>
  mlpMid (fun k => x (ix3 ⟨(i 0).val / 32, Nat.div_lt_of_lt_mul (i 0).isLt⟩ ⟨(i 0).val % 32, Nat.mod_lt _ (by decide)⟩ k))
      (fun k => g (ix2 0 k)) (fun k j => w1 (ix3 0 k j)) (fun j k => w2 (ix3 0 j k)) (i 1)

variable (m : (ℓ : Loc nD τ sig) → Buf (Elt Ideal) ℓ)

/-- Where each window's block stands at a grid point: the token blocks move with it, the weights stay at the first layer. -/
theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] := by
  have h : ∀ t : Fin grid0.N, win0_0.index t = ![t.val, 0] ∧ win0_1.index t = ![0, 0] ∧ win0_2.index t = ![0, 0, 0]
    ∧ win0_3.index t = ![0, 0, 0] ∧ win0_4.index t = ![t.val, 0] := by decide +kernel
  exact h

/-- The token block's rows are the tokens' rows. -/
theorem blk0 (c : Dev nD) (t : Fin cfg0.N) (r : Fin 256) (k : Fin 1024) (h0 : (t.val * 256 + r.val) / 32 < 8) (h1 : (t.val * 256 + r.val) % 32 < 32) :
    iblk m c 0 t (ix2 r k) = m ((c : Thread nD τ).loc main_arg0) (ix3 ⟨(t.val * 256 + r.val) / 32, h0⟩ ⟨(t.val * 256 + r.val) % 32, h1⟩ k) := by
  blk_ext! [iblk, V, idx t]

/-- The norm's scale is the first layer's. -/
theorem blk1 (c : Dev nD) (t : Fin cfg0.N) (k : Fin 1024) :
    iblk m c 1 t (ix2 0 k) = m ((c : Thread nD τ).loc main_arg1) (ix2 0 k) := by
  blk_ext! [iblk, V, idx t]

/-- The first weights are the first layer's. -/
theorem blk2 (c : Dev nD) (t : Fin cfg0.N) (k : Fin 1024) (j : Fin 4096) :
    iblk m c 2 t (ix3 0 k j) = m ((c : Thread nD τ).loc main_arg2) (ix3 0 k j) := by
  blk_ext [iblk, V, idx t]

/-- The second weights are the first layer's. -/
theorem blk3 (c : Dev nD) (t : Fin cfg0.N) (j : Fin 4096) (k : Fin 1024) :
    iblk m c 3 t (ix3 0 j k) = m ((c : Thread nD τ).loc main_arg3) (ix3 0 j k) := by
  blk_ext [iblk, V, idx t]

/-- The result array after the run. -/
theorem final (c : Dev nD) : (dats m 0 c).arrAt 4 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  idx_vars y
  rw [out_apply]
  have e0 : (((View.whole main_v6).slice (win0_4.rect t)).emb (ix2 y0 y1) 0).val = t.val * 256 + y0.val := by
    blk_simp [idx t]
  have e1 : ((View.whole main_v6).slice (win0_4.rect t)).emb (ix2 y0 y1) 1 = y1 := Fin.ext (by blk_simp [idx t])
  have b0 : ∀ k, iblk m c 0 t (ix2 y0 k) = _ := fun k => blk0 m c t y0 k (by have := t.isLt; have : cfg0.grid.N = 1 := rfl; omega) (by omega)
  simp only [G, e0, e1, b0, blk1, blk2, blk3]

end Cert.MlpFirstSampleIdeal.Hand

end
-- ==== Proof.MlpFirstSampleRef.lean ====
module

public import proofs.«01_k».proof.Proof.Gen.MlpFirstSampleRefIdeal.Read
public import proofs.«01_k».proof.Proof.MlpFirstSampleArray

@[expose] public section

set_option maxRecDepth 16384

noncomputable section

namespace Cert.MlpFirstSampleRefIdeal.Hand

open Cert.MlpFirstSampleRefIdeal Cert.MlpFirstSampleRefIdeal.Read Cert.Layer Idealize.ShloMosaic

variable (x : (⟨S8x32x1024, .f32⟩ : BufTy).Contents (Elt Ideal)) (g : (⟨S2x1024, .f32⟩ : BufTy).Contents (Elt Ideal))
  (w1 : (⟨S2x1024x4096, .f32⟩ : BufTy).Contents (Elt Ideal)) (w2 : (⟨S2x4096x1024, .f32⟩ : BufTy).Contents (Elt Ideal))

/-- The normalised token. -/
theorem norm_apply (b : Fin 8) (t : Fin 32) (c : Fin 1024) :
    val_main_v14 x g (ix3 b t c) = rms (fun k => x (ix3 b t k)) (fun k => g (ix2 0 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The feed-forward residual of a token. -/
theorem mid_apply (b : Fin 8) (t : Fin 32) (c : Fin 1024) :
    val_main_v23 x g w1 w2 (ix3 b t c) = mlpMid (fun k => x (ix3 b t k)) (fun k => g (ix2 0 k)) (fun k j => w1 (ix3 0 k j))
      (fun j k => w2 (ix3 0 j k)) c := by
  pointwise [val_main_v23, val_main_v22, val_main_v21, val_main_v20, val_main_v19, val_main_v18, val_main_call0_v0, val_main_call0_cst,
    val_main_v17, val_main_v16, val_main_v15, norm_apply]
  rfl

/-- The reference's result at a row and a feature. -/
theorem out_apply (r : Fin 256) (c : Fin 1024) (h0 : r.val / 32 < 8) (h1 : r.val % 32 < 32) :
    val_main_v24 x g w1 w2 (ix2 r c) = mlpMid (fun k => x (ix3 ⟨r.val / 32, h0⟩ ⟨r.val % 32, h1⟩ k)) (fun k => g (ix2 0 k))
      (fun k j => w1 (ix3 0 k j)) (fun j k => w2 (ix3 0 j k)) c := by
  pointwise [val_main_v24, mid_apply]

/-- The kernel's function of the arguments is the reference's result. -/
theorem eq_G : Cert.MlpFirstSampleIdeal.Hand.G x g w1 w2 = val_main_v24 x g w1 w2 := by
  funext i
  idx_vars i
  rw [out_apply]
  rfl

end Cert.MlpFirstSampleRefIdeal.Hand

end
-- ==== Proof.MlpFirstSampleClaim.lean ====
module

public import proofs.«01_k».proof.Proof.MlpFirstSampleRef
public import proofs.«01_k».proof.Defs

@[expose] public section

noncomputable section

namespace Cert.MlpFirstSampleIdeal.Hand

open Idealize.ShloMosaic Idealize.SL.Sem

/-- The first layer's feed-forward kernel and its reference, at exact arithmetic, end with equal results. -/
theorem algebraic : letI := Cert.MlpFirstSampleIdeal.Gen.facts; letI := Cert.MlpFirstSampleRefIdeal.Gen.facts; Cert.algebraic_MlpFirstSampleIdeal_MlpFirstSampleRefIdeal := by
  pair_intro
  · run_from Cert.MlpFirstSampleIdeal.Gen.run_main m g
  · run_from Cert.MlpFirstSampleRefIdeal.Value.run m' g'
    obtain ⟨h0, h1, h2, h3⟩ := hagree c
    rw [Cert.MlpFirstSampleRefIdeal.Read.val_main_v24_eq]
    erw [final m c]
    rw [Cert.MlpFirstSampleRefIdeal.Hand.eq_G]

end Cert.MlpFirstSampleIdeal.Hand

end
-- ==== Proof.Gate.lean ====
module

public import proofs.«01_k».proof.Proof.Spec

@[expose] public section

noncomputable section

namespace Cert.Layer

open Idealize.ShloMosaic

/-- The logistic function as the layer writes it: one over one plus the exponential of the negated value. -/
def gateOf (a : EReal) : EReal := Ideal.div 1 (1 + Ideal.exp (-a))

/-- The gated linear unit of one row: a column of the biased product times the logistic function of the column 1024 places on. -/
def glu (x g : Fin 1024 → EReal) (w : Fin 1024 → Fin 2048 → EReal) (b : Fin 2048 → EReal) (c : Fin 1024) : EReal :=
  ((∑ k, rms x g k * w k ⟨c.val, by omega⟩) + b ⟨c.val, by omega⟩)
    * gateOf ((∑ k, rms x g k * w k ⟨1024 + c.val, by omega⟩) + b ⟨1024 + c.val, by omega⟩)

end Cert.Layer

end
-- ==== Proof.ConvGluBlock.lean ====
module

public import proofs.«01_k».proof.Proof.Gen.ConvGluIdeal.Frame
public import proofs.«01_k».proof.Proof.Gate
public import Idealize.ShloMosaic.Lib.Pipeline.ValueKit

@[expose] public section

set_option maxRecDepth 16384

noncomputable section

namespace Cert.ConvGluIdeal.Hand

open Cert.ConvGluIdeal Cert.ConvGluIdeal.Gen Cert.Layer Idealize.ShloMosaic

/-- The normalised row that both products read. -/
theorem norm_apply (v0 : Vec Ideal S1024x1024 .f32) (v2 : Vec Ideal S1x1024 .f32) (r : Fin 1024) (c : Fin 1024) :
    k0_pay2 v0 v2 (ix2 r c) = rms (fun k => v0 (ix2 r k)) (fun k => v2 (ix2 0 k)) c := by
  pointwise [k0_pay2]
  rfl

/-- The gated product of a block's row, read off the staged blocks. -/
theorem out_apply (x : Vec Ideal S1024x1024 .f32) (g : Vec Ideal S1x1024 .f32) (w : Vec Ideal S1x1024x2048 .bf16)
    (b : Vec Ideal S1x2048 .f32) (r : Fin 1024) (c : Fin 1024) :
    out0_4 x g w b (ix2 r c) = glu (fun k => x (ix2 r k)) (fun k => g (ix2 0 k)) (fun k j => w (ix3 0 k j)) (fun j => b (ix2 0 j)) c := by
  frame_out
  pointwise [k0_pay1, k0_pay3, k0_pay4, k0_pay5, norm_apply]
  simp only [glu, gateOf, zero_sub]

end Cert.ConvGluIdeal.Hand

end
-- ==== Proof.ConvGluArray.lean ====
module

public import proofs.«01_k».proof.Proof.ConvGluBlock
public import Idealize.ShloMosaic.Lib.StableHlo.ReadAt

@[expose] public section

set_option maxRecDepth 16384

noncomputable section

namespace Cert.ConvGluIdeal.Hand

open Cert.ConvGluIdeal Cert.ConvGluIdeal.Gen Cert.Layer Idealize.ShloMosaic Idealize.ShloMosaic.TcCoe

/-- The gated product of every token of the prompts, as one function of the arguments. -/
def uOf (x : (⟨S8x4096x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) : (⟨S8x4096x1024, .f32⟩ : BufTy).Contents (Elt Ideal) := fun i =>
  glu (fun k => x (ix3 (i 0) (i 1) k)) (fun k => g (ix2 1 k)) (fun k j => w (ix3 0 k j)) (fun j => b (ix2 0 j)) (i 2)

/-- The same with the tokens laid out one after another, as the call leaves it. -/
def rowsOf (x : (⟨S8x4096x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) : (⟨S32768x1024, .f32⟩ : BufTy).Contents (Elt Ideal) := fun i =>
  uOf x g w b (ix3 ⟨(i 0).val / 4096, Nat.div_lt_of_lt_mul (i 0).isLt⟩ ⟨(i 0).val % 4096, Nat.mod_lt _ (by decide)⟩ (i 1))

/-- The last thirty rows that the host keeps. -/
def tailOf (x : (⟨S8x4096x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) : (⟨S8x30x1024, .f32⟩ : BufTy).Contents (Elt Ideal) := fun i =>
  glu (fun k => x (ix3 (i 0) ⟨4066 + (i 1).val, by have h1 : (i 1).val < 30 := (i 1).isLt; omega⟩ k)) (fun k => g (ix2 1 k)) (fun k j => w (ix3 0 k j)) (fun j => b (ix2 0 j)) (i 2)

/-- The rows put back into their sequences. -/
theorem rows_back (x : (⟨S8x4096x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) :
    shapeCast S8x4096x1024 (rowsOf x g w b) shapeCasts_S32768x1024_S8x4096x1024 = uOf x g w b := by
  funext i
  idx_vars i
  pointwise [rowsOf]
  exact congrArg (uOf x g w b) (congrArg₂ (fun p q => ix3 p q i2) (Fin.ext (by dsimp only; omega)) (Fin.ext (by dsimp only; omega)))

variable (m : (ℓ : Loc nD τ sig) → Buf (Elt Ideal) ℓ)

/-- Where each window's block stands at a grid point: the token blocks move with it, the rest stays. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] := by
  have h : ∀ t : Fin grid0.N, win0_0.index t = ![t.val, 0] ∧ win0_1.index t = ![0, 0] ∧ win0_2.index t = ![0, 0, 0]
    ∧ win0_3.index t = ![0, 0] ∧ win0_4.index t = ![t.val, 0] := by decide +kernel
  exact h

/-- The tokens' rows as the kernel is given them. -/
theorem rows (c : Dev nD) (r : Fin 32768) (k : Fin 1024) (h0 : r.val / 4096 < 8) (h1 : r.val % 4096 < 4096) :
    (V m c main_v0 : S32768x1024.Idx → EReal) (ix2 r k) = (m ((c : Thread nD τ).loc main_arg0) : S8x4096x1024.Idx → EReal) (ix3 ⟨r.val / 4096, h0⟩ ⟨r.val % 4096, h1⟩ k) := by
  unfold V V0
  simp only [hostOps0, List.flatten_cons, List.flatten_nil, List.append_nil]
  after_reads_at
  try rfl

/-- The norm's scale as the kernel is given it: the second layer's. -/
theorem scale (c : Dev nD) (k : Fin 1024) :
    (V m c main_v5 : S1x1024.Idx → EReal) (ix2 0 k) = (m ((c : Thread nD τ).loc main_arg1) : S2x1024.Idx → EReal) (ix2 1 k) := by
  unfold V V0
  simp only [hostOps0, List.flatten_cons, List.flatten_nil, List.append_nil]
  after_reads_at
  try rfl

/-- The weights as the kernel is given them. -/
theorem weights (c : Dev nD) (k : Fin 1024) (j : Fin 2048) :
    (V m c main_v3 : S1x1024x2048.Idx → EReal) (ix3 0 k j) = (m ((c : Thread nD τ).loc main_arg2) : S1x1024x2048.Idx → EReal) (ix3 0 k j) := by
  unfold V V0
  simp only [hostOps0, List.flatten_cons, List.flatten_nil, List.append_nil]
  after_reads_at
  try rfl

/-- The bias as the kernel is given it. -/
theorem bias (c : Dev nD) (j : Fin 2048) :
    (V m c main_v6 : S1x2048.Idx → EReal) (ix2 0 j) = (m ((c : Thread nD τ).loc main_arg3) : S1x2048.Idx → EReal) (ix2 0 j) := by
  unfold V V0
  simp only [hostOps0, List.flatten_cons, List.flatten_nil, List.append_nil]
  after_reads_at
  try rfl

/-- The token block's rows are the tokens' rows. -/
theorem blk0 (c : Dev nD) (t : Fin cfg0.N) (r : Fin 1024) (k : Fin 1024) (h : t.val * 1024 + r.val < 32768) (h0 : (t.val * 1024 + r.val) / 4096 < 8) (h1 : (t.val * 1024 + r.val) % 4096 < 4096) :
    iblk m c 0 t (ix2 r k) = (m ((c : Thread nD τ).loc main_arg0) : S8x4096x1024.Idx → EReal) (ix3 ⟨(t.val * 1024 + r.val) / 4096, h0⟩ ⟨(t.val * 1024 + r.val) % 4096, h1⟩ k) := by
  refine Eq.trans ?_ (rows m c ⟨t.val * 1024 + r.val, h⟩ k h0 h1)
  blk_ext [iblk, idx t]

/-- The block's scale. -/
theorem blk1 (c : Dev nD) (t : Fin cfg0.N) (k : Fin 1024) :
    iblk m c 1 t (ix2 0 k) = (m ((c : Thread nD τ).loc main_arg1) : S2x1024.Idx → EReal) (ix2 1 k) := by
  refine Eq.trans ?_ (scale m c k)
  blk_ext [iblk, idx t]

/-- The block's weights. -/
theorem blk2 (c : Dev nD) (t : Fin cfg0.N) (k : Fin 1024) (j : Fin 2048) :
    iblk m c 2 t (ix3 0 k j) = (m ((c : Thread nD τ).loc main_arg2) : S1x1024x2048.Idx → EReal) (ix3 0 k j) := by
  refine Eq.trans ?_ (weights m c k j)
  blk_ext [iblk, idx t]

/-- The block's bias. -/
theorem blk3 (c : Dev nD) (t : Fin cfg0.N) (j : Fin 2048) :
    iblk m c 3 t (ix2 0 j) = (m ((c : Thread nD τ).loc main_arg3) : S1x2048.Idx → EReal) (ix2 0 j) := by
  refine Eq.trans ?_ (bias m c j)
  blk_ext [iblk, idx t]

/-- The call's result array after the run. -/
theorem final (c : Dev nD) : (dats m 0 c).arrAt 4 cfg0.N = rowsOf (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  rw [out_apply]
  have e0 : (((View.whole main_v7).slice (win0_4.rect t)).emb (ix2 y0 y1) 0).val = t.val * 1024 + y0.val := by
    blk_simp [idx t]
  have e1 : ((View.whole main_v7).slice (win0_4.rect t)).emb (ix2 y0 y1) 1 = y1 := Fin.ext (by blk_simp [idx t])
  have ht : t.val < 32 := by have := t.isLt; have : cfg0.grid.N = 32 := rfl; omega
  have b0 : ∀ k, iblk m c 0 t (ix2 y0 k) = _ := fun k => blk0 m c t y0 k (by omega) (by omega) (by omega)
  simp only [rowsOf, uOf, e0, e1, b0, blk1, blk2, blk3]
  rfl

/-- What stands in the call's result array when the host's last operations begin. -/
theorem arr_tail (c : Dev nD) : Pipeline.withArrays (cfgs 0).spec c (V0 m c) (fun w => (dats m 0 c).arrAt w (cfgs 0).N) (Proc.devRef .tc main_v7)
    = rowsOf (m ((c : Thread nD τ).loc main_arg0)) (m ((c : Thread nD τ).loc main_arg1)) (m ((c : Thread nD τ).loc main_arg2)) (m ((c : Thread nD τ).loc main_arg3)) :=
  (Pipeline.withArrays_arr spec0 (by decide) c (V0 m c) (fun w => (dats m 0 c).arrAt w cfg0.N) 4).trans (final m c)

/-- The first result: the rows put back into their sequences. -/
theorem tail_u (c : Dev nD) : Pipeline.afterTail₀ cfgs (dats m) 0 (V0 m) [hostOps1] c main_v8 = uOf (m ((c : Thread nD τ).loc main_arg0)) (m ((c : Thread nD τ).loc main_arg1)) (m ((c : Thread nD τ).loc main_arg2)) (m ((c : Thread nD τ).loc main_arg3)) := by
  unfold Pipeline.afterTail₀
  have e := arr_tail m c
  generalize Pipeline.withArrays (cfgs 0).spec c (V0 m c) (fun w => (dats m 0 c).arrAt w (cfgs 0).N) = s at e ⊢
  simp only [hostOps1, List.flatten_cons, List.flatten_nil, List.append_nil]
  after_reads_simp
  rw [e]
  exact rows_back _ _ _ _

/-- The second result: the last thirty rows. -/
theorem tail_last (c : Dev nD) : Pipeline.afterTail₀ cfgs (dats m) 0 (V0 m) [hostOps1] c main_v9 = tailOf (m ((c : Thread nD τ).loc main_arg0)) (m ((c : Thread nD τ).loc main_arg1)) (m ((c : Thread nD τ).loc main_arg2)) (m ((c : Thread nD τ).loc main_arg3)) := by
  unfold Pipeline.afterTail₀
  have e := arr_tail m c
  generalize Pipeline.withArrays (cfgs 0).spec c (V0 m c) (fun w => (dats m 0 c).arrAt w (cfgs 0).N) = s at e ⊢
  have two : StableHlo.after (List.flatten [hostOps1]) s = StableHlo.after (hostOps1.drop 1) (StableHlo.after (hostOps1.take 1) s) := rfl
  rw [two]
  have e8 : (StableHlo.after (hostOps1.take 1) s ↑main_v8 : S8x4096x1024.Idx → EReal) = uOf (m ((c : Thread nD τ).loc main_arg0)) (m ((c : Thread nD τ).loc main_arg1)) (m ((c : Thread nD τ).loc main_arg2)) (m ((c : Thread nD τ).loc main_arg3)) := by
    simp only [hostOps1, List.take_succ_cons, List.take_zero]
    after_reads_simp
    rw [e]
    exact rows_back _ _ _ _
  generalize StableHlo.after (hostOps1.take 1) s = s' at e8 ⊢
  simp only [hostOps1, List.drop_succ_cons, List.drop_zero]
  after_reads_simp
  rw [e8]
  funext i
  idx_vars i
  pointwise [uOf, tailOf]

end Cert.ConvGluIdeal.Hand

end
-- ==== Proof.ConvGluRef.lean ====
module

public import proofs.«01_k».proof.Proof.Gen.ConvGluRefIdeal.Read
public import proofs.«01_k».proof.Proof.ConvGluArray

@[expose] public section

set_option maxRecDepth 16384

noncomputable section

namespace Cert.ConvGluRefIdeal.Hand

open Cert.ConvGluRefIdeal Cert.ConvGluRefIdeal.Read Cert.Layer Idealize.ShloMosaic

variable (x : (⟨S8x4096x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal))

/-- The normalised token. -/
theorem norm_apply (p : Fin 8) (t : Fin 4096) (c : Fin 1024) :
    val_main_v14 x g (ix3 p t c) = rms (fun k => x (ix3 p t k)) (fun k => g (ix2 1 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The biased product of a token, both halves of its columns. -/
theorem both_apply (p : Fin 8) (t : Fin 4096) (c : Fin 2048) :
    val_main_v20 x g w b (ix3 p t c) = (∑ k, rms (fun k => x (ix3 p t k)) (fun k => g (ix2 1 k)) k * w (ix3 0 k c)) + b (ix2 0 c) := by
  pointwise [val_main_v20, val_main_v19, val_main_v18, val_main_v17, val_main_v16, val_main_v15, norm_apply]

/-- The gated product of a token. -/
theorem u_apply (p : Fin 8) (t : Fin 4096) (c : Fin 1024) :
    val_main_v29 x g w b (ix3 p t c) = Cert.ConvGluIdeal.Hand.uOf x g w b (ix3 p t c) := by
  pointwise [val_main_v29, val_main_v28, val_main_v27, val_main_v26, val_main_v25, val_main_v24, val_main_v23, val_main_v22, val_main_v21,
    val_main_cst_2, val_main_cst_3, both_apply, Cert.ConvGluIdeal.Hand.uOf]
  rfl

/-- The first results agree. -/
theorem u_eq : Cert.ConvGluIdeal.Hand.uOf x g w b = val_main_v29 x g w b := by
  funext i
  idx_vars i
  rw [u_apply]

/-- The second results agree. -/
theorem last_eq : Cert.ConvGluIdeal.Hand.tailOf x g w b = val_main_v30 x g w b := by
  funext i
  idx_vars i
  pointwise [val_main_v30, u_apply]
  rfl

end Cert.ConvGluRefIdeal.Hand

end
-- ==== Proof.ConvGluClaim.lean ====
module

public import proofs.«01_k».proof.Proof.ConvGluRef
public import proofs.«01_k».proof.Defs

@[expose] public section

noncomputable section

namespace Cert.ConvGluIdeal.Hand

open Cert.ConvGluIdeal Idealize.ShloMosaic Idealize.SL.Sem

/-- The gated linear unit on the prompts and its reference, at exact arithmetic, end with equal results. -/
theorem algebraic : letI := Cert.ConvGluIdeal.Gen.facts; letI := Cert.ConvGluRefIdeal.Gen.facts; Cert.algebraic_ConvGluIdeal_ConvGluRefIdeal := by
  pair_intro
  · run_from Cert.ConvGluIdeal.Gen.run_main m g
    · exact Cert.ConvGluIdeal.Gen.W_main_arg0 m (Cert.ConvGluIdeal.Gen.dats m) c
    · exact Cert.ConvGluIdeal.Gen.W_main_arg1 m (Cert.ConvGluIdeal.Gen.dats m) c
    · exact Cert.ConvGluIdeal.Gen.W_main_arg2 m (Cert.ConvGluIdeal.Gen.dats m) c
    · exact Cert.ConvGluIdeal.Gen.W_main_arg3 m (Cert.ConvGluIdeal.Gen.dats m) c
  · run_from Cert.ConvGluRefIdeal.Value.run m' g'
    · rw [Cert.ConvGluRefIdeal.Read.val_main_v29_eq]
      erw [tail_u m c]
      rw [Cert.ConvGluRefIdeal.Hand.u_eq]
    · rw [Cert.ConvGluRefIdeal.Read.val_main_v30_eq]
      erw [tail_last m c]
      rw [Cert.ConvGluRefIdeal.Hand.last_eq]

end Cert.ConvGluIdeal.Hand

end
-- ==== Proof.ConvGluSampleBlock.lean ====
module

public import proofs.«01_k».proof.Proof.Gen.ConvGluSampleIdeal.Frame
public import proofs.«01_k».proof.Proof.Gate
public import Idealize.ShloMosaic.Lib.Pipeline.ValueKit

@[expose] public section

set_option maxRecDepth 16384

noncomputable section

namespace Cert.ConvGluSampleIdeal.Hand

open Cert.ConvGluSampleIdeal Cert.ConvGluSampleIdeal.Gen Cert.Layer Idealize.ShloMosaic

/-- The normalised row that both products read. -/
theorem norm_apply (v0 : Vec Ideal S256x1024 .f32) (v2 : Vec Ideal S1x1024 .f32) (r : Fin 256) (c : Fin 1024) :
    k0_pay2 v0 v2 (ix2 r c) = rms (fun k => v0 (ix2 r k)) (fun k => v2 (ix2 0 k)) c := by
  pointwise [k0_pay2]
  rfl

/-- The gated product of a block's row, read off the staged blocks. -/
theorem out_apply (x : Vec Ideal S256x1024 .f32) (g : Vec Ideal S1x1024 .f32) (w : Vec Ideal S1x1024x2048 .bf16)
    (b : Vec Ideal S1x2048 .f32) (r : Fin 256) (c : Fin 1024) :
    out0_4 x g w b (ix2 r c) = glu (fun k => x (ix2 r k)) (fun k => g (ix2 0 k)) (fun k j => w (ix3 0 k j)) (fun j => b (ix2 0 j)) c := by
  frame_out
  pointwise [k0_pay1, k0_pay3, k0_pay4, k0_pay5, norm_apply]
  simp only [glu, gateOf, zero_sub]

end Cert.ConvGluSampleIdeal.Hand

end
-- ==== Proof.ConvGluSampleArray.lean ====
module

public import proofs.«01_k».proof.Proof.ConvGluSampleBlock
public import Idealize.ShloMosaic.Lib.StableHlo.ReadAt

@[expose] public section

set_option maxRecDepth 16384

noncomputable section

namespace Cert.ConvGluSampleIdeal.Hand

open Cert.ConvGluSampleIdeal Cert.ConvGluSampleIdeal.Gen Cert.Layer Idealize.ShloMosaic Idealize.ShloMosaic.TcCoe

/-- The gated product of every token of the samples, as one function of the arguments. -/
def uOf (x : (⟨S8x32x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) : (⟨S8x32x1024, .f32⟩ : BufTy).Contents (Elt Ideal) := fun i =>
  glu (fun k => x (ix3 (i 0) (i 1) k)) (fun k => g (ix2 1 k)) (fun k j => w (ix3 0 k j)) (fun j => b (ix2 0 j)) (i 2)

/-- The same with the tokens laid out one after another, as the call leaves it. -/
def rowsOf (x : (⟨S8x32x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) : (⟨S256x1024, .f32⟩ : BufTy).Contents (Elt Ideal) := fun i =>
  uOf x g w b (ix3 ⟨(i 0).val / 32, Nat.div_lt_of_lt_mul (i 0).isLt⟩ ⟨(i 0).val % 32, Nat.mod_lt _ (by decide)⟩ (i 1))

/-- The last thirty rows that the host keeps. -/
def tailOf (x : (⟨S8x32x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) : (⟨S8x30x1024, .f32⟩ : BufTy).Contents (Elt Ideal) := fun i =>
  glu (fun k => x (ix3 (i 0) ⟨2 + (i 1).val, by have h1 : (i 1).val < 30 := (i 1).isLt; omega⟩ k)) (fun k => g (ix2 1 k)) (fun k j => w (ix3 0 k j)) (fun j => b (ix2 0 j)) (i 2)

/-- The rows put back into their sequences. -/
theorem rows_back (x : (⟨S8x32x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) :
    shapeCast S8x32x1024 (rowsOf x g w b) shapeCasts_S256x1024_S8x32x1024 = uOf x g w b := by
  funext i
  idx_vars i
  pointwise [rowsOf]
  exact congrArg (uOf x g w b) (congrArg₂ (fun p q => ix3 p q i2) (Fin.ext (by dsimp only; omega)) (Fin.ext (by dsimp only; omega)))

variable (m : (ℓ : Loc nD τ sig) → Buf (Elt Ideal) ℓ)

/-- Where each window's block stands at a grid point: the token blocks move with it, the rest stays. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] := by
  have h : ∀ t : Fin grid0.N, win0_0.index t = ![t.val, 0] ∧ win0_1.index t = ![0, 0] ∧ win0_2.index t = ![0, 0, 0]
    ∧ win0_3.index t = ![0, 0] ∧ win0_4.index t = ![t.val, 0] := by decide +kernel
  exact h

/-- The tokens' rows as the kernel is given them. -/
theorem rows (c : Dev nD) (r : Fin 256) (k : Fin 1024) (h0 : r.val / 32 < 8) (h1 : r.val % 32 < 32) :
    (V m c main_v0 : S256x1024.Idx → EReal) (ix2 r k) = (m ((c : Thread nD τ).loc main_arg0) : S8x32x1024.Idx → EReal) (ix3 ⟨r.val / 32, h0⟩ ⟨r.val % 32, h1⟩ k) := by
  unfold V V0
  simp only [hostOps0, List.flatten_cons, List.flatten_nil, List.append_nil]
  after_reads_at
  try rfl

/-- The norm's scale as the kernel is given it: the second layer's. -/
theorem scale (c : Dev nD) (k : Fin 1024) :
    (V m c main_v5 : S1x1024.Idx → EReal) (ix2 0 k) = (m ((c : Thread nD τ).loc main_arg2) : S2x1024.Idx → EReal) (ix2 1 k) := by
  unfold V V0
  simp only [hostOps0, List.flatten_cons, List.flatten_nil, List.append_nil]
  after_reads_at
  try rfl

/-- The weights as the kernel is given them. -/
theorem weights (c : Dev nD) (k : Fin 1024) (j : Fin 2048) :
    (V m c main_v3 : S1x1024x2048.Idx → EReal) (ix3 0 k j) = (m ((c : Thread nD τ).loc main_arg3) : S1x1024x2048.Idx → EReal) (ix3 0 k j) := by
  unfold V V0
  simp only [hostOps0, List.flatten_cons, List.flatten_nil, List.append_nil]
  after_reads_at
  try rfl

/-- The bias as the kernel is given it. -/
theorem bias (c : Dev nD) (j : Fin 2048) :
    (V m c main_v6 : S1x2048.Idx → EReal) (ix2 0 j) = (m ((c : Thread nD τ).loc main_arg4) : S1x2048.Idx → EReal) (ix2 0 j) := by
  unfold V V0
  simp only [hostOps0, List.flatten_cons, List.flatten_nil, List.append_nil]
  after_reads_at
  try rfl

/-- The token block's rows are the tokens' rows. -/
theorem blk0 (c : Dev nD) (t : Fin cfg0.N) (r : Fin 256) (k : Fin 1024) (h : t.val * 256 + r.val < 256) (h0 : (t.val * 256 + r.val) / 32 < 8) (h1 : (t.val * 256 + r.val) % 32 < 32) :
    iblk m c 0 t (ix2 r k) = (m ((c : Thread nD τ).loc main_arg0) : S8x32x1024.Idx → EReal) (ix3 ⟨(t.val * 256 + r.val) / 32, h0⟩ ⟨(t.val * 256 + r.val) % 32, h1⟩ k) := by
  refine Eq.trans ?_ (rows m c ⟨t.val * 256 + r.val, h⟩ k h0 h1)
  blk_ext [iblk, idx t]

/-- The block's scale. -/
theorem blk1 (c : Dev nD) (t : Fin cfg0.N) (k : Fin 1024) :
    iblk m c 1 t (ix2 0 k) = (m ((c : Thread nD τ).loc main_arg2) : S2x1024.Idx → EReal) (ix2 1 k) := by
  refine Eq.trans ?_ (scale m c k)
  blk_ext [iblk, idx t]

/-- The block's weights. -/
theorem blk2 (c : Dev nD) (t : Fin cfg0.N) (k : Fin 1024) (j : Fin 2048) :
    iblk m c 2 t (ix3 0 k j) = (m ((c : Thread nD τ).loc main_arg3) : S1x1024x2048.Idx → EReal) (ix3 0 k j) := by
  refine Eq.trans ?_ (weights m c k j)
  blk_ext [iblk, idx t]

/-- The block's bias. -/
theorem blk3 (c : Dev nD) (t : Fin cfg0.N) (j : Fin 2048) :
    iblk m c 3 t (ix2 0 j) = (m ((c : Thread nD τ).loc main_arg4) : S1x2048.Idx → EReal) (ix2 0 j) := by
  refine Eq.trans ?_ (bias m c j)
  blk_ext [iblk, idx t]

/-- The call's result array after the run. -/
theorem final (c : Dev nD) : (dats m 0 c).arrAt 4 cfg0.N = rowsOf (m ((c : Thread nD τ).loc main_arg0)) (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  idx_vars y
  rw [out_apply]
  have e0 : (((View.whole main_v7).slice (win0_4.rect t)).emb (ix2 y0 y1) 0).val = t.val * 256 + y0.val := by
    blk_simp [idx t]
  have e1 : ((View.whole main_v7).slice (win0_4.rect t)).emb (ix2 y0 y1) 1 = y1 := Fin.ext (by blk_simp [idx t])
  have ht : t.val < 1 := by have := t.isLt; have : cfg0.grid.N = 1 := rfl; omega
  have b0 : ∀ k, iblk m c 0 t (ix2 y0 k) = _ := fun k => blk0 m c t y0 k (by omega) (by omega) (by omega)
  simp only [rowsOf, uOf, e0, e1, b0, blk1, blk2, blk3]
  rfl

/-- What stands in the call's result array when the host's last operations begin. -/
theorem arr_tail (c : Dev nD) : Pipeline.withArrays (cfgs 0).spec c (V0 m c) (fun w => (dats m 0 c).arrAt w (cfgs 0).N) (Proc.devRef .tc main_v7)
    = rowsOf (m ((c : Thread nD τ).loc main_arg0)) (m ((c : Thread nD τ).loc main_arg2)) (m ((c : Thread nD τ).loc main_arg3)) (m ((c : Thread nD τ).loc main_arg4)) :=
  (Pipeline.withArrays_arr spec0 (by decide) c (V0 m c) (fun w => (dats m 0 c).arrAt w cfg0.N) 4).trans (final m c)

/-- The first result: the rows put back into their sequences. -/
theorem tail_u (c : Dev nD) : Pipeline.afterTail₀ cfgs (dats m) 0 (V0 m) [hostOps1] c main_v8 = uOf (m ((c : Thread nD τ).loc main_arg0)) (m ((c : Thread nD τ).loc main_arg2)) (m ((c : Thread nD τ).loc main_arg3)) (m ((c : Thread nD τ).loc main_arg4)) := by
  unfold Pipeline.afterTail₀
  have e := arr_tail m c
  generalize Pipeline.withArrays (cfgs 0).spec c (V0 m c) (fun w => (dats m 0 c).arrAt w (cfgs 0).N) = s at e ⊢
  simp only [hostOps1, List.flatten_cons, List.flatten_nil, List.append_nil]
  after_reads_simp
  rw [e]
  exact rows_back _ _ _ _

/-- The last thirty of the state's rows and the tokens' rows one after another. -/
def lastRows (a : S8x30x1024.Idx → EReal) (b : S8x32x1024.Idx → EReal) : S8x30x1024.Idx → EReal :=
  extractStridedSlice S8x30x1024 ![0, 32, 0] (concatenate S8x62x1024 1 [⟨S8x30x1024, a⟩, ⟨S8x32x1024, b⟩] concatenates_S8x30x1024_S8x32x1024_S8x62x1024_d1) slices_S8x62x1024_S8x30x1024_0_32_0

/-- They are the tokens' rows from the third on. -/
theorem lastRows_apply (a : S8x30x1024.Idx → EReal) (b : S8x32x1024.Idx → EReal) (p : Fin 8) (r : Fin 30) (k : Fin 1024) :
    lastRows a b (ix3 p r k) = b (ix3 p ⟨2 + r.val, by omega⟩ k) := by
  unfold lastRows
  pointwise
  simp (disch := omega) only [dif_pos, dif_neg]
  exact congrArg (fun e => b (ix3 p e k)) (Fin.ext (by dsimp only; omega))

/-- The second result: the last thirty rows. -/
theorem tail_last (c : Dev nD) : Pipeline.afterTail₀ cfgs (dats m) 0 (V0 m) [hostOps1] c main_v11 = tailOf (m ((c : Thread nD τ).loc main_arg0)) (m ((c : Thread nD τ).loc main_arg2)) (m ((c : Thread nD τ).loc main_arg3)) (m ((c : Thread nD τ).loc main_arg4)) := by
  unfold Pipeline.afterTail₀
  have e := arr_tail m c
  generalize Pipeline.withArrays (cfgs 0).spec c (V0 m c) (fun w => (dats m 0 c).arrAt w (cfgs 0).N) = s at e ⊢
  have two : StableHlo.after (List.flatten [hostOps1]) s = StableHlo.after (hostOps1.drop 2) (StableHlo.after (hostOps1.take 2) s) := rfl
  rw [two]
  have e8 : (StableHlo.after (hostOps1.take 2) s ↑main_v8 : S8x32x1024.Idx → EReal) = uOf (m ((c : Thread nD τ).loc main_arg0)) (m ((c : Thread nD τ).loc main_arg2)) (m ((c : Thread nD τ).loc main_arg3)) (m ((c : Thread nD τ).loc main_arg4)) := by
    simp only [hostOps1, List.take_succ_cons, List.take_zero]
    after_reads_simp
    rw [e]
    exact rows_back _ _ _ _
  generalize StableHlo.after (hostOps1.take 2) s = s' at e8 ⊢
  have e11 : (StableHlo.after (hostOps1.drop 2) s' ↑main_v11 : S8x30x1024.Idx → EReal) = lastRows (s' ↑main_v9) (s' ↑main_v8) := by
    simp only [hostOps1, List.drop_succ_cons, List.drop_zero]
    after_reads_simp
    rfl
  refine Eq.trans e11 ?_
  rw [e8]
  funext i
  idx_vars i
  rw [lastRows_apply]
  rfl

end Cert.ConvGluSampleIdeal.Hand

end
-- ==== Proof.ConvGluSampleRef.lean ====
module

public import proofs.«01_k».proof.Proof.Gen.ConvGluSampleRefIdeal.Read
public import proofs.«01_k».proof.Proof.ConvGluSampleArray

@[expose] public section

set_option maxRecDepth 16384

noncomputable section

namespace Cert.ConvGluSampleRefIdeal.Hand

open Cert.ConvGluSampleRefIdeal Cert.ConvGluSampleRefIdeal.Read Cert.Layer Idealize.ShloMosaic

variable (x : (⟨S8x32x1024, .f32⟩ : BufTy).Contents (Elt Ideal)) (g : (⟨S2x1024, .f32⟩ : BufTy).Contents (Elt Ideal)) (w : (⟨S1x1024x2048, .f32⟩ : BufTy).Contents (Elt Ideal)) (b : (⟨S1x2048, .f32⟩ : BufTy).Contents (Elt Ideal)) (st : (⟨S1x8x30x1024, .f32⟩ : BufTy).Contents (Elt Ideal))

/-- The normalised token. -/
theorem norm_apply (p : Fin 8) (t : Fin 32) (c : Fin 1024) :
    val_main_v14 x g (ix3 p t c) = rms (fun k => x (ix3 p t k)) (fun k => g (ix2 1 k)) c := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The biased product of a token, both halves of its columns. -/
theorem both_apply (p : Fin 8) (t : Fin 32) (c : Fin 2048) :
    val_main_v20 x g w b (ix3 p t c) = (∑ k, rms (fun k => x (ix3 p t k)) (fun k => g (ix2 1 k)) k * w (ix3 0 k c)) + b (ix2 0 c) := by
  pointwise [val_main_v20, val_main_v19, val_main_v18, val_main_v17, val_main_v16, val_main_v15, norm_apply]

/-- The gated product of a token. -/
theorem u_apply (p : Fin 8) (t : Fin 32) (c : Fin 1024) :
    val_main_v29 x g w b (ix3 p t c) = Cert.ConvGluSampleIdeal.Hand.uOf x g w b (ix3 p t c) := by
  pointwise [val_main_v29, val_main_v28, val_main_v27, val_main_v26, val_main_v25, val_main_v24, val_main_v23, val_main_v22, val_main_v21,
    val_main_cst_2, val_main_cst_3, both_apply, Cert.ConvGluSampleIdeal.Hand.uOf]
  rfl

/-- The first results agree. -/
theorem u_eq : Cert.ConvGluSampleIdeal.Hand.uOf x g w b = val_main_v29 x g w b := by
  funext i
  idx_vars i
  rw [u_apply]

/-- The second results agree. -/
theorem last_eq : Cert.ConvGluSampleIdeal.Hand.tailOf x g w b = val_main_v32 x st g w b := by
  funext i
  idx_vars i
  unfold val_main_v32 val_main_v31
  refine Eq.trans ?_ (Cert.ConvGluSampleIdeal.Hand.lastRows_apply (val_main_v30 st) (val_main_v29 x g w b) i0 i1 i2).symm
  rw [u_apply]
  rfl

end Cert.ConvGluSampleRefIdeal.Hand

end
-- ==== Proof.ConvGluSampleClaim.lean ====
module

public import proofs.«01_k».proof.Proof.ConvGluSampleRef
public import proofs.«01_k».proof.Defs

@[expose] public section

noncomputable section

namespace Cert.ConvGluSampleIdeal.Hand

open Cert.ConvGluSampleIdeal Idealize.ShloMosaic Idealize.SL.Sem

/-- The gated linear unit on the samples and its reference, at exact arithmetic, end with equal results. -/
theorem algebraic : letI := Cert.ConvGluSampleIdeal.Gen.facts; letI := Cert.ConvGluSampleRefIdeal.Gen.facts; Cert.algebraic_ConvGluSampleIdeal_ConvGluSampleRefIdeal := by
  pair_intro
  · run_from Cert.ConvGluSampleIdeal.Gen.run_main m g
    · exact Cert.ConvGluSampleIdeal.Gen.W_main_arg0 m (Cert.ConvGluSampleIdeal.Gen.dats m) c
    · exact Cert.ConvGluSampleIdeal.Gen.W_main_arg1 m (Cert.ConvGluSampleIdeal.Gen.dats m) c
    · exact Cert.ConvGluSampleIdeal.Gen.W_main_arg2 m (Cert.ConvGluSampleIdeal.Gen.dats m) c
    · exact Cert.ConvGluSampleIdeal.Gen.W_main_arg3 m (Cert.ConvGluSampleIdeal.Gen.dats m) c
    · exact Cert.ConvGluSampleIdeal.Gen.W_main_arg4 m (Cert.ConvGluSampleIdeal.Gen.dats m) c
  · run_from Cert.ConvGluSampleRefIdeal.Value.run m' g'
    · rw [Cert.ConvGluSampleRefIdeal.Read.val_main_v29_eq]
      erw [tail_u m c]
      rw [Cert.ConvGluSampleRefIdeal.Hand.u_eq]
    · rw [Cert.ConvGluSampleRefIdeal.Read.val_main_v32_eq]
      erw [tail_last m c]
      rw [(hagree c).2.2.2.2]
      exact (Cert.ConvGluSampleRefIdeal.Hand.last_eq _ _ _ _ _).symm

end Cert.ConvGluSampleIdeal.Hand

end
-- ==== Proof.Conv.lean ====
module

public import proofs.«01_k».proof.Proof.Gate

@[expose] public section

noncomputable section

namespace Cert.Layer

open Idealize.ShloMosaic

/-- The first `n` taps `f` of the convolution added one after another onto `b`. -/
def tapsOver (b : EReal) (f : ℕ → EReal) : ℕ → EReal
  | 0 => b
  | n + 1 => tapsOver b f n + f n

/-- It does not matter whether the bias is added before the taps or after them. -/
theorem tapsOver_bias (b : EReal) (f : ℕ → EReal) (n : ℕ) : tapsOver b f n = tapsOver 0 f n + b := by
  induction n with
  | zero => exact (zero_add b).symm
  | succ n ih => simp only [tapsOver, ih, add_right_comm]

/-- Only the taps below `n` count. -/
theorem tapsOver_congr (b : EReal) {f f' : ℕ → EReal} (n : ℕ) (h : ∀ i < n, f i = f' i) : tapsOver b f n = tapsOver b f' n := by
  induction n with
  | zero => rfl
  | succ n ih => simp only [tapsOver, ih fun i hi => h i (Nat.lt_succ_of_lt hi), h n (Nat.lt_succ_self n)]

/-- A row's feature less the row's mean. -/
def centred (y : Fin 1024 → EReal) (c : Fin 1024) : EReal := y c - Ideal.div (∑ k, y k) (Ideal.ofBits FTy.f32 0x44800000#32)

/-- A row of 1024 features, normalised to mean zero and variance one, scaled by `g` and moved by `b`. -/
def layerNorm (y g b : Fin 1024 → EReal) (c : Fin 1024) : EReal :=
  centred y c * Ideal.rsqrt (Ideal.div (∑ k, centred y k * centred y k) (Ideal.ofBits FTy.f32 0x44800000#32) + Ideal.ofBits FTy.f32 0x358637BD#32)
    * g c + b c

/-- A value times its logistic function. -/
def swish (a : EReal) : EReal := a * gateOf a

/-- The residual of one row: the row plus the biased product of the swished normalised convolution. -/
def convRest (x y g b : Fin 1024 → EReal) (w : Fin 1024 → Fin 1024 → EReal) (b2 : Fin 1024 → EReal) (c : Fin 1024) : EReal :=
  x c + ((∑ k, swish (layerNorm y g b k) * w k c) + b2 c)

end Cert.Layer

end
-- ==== Proof.ConvRestTaps.lean ====
module

public import proofs.«01_k».proof.Proof.Gen.ConvRestIdeal.Frame
public import proofs.«01_k».proof.Proof.Conv
public import Idealize.ShloMosaic.Lib.Pipeline.ValueKit
public import Idealize.ShloMosaic.Lib.Pipeline.ReadBack

@[expose] public section

set_option maxRecDepth 16384

noncomputable section

namespace Cert.ConvRestIdeal.Hand

open Cert.ConvRestIdeal Cert.ConvRestIdeal.Gen Cert.Layer Idealize.ShloMosaic

/-- The extended sequence: row `n` of the thirty-two carried rows, then of the new ones. -/
def extRow (init : FVec Ideal S1x32x1024 .f32) (u : FVec Ideal S1x512x1024 .f32) (n q : ℕ) : EReal :=
  if n < 32 then init (ix3 0 (Fin.ofNat 32 n) (Fin.ofNat 1024 q)) else u (ix3 0 (Fin.ofNat 512 (n - 32)) (Fin.ofNat 1024 q))

/-- `n` of its rows from row `k` on. -/
def slab (n : ℕ) (E : ℕ → ℕ → EReal) (k : ℕ) : FVec Ideal ⟨2, ![n, 1024]⟩ .f32 := fun j => E (k + (j 0).val) (j 1).val

/-- The sixty-four rows from `2 + n` on in the column block from `c` on. -/
def tap (E : ℕ → ℕ → EReal) (n c : ℕ) : FVec Ideal S1x64x256 .f32 := fun j => E (2 + n + (j 1).val) (c + (j 2).val)

/-- Row `n` of a two-dimensional array in the column block from `c` on. -/
def part (W : ℕ → ℕ → EReal) (n c : ℕ) : FVec Ideal S1x256 .f32 := fun j => W n (c + (j 1).val)

/-- A two-dimensional array of 1024 columns by the numbers of its row and column. -/
def byNat (R : ℕ) [NeZero R] (X : (⟨2, ![R, 1024]⟩ : Shape).Idx → EReal) (n q : ℕ) : EReal := X (ix2 (Fin.ofNat R n) (Fin.ofNat 1024 q))

/-- The biased convolution at row `r`, column `q`. -/
def convAt (E W B : ℕ → ℕ → EReal) (r q : ℕ) : EReal := tapsOver (B 0 q) (fun n => E (2 + n + r) q * W n q) 31

/-- What a list of stores leaves where they are all blocks of one function and one of them covers the index. -/
theorem canon_of_pieces {S : Shape} (G : S.Idx → Elt Ideal .f32) (L : List (View.Piece (Elt Ideal) S .f32)) (hL : ∀ p ∈ L, ∀ x : p.1.shape.Idx, p.2 x = G (p.1.emb x))
    (y : S.Idx) (hc : ∃ p ∈ L, y ∈ p.1.set) : View.canon L y = G y := by
  have h := View.canon_append_of_pieces G [] L hL y hc
  rwa [List.append_nil] at h

theorem in_two (f o n : Fin 2 → ℕ) : (∀ a, o a ≤ f a ∧ f a < o a + n a) ↔ (o 0 ≤ f 0 ∧ f 0 < o 0 + n 0) ∧ (o 1 ≤ f 1 ∧ f 1 < o 1 + n 1) :=
  ⟨fun h => ⟨h 0, h 1⟩, fun h a => by fin_cases a; exacts [h.1, h.2]⟩

theorem in_three (f o n : Fin 3 → ℕ) : (∀ a, o a ≤ f a ∧ f a < o a + n a) ↔ (o 0 ≤ f 0 ∧ f 0 < o 0 + n 0) ∧ (o 1 ≤ f 1 ∧ f 1 < o 1 + n 1) ∧ (o 2 ≤ f 2 ∧ f 2 < o 2 + n 2) :=
  ⟨fun h => ⟨h 0, h 1, h 2⟩, fun h a => by fin_cases a; exacts [h.1, h.2.1, h.2.2]⟩

theorem cast_block (u : FVec Ideal S1x32x1024 .f32) (h1 h2) (r : Fin 32) (q : Fin 1024) :
    (shapeCast S32x1024 (shapeCast S32x1024 u h1 : FVec Ideal S32x1024 .f32) h2 : FVec Ideal S32x1024 .f32) (ix2 r q) = u (ix3 0 r q) := by
  pointwise

theorem cast_block' (u : FVec Ideal S1x512x1024 .f32) (h1 h2) (r : Fin 512) (q : Fin 1024) :
    (shapeCast S512x1024 (shapeCast S512x1024 u h1 : FVec Ideal S512x1024 .f32) h2 : FVec Ideal S512x1024 .f32) (ix2 r q) = u (ix3 0 r q) := by
  pointwise

/-- What the two stores leave in the extended buffer. -/
theorem ext_canon (init : FVec Ideal S1x32x1024 .f32) (u : FVec Ideal S1x512x1024 .f32) (inb0 inb1 h1 h2 h3 h4) (y : S544x1024.Idx) :
    View.canon (Val := Elt Ideal) (s := S544x1024) (e := .f32)
      [⟨Rect.unit ![32, 0] ![512, 1024] inb1, (shapeCast S512x1024 (shapeCast S512x1024 u h1 : FVec Ideal S512x1024 .f32) h2 : FVec Ideal S512x1024 .f32)⟩,
       ⟨Rect.unit ![0, 0] ![32, 1024] inb0, (shapeCast S32x1024 (shapeCast S32x1024 init h3 : FVec Ideal S32x1024 .f32) h4 : FVec Ideal S32x1024 .f32)⟩] y
      = extRow init u (y 0).val (y 1).val := by
  refine canon_of_pieces (fun y : S544x1024.Idx => extRow init u (y 0).val (y 1).val) _
    (List.forall_mem_cons.mpr ⟨fun x => ?_, List.forall_mem_cons.mpr ⟨fun x => ?_, List.forall_mem_nil _⟩⟩) y ?_
  · obtain ⟨x0, x1, rfl⟩ : ∃ (x0 : Fin 512) (x1 : Fin 1024), x = ix2 x0 x1 := ⟨x 0, x 1, by funext a; fin_cases a <;> rfl⟩
    refine (cast_block' u h1 h2 x0 x1).trans ?_
    have e0 : ((Rect.unit (s := S544x1024) ![32, 0] ![512, 1024] inb1).emb (ix2 x0 x1) 0).val = 32 + x0.val := ValueKit.rect_emb_unit_val _ _ _ _ _
    have e1 : ((Rect.unit (s := S544x1024) ![32, 0] ![512, 1024] inb1).emb (ix2 x0 x1) 1).val = 0 + x1.val := ValueKit.rect_emb_unit_val _ _ _ _ _
    show _ = extRow init u _ _
    rw [e0, e1]
    unfold extRow
    rw [if_neg (by omega)]
    exact congrArg₂ (fun p q => u (ix3 0 p q)) (Fin.ext (by simp [Fin.ofNat]; omega)) (Fin.ext (by simp [Fin.ofNat]; omega))
  · obtain ⟨x0, x1, rfl⟩ : ∃ (x0 : Fin 32) (x1 : Fin 1024), x = ix2 x0 x1 := ⟨x 0, x 1, by funext a; fin_cases a <;> rfl⟩
    refine (cast_block init h3 h4 x0 x1).trans ?_
    have e0 : ((Rect.unit (s := S544x1024) ![0, 0] ![32, 1024] inb0).emb (ix2 x0 x1) 0).val = 0 + x0.val := ValueKit.rect_emb_unit_val _ _ _ _ _
    have e1 : ((Rect.unit (s := S544x1024) ![0, 0] ![32, 1024] inb0).emb (ix2 x0 x1) 1).val = 0 + x1.val := ValueKit.rect_emb_unit_val _ _ _ _ _
    show _ = extRow init u _ _
    rw [e0, e1]
    unfold extRow
    rw [if_pos (by omega)]
    exact congrArg₂ (fun p q => init (ix3 0 p q)) (Fin.ext (by simp [Fin.ofNat]; omega)) (Fin.ext (by simp [Fin.ofNat]; omega))
  · have b0 : (y 0).val < 544 := (y 0).isLt
    have b1 : (y 1).val < 1024 := (y 1).isLt
    simp only [List.mem_cons, List.not_mem_nil, or_false, exists_eq_or_imp, exists_eq_left, Rect.mem_set_unit]
    have two : ∀ o l : ℕ, (∀ i : Fin 2, (![o, 0] : Fin 2 → ℕ) i ≤ (y i).val ∧ (y i).val < (![o, 0] : Fin 2 → ℕ) i + (![l, 1024] : Fin 2 → ℕ) i)
        ↔ (o ≤ (y 0).val ∧ (y 0).val < o + l) ∧ (0 ≤ (y 1).val ∧ (y 1).val < 0 + 1024) := fun o l => in_two (fun i => (y i).val) _ _
    erw [two, two]
    omega

theorem ext_read536 {sp : Space} (v : View sig .tc sp S544x1024 .f32) (init : FVec Ideal S1x32x1024 .f32) (u : FVec Ideal S1x512x1024 .f32) (inb0 inb1 h1 h2 h3 h4) (k : ℕ) (inb) :
    v.readCov (Val := Elt Ideal)
      [⟨Rect.unit ![32, 0] ![512, 1024] inb1, (shapeCast S512x1024 (shapeCast S512x1024 u h1 : FVec Ideal S512x1024 .f32) h2 : FVec Ideal S512x1024 .f32)⟩,
       ⟨Rect.unit ![0, 0] ![32, 1024] inb0, (shapeCast S32x1024 (shapeCast S32x1024 init h3 : FVec Ideal S32x1024 .f32) h4 : FVec Ideal S32x1024 .f32)⟩]
      (Rect.unit (s := S544x1024) ![k, 0] ![536, 1024] inb).toLoadRect = slab 536 (extRow init u) k := by
  rw [View.readCov_eq_canon']
  funext j
  rw [ext_canon]
  exact congrArg₂ (extRow init u) (Rect.idx_unit_val _ _ _ _ _) ((Rect.idx_unit_val _ _ _ _ _).trans (Nat.zero_add _))

theorem ext_read528 {sp : Space} (v : View sig .tc sp S544x1024 .f32) (init : FVec Ideal S1x32x1024 .f32) (u : FVec Ideal S1x512x1024 .f32) (inb0 inb1 h1 h2 h3 h4) (k : ℕ) (inb) :
    v.readCov (Val := Elt Ideal)
      [⟨Rect.unit ![32, 0] ![512, 1024] inb1, (shapeCast S512x1024 (shapeCast S512x1024 u h1 : FVec Ideal S512x1024 .f32) h2 : FVec Ideal S512x1024 .f32)⟩,
       ⟨Rect.unit ![0, 0] ![32, 1024] inb0, (shapeCast S32x1024 (shapeCast S32x1024 init h3 : FVec Ideal S32x1024 .f32) h4 : FVec Ideal S32x1024 .f32)⟩]
      (Rect.unit (s := S544x1024) ![k, 0] ![528, 1024] inb).toLoadRect = slab 528 (extRow init u) k := by
  rw [View.readCov_eq_canon']
  funext j
  rw [ext_canon]
  exact congrArg₂ (extRow init u) (Rect.idx_unit_val _ _ _ _ _) ((Rect.idx_unit_val _ _ _ _ _).trans (Nat.zero_add _))

theorem cast536 (E : ℕ → ℕ → EReal) (k : ℕ) (g) (x0 : Fin 1) (x1 : Fin 536) (x2 : Fin 1024) :
    (shapeCast S1x536x1024 (slab 536 E k) g : FVec Ideal S1x536x1024 .f32) (ix3 x0 x1 x2) = E (k + x1.val) x2.val := by
  pointwise [slab]

theorem cast528 (E : ℕ → ℕ → EReal) (k : ℕ) (g) (x0 : Fin 1) (x1 : Fin 528) (x2 : Fin 1024) :
    (shapeCast S1x528x1024 (slab 528 E k) g : FVec Ideal S1x528x1024 .f32) (ix3 x0 x1 x2) = E (k + x1.val) x2.val := by
  pointwise [slab]

/-- One shifted copy, as it is stored. -/
theorem copy_piece (E : ℕ → ℕ → EReal) (s k n : ℕ) (hk : k = s + 2) {P : FVec Ideal ⟨3, ![1, n, 1024]⟩ .f32}
    (hP : ∀ (x0 : Fin 1) (x1 : Fin n) (x2 : Fin 1024), P (ix3 x0 x1 x2) = E (k + x1.val) x2.val) (inb) (x : (⟨3, ![1, n, 1024]⟩ : Shape).Idx) :
    P x = (fun y : S8x536x1024.Idx => E ((y 0).val + 2 + (y 1).val) (y 2).val) ((Rect.unit (s := S8x536x1024) ![s, 0, 0] ![1, n, 1024] inb).emb x) := by
  have e0 : ((Rect.unit (s := S8x536x1024) ![s, 0, 0] ![1, n, 1024] inb).emb x 0).val = s + (x 0).val := ValueKit.rect_emb_unit_val _ _ _ _ _
  have e1 : ((Rect.unit (s := S8x536x1024) ![s, 0, 0] ![1, n, 1024] inb).emb x 1).val = 0 + (x 1).val := ValueKit.rect_emb_unit_val _ _ _ _ _
  have e2 : ((Rect.unit (s := S8x536x1024) ![s, 0, 0] ![1, n, 1024] inb).emb x 2).val = 0 + (x 2).val := ValueKit.rect_emb_unit_val _ _ _ _ _
  have h0 : (x 0).val < 1 := (x 0).isLt
  show _ = E _ _
  rw [e0, e1, e2]
  refine Eq.trans (congrArg P (?_ : x = ix3 (x 0) (x 1) (x 2))) ((hP (x 0) (x 1) (x 2)).trans ?_)
  · funext a; fin_cases a <;> rfl
  · exact congrArg₂ E (by omega) (by omega)

/-- What a load of the eight shifted copies reads. -/
theorem copies_read {sp : Space} (v : View sig .tc sp S8x536x1024 .f32) (E : ℕ → ℕ → EReal) (i7 i6 i5 i4 i3 i2 i1 i0 g7 g6 g5 g4 g3 g2 g1 g0) (a b c : ℕ) (inb) (h : b + 8 * a ≤ 520) :
    v.readCov (Val := Elt Ideal)
      [⟨Rect.unit ![7, 0, 0] ![1, 528, 1024] i7, (shapeCast S1x528x1024 (slab 528 E 9) g7 : FVec Ideal S1x528x1024 .f32)⟩,
       ⟨Rect.unit ![6, 0, 0] ![1, 536, 1024] i6, (shapeCast S1x536x1024 (slab 536 E 8) g6 : FVec Ideal S1x536x1024 .f32)⟩,
       ⟨Rect.unit ![5, 0, 0] ![1, 536, 1024] i5, (shapeCast S1x536x1024 (slab 536 E 7) g5 : FVec Ideal S1x536x1024 .f32)⟩,
       ⟨Rect.unit ![4, 0, 0] ![1, 536, 1024] i4, (shapeCast S1x536x1024 (slab 536 E 6) g4 : FVec Ideal S1x536x1024 .f32)⟩,
       ⟨Rect.unit ![3, 0, 0] ![1, 536, 1024] i3, (shapeCast S1x536x1024 (slab 536 E 5) g3 : FVec Ideal S1x536x1024 .f32)⟩,
       ⟨Rect.unit ![2, 0, 0] ![1, 536, 1024] i2, (shapeCast S1x536x1024 (slab 536 E 4) g2 : FVec Ideal S1x536x1024 .f32)⟩,
       ⟨Rect.unit ![1, 0, 0] ![1, 536, 1024] i1, (shapeCast S1x536x1024 (slab 536 E 3) g1 : FVec Ideal S1x536x1024 .f32)⟩,
       ⟨Rect.unit ![0, 0, 0] ![1, 536, 1024] i0, (shapeCast S1x536x1024 (slab 536 E 2) g0 : FVec Ideal S1x536x1024 .f32)⟩]
      (Rect.unit (s := S8x536x1024) ![a, b, c] ![1, 64, 256] inb).toLoadRect = tap E (a + b) c := by
  rw [View.readCov_eq_canon']
  funext j
  have ha : a + 1 ≤ 8 := inb 0
  have hb : b + 64 ≤ 536 := inb 1
  have hc : c + 256 ≤ 1024 := inb 2
  have h0 : (j 0).val < 1 := (j 0).isLt
  have h1 : (j 1).val < 64 := (j 1).isLt
  have h2 : (j 2).val < 256 := (j 2).isLt
  have e0 : ((Rect.unit (s := S8x536x1024) ![a, b, c] ![1, 64, 256] inb).idx j 0).val = a + (j 0).val := Rect.idx_unit_val _ _ _ _ _
  have e1 : ((Rect.unit (s := S8x536x1024) ![a, b, c] ![1, 64, 256] inb).idx j 1).val = b + (j 1).val := Rect.idx_unit_val _ _ _ _ _
  have e2 : ((Rect.unit (s := S8x536x1024) ![a, b, c] ![1, 64, 256] inb).idx j 2).val = c + (j 2).val := Rect.idx_unit_val _ _ _ _ _
  have hG : tap E (a + b) c j = (fun y : S8x536x1024.Idx => E ((y 0).val + 2 + (y 1).val) (y 2).val) ((Rect.unit (s := S8x536x1024) ![a, b, c] ![1, 64, 256] inb).idx j) := by
    show E _ _ = E _ _
    rw [e0, e1, e2]
    exact congrArg (fun n => E n _) (by omega)
  refine Eq.trans (canon_of_pieces (fun y : S8x536x1024.Idx => E ((y 0).val + 2 + (y 1).val) (y 2).val) _
    (List.forall_mem_cons.mpr ⟨copy_piece E 7 9 528 rfl (cast528 E 9 g7) i7, List.forall_mem_cons.mpr ⟨copy_piece E 6 8 536 rfl (cast536 E 8 g6) i6,
      List.forall_mem_cons.mpr ⟨copy_piece E 5 7 536 rfl (cast536 E 7 g5) i5, List.forall_mem_cons.mpr ⟨copy_piece E 4 6 536 rfl (cast536 E 6 g4) i4,
      List.forall_mem_cons.mpr ⟨copy_piece E 3 5 536 rfl (cast536 E 5 g3) i3, List.forall_mem_cons.mpr ⟨copy_piece E 2 4 536 rfl (cast536 E 4 g2) i2,
      List.forall_mem_cons.mpr ⟨copy_piece E 1 3 536 rfl (cast536 E 3 g1) i1, List.forall_mem_cons.mpr ⟨copy_piece E 0 2 536 rfl (cast536 E 2 g0) i0,
      List.forall_mem_nil _⟩⟩⟩⟩⟩⟩⟩⟩) _ ?_) hG.symm
  simp only [List.mem_cons, List.not_mem_nil, or_false, exists_eq_or_imp, exists_eq_left, Rect.mem_set_unit]
  generalize (Rect.unit (s := S8x536x1024) ![a, b, c] ![1, 64, 256] inb).idx j = y at e0 e1 e2 ⊢
  clear hG
  have three : ∀ s n : ℕ, (∀ i : Fin 3, (![s, 0, 0] : Fin 3 → ℕ) i ≤ (y i).val ∧ (y i).val < (![s, 0, 0] : Fin 3 → ℕ) i + (![1, n, 1024] : Fin 3 → ℕ) i)
      ↔ (s ≤ (y 0).val ∧ (y 0).val < s + 1) ∧ (0 ≤ (y 1).val ∧ (y 1).val < 0 + n) ∧ (0 ≤ (y 2).val ∧ (y 2).val < 0 + 1024) := fun s n => in_three (fun i => (y i).val) _ _
  erw [three, three, three, three, three, three, three, three]
  omega

/-- A load of a row's column block. -/
theorem part_read (R : ℕ) [NeZero R] (X : (⟨2, ![R, 1024]⟩ : Shape).Idx → Elt Ideal .f32) (n c : ℕ) (inb) :
    View.ld X (Rect.unit (s := ⟨2, ![R, 1024]⟩) ![n, c] ![1, 256] inb) = part (byNat R X) n c := by
  funext j
  have hn : n + 1 ≤ R := inb 0
  have hc : c + 256 ≤ 1024 := inb 1
  have h0 : (j 0).val < 1 := (j 0).isLt
  have h1 : (j 1).val < 256 := (j 1).isLt
  refine View.ld_unit_apply_of X _ _ inb j _ fun a => ?_
  fin_cases a
  · show n % R = n + (j 0).val
    rw [Nat.mod_eq_of_lt (by omega)]; omega
  · show (c + (j 1).val) % 1024 = c + (j 1).val
    omega

/-- A stored block of the convolution, as part of the whole. -/
theorem conv_piece (E W B : ℕ → ℕ → EReal) (r0 c0 : ℕ) (i) (P : FVec Ideal S64x256 .f32)
    (h : ∀ (r : Fin 64) (q : Fin 256), P (ix2 r q) = tapsOver (B 0 (c0 + q.val)) (fun n => E (2 + (r0 + n) + r.val) (c0 + q.val) * W n (c0 + q.val)) 31) (x : S64x256.Idx) :
    P x = (fun y : S512x1024.Idx => convAt E W B (y 0).val (y 1).val) ((Rect.unit (s := S512x1024) ![r0, c0] ![64, 256] i).emb x) := by
  have e0 : ((Rect.unit (s := S512x1024) ![r0, c0] ![64, 256] i).emb x 0).val = r0 + (x 0).val := ValueKit.rect_emb_unit_val _ _ _ _ _
  have e1 : ((Rect.unit (s := S512x1024) ![r0, c0] ![64, 256] i).emb x 1).val = c0 + (x 1).val := ValueKit.rect_emb_unit_val _ _ _ _ _
  show _ = convAt E W B _ _
  rw [e0, e1]
  refine Eq.trans (congrArg P ?_) ((h (x 0) (x 1)).trans ?_)
  · funext a; fin_cases a <;> rfl
  · exact tapsOver_congr _ 31 fun n _ => congrArg (fun k => E k _ * _) (by omega)

/-- The blocks stored one after another, read back whole. -/
theorem conv_read {sp : Space} (v : View sig .tc sp S512x1024 .f32) (E W B : ℕ → ℕ → EReal) (L : List (View.Piece (Elt Ideal) S512x1024 .f32)) (inb)
    (hL : ∀ p ∈ L, ∀ x : p.1.shape.Idx, p.2 x = (fun y : S512x1024.Idx => convAt E W B (y 0).val (y 1).val) (p.1.emb x)) (hc : ∀ y : S512x1024.Idx, ∃ p ∈ L, y ∈ p.1.set) :
    v.readCov (Val := Elt Ideal) L (Rect.unit (s := S512x1024) ![0, 0] ![512, 1024] inb).toLoadRect
      = (fun j => convAt E W B (j 0).val (j 1).val : FVec Ideal S512x1024 .f32) := by
  rw [View.readCov_eq_canon']
  funext j
  have e0 : ((Rect.unit (s := S512x1024) ![0, 0] ![512, 1024] inb).idx j 0).val = 0 + (j 0).val := Rect.idx_unit_val _ _ _ _ _
  have e1 : ((Rect.unit (s := S512x1024) ![0, 0] ![512, 1024] inb).idx j 1).val = 0 + (j 1).val := Rect.idx_unit_val _ _ _ _ _
  refine (canon_of_pieces (fun y : S512x1024.Idx => convAt E W B (y 0).val (y 1).val) L hL _ (hc _)).trans ?_
  show convAt E W B _ _ = _
  rw [e0, e1, Nat.zero_add, Nat.zero_add]

end Cert.ConvRestIdeal.Hand

end
-- ==== Proof.ConvRestBlock.lean ====
module

public import proofs.«01_k».proof.Proof.ConvRestTaps

@[expose] public section

set_option maxRecDepth 16384

noncomputable section

namespace Cert.ConvRestIdeal.Hand

open Cert.ConvRestIdeal Cert.ConvRestIdeal.Gen Cert.Layer Idealize.ShloMosaic

/-- The row centred and divided by its deviation. -/
theorem norm_apply (Y : Vec Ideal S512x1024 .f32) (r : Fin 512) (c : Fin 1024) :
    k0_pay642 Y (ix2 r c) = centred (fun k => Y (ix2 r k)) c * Ideal.rsqrt (Ideal.div (∑ k, centred (fun k => Y (ix2 r k)) k * centred (fun k => Y (ix2 r k)) k) (Ideal.ofBits FTy.f32 0x44800000#32)
      + Ideal.ofBits FTy.f32 0x358637BD#32) := by
  pointwise [k0_pay642]
  rfl

/-- The residual from the convolution's rows. -/
theorem rest_apply (Y : Vec Ideal S512x1024 .f32) (g b : Vec Ideal S1x1024 .f32) (x : Vec Ideal S1x512x1024 .f32) (w : Vec Ideal S1x1024x1024 .bf16)
    (b2 : Vec Ideal S1x1024 .f32) (r : Fin 512) (c : Fin 1024) :
    k0_pay1 (k0_pay643 x) (k0_pay644 (k0_pay642 Y) g b w) b2 (ix3 0 r c) = convRest (fun k => x (ix3 0 r k)) (fun k => Y (ix2 r k)) (fun k => g (ix2 0 k)) (fun k => b (ix2 0 k))
      (fun k j => w (ix3 0 k j)) (fun k => b2 (ix2 0 k)) c := by
  pointwise [k0_pay1, k0_pay644, k0_pay643, norm_apply]
  simp only [convRest, swish, gateOf, layerNorm, zero_sub, add_assoc]

/-- One more tap: its rows times its weights, added. -/
theorem tap_apply (A : FVec Ideal S64x256 .f32) (E W : ℕ → ℕ → EReal) (n k c : ℕ) (h h' h'') (r : Fin 64) (q : Fin 256) :
    addf A (mulf (shapeCast S64x256 (tap E n c) h : FVec Ideal S64x256 .f32) (broadcastTo S64x256 (shapeCast S1x256 (part W k c) h' : FVec Ideal S1x256 .f32) h'')) (ix2 r q)
      = A (ix2 r q) + E (2 + n + r.val) (c + q.val) * W k (c + q.val) := by
  pointwise [tap, part]

/-- The bias, which stands first. -/
theorem bias_apply (B : ℕ → ℕ → EReal) (c : ℕ) (h h' h'') (r : Fin 64) (q : Fin 256) :
    (broadcastTo S64x256 (shapeCast S1x256 (shapeCast S1x256 (part B 0 c) h : FVec Ideal S1x256 .f32) h' : FVec Ideal S1x256 .f32) h'' : FVec Ideal S64x256 .f32) (ix2 r q)
      = B 0 (c + q.val) := by
  pointwise [part]

/-- The cast that changes nothing. -/
theorem same_apply (A : FVec Ideal S64x256 .f32) (h) (r : Fin 64) (q : Fin 256) : (shapeCast S64x256 A h : FVec Ideal S64x256 .f32) (ix2 r q) = A (ix2 r q) := by
  pointwise

variable (m : (ℓ : Loc nD τ sig) → Buf (Elt Ideal) ℓ)

set_option maxHeartbeats 4000000 in
/-- What a grid point leaves in its block; the rows in front are zeros at a sequence's first block, else the end of the block before. -/
theorem out_apply (c : Dev nD) (t : Fin cfg0.N) (init : FVec Ideal S1x32x1024 .f32) (h : (t.val % 8 = 0 ∧ init = iblk m c 3 t) ∨ (¬ t.val % 8 = 0 ∧ init = iblk m c 2 t))
    (r : Fin 512) (k : Fin 1024) :
    outsAt0 m c t.val t.isLt (ix3 0 r k) = convRest (fun k => iblk m c 0 t (ix3 0 r k))
      (fun k => convAt (extRow init (iblk m c 1 t)) (byNat 32 (iblk m c 4 t)) (byNat 1 (iblk m c 5 t)) r.val k.val)
      (fun k => iblk m c 6 t (ix2 0 k)) (fun k => iblk m c 7 t (ix2 0 k)) (fun k j => iblk m c 8 t (ix3 0 k j)) (fun k => iblk m c 9 t (ix2 0 k)) k := by
  rcases h with ⟨h0, rfl⟩ | ⟨h0, rfl⟩
  on_goal 1 =>
    rw [outsAt0_A m c t h0 (by omega)]
    unfold out0_A_10
    frame_out
    simp only [ext_read536, ext_read528]
    generalize extRow (iblk m c 3 t) (iblk m c 1 t) = E
  on_goal 2 =>
    rw [outsAt0_B m c t h0 (by omega)]
    unfold out0_B_10
    frame_out
    simp only [ext_read536, ext_read528]
    generalize extRow (iblk m c 2 t) (iblk m c 1 t) = E
  all_goals
    simp (disch := decide) only [copies_read]
    simp only [part_read 32 (iblk m c 4 t), part_read 1 (iblk m c 5 t)]
    generalize byNat 32 (iblk m c 4 t) = W
    generalize byNat 1 (iblk m c 5 t) = B
    rw [conv_read (E := E) (W := W) (B := B)]
    · exact rest_apply (fun j => convAt E W B (j 0).val (j 1).val) (iblk m c 6 t) (iblk m c 7 t) (iblk m c 0 t) (iblk m c 8 t) (iblk m c 9 t) r k
    · repeat' (first | exact List.forall_mem_nil _ | refine List.forall_mem_cons.mpr ⟨conv_piece E W B _ _ (by decide) _ fun r q => ?_, ?_⟩)
      all_goals
        simp only [k0_pay13, k0_pay14, k0_pay15, k0_pay16, k0_pay17, k0_pay18, k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118, k0_pay119, k0_pay120, k0_pay121,
      k0_pay122, k0_pay123, k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147, k0_pay148, k0_pay149,
      k0_pay150, k0_pay151, k0_pay152, k0_pay153, k0_pay154, k0_pay155, k0_pay156, k0_pay157, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204, k0_pay205,
      k0_pay206, k0_pay207, k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231, k0_pay232, k0_pay233,
      k0_pay234, k0_pay235, k0_pay236, k0_pay237, k0_pay238, k0_pay239, k0_pay240, k0_pay241, k0_pay242, k0_pay243, k0_pay244, k0_pay245, k0_pay246, k0_pay247,
      k0_pay248, k0_pay249, k0_pay250, k0_pay251, k0_pay252, k0_pay253, k0_pay254, k0_pay255, k0_pay256, k0_pay257, k0_pay258, k0_pay259, k0_pay260, k0_pay261,
      k0_pay262, k0_pay263, k0_pay264, k0_pay265, k0_pay266, k0_pay267, k0_pay268, k0_pay269, k0_pay270, k0_pay271, k0_pay272, k0_pay273, k0_pay274, k0_pay275,
      k0_pay276, k0_pay277, k0_pay278, k0_pay279, k0_pay280, k0_pay281, k0_pay282, k0_pay283, k0_pay284, k0_pay285, k0_pay286, k0_pay287, k0_pay288, k0_pay289,
      k0_pay290, k0_pay291, k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315, k0_pay316, k0_pay317,
      k0_pay318, k0_pay319, k0_pay320, k0_pay321, k0_pay322, k0_pay323, k0_pay324, k0_pay325, k0_pay326, k0_pay327, k0_pay328, k0_pay329, k0_pay330, k0_pay331,
      k0_pay332, k0_pay333, k0_pay334, k0_pay335, k0_pay336, k0_pay337, k0_pay338, k0_pay339, k0_pay340, k0_pay341, k0_pay342, k0_pay343, k0_pay344, k0_pay345,
      k0_pay346, k0_pay347, k0_pay348, k0_pay349, k0_pay350, k0_pay351, k0_pay352, k0_pay353, k0_pay354, k0_pay355, k0_pay356, k0_pay357, k0_pay358, k0_pay359,
      k0_pay360, k0_pay361, k0_pay362, k0_pay363, k0_pay364, k0_pay365, k0_pay366, k0_pay367, k0_pay368, k0_pay369, k0_pay370, k0_pay371, k0_pay372, k0_pay373,
      k0_pay374, k0_pay375, k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399, k0_pay400, k0_pay401,
      k0_pay402, k0_pay403, k0_pay404, k0_pay405, k0_pay406, k0_pay407, k0_pay408, k0_pay409, k0_pay410, k0_pay411, k0_pay412, k0_pay413, k0_pay414, k0_pay415,
      k0_pay416, k0_pay417, k0_pay418, k0_pay419, k0_pay420, k0_pay421, k0_pay422, k0_pay423, k0_pay424, k0_pay425, k0_pay426, k0_pay427, k0_pay428, k0_pay429,
      k0_pay430, k0_pay431, k0_pay432, k0_pay433, k0_pay434, k0_pay435, k0_pay436, k0_pay437, k0_pay438, k0_pay439, k0_pay440, k0_pay441, k0_pay442, k0_pay443,
      k0_pay444, k0_pay445, k0_pay446, k0_pay447, k0_pay448, k0_pay449, k0_pay450, k0_pay451, k0_pay452, k0_pay453, k0_pay454, k0_pay455, k0_pay456, k0_pay457,
      k0_pay458, k0_pay459, k0_pay460, k0_pay461, k0_pay462, k0_pay463, k0_pay464, k0_pay465, k0_pay466, k0_pay467, k0_pay468, k0_pay469, k0_pay470, k0_pay471,
      k0_pay472, k0_pay473, k0_pay474, k0_pay475, k0_pay476, k0_pay477, k0_pay478, k0_pay479, k0_pay480, k0_pay481, k0_pay482, k0_pay483, k0_pay484, k0_pay485,
      k0_pay486, k0_pay487, k0_pay488, k0_pay489, k0_pay490, k0_pay491, k0_pay492, k0_pay493, k0_pay494, k0_pay495, k0_pay496, k0_pay497, k0_pay498, k0_pay499,
      k0_pay500, k0_pay501, k0_pay502, k0_pay503, k0_pay504, k0_pay505, k0_pay506, k0_pay507, k0_pay508, k0_pay509, k0_pay510, k0_pay511, k0_pay512, k0_pay513,
      k0_pay514, k0_pay515, k0_pay516, k0_pay517, k0_pay518, k0_pay519, k0_pay520, k0_pay521, k0_pay522, k0_pay523, k0_pay524, k0_pay525, k0_pay526, k0_pay527,
      k0_pay528, k0_pay529, k0_pay530, k0_pay531, k0_pay532, k0_pay533, k0_pay534, k0_pay535, k0_pay536, k0_pay537, k0_pay538, k0_pay539, k0_pay540, k0_pay541,
      k0_pay542, k0_pay543, k0_pay544, k0_pay545, k0_pay546, k0_pay547, k0_pay548, k0_pay549, k0_pay550, k0_pay551, k0_pay552, k0_pay553, k0_pay554, k0_pay555,
      k0_pay556, k0_pay557, k0_pay558, k0_pay559, k0_pay560, k0_pay561, k0_pay562, k0_pay563, k0_pay564, k0_pay565, k0_pay566, k0_pay567, k0_pay568, k0_pay569,
      k0_pay570, k0_pay571, k0_pay572, k0_pay573, k0_pay574, k0_pay575, k0_pay576, k0_pay577, k0_pay578, k0_pay579, k0_pay580, k0_pay581, k0_pay582, k0_pay583,
      k0_pay584, k0_pay585, k0_pay586, k0_pay587, k0_pay588, k0_pay589, k0_pay590, k0_pay591, k0_pay592, k0_pay593, k0_pay594, k0_pay595, k0_pay596, k0_pay597,
      k0_pay598, k0_pay599, k0_pay600, k0_pay601, k0_pay602, k0_pay603, k0_pay604, k0_pay605, k0_pay606, k0_pay607, k0_pay608, k0_pay609, k0_pay610, k0_pay611,
      k0_pay612, k0_pay613, k0_pay614, k0_pay615, k0_pay616, k0_pay617, k0_pay618, k0_pay619, k0_pay620, k0_pay621, k0_pay622, k0_pay623, k0_pay624, k0_pay625,
      k0_pay626, k0_pay627, k0_pay628, k0_pay629, k0_pay630, k0_pay631, k0_pay632, k0_pay633, k0_pay634, k0_pay635, k0_pay636, k0_pay637, k0_pay638, k0_pay639,
      k0_pay640, k0_pay641, same_apply, tap_apply, bias_apply]
        rfl
    · exact View.cover_of_tiledL _ ![64, 256] (by sl_kernel_rfl)
-- ==== Proof.ConvRestArray.lean ====
module

public import proofs.«01_k».proof.Proof.ConvRestBlock
public import Idealize.ShloMosaic.Lib.StableHlo.ReadAt

@[expose] public section

set_option maxRecDepth 16384

noncomputable section

namespace Cert.ConvRestIdeal.Hand

open Cert.ConvRestIdeal Cert.ConvRestIdeal.Gen Cert.Layer Idealize.ShloMosaic Idealize.ShloMosaic.TcCoe

/-- Row `n` of thirty rows of zeros and then the rows of a sequence. -/
def seqAt (u : (⟨S8x4096x1024, .f32⟩ : BufTy).Contents (Elt Ideal)) (p : Fin 8) (q : Fin 1024) (n : ℕ) : EReal :=
  if n < 30 then 0 else u (ix3 p (Fin.ofNat 4096 (n - 30)) q)

/-- The biased causal convolution of a sequence at row `r`, feature `q`. -/
def convOf (u : (⟨S8x4096x1024, .f32⟩ : BufTy).Contents (Elt Ideal)) (w : (⟨S1x31x1024, .f32⟩ : BufTy).Contents (Elt Ideal))
    (b : (⟨S1x1024, .f32⟩ : BufTy).Contents (Elt Ideal)) (p : Fin 8) (r : Fin 4096) (q : Fin 1024) : EReal :=
  tapsOver (b (ix2 0 q)) (fun n => seqAt u p q (n + r.val) * w (ix3 0 (Fin.ofNat 31 n) q)) 31

/-- The residual of every token of the prompts, as one function of the arguments. -/
def G (x u : (⟨S8x4096x1024, .f32⟩ : BufTy).Contents (Elt Ideal)) (w : (⟨S1x31x1024, .f32⟩ : BufTy).Contents (Elt Ideal))
    (b g h : (⟨S1x1024, .f32⟩ : BufTy).Contents (Elt Ideal)) (w2 : (⟨S1x1024x1024, .f32⟩ : BufTy).Contents (Elt Ideal)) (b2 : (⟨S1x1024, .f32⟩ : BufTy).Contents (Elt Ideal)) :
    (⟨S8x4096x1024, .f32⟩ : BufTy).Contents (Elt Ideal) := fun i =>
  convRest (fun k => x (ix3 (i 0) (i 1) k)) (fun k => convOf u w b (i 0) (i 1) k) (fun k => g (ix2 0 k)) (fun k => h (ix2 0 k))
    (fun k j => w2 (ix3 0 k j)) (fun k => b2 (ix2 0 k)) (i 2)

variable (m : (ℓ : Loc nD τ sig) → Buf (Elt Ideal) ℓ)

/-- Where each window's block stands at a grid point: the sequences' blocks move with it, the rest stays. -/
theorem idx : ∀ t : Fin cfg0.N, win0_0.index t = ![t.val / 8, t.val % 8, 0] ∧ win0_1.index t = ![t.val / 8, t.val % 8, 0] ∧ win0_2.index t = ![t.val / 8, t.val % 8 * 16 - 1, 0]
    ∧ win0_3.index t = ![t.val / 8, 0, 0] ∧ win0_4.index t = ![0, 0] ∧ win0_5.index t = ![0, 0] ∧ win0_6.index t = ![0, 0] ∧ win0_7.index t = ![0, 0]
    ∧ win0_8.index t = ![0, 0, 0] ∧ win0_9.index t = ![0, 0] ∧ win0_10.index t = ![t.val / 8, t.val % 8, 0] := by
  have h : ∀ t : Fin grid0.N, win0_0.index t = ![t.val / 8, t.val % 8, 0] ∧ win0_1.index t = ![t.val / 8, t.val % 8, 0] ∧ win0_2.index t = ![t.val / 8, t.val % 8 * 16 - 1, 0]
    ∧ win0_3.index t = ![t.val / 8, 0, 0] ∧ win0_4.index t = ![0, 0] ∧ win0_5.index t = ![0, 0] ∧ win0_6.index t = ![0, 0] ∧ win0_7.index t = ![0, 0]
    ∧ win0_8.index t = ![0, 0, 0] ∧ win0_9.index t = ![0, 0] ∧ win0_10.index t = ![t.val / 8, t.val % 8, 0] := by decide +kernel
  exact h

/-- What stands before a sequence: zeros. -/
theorem zeros (c : Dev nD) (p : Fin 8) (r : Fin 32) (k : Fin 1024) : (V m c main_v0 : S8x32x1024.Idx → EReal) (ix3 p r k) = (0 : EReal) := by
  unfold V
  simp only [hostOps0, hostOps0_1, hostOps0_2, List.flatten_cons, List.flatten_nil, List.append_nil, List.cons_append, List.nil_append]
  after_reads_at
  try rfl

/-- The taps' weights as the kernel is given them: one row stands behind them. -/
theorem taps (c : Dev nD) (n : Fin 32) (k : Fin 1024) (h : n.val < 31) :
    (V m c main_v7 : S32x1024.Idx → EReal) (ix2 n k) = (m ((c : Thread nD τ).loc main_arg2) : S1x31x1024.Idx → EReal) (ix3 0 ⟨n.val, h⟩ k) := by
  unfold V
  simp only [hostOps0, hostOps0_1, hostOps0_2, List.flatten_cons, List.flatten_nil, List.append_nil, List.cons_append, List.nil_append]
  after_reads_at
  exact dif_pos h

/-- The convolution's bias as the kernel is given it. -/
theorem bias (c : Dev nD) (k : Fin 1024) :
    (V m c main_v8 : S1x1024.Idx → EReal) (ix2 0 k) = (m ((c : Thread nD τ).loc main_arg3) : S1x1024.Idx → EReal) (ix2 0 k) := by
  unfold V
  simp only [hostOps0, hostOps0_1, hostOps0_2, List.flatten_cons, List.flatten_nil, List.append_nil, List.cons_append, List.nil_append]
  after_reads_at
  try rfl

/-- The normalisation's scale as the kernel is given it. -/
theorem scale (c : Dev nD) (k : Fin 1024) :
    (V m c main_v9 : S1x1024.Idx → EReal) (ix2 0 k) = (m ((c : Thread nD τ).loc main_arg4) : S1x1024.Idx → EReal) (ix2 0 k) := by
  unfold V
  simp only [hostOps0, hostOps0_1, hostOps0_2, List.flatten_cons, List.flatten_nil, List.append_nil, List.cons_append, List.nil_append]
  after_reads_at
  try rfl

/-- The normalisation's offset as the kernel is given it. -/
theorem offset (c : Dev nD) (k : Fin 1024) :
    (V m c main_v10 : S1x1024.Idx → EReal) (ix2 0 k) = (m ((c : Thread nD τ).loc main_arg5) : S1x1024.Idx → EReal) (ix2 0 k) := by
  unfold V
  simp only [hostOps0, hostOps0_1, hostOps0_2, List.flatten_cons, List.flatten_nil, List.append_nil, List.cons_append, List.nil_append]
  after_reads_at
  try rfl

/-- The second product's bias as the kernel is given it. -/
theorem bias2 (c : Dev nD) (k : Fin 1024) :
    (V m c main_v11 : S1x1024.Idx → EReal) (ix2 0 k) = (m ((c : Thread nD τ).loc main_arg7) : S1x1024.Idx → EReal) (ix2 0 k) := by
  unfold V
  simp only [hostOps0, hostOps0_1, hostOps0_2, List.flatten_cons, List.flatten_nil, List.append_nil, List.cons_append, List.nil_append]
  after_reads_at
  try rfl

/-- The second product's weights as the kernel is given them. -/
theorem weights (c : Dev nD) (k j : Fin 1024) :
    (V m c main_v5 : S1x1024x1024.Idx → EReal) (ix3 0 k j) = (m ((c : Thread nD τ).loc main_arg6) : S1x1024x1024.Idx → EReal) (ix3 0 k j) := by
  unfold V
  simp only [hostOps0, hostOps0_1, hostOps0_2, List.flatten_cons, List.flatten_nil, List.append_nil, List.cons_append, List.nil_append]
  after_reads_at
  try rfl

/-- The rows' blocks are the arguments' rows. -/
theorem blk0 (c : Dev nD) (t : Fin cfg0.N) (r : Fin 512) (k : Fin 1024) (h : t.val < 64) :
    iblk m c 0 t (ix3 0 r k) = (m ((c : Thread nD τ).loc main_arg0) : S8x4096x1024.Idx → EReal) (ix3 ⟨t.val / 8, by omega⟩ ⟨t.val % 8 * 512 + r.val, by omega⟩ k) := by
  refine Eq.trans ?_ (congrFun (V_main_arg0 m c) (ix3 ⟨t.val / 8, by omega⟩ ⟨t.val % 8 * 512 + r.val, by omega⟩ k))
  blk_ext [iblk, idx t]

theorem blk1 (c : Dev nD) (t : Fin cfg0.N) (r : Fin 512) (k : Fin 1024) (h : t.val < 64) :
    iblk m c 1 t (ix3 0 r k) = (m ((c : Thread nD τ).loc main_arg1) : S8x4096x1024.Idx → EReal) (ix3 ⟨t.val / 8, by omega⟩ ⟨t.val % 8 * 512 + r.val, by omega⟩ k) := by
  refine Eq.trans ?_ (congrFun (V_main_arg1 m c) (ix3 ⟨t.val / 8, by omega⟩ ⟨t.val % 8 * 512 + r.val, by omega⟩ k))
  blk_ext [iblk, idx t]

/-- The rows in front of a block that is not a sequence's first. -/
theorem blk2 (c : Dev nD) (t : Fin cfg0.N) (r : Fin 32) (k : Fin 1024) (h : t.val < 64) (h0 : ¬ t.val % 8 = 0) :
    iblk m c 2 t (ix3 0 r k) = (m ((c : Thread nD τ).loc main_arg1) : S8x4096x1024.Idx → EReal) (ix3 ⟨t.val / 8, by omega⟩ ⟨(t.val % 8 * 16 - 1) * 32 + r.val, by omega⟩ k) := by
  refine Eq.trans ?_ (congrFun (V_main_arg1 m c) (ix3 ⟨t.val / 8, by omega⟩ ⟨(t.val % 8 * 16 - 1) * 32 + r.val, by omega⟩ k))
  blk_ext [iblk, idx t]

/-- The block of zeros. -/
theorem blk3 (c : Dev nD) (t : Fin cfg0.N) (r : Fin 32) (k : Fin 1024) (h : t.val < 64) : iblk m c 3 t (ix3 0 r k) = (0 : EReal) := by
  refine Eq.trans ?_ (zeros m c ⟨t.val / 8, by omega⟩ r k)
  blk_ext [iblk, idx t]

/-- The block of the taps' weights. -/
theorem blk4 (c : Dev nD) (t : Fin cfg0.N) (n : Fin 32) (k : Fin 1024) (h : n.val < 31) :
    iblk m c 4 t (ix2 n k) = (m ((c : Thread nD τ).loc main_arg2) : S1x31x1024.Idx → EReal) (ix3 0 ⟨n.val, h⟩ k) := by
  refine Eq.trans ?_ (taps m c n k h)
  blk_ext [iblk, idx t]

/-- The block of the convolution's bias. -/
theorem blk5 (c : Dev nD) (t : Fin cfg0.N) (k : Fin 1024) :
    iblk m c 5 t (ix2 0 k) = (m ((c : Thread nD τ).loc main_arg3) : S1x1024.Idx → EReal) (ix2 0 k) := by
  refine Eq.trans ?_ (bias m c k)
  blk_ext [iblk, idx t]

/-- The block of the normalisation's scale. -/
theorem blk6 (c : Dev nD) (t : Fin cfg0.N) (k : Fin 1024) :
    iblk m c 6 t (ix2 0 k) = (m ((c : Thread nD τ).loc main_arg4) : S1x1024.Idx → EReal) (ix2 0 k) := by
  refine Eq.trans ?_ (scale m c k)
  blk_ext [iblk, idx t]

/-- The block of the normalisation's offset. -/
theorem blk7 (c : Dev nD) (t : Fin cfg0.N) (k : Fin 1024) :
    iblk m c 7 t (ix2 0 k) = (m ((c : Thread nD τ).loc main_arg5) : S1x1024.Idx → EReal) (ix2 0 k) := by
  refine Eq.trans ?_ (offset m c k)
  blk_ext [iblk, idx t]

/-- The block of the second product's weights. -/
theorem blk8 (c : Dev nD) (t : Fin cfg0.N) (k j : Fin 1024) :
    iblk m c 8 t (ix3 0 k j) = (m ((c : Thread nD τ).loc main_arg6) : S1x1024x1024.Idx → EReal) (ix3 0 k j) := by
  refine Eq.trans ?_ (weights m c k j)
  blk_ext [iblk, idx t]

/-- The block of the second product's bias. -/
theorem blk9 (c : Dev nD) (t : Fin cfg0.N) (k : Fin 1024) :
    iblk m c 9 t (ix2 0 k) = (m ((c : Thread nD τ).loc main_arg7) : S1x1024.Idx → EReal) (ix2 0 k) := by
  refine Eq.trans ?_ (bias2 m c k)
  blk_ext [iblk, idx t]

/-- The block's convolution is the sequence's, where the rows in front are the sequence's. -/
theorem conv_blk (c : Dev nD) (t : Fin cfg0.N) (init : FVec Ideal S1x32x1024 .f32) (r : Fin 512) (k : Fin 1024) (h : t.val < 64)
    (hi : ∀ n : ℕ, 2 ≤ n → n < 32 → init (ix3 0 (Fin.ofNat 32 n) k) = seqAt (m ((c : Thread nD τ).loc main_arg1)) ⟨t.val / 8, by omega⟩ k (t.val % 8 * 512 + n - 2)) :
    convAt (extRow init (iblk m c 1 t)) (byNat 32 (iblk m c 4 t)) (byNat 1 (iblk m c 5 t)) r.val k.val
      = convOf (m ((c : Thread nD τ).loc main_arg1)) (m ((c : Thread nD τ).loc main_arg2)) (m ((c : Thread nD τ).loc main_arg3))
        ⟨t.val / 8, by omega⟩ ⟨t.val % 8 * 512 + r.val, by omega⟩ k := by
  have ek : Fin.ofNat 1024 k.val = k := Fin.ext (Nat.mod_eq_of_lt k.isLt)
  have eb : byNat 1 (iblk m c 5 t) 0 k.val = (m ((c : Thread nD τ).loc main_arg3) : S1x1024.Idx → EReal) (ix2 0 k) := by
    unfold byNat
    rw [ek]
    exact blk5 m c t k
  unfold convAt convOf
  rw [eb]
  refine tapsOver_congr _ 31 fun n hn => congrArg₂ (· * ·) ?_ ?_
  · unfold extRow
    rw [ek]
    by_cases hr : 2 + n + r.val < 32
    · rw [if_pos hr, hi _ (by omega) hr]
      exact congrArg (seqAt (m ((c : Thread nD τ).loc main_arg1)) ⟨t.val / 8, by omega⟩ k) (by show t.val % 8 * 512 + (2 + n + r.val) - 2 = n + (t.val % 8 * 512 + r.val); omega)
    · rw [if_neg hr, blk1 m c t _ k h]
      unfold seqAt
      rw [if_neg (by show ¬ n + (t.val % 8 * 512 + r.val) < 30; omega)]
      exact congrArg (fun e => (m ((c : Thread nD τ).loc main_arg1) : S8x4096x1024.Idx → EReal) (ix3 ⟨t.val / 8, by omega⟩ e k)) (Fin.ext (by simp only [Fin.val_ofNat]; omega))
  · unfold byNat
    rw [ek, blk4 m c t _ k (by simp only [Fin.val_ofNat]; omega)]
    exact congrArg (fun e => (m ((c : Thread nD τ).loc main_arg2) : S1x31x1024.Idx → EReal) (ix3 0 e k)) (Fin.ext (by simp only [Fin.val_ofNat]; omega))

/-- The rows in front of every block are the sequence's. -/
theorem front (c : Dev nD) (t : Fin cfg0.N) (h : t.val < 64) : ∃ init : FVec Ideal S1x32x1024 .f32,
    ((t.val % 8 = 0 ∧ init = iblk m c 3 t) ∨ (¬ t.val % 8 = 0 ∧ init = iblk m c 2 t)) ∧ ∀ (k : Fin 1024) (n : ℕ), 2 ≤ n → n < 32 →
      init (ix3 0 (Fin.ofNat 32 n) k) = seqAt (m ((c : Thread nD τ).loc main_arg1)) ⟨t.val / 8, by omega⟩ k (t.val % 8 * 512 + n - 2) := by
  by_cases h0 : t.val % 8 = 0
  · refine ⟨iblk m c 3 t, Or.inl ⟨h0, rfl⟩, fun k n h2 hn => ?_⟩
    unfold seqAt
    rw [if_pos (by omega)]
    exact blk3 m c t _ k h
  · refine ⟨iblk m c 2 t, Or.inr ⟨h0, rfl⟩, fun k n h2 hn => ?_⟩
    unfold seqAt
    rw [if_neg (by omega)]
    refine (blk2 m c t _ k h h0).trans ?_
    exact congrArg (fun e => (m ((c : Thread nD τ).loc main_arg1) : S8x4096x1024.Idx → EReal) (ix3 ⟨t.val / 8, by omega⟩ e k)) (Fin.ext (by simp only [Fin.val_ofNat]; omega))

/-- The call's result array after the run. -/
theorem final (c : Dev nD) : (dats m 0 c).arrAt 10 cfg0.N = G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) := by
  refine (dats m 0 c).arrAt_eq_of_covers 10 _ (by decide +kernel) fun t hf y => ?_
  blk_simp
  rw [after0_10]
  have ht : t.val < 64 := by have := t.isLt; have : cfg0.grid.N = 64 := rfl; omega
  idx_vars y
  obtain rfl : y0 = 0 := Fin.eq_zero y0
  obtain ⟨init, hi, hf⟩ := front m c t ht
  rw [out_apply m c t init hi]
  have e0 : ((View.whole main_v12).slice (win0_10.rect t)).emb (ix3 0 y1 y2) 0 = (⟨t.val / 8, by omega⟩ : Fin 8) := Fin.ext (by blk_simp [idx t]; rfl)
  have e1 : ((View.whole main_v12).slice (win0_10.rect t)).emb (ix3 0 y1 y2) 1 = (⟨t.val % 8 * 512 + y1.val, by have : y1.val < 512 := y1.isLt; omega⟩ : Fin 4096) := Fin.ext (by blk_simp [idx t])
  have e2 : ((View.whole main_v12).slice (win0_10.rect t)).emb (ix3 0 y1 y2) 2 = y2 := Fin.ext (by blk_simp [idx t])
  have b0 : ∀ k, iblk m c 0 t (ix3 0 y1 k) = _ := fun k => blk0 m c t y1 k ht
  have bc : ∀ k : Fin 1024, convAt _ _ _ y1.val k.val = _ := fun k => conv_blk m c t init y1 k ht (hf k)
  simp only [G, e0, e1, e2, b0, bc, blk6, blk7, blk8, blk9]
  try rfl

end Cert.ConvRestIdeal.Hand

end
-- ==== Proof.ConvRestRef.lean ====
module

public import proofs.«01_k».proof.Proof.Gen.ConvRestRefIdeal.Read
public import proofs.«01_k».proof.Proof.ConvRestArray

@[expose] public section

set_option maxRecDepth 16384

noncomputable section

namespace Cert.ConvRestRefIdeal.Hand

open Cert.ConvRestRefIdeal Cert.ConvRestRefIdeal.Gen Cert.ConvRestRefIdeal.Read Cert.Layer Idealize.ShloMosaic
open Cert.ConvRestIdeal.Hand (seqAt convOf G)

variable (x u : (⟨S8x4096x1024, .f32⟩ : BufTy).Contents (Elt Ideal)) (w : (⟨S1x31x1024, .f32⟩ : BufTy).Contents (Elt Ideal)) (b g h : (⟨S1x1024, .f32⟩ : BufTy).Contents (Elt Ideal))
  (w2 : (⟨S1x1024x1024, .f32⟩ : BufTy).Contents (Elt Ideal)) (b2 : (⟨S1x1024, .f32⟩ : BufTy).Contents (Elt Ideal))

/-- The integer zero as a float is zero. -/
theorem sitofp_zero : (FloatOps.sitofp FTy.f32 (0#32) : Ideal FTy.f32) = (0 : EReal) := by
  simp [FloatOps.sitofp]

/-- The extended sequence's row. -/
theorem seq_apply (p : Fin 8) (n : Fin 4126) (c : Fin 1024) : val_main_v0 u (ix3 p n c) = seqAt u p c n.val := by
  pointwise [val_main_v0, val_main_call0_v0, val_main_c]
  unfold seqAt
  by_cases hn : n.val < 30
  · rw [if_pos hn, dif_neg (by omega)]
    exact sitofp_zero
  · rw [if_neg hn, dif_pos (by omega)]
    exact congrArg (fun e => u (ix3 p e c)) (Fin.ext (by simp only [Fin.val_ofNat]; omega))

/-- Tap `n`: the rows moved by `n` times the tap's weights. -/
def term (n : ℕ) (hn : n ≤ 30) : FVec Ideal S8x4096x1024 .f32 :=
  mulf (extractStridedSlice S8x4096x1024 ![0, n, 0] (val_main_v0 u) ⟨rfl, fun a => by fin_cases a <;> simp [S8x4096x1024, S8x4126x1024] <;> omega⟩)
    (broadcastInDim S8x4096x1024 ![0, 1, 2] bcast_S1x1x1024_S8x4096x1024_0_1_2 (broadcastInDim S1x1x1024 ![2] bcast_S1024_S1x1x1024_2
      (shapeCast S1024 (extractStridedSlice S1x1x1024 ![0, n, 0] w ⟨rfl, fun a => by fin_cases a <;> simp [S1x1x1024, S1x31x1024] <;> omega⟩) shapeCasts_S1x1x1024_S1024)))

theorem term_apply (n : ℕ) (hn : n ≤ 30) (p : Fin 8) (r : Fin 4096) (c : Fin 1024) :
    term u w n hn (ix3 p r c) = seqAt u p c (n + r.val) * w (ix3 0 (Fin.ofNat 31 n) c) := by
  pointwise [term]
  exact congrArg₂ (· * ·) (seq_apply u p ⟨n + r.val, by omega⟩ c) (congrArg (fun e => w (ix3 0 e c)) (Fin.ext (by simp only [Fin.val_ofNat]; omega)))

/-- The first `n` taps one after another, as the reference adds them. -/
def sum : ℕ → FVec Ideal S8x4096x1024 .f32
  | 0 => val_main_v7 (F := Ideal)
  | n + 1 => if hn : n ≤ 30 then addf (sum n) (term u w n hn) else sum n

theorem sum_apply (p : Fin 8) (r : Fin 4096) (c : Fin 1024) (n : ℕ) (hn : n ≤ 31) :
    sum u w n (ix3 p r c) = tapsOver 0 (fun n => seqAt u p c (n + r.val) * w (ix3 0 (Fin.ofNat 31 n) c)) n := by
  induction n with
  | zero =>
    pointwise [sum, val_main_v7, val_main_cst]
    rfl
  | succ n ih =>
    have e : sum u w (n + 1) = addf (sum u w n) (term u w n (by omega)) := dif_pos (by omega)
    rw [e, tapsOver, ← ih (by omega), ← term_apply u w n (by omega)]
    rfl

/-- The reference's convolution is the sequence's. -/
theorem conv_apply (p : Fin 8) (r : Fin 4096) (c : Fin 1024) : val_main_v222 u w b (ix3 p r c) = convOf u w b p r c := by
  have e : val_main_v218 u w = sum u w 31 := rfl
  rw [val_main_v222, e]
  pointwise [val_main_v221, val_main_v220, val_main_v219, sum_apply]
  exact (tapsOver_bias _ _ _).symm

/-- The normalised row, from the convolution's rows. -/
theorem norm_apply (p : Fin 8) (r : Fin 4096) (c : Fin 1024) :
    val_main_v248 u w b g h (ix3 p r c) = layerNorm (fun k => val_main_v222 u w b (ix3 p r k)) (fun k => g (ix2 0 k)) (fun k => h (ix2 0 k)) c := by
  pointwise [val_main_v248, val_main_v247, val_main_v246, val_main_v245, val_main_v244, val_main_v243, val_main_v242, val_main_v241, val_main_v240,
    val_main_v239, val_main_v238, val_main_v237, val_main_v236, val_main_v235, val_main_v234, val_main_v233, val_main_v232, val_main_v231,
    val_main_v230, val_main_v229, val_main_v228, val_main_v227, val_main_v226, val_main_v225, val_main_v224, val_main_v223, val_main_cst_0,
    val_main_cst_1, val_main_cst_2, val_main_cst_3, val_main_cst_4]
  rfl

/-- The reference's result, from the convolution's rows. -/
theorem out_apply (p : Fin 8) (r : Fin 4096) (c : Fin 1024) :
    val_main_v256 x u w b g h w2 b2 (ix3 p r c) = convRest (fun k => x (ix3 p r k)) (fun k => val_main_v222 u w b (ix3 p r k)) (fun k => g (ix2 0 k)) (fun k => h (ix2 0 k))
      (fun k j => w2 (ix3 0 k j)) (fun k => b2 (ix2 0 k)) c := by
  pointwise [val_main_v256, val_main_v255, val_main_v254, val_main_v253, val_main_v252, val_main_v251, val_main_v250, val_main_v249, val_main_call1_v5,
    val_main_call1_v4, val_main_call1_v3, val_main_call1_v2, val_main_call1_v1, val_main_call1_v0, val_main_call1_cst, val_main_call1_cst_0, norm_apply]
  rfl

/-- The kernel's function of the arguments is the reference's result. -/
theorem eq_G : G x u w b g h w2 b2 = val_main_v256 x u w b g h w2 b2 := by
  funext i
  idx_vars i
  rw [out_apply]
  simp only [conv_apply]
  rfl

end Cert.ConvRestRefIdeal.Hand

end
-- ==== Proof.ConvRestClaim.lean ====
module

public import proofs.«01_k».proof.Proof.ConvRestRef
public import proofs.«01_k».proof.Defs

@[expose] public section

noncomputable section

namespace Cert.ConvRestIdeal.Hand

open Cert.ConvRestIdeal Idealize.ShloMosaic Idealize.SL.Sem

/-- The rest of the convolution on the prompts and its reference, at exact arithmetic, end with equal results. -/
theorem algebraic : letI := Cert.ConvRestIdeal.Gen.facts; letI := Cert.ConvRestRefIdeal.Gen.facts; Cert.algebraic_ConvRestIdeal_ConvRestRefIdeal := by
  pair_intro
  · run_from Cert.ConvRestIdeal.Gen.run_main m g
    · exact Cert.ConvRestIdeal.Gen.V_main_arg2 m c
    · exact Cert.ConvRestIdeal.Gen.V_main_arg3 m c
    · exact Cert.ConvRestIdeal.Gen.V_main_arg4 m c
    · exact Cert.ConvRestIdeal.Gen.V_main_arg5 m c
    · exact Cert.ConvRestIdeal.Gen.V_main_arg6 m c
    · exact Cert.ConvRestIdeal.Gen.V_main_arg7 m c
  · run_from Cert.ConvRestRefIdeal.Value.run m' g'
    obtain ⟨h0, h1, h2, h3, h4, h5, h6, h7⟩ := hagree c
    erw [final m c]
    rw [Cert.ConvRestRefIdeal.Hand.eq_G, ← h0, ← h1, ← h2, ← h3, ← h4, ← h5, ← h6, ← h7]
    exact Cert.ConvRestRefIdeal.Read.val_main_v256_eq (StableHlo.launchContents m' c)

end Cert.ConvRestIdeal.Hand

end
-- ==== Proof.ConvRestSampleTaps.lean ====
module

public import proofs.«01_k».proof.Proof.Gen.ConvRestSampleIdeal.Frame
public import proofs.«01_k».proof.Proof.Conv
public import Idealize.ShloMosaic.Lib.Pipeline.ValueKit
public import Idealize.ShloMosaic.Lib.Pipeline.ReadBack

@[expose] public section

set_option maxRecDepth 16384

noncomputable section

namespace Cert.ConvRestSampleIdeal.Hand

open Cert.ConvRestSampleIdeal Cert.ConvRestSampleIdeal.Gen Cert.Layer Idealize.ShloMosaic

/-- The extended sequence: row `n` of the thirty-two carried rows, then of the new ones. -/
def extRow (init u : FVec Ideal S1x32x1024 .f32) (n q : ℕ) : EReal :=
  if n < 32 then init (ix3 0 (Fin.ofNat 32 n) (Fin.ofNat 1024 q)) else u (ix3 0 (Fin.ofNat 32 (n - 32)) (Fin.ofNat 1024 q))

/-- `n` of its rows from row `k` on. -/
def slab (n : ℕ) (E : ℕ → ℕ → EReal) (k : ℕ) : FVec Ideal ⟨2, ![n, 1024]⟩ .f32 := fun j => E (k + (j 0).val) (j 1).val

/-- Tap `n`'s rows in the column block from `c` on. -/
def tap (E : ℕ → ℕ → EReal) (n c : ℕ) : FVec Ideal S1x32x256 .f32 := fun j => E (2 + n + (j 1).val) (c + (j 2).val)

/-- Row `n` of a two-dimensional array in the column block from `c` on. -/
def part (W : ℕ → ℕ → EReal) (n c : ℕ) : FVec Ideal S1x256 .f32 := fun j => W n (c + (j 1).val)

/-- A two-dimensional array of 1024 columns by the numbers of its row and column. -/
def byNat (R : ℕ) [NeZero R] (X : (⟨2, ![R, 1024]⟩ : Shape).Idx → EReal) (n q : ℕ) : EReal := X (ix2 (Fin.ofNat R n) (Fin.ofNat 1024 q))

/-- The biased convolution at row `r`, column `q`. -/
def convAt (E W B : ℕ → ℕ → EReal) (r q : ℕ) : EReal := tapsOver (B 0 q) (fun n => E (2 + n + r) q * W n q) 31

/-- What a list of stores leaves where they are all blocks of one function and one of them covers the index. -/
theorem canon_of_pieces {S : Shape} (G : S.Idx → Elt Ideal .f32) (L : List (View.Piece (Elt Ideal) S .f32)) (hL : ∀ p ∈ L, ∀ x : p.1.shape.Idx, p.2 x = G (p.1.emb x))
    (y : S.Idx) (hc : ∃ p ∈ L, y ∈ p.1.set) : View.canon L y = G y := by
  have h := View.canon_append_of_pieces G [] L hL y hc
  rwa [List.append_nil] at h

theorem in_two (f o n : Fin 2 → ℕ) : (∀ a, o a ≤ f a ∧ f a < o a + n a) ↔ (o 0 ≤ f 0 ∧ f 0 < o 0 + n 0) ∧ (o 1 ≤ f 1 ∧ f 1 < o 1 + n 1) :=
  ⟨fun h => ⟨h 0, h 1⟩, fun h a => by fin_cases a; exacts [h.1, h.2]⟩

theorem in_three (f o n : Fin 3 → ℕ) : (∀ a, o a ≤ f a ∧ f a < o a + n a) ↔ (o 0 ≤ f 0 ∧ f 0 < o 0 + n 0) ∧ (o 1 ≤ f 1 ∧ f 1 < o 1 + n 1) ∧ (o 2 ≤ f 2 ∧ f 2 < o 2 + n 2) :=
  ⟨fun h => ⟨h 0, h 1, h 2⟩, fun h a => by fin_cases a; exacts [h.1, h.2.1, h.2.2]⟩

theorem cast_block (u : FVec Ideal S1x32x1024 .f32) (h1 h2) (r : Fin 32) (q : Fin 1024) :
    (shapeCast S32x1024 (shapeCast S32x1024 u h1 : FVec Ideal S32x1024 .f32) h2 : FVec Ideal S32x1024 .f32) (ix2 r q) = u (ix3 0 r q) := by
  pointwise

/-- What the two stores leave in the extended buffer. -/
theorem ext_canon (init u : FVec Ideal S1x32x1024 .f32) (inb0 inb1 h1 h2 h3 h4) (y : S64x1024.Idx) :
    View.canon (Val := Elt Ideal) (s := S64x1024) (e := .f32)
      [⟨Rect.unit ![32, 0] ![32, 1024] inb1, (shapeCast S32x1024 (shapeCast S32x1024 u h1 : FVec Ideal S32x1024 .f32) h2 : FVec Ideal S32x1024 .f32)⟩,
       ⟨Rect.unit ![0, 0] ![32, 1024] inb0, (shapeCast S32x1024 (shapeCast S32x1024 init h3 : FVec Ideal S32x1024 .f32) h4 : FVec Ideal S32x1024 .f32)⟩] y
      = extRow init u (y 0).val (y 1).val := by
  refine canon_of_pieces (fun y : S64x1024.Idx => extRow init u (y 0).val (y 1).val) _
    (List.forall_mem_cons.mpr ⟨fun x => ?_, List.forall_mem_cons.mpr ⟨fun x => ?_, List.forall_mem_nil _⟩⟩) y ?_
  · obtain ⟨x0, x1, rfl⟩ : ∃ (x0 : Fin 32) (x1 : Fin 1024), x = ix2 x0 x1 := ⟨x 0, x 1, by funext a; fin_cases a <;> rfl⟩
    refine (cast_block u h1 h2 x0 x1).trans ?_
    have e0 : ((Rect.unit (s := S64x1024) ![32, 0] ![32, 1024] inb1).emb (ix2 x0 x1) 0).val = 32 + x0.val := ValueKit.rect_emb_unit_val _ _ _ _ _
    have e1 : ((Rect.unit (s := S64x1024) ![32, 0] ![32, 1024] inb1).emb (ix2 x0 x1) 1).val = 0 + x1.val := ValueKit.rect_emb_unit_val _ _ _ _ _
    show _ = extRow init u _ _
    rw [e0, e1]
    unfold extRow
    rw [if_neg (by omega)]
    exact congrArg₂ (fun p q => u (ix3 0 p q)) (Fin.ext (by simp [Fin.ofNat]; omega)) (Fin.ext (by simp [Fin.ofNat]; omega))
  · obtain ⟨x0, x1, rfl⟩ : ∃ (x0 : Fin 32) (x1 : Fin 1024), x = ix2 x0 x1 := ⟨x 0, x 1, by funext a; fin_cases a <;> rfl⟩
    refine (cast_block init h3 h4 x0 x1).trans ?_
    have e0 : ((Rect.unit (s := S64x1024) ![0, 0] ![32, 1024] inb0).emb (ix2 x0 x1) 0).val = 0 + x0.val := ValueKit.rect_emb_unit_val _ _ _ _ _
    have e1 : ((Rect.unit (s := S64x1024) ![0, 0] ![32, 1024] inb0).emb (ix2 x0 x1) 1).val = 0 + x1.val := ValueKit.rect_emb_unit_val _ _ _ _ _
    show _ = extRow init u _ _
    rw [e0, e1]
    unfold extRow
    rw [if_pos (by omega)]
    exact congrArg₂ (fun p q => init (ix3 0 p q)) (Fin.ext (by simp [Fin.ofNat]; omega)) (Fin.ext (by simp [Fin.ofNat]; omega))
  · have b0 : (y 0).val < 64 := (y 0).isLt
    have b1 : (y 1).val < 1024 := (y 1).isLt
    simp only [List.mem_cons, List.not_mem_nil, or_false, exists_eq_or_imp, exists_eq_left, Rect.mem_set_unit]
    have two : ∀ o : ℕ, (∀ i : Fin 2, (![o, 0] : Fin 2 → ℕ) i ≤ (y i).val ∧ (y i).val < (![o, 0] : Fin 2 → ℕ) i + (![32, 1024] : Fin 2 → ℕ) i)
        ↔ (o ≤ (y 0).val ∧ (y 0).val < o + 32) ∧ (0 ≤ (y 1).val ∧ (y 1).val < 0 + 1024) := fun o => in_two (fun i => (y i).val) _ _
    erw [two, two]
    omega

theorem ext_read56 {sp : Space} (v : View sig .tc sp S64x1024 .f32) (init u : FVec Ideal S1x32x1024 .f32) (inb0 inb1 h1 h2 h3 h4) (k : ℕ) (inb) :
    v.readCov (Val := Elt Ideal)
      [⟨Rect.unit ![32, 0] ![32, 1024] inb1, (shapeCast S32x1024 (shapeCast S32x1024 u h1 : FVec Ideal S32x1024 .f32) h2 : FVec Ideal S32x1024 .f32)⟩,
       ⟨Rect.unit ![0, 0] ![32, 1024] inb0, (shapeCast S32x1024 (shapeCast S32x1024 init h3 : FVec Ideal S32x1024 .f32) h4 : FVec Ideal S32x1024 .f32)⟩]
      (Rect.unit (s := S64x1024) ![k, 0] ![56, 1024] inb).toLoadRect = slab 56 (extRow init u) k := by
  rw [View.readCov_eq_canon']
  funext j
  rw [ext_canon]
  exact congrArg₂ (extRow init u) (Rect.idx_unit_val _ _ _ _ _) ((Rect.idx_unit_val _ _ _ _ _).trans (Nat.zero_add _))

theorem ext_read48 {sp : Space} (v : View sig .tc sp S64x1024 .f32) (init u : FVec Ideal S1x32x1024 .f32) (inb0 inb1 h1 h2 h3 h4) (k : ℕ) (inb) :
    v.readCov (Val := Elt Ideal)
      [⟨Rect.unit ![32, 0] ![32, 1024] inb1, (shapeCast S32x1024 (shapeCast S32x1024 u h1 : FVec Ideal S32x1024 .f32) h2 : FVec Ideal S32x1024 .f32)⟩,
       ⟨Rect.unit ![0, 0] ![32, 1024] inb0, (shapeCast S32x1024 (shapeCast S32x1024 init h3 : FVec Ideal S32x1024 .f32) h4 : FVec Ideal S32x1024 .f32)⟩]
      (Rect.unit (s := S64x1024) ![k, 0] ![48, 1024] inb).toLoadRect = slab 48 (extRow init u) k := by
  rw [View.readCov_eq_canon']
  funext j
  rw [ext_canon]
  exact congrArg₂ (extRow init u) (Rect.idx_unit_val _ _ _ _ _) ((Rect.idx_unit_val _ _ _ _ _).trans (Nat.zero_add _))

theorem cast56 (E : ℕ → ℕ → EReal) (k : ℕ) (g) (x0 : Fin 1) (x1 : Fin 56) (x2 : Fin 1024) :
    (shapeCast S1x56x1024 (slab 56 E k) g : FVec Ideal S1x56x1024 .f32) (ix3 x0 x1 x2) = E (k + x1.val) x2.val := by
  pointwise [slab]

theorem cast48 (E : ℕ → ℕ → EReal) (k : ℕ) (g) (x0 : Fin 1) (x1 : Fin 48) (x2 : Fin 1024) :
    (shapeCast S1x48x1024 (slab 48 E k) g : FVec Ideal S1x48x1024 .f32) (ix3 x0 x1 x2) = E (k + x1.val) x2.val := by
  pointwise [slab]

/-- One shifted copy, as it is stored. -/
theorem copy_piece (E : ℕ → ℕ → EReal) (s k n : ℕ) (hk : k = s + 2) {P : FVec Ideal ⟨3, ![1, n, 1024]⟩ .f32}
    (hP : ∀ (x0 : Fin 1) (x1 : Fin n) (x2 : Fin 1024), P (ix3 x0 x1 x2) = E (k + x1.val) x2.val) (inb) (x : (⟨3, ![1, n, 1024]⟩ : Shape).Idx) :
    P x = (fun y : S8x56x1024.Idx => E ((y 0).val + 2 + (y 1).val) (y 2).val) ((Rect.unit (s := S8x56x1024) ![s, 0, 0] ![1, n, 1024] inb).emb x) := by
  have e0 : ((Rect.unit (s := S8x56x1024) ![s, 0, 0] ![1, n, 1024] inb).emb x 0).val = s + (x 0).val := ValueKit.rect_emb_unit_val _ _ _ _ _
  have e1 : ((Rect.unit (s := S8x56x1024) ![s, 0, 0] ![1, n, 1024] inb).emb x 1).val = 0 + (x 1).val := ValueKit.rect_emb_unit_val _ _ _ _ _
  have e2 : ((Rect.unit (s := S8x56x1024) ![s, 0, 0] ![1, n, 1024] inb).emb x 2).val = 0 + (x 2).val := ValueKit.rect_emb_unit_val _ _ _ _ _
  have h0 : (x 0).val < 1 := (x 0).isLt
  show _ = E _ _
  rw [e0, e1, e2]
  refine Eq.trans (congrArg P (?_ : x = ix3 (x 0) (x 1) (x 2))) ((hP (x 0) (x 1) (x 2)).trans ?_)
  · funext a; fin_cases a <;> rfl
  · exact congrArg₂ E (by omega) (by omega)

/-- What a load of the eight shifted copies reads. -/
theorem copies_read {sp : Space} (v : View sig .tc sp S8x56x1024 .f32) (E : ℕ → ℕ → EReal) (i7 i6 i5 i4 i3 i2 i1 i0 g7 g6 g5 g4 g3 g2 g1 g0) (a b c : ℕ) (inb) (h : b + 8 * a ≤ 72) :
    v.readCov (Val := Elt Ideal)
      [⟨Rect.unit ![7, 0, 0] ![1, 48, 1024] i7, (shapeCast S1x48x1024 (slab 48 E 9) g7 : FVec Ideal S1x48x1024 .f32)⟩,
       ⟨Rect.unit ![6, 0, 0] ![1, 56, 1024] i6, (shapeCast S1x56x1024 (slab 56 E 8) g6 : FVec Ideal S1x56x1024 .f32)⟩,
       ⟨Rect.unit ![5, 0, 0] ![1, 56, 1024] i5, (shapeCast S1x56x1024 (slab 56 E 7) g5 : FVec Ideal S1x56x1024 .f32)⟩,
       ⟨Rect.unit ![4, 0, 0] ![1, 56, 1024] i4, (shapeCast S1x56x1024 (slab 56 E 6) g4 : FVec Ideal S1x56x1024 .f32)⟩,
       ⟨Rect.unit ![3, 0, 0] ![1, 56, 1024] i3, (shapeCast S1x56x1024 (slab 56 E 5) g3 : FVec Ideal S1x56x1024 .f32)⟩,
       ⟨Rect.unit ![2, 0, 0] ![1, 56, 1024] i2, (shapeCast S1x56x1024 (slab 56 E 4) g2 : FVec Ideal S1x56x1024 .f32)⟩,
       ⟨Rect.unit ![1, 0, 0] ![1, 56, 1024] i1, (shapeCast S1x56x1024 (slab 56 E 3) g1 : FVec Ideal S1x56x1024 .f32)⟩,
       ⟨Rect.unit ![0, 0, 0] ![1, 56, 1024] i0, (shapeCast S1x56x1024 (slab 56 E 2) g0 : FVec Ideal S1x56x1024 .f32)⟩]
      (Rect.unit (s := S8x56x1024) ![a, b, c] ![1, 32, 256] inb).toLoadRect = tap E (a + b) c := by
  rw [View.readCov_eq_canon']
  funext j
  have ha : a + 1 ≤ 8 := inb 0
  have hb : b + 32 ≤ 56 := inb 1
  have hc : c + 256 ≤ 1024 := inb 2
  have h0 : (j 0).val < 1 := (j 0).isLt
  have h1 : (j 1).val < 32 := (j 1).isLt
  have h2 : (j 2).val < 256 := (j 2).isLt
  have e0 : ((Rect.unit (s := S8x56x1024) ![a, b, c] ![1, 32, 256] inb).idx j 0).val = a + (j 0).val := Rect.idx_unit_val _ _ _ _ _
  have e1 : ((Rect.unit (s := S8x56x1024) ![a, b, c] ![1, 32, 256] inb).idx j 1).val = b + (j 1).val := Rect.idx_unit_val _ _ _ _ _
  have e2 : ((Rect.unit (s := S8x56x1024) ![a, b, c] ![1, 32, 256] inb).idx j 2).val = c + (j 2).val := Rect.idx_unit_val _ _ _ _ _
  have hG : tap E (a + b) c j = (fun y : S8x56x1024.Idx => E ((y 0).val + 2 + (y 1).val) (y 2).val) ((Rect.unit (s := S8x56x1024) ![a, b, c] ![1, 32, 256] inb).idx j) := by
    show E _ _ = E _ _
    rw [e0, e1, e2]
    exact congrArg (fun n => E n _) (by omega)
  refine Eq.trans (canon_of_pieces (fun y : S8x56x1024.Idx => E ((y 0).val + 2 + (y 1).val) (y 2).val) _
    (List.forall_mem_cons.mpr ⟨copy_piece E 7 9 48 rfl (cast48 E 9 g7) i7, List.forall_mem_cons.mpr ⟨copy_piece E 6 8 56 rfl (cast56 E 8 g6) i6,
      List.forall_mem_cons.mpr ⟨copy_piece E 5 7 56 rfl (cast56 E 7 g5) i5, List.forall_mem_cons.mpr ⟨copy_piece E 4 6 56 rfl (cast56 E 6 g4) i4,
      List.forall_mem_cons.mpr ⟨copy_piece E 3 5 56 rfl (cast56 E 5 g3) i3, List.forall_mem_cons.mpr ⟨copy_piece E 2 4 56 rfl (cast56 E 4 g2) i2,
      List.forall_mem_cons.mpr ⟨copy_piece E 1 3 56 rfl (cast56 E 3 g1) i1, List.forall_mem_cons.mpr ⟨copy_piece E 0 2 56 rfl (cast56 E 2 g0) i0,
      List.forall_mem_nil _⟩⟩⟩⟩⟩⟩⟩⟩) _ ?_) hG.symm
  simp only [List.mem_cons, List.not_mem_nil, or_false, exists_eq_or_imp, exists_eq_left, Rect.mem_set_unit]
  generalize (Rect.unit (s := S8x56x1024) ![a, b, c] ![1, 32, 256] inb).idx j = y at e0 e1 e2 ⊢
  clear hG
  have three : ∀ s n : ℕ, (∀ i : Fin 3, (![s, 0, 0] : Fin 3 → ℕ) i ≤ (y i).val ∧ (y i).val < (![s, 0, 0] : Fin 3 → ℕ) i + (![1, n, 1024] : Fin 3 → ℕ) i)
      ↔ (s ≤ (y 0).val ∧ (y 0).val < s + 1) ∧ (0 ≤ (y 1).val ∧ (y 1).val < 0 + n) ∧ (0 ≤ (y 2).val ∧ (y 2).val < 0 + 1024) := fun s n => in_three (fun i => (y i).val) _ _
  erw [three, three, three, three, three, three, three, three]
  omega

/-- A load of a row's column block. -/
theorem part_read (R : ℕ) [NeZero R] (X : (⟨2, ![R, 1024]⟩ : Shape).Idx → Elt Ideal .f32) (n c : ℕ) (inb) :
    View.ld X (Rect.unit (s := ⟨2, ![R, 1024]⟩) ![n, c] ![1, 256] inb) = part (byNat R X) n c := by
  funext j
  have hn : n + 1 ≤ R := inb 0
  have hc : c + 256 ≤ 1024 := inb 1
  have h0 : (j 0).val < 1 := (j 0).isLt
  have h1 : (j 1).val < 256 := (j 1).isLt
  refine View.ld_unit_apply_of X _ _ inb j _ fun a => ?_
  fin_cases a
  · show n % R = n + (j 0).val
    rw [Nat.mod_eq_of_lt (by omega)]; omega
  · show (c + (j 1).val) % 1024 = c + (j 1).val
    omega

/-- The four column blocks stored one after another, read back whole. -/
theorem conv_read {sp : Space} (v : View sig .tc sp S32x1024 .f32) (G : ℕ → ℕ → EReal) (i3 i2 i1 i0 inb) (P3 P2 P1 P0 : FVec Ideal S32x256 .f32)
    (h3 : ∀ (r : Fin 32) (q : Fin 256), P3 (ix2 r q) = G r.val (768 + q.val)) (h2 : ∀ (r : Fin 32) (q : Fin 256), P2 (ix2 r q) = G r.val (512 + q.val))
    (h1 : ∀ (r : Fin 32) (q : Fin 256), P1 (ix2 r q) = G r.val (256 + q.val)) (h0 : ∀ (r : Fin 32) (q : Fin 256), P0 (ix2 r q) = G r.val (0 + q.val)) :
    v.readCov (Val := Elt Ideal)
      [⟨Rect.unit ![0, 768] ![32, 256] i3, P3⟩, ⟨Rect.unit ![0, 512] ![32, 256] i2, P2⟩, ⟨Rect.unit ![0, 256] ![32, 256] i1, P1⟩, ⟨Rect.unit ![0, 0] ![32, 256] i0, P0⟩]
      (Rect.unit (s := S32x1024) ![0, 0] ![32, 1024] inb).toLoadRect = (fun j => G (j 0).val (j 1).val : FVec Ideal S32x1024 .f32) := by
  have piece : ∀ (c : ℕ) (i) (P : FVec Ideal S32x256 .f32) (_ : ∀ (r : Fin 32) (q : Fin 256), P (ix2 r q) = G r.val (c + q.val)) (x : S32x256.Idx),
      P x = (fun y : S32x1024.Idx => G (y 0).val (y 1).val) ((Rect.unit (s := S32x1024) ![0, c] ![32, 256] i).emb x) := by
    intro c i P h x
    have e0 : ((Rect.unit (s := S32x1024) ![0, c] ![32, 256] i).emb x 0).val = 0 + (x 0).val := ValueKit.rect_emb_unit_val _ _ _ _ _
    have e1 : ((Rect.unit (s := S32x1024) ![0, c] ![32, 256] i).emb x 1).val = c + (x 1).val := ValueKit.rect_emb_unit_val _ _ _ _ _
    show _ = G _ _
    rw [e0, e1, Nat.zero_add]
    refine Eq.trans (congrArg P ?_) (h (x 0) (x 1))
    funext a; fin_cases a <;> rfl
  rw [View.readCov_eq_canon']
  funext j
  have b0 : (j 0).val < 32 := (j 0).isLt
  have b1 : (j 1).val < 1024 := (j 1).isLt
  have e0 : ((Rect.unit (s := S32x1024) ![0, 0] ![32, 1024] inb).idx j 0).val = 0 + (j 0).val := Rect.idx_unit_val _ _ _ _ _
  have e1 : ((Rect.unit (s := S32x1024) ![0, 0] ![32, 1024] inb).idx j 1).val = 0 + (j 1).val := Rect.idx_unit_val _ _ _ _ _
  have hG : G (j 0).val (j 1).val = (fun y : S32x1024.Idx => G (y 0).val (y 1).val) ((Rect.unit (s := S32x1024) ![0, 0] ![32, 1024] inb).idx j) := by
    show _ = G _ _
    rw [e0, e1, Nat.zero_add, Nat.zero_add]
  refine Eq.trans (canon_of_pieces (fun y : S32x1024.Idx => G (y 0).val (y 1).val) _
    (List.forall_mem_cons.mpr ⟨piece 768 i3 P3 h3, List.forall_mem_cons.mpr ⟨piece 512 i2 P2 h2, List.forall_mem_cons.mpr ⟨piece 256 i1 P1 h1,
      List.forall_mem_cons.mpr ⟨piece 0 i0 P0 h0, List.forall_mem_nil _⟩⟩⟩⟩) _ ?_) hG.symm
  simp only [List.mem_cons, List.not_mem_nil, or_false, exists_eq_or_imp, exists_eq_left, Rect.mem_set_unit]
  generalize (Rect.unit (s := S32x1024) ![0, 0] ![32, 1024] inb).idx j = y at e0 e1 ⊢
  clear hG
  have two : ∀ c : ℕ, (∀ i : Fin 2, (![0, c] : Fin 2 → ℕ) i ≤ (y i).val ∧ (y i).val < (![0, c] : Fin 2 → ℕ) i + (![32, 256] : Fin 2 → ℕ) i)
      ↔ (0 ≤ (y 0).val ∧ (y 0).val < 0 + 32) ∧ (c ≤ (y 1).val ∧ (y 1).val < c + 256) := fun c => in_two (fun i => (y i).val) _ _
  erw [two, two, two, two]
  omega

end Cert.ConvRestSampleIdeal.Hand

end
-- ==== Proof.ConvRestSampleBlock.lean ====
module

public import proofs.«01_k».proof.Proof.ConvRestSampleTaps

@[expose] public section

set_option maxRecDepth 16384

noncomputable section

namespace Cert.ConvRestSampleIdeal.Hand

open Cert.ConvRestSampleIdeal Cert.ConvRestSampleIdeal.Gen Cert.Layer Idealize.ShloMosaic

/-- The normalised row. -/
theorem norm_apply (Y : Vec Ideal S32x1024 .f32) (g b : Vec Ideal S1x1024 .f32) (r : Fin 32) (c : Fin 1024) :
    k0_pay92 Y g b (ix2 r c) = layerNorm (fun k => Y (ix2 r k)) (fun k => g (ix2 0 k)) (fun k => b (ix2 0 k)) c := by
  pointwise [k0_pay92]
  rfl

/-- The residual from the normalised rows. -/
theorem rest_apply (Y : Vec Ideal S32x1024 .f32) (g b : Vec Ideal S1x1024 .f32) (x : Vec Ideal S1x32x1024 .f32) (w : Vec Ideal S1x1024x1024 .bf16)
    (b2 : Vec Ideal S1x1024 .f32) (r : Fin 32) (c : Fin 1024) :
    k0_pay1 (k0_pay94 (k0_pay92 Y g b) (k0_pay93 Y g b) x w b2) (ix3 0 r c) = convRest (fun k => x (ix3 0 r k)) (fun k => Y (ix2 r k)) (fun k => g (ix2 0 k)) (fun k => b (ix2 0 k))
      (fun k j => w (ix3 0 k j)) (fun k => b2 (ix2 0 k)) c := by
  pointwise [k0_pay1, k0_pay94, k0_pay93, norm_apply]
  simp only [convRest, swish, gateOf, zero_sub, add_assoc]

/-- One more tap: its rows times its weights, added. -/
theorem tap_apply (A : FVec Ideal S32x256 .f32) (E W : ℕ → ℕ → EReal) (n c : ℕ) (h h' h'') (r : Fin 32) (q : Fin 256) :
    addf A (mulf (shapeCast S32x256 (tap E n c) h : FVec Ideal S32x256 .f32) (broadcastTo S32x256 (shapeCast S1x256 (part W n c) h' : FVec Ideal S1x256 .f32) h'')) (ix2 r q)
      = A (ix2 r q) + E (2 + n + r.val) (c + q.val) * W n (c + q.val) := by
  pointwise [tap, part]

/-- The bias, which stands first. -/
theorem bias_apply (B : ℕ → ℕ → EReal) (c : ℕ) (h h' h'') (r : Fin 32) (q : Fin 256) :
    (broadcastTo S32x256 (shapeCast S1x256 (shapeCast S1x256 (part B 0 c) h : FVec Ideal S1x256 .f32) h' : FVec Ideal S1x256 .f32) h'' : FVec Ideal S32x256 .f32) (ix2 r q)
      = B 0 (c + q.val) := by
  pointwise [part]

/-- The cast that changes nothing. -/
theorem same_apply (A : FVec Ideal S32x256 .f32) (h) (r : Fin 32) (q : Fin 256) : (shapeCast S32x256 A h : FVec Ideal S32x256 .f32) (ix2 r q) = A (ix2 r q) := by
  pointwise

variable (m : (ℓ : Loc nD τ sig) → Buf (Elt Ideal) ℓ)

set_option maxHeartbeats 1000000 in
/-- What a grid point leaves in its block. -/
theorem out_apply (c : Dev nD) (t : Fin cfg0.N) (r : Fin 32) (k : Fin 1024) :
    outsAt0 m c t (ix3 0 r k) = convRest (fun k => iblk m c 0 t (ix3 0 r k))
      (fun k => convAt (extRow (iblk m c 3 t) (iblk m c 1 t)) (byNat 32 (iblk m c 4 t)) (byNat 1 (iblk m c 5 t)) r.val k.val)
      (fun k => iblk m c 6 t (ix2 0 k)) (fun k => iblk m c 7 t (ix2 0 k)) (fun k j => iblk m c 8 t (ix3 0 k j)) (fun k => iblk m c 9 t (ix2 0 k)) k := by
  unfold outsAt0
  frame_out
  simp only [ext_read56, ext_read48]
  simp (disch := decide) only [copies_read]
  simp only [part_read 32 (iblk m c 4 t), part_read 1 (iblk m c 5 t)]
  rw [conv_read (G := convAt (extRow (iblk m c 3 t) (iblk m c 1 t)) (byNat 32 (iblk m c 4 t)) (byNat 1 (iblk m c 5 t)))]
  · exact rest_apply (fun j => convAt (extRow (iblk m c 3 t) (iblk m c 1 t)) (byNat 32 (iblk m c 4 t)) (byNat 1 (iblk m c 5 t)) (j 0).val (j 1).val)
      (iblk m c 6 t) (iblk m c 7 t) (iblk m c 0 t) (iblk m c 8 t) (iblk m c 9 t) r k
  all_goals
    intro r q
    generalize extRow (iblk m c 3 t) (iblk m c 1 t) = E
    generalize byNat 32 (iblk m c 4 t) = W
    generalize byNat 1 (iblk m c 5 t) = B
    simp only [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, same_apply, tap_apply, bias_apply]
    rfl

end Cert.ConvRestSampleIdeal.Hand

end
-- ==== Proof.ConvRestSampleArray.lean ====
module

public import proofs.«01_k».proof.Proof.ConvRestSampleBlock
public import Idealize.ShloMosaic.Lib.StableHlo.ReadAt

@[expose] public section

set_option maxRecDepth 16384

noncomputable section

namespace Cert.ConvRestSampleIdeal.Hand

open Cert.ConvRestSampleIdeal Cert.ConvRestSampleIdeal.Gen Cert.Layer Idealize.ShloMosaic Idealize.ShloMosaic.TcCoe

/-- Row `n` of the thirty carried rows and then the thirty-two new ones of a sequence. -/
def seqAt (u : (⟨S8x32x1024, .f32⟩ : BufTy).Contents (Elt Ideal)) (s : (⟨S1x8x30x1024, .f32⟩ : BufTy).Contents (Elt Ideal)) (p : Fin 8) (q : Fin 1024) (n : ℕ) : EReal :=
  if n < 30 then s (ix4 0 p (Fin.ofNat 30 n) q) else u (ix3 p (Fin.ofNat 32 (n - 30)) q)

/-- The biased causal convolution of a sequence at row `r`, feature `q`. -/
def convOf (u : (⟨S8x32x1024, .f32⟩ : BufTy).Contents (Elt Ideal)) (s : (⟨S1x8x30x1024, .f32⟩ : BufTy).Contents (Elt Ideal)) (w : (⟨S1x31x1024, .f32⟩ : BufTy).Contents (Elt Ideal))
    (b : (⟨S1x1024, .f32⟩ : BufTy).Contents (Elt Ideal)) (p : Fin 8) (r : Fin 32) (q : Fin 1024) : EReal :=
  tapsOver (b (ix2 0 q)) (fun n => seqAt u s p q (n + r.val) * w (ix3 0 (Fin.ofNat 31 n) q)) 31

/-- The residual of every token of the samples, as one function of the arguments. -/
def G (x u : (⟨S8x32x1024, .f32⟩ : BufTy).Contents (Elt Ideal)) (s : (⟨S1x8x30x1024, .f32⟩ : BufTy).Contents (Elt Ideal)) (w : (⟨S1x31x1024, .f32⟩ : BufTy).Contents (Elt Ideal))
    (b g h : (⟨S1x1024, .f32⟩ : BufTy).Contents (Elt Ideal)) (w2 : (⟨S1x1024x1024, .f32⟩ : BufTy).Contents (Elt Ideal)) (b2 : (⟨S1x1024, .f32⟩ : BufTy).Contents (Elt Ideal)) :
    (⟨S8x32x1024, .f32⟩ : BufTy).Contents (Elt Ideal) := fun i =>
  convRest (fun k => x (ix3 (i 0) (i 1) k)) (fun k => convOf u s w b (i 0) (i 1) k) (fun k => g (ix2 0 k)) (fun k => h (ix2 0 k))
    (fun k j => w2 (ix3 0 k j)) (fun k => b2 (ix2 0 k)) (i 2)

variable (m : (ℓ : Loc nD τ sig) → Buf (Elt Ideal) ℓ)

/-- Where each window's block stands at a grid point: the sequences' blocks move with it, the rest stays. -/
theorem idx : ∀ t : Fin cfg0.N, win0_0.index t = ![t.val, 0, 0] ∧ win0_1.index t = ![t.val, 0, 0] ∧ win0_3.index t = ![t.val, 0, 0]
    ∧ win0_4.index t = ![0, 0] ∧ win0_5.index t = ![0, 0] ∧ win0_6.index t = ![0, 0] ∧ win0_7.index t = ![0, 0] ∧ win0_8.index t = ![0, 0, 0]
    ∧ win0_9.index t = ![0, 0] ∧ win0_10.index t = ![t.val, 0, 0] := by
  have h : ∀ t : Fin grid0.N, win0_0.index t = ![t.val, 0, 0] ∧ win0_1.index t = ![t.val, 0, 0] ∧ win0_3.index t = ![t.val, 0, 0]
    ∧ win0_4.index t = ![0, 0] ∧ win0_5.index t = ![0, 0] ∧ win0_6.index t = ![0, 0] ∧ win0_7.index t = ![0, 0] ∧ win0_8.index t = ![0, 0, 0]
    ∧ win0_9.index t = ![0, 0] ∧ win0_10.index t = ![t.val, 0, 0] := by decide +kernel
  exact h

/-- The carried rows as the kernel is given them, from the third on: two rows stand in front of them. -/
theorem carried (c : Dev nD) (p : Fin 8) (r : Fin 32) (k : Fin 1024) (h : 2 ≤ r.val) :
    (V m c main_v1 : S8x32x1024.Idx → EReal) (ix3 p r k) = (m ((c : Thread nD τ).loc main_arg2) : S1x8x30x1024.Idx → EReal) (ix4 0 p ⟨r.val - 2, by omega⟩ k) := by
  unfold V
  simp only [hostOps0, hostOps0_1, hostOps0_2, hostOps0_3, hostOps0_4, List.flatten_cons, List.flatten_nil, List.append_nil, List.cons_append, List.nil_append]
  after_reads_at
  exact dif_pos ⟨h, by omega⟩

/-- The taps' weights as the kernel is given them: one row stands behind them. -/
theorem taps (c : Dev nD) (n : Fin 32) (k : Fin 1024) (h : n.val < 31) :
    (V m c main_v8 : S32x1024.Idx → EReal) (ix2 n k) = (m ((c : Thread nD τ).loc main_arg3) : S1x31x1024.Idx → EReal) (ix3 0 ⟨n.val, h⟩ k) := by
  unfold V
  simp only [hostOps0, hostOps0_1, hostOps0_2, hostOps0_3, hostOps0_4, List.flatten_cons, List.flatten_nil, List.append_nil, List.cons_append, List.nil_append]
  after_reads_at
  exact dif_pos h

/-- The convolution's bias as the kernel is given it. -/
theorem bias (c : Dev nD) (k : Fin 1024) :
    (V m c main_v9 : S1x1024.Idx → EReal) (ix2 0 k) = (m ((c : Thread nD τ).loc main_arg4) : S1x1024.Idx → EReal) (ix2 0 k) := by
  unfold V
  simp only [hostOps0, hostOps0_1, hostOps0_2, hostOps0_3, hostOps0_4, List.flatten_cons, List.flatten_nil, List.append_nil, List.cons_append, List.nil_append]
  after_reads_at
  try rfl

/-- The normalisation's scale as the kernel is given it. -/
theorem scale (c : Dev nD) (k : Fin 1024) :
    (V m c main_v10 : S1x1024.Idx → EReal) (ix2 0 k) = (m ((c : Thread nD τ).loc main_arg5) : S1x1024.Idx → EReal) (ix2 0 k) := by
  unfold V
  simp only [hostOps0, hostOps0_1, hostOps0_2, hostOps0_3, hostOps0_4, List.flatten_cons, List.flatten_nil, List.append_nil, List.cons_append, List.nil_append]
  after_reads_at
  try rfl

/-- The normalisation's offset as the kernel is given it. -/
theorem offset (c : Dev nD) (k : Fin 1024) :
    (V m c main_v11 : S1x1024.Idx → EReal) (ix2 0 k) = (m ((c : Thread nD τ).loc main_arg6) : S1x1024.Idx → EReal) (ix2 0 k) := by
  unfold V
  simp only [hostOps0, hostOps0_1, hostOps0_2, hostOps0_3, hostOps0_4, List.flatten_cons, List.flatten_nil, List.append_nil, List.cons_append, List.nil_append]
  after_reads_at
  try rfl

/-- The second product's bias as the kernel is given it. -/
theorem bias2 (c : Dev nD) (k : Fin 1024) :
    (V m c main_v12 : S1x1024.Idx → EReal) (ix2 0 k) = (m ((c : Thread nD τ).loc main_arg8) : S1x1024.Idx → EReal) (ix2 0 k) := by
  unfold V
  simp only [hostOps0, hostOps0_1, hostOps0_2, hostOps0_3, hostOps0_4, List.flatten_cons, List.flatten_nil, List.append_nil, List.cons_append, List.nil_append]
  after_reads_at
  try rfl

/-- The second product's weights as the kernel is given them. -/
theorem weights (c : Dev nD) (k j : Fin 1024) :
    (V m c main_v6 : S1x1024x1024.Idx → EReal) (ix3 0 k j) = (m ((c : Thread nD τ).loc main_arg7) : S1x1024x1024.Idx → EReal) (ix3 0 k j) := by
  unfold V
  simp only [hostOps0, hostOps0_1, hostOps0_2, hostOps0_3, hostOps0_4, List.flatten_cons, List.flatten_nil, List.append_nil, List.cons_append, List.nil_append]
  after_reads_at
  try rfl

/-- The rows' blocks are the arguments' sequences. -/
theorem blk0 (c : Dev nD) (t : Fin cfg0.N) (r : Fin 32) (k : Fin 1024) (h : t.val < 8) :
    iblk m c 0 t (ix3 0 r k) = (m ((c : Thread nD τ).loc main_arg0) : S8x32x1024.Idx → EReal) (ix3 ⟨t.val, h⟩ r k) := by
  refine Eq.trans ?_ (congrFun (V_main_arg0 m c) (ix3 ⟨t.val, h⟩ r k))
  blk_ext [iblk, idx t]

theorem blk1 (c : Dev nD) (t : Fin cfg0.N) (r : Fin 32) (k : Fin 1024) (h : t.val < 8) :
    iblk m c 1 t (ix3 0 r k) = (m ((c : Thread nD τ).loc main_arg1) : S8x32x1024.Idx → EReal) (ix3 ⟨t.val, h⟩ r k) := by
  refine Eq.trans ?_ (congrFun (V_main_arg1 m c) (ix3 ⟨t.val, h⟩ r k))
  blk_ext [iblk, idx t]

/-- The block of the carried rows. -/
theorem blk3 (c : Dev nD) (t : Fin cfg0.N) (r : Fin 32) (k : Fin 1024) (h : t.val < 8) (hr : 2 ≤ r.val) :
    iblk m c 3 t (ix3 0 r k) = (m ((c : Thread nD τ).loc main_arg2) : S1x8x30x1024.Idx → EReal) (ix4 0 ⟨t.val, h⟩ ⟨r.val - 2, by omega⟩ k) := by
  refine Eq.trans ?_ (carried m c ⟨t.val, h⟩ r k hr)
  blk_ext [iblk, idx t]

/-- The block of the taps' weights. -/
theorem blk4 (c : Dev nD) (t : Fin cfg0.N) (n : Fin 32) (k : Fin 1024) (h : n.val < 31) :
    iblk m c 4 t (ix2 n k) = (m ((c : Thread nD τ).loc main_arg3) : S1x31x1024.Idx → EReal) (ix3 0 ⟨n.val, h⟩ k) := by
  refine Eq.trans ?_ (taps m c n k h)
  blk_ext [iblk, idx t]

/-- The block of the convolution's bias. -/
theorem blk5 (c : Dev nD) (t : Fin cfg0.N) (k : Fin 1024) :
    iblk m c 5 t (ix2 0 k) = (m ((c : Thread nD τ).loc main_arg4) : S1x1024.Idx → EReal) (ix2 0 k) := by
  refine Eq.trans ?_ (bias m c k)
  blk_ext [iblk, idx t]

/-- The block of the normalisation's scale. -/
theorem blk6 (c : Dev nD) (t : Fin cfg0.N) (k : Fin 1024) :
    iblk m c 6 t (ix2 0 k) = (m ((c : Thread nD τ).loc main_arg5) : S1x1024.Idx → EReal) (ix2 0 k) := by
  refine Eq.trans ?_ (scale m c k)
  blk_ext [iblk, idx t]

/-- The block of the normalisation's offset. -/
theorem blk7 (c : Dev nD) (t : Fin cfg0.N) (k : Fin 1024) :
    iblk m c 7 t (ix2 0 k) = (m ((c : Thread nD τ).loc main_arg6) : S1x1024.Idx → EReal) (ix2 0 k) := by
  refine Eq.trans ?_ (offset m c k)
  blk_ext [iblk, idx t]

/-- The block of the second product's weights. -/
theorem blk8 (c : Dev nD) (t : Fin cfg0.N) (k j : Fin 1024) :
    iblk m c 8 t (ix3 0 k j) = (m ((c : Thread nD τ).loc main_arg7) : S1x1024x1024.Idx → EReal) (ix3 0 k j) := by
  refine Eq.trans ?_ (weights m c k j)
  blk_ext [iblk, idx t]

/-- The block of the second product's bias. -/
theorem blk9 (c : Dev nD) (t : Fin cfg0.N) (k : Fin 1024) :
    iblk m c 9 t (ix2 0 k) = (m ((c : Thread nD τ).loc main_arg8) : S1x1024.Idx → EReal) (ix2 0 k) := by
  refine Eq.trans ?_ (bias2 m c k)
  blk_ext [iblk, idx t]

/-- The block's convolution is the sequence's. -/
theorem conv_blk (c : Dev nD) (t : Fin cfg0.N) (r : Fin 32) (k : Fin 1024) (h : t.val < 8) :
    convAt (extRow (iblk m c 3 t) (iblk m c 1 t)) (byNat 32 (iblk m c 4 t)) (byNat 1 (iblk m c 5 t)) r.val k.val
      = convOf (m ((c : Thread nD τ).loc main_arg1)) (m ((c : Thread nD τ).loc main_arg2)) (m ((c : Thread nD τ).loc main_arg3)) (m ((c : Thread nD τ).loc main_arg4)) ⟨t.val, h⟩ r k := by
  have ek : Fin.ofNat 1024 k.val = k := Fin.ext (Nat.mod_eq_of_lt k.isLt)
  have eb : byNat 1 (iblk m c 5 t) 0 k.val = (m ((c : Thread nD τ).loc main_arg4) : S1x1024.Idx → EReal) (ix2 0 k) := by
    unfold byNat
    rw [ek]
    exact blk5 m c t k
  unfold convAt convOf
  rw [eb]
  refine tapsOver_congr _ 31 fun n hn => congrArg₂ (· * ·) ?_ ?_
  · unfold extRow seqAt
    rw [ek]
    by_cases hr : n + r.val < 30
    · rw [if_pos hr, if_pos (by omega : 2 + n + r.val < 32), blk3 m c t _ k h (by simp only [Fin.val_ofNat]; omega)]
      exact congrArg (fun e => (m ((c : Thread nD τ).loc main_arg2) : S1x8x30x1024.Idx → EReal) (ix4 0 ⟨t.val, h⟩ e k)) (Fin.ext (by simp only [Fin.val_ofNat]; omega))
    · rw [if_neg hr, if_neg (by omega : ¬ 2 + n + r.val < 32), blk1 m c t _ k h]
      exact congrArg (fun e => (m ((c : Thread nD τ).loc main_arg1) : S8x32x1024.Idx → EReal) (ix3 ⟨t.val, h⟩ e k)) (Fin.ext (by simp only [Fin.val_ofNat]; omega))
  · unfold byNat
    rw [ek, blk4 m c t _ k (by simp only [Fin.val_ofNat]; omega)]
    exact congrArg (fun e => (m ((c : Thread nD τ).loc main_arg3) : S1x31x1024.Idx → EReal) (ix3 0 e k)) (Fin.ext (by simp only [Fin.val_ofNat]; omega))

/-- The call's result array after the run. -/
theorem final (c : Dev nD) : (dats m 0 c).arrAt 10 cfg0.N = G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) := by
  refine (dats m 0 c).arrAt_eq_of_covers 10 _ (by decide +kernel) fun t hf y => ?_
  blk_simp
  rw [after0_10]
  have ht : t.val < 8 := by have := t.isLt; have : cfg0.grid.N = 8 := rfl; omega
  idx_vars y
  obtain rfl : y0 = 0 := Fin.eq_zero y0
  rw [out_apply]
  have e0 : ((View.whole main_v13).slice (win0_10.rect t)).emb (ix3 0 y1 y2) 0 = ⟨t.val, ht⟩ := Fin.ext (by blk_simp [idx t]; rfl)
  have e1 : ((View.whole main_v13).slice (win0_10.rect t)).emb (ix3 0 y1 y2) 1 = y1 := Fin.ext (by blk_simp [idx t])
  have e2 : ((View.whole main_v13).slice (win0_10.rect t)).emb (ix3 0 y1 y2) 2 = y2 := Fin.ext (by blk_simp [idx t])
  have b0 : ∀ k, iblk m c 0 t (ix3 0 y1 k) = _ := fun k => blk0 m c t y1 k ht
  have bc : ∀ k : Fin 1024, convAt _ _ _ y1.val k.val = _ := fun k => conv_blk m c t y1 k ht
  simp only [G, e0, e1, e2, b0, bc, blk6, blk7, blk8, blk9]
  try rfl

end Cert.ConvRestSampleIdeal.Hand

end
-- ==== Proof.ConvRestSampleRef.lean ====
module

public import proofs.«01_k».proof.Proof.Gen.ConvRestSampleRefIdeal.Read
public import proofs.«01_k».proof.Proof.ConvRestSampleArray

@[expose] public section

set_option maxRecDepth 16384

noncomputable section

namespace Cert.ConvRestSampleRefIdeal.Hand

open Cert.ConvRestSampleRefIdeal Cert.ConvRestSampleRefIdeal.Gen Cert.ConvRestSampleRefIdeal.Read Cert.Layer Idealize.ShloMosaic
open Cert.ConvRestSampleIdeal.Hand (seqAt convOf G)

variable (x u : (⟨S8x32x1024, .f32⟩ : BufTy).Contents (Elt Ideal)) (s : (⟨S1x8x30x1024, .f32⟩ : BufTy).Contents (Elt Ideal))
  (w : (⟨S1x31x1024, .f32⟩ : BufTy).Contents (Elt Ideal)) (b g h : (⟨S1x1024, .f32⟩ : BufTy).Contents (Elt Ideal))
  (w2 : (⟨S1x1024x1024, .f32⟩ : BufTy).Contents (Elt Ideal)) (b2 : (⟨S1x1024, .f32⟩ : BufTy).Contents (Elt Ideal))

/-- The extended sequence's row. -/
theorem seq_apply (p : Fin 8) (n : Fin 62) (c : Fin 1024) : val_main_v1 u s (ix3 p n c) = seqAt u s p c n.val := by
  pointwise [val_main_v1, val_main_v0]
  unfold seqAt
  by_cases hn : n.val < 30
  · rw [if_pos hn]
    simp (disch := omega) only [dif_pos, dif_neg]
    exact congrArg (fun e => s (ix4 0 p e c)) (Fin.ext (by simp only [Fin.val_ofNat]; omega))
  · rw [if_neg hn]
    simp (disch := omega) only [dif_pos, dif_neg]
    exact congrArg (fun e => u (ix3 p e c)) (Fin.ext (by simp only [Fin.val_ofNat]; omega))

/-- Tap `n`: the rows moved by `n` times the tap's weights. -/
def term (n : ℕ) (hn : n ≤ 30) : FVec Ideal S8x32x1024 .f32 :=
  mulf (extractStridedSlice S8x32x1024 ![0, n, 0] (val_main_v1 u s) ⟨rfl, fun a => by fin_cases a <;> simp [S8x32x1024, S8x62x1024] <;> omega⟩)
    (broadcastInDim S8x32x1024 ![0, 1, 2] bcast_S1x1x1024_S8x32x1024_0_1_2 (broadcastInDim S1x1x1024 ![2] bcast_S1024_S1x1x1024_2
      (shapeCast S1024 (extractStridedSlice S1x1x1024 ![0, n, 0] w ⟨rfl, fun a => by fin_cases a <;> simp [S1x1x1024, S1x31x1024] <;> omega⟩) shapeCasts_S1x1x1024_S1024)))

theorem term_apply (n : ℕ) (hn : n ≤ 30) (p : Fin 8) (r : Fin 32) (c : Fin 1024) :
    term u s w n hn (ix3 p r c) = seqAt u s p c (n + r.val) * w (ix3 0 (Fin.ofNat 31 n) c) := by
  pointwise [term]
  exact congrArg₂ (· * ·) (seq_apply u s p ⟨n + r.val, by omega⟩ c) (congrArg (fun e => w (ix3 0 e c)) (Fin.ext (by simp only [Fin.val_ofNat]; omega)))

/-- The first `n` taps one after another, as the reference adds them. -/
def sum : ℕ → FVec Ideal S8x32x1024 .f32
  | 0 => val_main_v8 (F := Ideal)
  | n + 1 => if hn : n ≤ 30 then addf (sum n) (term u s w n hn) else sum n

theorem sum_apply (p : Fin 8) (r : Fin 32) (c : Fin 1024) (n : ℕ) (hn : n ≤ 31) :
    sum u s w n (ix3 p r c) = tapsOver 0 (fun n => seqAt u s p c (n + r.val) * w (ix3 0 (Fin.ofNat 31 n) c)) n := by
  induction n with
  | zero =>
    pointwise [sum, val_main_v8, val_main_cst]
    rfl
  | succ n ih =>
    have e : sum u s w (n + 1) = addf (sum u s w n) (term u s w n (by omega)) := dif_pos (by omega)
    rw [e, tapsOver, ← ih (by omega), ← term_apply u s w n (by omega)]
    rfl

/-- The reference's convolution is the sequence's. -/
theorem conv_apply (p : Fin 8) (r : Fin 32) (c : Fin 1024) : val_main_v223 u s w b (ix3 p r c) = convOf u s w b p r c := by
  have e : val_main_v219 u s w = sum u s w 31 := rfl
  rw [val_main_v223, e]
  pointwise [val_main_v222, val_main_v221, val_main_v220, sum_apply]
  exact (tapsOver_bias _ _ _).symm

/-- The normalised row, from the convolution's rows. -/
theorem norm_apply (p : Fin 8) (r : Fin 32) (c : Fin 1024) :
    val_main_v249 u s w b g h (ix3 p r c) = layerNorm (fun k => val_main_v223 u s w b (ix3 p r k)) (fun k => g (ix2 0 k)) (fun k => h (ix2 0 k)) c := by
  pointwise [val_main_v249, val_main_v248, val_main_v247, val_main_v246, val_main_v245, val_main_v244, val_main_v243, val_main_v242, val_main_v241,
    val_main_v240, val_main_v239, val_main_v238, val_main_v237, val_main_v236, val_main_v235, val_main_v234, val_main_v233, val_main_v232,
    val_main_v231, val_main_v230, val_main_v229, val_main_v228, val_main_v227, val_main_v226, val_main_v225, val_main_v224, val_main_cst_0,
    val_main_cst_1, val_main_cst_2, val_main_cst_3, val_main_cst_4]
  rfl

/-- The reference's result, from the convolution's rows. -/
theorem out_apply (p : Fin 8) (r : Fin 32) (c : Fin 1024) :
    val_main_v257 x u s w b g h w2 b2 (ix3 p r c) = convRest (fun k => x (ix3 p r k)) (fun k => val_main_v223 u s w b (ix3 p r k)) (fun k => g (ix2 0 k)) (fun k => h (ix2 0 k))
      (fun k j => w2 (ix3 0 k j)) (fun k => b2 (ix2 0 k)) c := by
  pointwise [val_main_v257, val_main_v256, val_main_v255, val_main_v254, val_main_v253, val_main_v252, val_main_v251, val_main_v250, val_main_call0_v5,
    val_main_call0_v4, val_main_call0_v3, val_main_call0_v2, val_main_call0_v1, val_main_call0_v0, val_main_call0_cst, val_main_call0_cst_0, norm_apply]
  rfl

/-- The kernel's function of the arguments is the reference's result. -/
theorem eq_G : G x u s w b g h w2 b2 = val_main_v257 x u s w b g h w2 b2 := by
  funext i
  idx_vars i
  rw [out_apply]
  simp only [conv_apply]
  rfl

end Cert.ConvRestSampleRefIdeal.Hand

end
-- ==== Proof.ConvRestSampleClaim.lean ====
module

public import proofs.«01_k».proof.Proof.ConvRestSampleRef
public import proofs.«01_k».proof.Defs

@[expose] public section

noncomputable section

namespace Cert.ConvRestSampleIdeal.Hand

open Cert.ConvRestSampleIdeal Idealize.ShloMosaic Idealize.SL.Sem

/-- The rest of the convolution on the samples and its reference, at exact arithmetic, end with equal results. -/
theorem algebraic : letI := Cert.ConvRestSampleIdeal.Gen.facts; letI := Cert.ConvRestSampleRefIdeal.Gen.facts; Cert.algebraic_ConvRestSampleIdeal_ConvRestSampleRefIdeal := by
  pair_intro
  · run_from Cert.ConvRestSampleIdeal.Gen.run_main m g
    · exact Cert.ConvRestSampleIdeal.Gen.V_main_arg2 m c
    · exact Cert.ConvRestSampleIdeal.Gen.V_main_arg3 m c
    · exact Cert.ConvRestSampleIdeal.Gen.V_main_arg4 m c
    · exact Cert.ConvRestSampleIdeal.Gen.V_main_arg5 m c
    · exact Cert.ConvRestSampleIdeal.Gen.V_main_arg6 m c
    · exact Cert.ConvRestSampleIdeal.Gen.V_main_arg7 m c
    · exact Cert.ConvRestSampleIdeal.Gen.V_main_arg8 m c
  · run_from Cert.ConvRestSampleRefIdeal.Value.run m' g'
    obtain ⟨h0, h1, h2, h3, h4, h5, h6, h7, h8⟩ := hagree c
    erw [final m c]
    rw [Cert.ConvRestSampleRefIdeal.Hand.eq_G, ← h0, ← h1, ← h2, ← h3, ← h4, ← h5, ← h6, ← h7, ← h8]
    exact Cert.ConvRestSampleRefIdeal.Read.val_main_v257_eq (StableHlo.launchContents m' c)

end Cert.ConvRestSampleIdeal.Hand

end
-- ==== Proof.SparseSafe.lean ====
/- Safety of a kernel's body by its pieces: a program is safe when it runs keeping a fixed resource, and a program
   made of safe pieces is safe. A certificate that says nothing of what the kernel's buffers hold in between (that
   every execution ends, and leaves the arguments as they were) needs no more than this. -/
module

public import Idealize.ShloMosaic.Lib.Exec
public import Idealize.ShloMosaic.Lib.Memref
public import Idealize.ShloMosaic.Lib.Scf
public import Idealize.ShloMosaic.Rules.Step
public import Idealize.ShloMosaic.Lib.Pipeline.FrameBody
public import Idealize.ShloMosaic.Lib.Tactic

@[expose] public section

noncomputable section

namespace Cert.Sparse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

/-- The program keeps `I`: run from `I` it makes no step the model refuses, it ends, and it gives `I` back. -/
def Safe (c : Thread nD τ) (defs : Defs nD τ sig Val Λ) (𝒱 : Variants) (bd : Option 𝒱.V) (E : Set ℕ) (I : sProp 𝕄)
    {α : Type} (p : Prog (TpuEff nD τ sig Val Λ c.2) α) : Prop :=
  BIBase.Entails I (wp frame (wpE defs 𝒱 c bd) E p (fun _ => I))

/-- `I` lends the buffer of `m` at some contents, and takes it back at any contents. -/
def Lends (c : Thread nD τ) (I : sProp 𝕄) {sp : Space} {sh : Shape} {e : EltTy} (m : Memref sig c.2.kind sp sh e) : Prop :=
  BIBase.Entails I iprop((∃ f, m.view.loc c ↦[m.view.set]{fullShare} f)
    ∗ ((∃ f, m.view.loc c ↦[m.view.set]{fullShare} f) -∗ I))

theorem safe_pure {c : Thread nD τ} {defs : Defs nD τ sig Val Λ} {𝒱 : Variants} {bd : Option 𝒱.V} {E : Set ℕ} {I : sProp 𝕄}
    {α : Type} (x : α) : Safe c defs 𝒱 bd E I (pure x) := by
  unfold Safe
  rw [show (pure x : Prog (TpuEff nD τ sig Val Λ c.2) α) = .ret x from rfl, wp_ret]
  exact fupd_intro

theorem safe_bind {c : Thread nD τ} {defs : Defs nD τ sig Val Λ} {𝒱 : Variants} {bd : Option 𝒱.V} {E : Set ℕ} {I : sProp 𝕄}
    {α β : Type} {p : Prog (TpuEff nD τ sig Val Λ c.2) α} {k : α → Prog (TpuEff nD τ sig Val Λ c.2) β}
    (hp : Safe c defs 𝒱 bd E I p) (hk : ∀ x, Safe c defs 𝒱 bd E I (k x)) : Safe c defs 𝒱 bd E I (p >>= k) := by
  unfold Safe at *
  rw [wp_bind]
  exact hp.trans (wp_mono _ _ _ hk)

theorem safe_ite {c : Thread nD τ} {defs : Defs nD τ sig Val Λ} {𝒱 : Variants} {bd : Option 𝒱.V} {E : Set ℕ} {I : sProp 𝕄}
    {α : Type} {P : Prop} [Decidable P] {p q : Prog (TpuEff nD τ sig Val Λ c.2) α}
    (hp : P → Safe c defs 𝒱 bd E I p) (hq : ¬ P → Safe c defs 𝒱 bd E I q) : Safe c defs 𝒱 bd E I (if P then p else q) := by
  by_cases h : P
  · rw [if_pos h]; exact hp h
  · rw [if_neg h]; exact hq h

theorem safe_for {c : Thread nD τ} {defs : Defs nD τ sig Val Λ} {𝒱 : Variants} {bd : Option 𝒱.V} {E : Set ℕ} {I : sProp 𝕄}
    {w : Nat} {σ : Type} {lb ub st : BitVec w} {hok : Scf.OK lb ub st} {init : σ}
    {body : Fin (Scf.trips lb ub st) → σ → Prog (TpuEff nD τ sig Val Λ c.2) σ}
    (h : ∀ k acc, Safe c defs 𝒱 bd E I (body k acc)) : Safe c defs 𝒱 bd E I (Scf.for lb ub st hok init body) := by
  refine BIBase.Entails.trans ?_ (Scf.wp_for frame (wpE defs 𝒱 c bd) E lb ub st hok init body (fun _ _ => I) h)
  iintro H
  isplitl [H]
  · iexact H
  · iintro %a H; iexact H

theorem safe_load {c : Thread nD τ} {defs : Defs nD τ sig Val Λ} {𝒱 : Variants} {bd : Option 𝒱.V} {E : Set ℕ} {I : sProp 𝕄}
    {cs : CoreSpace} {s : Shape} {e : EltTy} {m : Memref sig c.2.kind cs s e} {r : LoadRect s}
    {hl : m.view.LoadsAt r} (h : Lends c I m) : Safe c defs 𝒱 bd E I (Prog.lift (.load m r hl)) := by
  unfold Safe
  refine BIBase.Entails.trans h ?_
  iintro ⟨⟨%f, H⟩, HI⟩
  iapply (wp_load 𝒱 c bd E (hl := hl) (m.view.setOn_subset_set _)) $$ H
  iintro H
  rw [wp_ret]
  iapply fupd_intro
  iapply HI
  iexists f; iexact H

theorem safe_store {c : Thread nD τ} {defs : Defs nD τ sig Val Λ} {𝒱 : Variants} {bd : Option 𝒱.V} {E : Set ℕ} {I : sProp 𝕄}
    {cs : CoreSpace} {s : Shape} {e : EltTy} {m : Memref sig c.2.kind cs s e} {r : Rect s}
    {w : r.shape.Idx → Val e} {Mk : Finset r.shape.Idx} {hx : (m.access r).Stores Mk}
    {hm : Mk = Finset.univ ∨ ∀ a, r.stride a = 1} (h : Lends c I m) :
    Safe c defs 𝒱 bd E I (Prog.lift (.store m r w Mk hx hm)) := by
  unfold Safe
  refine BIBase.Entails.trans h ?_
  iintro ⟨⟨%f, H⟩, HI⟩
  iapply (wp_store 𝒱 c bd E (hx := hx) (hm := hm)
    (((m.access r).setOn_subset_set _).trans (m.view.set_slice_subset r))) $$ H
  iintro H
  rw [wp_ret]
  iapply fupd_intro
  iapply HI
  iexists _; iexact H

/-- A call is safe when the callee's body is, entered at a variant below the caller's. -/
theorem safe_call {c : Thread nD τ} {defs : Defs nD τ sig Val Λ} {𝒱 : Variants} {bd : Option 𝒱.V} {E : Set ℕ} {I : sProp 𝕄}
    {ℓ : Λ.Label} {a : Λ.Args ℓ} (v : 𝒱.V) (hv : ∀ u ∈ bd, 𝒱.lt v u)
    (h : Safe c defs 𝒱 (some v) E I (defs c.2 ℓ a)) : Safe c defs 𝒱 bd E I (Prog.lift (.call ℓ a)) := by
  unfold Safe at *
  refine BIBase.Entails.trans ?_ (wp_call_spec 𝒱 c bd E (Γ := .empty) (wp frame (wpE defs 𝒱 c (some v)) E (defs c.2 ℓ a)) v hv (le_refl _))
  refine h.trans (wp_mono _ _ _ fun _ => ?_)
  rw [wp_ret]
  exact fupd_intro

/-! ## What a resource lends -/

theorem lends_whole {c : Thread nD τ} {sp : Space} {sh : Shape} {e : EltTy} {m : Memref sig c.2.kind sp sh e} :
    Lends c (iprop(∃ f, m.view.loc c ↦[m.view.set]{fullShare} f) : sProp 𝕄) m := by
  unfold Lends
  iintro H
  isplitl [H]
  · iexact H
  · iintro H; iexact H

theorem Lends.left {c : Thread nD τ} {A B : sProp 𝕄} {sp : Space} {sh : Shape} {e : EltTy} {m : Memref sig c.2.kind sp sh e}
    (h : Lends c A m) : Lends c iprop(A ∗ B) m := by
  unfold Lends at *
  iintro ⟨HA, HB⟩
  ihave H := h $$ HA
  icases H with ⟨H, HI⟩
  isplitl [H]
  · iexact H
  · iintro H
    isplitl [H HI]
    · iapply HI; iexact H
    · iexact HB

theorem Lends.right {c : Thread nD τ} {A B : sProp 𝕄} {sp : Space} {sh : Shape} {e : EltTy} {m : Memref sig c.2.kind sp sh e}
    (h : Lends c B m) : Lends c iprop(A ∗ B) m := by
  unfold Lends at *
  iintro ⟨HA, HB⟩
  ihave H := h $$ HB
  icases H with ⟨H, HI⟩
  isplitl [H]
  · iexact H
  · iintro H
    isplitl [HA]
    · iexact HA
    · iapply HI; iexact H

theorem Lends.of_entails {c : Thread nD τ} {A B : sProp 𝕄} {sp : Space} {sh : Shape} {e : EltTy} {m : Memref sig c.2.kind sp sh e}
    (hab : A ⊢ B) (hba : B ⊢ A) (h : Lends c B m) : Lends c A m := by
  unfold Lends at *
  refine hab.trans (h.trans ?_)
  iintro ⟨H, HI⟩
  isplitl [H]
  · iexact H
  · iintro H
    iapply hba
    iapply HI; iexact H

/-- A family lends what one of its members does. -/
theorem Lends.of_mem {c : Thread nD τ} {J : Type} [DecidableEq J] {S : Finset J} {Φ : J → sProp 𝕄} {sp : Space} {sh : Shape} {e : EltTy}
    {m : Memref sig c.2.kind sp sh e} (j : J) (hj : j ∈ S) (h : Lends c (Φ j) m) : Lends c (bigSep S Φ) m := by
  rw [bigSep_erase hj]
  exact Lends.left h

/-- A buffer owned at contents the resource does not name is lent. -/
theorem lends_owns {c : Thread nD τ} {sp : Space} {sh : Shape} {e : EltTy} {m : Memref sig c.2.kind sp sh e} :
    Lends c (iprop(∃ X, owns c m fullShare X) : sProp 𝕄) m := by
  refine Lends.of_entails ?_ ?_ lends_whole
  · iintro ⟨%X, H⟩
    unfold owns
    icases H with ⟨%f, -, H⟩
    iexists f; iexact H
  · iintro ⟨%f, H⟩
    iexists m.view.read Val f
    unfold owns
    iexists f
    isplitr
    · exact BI.pure_intro rfl
    · iexact H

end Cert.Sparse

end
-- ==== Proof.SparseSearch.lean ====
/- The kernel's search loop is safe: it tests a counter below a bound, runs loops that only load, and calls itself with
   the counter advanced, so it ends. -/
module

public import proofs.«01_k».proof.Proof.Gen.SparseAttn.Skeleton
public import proofs.«01_k».proof.Proof.Gen.SparseAttn.Loops
public import proofs.«01_k».proof.Proof.Gen.SparseAttn.Points
public import proofs.«01_k».proof.Proof.SparseSafe

@[expose] public section

set_option maxRecDepth 16384

noncomputable section

namespace Cert.Sparse

open Cert.SparseAttn Cert.SparseAttn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- How far the search's counter is from its bound. -/
def room (n : BitVec 32) : Nat := (17 - n.toInt).toNat

/-- A counter below the bound, moved on by the search's step, has less room. -/
theorem room_lt {n : BitVec 32} {b : BitVec 1} (h : Scalar.andi (Scalar.cmpi .slt n 17#32) b = 1#1) :
    room (Scalar.addi n 4#32) < room n := by
  have hlt : n.slt 17#32 = true := by
    unfold Scalar.andi Scalar.cmpi at h
    revert h
    cases hb : n.slt 17#32
    · simp [hb, IntOp.andi, IntOp.cmpi]
    · simp
  rw [BitVec.slt_iff_toInt_lt] at hlt
  have e : (Scalar.addi n 4#32).toInt = n.toInt + 4 := by
    show (n + 4#32).toInt = _
    rw [BitVec.toInt_add]
    have := n.le_toInt
    have h17 : (17#32).toInt = 17 := by decide
    have h4 : (4#32).toInt = 4 := by decide
    rw [h4]
    rw [h17] at hlt
    exact Int.bmod_eq_of_le (by omega) (by omega)
  unfold room
  rw [e]
  have h17 : (17#32).toInt = 17 := by decide
  omega

set_option maxHeartbeats 4000000 in
/-- The search loop, entered with less room than `n`, is safe: it only reads its array. -/
theorem safe_while {c : Dev nD} {I : sProp 𝕄} (i : grid0.Coords) (v152 v287) (arg10 : Memref sig .tc .vmem S37x128x128 .f32) (harg10)
    (h10 : Lends (c : Thread nD τ) I arg10) (n : Nat) : ∀ (arg34 : BitVec 32) (arg35 arg36 arg37), room arg34 < n →
    Safe (c : Thread nD τ) defs₀ Variants.nat (some n) Set.univ I (cc0_while1 (F := F) i v152 v287 arg10 harg10 arg34 arg35 arg36 arg37) := by
  induction n with
  | zero =>
    intro arg34 arg35 arg36 arg37 hn
    exact absurd hn (Nat.not_lt_zero _)
  | succ n ih =>
    intro arg34 arg35 arg36 arg37 hn
    unfold cc0_while1
    repeat' first
      | with_reducible exact safe_pure _
      | with_reducible exact safe_load h10
      | with_reducible refine safe_for fun _ _ => ?_
      | with_reducible refine safe_bind ?_ fun _ => ?_
      | with_reducible refine safe_ite (fun _ => ?_) fun _ => ?_
      | extract_lets
      | split
      | unfold k0_part105
      | unfold k0_part106
      | unfold k0_part107
      | unfold k0_part108
      | unfold k0_part109
      | unfold k0_part110
      | unfold k0_part111
      | unfold k0_part112
      | unfold k0_part113
      | unfold k0_part114
    rename_i h _ _ _ _ _ _ _ _ _ _ _ _ _ _ _
    refine safe_call n (by intro u hu; cases hu; exact Nat.lt_succ_self n) ?_
    exact ih _ _ _ _ (lt_of_lt_of_le (room_lt h) (Nat.le_of_lt_succ hn))

end Cert.Sparse

end
-- ==== Proof.SparseBody.lean ====
/- The kernel's body is safe from any resource that lends its buffers: all it does is load, store, loop and search. -/
module

public import proofs.«01_k».proof.Proof.Gen.SparseAttn.Skeleton
public import proofs.«01_k».proof.Proof.Gen.SparseAttn.Loops
public import proofs.«01_k».proof.Proof.Gen.SparseAttn.Points
public import proofs.«01_k».proof.Proof.SparseSafe
public import proofs.«01_k».proof.Proof.SparseSearch

@[expose] public section

set_option maxRecDepth 16384

noncomputable section

namespace Cert.Sparse

open Cert.SparseAttn Cert.SparseAttn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 40000000 in
/-- The kernel's body at a grid point. -/
theorem safe_body {c : Dev nD} {I : sProp 𝕄} {i : grid0.Coords} {arg2 : Memref sig .tc .vmem S1x128x1024 .bf16} {harg2 : arg2.IsWhole} {arg3 : Memref sig .tc .vmem S1x128x512 .bf16} {harg3 : arg3.IsWhole} {arg4 : Memref sig .tc .vmem S1x128x128 .f32} {harg4 : arg4.IsWhole} {arg5 : Memref sig .tc .vmem S1x4096x512 .bf16} {harg5 : arg5.IsWhole} {arg6 : Memref sig .tc .vmem S1x32x4x64x128 .bf16} {harg6 : arg6.IsWhole} {arg7 : Memref sig .tc .vmem S1x4096x64 .bf16} {harg7 : arg7.IsWhole} {arg8 : Memref sig .tc .vmem S8x256x256 .f32} {harg8 : arg8.IsWhole} {arg9 : Memref sig .tc .vmem S1x128x1024 .bf16} {harg9 : arg9.IsWhole} {arg10 : Memref sig .tc .vmem S37x128x128 .f32} {harg10 : arg10.IsWhole} {arg11 : Memref sig .tc .vmem S20x128x128 .i32} {harg11 : arg11.IsWhole} {arg12 : Memref sig .tc .vmem S4x128x1024 .f32} {harg12 : arg12.IsWhole} {arg13 : Memref sig .tc .vmem S8x128x256 .bf16} {harg13 : arg13.IsWhole} {arg14 : Memref sig .tc .vmem S64x1024 .bf16} {harg14 : arg14.IsWhole} {arg15 : Memref sig .tc .vmem S1024x128 .f32} {harg15 : arg15.IsWhole} {arg16 : Memref sig .tc .vmem S2x8x256x256 .f32} {harg16 : arg16.IsWhole} {arg17 : Memref sig .tc .vmem S2x8x1x256 .f32} {harg17 : arg17.IsWhole} {arg18 : Memref sig .tc .vmem S1x256 .f32} {harg18 : arg18.IsWhole} {arg19 : Memref sig .tc .vmem S1x256 .f32} {harg19 : arg19.IsWhole} {arg20 : Memref sig .tc .vmem S1x256 .f32} {harg20 : arg20.IsWhole} {arg21 : Memref sig .tc .vmem S1x256 .f32} {harg21 : arg21.IsWhole} {arg22 : Memref sig .tc .vmem S1x256 .f32} {harg22 : arg22.IsWhole} {arg23 : Memref sig .tc .vmem S1x256 .f32} {harg23 : arg23.IsWhole} {arg24 : Memref sig .tc .vmem S1x256 .f32} {harg24 : arg24.IsWhole} {arg25 : Memref sig .tc .vmem S1x256 .f32} {harg25 : arg25.IsWhole} {arg26 : Memref sig .tc .vmem S80x256 .f32} {harg26 : arg26.IsWhole} {arg27 : Memref sig .tc .vmem S80x256 .f32} {harg27 : arg27.IsWhole} {arg28 : Memref sig .tc .vmem S80x256 .f32} {harg28 : arg28.IsWhole} {arg29 : Memref sig .tc .vmem S80x256 .f32} {harg29 : arg29.IsWhole} {arg30 : Memref sig .tc .vmem S80x256 .f32} {harg30 : arg30.IsWhole} {arg31 : Memref sig .tc .vmem S80x256 .f32} {harg31 : arg31.IsWhole} {arg32 : Memref sig .tc .vmem S80x256 .f32} {harg32 : arg32.IsWhole} {arg33 : Memref sig .tc .vmem S80x256 .f32} {harg33 : arg33.IsWhole}
    (h2 : Lends (c : Thread nD τ) I arg2) (h3 : Lends (c : Thread nD τ) I arg3) (h4 : Lends (c : Thread nD τ) I arg4) (h5 : Lends (c : Thread nD τ) I arg5)
    (h6 : Lends (c : Thread nD τ) I arg6) (h7 : Lends (c : Thread nD τ) I arg7) (h8 : Lends (c : Thread nD τ) I arg8) (h9 : Lends (c : Thread nD τ) I arg9)
    (h10 : Lends (c : Thread nD τ) I arg10) (h11 : Lends (c : Thread nD τ) I arg11) (h12 : Lends (c : Thread nD τ) I arg12) (h13 : Lends (c : Thread nD τ) I arg13)
    (h14 : Lends (c : Thread nD τ) I arg14) (h15 : Lends (c : Thread nD τ) I arg15) (h16 : Lends (c : Thread nD τ) I arg16) (h17 : Lends (c : Thread nD τ) I arg17)
    (h18 : Lends (c : Thread nD τ) I arg18) (h19 : Lends (c : Thread nD τ) I arg19) (h20 : Lends (c : Thread nD τ) I arg20) (h21 : Lends (c : Thread nD τ) I arg21)
    (h22 : Lends (c : Thread nD τ) I arg22) (h23 : Lends (c : Thread nD τ) I arg23) (h24 : Lends (c : Thread nD τ) I arg24) (h25 : Lends (c : Thread nD τ) I arg25)
    (h26 : Lends (c : Thread nD τ) I arg26) (h27 : Lends (c : Thread nD τ) I arg27) (h28 : Lends (c : Thread nD τ) I arg28) (h29 : Lends (c : Thread nD τ) I arg29)
    (h30 : Lends (c : Thread nD τ) I arg30) (h31 : Lends (c : Thread nD τ) I arg31) (h32 : Lends (c : Thread nD τ) I arg32) (h33 : Lends (c : Thread nD τ) I arg33) :
    Safe (c : Thread nD τ) defs₀ Variants.nat none Set.univ I
      (cc0_sparse_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) := by
  unfold cc0_sparse_attn
  repeat' first
      | with_reducible exact safe_pure _
      | with_reducible exact safe_load (by assumption)
      | with_reducible exact safe_store (by assumption)
      | with_reducible refine safe_for fun _ _ => ?_
      | with_reducible refine safe_bind ?_ fun _ => ?_
      | with_reducible refine safe_ite (fun _ => ?_) fun _ => ?_
      | (extract_lets; clear_value *)
      | split
      | unfold k0_part1 | unfold k0_part2 | unfold k0_part3 | unfold k0_part4 | unfold k0_part5 | unfold k0_part6
      | unfold k0_part7 | unfold k0_part8 | unfold k0_part9 | unfold k0_part10 | unfold k0_part11 | unfold k0_part12
      | unfold k0_part13 | unfold k0_part14 | unfold k0_part15 | unfold k0_part16 | unfold k0_part17 | unfold k0_part18
      | unfold k0_part19 | unfold k0_part20 | unfold k0_part21 | unfold k0_part22 | unfold k0_part23 | unfold k0_part24
      | unfold k0_part25 | unfold k0_part26 | unfold k0_part27 | unfold k0_part28 | unfold k0_part29 | unfold k0_part30
      | unfold k0_part31 | unfold k0_part32 | unfold k0_part33 | unfold k0_part34 | unfold k0_part35 | unfold k0_part36
      | unfold k0_part37 | unfold k0_part38 | unfold k0_part39 | unfold k0_part40 | unfold k0_part41 | unfold k0_part42
      | unfold k0_part43 | unfold k0_part44 | unfold k0_part45 | unfold k0_part46 | unfold k0_part47 | unfold k0_part48
      | unfold k0_part49 | unfold k0_part50 | unfold k0_part51 | unfold k0_part52 | unfold k0_part53 | unfold k0_part54
      | unfold k0_part55 | unfold k0_part56 | unfold k0_part57 | unfold k0_part58 | unfold k0_part59 | unfold k0_part60
      | unfold k0_part61 | unfold k0_part62 | unfold k0_part63 | unfold k0_part64 | unfold k0_part65 | unfold k0_part66
      | unfold k0_part67 | unfold k0_part68 | unfold k0_part69 | unfold k0_part70 | unfold k0_part71 | unfold k0_part72
      | unfold k0_part73 | unfold k0_part74 | unfold k0_part75 | unfold k0_part76 | unfold k0_part77 | unfold k0_part78
      | unfold k0_part79 | unfold k0_part80 | unfold k0_part81 | unfold k0_part82 | unfold k0_part83 | unfold k0_part84
      | unfold k0_part85 | unfold k0_part86 | unfold k0_part87 | unfold k0_part88 | unfold k0_part89 | unfold k0_part90
      | unfold k0_part91 | unfold k0_part92 | unfold k0_part93 | unfold k0_part94 | unfold k0_part95 | unfold k0_part96
      | unfold k0_part97 | unfold k0_part98 | unfold k0_part99 | unfold k0_part100 | unfold k0_part101 | unfold k0_part102
      | unfold k0_part103 | unfold k0_part104
  refine safe_call (room 0#32 + 1) (by intro u hu; cases hu) ?_
  exact safe_while _ _ _ _ _ h10 _ _ _ _ _ (Nat.lt_succ_self _)

end Cert.Sparse

end
-- ==== Proof.SparseRun.lean ====
/- The sparse attention runs: every execution of the program ends, faultless, with its arguments as they were and every
   counter at zero. The pipeline lends the body its staging buffers and the kernel's own scratch, at contents nothing
   here names. -/
module

public import proofs.«01_k».proof.Proof.Gen.SparseAttn.Skeleton
public import proofs.«01_k».proof.Proof.Gen.SparseAttn.Loops
public import proofs.«01_k».proof.Proof.Gen.SparseAttn.Points
public import proofs.«01_k».proof.Proof.SparseSafe
public import proofs.«01_k».proof.Proof.SparseBody
public import proofs.«01_k».proof.Proof.Gen.SparseAttn.Launch
public import Idealize.ShloMosaic.Lib.Claim

@[expose] public section

set_option maxRecDepth 16384

noncomputable section

namespace Cert.Sparse

open Cert.SparseAttn Cert.SparseAttn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The pipeline's data on a core: the arrays as launched, and nothing said of what the body leaves. -/
def runData (_ : Fin 1) (c : Dev nD) : Dat τ (Elt F) Unit ℕ (UR sig nD τ) ℕ (cfg0 (F := F)) c where
  A w := m ((c.tc : Thread nD τ).loc (Pipeline.arrRef spec0 w))
  after := Dat.unnamed
  Φ _ := Pipeline.ΦA spec0 c
  q _ := fullShare
  owed _ := 0

/-- A whole buffer held at contents the resource does not name is lent. -/
theorem lends_buffer {c : Dev nD} {b : Ref sig .tc} :
    Lends (c : Thread nD τ) (iprop(∃ f : Buf (Elt F) ((c : Thread nD τ).loc b), ((c : Thread nD τ).loc b) ↦{fullShare} f) : sProp 𝕄)
      (Memref.whole b) := by
  have h := lends_whole (Val := Elt F) (c := (c : Thread nD τ)) (m := Memref.whole b)
  rwa [show (Memref.whole b).view.set = Finset.univ from View.set_whole b] at h

/-- What the pipeline holds beside the windows lends each scratch buffer. -/
theorem lends_scratch {c : Dev nD} {A : sProp 𝕄} (b : Ref sig .tc)
    (hb : b ∈ (Finset.univ.filter fun b : Ref sig .tc => b.isScoped) \ Finset.univ.image (Pipeline.stageRef spec0)) :
    Lends (c : Thread nD τ) iprop(Pipeline.ΦA spec0 c ∗ A) (Memref.whole b) := by
  unfold Pipeline.ΦA Pipeline.scopedRest
  exact Lends.left (Lends.left (Lends.of_mem b hb lends_buffer))

set_option maxHeartbeats 1000000 in
/-- The body's obligation at every point. -/
theorem obligation (c : Dev nD) :
    BodyObligationLoose (runData m 0 c) (defs₀ (F := F)) Variants.nat () Set.univ fun _ => true := fun t => by
  rw [show defs₀ (F := F) .tc (cfg0 (F := F)).body ((cfg0 (F := F)).bodyArgs t ((cfg0 (F := F)).slots t)) = bodyAt0 t from by
    unfold defs₀; rw [Defs.onTc_tc]]
  have hw (w : Fin (cfg0 (F := F)).W) : Lends (c : Thread nD τ)
      (iprop(Pipeline.ΦA spec0 c ∗ (runData m 0 c).owesAt () t.castSucc
        ∗ bigSep Finset.univ fun w : Fin (cfg0 (F := F)).W =>
            iprop(∃ X, owns (c : Thread nD τ) (((cfg0 (F := F)).win w).stage ((cfg0 (F := F)).slots t w)) fullShare X)) : sProp 𝕄)
      (((cfg0 (F := F)).win w).stage ((cfg0 (F := F)).slots t w)) :=
    Lends.right (Lends.right (Lends.of_mem w (Finset.mem_univ w) lends_owns))
  exact safe_body (F := F) (c := c) (hw 0) (hw 1) (hw 2) (hw 3) (hw 4) (hw 5) (hw 6) (hw 7)
    (lends_scratch cc0_scratch0 (by decide)) (lends_scratch cc0_scratch1 (by decide)) (lends_scratch cc0_scratch2 (by decide))
    (lends_scratch cc0_scratch3 (by decide)) (lends_scratch cc0_scratch4 (by decide)) (lends_scratch cc0_scratch5 (by decide))
    (lends_scratch cc0_scratch6 (by decide)) (lends_scratch cc0_scratch7 (by decide)) (lends_scratch cc0_scratch8 (by decide))
    (lends_scratch cc0_scratch9 (by decide)) (lends_scratch cc0_scratch10 (by decide)) (lends_scratch cc0_scratch11 (by decide))
    (lends_scratch cc0_scratch12 (by decide)) (lends_scratch cc0_scratch13 (by decide)) (lends_scratch cc0_scratch14 (by decide))
    (lends_scratch cc0_scratch15 (by decide)) (lends_scratch cc0_scratch16 (by decide)) (lends_scratch cc0_scratch17 (by decide))
    (lends_scratch cc0_scratch18 (by decide)) (lends_scratch cc0_scratch19 (by decide)) (lends_scratch cc0_scratch20 (by decide))
    (lends_scratch cc0_scratch21 (by decide)) (lends_scratch cc0_scratch22 (by decide)) (lends_scratch cc0_scratch23 (by decide))

set_option backward.isDefEq.respectTransparency.types false in
set_option maxHeartbeats 800000 in
/-- The run: every execution ends, each input as launched, the counters at zero. -/
theorem run : θ_run defs (onTc (τ := τ) (main (F := F))) ⟨m, fun _ => 0, ρ⟩ (fun r =>
    Pipeline.RDat.FramePost (cfg0 (F := F)) (fun c => (runData m 0 c).toRForget fun _ => true) (fun c b => m ((c.tc : Thread nD τ).loc b)) r
      ∧ r.2.sem = fun _ => 0) :=
  Pipeline.θ_run_frame_forget (Q' := _) (cfgs (F := F)) (runData m) (0 : Fin 1) launch0 defs₀ Variants.nat (fun _ => true) m ρ main
    (hbody := obligation m) (hshare := fun c => (runData m 0 c).share_full fun _ => rfl)
    (howed := fun _ _ => rfl) (V := fun c b => m ((c.tc : Thread nD τ).loc b))
    (hmain := Pipeline.hmain_region (cfgs (F := F)) 0 defs₀ Variants.nat m main fun _ => rfl) (hA := fun _ _ => rfl) (hΦ := fun _ _ => rfl)

/-- The frame of the sparse attention. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨h.1.arr_in c 0 rfl, h.1.arr_in c 1 rfl, h.1.arr_in c 2 rfl, h.1.arr_in c 3 rfl,
    h.1.arr_in c 4 rfl, h.1.arr_in c 5 rfl, h.1.arr_in c 6 rfl⟩, h.2⟩) (run m ρ)

end Cert.Sparse

end
-- ==== Proof.lean ====
module

public import proofs.«01_k».proof.Defs
public import proofs.«01_k».proof.Proof.Gen.AttnProj.Frame
public import proofs.«01_k».proof.Proof.Gen.AttnProjIdeal.Frame
public import proofs.«01_k».proof.Proof.Gen.AttnProjRefIdeal.Read
public import proofs.«01_k».proof.Proof.AttnProjClaim
public import proofs.«01_k».proof.Proof.Gen.AttnProjSample.Frame
public import proofs.«01_k».proof.Proof.Gen.AttnProjSampleIdeal.Frame
public import proofs.«01_k».proof.Proof.Gen.AttnProjSampleRefIdeal.Read
public import proofs.«01_k».proof.Proof.AttnProjSampleClaim
public import proofs.«01_k».proof.Proof.Gen.MemKv.Frame
public import proofs.«01_k».proof.Proof.Gen.MemKvIdeal.Frame
public import proofs.«01_k».proof.Proof.Gen.MemKvRefIdeal.Read
public import proofs.«01_k».proof.Proof.MemKvClaim
public import proofs.«01_k».proof.Proof.Gen.MemKvNext.Frame
public import proofs.«01_k».proof.Proof.Gen.MemKvNextIdeal.Frame
public import proofs.«01_k».proof.Proof.Gen.MemKvNextRefIdeal.Read
public import proofs.«01_k».proof.Proof.MemKvNextClaim
public import proofs.«01_k».proof.Proof.Gen.MemAttnFirst.Frame
public import proofs.«01_k».proof.Proof.Gen.MemAttnFirstIdeal.Frame
public import proofs.«01_k».proof.Proof.Gen.MemAttnFirstRefIdeal.Read
public import proofs.«01_k».proof.Proof.MemAttnFirstClaim
public import proofs.«01_k».proof.Proof.Gen.MemAttn.Frame
public import proofs.«01_k».proof.Proof.Gen.MemAttnIdeal.Frame
public import proofs.«01_k».proof.Proof.Gen.MemAttnRefIdeal.Read
public import proofs.«01_k».proof.Proof.MemAttnClaim
public import proofs.«01_k».proof.Proof.Gen.MemAttnFirstSample.Frame
public import proofs.«01_k».proof.Proof.Gen.MemAttnFirstSampleIdeal.Frame
public import proofs.«01_k».proof.Proof.Gen.MemAttnFirstSampleRefIdeal.Read
public import proofs.«01_k».proof.Proof.MemAttnFirstSampleClaim
public import proofs.«01_k».proof.Proof.Gen.MemAttnSample.Frame
public import proofs.«01_k».proof.Proof.Gen.MemAttnSampleIdeal.Frame
public import proofs.«01_k».proof.Proof.Gen.MemAttnSampleRefIdeal.Read
public import proofs.«01_k».proof.Proof.MemAttnSampleClaim
public import proofs.«01_k».proof.Proof.Gen.Mlp.Frame
public import proofs.«01_k».proof.Proof.Gen.MlpIdeal.Frame
public import proofs.«01_k».proof.Proof.Gen.MlpRefIdeal.Read
public import proofs.«01_k».proof.Proof.MlpClaim
public import proofs.«01_k».proof.Proof.Gen.MlpSample.Frame
public import proofs.«01_k».proof.Proof.Gen.MlpSampleIdeal.Frame
public import proofs.«01_k».proof.Proof.Gen.MlpSampleRefIdeal.Read
public import proofs.«01_k».proof.Proof.MlpSampleClaim
public import proofs.«01_k».proof.Proof.Gen.MlpFirst.Frame
public import proofs.«01_k».proof.Proof.Gen.MlpFirstIdeal.Frame
public import proofs.«01_k».proof.Proof.Gen.MlpFirstRefIdeal.Read
public import proofs.«01_k».proof.Proof.MlpFirstClaim
public import proofs.«01_k».proof.Proof.Gen.MlpFirstSample.Frame
public import proofs.«01_k».proof.Proof.Gen.MlpFirstSampleIdeal.Frame
public import proofs.«01_k».proof.Proof.Gen.MlpFirstSampleRefIdeal.Read
public import proofs.«01_k».proof.Proof.MlpFirstSampleClaim
public import proofs.«01_k».proof.Proof.Gen.ConvGlu.Frame
public import proofs.«01_k».proof.Proof.Gen.ConvGluIdeal.Frame
public import proofs.«01_k».proof.Proof.Gen.ConvGluRefIdeal.Read
public import proofs.«01_k».proof.Proof.ConvGluClaim
public import proofs.«01_k».proof.Proof.Gen.ConvGluSample.Frame
public import proofs.«01_k».proof.Proof.Gen.ConvGluSampleIdeal.Frame
public import proofs.«01_k».proof.Proof.Gen.ConvGluSampleRefIdeal.Read
public import proofs.«01_k».proof.Proof.ConvGluSampleClaim
public import proofs.«01_k».proof.Proof.Gen.ConvRest.Frame
public import proofs.«01_k».proof.Proof.Gen.ConvRestIdeal.Frame
public import proofs.«01_k».proof.Proof.Gen.ConvRestRefIdeal.Read
public import proofs.«01_k».proof.Proof.ConvRestClaim
public import proofs.«01_k».proof.Proof.Gen.ConvRestSample.Frame
public import proofs.«01_k».proof.Proof.Gen.ConvRestSampleIdeal.Frame
public import proofs.«01_k».proof.Proof.Gen.ConvRestSampleRefIdeal.Read
public import proofs.«01_k».proof.Proof.ConvRestSampleClaim
public import proofs.«01_k».proof.Proof.SparseRun
public import Idealize.ShloMosaic.Adequacy
public import Idealize.ShloMosaic.Init

@[expose] public section

noncomputable section

namespace Cert.Proof

open Idealize.ShloMosaic Idealize.SL.Sem

/-- The reference of `AttnProj` at exact arithmetic runs, ends, leaves its arguments as they were and every counter at zero. -/
theorem frameAttnProjRef : letI := Cert.AttnProjRefIdeal.Gen.facts; Cert.quiescent_AttnProjRefIdeal := by
  intro m ρ _
  exact θ_run_mono (Cert.AttnProjRefIdeal.Value.run m ρ) fun r h => ⟨fun c => (h c).2.2.2.2.2.2, sem_eq_zero_of_no_sems (by decide) r.2⟩

/-- The reference of `AttnProjSample` at exact arithmetic runs, ends, leaves its arguments as they were and every counter at zero. -/
theorem frameAttnProjSampleRef : letI := Cert.AttnProjSampleRefIdeal.Gen.facts; Cert.quiescent_AttnProjSampleRefIdeal := by
  intro m ρ _
  exact θ_run_mono (Cert.AttnProjSampleRefIdeal.Value.run m ρ) fun r h => ⟨fun c => (h c).2.2.2.2.2.2, sem_eq_zero_of_no_sems (by decide) r.2⟩

/-- The reference of `MemKv` at exact arithmetic runs, ends, leaves its arguments as they were and every counter at zero. -/
theorem frameMemKvRef : letI := Cert.MemKvRefIdeal.Gen.facts; Cert.quiescent_MemKvRefIdeal := by
  intro m ρ _
  exact θ_run_mono (Cert.MemKvRefIdeal.Value.run m ρ) fun r h => ⟨fun c => (h c).2.2, sem_eq_zero_of_no_sems (by decide) r.2⟩

/-- The reference of `MemKvNext` at exact arithmetic runs, ends, leaves its arguments as they were and every counter at zero. -/
theorem frameMemKvNextRef : letI := Cert.MemKvNextRefIdeal.Gen.facts; Cert.quiescent_MemKvNextRefIdeal := by
  intro m ρ _
  exact θ_run_mono (Cert.MemKvNextRefIdeal.Value.run m ρ) fun r h => ⟨fun c => (h c).2.2, sem_eq_zero_of_no_sems (by decide) r.2⟩

/-- The reference of `MemAttnFirst` at exact arithmetic runs, ends, leaves its arguments as they were and every counter at zero. -/
theorem frameMemAttnFirstRef : letI := Cert.MemAttnFirstRefIdeal.Gen.facts; Cert.quiescent_MemAttnFirstRefIdeal := by
  intro m ρ _
  exact θ_run_mono (Cert.MemAttnFirstRefIdeal.Value.run m ρ) fun r h => ⟨fun c => (h c).2, sem_eq_zero_of_no_sems (by decide) r.2⟩

/-- The reference of `MemAttn` at exact arithmetic runs, ends, leaves its arguments as they were and every counter at zero. -/
theorem frameMemAttnRef : letI := Cert.MemAttnRefIdeal.Gen.facts; Cert.quiescent_MemAttnRefIdeal := by
  intro m ρ _
  exact θ_run_mono (Cert.MemAttnRefIdeal.Value.run m ρ) fun r h => ⟨fun c => (h c).2, sem_eq_zero_of_no_sems (by decide) r.2⟩

/-- The reference of `MemAttnFirstSample` at exact arithmetic runs, ends, leaves its arguments as they were and every counter at zero. -/
theorem frameMemAttnFirstSampleRef : letI := Cert.MemAttnFirstSampleRefIdeal.Gen.facts; Cert.quiescent_MemAttnFirstSampleRefIdeal := by
  intro m ρ _
  exact θ_run_mono (Cert.MemAttnFirstSampleRefIdeal.Value.run m ρ) fun r h => ⟨fun c => (h c).2, sem_eq_zero_of_no_sems (by decide) r.2⟩

/-- The reference of `MemAttnSample` at exact arithmetic runs, ends, leaves its arguments as they were and every counter at zero. -/
theorem frameMemAttnSampleRef : letI := Cert.MemAttnSampleRefIdeal.Gen.facts; Cert.quiescent_MemAttnSampleRefIdeal := by
  intro m ρ _
  exact θ_run_mono (Cert.MemAttnSampleRefIdeal.Value.run m ρ) fun r h => ⟨fun c => (h c).2, sem_eq_zero_of_no_sems (by decide) r.2⟩

/-- The reference of `Mlp` at exact arithmetic runs, ends, leaves its arguments as they were and every counter at zero. -/
theorem frameMlpRef : letI := Cert.MlpRefIdeal.Gen.facts; Cert.quiescent_MlpRefIdeal := by
  intro m ρ _
  exact θ_run_mono (Cert.MlpRefIdeal.Value.run m ρ) fun r h => ⟨fun c => (h c).2, sem_eq_zero_of_no_sems (by decide) r.2⟩

/-- The reference of `MlpSample` at exact arithmetic runs, ends, leaves its arguments as they were and every counter at zero. -/
theorem frameMlpSampleRef : letI := Cert.MlpSampleRefIdeal.Gen.facts; Cert.quiescent_MlpSampleRefIdeal := by
  intro m ρ _
  exact θ_run_mono (Cert.MlpSampleRefIdeal.Value.run m ρ) fun r h => ⟨fun c => (h c).2, sem_eq_zero_of_no_sems (by decide) r.2⟩

/-- The reference of `MlpFirst` at exact arithmetic runs, ends, leaves its arguments as they were and every counter at zero. -/
theorem frameMlpFirstRef : letI := Cert.MlpFirstRefIdeal.Gen.facts; Cert.quiescent_MlpFirstRefIdeal := by
  intro m ρ _
  exact θ_run_mono (Cert.MlpFirstRefIdeal.Value.run m ρ) fun r h => ⟨fun c => (h c).2, sem_eq_zero_of_no_sems (by decide) r.2⟩

/-- The reference of `MlpFirstSample` at exact arithmetic runs, ends, leaves its arguments as they were and every counter at zero. -/
theorem frameMlpFirstSampleRef : letI := Cert.MlpFirstSampleRefIdeal.Gen.facts; Cert.quiescent_MlpFirstSampleRefIdeal := by
  intro m ρ _
  exact θ_run_mono (Cert.MlpFirstSampleRefIdeal.Value.run m ρ) fun r h => ⟨fun c => (h c).2, sem_eq_zero_of_no_sems (by decide) r.2⟩

/-- The reference of `ConvGlu` at exact arithmetic runs, ends, leaves its arguments as they were and every counter at zero. -/
theorem frameConvGluRef : letI := Cert.ConvGluRefIdeal.Gen.facts; Cert.quiescent_ConvGluRefIdeal := by
  intro m ρ _
  exact θ_run_mono (Cert.ConvGluRefIdeal.Value.run m ρ) fun r h => ⟨fun c => (h c).2.2, sem_eq_zero_of_no_sems (by decide) r.2⟩

/-- The reference of `ConvGluSample` at exact arithmetic runs, ends, leaves its arguments as they were and every counter at zero. -/
theorem frameConvGluSampleRef : letI := Cert.ConvGluSampleRefIdeal.Gen.facts; Cert.quiescent_ConvGluSampleRefIdeal := by
  intro m ρ _
  exact θ_run_mono (Cert.ConvGluSampleRefIdeal.Value.run m ρ) fun r h => ⟨fun c => (h c).2.2, sem_eq_zero_of_no_sems (by decide) r.2⟩

/-- The reference of `ConvRest` at exact arithmetic runs, ends, leaves its arguments as they were and every counter at zero. -/
theorem frameConvRestRef : letI := Cert.ConvRestRefIdeal.Gen.facts; Cert.quiescent_ConvRestRefIdeal := by
  intro m ρ _
  exact θ_run_mono (Cert.ConvRestRefIdeal.Value.run m ρ) fun r h => ⟨fun c => (h c).2, sem_eq_zero_of_no_sems (by decide) r.2⟩

/-- The reference of `ConvRestSample` at exact arithmetic runs, ends, leaves its arguments as they were and every counter at zero. -/
theorem frameConvRestSampleRef : letI := Cert.ConvRestSampleRefIdeal.Gen.facts; Cert.quiescent_ConvRestSampleRefIdeal := by
  intro m ρ _
  exact θ_run_mono (Cert.ConvRestSampleRefIdeal.Value.run m ρ) fun r h => ⟨fun c => (h c).2, sem_eq_zero_of_no_sems (by decide) r.2⟩

/-- Everything that is claimed: the frames of the programs, then for each the idealisation and the equality with its reference. -/
theorem claim : Cert.Claim :=
  ⟨Cert.AttnProj.Gen.facts,
   Cert.AttnProjIdeal.Gen.facts,
   Cert.AttnProjRefIdeal.Gen.facts,
   Cert.AttnProjSample.Gen.facts,
   Cert.AttnProjSampleIdeal.Gen.facts,
   Cert.AttnProjSampleRefIdeal.Gen.facts,
   Cert.MemKv.Gen.facts,
   Cert.MemKvIdeal.Gen.facts,
   Cert.MemKvRefIdeal.Gen.facts,
   Cert.MemKvNext.Gen.facts,
   Cert.MemKvNextIdeal.Gen.facts,
   Cert.MemKvNextRefIdeal.Gen.facts,
   Cert.MemAttnFirst.Gen.facts,
   Cert.MemAttnFirstIdeal.Gen.facts,
   Cert.MemAttnFirstRefIdeal.Gen.facts,
   Cert.MemAttn.Gen.facts,
   Cert.MemAttnIdeal.Gen.facts,
   Cert.MemAttnRefIdeal.Gen.facts,
   Cert.MemAttnFirstSample.Gen.facts,
   Cert.MemAttnFirstSampleIdeal.Gen.facts,
   Cert.MemAttnFirstSampleRefIdeal.Gen.facts,
   Cert.MemAttnSample.Gen.facts,
   Cert.MemAttnSampleIdeal.Gen.facts,
   Cert.MemAttnSampleRefIdeal.Gen.facts,
   Cert.Mlp.Gen.facts,
   Cert.MlpIdeal.Gen.facts,
   Cert.MlpRefIdeal.Gen.facts,
   Cert.MlpSample.Gen.facts,
   Cert.MlpSampleIdeal.Gen.facts,
   Cert.MlpSampleRefIdeal.Gen.facts,
   Cert.MlpFirst.Gen.facts,
   Cert.MlpFirstIdeal.Gen.facts,
   Cert.MlpFirstRefIdeal.Gen.facts,
   Cert.MlpFirstSample.Gen.facts,
   Cert.MlpFirstSampleIdeal.Gen.facts,
   Cert.MlpFirstSampleRefIdeal.Gen.facts,
   Cert.ConvGlu.Gen.facts,
   Cert.ConvGluIdeal.Gen.facts,
   Cert.ConvGluRefIdeal.Gen.facts,
   Cert.ConvGluSample.Gen.facts,
   Cert.ConvGluSampleIdeal.Gen.facts,
   Cert.ConvGluSampleRefIdeal.Gen.facts,
   Cert.ConvRest.Gen.facts,
   Cert.ConvRestIdeal.Gen.facts,
   Cert.ConvRestRefIdeal.Gen.facts,
   Cert.ConvRestSample.Gen.facts,
   Cert.ConvRestSampleIdeal.Gen.facts,
   Cert.ConvRestSampleRefIdeal.Gen.facts,
   Cert.SparseAttn.Gen.facts,
   fun m ρ _ => Cert.AttnProj.Gen.frame m ρ,
   fun m ρ _ => Cert.AttnProjIdeal.Gen.frame m ρ,
   frameAttnProjRef,
   fun m ρ _ => Cert.AttnProjSample.Gen.frame m ρ,
   fun m ρ _ => Cert.AttnProjSampleIdeal.Gen.frame m ρ,
   frameAttnProjSampleRef,
   fun m ρ _ => Cert.MemKv.Gen.frame m ρ,
   fun m ρ _ => Cert.MemKvIdeal.Gen.frame m ρ,
   frameMemKvRef,
   fun m ρ _ => Cert.MemKvNext.Gen.frame m ρ,
   fun m ρ _ => Cert.MemKvNextIdeal.Gen.frame m ρ,
   frameMemKvNextRef,
   fun m ρ _ => Cert.MemAttnFirst.Gen.frame m ρ,
   fun m ρ _ => Cert.MemAttnFirstIdeal.Gen.frame m ρ,
   frameMemAttnFirstRef,
   fun m ρ _ => Cert.MemAttn.Gen.frame m ρ,
   fun m ρ _ => Cert.MemAttnIdeal.Gen.frame m ρ,
   frameMemAttnRef,
   fun m ρ _ => Cert.MemAttnFirstSample.Gen.frame m ρ,
   fun m ρ _ => Cert.MemAttnFirstSampleIdeal.Gen.frame m ρ,
   frameMemAttnFirstSampleRef,
   fun m ρ _ => Cert.MemAttnSample.Gen.frame m ρ,
   fun m ρ _ => Cert.MemAttnSampleIdeal.Gen.frame m ρ,
   frameMemAttnSampleRef,
   fun m ρ _ => Cert.Mlp.Gen.frame m ρ,
   fun m ρ _ => Cert.MlpIdeal.Gen.frame m ρ,
   frameMlpRef,
   fun m ρ _ => Cert.MlpSample.Gen.frame m ρ,
   fun m ρ _ => Cert.MlpSampleIdeal.Gen.frame m ρ,
   frameMlpSampleRef,
   fun m ρ _ => Cert.MlpFirst.Gen.frame m ρ,
   fun m ρ _ => Cert.MlpFirstIdeal.Gen.frame m ρ,
   frameMlpFirstRef,
   fun m ρ _ => Cert.MlpFirstSample.Gen.frame m ρ,
   fun m ρ _ => Cert.MlpFirstSampleIdeal.Gen.frame m ρ,
   frameMlpFirstSampleRef,
   fun m ρ _ => Cert.ConvGlu.Gen.frame m ρ,
   fun m ρ _ => Cert.ConvGluIdeal.Gen.frame m ρ,
   frameConvGluRef,
   fun m ρ _ => Cert.ConvGluSample.Gen.frame m ρ,
   fun m ρ _ => Cert.ConvGluSampleIdeal.Gen.frame m ρ,
   frameConvGluSampleRef,
   fun m ρ _ => Cert.ConvRest.Gen.frame m ρ,
   fun m ρ _ => Cert.ConvRestIdeal.Gen.frame m ρ,
   frameConvRestRef,
   fun m ρ _ => Cert.ConvRestSample.Gen.frame m ρ,
   fun m ρ _ => Cert.ConvRestSampleIdeal.Gen.frame m ρ,
   frameConvRestSampleRef,
   fun m ρ _ => Cert.Sparse.frame_run m ρ,
   trivial,
   Cert.AttnProjIdeal.Hand.algebraic,
   trivial,
   Cert.AttnProjSampleIdeal.Hand.algebraic,
   trivial,
   Cert.MemKvIdeal.Hand.algebraic,
   trivial,
   Cert.MemKvNextIdeal.Hand.algebraic,
   trivial,
   Cert.MemAttnFirstIdeal.Hand.algebraic,
   trivial,
   Cert.MemAttnIdeal.Hand.algebraic,
   trivial,
   Cert.MemAttnFirstSampleIdeal.Hand.algebraic,
   trivial,
   Cert.MemAttnSampleIdeal.Hand.algebraic,
   trivial,
   Cert.MlpIdeal.Hand.algebraic,
   trivial,
   Cert.MlpSampleIdeal.Hand.algebraic,
   trivial,
   Cert.MlpFirstIdeal.Hand.algebraic,
   trivial,
   Cert.MlpFirstSampleIdeal.Hand.algebraic,
   trivial,
   Cert.ConvGluIdeal.Hand.algebraic,
   trivial,
   Cert.ConvGluSampleIdeal.Hand.algebraic,
   trivial,
   Cert.ConvRestIdeal.Hand.algebraic,
   trivial,
   Cert.ConvRestSampleIdeal.Hand.algebraic⟩

end Cert.Proof

end
